-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_gates_finite : Cert.Pre_gates_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_gates_finite (hKernelIdeal := hKernelIdeal) (hReferenceIdeal := hReferenceIdeal) (hPre_gates_finite := hPre_gates_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_gates_finite.lean ====
abbrev S8x16x5136 : Shape := ⟨3, ![8, 16, 5136]⟩
abbrev S16x768 : Shape := ⟨2, ![16, 768]⟩
abbrev S768 : Shape := ⟨1, ![768]⟩
abbrev S384 : Shape := ⟨1, ![384]⟩
abbrev S8x4x192x384 : Shape := ⟨4, ![8, 4, 192, 384]⟩
abbrev S8x16x16 : Shape := ⟨3, ![8, 16, 16]⟩
abbrev S_ : Shape := ⟨0, ![]⟩

class Facts : Prop where
  slices_S8x16x5136_S8x16x16_0_0_4608 : S8x16x5136.Slices ![0, 0, 4608] S8x16x16
  bcast_S_S8x16x16 : S_.BroadcastsInDim S8x16x16 (![] : Fin 0 → Fin S8x16x16.rank)
  bcast_S_S16x768 : S_.BroadcastsInDim S16x768 (![] : Fin 0 → Fin S16x768.rank)
  bcast_S_S768 : S_.BroadcastsInDim S768 (![] : Fin 0 → Fin S768.rank)

variable [Facts]

def fn {F : FTy → Type} [FloatOps F] (main_arg0 : FVec F S8x16x5136 .f32) (main_arg1 : FVec F S16x768 .f32) (main_arg2 : FVec F S768 .f32) (main_arg3 : FVec F S384 .f32) (main_arg4 : FVec F S8x4x192x384 .f32) : IVec S8x16x16 1 × IVec S16x768 1 × IVec S768 1 :=
  let main_v0 : FVec F S8x16x16 .f32 := (extractStridedSlice S8x16x16 ![0, 0, 4608] · slices_S8x16x5136_S8x16x16_0_0_4608) main_arg0
  let main_v1 : FVec F S8x16x16 .f32 := Host.absf main_v0
  let main_cst : FVec F S_ .f32 := constant S_ .f32 0x7F800000#32
  let main_v2 : FVec F S8x16x16 .f32 := broadcastInDim S8x16x16 ![] bcast_S_S8x16x16 main_cst
  let main_v3 : IVec S8x16x16 1 := cmpf .olt main_v1 main_v2
  let main_v4 : FVec F S16x768 .f32 := Host.absf main_arg1
  let main_cst_0 : FVec F S_ .f32 := constant S_ .f32 0x7F800000#32
  let main_v5 : FVec F S16x768 .f32 := broadcastInDim S16x768 ![] bcast_S_S16x768 main_cst_0
  let main_v6 : IVec S16x768 1 := cmpf .olt main_v4 main_v5
  let main_v7 : FVec F S768 .f32 := Host.absf main_arg2
  let main_cst_1 : FVec F S_ .f32 := constant S_ .f32 0x7F800000#32
  let main_v8 : FVec F S768 .f32 := broadcastInDim S768 ![] bcast_S_S768 main_cst_1
  let main_v9 : IVec S768 1 := cmpf .olt main_v7 main_v8
  (main_v3, main_v6, main_v9)
-- ==== Kernel.lean ====
abbrev S8x16x5136 : Shape := ⟨3, ![8, 16, 5136]⟩
abbrev S16x768 : Shape := ⟨2, ![16, 768]⟩
abbrev S768 : Shape := ⟨1, ![768]⟩
abbrev S384 : Shape := ⟨1, ![384]⟩
abbrev S8x4x192x384 : Shape := ⟨4, ![8, 4, 192, 384]⟩
abbrev S1x5760 : Shape := ⟨2, ![1, 5760]⟩
abbrev S96x16 : Shape := ⟨2, ![96, 16]⟩
abbrev S5x16x16 : Shape := ⟨3, ![5, 16, 16]⟩
abbrev S128x5136 : Shape := ⟨2, ![128, 5136]⟩
abbrev S128x768 : Shape := ⟨2, ![128, 768]⟩
abbrev S128x1536 : Shape := ⟨2, ![128, 1536]⟩
abbrev S128x16 : Shape := ⟨2, ![128, 16]⟩
abbrev S128x512 : Shape := ⟨2, ![128, 512]⟩
abbrev S_ : Shape := ⟨0, ![]⟩
abbrev S128x128 : Shape := ⟨2, ![128, 128]⟩
abbrev S128x4x192 : Shape := ⟨3, ![128, 4, 192]⟩
abbrev S128x4x256 : Shape := ⟨3, ![128, 4, 256]⟩
abbrev S128x1024 : Shape := ⟨2, ![128, 1024]⟩
abbrev S128x5760 : Shape := ⟨2, ![128, 5760]⟩
abbrev S16x4x192 : Shape := ⟨3, ![16, 4, 192]⟩
abbrev S16x4x256 : Shape := ⟨3, ![16, 4, 256]⟩
abbrev S16x1024 : Shape := ⟨2, ![16, 1024]⟩
abbrev S1x768 : Shape := ⟨2, ![1, 768]⟩
abbrev S1x4x192 : Shape := ⟨3, ![1, 4, 192]⟩
abbrev S1x4x256 : Shape := ⟨3, ![1, 4, 256]⟩
abbrev S1x1024 : Shape := ⟨2, ![1, 1024]⟩
abbrev S1x384 : Shape := ⟨2, ![1, 384]⟩
abbrev S16x1536 : Shape := ⟨2, ![16, 1536]⟩
abbrev S16x128 : Shape := ⟨2, ![16, 128]⟩
abbrev S1x4x192x384 : Shape := ⟨4, ![1, 4, 192, 384]⟩
abbrev S4x384x256 : Shape := ⟨3, ![4, 384, 256]⟩
abbrev S64x384 : Shape := ⟨2, ![64, 384]⟩
abbrev S1x1x192x384 : Shape := ⟨4, ![1, 1, 192, 384]⟩
abbrev S192x384 : Shape := ⟨2, ![192, 384]⟩
abbrev S256x384 : Shape := ⟨2, ![256, 384]⟩
abbrev S384x256 : Shape := ⟨2, ![384, 256]⟩
abbrev S1x384x256 : Shape := ⟨3, ![1, 384, 256]⟩
abbrev S96x1024 : Shape := ⟨2, ![96, 1024]⟩
abbrev S96x256 : Shape := ⟨2, ![96, 256]⟩
abbrev S16x256 : Shape := ⟨2, ![16, 256]⟩
abbrev S16x384 : Shape := ⟨2, ![16, 384]⟩
abbrev S1x16x16 : Shape := ⟨3, ![1, 16, 16]⟩
abbrev S16x16 : Shape := ⟨2, ![16, 16]⟩
abbrev S1x256 : Shape := ⟨2, ![1, 256]⟩
abbrev S16 : Shape := ⟨1, ![16]⟩
abbrev S16x1 : Shape := ⟨2, ![16, 1]⟩

abbrev nBuf : Space → Nat
  | .hbm => 52
  | .vmem => 24
  | .smem => 0
  | _ => 0

abbrev bufTy : (tb : Table) → Fin (tcTables nBuf tb) → BufTy
  | .hbm, ⟨0, _⟩ => ⟨S8x16x5136, .f32⟩
  | .hbm, ⟨1, _⟩ => ⟨S16x768, .f32⟩
  | .hbm, ⟨2, _⟩ => ⟨S768, .f32⟩
  | .hbm, ⟨3, _⟩ => ⟨S384, .f32⟩
  | .hbm, ⟨4, _⟩ => ⟨S8x4x192x384, .f32⟩
  | .hbm, ⟨5, _⟩ => ⟨S1x5760, .f32⟩
  | .hbm, ⟨6, _⟩ => ⟨S96x16, .bf16⟩
  | .hbm, ⟨7, _⟩ => ⟨S5x16x16, .f32⟩
  | .hbm, ⟨8, _⟩ => ⟨S128x5136, .f32⟩
  | .hbm, ⟨9, _⟩ => ⟨S128x768, .f32⟩
  | .hbm, ⟨10, _⟩ => ⟨S128x768, .f32⟩
  | .hbm, ⟨11, _⟩ => ⟨S128x1536, .f32⟩
  | .hbm, ⟨12, _⟩ => ⟨S128x1536, .f32⟩
  | .hbm, ⟨13, _⟩ => ⟨S128x16, .f32⟩
  | .hbm, ⟨14, _⟩ => ⟨S128x512, .f32⟩
  | .hbm, ⟨15, _⟩ => ⟨S_, .i32⟩
  | .hbm, ⟨16, _⟩ => ⟨S_, .f32⟩
  | .hbm, ⟨17, _⟩ => ⟨S128x128, .f32⟩
  | .hbm, ⟨18, _⟩ => ⟨S128x4x192, .f32⟩
  | .hbm, ⟨19, _⟩ => ⟨S_, .i32⟩
  | .hbm, ⟨20, _⟩ => ⟨S_, .f32⟩
  | .hbm, ⟨21, _⟩ => ⟨S128x4x256, .f32⟩
  | .hbm, ⟨22, _⟩ => ⟨S128x1024, .f32⟩
  | .hbm, ⟨23, _⟩ => ⟨S128x4x192, .f32⟩
  | .hbm, ⟨24, _⟩ => ⟨S_, .i32⟩
  | .hbm, ⟨25, _⟩ => ⟨S_, .f32⟩
  | .hbm, ⟨26, _⟩ => ⟨S128x4x256, .f32⟩
  | .hbm, ⟨27, _⟩ => ⟨S128x1024, .f32⟩
  | .hbm, ⟨28, _⟩ => ⟨S128x5760, .f32⟩
  | .hbm, ⟨29, _⟩ => ⟨S128x5760, .bf16⟩
  | .hbm, ⟨30, _⟩ => ⟨S128x5760, .f32⟩
  | .hbm, ⟨31, _⟩ => ⟨S128x5760, .f32⟩
  | .hbm, ⟨32, _⟩ => ⟨S128x5760, .f32⟩
  | .hbm, ⟨33, _⟩ => ⟨S128x5760, .bf16⟩
  | .hbm, ⟨34, _⟩ => ⟨S16x4x192, .f32⟩
  | .hbm, ⟨35, _⟩ => ⟨S_, .i32⟩
  | .hbm, ⟨36, _⟩ => ⟨S_, .f32⟩
  | .hbm, ⟨37, _⟩ => ⟨S16x4x256, .f32⟩
  | .hbm, ⟨38, _⟩ => ⟨S16x1024, .f32⟩
  | .hbm, ⟨39, _⟩ => ⟨S_, .i32⟩
  | .hbm, ⟨40, _⟩ => ⟨S_, .f32⟩
  | .hbm, ⟨41, _⟩ => ⟨S128x1024, .f32⟩
  | .hbm, ⟨42, _⟩ => ⟨S128x1024, .bf16⟩
  | .hbm, ⟨43, _⟩ => ⟨S1x768, .f32⟩
  | .hbm, ⟨44, _⟩ => ⟨S1x4x192, .f32⟩
  | .hbm, ⟨45, _⟩ => ⟨S_, .i32⟩
  | .hbm, ⟨46, _⟩ => ⟨S_, .f32⟩
  | .hbm, ⟨47, _⟩ => ⟨S1x4x256, .f32⟩
  | .hbm, ⟨48, _⟩ => ⟨S1x1024, .f32⟩
  | .hbm, ⟨49, _⟩ => ⟨S1x384, .f32⟩
  | .hbm, ⟨50, _⟩ => ⟨S128x1536, .bf16⟩
  | .hbm, ⟨51, _⟩ => ⟨S8x4x192x384, .f32⟩
  | .local _ .vmem, ⟨0, _⟩ => ⟨S16x1536, .bf16⟩
  | .local _ .vmem, ⟨1, _⟩ => ⟨S16x1536, .bf16⟩
  | .local _ .vmem, ⟨2, _⟩ => ⟨S16x1536, .bf16⟩
  | .local _ .vmem, ⟨3, _⟩ => ⟨S16x1536, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S16x128, .bf16⟩
  | .local _ .vmem, ⟨9, _⟩ => ⟨S16x128, .bf16⟩
  | .local _ .vmem, ⟨10, _⟩ => ⟨S128x1024, .bf16⟩
  | .local _ .vmem, ⟨11, _⟩ => ⟨S1x1024, .f32⟩
  | .local _ .vmem, ⟨12, _⟩ => ⟨S1x384, .f32⟩
  | .local _ .vmem, ⟨13, _⟩ => ⟨S96x16, .bf16⟩
  | .local _ .vmem, ⟨14, _⟩ => ⟨S5x16x16, .f32⟩
  | .local _ .vmem, ⟨15, _⟩ => ⟨S1x4x192x384, .f32⟩
  | .local _ .vmem, ⟨16, _⟩ => ⟨S1x4x192x384, .f32⟩
  | .local _ .vmem, ⟨17, _⟩ => ⟨S16x1536, .bf16⟩
  | .local _ .vmem, ⟨18, _⟩ => ⟨S16x1536, .bf16⟩
  | .local _ .vmem, ⟨19, _⟩ => ⟨S1x4x192x384, .f32⟩
  | .local _ .vmem, ⟨20, _⟩ => ⟨S1x4x192x384, .f32⟩
  | .local _ .vmem, ⟨21, _⟩ => ⟨S4x384x256, .f32⟩
  | .local _ .vmem, ⟨22, _⟩ => ⟨S16x1024, .bf16⟩
  | .local _ .vmem, ⟨23, _⟩ => ⟨S16x1536, .f32⟩
  | _, _ => ⟨S8x16x5136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_call2_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_call3_v0 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_call4_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_call5_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 1], ![false, false]⟩

def k0_mult1 : BitVec 32 :=
  let c0_i32_14 : BitVec 32 := 0#32
  let c16_i32 : BitVec 32 := 16#32
  let v32 : BitVec 32 := Scalar.muli c0_i32_14 c16_i32
  v32
def k0_off1 : Fin 2 → Nat :=
  let c0_i32_14 : BitVec 32 := 0#32
  let c16_i32 : BitVec 32 := 16#32
  let v32 : BitVec 32 := Scalar.muli c0_i32_14 c16_i32
  let v33 : BitVec 32 := v32
  let v35 : Index := Scalar.indexCast v33
  let c0_17 : Index := 0#32
  ![v35.toNat, 0]
def k0_off2 : Fin 2 → Nat :=
  let c0_i32_14 : BitVec 32 := 0#32
  let c16_i32 : BitVec 32 := 16#32
  let v32 : BitVec 32 := Scalar.muli c0_i32_14 c16_i32
  let v33 : BitVec 32 := v32
  let v40 : Index := Scalar.indexCast v33
  let c0_19 : Index := 0#32
  ![v40.toNat, 0]
def k0_off3 : Fin 2 → Nat :=
  let c0_i32_14 : BitVec 32 := 0#32
  let c16_i32 : BitVec 32 := 16#32
  let v32 : BitVec 32 := Scalar.muli c0_i32_14 c16_i32
  let v33 : BitVec 32 := v32
  let v46 : Index := Scalar.indexCast v33
  let c0_21 : Index := 0#32
  ![v46.toNat, 0]
def k0_off4 : Fin 2 → Nat :=
  let c0_i32_14 : BitVec 32 := 0#32
  let c16_i32 : BitVec 32 := 16#32
  let v32 : BitVec 32 := Scalar.muli c0_i32_14 c16_i32
  let v33 : BitVec 32 := v32
  let v121 : Index := Scalar.indexCast v33
  let c256 : Index := 256#32
  ![v121.toNat, 256]
def k0_off5 : Fin 2 → Nat :=
  let c0_i32_14 : BitVec 32 := 0#32
  let c16_i32 : BitVec 32 := 16#32
  let v32 : BitVec 32 := Scalar.muli c0_i32_14 c16_i32
  let v33 : BitVec 32 := v32
  let v127 : Index := Scalar.indexCast v33
  let c384 : Index := 384#32
  ![v127.toNat, 384]
def k0_off6 : Fin 2 → Nat :=
  let c0_i32_14 : BitVec 32 := 0#32
  let c16_i32 : BitVec 32 := 16#32
  let v32 : BitVec 32 := Scalar.muli c0_i32_14 c16_i32
  let v33 : BitVec 32 := v32
  let v202 : Index := Scalar.indexCast v33
  let c512 : Index := 512#32
  ![v202.toNat, 512]
def k0_off7 : Fin 2 → Nat :=
  let c0_i32_14 : BitVec 32 := 0#32
  let c16_i32 : BitVec 32 := 16#32
  let v32 : BitVec 32 := Scalar.muli c0_i32_14 c16_i32
  let v33 : BitVec 32 := v32
  let v208 : Index := Scalar.indexCast v33
  let c768 : Index := 768#32
  ![v208.toNat, 768]
def k0_off8 : Fin 2 → Nat :=
  let c0_i32_14 : BitVec 32 := 0#32
  let c16_i32 : BitVec 32 := 16#32
  let v32 : BitVec 32 := Scalar.muli c0_i32_14 c16_i32
  let v33 : BitVec 32 := v32
  let v283 : Index := Scalar.indexCast v33
  let c768_110 : Index := 768#32
  ![v283.toNat, 768]
def k0_off9 : Fin 2 → Nat :=
  let c0_i32_14 : BitVec 32 := 0#32
  let c16_i32 : BitVec 32 := 16#32
  let v32 : BitVec 32 := Scalar.muli c0_i32_14 c16_i32
  let v33 : BitVec 32 := v32
  let v289 : Index := Scalar.indexCast v33
  let c1152 : Index := 1152#32
  ![v289.toNat, 1152]
def k0_cond2 (i : grid0.Coords) : BitVec 1 :=
  let arg1 : BitVec 32 := BitVec.ofNat 32 (i 1).val
  let c0_i32_198 : BitVec 32 := 0#32
  let v479 : BitVec 1 := Scalar.cmpi .eq arg1 c0_i32_198
  let v480 : BitVec 32 := Scalar.extui v479
  let c0_i32_199 : BitVec 32 := 0#32
  let v481 : BitVec 1 := Scalar.cmpi .ne v480 c0_i32_199
  v481

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c44_i32 : BitVec 32 := 44#32
  let c0_i32 : BitVec 32 := 0#32
  ![v1.toNat, c44_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S96x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S5x16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4x192x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x192x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8x16x5136 : Shape := ⟨3, ![8, 16, 5136]⟩
abbrev S16x768 : Shape := ⟨2, ![16, 768]⟩
abbrev S768 : Shape := ⟨1, ![768]⟩
abbrev S384 : Shape := ⟨1, ![384]⟩
abbrev S8x4x192x384 : Shape := ⟨4, ![8, 4, 192, 384]⟩
abbrev S8x16x768 : Shape := ⟨3, ![8, 16, 768]⟩
abbrev S8x16x1536 : Shape := ⟨3, ![8, 16, 1536]⟩
abbrev S8x16x16 : Shape := ⟨3, ![8, 16, 16]⟩
abbrev S8x16x512 : Shape := ⟨3, ![8, 16, 512]⟩
abbrev S8x16x4x192 : Shape := ⟨4, ![8, 16, 4, 192]⟩
abbrev S_ : Shape := ⟨0, ![]⟩
abbrev S8x16x4x384 : Shape := ⟨4, ![8, 16, 4, 384]⟩
abbrev S1x1x768 : Shape := ⟨3, ![1, 1, 768]⟩
abbrev S8x4x16x192 : Shape := ⟨4, ![8, 4, 16, 192]⟩
abbrev S8x4x16x384 : Shape := ⟨4, ![8, 4, 16, 384]⟩
abbrev S16x16 : Shape := ⟨2, ![16, 16]⟩
abbrev S16x16x1 : Shape := ⟨3, ![16, 16, 1]⟩
abbrev S8x4x16x1x192 : Shape := ⟨5, ![8, 4, 16, 1, 192]⟩
abbrev S8x4x1x16x192 : Shape := ⟨5, ![8, 4, 1, 16, 192]⟩
abbrev S8x4x16x16x192 : Shape := ⟨5, ![8, 4, 16, 16, 192]⟩
abbrev S8x4x16x16 : Shape := ⟨4, ![8, 4, 16, 16]⟩
abbrev S8x4x1x192 : Shape := ⟨4, ![8, 4, 1, 192]⟩
abbrev S8x4x192 : Shape := ⟨3, ![8, 4, 192]⟩
abbrev S8x4x192x1 : Shape := ⟨4, ![8, 4, 192, 1]⟩
abbrev S8x16x4 : Shape := ⟨3, ![8, 16, 4]⟩
abbrev S8x16x4x1 : Shape := ⟨4, ![8, 16, 4, 1]⟩
abbrev S1x1x1x384 : Shape := ⟨4, ![1, 1, 1, 384]⟩
abbrev S128x1536 : Shape := ⟨2, ![128, 1536]⟩

abbrev nBuf : Space → Nat
  | .hbm => 126
  | .vmem => 0
  | .smem => 0
  | _ => 0

abbrev bufTy : (tb : Table) → Fin (tcTables nBuf tb) → BufTy
  | .hbm, ⟨0, _⟩ => ⟨S8x16x5136, .f32⟩
  | .hbm, ⟨1, _⟩ => ⟨S16x768, .f32⟩
  | .hbm, ⟨2, _⟩ => ⟨S768, .f32⟩
  | .hbm, ⟨3, _⟩ => ⟨S384, .f32⟩
  | .hbm, ⟨4, _⟩ => ⟨S8x4x192x384, .f32⟩
  | .hbm, ⟨5, _⟩ => ⟨S8x16x768, .f32⟩
  | .hbm, ⟨6, _⟩ => ⟨S8x16x768, .f32⟩
  | .hbm, ⟨7, _⟩ => ⟨S8x16x1536, .f32⟩
  | .hbm, ⟨8, _⟩ => ⟨S8x16x1536, .f32⟩
  | .hbm, ⟨9, _⟩ => ⟨S8x16x16, .f32⟩
  | .hbm, ⟨10, _⟩ => ⟨S8x16x512, .f32⟩
  | .hbm, ⟨11, _⟩ => ⟨S8x16x4x192, .f32⟩
  | .hbm, ⟨12, _⟩ => ⟨S_, .f32⟩
  | .hbm, ⟨13, _⟩ => ⟨S8x16x4x192, .f32⟩
  | .hbm, ⟨14, _⟩ => ⟨S8x16x4x192, .f32⟩
  | .hbm, ⟨15, _⟩ => ⟨S8x16x4x192, .f32⟩
  | .hbm, ⟨16, _⟩ => ⟨S8x16x4x384, .f32⟩
  | .hbm, ⟨17, _⟩ => ⟨S8x16x768, .f32⟩
  | .hbm, ⟨18, _⟩ => ⟨S1x1x768, .f32⟩
  | .hbm, ⟨19, _⟩ => ⟨S8x16x768, .f32⟩
  | .hbm, ⟨20, _⟩ => ⟨S8x16x768, .f32⟩
  | .hbm, ⟨21, _⟩ => ⟨S8x16x768, .f32⟩
  | .hbm, ⟨22, _⟩ => ⟨S_, .f32⟩
  | .hbm, ⟨23, _⟩ => ⟨S8x16x768, .f32⟩
  | .hbm, ⟨24, _⟩ => ⟨S8x16x768, .f32⟩
  | .hbm, ⟨25, _⟩ => ⟨S8x16x768, .f32⟩
  | .hbm, ⟨26, _⟩ => ⟨S8x16x768, .f32⟩
  | .hbm, ⟨27, _⟩ => ⟨S8x16x768, .i1⟩
  | .hbm, ⟨28, _⟩ => ⟨S8x16x768, .f32⟩
  | .hbm, ⟨29, _⟩ => ⟨S8x16x768, .f32⟩
  | .hbm, ⟨30, _⟩ => ⟨S8x16x768, .f32⟩
  | .hbm, ⟨31, _⟩ => ⟨S8x16x768, .f32⟩
  | .hbm, ⟨32, _⟩ => ⟨S8x16x768, .f32⟩
  | .hbm, ⟨33, _⟩ => ⟨S8x16x768, .f32⟩
  | .hbm, ⟨34, _⟩ => ⟨S8x16x768, .f32⟩
  | .hbm, ⟨35, _⟩ => ⟨S8x16x768, .f32⟩
  | .hbm, ⟨36, _⟩ => ⟨S8x16x768, .f32⟩
  | .hbm, ⟨37, _⟩ => ⟨S_, .f32⟩
  | .hbm, ⟨38, _⟩ => ⟨S8x16x768, .f32⟩
  | .hbm, ⟨39, _⟩ => ⟨S8x16x768, .f32⟩
  | .hbm, ⟨40, _⟩ => ⟨S8x16x4x192, .f32⟩
  | .hbm, ⟨41, _⟩ => ⟨S8x4x16x192, .f32⟩
  | .hbm, ⟨42, _⟩ => ⟨S8x4x16x192, .f32⟩
  | .hbm, ⟨43, _⟩ => ⟨S8x4x16x384, .f32⟩
  | .hbm, ⟨44, _⟩ => ⟨S8x4x16x192, .f32⟩
  | .hbm, ⟨45, _⟩ => ⟨S_, .i1⟩
  | .hbm, ⟨46, _⟩ => ⟨S16x16, .i1⟩
  | .hbm, ⟨47, _⟩ => ⟨S16x16, .i32⟩
  | .hbm, ⟨48, _⟩ => ⟨S_, .i32⟩
  | .hbm, ⟨49, _⟩ => ⟨S16x16, .i32⟩
  | .hbm, ⟨50, _⟩ => ⟨S16x16, .i32⟩
  | .hbm, ⟨51, _⟩ => ⟨S16x16, .i32⟩
  | .hbm, ⟨52, _⟩ => ⟨S16x16, .i1⟩
  | .hbm, ⟨53, _⟩ => ⟨S_, .i1⟩
  | .hbm, ⟨54, _⟩ => ⟨S16x16, .i1⟩
  | .hbm, ⟨55, _⟩ => ⟨S16x16, .i1⟩
  | .hbm, ⟨56, _⟩ => ⟨S16x16x1, .i1⟩
  | .hbm, ⟨57, _⟩ => ⟨S_, .f32⟩
  | .hbm, ⟨58, _⟩ => ⟨S_, .f32⟩
  | .hbm, ⟨59, _⟩ => ⟨S8x4x16x192, .f32⟩
  | .hbm, ⟨60, _⟩ => ⟨S8x4x16x1x192, .f32⟩
  | .hbm, ⟨61, _⟩ => ⟨S8x4x1x16x192, .f32⟩
  | .hbm, ⟨62, _⟩ => ⟨S8x4x16x16x192, .f32⟩
  | .hbm, ⟨63, _⟩ => ⟨S8x4x16x16x192, .f32⟩
  | .hbm, ⟨64, _⟩ => ⟨S8x4x16x16x192, .f32⟩
  | .hbm, ⟨65, _⟩ => ⟨S_, .f32⟩
  | .hbm, ⟨66, _⟩ => ⟨S_, .f32⟩
  | .hbm, ⟨67, _⟩ => ⟨S8x4x16x16x192, .i1⟩
  | .hbm, ⟨68, _⟩ => ⟨S8x4x16x16x192, .f32⟩
  | .hbm, ⟨69, _⟩ => ⟨S8x4x16x16x192, .f32⟩
  | .hbm, ⟨70, _⟩ => ⟨S8x4x16x16x192, .f32⟩
  | .hbm, ⟨71, _⟩ => ⟨S8x4x16x1x192, .f32⟩
  | .hbm, ⟨72, _⟩ => ⟨S8x4x16x16x192, .f32⟩
  | .hbm, ⟨73, _⟩ => ⟨S8x4x16x16x192, .f32⟩
  | .hbm, ⟨74, _⟩ => ⟨S8x4x1x16x192, .f32⟩
  | .hbm, ⟨75, _⟩ => ⟨S8x4x16x16x192, .f32⟩
  | .hbm, ⟨76, _⟩ => ⟨S8x4x16x16x192, .f32⟩
  | .hbm, ⟨77, _⟩ => ⟨S_, .f32⟩
  | .hbm, ⟨78, _⟩ => ⟨S8x4x16x16, .f32⟩
  | .hbm, ⟨79, _⟩ => ⟨S8x4x16x384, .f32⟩
  | .hbm, ⟨80, _⟩ => ⟨S8x4x16x192, .f32⟩
  | .hbm, ⟨81, _⟩ => ⟨S8x4x16x192, .f32⟩
  | .hbm, ⟨82, _⟩ => ⟨S8x4x16x384, .f32⟩
  | .hbm, ⟨83, _⟩ => ⟨S8x4x16x384, .f32⟩
  | .hbm, ⟨84, _⟩ => ⟨S8x4x1x192, .f32⟩
  | .hbm, ⟨85, _⟩ => ⟨S8x4x1x192, .f32⟩
  | .hbm, ⟨86, _⟩ => ⟨S8x4x192, .f32⟩
  | .hbm, ⟨87, _⟩ => ⟨S8x4x192x1, .f32⟩
  | .hbm, ⟨88, _⟩ => ⟨S8x4x192x384, .f32⟩
  | .hbm, ⟨89, _⟩ => ⟨S8x4x192x384, .f32⟩
  | .hbm, ⟨90, _⟩ => ⟨S8x4x16x192, .f32⟩
  | .hbm, ⟨91, _⟩ => ⟨S8x4x16x192, .f32⟩
  | .hbm, ⟨92, _⟩ => ⟨S8x4x16x192, .f32⟩
  | .hbm, ⟨93, _⟩ => ⟨S8x4x16x192, .f32⟩
  | .hbm, ⟨94, _⟩ => ⟨S8x4x192x384, .f32⟩
  | .hbm, ⟨95, _⟩ => ⟨S8x4x192x384, .f32⟩
  | .hbm, ⟨96, _⟩ => ⟨S8x16x4x384, .f32⟩
  | .hbm, ⟨97, _⟩ => ⟨S8x16x4x384, .f32⟩
  | .hbm, ⟨98, _⟩ => ⟨S_, .f32⟩
  | .hbm, ⟨99, _⟩ => ⟨S8x16x4, .f32⟩
  | .hbm, ⟨100, _⟩ => ⟨S8x16x4x1, .f32⟩
  | .hbm, ⟨101, _⟩ => ⟨S_, .f32⟩
  | .hbm, ⟨102, _⟩ => ⟨S8x16x4x1, .f32⟩
  | .hbm, ⟨103, _⟩ => ⟨S8x16x4x1, .f32⟩
  | .hbm, ⟨104, _⟩ => ⟨S_, .f32⟩
  | .hbm, ⟨105, _⟩ => ⟨S8x16x4x1, .f32⟩
  | .hbm, ⟨106, _⟩ => ⟨S8x16x4x1, .f32⟩
  | .hbm, ⟨107, _⟩ => ⟨S8x16x4x1, .f32⟩
  | .hbm, ⟨108, _⟩ => ⟨S8x16x4x384, .f32⟩
  | .hbm, ⟨109, _⟩ => ⟨S8x16x4x384, .f32⟩
  | .hbm, ⟨110, _⟩ => ⟨S1x1x1x384, .f32⟩
  | .hbm, ⟨111, _⟩ => ⟨S8x16x4x384, .f32⟩
  | .hbm, ⟨112, _⟩ => ⟨S8x16x4x384, .f32⟩
  | .hbm, ⟨113, _⟩ => ⟨S8x16x4x384, .f32⟩
  | .hbm, ⟨114, _⟩ => ⟨S8x16x4x384, .f32⟩
  | .hbm, ⟨115, _⟩ => ⟨S8x16x4x384, .f32⟩
  | .hbm, ⟨116, _⟩ => ⟨S_, .f32⟩
  | .hbm, ⟨117, _⟩ => ⟨S8x16x4x384, .f32⟩
  | .hbm, ⟨118, _⟩ => ⟨S8x16x4x384, .f32⟩
  | .hbm, ⟨119, _⟩ => ⟨S_, .f32⟩
  | .hbm, ⟨120, _⟩ => ⟨S8x16x4x384, .f32⟩
  | .hbm, ⟨121, _⟩ => ⟨S8x16x4x384, .f32⟩
  | .hbm, ⟨122, _⟩ => ⟨S8x16x4x384, .f32⟩
  | .hbm, ⟨123, _⟩ => ⟨S8x16x4x384, .f32⟩
  | .hbm, ⟨124, _⟩ => ⟨S128x1536, .f32⟩
  | .hbm, ⟨125, _⟩ => ⟨S128x1536, .bf16⟩
  | _, _ => ⟨S8x16x5136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v24 : Ref sig .tc := ⟨.hbm, 55, rfl⟩
abbrev main_v25 : Ref sig .tc := ⟨.hbm, 56, rfl⟩
abbrev main_call2_call0_cst : Ref sig .tc := ⟨.hbm, 57, rfl⟩
abbrev main_call2_call0_v0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_1 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_2 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_3 : Ref sig .tc := ⟨.hbm, 98, rfl⟩
abbrev main_v60 : Ref sig .tc := ⟨.hbm, 99, rfl⟩
abbrev main_v61 : Ref sig .tc := ⟨.hbm, 100, rfl⟩
abbrev main_cst_4 : Ref sig .tc := ⟨.hbm, 101, rfl⟩
abbrev main_v62 : Ref sig .tc := ⟨.hbm, 102, rfl⟩
abbrev main_v63 : Ref sig .tc := ⟨.hbm, 103, rfl⟩
abbrev main_cst_5 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩

abbrev nD : Nat := 1
abbrev τ : Topo := Topo.v7x

variable {F : FTy → Type} [FloatOps F]
-- ==== Kernel2.lean ====
abbrev S32768x2048 : Shape := ⟨2, ![32768, 2048]⟩
abbrev S4x2048x11264 : Shape := ⟨3, ![4, 2048, 11264]⟩
abbrev S32768x5632 : Shape := ⟨2, ![32768, 5632]⟩
abbrev S2048x2048 : Shape := ⟨2, ![2048, 2048]⟩
abbrev S1x2048x512 : Shape := ⟨3, ![1, 2048, 512]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S4x2048x11264, .f32⟩
  | .hbm, ⟨2, _⟩ => ⟨S32768x2048, .bf16⟩
  | .hbm, ⟨3, _⟩ => ⟨S32768x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S2048x512, .bf16⟩
  | .local _ .vmem, ⟨7, _⟩ => ⟨S2048x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S32768x2048 : Shape := ⟨2, ![32768, 2048]⟩
abbrev S4x2048x11264 : Shape := ⟨3, ![4, 2048, 11264]⟩
abbrev S1x2048x11264 : Shape := ⟨3, ![1, 2048, 11264]⟩
abbrev S2048x11264 : Shape := ⟨2, ![2048, 11264]⟩
abbrev S32768x11264 : Shape := ⟨2, ![32768, 11264]⟩
abbrev S32768x5632 : Shape := ⟨2, ![32768, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048x11264, .f32⟩
  | .hbm, ⟨2, _⟩ => ⟨S1x2048x11264, .f32⟩
  | .hbm, ⟨3, _⟩ => ⟨S2048x11264, .f32⟩
  | .hbm, ⟨4, _⟩ => ⟨S32768x11264, .f32⟩
  | .hbm, ⟨5, _⟩ => ⟨S32768x5632, .f32⟩
  | .hbm, ⟨6, _⟩ => ⟨S32768x5632, .f32⟩
  | .hbm, ⟨7, _⟩ => ⟨S32768x5632, .f32⟩
  | .hbm, ⟨8, _⟩ => ⟨S32768x5632, .f32⟩
  | .hbm, ⟨9, _⟩ => ⟨S_, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x5632, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel3.lean ====
abbrev S32768x5632 : Shape := ⟨2, ![32768, 5632]⟩
abbrev S4x5632x2048 : Shape := ⟨3, ![4, 5632, 2048]⟩
abbrev S32768x2048 : Shape := ⟨2, ![32768, 2048]⟩
abbrev S2048 : Shape := ⟨1, ![2048]⟩
abbrev S1x2048 : Shape := ⟨2, ![1, 2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S32768x5632, .f32⟩
  | .hbm, ⟨1, _⟩ => ⟨S4x5632x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x5632, .bf16⟩
  | .hbm, ⟨6, _⟩ => ⟨S4x5632x2048, .bf16⟩
  | .hbm, ⟨7, _⟩ => ⟨S1x2048, .f32⟩
  | .hbm, ⟨8, _⟩ => ⟨S1x2048, .f32⟩
  | .hbm, ⟨9, _⟩ => ⟨S32768x2048, .f32⟩
  | .hbm, ⟨10, _⟩ => ⟨S32768x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S32768x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel3Ideal.lean ====
abbrev S32768x5632 : Shape := ⟨2, ![32768, 5632]⟩
abbrev S4x5632x2048 : Shape := ⟨3, ![4, 5632, 2048]⟩
abbrev S32768x2048 : Shape := ⟨2, ![32768, 2048]⟩
abbrev S2048 : Shape := ⟨1, ![2048]⟩
abbrev S1x2048 : Shape := ⟨2, ![1, 2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S32768x5632, .f32⟩
  | .hbm, ⟨1, _⟩ => ⟨S4x5632x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x5632, .bf16⟩
  | .hbm, ⟨6, _⟩ => ⟨S4x5632x2048, .bf16⟩
  | .hbm, ⟨7, _⟩ => ⟨S1x2048, .f32⟩
  | .hbm, ⟨8, _⟩ => ⟨S1x2048, .f32⟩
  | .hbm, ⟨9, _⟩ => ⟨S32768x2048, .f32⟩
  | .hbm, ⟨10, _⟩ => ⟨S32768x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S32768x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x5632 : Shape := ⟨2, ![32768, 5632]⟩
abbrev S4x5632x2048 : Shape := ⟨3, ![4, 5632, 2048]⟩
abbrev S32768x2048 : Shape := ⟨2, ![32768, 2048]⟩
abbrev S2048 : Shape := ⟨1, ![2048]⟩
abbrev S_ : Shape := ⟨0, ![]⟩
abbrev S1x5632x2048 : Shape := ⟨3, ![1, 5632, 2048]⟩
abbrev S5632x2048 : Shape := ⟨2, ![5632, 2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x5632, .f32⟩
  | .hbm, ⟨1, _⟩ => ⟨S4x5632x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S1x5632x2048, .f32⟩
  | .hbm, ⟨9, _⟩ => ⟨S5632x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S32768x2048, .bf16⟩
  | _, _ => ⟨S32768x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel4.lean ====
abbrev S32768x1536 : Shape := ⟨2, ![32768, 1536]⟩
abbrev S32768x512 : Shape := ⟨2, ![32768, 512]⟩
abbrev S4x2048x2048 : Shape := ⟨3, ![4, 2048, 2048]⟩
abbrev S32768x2048 : Shape := ⟨2, ![32768, 2048]⟩
abbrev S2048 : Shape := ⟨1, ![2048]⟩
abbrev S1x2048 : Shape := ⟨2, ![1, 2048]⟩
abbrev S512x1536 : Shape := ⟨2, ![512, 1536]⟩
abbrev S512x512 : Shape := ⟨2, ![512, 512]⟩
abbrev S1x2048x2048 : Shape := ⟨3, ![1, 2048, 2048]⟩
abbrev S512x2048 : Shape := ⟨2, ![512, 2048]⟩
abbrev S128x1536 : Shape := ⟨2, ![128, 1536]⟩
abbrev S128x512 : Shape := ⟨2, ![128, 512]⟩
abbrev S128x2048 : Shape := ⟨2, ![128, 2048]⟩
abbrev S2048x2048 : Shape := ⟨2, ![2048, 2048]⟩
abbrev S128 : Shape := ⟨1, ![128]⟩
abbrev S128x1 : Shape := ⟨2, ![128, 1]⟩

abbrev nBuf : Space → Nat
  | .hbm => 13
  | .vmem => 13
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S4x2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S32768x1536, .bf16⟩
  | .hbm, ⟨7, _⟩ => ⟨S32768x512, .bf16⟩
  | .hbm, ⟨8, _⟩ => ⟨S4x2048x2048, .bf16⟩
  | .hbm, ⟨9, _⟩ => ⟨S1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x1536 : Shape := ⟨2, ![32768, 1536]⟩
abbrev S32768x512 : Shape := ⟨2, ![32768, 512]⟩
abbrev S4x2048x2048 : Shape := ⟨3, ![4, 2048, 2048]⟩
abbrev S32768x2048 : Shape := ⟨2, ![32768, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S4x2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S1x2048x2048, .f32⟩
  | .hbm, ⟨8, _⟩ => ⟨S2048x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S1x2048, .f32⟩
  | .hbm, ⟨41, _⟩ => ⟨S32768x2048, .f32⟩
  | .hbm, ⟨42, _⟩ => ⟨S32768x2048, .f32⟩
  | .hbm, ⟨43, _⟩ => ⟨S32768x2048, .bf16⟩
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel5.lean ====
abbrev S1024x2048 : Shape := ⟨2, ![1024, 2048]⟩
abbrev S4x2048x1024 : Shape := ⟨3, ![4, 2048, 1024]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 4
  | .vmem => 3
  | .smem => 0
  | _ => 0

abbrev bufTy : (tb : Table) → Fin (tcTables nBuf tb) → BufTy
  | .hbm, ⟨0, _⟩ => ⟨S1024x2048, .f32⟩
  | .hbm, ⟨1, _⟩ => ⟨S4x2048x1024, .f32⟩
  | .hbm, ⟨2, _⟩ => ⟨S1024x2048, .bf16⟩
  | .hbm, ⟨3, _⟩ => ⟨S1024x1024, .f32⟩
  | .local _ .vmem, ⟨0, _⟩ => ⟨S1024x2048, .bf16⟩
  | .local _ .vmem, ⟨1, _⟩ => ⟨S1x2048x1024, .f32⟩
  | .local _ .vmem, ⟨2, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference5Ideal.lean ====
abbrev S1024x2048 : Shape := ⟨2, ![1024, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4x2048x1024, .f32⟩
  | .hbm, ⟨2, _⟩ => ⟨S1x2048x1024, .f32⟩
  | .hbm, ⟨3, _⟩ => ⟨S2048x1024, .f32⟩
  | .hbm, ⟨4, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S128x2048 : Shape := ⟨2, ![128, 2048]⟩
abbrev S2048x3072 : Shape := ⟨2, ![2048, 3072]⟩
abbrev S8x16x12x128 : Shape := ⟨4, ![8, 16, 12, 128]⟩
abbrev S128x1536 : Shape := ⟨2, ![128, 1536]⟩
abbrev S16x2048 : Shape := ⟨2, ![16, 2048]⟩
abbrev S2048x1536 : Shape := ⟨2, ![2048, 1536]⟩
abbrev S1x16x12x128 : Shape := ⟨4, ![1, 16, 12, 128]⟩
abbrev S16x1536 : Shape := ⟨2, ![16, 1536]⟩
abbrev S16x128 : Shape := ⟨2, ![16, 128]⟩
abbrev S1x16x1x128 : Shape := ⟨4, ![1, 16, 1, 128]⟩

abbrev nBuf : Space → Nat
  | .hbm => 5
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S2048x3072, .f32⟩
  | .hbm, ⟨2, _⟩ => ⟨S128x2048, .bf16⟩
  | .hbm, ⟨3, _⟩ => ⟨S8x16x12x128, .f32⟩
  | .hbm, ⟨4, _⟩ => ⟨S128x1536, .bf16⟩
  | .local _ .vmem, ⟨0, _⟩ => ⟨S16x2048, .bf16⟩
  | .local _ .vmem, ⟨1, _⟩ => ⟨S16x2048, .bf16⟩
  | .local _ .vmem, ⟨2, _⟩ => ⟨S2048x1536, .f32⟩
  | .local _ .vmem, ⟨3, _⟩ => ⟨S1x16x12x128, .f32⟩
  | .local _ .vmem, ⟨4, _⟩ => ⟨S1x16x12x128, .f32⟩
  | .local _ .vmem, ⟨5, _⟩ => ⟨S16x1536, .bf16⟩
  | .local _ .vmem, ⟨6, _⟩ => ⟨S16x1536, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x12x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S128x2048 : Shape := ⟨2, ![128, 2048]⟩
abbrev S2048x3072 : Shape := ⟨2, ![2048, 3072]⟩
abbrev S128x3072 : Shape := ⟨2, ![128, 3072]⟩
abbrev S8x16x2x12x128 : Shape := ⟨5, ![8, 16, 2, 12, 128]⟩
abbrev S8x16x1x12x128 : Shape := ⟨5, ![8, 16, 1, 12, 128]⟩
abbrev S8x16x12x128 : Shape := ⟨4, ![8, 16, 12, 128]⟩
abbrev S128x1536 : Shape := ⟨2, ![128, 1536]⟩

abbrev nBuf : Space → Nat
  | .hbm => 10
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x3072, .f32⟩
  | .hbm, ⟨2, _⟩ => ⟨S128x3072, .f32⟩
  | .hbm, ⟨3, _⟩ => ⟨S8x16x2x12x128, .f32⟩
  | .hbm, ⟨4, _⟩ => ⟨S8x16x1x12x128, .f32⟩
  | .hbm, ⟨5, _⟩ => ⟨S8x16x12x128, .f32⟩
  | .hbm, ⟨6, _⟩ => ⟨S8x16x1x12x128, .f32⟩
  | .hbm, ⟨7, _⟩ => ⟨S8x16x12x128, .f32⟩
  | .hbm, ⟨8, _⟩ => ⟨S128x1536, .f32⟩
  | .hbm, ⟨9, _⟩ => ⟨S128x1536, .bf16⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel7.lean ====
abbrev S128x2048 : Shape := ⟨2, ![128, 2048]⟩
abbrev S2048x3072 : Shape := ⟨2, ![2048, 3072]⟩
abbrev S8x16x12x128 : Shape := ⟨4, ![8, 16, 12, 128]⟩
abbrev S128x1536 : Shape := ⟨2, ![128, 1536]⟩
abbrev S16x2048 : Shape := ⟨2, ![16, 2048]⟩
abbrev S2048x1536 : Shape := ⟨2, ![2048, 1536]⟩
abbrev S1x16x12x128 : Shape := ⟨4, ![1, 16, 12, 128]⟩
abbrev S16x1536 : Shape := ⟨2, ![16, 1536]⟩
abbrev S16x128 : Shape := ⟨2, ![16, 128]⟩
abbrev S1x16x1x128 : Shape := ⟨4, ![1, 16, 1, 128]⟩

abbrev nBuf : Space → Nat
  | .hbm => 5
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S2048x3072, .f32⟩
  | .hbm, ⟨2, _⟩ => ⟨S128x2048, .bf16⟩
  | .hbm, ⟨3, _⟩ => ⟨S8x16x12x128, .f32⟩
  | .hbm, ⟨4, _⟩ => ⟨S128x1536, .bf16⟩
  | .local _ .vmem, ⟨0, _⟩ => ⟨S16x2048, .bf16⟩
  | .local _ .vmem, ⟨1, _⟩ => ⟨S16x2048, .bf16⟩
  | .local _ .vmem, ⟨2, _⟩ => ⟨S2048x1536, .f32⟩
  | .local _ .vmem, ⟨3, _⟩ => ⟨S1x16x12x128, .f32⟩
  | .local _ .vmem, ⟨4, _⟩ => ⟨S1x16x12x128, .f32⟩
  | .local _ .vmem, ⟨5, _⟩ => ⟨S16x1536, .bf16⟩
  | .local _ .vmem, ⟨6, _⟩ => ⟨S16x1536, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x12x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S128x2048 : Shape := ⟨2, ![128, 2048]⟩
abbrev S2048x3072 : Shape := ⟨2, ![2048, 3072]⟩
abbrev S128x3072 : Shape := ⟨2, ![128, 3072]⟩
abbrev S8x16x2x12x128 : Shape := ⟨5, ![8, 16, 2, 12, 128]⟩
abbrev S8x16x1x12x128 : Shape := ⟨5, ![8, 16, 1, 12, 128]⟩
abbrev S8x16x12x128 : Shape := ⟨4, ![8, 16, 12, 128]⟩
abbrev S128x1536 : Shape := ⟨2, ![128, 1536]⟩

abbrev nBuf : Space → Nat
  | .hbm => 10
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x3072, .f32⟩
  | .hbm, ⟨2, _⟩ => ⟨S128x3072, .f32⟩
  | .hbm, ⟨3, _⟩ => ⟨S8x16x2x12x128, .f32⟩
  | .hbm, ⟨4, _⟩ => ⟨S8x16x1x12x128, .f32⟩
  | .hbm, ⟨5, _⟩ => ⟨S8x16x12x128, .f32⟩
  | .hbm, ⟨6, _⟩ => ⟨S8x16x1x12x128, .f32⟩
  | .hbm, ⟨7, _⟩ => ⟨S8x16x12x128, .f32⟩
  | .hbm, ⟨8, _⟩ => ⟨S128x1536, .f32⟩
  | .hbm, ⟨9, _⟩ => ⟨S128x1536, .bf16⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel8.lean ====
abbrev S128x5632 : Shape := ⟨2, ![128, 5632]⟩
abbrev S4x5632x2048 : Shape := ⟨3, ![4, 5632, 2048]⟩
abbrev S128x2048 : Shape := ⟨2, ![128, 2048]⟩
abbrev S2048 : Shape := ⟨1, ![2048]⟩
abbrev S1x2048 : Shape := ⟨2, ![1, 2048]⟩
abbrev S1x5632x2048 : Shape := ⟨3, ![1, 5632, 2048]⟩
abbrev S5632x2048 : Shape := ⟨2, ![5632, 2048]⟩
abbrev S128 : Shape := ⟨1, ![128]⟩
abbrev S128x1 : Shape := ⟨2, ![128, 1]⟩

abbrev nBuf : Space → Nat
  | .hbm => 11
  | .vmem => 7
  | .smem => 0
  | _ => 0

abbrev bufTy : (tb : Table) → Fin (tcTables nBuf tb) → BufTy
  | .hbm, ⟨0, _⟩ => ⟨S128x5632, .f32⟩
  | .hbm, ⟨1, _⟩ => ⟨S4x5632x2048, .f32⟩
  | .hbm, ⟨2, _⟩ => ⟨S128x2048, .f32⟩
  | .hbm, ⟨3, _⟩ => ⟨S2048, .f32⟩
  | .hbm, ⟨4, _⟩ => ⟨S2048, .f32⟩
  | .hbm, ⟨5, _⟩ => ⟨S128x5632, .bf16⟩
  | .hbm, ⟨6, _⟩ => ⟨S4x5632x2048, .bf16⟩
  | .hbm, ⟨7, _⟩ => ⟨S1x2048, .f32⟩
  | .hbm, ⟨8, _⟩ => ⟨S1x2048, .f32⟩
  | .hbm, ⟨9, _⟩ => ⟨S128x2048, .f32⟩
  | .hbm, ⟨10, _⟩ => ⟨S128x2048, .bf16⟩
  | .local _ .vmem, ⟨0, _⟩ => ⟨S128x5632, .bf16⟩
  | .local _ .vmem, ⟨1, _⟩ => ⟨S1x5632x2048, .bf16⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .bf16⟩
  | _, _ => ⟨S128x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S128x5632 : Shape := ⟨2, ![128, 5632]⟩
abbrev S4x5632x2048 : Shape := ⟨3, ![4, 5632, 2048]⟩
abbrev S128x2048 : Shape := ⟨2, ![128, 2048]⟩
abbrev S2048 : Shape := ⟨1, ![2048]⟩
abbrev S_ : Shape := ⟨0, ![]⟩
abbrev S1x5632x2048 : Shape := ⟨3, ![1, 5632, 2048]⟩
abbrev S5632x2048 : Shape := ⟨2, ![5632, 2048]⟩
abbrev S128 : Shape := ⟨1, ![128]⟩
abbrev S128x1 : Shape := ⟨2, ![128, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S128x5632, .f32⟩
  | .hbm, ⟨1, _⟩ => ⟨S4x5632x2048, .f32⟩
  | .hbm, ⟨2, _⟩ => ⟨S128x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S128x2048, .f32⟩
  | .hbm, ⟨7, _⟩ => ⟨S128x2048, .f32⟩
  | .hbm, ⟨8, _⟩ => ⟨S1x5632x2048, .f32⟩
  | .hbm, ⟨9, _⟩ => ⟨S5632x2048, .f32⟩
  | .hbm, ⟨10, _⟩ => ⟨S128x2048, .f32⟩
  | .hbm, ⟨11, _⟩ => ⟨S128x2048, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128, .f32⟩
  | .hbm, ⟨23, _⟩ => ⟨S128x1, .f32⟩
  | .hbm, ⟨24, _⟩ => ⟨S_, .f32⟩
  | .hbm, ⟨25, _⟩ => ⟨S128x1, .f32⟩
  | .hbm, ⟨26, _⟩ => ⟨S128x1, .f32⟩
  | .hbm, ⟨27, _⟩ => ⟨S128x2048, .f32⟩
  | .hbm, ⟨28, _⟩ => ⟨S128x2048, .f32⟩
  | .hbm, ⟨29, _⟩ => ⟨S_, .f32⟩
  | .hbm, ⟨30, _⟩ => ⟨S128x1, .f32⟩
  | .hbm, ⟨31, _⟩ => ⟨S128x1, .f32⟩
  | .hbm, ⟨32, _⟩ => ⟨S128x1, .f32⟩
  | .hbm, ⟨33, _⟩ => ⟨S128x2048, .f32⟩
  | .hbm, ⟨34, _⟩ => ⟨S128x2048, .f32⟩
  | .hbm, ⟨35, _⟩ => ⟨S1x2048, .f32⟩
  | .hbm, ⟨36, _⟩ => ⟨S128x2048, .f32⟩
  | .hbm, ⟨37, _⟩ => ⟨S128x2048, .f32⟩
  | .hbm, ⟨38, _⟩ => ⟨S1x2048, .f32⟩
  | .hbm, ⟨39, _⟩ => ⟨S128x2048, .f32⟩
  | .hbm, ⟨40, _⟩ => ⟨S128x2048, .f32⟩
  | .hbm, ⟨41, _⟩ => ⟨S128x2048, .bf16⟩
  | _, _ => ⟨S128x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel9.lean ====
abbrev S32768x2048 : Shape := ⟨2, ![32768, 2048]⟩
abbrev S2x2048x2048 : Shape := ⟨3, ![2, 2048, 2048]⟩
abbrev S2048 : Shape := ⟨1, ![2048]⟩
abbrev S1x2048 : Shape := ⟨2, ![1, 2048]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2x2048x2048, .f32⟩
  | .hbm, ⟨2, _⟩ => ⟨S2048, .f32⟩
  | .hbm, ⟨3, _⟩ => ⟨S32768x2048, .bf16⟩
  | .hbm, ⟨4, _⟩ => ⟨S1x2048, .f32⟩
  | .hbm, ⟨5, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S32768x2048 : Shape := ⟨2, ![32768, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048x2048, .f32⟩
  | .hbm, ⟨2, _⟩ => ⟨S2048, .f32⟩
  | .hbm, ⟨3, _⟩ => ⟨S1x2048x2048, .f32⟩
  | .hbm, ⟨4, _⟩ => ⟨S2048x2048, .f32⟩
  | .hbm, ⟨5, _⟩ => ⟨S32768x2048, .f32⟩
  | .hbm, ⟨6, _⟩ => ⟨S1x2048, .f32⟩
  | .hbm, ⟨7, _⟩ => ⟨S32768x2048, .f32⟩
  | .hbm, ⟨8, _⟩ => ⟨S32768x2048, .f32⟩
  | .hbm, ⟨9, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S32768x2048 : Shape := ⟨2, ![32768, 2048]⟩
abbrev S2048x5760 : Shape := ⟨2, ![2048, 5760]⟩
abbrev S5760 : Shape := ⟨1, ![5760]⟩
abbrev S1x5760 : Shape := ⟨2, ![1, 5760]⟩
abbrev S32768x5760 : Shape := ⟨2, ![32768, 5760]⟩
abbrev S1024x2048 : Shape := ⟨2, ![1024, 2048]⟩
abbrev S2048x1920 : Shape := ⟨2, ![2048, 1920]⟩
abbrev S1x1920 : Shape := ⟨2, ![1, 1920]⟩
abbrev S1024x1920 : Shape := ⟨2, ![1024, 1920]⟩

abbrev nBuf : Space → Nat
  | .hbm => 7
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x5760, .f32⟩
  | .hbm, ⟨2, _⟩ => ⟨S5760, .f32⟩
  | .hbm, ⟨3, _⟩ => ⟨S32768x2048, .bf16⟩
  | .hbm, ⟨4, _⟩ => ⟨S2048x5760, .bf16⟩
  | .hbm, ⟨5, _⟩ => ⟨S1x5760, .f32⟩
  | .hbm, ⟨6, _⟩ => ⟨S32768x5760, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1920, .bf16⟩
  | .local _ .vmem, ⟨3, _⟩ => ⟨S2048x1920, .bf16⟩
  | .local _ .vmem, ⟨4, _⟩ => ⟨S1x1920, .f32⟩
  | .local _ .vmem, ⟨5, _⟩ => ⟨S1x1920, .f32⟩
  | .local _ .vmem, ⟨6, _⟩ => ⟨S1024x1920, .bf16⟩
  | .local _ .vmem, ⟨7, _⟩ => ⟨S1024x1920, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1920 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S32768x2048 : Shape := ⟨2, ![32768, 2048]⟩
abbrev S2048x5760 : Shape := ⟨2, ![2048, 5760]⟩
abbrev S5760 : Shape := ⟨1, ![5760]⟩
abbrev S32768x5760 : Shape := ⟨2, ![32768, 5760]⟩
abbrev S1x5760 : Shape := ⟨2, ![1, 5760]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5760, .f32⟩
  | .hbm, ⟨2, _⟩ => ⟨S5760, .f32⟩
  | .hbm, ⟨3, _⟩ => ⟨S32768x5760, .f32⟩
  | .hbm, ⟨4, _⟩ => ⟨S1x5760, .f32⟩
  | .hbm, ⟨5, _⟩ => ⟨S32768x5760, .f32⟩
  | .hbm, ⟨6, _⟩ => ⟨S32768x5760, .f32⟩
  | .hbm, ⟨7, _⟩ => ⟨S32768x5760, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S32768x2048 : Shape := ⟨2, ![32768, 2048]⟩
abbrev S2048x3072 : Shape := ⟨2, ![2048, 3072]⟩
abbrev S4x8192x12x128 : Shape := ⟨4, ![4, 8192, 12, 128]⟩
abbrev S32768x1536 : Shape := ⟨2, ![32768, 1536]⟩
abbrev S512x2048 : Shape := ⟨2, ![512, 2048]⟩
abbrev S2048x1536 : Shape := ⟨2, ![2048, 1536]⟩
abbrev S512x1536 : Shape := ⟨2, ![512, 1536]⟩
abbrev S2x512x1536 : Shape := ⟨3, ![2, 512, 1536]⟩
abbrev S2 : Shape := ⟨1, ![2]⟩
abbrev S1 : Shape := ⟨1, ![1]⟩
abbrev S_ : Shape := ⟨0, ![]⟩
abbrev S1x512x1x128 : Shape := ⟨4, ![1, 512, 1, 128]⟩
abbrev S512x128 : Shape := ⟨2, ![512, 128]⟩
abbrev S1x512x128 : Shape := ⟨3, ![1, 512, 128]⟩
abbrev S1x512x1536 : Shape := ⟨3, ![1, 512, 1536]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x3072, .f32⟩
  | .hbm, ⟨2, _⟩ => ⟨S32768x2048, .bf16⟩
  | .hbm, ⟨3, _⟩ => ⟨S4x8192x12x128, .f32⟩
  | .hbm, ⟨4, _⟩ => ⟨S32768x1536, .bf16⟩
  | .local _ .vmem, ⟨0, _⟩ => ⟨S512x2048, .bf16⟩
  | .local _ .vmem, ⟨1, _⟩ => ⟨S512x2048, .bf16⟩
  | .local _ .vmem, ⟨2, _⟩ => ⟨S2048x1536, .f32⟩
  | .local _ .vmem, ⟨3, _⟩ => ⟨S512x1536, .bf16⟩
  | .local _ .vmem, ⟨4, _⟩ => ⟨S512x1536, .bf16⟩
  | .local _ .vmem, ⟨5, _⟩ => ⟨S2x512x1536, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_219 : BitVec 32 := 0#32
  let v449 : BitVec 1 := Scalar.cmpi .sgt v436 c0_i32_219
  let v450 : BitVec 32 := Scalar.extui v449
  let c0_i32_220 : BitVec 32 := 0#32
  let v451 : BitVec 1 := Scalar.cmpi .slt v436 c0_i32_220
  let v452 : BitVec 32 := Scalar.extui v451
  let v453 : BitVec 32 := Scalar.subi v450 v452
  let c16_i32_218 : BitVec 32 := 16#32
  let c0_i32_221 : BitVec 32 := 0#32
  let v454 : BitVec 1 := Scalar.cmpi .sgt c16_i32_218 c0_i32_221
  let v455 : BitVec 32 := Scalar.extui v454
  let c0_i32_222 : BitVec 32 := 0#32
  let v456 : BitVec 1 := Scalar.cmpi .slt c16_i32_218 c0_i32_222
  let v457 : BitVec 32 := Scalar.extui v456
  let v458 : BitVec 32 := Scalar.subi v455 v457
  let v459 : BitVec 1 := Scalar.cmpi .ne v453 v458
  let v460 : BitVec 32 := Scalar.remsi v436 c16_i32_218
  let c0_i32_223 : BitVec 32 := 0#32
  let v461 : BitVec 1 := Scalar.cmpi .ne v460 c0_i32_223
  let v462 : BitVec 1 := Scalar.andi v459 v461
  let v448 : BitVec 32 := Scalar.divsi v436 c16_i32_218
  let c1_i32_224 : BitVec 32 := 1#32
  let v463 : BitVec 32 := Scalar.subi v448 c1_i32_224
  let v464 : BitVec 32 := Scalar.select v462 v463 v448
  let c16_i32_211 : BitVec 32 := 16#32
  let c0_i32_212 : BitVec 32 := 0#32
  let v437 : BitVec 1 := Scalar.cmpi .eq c16_i32_211 c0_i32_212
  let c1_i32_213 : BitVec 32 := 1#32
  let v438 : BitVec 32 := Scalar.select v437 c1_i32_213 c16_i32_211
  let v439 : BitVec 32 := Scalar.remsi v436 v438
  let c0_i32_215 : BitVec 32 := 0#32
  let v441 : BitVec 1 := Scalar.cmpi .slt v439 c0_i32_215
  let c0_i32_216 : BitVec 32 := 0#32
  let v442 : BitVec 1 := Scalar.cmpi .slt v438 c0_i32_216
  let v443 : BitVec 1 := Scalar.xori v441 v442
  let c0_i32_214 : BitVec 32 := 0#32
  let v440 : BitVec 1 := Scalar.cmpi .ne v439 c0_i32_214
  let v444 : BitVec 1 := Scalar.andi v443 v440
  let v445 : BitVec 32 := Scalar.addi v439 v438
  let v446 : BitVec 32 := Scalar.select v444 v445 v439
  let c512_i32_217 : BitVec 32 := 512#32
  let v447 : BitVec 32 := Scalar.muli v446 c512_i32_217
  let c0_i32_225 : BitVec 32 := 0#32
  let c0_i32_226 : BitVec 32 := 0#32
  ![v464.toNat, v447.toNat, 0, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_227 : BitVec 32 := 0#32
  let c0_i32_228 : BitVec 32 := 0#32
  ![v9.toNat, 0, 0]
def k0_off4 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_237 : BitVec 32 := 0#32
  let v483 : BitVec 1 := Scalar.cmpi .sgt v436 c0_i32_237
  let v484 : BitVec 32 := Scalar.extui v483
  let c0_i32_238 : BitVec 32 := 0#32
  let v485 : BitVec 1 := Scalar.cmpi .slt v436 c0_i32_238
  let v486 : BitVec 32 := Scalar.extui v485
  let v487 : BitVec 32 := Scalar.subi v484 v486
  let c16_i32_236 : BitVec 32 := 16#32
  let c0_i32_239 : BitVec 32 := 0#32
  let v488 : BitVec 1 := Scalar.cmpi .sgt c16_i32_236 c0_i32_239
  let v489 : BitVec 32 := Scalar.extui v488
  let c0_i32_240 : BitVec 32 := 0#32
  let v490 : BitVec 1 := Scalar.cmpi .slt c16_i32_236 c0_i32_240
  let v491 : BitVec 32 := Scalar.extui v490
  let v492 : BitVec 32 := Scalar.subi v489 v491
  let v493 : BitVec 1 := Scalar.cmpi .ne v487 v492
  let v494 : BitVec 32 := Scalar.remsi v436 c16_i32_236
  let c0_i32_241 : BitVec 32 := 0#32
  let v495 : BitVec 1 := Scalar.cmpi .ne v494 c0_i32_241
  let v496 : BitVec 1 := Scalar.andi v493 v495
  let v482 : BitVec 32 := Scalar.divsi v436 c16_i32_236
  let c1_i32_242 : BitVec 32 := 1#32
  let v497 : BitVec 32 := Scalar.subi v482 c1_i32_242
  let v498 : BitVec 32 := Scalar.select v496 v497 v482
  let c16_i32_229 : BitVec 32 := 16#32
  let c0_i32_230 : BitVec 32 := 0#32
  let v471 : BitVec 1 := Scalar.cmpi .eq c16_i32_229 c0_i32_230
  let c1_i32_231 : BitVec 32 := 1#32
  let v472 : BitVec 32 := Scalar.select v471 c1_i32_231 c16_i32_229
  let v473 : BitVec 32 := Scalar.remsi v436 v472
  let c0_i32_233 : BitVec 32 := 0#32
  let v475 : BitVec 1 := Scalar.cmpi .slt v473 c0_i32_233
  let c0_i32_234 : BitVec 32 := 0#32
  let v476 : BitVec 1 := Scalar.cmpi .slt v472 c0_i32_234
  let v477 : BitVec 1 := Scalar.xori v475 v476
  let c0_i32_232 : BitVec 32 := 0#32
  let v474 : BitVec 1 := Scalar.cmpi .ne v473 c0_i32_232
  let v478 : BitVec 1 := Scalar.andi v477 v474
  let v479 : BitVec 32 := Scalar.addi v473 v472
  let v480 : BitVec 32 := Scalar.select v478 v479 v473
  let c512_i32_235 : BitVec 32 := 512#32
  let v481 : BitVec 32 := Scalar.muli v480 c512_i32_235
  let c1_i32_243 : BitVec 32 := 1#32
  let c0_i32_244 : BitVec 32 := 0#32
  ![v498.toNat, v481.toNat, 1, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_245 : BitVec 32 := 0#32
  let c128_i32_246 : BitVec 32 := 128#32
  ![v9.toNat, 0, 128]
def k0_off6 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_255 : BitVec 32 := 0#32
  let v517 : BitVec 1 := Scalar.cmpi .sgt v436 c0_i32_255
  let v518 : BitVec 32 := Scalar.extui v517
  let c0_i32_256 : BitVec 32 := 0#32
  let v519 : BitVec 1 := Scalar.cmpi .slt v436 c0_i32_256
  let v520 : BitVec 32 := Scalar.extui v519
  let v521 : BitVec 32 := Scalar.subi v518 v520
  let c16_i32_254 : BitVec 32 := 16#32
  let c0_i32_257 : BitVec 32 := 0#32
  let v522 : BitVec 1 := Scalar.cmpi .sgt c16_i32_254 c0_i32_257
  let v523 : BitVec 32 := Scalar.extui v522
  let c0_i32_258 : BitVec 32 := 0#32
  let v524 : BitVec 1 := Scalar.cmpi .slt c16_i32_254 c0_i32_258
  let v525 : BitVec 32 := Scalar.extui v524
  let v526 : BitVec 32 := Scalar.subi v523 v525
  let v527 : BitVec 1 := Scalar.cmpi .ne v521 v526
  let v528 : BitVec 32 := Scalar.remsi v436 c16_i32_254
  let c0_i32_259 : BitVec 32 := 0#32
  let v529 : BitVec 1 := Scalar.cmpi .ne v528 c0_i32_259
  let v530 : BitVec 1 := Scalar.andi v527 v529
  let v516 : BitVec 32 := Scalar.divsi v436 c16_i32_254
  let c1_i32_260 : BitVec 32 := 1#32
  let v531 : BitVec 32 := Scalar.subi v516 c1_i32_260
  let v532 : BitVec 32 := Scalar.select v530 v531 v516
  let c16_i32_247 : BitVec 32 := 16#32
  let c0_i32_248 : BitVec 32 := 0#32
  let v505 : BitVec 1 := Scalar.cmpi .eq c16_i32_247 c0_i32_248
  let c1_i32_249 : BitVec 32 := 1#32
  let v506 : BitVec 32 := Scalar.select v505 c1_i32_249 c16_i32_247
  let v507 : BitVec 32 := Scalar.remsi v436 v506
  let c0_i32_251 : BitVec 32 := 0#32
  let v509 : BitVec 1 := Scalar.cmpi .slt v507 c0_i32_251
  let c0_i32_252 : BitVec 32 := 0#32
  let v510 : BitVec 1 := Scalar.cmpi .slt v506 c0_i32_252
  let v511 : BitVec 1 := Scalar.xori v509 v510
  let c0_i32_250 : BitVec 32 := 0#32
  let v508 : BitVec 1 := Scalar.cmpi .ne v507 c0_i32_250
  let v512 : BitVec 1 := Scalar.andi v511 v508
  let v513 : BitVec 32 := Scalar.addi v507 v506
  let v514 : BitVec 32 := Scalar.select v512 v513 v507
  let c512_i32_253 : BitVec 32 := 512#32
  let v515 : BitVec 32 := Scalar.muli v514 c512_i32_253
  let c2_i32_261 : BitVec 32 := 2#32
  let c0_i32_262 : BitVec 32 := 0#32
  ![v532.toNat, v515.toNat, 2, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_263 : BitVec 32 := 0#32
  let c256_i32_264 : BitVec 32 := 256#32
  ![v9.toNat, 0, 256]
def k0_off8 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_273 : BitVec 32 := 0#32
  let v551 : BitVec 1 := Scalar.cmpi .sgt v436 c0_i32_273
  let v552 : BitVec 32 := Scalar.extui v551
  let c0_i32_274 : BitVec 32 := 0#32
  let v553 : BitVec 1 := Scalar.cmpi .slt v436 c0_i32_274
  let v554 : BitVec 32 := Scalar.extui v553
  let v555 : BitVec 32 := Scalar.subi v552 v554
  let c16_i32_272 : BitVec 32 := 16#32
  let c0_i32_275 : BitVec 32 := 0#32
  let v556 : BitVec 1 := Scalar.cmpi .sgt c16_i32_272 c0_i32_275
  let v557 : BitVec 32 := Scalar.extui v556
  let c0_i32_276 : BitVec 32 := 0#32
  let v558 : BitVec 1 := Scalar.cmpi .slt c16_i32_272 c0_i32_276
  let v559 : BitVec 32 := Scalar.extui v558
  let v560 : BitVec 32 := Scalar.subi v557 v559
  let v561 : BitVec 1 := Scalar.cmpi .ne v555 v560
  let v562 : BitVec 32 := Scalar.remsi v436 c16_i32_272
  let c0_i32_277 : BitVec 32 := 0#32
  let v563 : BitVec 1 := Scalar.cmpi .ne v562 c0_i32_277
  let v564 : BitVec 1 := Scalar.andi v561 v563
  let v550 : BitVec 32 := Scalar.divsi v436 c16_i32_272
  let c1_i32_278 : BitVec 32 := 1#32
  let v565 : BitVec 32 := Scalar.subi v550 c1_i32_278
  let v566 : BitVec 32 := Scalar.select v564 v565 v550
  let c16_i32_265 : BitVec 32 := 16#32
  let c0_i32_266 : BitVec 32 := 0#32
  let v539 : BitVec 1 := Scalar.cmpi .eq c16_i32_265 c0_i32_266
  let c1_i32_267 : BitVec 32 := 1#32
  let v540 : BitVec 32 := Scalar.select v539 c1_i32_267 c16_i32_265
  let v541 : BitVec 32 := Scalar.remsi v436 v540
  let c0_i32_269 : BitVec 32 := 0#32
  let v543 : BitVec 1 := Scalar.cmpi .slt v541 c0_i32_269
  let c0_i32_270 : BitVec 32 := 0#32
  let v544 : BitVec 1 := Scalar.cmpi .slt v540 c0_i32_270
  let v545 : BitVec 1 := Scalar.xori v543 v544
  let c0_i32_268 : BitVec 32 := 0#32
  let v542 : BitVec 1 := Scalar.cmpi .ne v541 c0_i32_268
  let v546 : BitVec 1 := Scalar.andi v545 v542
  let v547 : BitVec 32 := Scalar.addi v541 v540
  let v548 : BitVec 32 := Scalar.select v546 v547 v541
  let c512_i32_271 : BitVec 32 := 512#32
  let v549 : BitVec 32 := Scalar.muli v548 c512_i32_271
  let c3_i32_279 : BitVec 32 := 3#32
  let c0_i32_280 : BitVec 32 := 0#32
  ![v566.toNat, v549.toNat, 3, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_281 : BitVec 32 := 0#32
  let c384_i32_282 : BitVec 32 := 384#32
  ![v9.toNat, 0, 384]
def k0_off10 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_291 : BitVec 32 := 0#32
  let v585 : BitVec 1 := Scalar.cmpi .sgt v436 c0_i32_291
  let v586 : BitVec 32 := Scalar.extui v585
  let c0_i32_292 : BitVec 32 := 0#32
  let v587 : BitVec 1 := Scalar.cmpi .slt v436 c0_i32_292
  let v588 : BitVec 32 := Scalar.extui v587
  let v589 : BitVec 32 := Scalar.subi v586 v588
  let c16_i32_290 : BitVec 32 := 16#32
  let c0_i32_293 : BitVec 32 := 0#32
  let v590 : BitVec 1 := Scalar.cmpi .sgt c16_i32_290 c0_i32_293
  let v591 : BitVec 32 := Scalar.extui v590
  let c0_i32_294 : BitVec 32 := 0#32
  let v592 : BitVec 1 := Scalar.cmpi .slt c16_i32_290 c0_i32_294
  let v593 : BitVec 32 := Scalar.extui v592
  let v594 : BitVec 32 := Scalar.subi v591 v593
  let v595 : BitVec 1 := Scalar.cmpi .ne v589 v594
  let v596 : BitVec 32 := Scalar.remsi v436 c16_i32_290
  let c0_i32_295 : BitVec 32 := 0#32
  let v597 : BitVec 1 := Scalar.cmpi .ne v596 c0_i32_295
  let v598 : BitVec 1 := Scalar.andi v595 v597
  let v584 : BitVec 32 := Scalar.divsi v436 c16_i32_290
  let c1_i32_296 : BitVec 32 := 1#32
  let v599 : BitVec 32 := Scalar.subi v584 c1_i32_296
  let v600 : BitVec 32 := Scalar.select v598 v599 v584
  let c16_i32_283 : BitVec 32 := 16#32
  let c0_i32_284 : BitVec 32 := 0#32
  let v573 : BitVec 1 := Scalar.cmpi .eq c16_i32_283 c0_i32_284
  let c1_i32_285 : BitVec 32 := 1#32
  let v574 : BitVec 32 := Scalar.select v573 c1_i32_285 c16_i32_283
  let v575 : BitVec 32 := Scalar.remsi v436 v574
  let c0_i32_287 : BitVec 32 := 0#32
  let v577 : BitVec 1 := Scalar.cmpi .slt v575 c0_i32_287
  let c0_i32_288 : BitVec 32 := 0#32
  let v578 : BitVec 1 := Scalar.cmpi .slt v574 c0_i32_288
  let v579 : BitVec 1 := Scalar.xori v577 v578
  let c0_i32_286 : BitVec 32 := 0#32
  let v576 : BitVec 1 := Scalar.cmpi .ne v575 c0_i32_286
  let v580 : BitVec 1 := Scalar.andi v579 v576
  let v581 : BitVec 32 := Scalar.addi v575 v574
  let v582 : BitVec 32 := Scalar.select v580 v581 v575
  let c512_i32_289 : BitVec 32 := 512#32
  let v583 : BitVec 32 := Scalar.muli v582 c512_i32_289
  let c4_i32_297 : BitVec 32 := 4#32
  let c0_i32_298 : BitVec 32 := 0#32
  ![v600.toNat, v583.toNat, 4, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_299 : BitVec 32 := 0#32
  let c512_i32_300 : BitVec 32 := 512#32
  ![v9.toNat, 0, 512]
def k0_off12 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_309 : BitVec 32 := 0#32
  let v619 : BitVec 1 := Scalar.cmpi .sgt v436 c0_i32_309
  let v620 : BitVec 32 := Scalar.extui v619
  let c0_i32_310 : BitVec 32 := 0#32
  let v621 : BitVec 1 := Scalar.cmpi .slt v436 c0_i32_310
  let v622 : BitVec 32 := Scalar.extui v621
  let v623 : BitVec 32 := Scalar.subi v620 v622
  let c16_i32_308 : BitVec 32 := 16#32
  let c0_i32_311 : BitVec 32 := 0#32
  let v624 : BitVec 1 := Scalar.cmpi .sgt c16_i32_308 c0_i32_311
  let v625 : BitVec 32 := Scalar.extui v624
  let c0_i32_312 : BitVec 32 := 0#32
  let v626 : BitVec 1 := Scalar.cmpi .slt c16_i32_308 c0_i32_312
  let v627 : BitVec 32 := Scalar.extui v626
  let v628 : BitVec 32 := Scalar.subi v625 v627
  let v629 : BitVec 1 := Scalar.cmpi .ne v623 v628
  let v630 : BitVec 32 := Scalar.remsi v436 c16_i32_308
  let c0_i32_313 : BitVec 32 := 0#32
  let v631 : BitVec 1 := Scalar.cmpi .ne v630 c0_i32_313
  let v632 : BitVec 1 := Scalar.andi v629 v631
  let v618 : BitVec 32 := Scalar.divsi v436 c16_i32_308
  let c1_i32_314 : BitVec 32 := 1#32
  let v633 : BitVec 32 := Scalar.subi v618 c1_i32_314
  let v634 : BitVec 32 := Scalar.select v632 v633 v618
  let c16_i32_301 : BitVec 32 := 16#32
  let c0_i32_302 : BitVec 32 := 0#32
  let v607 : BitVec 1 := Scalar.cmpi .eq c16_i32_301 c0_i32_302
  let c1_i32_303 : BitVec 32 := 1#32
  let v608 : BitVec 32 := Scalar.select v607 c1_i32_303 c16_i32_301
  let v609 : BitVec 32 := Scalar.remsi v436 v608
  let c0_i32_305 : BitVec 32 := 0#32
  let v611 : BitVec 1 := Scalar.cmpi .slt v609 c0_i32_305
  let c0_i32_306 : BitVec 32 := 0#32
  let v612 : BitVec 1 := Scalar.cmpi .slt v608 c0_i32_306
  let v613 : BitVec 1 := Scalar.xori v611 v612
  let c0_i32_304 : BitVec 32 := 0#32
  let v610 : BitVec 1 := Scalar.cmpi .ne v609 c0_i32_304
  let v614 : BitVec 1 := Scalar.andi v613 v610
  let v615 : BitVec 32 := Scalar.addi v609 v608
  let v616 : BitVec 32 := Scalar.select v614 v615 v609
  let c512_i32_307 : BitVec 32 := 512#32
  let v617 : BitVec 32 := Scalar.muli v616 c512_i32_307
  let c5_i32_315 : BitVec 32 := 5#32
  let c0_i32_316 : BitVec 32 := 0#32
  ![v634.toNat, v617.toNat, 5, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_317 : BitVec 32 := 0#32
  let c640_i32_318 : BitVec 32 := 640#32
  ![v9.toNat, 0, 640]
def k0_off14 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_327 : BitVec 32 := 0#32
  let v653 : BitVec 1 := Scalar.cmpi .sgt v436 c0_i32_327
  let v654 : BitVec 32 := Scalar.extui v653
  let c0_i32_328 : BitVec 32 := 0#32
  let v655 : BitVec 1 := Scalar.cmpi .slt v436 c0_i32_328
  let v656 : BitVec 32 := Scalar.extui v655
  let v657 : BitVec 32 := Scalar.subi v654 v656
  let c16_i32_326 : BitVec 32 := 16#32
  let c0_i32_329 : BitVec 32 := 0#32
  let v658 : BitVec 1 := Scalar.cmpi .sgt c16_i32_326 c0_i32_329
  let v659 : BitVec 32 := Scalar.extui v658
  let c0_i32_330 : BitVec 32 := 0#32
  let v660 : BitVec 1 := Scalar.cmpi .slt c16_i32_326 c0_i32_330
  let v661 : BitVec 32 := Scalar.extui v660
  let v662 : BitVec 32 := Scalar.subi v659 v661
  let v663 : BitVec 1 := Scalar.cmpi .ne v657 v662
  let v664 : BitVec 32 := Scalar.remsi v436 c16_i32_326
  let c0_i32_331 : BitVec 32 := 0#32
  let v665 : BitVec 1 := Scalar.cmpi .ne v664 c0_i32_331
  let v666 : BitVec 1 := Scalar.andi v663 v665
  let v652 : BitVec 32 := Scalar.divsi v436 c16_i32_326
  let c1_i32_332 : BitVec 32 := 1#32
  let v667 : BitVec 32 := Scalar.subi v652 c1_i32_332
  let v668 : BitVec 32 := Scalar.select v666 v667 v652
  let c16_i32_319 : BitVec 32 := 16#32
  let c0_i32_320 : BitVec 32 := 0#32
  let v641 : BitVec 1 := Scalar.cmpi .eq c16_i32_319 c0_i32_320
  let c1_i32_321 : BitVec 32 := 1#32
  let v642 : BitVec 32 := Scalar.select v641 c1_i32_321 c16_i32_319
  let v643 : BitVec 32 := Scalar.remsi v436 v642
  let c0_i32_323 : BitVec 32 := 0#32
  let v645 : BitVec 1 := Scalar.cmpi .slt v643 c0_i32_323
  let c0_i32_324 : BitVec 32 := 0#32
  let v646 : BitVec 1 := Scalar.cmpi .slt v642 c0_i32_324
  let v647 : BitVec 1 := Scalar.xori v645 v646
  let c0_i32_322 : BitVec 32 := 0#32
  let v644 : BitVec 1 := Scalar.cmpi .ne v643 c0_i32_322
  let v648 : BitVec 1 := Scalar.andi v647 v644
  let v649 : BitVec 32 := Scalar.addi v643 v642
  let v650 : BitVec 32 := Scalar.select v648 v649 v643
  let c512_i32_325 : BitVec 32 := 512#32
  let v651 : BitVec 32 := Scalar.muli v650 c512_i32_325
  let c6_i32_333 : BitVec 32 := 6#32
  let c0_i32_334 : BitVec 32 := 0#32
  ![v668.toNat, v651.toNat, 6, 0]
def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_335 : BitVec 32 := 0#32
  let c768_i32_336 : BitVec 32 := 768#32
  ![v9.toNat, 0, 768]
def k0_off16 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_345 : BitVec 32 := 0#32
  let v687 : BitVec 1 := Scalar.cmpi .sgt v436 c0_i32_345
  let v688 : BitVec 32 := Scalar.extui v687
  let c0_i32_346 : BitVec 32 := 0#32
  let v689 : BitVec 1 := Scalar.cmpi .slt v436 c0_i32_346
  let v690 : BitVec 32 := Scalar.extui v689
  let v691 : BitVec 32 := Scalar.subi v688 v690
  let c16_i32_344 : BitVec 32 := 16#32
  let c0_i32_347 : BitVec 32 := 0#32
  let v692 : BitVec 1 := Scalar.cmpi .sgt c16_i32_344 c0_i32_347
  let v693 : BitVec 32 := Scalar.extui v692
  let c0_i32_348 : BitVec 32 := 0#32
  let v694 : BitVec 1 := Scalar.cmpi .slt c16_i32_344 c0_i32_348
  let v695 : BitVec 32 := Scalar.extui v694
  let v696 : BitVec 32 := Scalar.subi v693 v695
  let v697 : BitVec 1 := Scalar.cmpi .ne v691 v696
  let v698 : BitVec 32 := Scalar.remsi v436 c16_i32_344
  let c0_i32_349 : BitVec 32 := 0#32
  let v699 : BitVec 1 := Scalar.cmpi .ne v698 c0_i32_349
  let v700 : BitVec 1 := Scalar.andi v697 v699
  let v686 : BitVec 32 := Scalar.divsi v436 c16_i32_344
  let c1_i32_350 : BitVec 32 := 1#32
  let v701 : BitVec 32 := Scalar.subi v686 c1_i32_350
  let v702 : BitVec 32 := Scalar.select v700 v701 v686
  let c16_i32_337 : BitVec 32 := 16#32
  let c0_i32_338 : BitVec 32 := 0#32
  let v675 : BitVec 1 := Scalar.cmpi .eq c16_i32_337 c0_i32_338
  let c1_i32_339 : BitVec 32 := 1#32
  let v676 : BitVec 32 := Scalar.select v675 c1_i32_339 c16_i32_337
  let v677 : BitVec 32 := Scalar.remsi v436 v676
  let c0_i32_341 : BitVec 32 := 0#32
  let v679 : BitVec 1 := Scalar.cmpi .slt v677 c0_i32_341
  let c0_i32_342 : BitVec 32 := 0#32
  let v680 : BitVec 1 := Scalar.cmpi .slt v676 c0_i32_342
  let v681 : BitVec 1 := Scalar.xori v679 v680
  let c0_i32_340 : BitVec 32 := 0#32
  let v678 : BitVec 1 := Scalar.cmpi .ne v677 c0_i32_340
  let v682 : BitVec 1 := Scalar.andi v681 v678
  let v683 : BitVec 32 := Scalar.addi v677 v676
  let v684 : BitVec 32 := Scalar.select v682 v683 v677
  let c512_i32_343 : BitVec 32 := 512#32
  let v685 : BitVec 32 := Scalar.muli v684 c512_i32_343
  let c7_i32_351 : BitVec 32 := 7#32
  let c0_i32_352 : BitVec 32 := 0#32
  ![v702.toNat, v685.toNat, 7, 0]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_353 : BitVec 32 := 0#32
  let c896_i32_354 : BitVec 32 := 896#32
  ![v9.toNat, 0, 896]
def k0_off18 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_363 : BitVec 32 := 0#32
  let v721 : BitVec 1 := Scalar.cmpi .sgt v436 c0_i32_363
  let v722 : BitVec 32 := Scalar.extui v721
  let c0_i32_364 : BitVec 32 := 0#32
  let v723 : BitVec 1 := Scalar.cmpi .slt v436 c0_i32_364
  let v724 : BitVec 32 := Scalar.extui v723
  let v725 : BitVec 32 := Scalar.subi v722 v724
  let c16_i32_362 : BitVec 32 := 16#32
  let c0_i32_365 : BitVec 32 := 0#32
  let v726 : BitVec 1 := Scalar.cmpi .sgt c16_i32_362 c0_i32_365
  let v727 : BitVec 32 := Scalar.extui v726
  let c0_i32_366 : BitVec 32 := 0#32
  let v728 : BitVec 1 := Scalar.cmpi .slt c16_i32_362 c0_i32_366
  let v729 : BitVec 32 := Scalar.extui v728
  let v730 : BitVec 32 := Scalar.subi v727 v729
  let v731 : BitVec 1 := Scalar.cmpi .ne v725 v730
  let v732 : BitVec 32 := Scalar.remsi v436 c16_i32_362
  let c0_i32_367 : BitVec 32 := 0#32
  let v733 : BitVec 1 := Scalar.cmpi .ne v732 c0_i32_367
  let v734 : BitVec 1 := Scalar.andi v731 v733
  let v720 : BitVec 32 := Scalar.divsi v436 c16_i32_362
  let c1_i32_368 : BitVec 32 := 1#32
  let v735 : BitVec 32 := Scalar.subi v720 c1_i32_368
  let v736 : BitVec 32 := Scalar.select v734 v735 v720
  let c16_i32_355 : BitVec 32 := 16#32
  let c0_i32_356 : BitVec 32 := 0#32
  let v709 : BitVec 1 := Scalar.cmpi .eq c16_i32_355 c0_i32_356
  let c1_i32_357 : BitVec 32 := 1#32
  let v710 : BitVec 32 := Scalar.select v709 c1_i32_357 c16_i32_355
  let v711 : BitVec 32 := Scalar.remsi v436 v710
  let c0_i32_359 : BitVec 32 := 0#32
  let v713 : BitVec 1 := Scalar.cmpi .slt v711 c0_i32_359
  let c0_i32_360 : BitVec 32 := 0#32
  let v714 : BitVec 1 := Scalar.cmpi .slt v710 c0_i32_360
  let v715 : BitVec 1 := Scalar.xori v713 v714
  let c0_i32_358 : BitVec 32 := 0#32
  let v712 : BitVec 1 := Scalar.cmpi .ne v711 c0_i32_358
  let v716 : BitVec 1 := Scalar.andi v715 v712
  let v717 : BitVec 32 := Scalar.addi v711 v710
  let v718 : BitVec 32 := Scalar.select v716 v717 v711
  let c512_i32_361 : BitVec 32 := 512#32
  let v719 : BitVec 32 := Scalar.muli v718 c512_i32_361
  let c8_i32_369 : BitVec 32 := 8#32
  let c0_i32_370 : BitVec 32 := 0#32
  ![v736.toNat, v719.toNat, 8, 0]
def k0_off19 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_371 : BitVec 32 := 0#32
  let c1024_i32_372 : BitVec 32 := 1024#32
  ![v9.toNat, 0, 1024]
def k0_off20 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_381 : BitVec 32 := 0#32
  let v755 : BitVec 1 := Scalar.cmpi .sgt v436 c0_i32_381
  let v756 : BitVec 32 := Scalar.extui v755
  let c0_i32_382 : BitVec 32 := 0#32
  let v757 : BitVec 1 := Scalar.cmpi .slt v436 c0_i32_382
  let v758 : BitVec 32 := Scalar.extui v757
  let v759 : BitVec 32 := Scalar.subi v756 v758
  let c16_i32_380 : BitVec 32 := 16#32
  let c0_i32_383 : BitVec 32 := 0#32
  let v760 : BitVec 1 := Scalar.cmpi .sgt c16_i32_380 c0_i32_383
  let v761 : BitVec 32 := Scalar.extui v760
  let c0_i32_384 : BitVec 32 := 0#32
  let v762 : BitVec 1 := Scalar.cmpi .slt c16_i32_380 c0_i32_384
  let v763 : BitVec 32 := Scalar.extui v762
  let v764 : BitVec 32 := Scalar.subi v761 v763
  let v765 : BitVec 1 := Scalar.cmpi .ne v759 v764
  let v766 : BitVec 32 := Scalar.remsi v436 c16_i32_380
  let c0_i32_385 : BitVec 32 := 0#32
  let v767 : BitVec 1 := Scalar.cmpi .ne v766 c0_i32_385
  let v768 : BitVec 1 := Scalar.andi v765 v767
  let v754 : BitVec 32 := Scalar.divsi v436 c16_i32_380
  let c1_i32_386 : BitVec 32 := 1#32
  let v769 : BitVec 32 := Scalar.subi v754 c1_i32_386
  let v770 : BitVec 32 := Scalar.select v768 v769 v754
  let c16_i32_373 : BitVec 32 := 16#32
  let c0_i32_374 : BitVec 32 := 0#32
  let v743 : BitVec 1 := Scalar.cmpi .eq c16_i32_373 c0_i32_374
  let c1_i32_375 : BitVec 32 := 1#32
  let v744 : BitVec 32 := Scalar.select v743 c1_i32_375 c16_i32_373
  let v745 : BitVec 32 := Scalar.remsi v436 v744
  let c0_i32_377 : BitVec 32 := 0#32
  let v747 : BitVec 1 := Scalar.cmpi .slt v745 c0_i32_377
  let c0_i32_378 : BitVec 32 := 0#32
  let v748 : BitVec 1 := Scalar.cmpi .slt v744 c0_i32_378
  let v749 : BitVec 1 := Scalar.xori v747 v748
  let c0_i32_376 : BitVec 32 := 0#32
  let v746 : BitVec 1 := Scalar.cmpi .ne v745 c0_i32_376
  let v750 : BitVec 1 := Scalar.andi v749 v746
  let v751 : BitVec 32 := Scalar.addi v745 v744
  let v752 : BitVec 32 := Scalar.select v750 v751 v745
  let c512_i32_379 : BitVec 32 := 512#32
  let v753 : BitVec 32 := Scalar.muli v752 c512_i32_379
  let c9_i32_387 : BitVec 32 := 9#32
  let c0_i32_388 : BitVec 32 := 0#32
  ![v770.toNat, v753.toNat, 9, 0]
def k0_off21 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_389 : BitVec 32 := 0#32
  let c1152_i32_390 : BitVec 32 := 1152#32
  ![v9.toNat, 0, 1152]
def k0_off22 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_399 : BitVec 32 := 0#32
  let v789 : BitVec 1 := Scalar.cmpi .sgt v436 c0_i32_399
  let v790 : BitVec 32 := Scalar.extui v789
  let c0_i32_400 : BitVec 32 := 0#32
  let v791 : BitVec 1 := Scalar.cmpi .slt v436 c0_i32_400
  let v792 : BitVec 32 := Scalar.extui v791
  let v793 : BitVec 32 := Scalar.subi v790 v792
  let c16_i32_398 : BitVec 32 := 16#32
  let c0_i32_401 : BitVec 32 := 0#32
  let v794 : BitVec 1 := Scalar.cmpi .sgt c16_i32_398 c0_i32_401
  let v795 : BitVec 32 := Scalar.extui v794
  let c0_i32_402 : BitVec 32 := 0#32
  let v796 : BitVec 1 := Scalar.cmpi .slt c16_i32_398 c0_i32_402
  let v797 : BitVec 32 := Scalar.extui v796
  let v798 : BitVec 32 := Scalar.subi v795 v797
  let v799 : BitVec 1 := Scalar.cmpi .ne v793 v798
  let v800 : BitVec 32 := Scalar.remsi v436 c16_i32_398
  let c0_i32_403 : BitVec 32 := 0#32
  let v801 : BitVec 1 := Scalar.cmpi .ne v800 c0_i32_403
  let v802 : BitVec 1 := Scalar.andi v799 v801
  let v788 : BitVec 32 := Scalar.divsi v436 c16_i32_398
  let c1_i32_404 : BitVec 32 := 1#32
  let v803 : BitVec 32 := Scalar.subi v788 c1_i32_404
  let v804 : BitVec 32 := Scalar.select v802 v803 v788
  let c16_i32_391 : BitVec 32 := 16#32
  let c0_i32_392 : BitVec 32 := 0#32
  let v777 : BitVec 1 := Scalar.cmpi .eq c16_i32_391 c0_i32_392
  let c1_i32_393 : BitVec 32 := 1#32
  let v778 : BitVec 32 := Scalar.select v777 c1_i32_393 c16_i32_391
  let v779 : BitVec 32 := Scalar.remsi v436 v778
  let c0_i32_395 : BitVec 32 := 0#32
  let v781 : BitVec 1 := Scalar.cmpi .slt v779 c0_i32_395
  let c0_i32_396 : BitVec 32 := 0#32
  let v782 : BitVec 1 := Scalar.cmpi .slt v778 c0_i32_396
  let v783 : BitVec 1 := Scalar.xori v781 v782
  let c0_i32_394 : BitVec 32 := 0#32
  let v780 : BitVec 1 := Scalar.cmpi .ne v779 c0_i32_394
  let v784 : BitVec 1 := Scalar.andi v783 v780
  let v785 : BitVec 32 := Scalar.addi v779 v778
  let v786 : BitVec 32 := Scalar.select v784 v785 v779
  let c512_i32_397 : BitVec 32 := 512#32
  let v787 : BitVec 32 := Scalar.muli v786 c512_i32_397
  let c10_i32_405 : BitVec 32 := 10#32
  let c0_i32_406 : BitVec 32 := 0#32
  ![v804.toNat, v787.toNat, 10, 0]
def k0_off23 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_407 : BitVec 32 := 0#32
  let c1280_i32_408 : BitVec 32 := 1280#32
  ![v9.toNat, 0, 1280]
def k0_off24 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_417 : BitVec 32 := 0#32
  let v823 : BitVec 1 := Scalar.cmpi .sgt v436 c0_i32_417
  let v824 : BitVec 32 := Scalar.extui v823
  let c0_i32_418 : BitVec 32 := 0#32
  let v825 : BitVec 1 := Scalar.cmpi .slt v436 c0_i32_418
  let v826 : BitVec 32 := Scalar.extui v825
  let v827 : BitVec 32 := Scalar.subi v824 v826
  let c16_i32_416 : BitVec 32 := 16#32
  let c0_i32_419 : BitVec 32 := 0#32
  let v828 : BitVec 1 := Scalar.cmpi .sgt c16_i32_416 c0_i32_419
  let v829 : BitVec 32 := Scalar.extui v828
  let c0_i32_420 : BitVec 32 := 0#32
  let v830 : BitVec 1 := Scalar.cmpi .slt c16_i32_416 c0_i32_420
  let v831 : BitVec 32 := Scalar.extui v830
  let v832 : BitVec 32 := Scalar.subi v829 v831
  let v833 : BitVec 1 := Scalar.cmpi .ne v827 v832
  let v834 : BitVec 32 := Scalar.remsi v436 c16_i32_416
  let c0_i32_421 : BitVec 32 := 0#32
  let v835 : BitVec 1 := Scalar.cmpi .ne v834 c0_i32_421
  let v836 : BitVec 1 := Scalar.andi v833 v835
  let v822 : BitVec 32 := Scalar.divsi v436 c16_i32_416
  let c1_i32_422 : BitVec 32 := 1#32
  let v837 : BitVec 32 := Scalar.subi v822 c1_i32_422
  let v838 : BitVec 32 := Scalar.select v836 v837 v822
  let c16_i32_409 : BitVec 32 := 16#32
  let c0_i32_410 : BitVec 32 := 0#32
  let v811 : BitVec 1 := Scalar.cmpi .eq c16_i32_409 c0_i32_410
  let c1_i32_411 : BitVec 32 := 1#32
  let v812 : BitVec 32 := Scalar.select v811 c1_i32_411 c16_i32_409
  let v813 : BitVec 32 := Scalar.remsi v436 v812
  let c0_i32_413 : BitVec 32 := 0#32
  let v815 : BitVec 1 := Scalar.cmpi .slt v813 c0_i32_413
  let c0_i32_414 : BitVec 32 := 0#32
  let v816 : BitVec 1 := Scalar.cmpi .slt v812 c0_i32_414
  let v817 : BitVec 1 := Scalar.xori v815 v816
  let c0_i32_412 : BitVec 32 := 0#32
  let v814 : BitVec 1 := Scalar.cmpi .ne v813 c0_i32_412
  let v818 : BitVec 1 := Scalar.andi v817 v814
  let v819 : BitVec 32 := Scalar.addi v813 v812
  let v820 : BitVec 32 := Scalar.select v818 v819 v813
  let c512_i32_415 : BitVec 32 := 512#32
  let v821 : BitVec 32 := Scalar.muli v820 c512_i32_415
  let c11_i32_423 : BitVec 32 := 11#32
  let c0_i32_424 : BitVec 32 := 0#32
  ![v838.toNat, v821.toNat, 11, 0]
def k0_off25 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_425 : BitVec 32 := 0#32
  let c1408_i32_426 : BitVec 32 := 1408#32
  ![v9.toNat, 0, 1408]
def k0_off26 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_10 : BitVec 32 := 0#32
  let c0_i32_11 : BitVec 32 := 0#32
  ![v9.toNat, 0, 0]
def k0_off27 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off28 (i : grid0.Coords) : Fin 4 → Nat :=
  let arg0 : BitVec 32 := BitVec.ofNat 32 (i 0).val
  let c0_i32_20 : BitVec 32 := 0#32
  let v37 : BitVec 1 := Scalar.cmpi .sgt arg0 c0_i32_20
  let v38 : BitVec 32 := Scalar.extui v37
  let c0_i32_21 : BitVec 32 := 0#32
  let v39 : BitVec 1 := Scalar.cmpi .slt arg0 c0_i32_21
  let v40 : BitVec 32 := Scalar.extui v39
  let v41 : BitVec 32 := Scalar.subi v38 v40
  let c16_i32_19 : BitVec 32 := 16#32
  let c0_i32_22 : BitVec 32 := 0#32
  let v42 : BitVec 1 := Scalar.cmpi .sgt c16_i32_19 c0_i32_22
  let v43 : BitVec 32 := Scalar.extui v42
  let c0_i32_23 : BitVec 32 := 0#32
  let v44 : BitVec 1 := Scalar.cmpi .slt c16_i32_19 c0_i32_23
  let v45 : BitVec 32 := Scalar.extui v44
  let v46 : BitVec 32 := Scalar.subi v43 v45
  let v47 : BitVec 1 := Scalar.cmpi .ne v41 v46
  let v48 : BitVec 32 := Scalar.remsi arg0 c16_i32_19
  let c0_i32_24 : BitVec 32 := 0#32
  let v49 : BitVec 1 := Scalar.cmpi .ne v48 c0_i32_24
  let v50 : BitVec 1 := Scalar.andi v47 v49
  let v36 : BitVec 32 := Scalar.divsi arg0 c16_i32_19
  let c1_i32_25 : BitVec 32 := 1#32
  let v51 : BitVec 32 := Scalar.subi v36 c1_i32_25
  let v52 : BitVec 32 := Scalar.select v50 v51 v36
  let c16_i32 : BitVec 32 := 16#32
  let c0_i32_14 : BitVec 32 := 0#32
  let v25 : BitVec 1 := Scalar.cmpi .eq c16_i32 c0_i32_14
  let c1_i32_15 : BitVec 32 := 1#32
  let v26 : BitVec 32 := Scalar.select v25 c1_i32_15 c16_i32
  let v27 : BitVec 32 := Scalar.remsi arg0 v26
  let c0_i32_17 : BitVec 32 := 0#32
  let v29 : BitVec 1 := Scalar.cmpi .slt v27 c0_i32_17
  let c0_i32_18 : BitVec 32 := 0#32
  let v30 : BitVec 1 := Scalar.cmpi .slt v26 c0_i32_18
  let v31 : BitVec 1 := Scalar.xori v29 v30
  let c0_i32_16 : BitVec 32 := 0#32
  let v28 : BitVec 1 := Scalar.cmpi .ne v27 c0_i32_16
  let v32 : BitVec 1 := Scalar.andi v31 v28
  let v33 : BitVec 32 := Scalar.addi v27 v26
  let v34 : BitVec 32 := Scalar.select v32 v33 v27
  let c512_i32 : BitVec 32 := 512#32
  let v35 : BitVec 32 := Scalar.muli v34 c512_i32
  let c0_i32_26 : BitVec 32 := 0#32
  let c0_i32_27 : BitVec 32 := 0#32
  ![v52.toNat, v35.toNat, 0, 0]
def k0_off29 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_28 : BitVec 32 := 0#32
  let c0_i32_29 : BitVec 32 := 0#32
  ![v9.toNat, 0, 0]
def k0_off30 (i : grid0.Coords) : Fin 4 → Nat :=
  let arg0 : BitVec 32 := BitVec.ofNat 32 (i 0).val
  let c0_i32_38 : BitVec 32 := 0#32
  let v71 : BitVec 1 := Scalar.cmpi .sgt arg0 c0_i32_38
  let v72 : BitVec 32 := Scalar.extui v71
  let c0_i32_39 : BitVec 32 := 0#32
  let v73 : BitVec 1 := Scalar.cmpi .slt arg0 c0_i32_39
  let v74 : BitVec 32 := Scalar.extui v73
  let v75 : BitVec 32 := Scalar.subi v72 v74
  let c16_i32_37 : BitVec 32 := 16#32
  let c0_i32_40 : BitVec 32 := 0#32
  let v76 : BitVec 1 := Scalar.cmpi .sgt c16_i32_37 c0_i32_40
  let v77 : BitVec 32 := Scalar.extui v76
  let c0_i32_41 : BitVec 32 := 0#32
  let v78 : BitVec 1 := Scalar.cmpi .slt c16_i32_37 c0_i32_41
  let v79 : BitVec 32 := Scalar.extui v78
  let v80 : BitVec 32 := Scalar.subi v77 v79
  let v81 : BitVec 1 := Scalar.cmpi .ne v75 v80
  let v82 : BitVec 32 := Scalar.remsi arg0 c16_i32_37
  let c0_i32_42 : BitVec 32 := 0#32
  let v83 : BitVec 1 := Scalar.cmpi .ne v82 c0_i32_42
  let v84 : BitVec 1 := Scalar.andi v81 v83
  let v70 : BitVec 32 := Scalar.divsi arg0 c16_i32_37
  let c1_i32_43 : BitVec 32 := 1#32
  let v85 : BitVec 32 := Scalar.subi v70 c1_i32_43
  let v86 : BitVec 32 := Scalar.select v84 v85 v70
  let c16_i32_30 : BitVec 32 := 16#32
  let c0_i32_31 : BitVec 32 := 0#32
  let v59 : BitVec 1 := Scalar.cmpi .eq c16_i32_30 c0_i32_31
  let c1_i32_32 : BitVec 32 := 1#32
  let v60 : BitVec 32 := Scalar.select v59 c1_i32_32 c16_i32_30
  let v61 : BitVec 32 := Scalar.remsi arg0 v60
  let c0_i32_34 : BitVec 32 := 0#32
  let v63 : BitVec 1 := Scalar.cmpi .slt v61 c0_i32_34
  let c0_i32_35 : BitVec 32 := 0#32
  let v64 : BitVec 1 := Scalar.cmpi .slt v60 c0_i32_35
  let v65 : BitVec 1 := Scalar.xori v63 v64
  let c0_i32_33 : BitVec 32 := 0#32
  let v62 : BitVec 1 := Scalar.cmpi .ne v61 c0_i32_33
  let v66 : BitVec 1 := Scalar.andi v65 v62
  let v67 : BitVec 32 := Scalar.addi v61 v60
  let v68 : BitVec 32 := Scalar.select v66 v67 v61
  let c512_i32_36 : BitVec 32 := 512#32
  let v69 : BitVec 32 := Scalar.muli v68 c512_i32_36
  let c1_i32_44 : BitVec 32 := 1#32
  let c0_i32_45 : BitVec 32 := 0#32
  ![v86.toNat, v69.toNat, 1, 0]
def k0_off31 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_46 : BitVec 32 := 0#32
  let c128_i32 : BitVec 32 := 128#32
  ![v9.toNat, 0, 128]
def k0_off32 (i : grid0.Coords) : Fin 4 → Nat :=
  let arg0 : BitVec 32 := BitVec.ofNat 32 (i 0).val
  let c0_i32_55 : BitVec 32 := 0#32
  let v105 : BitVec 1 := Scalar.cmpi .sgt arg0 c0_i32_55
  let v106 : BitVec 32 := Scalar.extui v105
  let c0_i32_56 : BitVec 32 := 0#32
  let v107 : BitVec 1 := Scalar.cmpi .slt arg0 c0_i32_56
  let v108 : BitVec 32 := Scalar.extui v107
  let v109 : BitVec 32 := Scalar.subi v106 v108
  let c16_i32_54 : BitVec 32 := 16#32
  let c0_i32_57 : BitVec 32 := 0#32
  let v110 : BitVec 1 := Scalar.cmpi .sgt c16_i32_54 c0_i32_57
  let v111 : BitVec 32 := Scalar.extui v110
  let c0_i32_58 : BitVec 32 := 0#32
  let v112 : BitVec 1 := Scalar.cmpi .slt c16_i32_54 c0_i32_58
  let v113 : BitVec 32 := Scalar.extui v112
  let v114 : BitVec 32 := Scalar.subi v111 v113
  let v115 : BitVec 1 := Scalar.cmpi .ne v109 v114
  let v116 : BitVec 32 := Scalar.remsi arg0 c16_i32_54
  let c0_i32_59 : BitVec 32 := 0#32
  let v117 : BitVec 1 := Scalar.cmpi .ne v116 c0_i32_59
  let v118 : BitVec 1 := Scalar.andi v115 v117
  let v104 : BitVec 32 := Scalar.divsi arg0 c16_i32_54
  let c1_i32_60 : BitVec 32 := 1#32
  let v119 : BitVec 32 := Scalar.subi v104 c1_i32_60
  let v120 : BitVec 32 := Scalar.select v118 v119 v104
  let c16_i32_47 : BitVec 32 := 16#32
  let c0_i32_48 : BitVec 32 := 0#32
  let v93 : BitVec 1 := Scalar.cmpi .eq c16_i32_47 c0_i32_48
  let c1_i32_49 : BitVec 32 := 1#32
  let v94 : BitVec 32 := Scalar.select v93 c1_i32_49 c16_i32_47
  let v95 : BitVec 32 := Scalar.remsi arg0 v94
  let c0_i32_51 : BitVec 32 := 0#32
  let v97 : BitVec 1 := Scalar.cmpi .slt v95 c0_i32_51
  let c0_i32_52 : BitVec 32 := 0#32
  let v98 : BitVec 1 := Scalar.cmpi .slt v94 c0_i32_52
  let v99 : BitVec 1 := Scalar.xori v97 v98
  let c0_i32_50 : BitVec 32 := 0#32
  let v96 : BitVec 1 := Scalar.cmpi .ne v95 c0_i32_50
  let v100 : BitVec 1 := Scalar.andi v99 v96
  let v101 : BitVec 32 := Scalar.addi v95 v94
  let v102 : BitVec 32 := Scalar.select v100 v101 v95
  let c512_i32_53 : BitVec 32 := 512#32
  let v103 : BitVec 32 := Scalar.muli v102 c512_i32_53
  let c2_i32_61 : BitVec 32 := 2#32
  let c0_i32_62 : BitVec 32 := 0#32
  ![v120.toNat, v103.toNat, 2, 0]
def k0_off33 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_63 : BitVec 32 := 0#32
  let c256_i32 : BitVec 32 := 256#32
  ![v9.toNat, 0, 256]
def k0_off34 (i : grid0.Coords) : Fin 4 → Nat :=
  let arg0 : BitVec 32 := BitVec.ofNat 32 (i 0).val
  let c0_i32_72 : BitVec 32 := 0#32
  let v139 : BitVec 1 := Scalar.cmpi .sgt arg0 c0_i32_72
  let v140 : BitVec 32 := Scalar.extui v139
  let c0_i32_73 : BitVec 32 := 0#32
  let v141 : BitVec 1 := Scalar.cmpi .slt arg0 c0_i32_73
  let v142 : BitVec 32 := Scalar.extui v141
  let v143 : BitVec 32 := Scalar.subi v140 v142
  let c16_i32_71 : BitVec 32 := 16#32
  let c0_i32_74 : BitVec 32 := 0#32
  let v144 : BitVec 1 := Scalar.cmpi .sgt c16_i32_71 c0_i32_74
  let v145 : BitVec 32 := Scalar.extui v144
  let c0_i32_75 : BitVec 32 := 0#32
  let v146 : BitVec 1 := Scalar.cmpi .slt c16_i32_71 c0_i32_75
  let v147 : BitVec 32 := Scalar.extui v146
  let v148 : BitVec 32 := Scalar.subi v145 v147
  let v149 : BitVec 1 := Scalar.cmpi .ne v143 v148
  let v150 : BitVec 32 := Scalar.remsi arg0 c16_i32_71
  let c0_i32_76 : BitVec 32 := 0#32
  let v151 : BitVec 1 := Scalar.cmpi .ne v150 c0_i32_76
  let v152 : BitVec 1 := Scalar.andi v149 v151
  let v138 : BitVec 32 := Scalar.divsi arg0 c16_i32_71
  let c1_i32_77 : BitVec 32 := 1#32
  let v153 : BitVec 32 := Scalar.subi v138 c1_i32_77
  let v154 : BitVec 32 := Scalar.select v152 v153 v138
  let c16_i32_64 : BitVec 32 := 16#32
  let c0_i32_65 : BitVec 32 := 0#32
  let v127 : BitVec 1 := Scalar.cmpi .eq c16_i32_64 c0_i32_65
  let c1_i32_66 : BitVec 32 := 1#32
  let v128 : BitVec 32 := Scalar.select v127 c1_i32_66 c16_i32_64
  let v129 : BitVec 32 := Scalar.remsi arg0 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c512_i32_70 : BitVec 32 := 512#32
  let v137 : BitVec 32 := Scalar.muli v136 c512_i32_70
  let c3_i32 : BitVec 32 := 3#32
  let c0_i32_78 : BitVec 32 := 0#32
  ![v154.toNat, v137.toNat, 3, 0]
def k0_off35 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_79 : BitVec 32 := 0#32
  let c384_i32 : BitVec 32 := 384#32
  ![v9.toNat, 0, 384]
def k0_off36 (i : grid0.Coords) : Fin 4 → Nat :=
  let arg0 : BitVec 32 := BitVec.ofNat 32 (i 0).val
  let c0_i32_88 : BitVec 32 := 0#32
  let v173 : BitVec 1 := Scalar.cmpi .sgt arg0 c0_i32_88
  let v174 : BitVec 32 := Scalar.extui v173
  let c0_i32_89 : BitVec 32 := 0#32
  let v175 : BitVec 1 := Scalar.cmpi .slt arg0 c0_i32_89
  let v176 : BitVec 32 := Scalar.extui v175
  let v177 : BitVec 32 := Scalar.subi v174 v176
  let c16_i32_87 : BitVec 32 := 16#32
  let c0_i32_90 : BitVec 32 := 0#32
  let v178 : BitVec 1 := Scalar.cmpi .sgt c16_i32_87 c0_i32_90
  let v179 : BitVec 32 := Scalar.extui v178
  let c0_i32_91 : BitVec 32 := 0#32
  let v180 : BitVec 1 := Scalar.cmpi .slt c16_i32_87 c0_i32_91
  let v181 : BitVec 32 := Scalar.extui v180
  let v182 : BitVec 32 := Scalar.subi v179 v181
  let v183 : BitVec 1 := Scalar.cmpi .ne v177 v182
  let v184 : BitVec 32 := Scalar.remsi arg0 c16_i32_87
  let c0_i32_92 : BitVec 32 := 0#32
  let v185 : BitVec 1 := Scalar.cmpi .ne v184 c0_i32_92
  let v186 : BitVec 1 := Scalar.andi v183 v185
  let v172 : BitVec 32 := Scalar.divsi arg0 c16_i32_87
  let c1_i32_93 : BitVec 32 := 1#32
  let v187 : BitVec 32 := Scalar.subi v172 c1_i32_93
  let v188 : BitVec 32 := Scalar.select v186 v187 v172
  let c16_i32_80 : BitVec 32 := 16#32
  let c0_i32_81 : BitVec 32 := 0#32
  let v161 : BitVec 1 := Scalar.cmpi .eq c16_i32_80 c0_i32_81
  let c1_i32_82 : BitVec 32 := 1#32
  let v162 : BitVec 32 := Scalar.select v161 c1_i32_82 c16_i32_80
  let v163 : BitVec 32 := Scalar.remsi arg0 v162
  let c0_i32_84 : BitVec 32 := 0#32
  let v165 : BitVec 1 := Scalar.cmpi .slt v163 c0_i32_84
  let c0_i32_85 : BitVec 32 := 0#32
  let v166 : BitVec 1 := Scalar.cmpi .slt v162 c0_i32_85
  let v167 : BitVec 1 := Scalar.xori v165 v166
  let c0_i32_83 : BitVec 32 := 0#32
  let v164 : BitVec 1 := Scalar.cmpi .ne v163 c0_i32_83
  let v168 : BitVec 1 := Scalar.andi v167 v164
  let v169 : BitVec 32 := Scalar.addi v163 v162
  let v170 : BitVec 32 := Scalar.select v168 v169 v163
  let c512_i32_86 : BitVec 32 := 512#32
  let v171 : BitVec 32 := Scalar.muli v170 c512_i32_86
  let c4_i32 : BitVec 32 := 4#32
  let c0_i32_94 : BitVec 32 := 0#32
  ![v188.toNat, v171.toNat, 4, 0]
def k0_off37 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_95 : BitVec 32 := 0#32
  let c512_i32_96 : BitVec 32 := 512#32
  ![v9.toNat, 0, 512]
def k0_off38 (i : grid0.Coords) : Fin 4 → Nat :=
  let arg0 : BitVec 32 := BitVec.ofNat 32 (i 0).val
  let c0_i32_105 : BitVec 32 := 0#32
  let v207 : BitVec 1 := Scalar.cmpi .sgt arg0 c0_i32_105
  let v208 : BitVec 32 := Scalar.extui v207
  let c0_i32_106 : BitVec 32 := 0#32
  let v209 : BitVec 1 := Scalar.cmpi .slt arg0 c0_i32_106
  let v210 : BitVec 32 := Scalar.extui v209
  let v211 : BitVec 32 := Scalar.subi v208 v210
  let c16_i32_104 : BitVec 32 := 16#32
  let c0_i32_107 : BitVec 32 := 0#32
  let v212 : BitVec 1 := Scalar.cmpi .sgt c16_i32_104 c0_i32_107
  let v213 : BitVec 32 := Scalar.extui v212
  let c0_i32_108 : BitVec 32 := 0#32
  let v214 : BitVec 1 := Scalar.cmpi .slt c16_i32_104 c0_i32_108
  let v215 : BitVec 32 := Scalar.extui v214
  let v216 : BitVec 32 := Scalar.subi v213 v215
  let v217 : BitVec 1 := Scalar.cmpi .ne v211 v216
  let v218 : BitVec 32 := Scalar.remsi arg0 c16_i32_104
  let c0_i32_109 : BitVec 32 := 0#32
  let v219 : BitVec 1 := Scalar.cmpi .ne v218 c0_i32_109
  let v220 : BitVec 1 := Scalar.andi v217 v219
  let v206 : BitVec 32 := Scalar.divsi arg0 c16_i32_104
  let c1_i32_110 : BitVec 32 := 1#32
  let v221 : BitVec 32 := Scalar.subi v206 c1_i32_110
  let v222 : BitVec 32 := Scalar.select v220 v221 v206
  let c16_i32_97 : BitVec 32 := 16#32
  let c0_i32_98 : BitVec 32 := 0#32
  let v195 : BitVec 1 := Scalar.cmpi .eq c16_i32_97 c0_i32_98
  let c1_i32_99 : BitVec 32 := 1#32
  let v196 : BitVec 32 := Scalar.select v195 c1_i32_99 c16_i32_97
  let v197 : BitVec 32 := Scalar.remsi arg0 v196
  let c0_i32_101 : BitVec 32 := 0#32
  let v199 : BitVec 1 := Scalar.cmpi .slt v197 c0_i32_101
  let c0_i32_102 : BitVec 32 := 0#32
  let v200 : BitVec 1 := Scalar.cmpi .slt v196 c0_i32_102
  let v201 : BitVec 1 := Scalar.xori v199 v200
  let c0_i32_100 : BitVec 32 := 0#32
  let v198 : BitVec 1 := Scalar.cmpi .ne v197 c0_i32_100
  let v202 : BitVec 1 := Scalar.andi v201 v198
  let v203 : BitVec 32 := Scalar.addi v197 v196
  let v204 : BitVec 32 := Scalar.select v202 v203 v197
  let c512_i32_103 : BitVec 32 := 512#32
  let v205 : BitVec 32 := Scalar.muli v204 c512_i32_103
  let c5_i32 : BitVec 32 := 5#32
  let c0_i32_111 : BitVec 32 := 0#32
  ![v222.toNat, v205.toNat, 5, 0]
def k0_off39 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_112 : BitVec 32 := 0#32
  let c640_i32 : BitVec 32 := 640#32
  ![v9.toNat, 0, 640]
def k0_off40 (i : grid0.Coords) : Fin 4 → Nat :=
  let arg0 : BitVec 32 := BitVec.ofNat 32 (i 0).val
  let c0_i32_121 : BitVec 32 := 0#32
  let v241 : BitVec 1 := Scalar.cmpi .sgt arg0 c0_i32_121
  let v242 : BitVec 32 := Scalar.extui v241
  let c0_i32_122 : BitVec 32 := 0#32
  let v243 : BitVec 1 := Scalar.cmpi .slt arg0 c0_i32_122
  let v244 : BitVec 32 := Scalar.extui v243
  let v245 : BitVec 32 := Scalar.subi v242 v244
  let c16_i32_120 : BitVec 32 := 16#32
  let c0_i32_123 : BitVec 32 := 0#32
  let v246 : BitVec 1 := Scalar.cmpi .sgt c16_i32_120 c0_i32_123
  let v247 : BitVec 32 := Scalar.extui v246
  let c0_i32_124 : BitVec 32 := 0#32
  let v248 : BitVec 1 := Scalar.cmpi .slt c16_i32_120 c0_i32_124
  let v249 : BitVec 32 := Scalar.extui v248
  let v250 : BitVec 32 := Scalar.subi v247 v249
  let v251 : BitVec 1 := Scalar.cmpi .ne v245 v250
  let v252 : BitVec 32 := Scalar.remsi arg0 c16_i32_120
  let c0_i32_125 : BitVec 32 := 0#32
  let v253 : BitVec 1 := Scalar.cmpi .ne v252 c0_i32_125
  let v254 : BitVec 1 := Scalar.andi v251 v253
  let v240 : BitVec 32 := Scalar.divsi arg0 c16_i32_120
  let c1_i32_126 : BitVec 32 := 1#32
  let v255 : BitVec 32 := Scalar.subi v240 c1_i32_126
  let v256 : BitVec 32 := Scalar.select v254 v255 v240
  let c16_i32_113 : BitVec 32 := 16#32
  let c0_i32_114 : BitVec 32 := 0#32
  let v229 : BitVec 1 := Scalar.cmpi .eq c16_i32_113 c0_i32_114
  let c1_i32_115 : BitVec 32 := 1#32
  let v230 : BitVec 32 := Scalar.select v229 c1_i32_115 c16_i32_113
  let v231 : BitVec 32 := Scalar.remsi arg0 v230
  let c0_i32_117 : BitVec 32 := 0#32
  let v233 : BitVec 1 := Scalar.cmpi .slt v231 c0_i32_117
  let c0_i32_118 : BitVec 32 := 0#32
  let v234 : BitVec 1 := Scalar.cmpi .slt v230 c0_i32_118
  let v235 : BitVec 1 := Scalar.xori v233 v234
  let c0_i32_116 : BitVec 32 := 0#32
  let v232 : BitVec 1 := Scalar.cmpi .ne v231 c0_i32_116
  let v236 : BitVec 1 := Scalar.andi v235 v232
  let v237 : BitVec 32 := Scalar.addi v231 v230
  let v238 : BitVec 32 := Scalar.select v236 v237 v231
  let c512_i32_119 : BitVec 32 := 512#32
  let v239 : BitVec 32 := Scalar.muli v238 c512_i32_119
  let c6_i32 : BitVec 32 := 6#32
  let c0_i32_127 : BitVec 32 := 0#32
  ![v256.toNat, v239.toNat, 6, 0]
def k0_off41 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_128 : BitVec 32 := 0#32
  let c768_i32 : BitVec 32 := 768#32
  ![v9.toNat, 0, 768]
def k0_off42 (i : grid0.Coords) : Fin 4 → Nat :=
  let arg0 : BitVec 32 := BitVec.ofNat 32 (i 0).val
  let c0_i32_137 : BitVec 32 := 0#32
  let v275 : BitVec 1 := Scalar.cmpi .sgt arg0 c0_i32_137
  let v276 : BitVec 32 := Scalar.extui v275
  let c0_i32_138 : BitVec 32 := 0#32
  let v277 : BitVec 1 := Scalar.cmpi .slt arg0 c0_i32_138
  let v278 : BitVec 32 := Scalar.extui v277
  let v279 : BitVec 32 := Scalar.subi v276 v278
  let c16_i32_136 : BitVec 32 := 16#32
  let c0_i32_139 : BitVec 32 := 0#32
  let v280 : BitVec 1 := Scalar.cmpi .sgt c16_i32_136 c0_i32_139
  let v281 : BitVec 32 := Scalar.extui v280
  let c0_i32_140 : BitVec 32 := 0#32
  let v282 : BitVec 1 := Scalar.cmpi .slt c16_i32_136 c0_i32_140
  let v283 : BitVec 32 := Scalar.extui v282
  let v284 : BitVec 32 := Scalar.subi v281 v283
  let v285 : BitVec 1 := Scalar.cmpi .ne v279 v284
  let v286 : BitVec 32 := Scalar.remsi arg0 c16_i32_136
  let c0_i32_141 : BitVec 32 := 0#32
  let v287 : BitVec 1 := Scalar.cmpi .ne v286 c0_i32_141
  let v288 : BitVec 1 := Scalar.andi v285 v287
  let v274 : BitVec 32 := Scalar.divsi arg0 c16_i32_136
  let c1_i32_142 : BitVec 32 := 1#32
  let v289 : BitVec 32 := Scalar.subi v274 c1_i32_142
  let v290 : BitVec 32 := Scalar.select v288 v289 v274
  let c16_i32_129 : BitVec 32 := 16#32
  let c0_i32_130 : BitVec 32 := 0#32
  let v263 : BitVec 1 := Scalar.cmpi .eq c16_i32_129 c0_i32_130
  let c1_i32_131 : BitVec 32 := 1#32
  let v264 : BitVec 32 := Scalar.select v263 c1_i32_131 c16_i32_129
  let v265 : BitVec 32 := Scalar.remsi arg0 v264
  let c0_i32_133 : BitVec 32 := 0#32
  let v267 : BitVec 1 := Scalar.cmpi .slt v265 c0_i32_133
  let c0_i32_134 : BitVec 32 := 0#32
  let v268 : BitVec 1 := Scalar.cmpi .slt v264 c0_i32_134
  let v269 : BitVec 1 := Scalar.xori v267 v268
  let c0_i32_132 : BitVec 32 := 0#32
  let v266 : BitVec 1 := Scalar.cmpi .ne v265 c0_i32_132
  let v270 : BitVec 1 := Scalar.andi v269 v266
  let v271 : BitVec 32 := Scalar.addi v265 v264
  let v272 : BitVec 32 := Scalar.select v270 v271 v265
  let c512_i32_135 : BitVec 32 := 512#32
  let v273 : BitVec 32 := Scalar.muli v272 c512_i32_135
  let c7_i32 : BitVec 32 := 7#32
  let c0_i32_143 : BitVec 32 := 0#32
  ![v290.toNat, v273.toNat, 7, 0]
def k0_off43 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_144 : BitVec 32 := 0#32
  let c896_i32 : BitVec 32 := 896#32
  ![v9.toNat, 0, 896]
def k0_off44 (i : grid0.Coords) : Fin 4 → Nat :=
  let arg0 : BitVec 32 := BitVec.ofNat 32 (i 0).val
  let c0_i32_153 : BitVec 32 := 0#32
  let v309 : BitVec 1 := Scalar.cmpi .sgt arg0 c0_i32_153
  let v310 : BitVec 32 := Scalar.extui v309
  let c0_i32_154 : BitVec 32 := 0#32
  let v311 : BitVec 1 := Scalar.cmpi .slt arg0 c0_i32_154
  let v312 : BitVec 32 := Scalar.extui v311
  let v313 : BitVec 32 := Scalar.subi v310 v312
  let c16_i32_152 : BitVec 32 := 16#32
  let c0_i32_155 : BitVec 32 := 0#32
  let v314 : BitVec 1 := Scalar.cmpi .sgt c16_i32_152 c0_i32_155
  let v315 : BitVec 32 := Scalar.extui v314
  let c0_i32_156 : BitVec 32 := 0#32
  let v316 : BitVec 1 := Scalar.cmpi .slt c16_i32_152 c0_i32_156
  let v317 : BitVec 32 := Scalar.extui v316
  let v318 : BitVec 32 := Scalar.subi v315 v317
  let v319 : BitVec 1 := Scalar.cmpi .ne v313 v318
  let v320 : BitVec 32 := Scalar.remsi arg0 c16_i32_152
  let c0_i32_157 : BitVec 32 := 0#32
  let v321 : BitVec 1 := Scalar.cmpi .ne v320 c0_i32_157
  let v322 : BitVec 1 := Scalar.andi v319 v321
  let v308 : BitVec 32 := Scalar.divsi arg0 c16_i32_152
  let c1_i32_158 : BitVec 32 := 1#32
  let v323 : BitVec 32 := Scalar.subi v308 c1_i32_158
  let v324 : BitVec 32 := Scalar.select v322 v323 v308
  let c16_i32_145 : BitVec 32 := 16#32
  let c0_i32_146 : BitVec 32 := 0#32
  let v297 : BitVec 1 := Scalar.cmpi .eq c16_i32_145 c0_i32_146
  let c1_i32_147 : BitVec 32 := 1#32
  let v298 : BitVec 32 := Scalar.select v297 c1_i32_147 c16_i32_145
  let v299 : BitVec 32 := Scalar.remsi arg0 v298
  let c0_i32_149 : BitVec 32 := 0#32
  let v301 : BitVec 1 := Scalar.cmpi .slt v299 c0_i32_149
  let c0_i32_150 : BitVec 32 := 0#32
  let v302 : BitVec 1 := Scalar.cmpi .slt v298 c0_i32_150
  let v303 : BitVec 1 := Scalar.xori v301 v302
  let c0_i32_148 : BitVec 32 := 0#32
  let v300 : BitVec 1 := Scalar.cmpi .ne v299 c0_i32_148
  let v304 : BitVec 1 := Scalar.andi v303 v300
  let v305 : BitVec 32 := Scalar.addi v299 v298
  let v306 : BitVec 32 := Scalar.select v304 v305 v299
  let c512_i32_151 : BitVec 32 := 512#32
  let v307 : BitVec 32 := Scalar.muli v306 c512_i32_151
  let c8_i32 : BitVec 32 := 8#32
  let c0_i32_159 : BitVec 32 := 0#32
  ![v324.toNat, v307.toNat, 8, 0]
def k0_off45 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_160 : BitVec 32 := 0#32
  let c1024_i32 : BitVec 32 := 1024#32
  ![v9.toNat, 0, 1024]
def k0_off46 (i : grid0.Coords) : Fin 4 → Nat :=
  let arg0 : BitVec 32 := BitVec.ofNat 32 (i 0).val
  let c0_i32_169 : BitVec 32 := 0#32
  let v343 : BitVec 1 := Scalar.cmpi .sgt arg0 c0_i32_169
  let v344 : BitVec 32 := Scalar.extui v343
  let c0_i32_170 : BitVec 32 := 0#32
  let v345 : BitVec 1 := Scalar.cmpi .slt arg0 c0_i32_170
  let v346 : BitVec 32 := Scalar.extui v345
  let v347 : BitVec 32 := Scalar.subi v344 v346
  let c16_i32_168 : BitVec 32 := 16#32
  let c0_i32_171 : BitVec 32 := 0#32
  let v348 : BitVec 1 := Scalar.cmpi .sgt c16_i32_168 c0_i32_171
  let v349 : BitVec 32 := Scalar.extui v348
  let c0_i32_172 : BitVec 32 := 0#32
  let v350 : BitVec 1 := Scalar.cmpi .slt c16_i32_168 c0_i32_172
  let v351 : BitVec 32 := Scalar.extui v350
  let v352 : BitVec 32 := Scalar.subi v349 v351
  let v353 : BitVec 1 := Scalar.cmpi .ne v347 v352
  let v354 : BitVec 32 := Scalar.remsi arg0 c16_i32_168
  let c0_i32_173 : BitVec 32 := 0#32
  let v355 : BitVec 1 := Scalar.cmpi .ne v354 c0_i32_173
  let v356 : BitVec 1 := Scalar.andi v353 v355
  let v342 : BitVec 32 := Scalar.divsi arg0 c16_i32_168
  let c1_i32_174 : BitVec 32 := 1#32
  let v357 : BitVec 32 := Scalar.subi v342 c1_i32_174
  let v358 : BitVec 32 := Scalar.select v356 v357 v342
  let c16_i32_161 : BitVec 32 := 16#32
  let c0_i32_162 : BitVec 32 := 0#32
  let v331 : BitVec 1 := Scalar.cmpi .eq c16_i32_161 c0_i32_162
  let c1_i32_163 : BitVec 32 := 1#32
  let v332 : BitVec 32 := Scalar.select v331 c1_i32_163 c16_i32_161
  let v333 : BitVec 32 := Scalar.remsi arg0 v332
  let c0_i32_165 : BitVec 32 := 0#32
  let v335 : BitVec 1 := Scalar.cmpi .slt v333 c0_i32_165
  let c0_i32_166 : BitVec 32 := 0#32
  let v336 : BitVec 1 := Scalar.cmpi .slt v332 c0_i32_166
  let v337 : BitVec 1 := Scalar.xori v335 v336
  let c0_i32_164 : BitVec 32 := 0#32
  let v334 : BitVec 1 := Scalar.cmpi .ne v333 c0_i32_164
  let v338 : BitVec 1 := Scalar.andi v337 v334
  let v339 : BitVec 32 := Scalar.addi v333 v332
  let v340 : BitVec 32 := Scalar.select v338 v339 v333
  let c512_i32_167 : BitVec 32 := 512#32
  let v341 : BitVec 32 := Scalar.muli v340 c512_i32_167
  let c9_i32 : BitVec 32 := 9#32
  let c0_i32_175 : BitVec 32 := 0#32
  ![v358.toNat, v341.toNat, 9, 0]
def k0_off47 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_176 : BitVec 32 := 0#32
  let c1152_i32 : BitVec 32 := 1152#32
  ![v9.toNat, 0, 1152]
def k0_off48 (i : grid0.Coords) : Fin 4 → Nat :=
  let arg0 : BitVec 32 := BitVec.ofNat 32 (i 0).val
  let c0_i32_185 : BitVec 32 := 0#32
  let v377 : BitVec 1 := Scalar.cmpi .sgt arg0 c0_i32_185
  let v378 : BitVec 32 := Scalar.extui v377
  let c0_i32_186 : BitVec 32 := 0#32
  let v379 : BitVec 1 := Scalar.cmpi .slt arg0 c0_i32_186
  let v380 : BitVec 32 := Scalar.extui v379
  let v381 : BitVec 32 := Scalar.subi v378 v380
  let c16_i32_184 : BitVec 32 := 16#32
  let c0_i32_187 : BitVec 32 := 0#32
  let v382 : BitVec 1 := Scalar.cmpi .sgt c16_i32_184 c0_i32_187
  let v383 : BitVec 32 := Scalar.extui v382
  let c0_i32_188 : BitVec 32 := 0#32
  let v384 : BitVec 1 := Scalar.cmpi .slt c16_i32_184 c0_i32_188
  let v385 : BitVec 32 := Scalar.extui v384
  let v386 : BitVec 32 := Scalar.subi v383 v385
  let v387 : BitVec 1 := Scalar.cmpi .ne v381 v386
  let v388 : BitVec 32 := Scalar.remsi arg0 c16_i32_184
  let c0_i32_189 : BitVec 32 := 0#32
  let v389 : BitVec 1 := Scalar.cmpi .ne v388 c0_i32_189
  let v390 : BitVec 1 := Scalar.andi v387 v389
  let v376 : BitVec 32 := Scalar.divsi arg0 c16_i32_184
  let c1_i32_190 : BitVec 32 := 1#32
  let v391 : BitVec 32 := Scalar.subi v376 c1_i32_190
  let v392 : BitVec 32 := Scalar.select v390 v391 v376
  let c16_i32_177 : BitVec 32 := 16#32
  let c0_i32_178 : BitVec 32 := 0#32
  let v365 : BitVec 1 := Scalar.cmpi .eq c16_i32_177 c0_i32_178
  let c1_i32_179 : BitVec 32 := 1#32
  let v366 : BitVec 32 := Scalar.select v365 c1_i32_179 c16_i32_177
  let v367 : BitVec 32 := Scalar.remsi arg0 v366
  let c0_i32_181 : BitVec 32 := 0#32
  let v369 : BitVec 1 := Scalar.cmpi .slt v367 c0_i32_181
  let c0_i32_182 : BitVec 32 := 0#32
  let v370 : BitVec 1 := Scalar.cmpi .slt v366 c0_i32_182
  let v371 : BitVec 1 := Scalar.xori v369 v370
  let c0_i32_180 : BitVec 32 := 0#32
  let v368 : BitVec 1 := Scalar.cmpi .ne v367 c0_i32_180
  let v372 : BitVec 1 := Scalar.andi v371 v368
  let v373 : BitVec 32 := Scalar.addi v367 v366
  let v374 : BitVec 32 := Scalar.select v372 v373 v367
  let c512_i32_183 : BitVec 32 := 512#32
  let v375 : BitVec 32 := Scalar.muli v374 c512_i32_183
  let c10_i32 : BitVec 32 := 10#32
  let c0_i32_191 : BitVec 32 := 0#32
  ![v392.toNat, v375.toNat, 10, 0]
def k0_off49 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_192 : BitVec 32 := 0#32
  let c1280_i32 : BitVec 32 := 1280#32
  ![v9.toNat, 0, 1280]
def k0_off50 (i : grid0.Coords) : Fin 4 → Nat :=
  let arg0 : BitVec 32 := BitVec.ofNat 32 (i 0).val
  let c0_i32_201 : BitVec 32 := 0#32
  let v411 : BitVec 1 := Scalar.cmpi .sgt arg0 c0_i32_201
  let v412 : BitVec 32 := Scalar.extui v411
  let c0_i32_202 : BitVec 32 := 0#32
  let v413 : BitVec 1 := Scalar.cmpi .slt arg0 c0_i32_202
  let v414 : BitVec 32 := Scalar.extui v413
  let v415 : BitVec 32 := Scalar.subi v412 v414
  let c16_i32_200 : BitVec 32 := 16#32
  let c0_i32_203 : BitVec 32 := 0#32
  let v416 : BitVec 1 := Scalar.cmpi .sgt c16_i32_200 c0_i32_203
  let v417 : BitVec 32 := Scalar.extui v416
  let c0_i32_204 : BitVec 32 := 0#32
  let v418 : BitVec 1 := Scalar.cmpi .slt c16_i32_200 c0_i32_204
  let v419 : BitVec 32 := Scalar.extui v418
  let v420 : BitVec 32 := Scalar.subi v417 v419
  let v421 : BitVec 1 := Scalar.cmpi .ne v415 v420
  let v422 : BitVec 32 := Scalar.remsi arg0 c16_i32_200
  let c0_i32_205 : BitVec 32 := 0#32
  let v423 : BitVec 1 := Scalar.cmpi .ne v422 c0_i32_205
  let v424 : BitVec 1 := Scalar.andi v421 v423
  let v410 : BitVec 32 := Scalar.divsi arg0 c16_i32_200
  let c1_i32_206 : BitVec 32 := 1#32
  let v425 : BitVec 32 := Scalar.subi v410 c1_i32_206
  let v426 : BitVec 32 := Scalar.select v424 v425 v410
  let c16_i32_193 : BitVec 32 := 16#32
  let c0_i32_194 : BitVec 32 := 0#32
  let v399 : BitVec 1 := Scalar.cmpi .eq c16_i32_193 c0_i32_194
  let c1_i32_195 : BitVec 32 := 1#32
  let v400 : BitVec 32 := Scalar.select v399 c1_i32_195 c16_i32_193
  let v401 : BitVec 32 := Scalar.remsi arg0 v400
  let c0_i32_197 : BitVec 32 := 0#32
  let v403 : BitVec 1 := Scalar.cmpi .slt v401 c0_i32_197
  let c0_i32_198 : BitVec 32 := 0#32
  let v404 : BitVec 1 := Scalar.cmpi .slt v400 c0_i32_198
  let v405 : BitVec 1 := Scalar.xori v403 v404
  let c0_i32_196 : BitVec 32 := 0#32
  let v402 : BitVec 1 := Scalar.cmpi .ne v401 c0_i32_196
  let v406 : BitVec 1 := Scalar.andi v405 v402
  let v407 : BitVec 32 := Scalar.addi v401 v400
  let v408 : BitVec 32 := Scalar.select v406 v407 v401
  let c512_i32_199 : BitVec 32 := 512#32
  let v409 : BitVec 32 := Scalar.muli v408 c512_i32_199
  let c11_i32 : BitVec 32 := 11#32
  let c0_i32_207 : BitVec 32 := 0#32
  ![v426.toNat, v409.toNat, 11, 0]
def k0_off51 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_208 : BitVec 32 := 0#32
  let c1408_i32 : BitVec 32 := 1408#32
  ![v9.toNat, 0, 1408]
def k0_cond2 (i : grid0.Coords) : BitVec 1 :=
  let arg0 : BitVec 32 := BitVec.ofNat 32 (i 0).val
  let c63_i32 : BitVec 32 := 63#32
  let v433 : BitVec 1 := Scalar.cmpi .eq arg0 c63_i32
  let v434 : BitVec 32 := Scalar.extui v433
  let c0_i32_209 : BitVec 32 := 0#32
  let v435 : BitVec 1 := Scalar.cmpi .ne v434 c0_i32_209
  v435

def k0_off52 (i : grid0.Coords) : Fin 1 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  ![v437.toNat]
def k0_off53 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_220 : BitVec 32 := 0#32
  let v450 : BitVec 1 := Scalar.cmpi .sgt v436 c0_i32_220
  let v451 : BitVec 32 := Scalar.extui v450
  let c0_i32_221 : BitVec 32 := 0#32
  let v452 : BitVec 1 := Scalar.cmpi .slt v436 c0_i32_221
  let v453 : BitVec 32 := Scalar.extui v452
  let v454 : BitVec 32 := Scalar.subi v451 v453
  let c16_i32_219 : BitVec 32 := 16#32
  let c0_i32_222 : BitVec 32 := 0#32
  let v455 : BitVec 1 := Scalar.cmpi .sgt c16_i32_219 c0_i32_222
  let v456 : BitVec 32 := Scalar.extui v455
  let c0_i32_223 : BitVec 32 := 0#32
  let v457 : BitVec 1 := Scalar.cmpi .slt c16_i32_219 c0_i32_223
  let v458 : BitVec 32 := Scalar.extui v457
  let v459 : BitVec 32 := Scalar.subi v456 v458
  let v460 : BitVec 1 := Scalar.cmpi .ne v454 v459
  let v461 : BitVec 32 := Scalar.remsi v436 c16_i32_219
  let c0_i32_224 : BitVec 32 := 0#32
  let v462 : BitVec 1 := Scalar.cmpi .ne v461 c0_i32_224
  let v463 : BitVec 1 := Scalar.andi v460 v462
  let v449 : BitVec 32 := Scalar.divsi v436 c16_i32_219
  let c1_i32_225 : BitVec 32 := 1#32
  let v464 : BitVec 32 := Scalar.subi v449 c1_i32_225
  let v465 : BitVec 32 := Scalar.select v463 v464 v449
  let c16_i32_212 : BitVec 32 := 16#32
  let c0_i32_213 : BitVec 32 := 0#32
  let v438 : BitVec 1 := Scalar.cmpi .eq c16_i32_212 c0_i32_213
  let c1_i32_214 : BitVec 32 := 1#32
  let v439 : BitVec 32 := Scalar.select v438 c1_i32_214 c16_i32_212
  let v440 : BitVec 32 := Scalar.remsi v436 v439
  let c0_i32_216 : BitVec 32 := 0#32
  let v442 : BitVec 1 := Scalar.cmpi .slt v440 c0_i32_216
  let c0_i32_217 : BitVec 32 := 0#32
  let v443 : BitVec 1 := Scalar.cmpi .slt v439 c0_i32_217
  let v444 : BitVec 1 := Scalar.xori v442 v443
  let c0_i32_215 : BitVec 32 := 0#32
  let v441 : BitVec 1 := Scalar.cmpi .ne v440 c0_i32_215
  let v445 : BitVec 1 := Scalar.andi v444 v441
  let v446 : BitVec 32 := Scalar.addi v440 v439
  let v447 : BitVec 32 := Scalar.select v445 v446 v440
  let c512_i32_218 : BitVec 32 := 512#32
  let v448 : BitVec 32 := Scalar.muli v447 c512_i32_218
  let c0_i32_226 : BitVec 32 := 0#32
  let c0_i32_227 : BitVec 32 := 0#32
  ![v465.toNat, v448.toNat, 0, 0]
def k0_off54 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_228 : BitVec 32 := 0#32
  let c0_i32_229 : BitVec 32 := 0#32
  ![v437.toNat, 0, 0]
def k0_off55 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_238 : BitVec 32 := 0#32
  let v484 : BitVec 1 := Scalar.cmpi .sgt v436 c0_i32_238
  let v485 : BitVec 32 := Scalar.extui v484
  let c0_i32_239 : BitVec 32 := 0#32
  let v486 : BitVec 1 := Scalar.cmpi .slt v436 c0_i32_239
  let v487 : BitVec 32 := Scalar.extui v486
  let v488 : BitVec 32 := Scalar.subi v485 v487
  let c16_i32_237 : BitVec 32 := 16#32
  let c0_i32_240 : BitVec 32 := 0#32
  let v489 : BitVec 1 := Scalar.cmpi .sgt c16_i32_237 c0_i32_240
  let v490 : BitVec 32 := Scalar.extui v489
  let c0_i32_241 : BitVec 32 := 0#32
  let v491 : BitVec 1 := Scalar.cmpi .slt c16_i32_237 c0_i32_241
  let v492 : BitVec 32 := Scalar.extui v491
  let v493 : BitVec 32 := Scalar.subi v490 v492
  let v494 : BitVec 1 := Scalar.cmpi .ne v488 v493
  let v495 : BitVec 32 := Scalar.remsi v436 c16_i32_237
  let c0_i32_242 : BitVec 32 := 0#32
  let v496 : BitVec 1 := Scalar.cmpi .ne v495 c0_i32_242
  let v497 : BitVec 1 := Scalar.andi v494 v496
  let v483 : BitVec 32 := Scalar.divsi v436 c16_i32_237
  let c1_i32_243 : BitVec 32 := 1#32
  let v498 : BitVec 32 := Scalar.subi v483 c1_i32_243
  let v499 : BitVec 32 := Scalar.select v497 v498 v483
  let c16_i32_230 : BitVec 32 := 16#32
  let c0_i32_231 : BitVec 32 := 0#32
  let v472 : BitVec 1 := Scalar.cmpi .eq c16_i32_230 c0_i32_231
  let c1_i32_232 : BitVec 32 := 1#32
  let v473 : BitVec 32 := Scalar.select v472 c1_i32_232 c16_i32_230
  let v474 : BitVec 32 := Scalar.remsi v436 v473
  let c0_i32_234 : BitVec 32 := 0#32
  let v476 : BitVec 1 := Scalar.cmpi .slt v474 c0_i32_234
  let c0_i32_235 : BitVec 32 := 0#32
  let v477 : BitVec 1 := Scalar.cmpi .slt v473 c0_i32_235
  let v478 : BitVec 1 := Scalar.xori v476 v477
  let c0_i32_233 : BitVec 32 := 0#32
  let v475 : BitVec 1 := Scalar.cmpi .ne v474 c0_i32_233
  let v479 : BitVec 1 := Scalar.andi v478 v475
  let v480 : BitVec 32 := Scalar.addi v474 v473
  let v481 : BitVec 32 := Scalar.select v479 v480 v474
  let c512_i32_236 : BitVec 32 := 512#32
  let v482 : BitVec 32 := Scalar.muli v481 c512_i32_236
  let c1_i32_244 : BitVec 32 := 1#32
  let c0_i32_245 : BitVec 32 := 0#32
  ![v499.toNat, v482.toNat, 1, 0]
def k0_off56 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_246 : BitVec 32 := 0#32
  let c128_i32_247 : BitVec 32 := 128#32
  ![v437.toNat, 0, 128]
def k0_off57 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_256 : BitVec 32 := 0#32
  let v518 : BitVec 1 := Scalar.cmpi .sgt v436 c0_i32_256
  let v519 : BitVec 32 := Scalar.extui v518
  let c0_i32_257 : BitVec 32 := 0#32
  let v520 : BitVec 1 := Scalar.cmpi .slt v436 c0_i32_257
  let v521 : BitVec 32 := Scalar.extui v520
  let v522 : BitVec 32 := Scalar.subi v519 v521
  let c16_i32_255 : BitVec 32 := 16#32
  let c0_i32_258 : BitVec 32 := 0#32
  let v523 : BitVec 1 := Scalar.cmpi .sgt c16_i32_255 c0_i32_258
  let v524 : BitVec 32 := Scalar.extui v523
  let c0_i32_259 : BitVec 32 := 0#32
  let v525 : BitVec 1 := Scalar.cmpi .slt c16_i32_255 c0_i32_259
  let v526 : BitVec 32 := Scalar.extui v525
  let v527 : BitVec 32 := Scalar.subi v524 v526
  let v528 : BitVec 1 := Scalar.cmpi .ne v522 v527
  let v529 : BitVec 32 := Scalar.remsi v436 c16_i32_255
  let c0_i32_260 : BitVec 32 := 0#32
  let v530 : BitVec 1 := Scalar.cmpi .ne v529 c0_i32_260
  let v531 : BitVec 1 := Scalar.andi v528 v530
  let v517 : BitVec 32 := Scalar.divsi v436 c16_i32_255
  let c1_i32_261 : BitVec 32 := 1#32
  let v532 : BitVec 32 := Scalar.subi v517 c1_i32_261
  let v533 : BitVec 32 := Scalar.select v531 v532 v517
  let c16_i32_248 : BitVec 32 := 16#32
  let c0_i32_249 : BitVec 32 := 0#32
  let v506 : BitVec 1 := Scalar.cmpi .eq c16_i32_248 c0_i32_249
  let c1_i32_250 : BitVec 32 := 1#32
  let v507 : BitVec 32 := Scalar.select v506 c1_i32_250 c16_i32_248
  let v508 : BitVec 32 := Scalar.remsi v436 v507
  let c0_i32_252 : BitVec 32 := 0#32
  let v510 : BitVec 1 := Scalar.cmpi .slt v508 c0_i32_252
  let c0_i32_253 : BitVec 32 := 0#32
  let v511 : BitVec 1 := Scalar.cmpi .slt v507 c0_i32_253
  let v512 : BitVec 1 := Scalar.xori v510 v511
  let c0_i32_251 : BitVec 32 := 0#32
  let v509 : BitVec 1 := Scalar.cmpi .ne v508 c0_i32_251
  let v513 : BitVec 1 := Scalar.andi v512 v509
  let v514 : BitVec 32 := Scalar.addi v508 v507
  let v515 : BitVec 32 := Scalar.select v513 v514 v508
  let c512_i32_254 : BitVec 32 := 512#32
  let v516 : BitVec 32 := Scalar.muli v515 c512_i32_254
  let c2_i32_262 : BitVec 32 := 2#32
  let c0_i32_263 : BitVec 32 := 0#32
  ![v533.toNat, v516.toNat, 2, 0]
def k0_off58 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_264 : BitVec 32 := 0#32
  let c256_i32_265 : BitVec 32 := 256#32
  ![v437.toNat, 0, 256]
def k0_off59 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_274 : BitVec 32 := 0#32
  let v552 : BitVec 1 := Scalar.cmpi .sgt v436 c0_i32_274
  let v553 : BitVec 32 := Scalar.extui v552
  let c0_i32_275 : BitVec 32 := 0#32
  let v554 : BitVec 1 := Scalar.cmpi .slt v436 c0_i32_275
  let v555 : BitVec 32 := Scalar.extui v554
  let v556 : BitVec 32 := Scalar.subi v553 v555
  let c16_i32_273 : BitVec 32 := 16#32
  let c0_i32_276 : BitVec 32 := 0#32
  let v557 : BitVec 1 := Scalar.cmpi .sgt c16_i32_273 c0_i32_276
  let v558 : BitVec 32 := Scalar.extui v557
  let c0_i32_277 : BitVec 32 := 0#32
  let v559 : BitVec 1 := Scalar.cmpi .slt c16_i32_273 c0_i32_277
  let v560 : BitVec 32 := Scalar.extui v559
  let v561 : BitVec 32 := Scalar.subi v558 v560
  let v562 : BitVec 1 := Scalar.cmpi .ne v556 v561
  let v563 : BitVec 32 := Scalar.remsi v436 c16_i32_273
  let c0_i32_278 : BitVec 32 := 0#32
  let v564 : BitVec 1 := Scalar.cmpi .ne v563 c0_i32_278
  let v565 : BitVec 1 := Scalar.andi v562 v564
  let v551 : BitVec 32 := Scalar.divsi v436 c16_i32_273
  let c1_i32_279 : BitVec 32 := 1#32
  let v566 : BitVec 32 := Scalar.subi v551 c1_i32_279
  let v567 : BitVec 32 := Scalar.select v565 v566 v551
  let c16_i32_266 : BitVec 32 := 16#32
  let c0_i32_267 : BitVec 32 := 0#32
  let v540 : BitVec 1 := Scalar.cmpi .eq c16_i32_266 c0_i32_267
  let c1_i32_268 : BitVec 32 := 1#32
  let v541 : BitVec 32 := Scalar.select v540 c1_i32_268 c16_i32_266
  let v542 : BitVec 32 := Scalar.remsi v436 v541
  let c0_i32_270 : BitVec 32 := 0#32
  let v544 : BitVec 1 := Scalar.cmpi .slt v542 c0_i32_270
  let c0_i32_271 : BitVec 32 := 0#32
  let v545 : BitVec 1 := Scalar.cmpi .slt v541 c0_i32_271
  let v546 : BitVec 1 := Scalar.xori v544 v545
  let c0_i32_269 : BitVec 32 := 0#32
  let v543 : BitVec 1 := Scalar.cmpi .ne v542 c0_i32_269
  let v547 : BitVec 1 := Scalar.andi v546 v543
  let v548 : BitVec 32 := Scalar.addi v542 v541
  let v549 : BitVec 32 := Scalar.select v547 v548 v542
  let c512_i32_272 : BitVec 32 := 512#32
  let v550 : BitVec 32 := Scalar.muli v549 c512_i32_272
  let c3_i32_280 : BitVec 32 := 3#32
  let c0_i32_281 : BitVec 32 := 0#32
  ![v567.toNat, v550.toNat, 3, 0]
def k0_off60 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_282 : BitVec 32 := 0#32
  let c384_i32_283 : BitVec 32 := 384#32
  ![v437.toNat, 0, 384]
def k0_off61 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_292 : BitVec 32 := 0#32
  let v586 : BitVec 1 := Scalar.cmpi .sgt v436 c0_i32_292
  let v587 : BitVec 32 := Scalar.extui v586
  let c0_i32_293 : BitVec 32 := 0#32
  let v588 : BitVec 1 := Scalar.cmpi .slt v436 c0_i32_293
  let v589 : BitVec 32 := Scalar.extui v588
  let v590 : BitVec 32 := Scalar.subi v587 v589
  let c16_i32_291 : BitVec 32 := 16#32
  let c0_i32_294 : BitVec 32 := 0#32
  let v591 : BitVec 1 := Scalar.cmpi .sgt c16_i32_291 c0_i32_294
  let v592 : BitVec 32 := Scalar.extui v591
  let c0_i32_295 : BitVec 32 := 0#32
  let v593 : BitVec 1 := Scalar.cmpi .slt c16_i32_291 c0_i32_295
  let v594 : BitVec 32 := Scalar.extui v593
  let v595 : BitVec 32 := Scalar.subi v592 v594
  let v596 : BitVec 1 := Scalar.cmpi .ne v590 v595
  let v597 : BitVec 32 := Scalar.remsi v436 c16_i32_291
  let c0_i32_296 : BitVec 32 := 0#32
  let v598 : BitVec 1 := Scalar.cmpi .ne v597 c0_i32_296
  let v599 : BitVec 1 := Scalar.andi v596 v598
  let v585 : BitVec 32 := Scalar.divsi v436 c16_i32_291
  let c1_i32_297 : BitVec 32 := 1#32
  let v600 : BitVec 32 := Scalar.subi v585 c1_i32_297
  let v601 : BitVec 32 := Scalar.select v599 v600 v585
  let c16_i32_284 : BitVec 32 := 16#32
  let c0_i32_285 : BitVec 32 := 0#32
  let v574 : BitVec 1 := Scalar.cmpi .eq c16_i32_284 c0_i32_285
  let c1_i32_286 : BitVec 32 := 1#32
  let v575 : BitVec 32 := Scalar.select v574 c1_i32_286 c16_i32_284
  let v576 : BitVec 32 := Scalar.remsi v436 v575
  let c0_i32_288 : BitVec 32 := 0#32
  let v578 : BitVec 1 := Scalar.cmpi .slt v576 c0_i32_288
  let c0_i32_289 : BitVec 32 := 0#32
  let v579 : BitVec 1 := Scalar.cmpi .slt v575 c0_i32_289
  let v580 : BitVec 1 := Scalar.xori v578 v579
  let c0_i32_287 : BitVec 32 := 0#32
  let v577 : BitVec 1 := Scalar.cmpi .ne v576 c0_i32_287
  let v581 : BitVec 1 := Scalar.andi v580 v577
  let v582 : BitVec 32 := Scalar.addi v576 v575
  let v583 : BitVec 32 := Scalar.select v581 v582 v576
  let c512_i32_290 : BitVec 32 := 512#32
  let v584 : BitVec 32 := Scalar.muli v583 c512_i32_290
  let c4_i32_298 : BitVec 32 := 4#32
  let c0_i32_299 : BitVec 32 := 0#32
  ![v601.toNat, v584.toNat, 4, 0]
def k0_off62 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_300 : BitVec 32 := 0#32
  let c512_i32_301 : BitVec 32 := 512#32
  ![v437.toNat, 0, 512]
def k0_off63 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_310 : BitVec 32 := 0#32
  let v620 : BitVec 1 := Scalar.cmpi .sgt v436 c0_i32_310
  let v621 : BitVec 32 := Scalar.extui v620
  let c0_i32_311 : BitVec 32 := 0#32
  let v622 : BitVec 1 := Scalar.cmpi .slt v436 c0_i32_311
  let v623 : BitVec 32 := Scalar.extui v622
  let v624 : BitVec 32 := Scalar.subi v621 v623
  let c16_i32_309 : BitVec 32 := 16#32
  let c0_i32_312 : BitVec 32 := 0#32
  let v625 : BitVec 1 := Scalar.cmpi .sgt c16_i32_309 c0_i32_312
  let v626 : BitVec 32 := Scalar.extui v625
  let c0_i32_313 : BitVec 32 := 0#32
  let v627 : BitVec 1 := Scalar.cmpi .slt c16_i32_309 c0_i32_313
  let v628 : BitVec 32 := Scalar.extui v627
  let v629 : BitVec 32 := Scalar.subi v626 v628
  let v630 : BitVec 1 := Scalar.cmpi .ne v624 v629
  let v631 : BitVec 32 := Scalar.remsi v436 c16_i32_309
  let c0_i32_314 : BitVec 32 := 0#32
  let v632 : BitVec 1 := Scalar.cmpi .ne v631 c0_i32_314
  let v633 : BitVec 1 := Scalar.andi v630 v632
  let v619 : BitVec 32 := Scalar.divsi v436 c16_i32_309
  let c1_i32_315 : BitVec 32 := 1#32
  let v634 : BitVec 32 := Scalar.subi v619 c1_i32_315
  let v635 : BitVec 32 := Scalar.select v633 v634 v619
  let c16_i32_302 : BitVec 32 := 16#32
  let c0_i32_303 : BitVec 32 := 0#32
  let v608 : BitVec 1 := Scalar.cmpi .eq c16_i32_302 c0_i32_303
  let c1_i32_304 : BitVec 32 := 1#32
  let v609 : BitVec 32 := Scalar.select v608 c1_i32_304 c16_i32_302
  let v610 : BitVec 32 := Scalar.remsi v436 v609
  let c0_i32_306 : BitVec 32 := 0#32
  let v612 : BitVec 1 := Scalar.cmpi .slt v610 c0_i32_306
  let c0_i32_307 : BitVec 32 := 0#32
  let v613 : BitVec 1 := Scalar.cmpi .slt v609 c0_i32_307
  let v614 : BitVec 1 := Scalar.xori v612 v613
  let c0_i32_305 : BitVec 32 := 0#32
  let v611 : BitVec 1 := Scalar.cmpi .ne v610 c0_i32_305
  let v615 : BitVec 1 := Scalar.andi v614 v611
  let v616 : BitVec 32 := Scalar.addi v610 v609
  let v617 : BitVec 32 := Scalar.select v615 v616 v610
  let c512_i32_308 : BitVec 32 := 512#32
  let v618 : BitVec 32 := Scalar.muli v617 c512_i32_308
  let c5_i32_316 : BitVec 32 := 5#32
  let c0_i32_317 : BitVec 32 := 0#32
  ![v635.toNat, v618.toNat, 5, 0]
def k0_off64 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_318 : BitVec 32 := 0#32
  let c640_i32_319 : BitVec 32 := 640#32
  ![v437.toNat, 0, 640]
def k0_off65 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_328 : BitVec 32 := 0#32
  let v654 : BitVec 1 := Scalar.cmpi .sgt v436 c0_i32_328
  let v655 : BitVec 32 := Scalar.extui v654
  let c0_i32_329 : BitVec 32 := 0#32
  let v656 : BitVec 1 := Scalar.cmpi .slt v436 c0_i32_329
  let v657 : BitVec 32 := Scalar.extui v656
  let v658 : BitVec 32 := Scalar.subi v655 v657
  let c16_i32_327 : BitVec 32 := 16#32
  let c0_i32_330 : BitVec 32 := 0#32
  let v659 : BitVec 1 := Scalar.cmpi .sgt c16_i32_327 c0_i32_330
  let v660 : BitVec 32 := Scalar.extui v659
  let c0_i32_331 : BitVec 32 := 0#32
  let v661 : BitVec 1 := Scalar.cmpi .slt c16_i32_327 c0_i32_331
  let v662 : BitVec 32 := Scalar.extui v661
  let v663 : BitVec 32 := Scalar.subi v660 v662
  let v664 : BitVec 1 := Scalar.cmpi .ne v658 v663
  let v665 : BitVec 32 := Scalar.remsi v436 c16_i32_327
  let c0_i32_332 : BitVec 32 := 0#32
  let v666 : BitVec 1 := Scalar.cmpi .ne v665 c0_i32_332
  let v667 : BitVec 1 := Scalar.andi v664 v666
  let v653 : BitVec 32 := Scalar.divsi v436 c16_i32_327
  let c1_i32_333 : BitVec 32 := 1#32
  let v668 : BitVec 32 := Scalar.subi v653 c1_i32_333
  let v669 : BitVec 32 := Scalar.select v667 v668 v653
  let c16_i32_320 : BitVec 32 := 16#32
  let c0_i32_321 : BitVec 32 := 0#32
  let v642 : BitVec 1 := Scalar.cmpi .eq c16_i32_320 c0_i32_321
  let c1_i32_322 : BitVec 32 := 1#32
  let v643 : BitVec 32 := Scalar.select v642 c1_i32_322 c16_i32_320
  let v644 : BitVec 32 := Scalar.remsi v436 v643
  let c0_i32_324 : BitVec 32 := 0#32
  let v646 : BitVec 1 := Scalar.cmpi .slt v644 c0_i32_324
  let c0_i32_325 : BitVec 32 := 0#32
  let v647 : BitVec 1 := Scalar.cmpi .slt v643 c0_i32_325
  let v648 : BitVec 1 := Scalar.xori v646 v647
  let c0_i32_323 : BitVec 32 := 0#32
  let v645 : BitVec 1 := Scalar.cmpi .ne v644 c0_i32_323
  let v649 : BitVec 1 := Scalar.andi v648 v645
  let v650 : BitVec 32 := Scalar.addi v644 v643
  let v651 : BitVec 32 := Scalar.select v649 v650 v644
  let c512_i32_326 : BitVec 32 := 512#32
  let v652 : BitVec 32 := Scalar.muli v651 c512_i32_326
  let c6_i32_334 : BitVec 32 := 6#32
  let c0_i32_335 : BitVec 32 := 0#32
  ![v669.toNat, v652.toNat, 6, 0]
def k0_off66 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_336 : BitVec 32 := 0#32
  let c768_i32_337 : BitVec 32 := 768#32
  ![v437.toNat, 0, 768]
def k0_off67 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_346 : BitVec 32 := 0#32
  let v688 : BitVec 1 := Scalar.cmpi .sgt v436 c0_i32_346
  let v689 : BitVec 32 := Scalar.extui v688
  let c0_i32_347 : BitVec 32 := 0#32
  let v690 : BitVec 1 := Scalar.cmpi .slt v436 c0_i32_347
  let v691 : BitVec 32 := Scalar.extui v690
  let v692 : BitVec 32 := Scalar.subi v689 v691
  let c16_i32_345 : BitVec 32 := 16#32
  let c0_i32_348 : BitVec 32 := 0#32
  let v693 : BitVec 1 := Scalar.cmpi .sgt c16_i32_345 c0_i32_348
  let v694 : BitVec 32 := Scalar.extui v693
  let c0_i32_349 : BitVec 32 := 0#32
  let v695 : BitVec 1 := Scalar.cmpi .slt c16_i32_345 c0_i32_349
  let v696 : BitVec 32 := Scalar.extui v695
  let v697 : BitVec 32 := Scalar.subi v694 v696
  let v698 : BitVec 1 := Scalar.cmpi .ne v692 v697
  let v699 : BitVec 32 := Scalar.remsi v436 c16_i32_345
  let c0_i32_350 : BitVec 32 := 0#32
  let v700 : BitVec 1 := Scalar.cmpi .ne v699 c0_i32_350
  let v701 : BitVec 1 := Scalar.andi v698 v700
  let v687 : BitVec 32 := Scalar.divsi v436 c16_i32_345
  let c1_i32_351 : BitVec 32 := 1#32
  let v702 : BitVec 32 := Scalar.subi v687 c1_i32_351
  let v703 : BitVec 32 := Scalar.select v701 v702 v687
  let c16_i32_338 : BitVec 32 := 16#32
  let c0_i32_339 : BitVec 32 := 0#32
  let v676 : BitVec 1 := Scalar.cmpi .eq c16_i32_338 c0_i32_339
  let c1_i32_340 : BitVec 32 := 1#32
  let v677 : BitVec 32 := Scalar.select v676 c1_i32_340 c16_i32_338
  let v678 : BitVec 32 := Scalar.remsi v436 v677
  let c0_i32_342 : BitVec 32 := 0#32
  let v680 : BitVec 1 := Scalar.cmpi .slt v678 c0_i32_342
  let c0_i32_343 : BitVec 32 := 0#32
  let v681 : BitVec 1 := Scalar.cmpi .slt v677 c0_i32_343
  let v682 : BitVec 1 := Scalar.xori v680 v681
  let c0_i32_341 : BitVec 32 := 0#32
  let v679 : BitVec 1 := Scalar.cmpi .ne v678 c0_i32_341
  let v683 : BitVec 1 := Scalar.andi v682 v679
  let v684 : BitVec 32 := Scalar.addi v678 v677
  let v685 : BitVec 32 := Scalar.select v683 v684 v678
  let c512_i32_344 : BitVec 32 := 512#32
  let v686 : BitVec 32 := Scalar.muli v685 c512_i32_344
  let c7_i32_352 : BitVec 32 := 7#32
  let c0_i32_353 : BitVec 32 := 0#32
  ![v703.toNat, v686.toNat, 7, 0]
def k0_off68 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_354 : BitVec 32 := 0#32
  let c896_i32_355 : BitVec 32 := 896#32
  ![v437.toNat, 0, 896]
def k0_off69 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_364 : BitVec 32 := 0#32
  let v722 : BitVec 1 := Scalar.cmpi .sgt v436 c0_i32_364
  let v723 : BitVec 32 := Scalar.extui v722
  let c0_i32_365 : BitVec 32 := 0#32
  let v724 : BitVec 1 := Scalar.cmpi .slt v436 c0_i32_365
  let v725 : BitVec 32 := Scalar.extui v724
  let v726 : BitVec 32 := Scalar.subi v723 v725
  let c16_i32_363 : BitVec 32 := 16#32
  let c0_i32_366 : BitVec 32 := 0#32
  let v727 : BitVec 1 := Scalar.cmpi .sgt c16_i32_363 c0_i32_366
  let v728 : BitVec 32 := Scalar.extui v727
  let c0_i32_367 : BitVec 32 := 0#32
  let v729 : BitVec 1 := Scalar.cmpi .slt c16_i32_363 c0_i32_367
  let v730 : BitVec 32 := Scalar.extui v729
  let v731 : BitVec 32 := Scalar.subi v728 v730
  let v732 : BitVec 1 := Scalar.cmpi .ne v726 v731
  let v733 : BitVec 32 := Scalar.remsi v436 c16_i32_363
  let c0_i32_368 : BitVec 32 := 0#32
  let v734 : BitVec 1 := Scalar.cmpi .ne v733 c0_i32_368
  let v735 : BitVec 1 := Scalar.andi v732 v734
  let v721 : BitVec 32 := Scalar.divsi v436 c16_i32_363
  let c1_i32_369 : BitVec 32 := 1#32
  let v736 : BitVec 32 := Scalar.subi v721 c1_i32_369
  let v737 : BitVec 32 := Scalar.select v735 v736 v721
  let c16_i32_356 : BitVec 32 := 16#32
  let c0_i32_357 : BitVec 32 := 0#32
  let v710 : BitVec 1 := Scalar.cmpi .eq c16_i32_356 c0_i32_357
  let c1_i32_358 : BitVec 32 := 1#32
  let v711 : BitVec 32 := Scalar.select v710 c1_i32_358 c16_i32_356
  let v712 : BitVec 32 := Scalar.remsi v436 v711
  let c0_i32_360 : BitVec 32 := 0#32
  let v714 : BitVec 1 := Scalar.cmpi .slt v712 c0_i32_360
  let c0_i32_361 : BitVec 32 := 0#32
  let v715 : BitVec 1 := Scalar.cmpi .slt v711 c0_i32_361
  let v716 : BitVec 1 := Scalar.xori v714 v715
  let c0_i32_359 : BitVec 32 := 0#32
  let v713 : BitVec 1 := Scalar.cmpi .ne v712 c0_i32_359
  let v717 : BitVec 1 := Scalar.andi v716 v713
  let v718 : BitVec 32 := Scalar.addi v712 v711
  let v719 : BitVec 32 := Scalar.select v717 v718 v712
  let c512_i32_362 : BitVec 32 := 512#32
  let v720 : BitVec 32 := Scalar.muli v719 c512_i32_362
  let c8_i32_370 : BitVec 32 := 8#32
  let c0_i32_371 : BitVec 32 := 0#32
  ![v737.toNat, v720.toNat, 8, 0]
def k0_off70 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_372 : BitVec 32 := 0#32
  let c1024_i32_373 : BitVec 32 := 1024#32
  ![v437.toNat, 0, 1024]
def k0_off71 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_382 : BitVec 32 := 0#32
  let v756 : BitVec 1 := Scalar.cmpi .sgt v436 c0_i32_382
  let v757 : BitVec 32 := Scalar.extui v756
  let c0_i32_383 : BitVec 32 := 0#32
  let v758 : BitVec 1 := Scalar.cmpi .slt v436 c0_i32_383
  let v759 : BitVec 32 := Scalar.extui v758
  let v760 : BitVec 32 := Scalar.subi v757 v759
  let c16_i32_381 : BitVec 32 := 16#32
  let c0_i32_384 : BitVec 32 := 0#32
  let v761 : BitVec 1 := Scalar.cmpi .sgt c16_i32_381 c0_i32_384
  let v762 : BitVec 32 := Scalar.extui v761
  let c0_i32_385 : BitVec 32 := 0#32
  let v763 : BitVec 1 := Scalar.cmpi .slt c16_i32_381 c0_i32_385
  let v764 : BitVec 32 := Scalar.extui v763
  let v765 : BitVec 32 := Scalar.subi v762 v764
  let v766 : BitVec 1 := Scalar.cmpi .ne v760 v765
  let v767 : BitVec 32 := Scalar.remsi v436 c16_i32_381
  let c0_i32_386 : BitVec 32 := 0#32
  let v768 : BitVec 1 := Scalar.cmpi .ne v767 c0_i32_386
  let v769 : BitVec 1 := Scalar.andi v766 v768
  let v755 : BitVec 32 := Scalar.divsi v436 c16_i32_381
  let c1_i32_387 : BitVec 32 := 1#32
  let v770 : BitVec 32 := Scalar.subi v755 c1_i32_387
  let v771 : BitVec 32 := Scalar.select v769 v770 v755
  let c16_i32_374 : BitVec 32 := 16#32
  let c0_i32_375 : BitVec 32 := 0#32
  let v744 : BitVec 1 := Scalar.cmpi .eq c16_i32_374 c0_i32_375
  let c1_i32_376 : BitVec 32 := 1#32
  let v745 : BitVec 32 := Scalar.select v744 c1_i32_376 c16_i32_374
  let v746 : BitVec 32 := Scalar.remsi v436 v745
  let c0_i32_378 : BitVec 32 := 0#32
  let v748 : BitVec 1 := Scalar.cmpi .slt v746 c0_i32_378
  let c0_i32_379 : BitVec 32 := 0#32
  let v749 : BitVec 1 := Scalar.cmpi .slt v745 c0_i32_379
  let v750 : BitVec 1 := Scalar.xori v748 v749
  let c0_i32_377 : BitVec 32 := 0#32
  let v747 : BitVec 1 := Scalar.cmpi .ne v746 c0_i32_377
  let v751 : BitVec 1 := Scalar.andi v750 v747
  let v752 : BitVec 32 := Scalar.addi v746 v745
  let v753 : BitVec 32 := Scalar.select v751 v752 v746
  let c512_i32_380 : BitVec 32 := 512#32
  let v754 : BitVec 32 := Scalar.muli v753 c512_i32_380
  let c9_i32_388 : BitVec 32 := 9#32
  let c0_i32_389 : BitVec 32 := 0#32
  ![v771.toNat, v754.toNat, 9, 0]
def k0_off72 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_390 : BitVec 32 := 0#32
  let c1152_i32_391 : BitVec 32 := 1152#32
  ![v437.toNat, 0, 1152]
def k0_off73 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_400 : BitVec 32 := 0#32
  let v790 : BitVec 1 := Scalar.cmpi .sgt v436 c0_i32_400
  let v791 : BitVec 32 := Scalar.extui v790
  let c0_i32_401 : BitVec 32 := 0#32
  let v792 : BitVec 1 := Scalar.cmpi .slt v436 c0_i32_401
  let v793 : BitVec 32 := Scalar.extui v792
  let v794 : BitVec 32 := Scalar.subi v791 v793
  let c16_i32_399 : BitVec 32 := 16#32
  let c0_i32_402 : BitVec 32 := 0#32
  let v795 : BitVec 1 := Scalar.cmpi .sgt c16_i32_399 c0_i32_402
  let v796 : BitVec 32 := Scalar.extui v795
  let c0_i32_403 : BitVec 32 := 0#32
  let v797 : BitVec 1 := Scalar.cmpi .slt c16_i32_399 c0_i32_403
  let v798 : BitVec 32 := Scalar.extui v797
  let v799 : BitVec 32 := Scalar.subi v796 v798
  let v800 : BitVec 1 := Scalar.cmpi .ne v794 v799
  let v801 : BitVec 32 := Scalar.remsi v436 c16_i32_399
  let c0_i32_404 : BitVec 32 := 0#32
  let v802 : BitVec 1 := Scalar.cmpi .ne v801 c0_i32_404
  let v803 : BitVec 1 := Scalar.andi v800 v802
  let v789 : BitVec 32 := Scalar.divsi v436 c16_i32_399
  let c1_i32_405 : BitVec 32 := 1#32
  let v804 : BitVec 32 := Scalar.subi v789 c1_i32_405
  let v805 : BitVec 32 := Scalar.select v803 v804 v789
  let c16_i32_392 : BitVec 32 := 16#32
  let c0_i32_393 : BitVec 32 := 0#32
  let v778 : BitVec 1 := Scalar.cmpi .eq c16_i32_392 c0_i32_393
  let c1_i32_394 : BitVec 32 := 1#32
  let v779 : BitVec 32 := Scalar.select v778 c1_i32_394 c16_i32_392
  let v780 : BitVec 32 := Scalar.remsi v436 v779
  let c0_i32_396 : BitVec 32 := 0#32
  let v782 : BitVec 1 := Scalar.cmpi .slt v780 c0_i32_396
  let c0_i32_397 : BitVec 32 := 0#32
  let v783 : BitVec 1 := Scalar.cmpi .slt v779 c0_i32_397
  let v784 : BitVec 1 := Scalar.xori v782 v783
  let c0_i32_395 : BitVec 32 := 0#32
  let v781 : BitVec 1 := Scalar.cmpi .ne v780 c0_i32_395
  let v785 : BitVec 1 := Scalar.andi v784 v781
  let v786 : BitVec 32 := Scalar.addi v780 v779
  let v787 : BitVec 32 := Scalar.select v785 v786 v780
  let c512_i32_398 : BitVec 32 := 512#32
  let v788 : BitVec 32 := Scalar.muli v787 c512_i32_398
  let c10_i32_406 : BitVec 32 := 10#32
  let c0_i32_407 : BitVec 32 := 0#32
  ![v805.toNat, v788.toNat, 10, 0]
def k0_off74 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_408 : BitVec 32 := 0#32
  let c1280_i32_409 : BitVec 32 := 1280#32
  ![v437.toNat, 0, 1280]
def k0_off75 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_418 : BitVec 32 := 0#32
  let v824 : BitVec 1 := Scalar.cmpi .sgt v436 c0_i32_418
  let v825 : BitVec 32 := Scalar.extui v824
  let c0_i32_419 : BitVec 32 := 0#32
  let v826 : BitVec 1 := Scalar.cmpi .slt v436 c0_i32_419
  let v827 : BitVec 32 := Scalar.extui v826
  let v828 : BitVec 32 := Scalar.subi v825 v827
  let c16_i32_417 : BitVec 32 := 16#32
  let c0_i32_420 : BitVec 32 := 0#32
  let v829 : BitVec 1 := Scalar.cmpi .sgt c16_i32_417 c0_i32_420
  let v830 : BitVec 32 := Scalar.extui v829
  let c0_i32_421 : BitVec 32 := 0#32
  let v831 : BitVec 1 := Scalar.cmpi .slt c16_i32_417 c0_i32_421
  let v832 : BitVec 32 := Scalar.extui v831
  let v833 : BitVec 32 := Scalar.subi v830 v832
  let v834 : BitVec 1 := Scalar.cmpi .ne v828 v833
  let v835 : BitVec 32 := Scalar.remsi v436 c16_i32_417
  let c0_i32_422 : BitVec 32 := 0#32
  let v836 : BitVec 1 := Scalar.cmpi .ne v835 c0_i32_422
  let v837 : BitVec 1 := Scalar.andi v834 v836
  let v823 : BitVec 32 := Scalar.divsi v436 c16_i32_417
  let c1_i32_423 : BitVec 32 := 1#32
  let v838 : BitVec 32 := Scalar.subi v823 c1_i32_423
  let v839 : BitVec 32 := Scalar.select v837 v838 v823
  let c16_i32_410 : BitVec 32 := 16#32
  let c0_i32_411 : BitVec 32 := 0#32
  let v812 : BitVec 1 := Scalar.cmpi .eq c16_i32_410 c0_i32_411
  let c1_i32_412 : BitVec 32 := 1#32
  let v813 : BitVec 32 := Scalar.select v812 c1_i32_412 c16_i32_410
  let v814 : BitVec 32 := Scalar.remsi v436 v813
  let c0_i32_414 : BitVec 32 := 0#32
  let v816 : BitVec 1 := Scalar.cmpi .slt v814 c0_i32_414
  let c0_i32_415 : BitVec 32 := 0#32
  let v817 : BitVec 1 := Scalar.cmpi .slt v813 c0_i32_415
  let v818 : BitVec 1 := Scalar.xori v816 v817
  let c0_i32_413 : BitVec 32 := 0#32
  let v815 : BitVec 1 := Scalar.cmpi .ne v814 c0_i32_413
  let v819 : BitVec 1 := Scalar.andi v818 v815
  let v820 : BitVec 32 := Scalar.addi v814 v813
  let v821 : BitVec 32 := Scalar.select v819 v820 v814
  let c512_i32_416 : BitVec 32 := 512#32
  let v822 : BitVec 32 := Scalar.muli v821 c512_i32_416
  let c11_i32_424 : BitVec 32 := 11#32
  let c0_i32_425 : BitVec 32 := 0#32
  ![v839.toNat, v822.toNat, 11, 0]
def k0_off76 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_426 : BitVec 32 := 0#32
  let c1408_i32_427 : BitVec 32 := 1408#32
  ![v437.toNat, 0, 1408]
def k0_off77 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off78 (i : grid0.Coords) : Fin 4 → Nat :=
  let arg0 : BitVec 32 := BitVec.ofNat 32 (i 0).val
  let c0_i32_436 : BitVec 32 := 0#32
  let v858 : BitVec 1 := Scalar.cmpi .sgt arg0 c0_i32_436
  let v859 : BitVec 32 := Scalar.extui v858
  let c0_i32_437 : BitVec 32 := 0#32
  let v860 : BitVec 1 := Scalar.cmpi .slt arg0 c0_i32_437
  let v861 : BitVec 32 := Scalar.extui v860
  let v862 : BitVec 32 := Scalar.subi v859 v861
  let c16_i32_435 : BitVec 32 := 16#32
  let c0_i32_438 : BitVec 32 := 0#32
  let v863 : BitVec 1 := Scalar.cmpi .sgt c16_i32_435 c0_i32_438
  let v864 : BitVec 32 := Scalar.extui v863
  let c0_i32_439 : BitVec 32 := 0#32
  let v865 : BitVec 1 := Scalar.cmpi .slt c16_i32_435 c0_i32_439
  let v866 : BitVec 32 := Scalar.extui v865
  let v867 : BitVec 32 := Scalar.subi v864 v866
  let v868 : BitVec 1 := Scalar.cmpi .ne v862 v867
  let v869 : BitVec 32 := Scalar.remsi arg0 c16_i32_435
  let c0_i32_440 : BitVec 32 := 0#32
  let v870 : BitVec 1 := Scalar.cmpi .ne v869 c0_i32_440
  let v871 : BitVec 1 := Scalar.andi v868 v870
  let v857 : BitVec 32 := Scalar.divsi arg0 c16_i32_435
  let c1_i32_441 : BitVec 32 := 1#32
  let v872 : BitVec 32 := Scalar.subi v857 c1_i32_441
  let v873 : BitVec 32 := Scalar.select v871 v872 v857
  let c16_i32_428 : BitVec 32 := 16#32
  let c0_i32_429 : BitVec 32 := 0#32
  let v846 : BitVec 1 := Scalar.cmpi .eq c16_i32_428 c0_i32_429
  let c1_i32_430 : BitVec 32 := 1#32
  let v847 : BitVec 32 := Scalar.select v846 c1_i32_430 c16_i32_428
  let v848 : BitVec 32 := Scalar.remsi arg0 v847
  let c0_i32_432 : BitVec 32 := 0#32
  let v850 : BitVec 1 := Scalar.cmpi .slt v848 c0_i32_432
  let c0_i32_433 : BitVec 32 := 0#32
  let v851 : BitVec 1 := Scalar.cmpi .slt v847 c0_i32_433
  let v852 : BitVec 1 := Scalar.xori v850 v851
  let c0_i32_431 : BitVec 32 := 0#32
  let v849 : BitVec 1 := Scalar.cmpi .ne v848 c0_i32_431
  let v853 : BitVec 1 := Scalar.andi v852 v849
  let v854 : BitVec 32 := Scalar.addi v848 v847
  let v855 : BitVec 32 := Scalar.select v853 v854 v848
  let c512_i32_434 : BitVec 32 := 512#32
  let v856 : BitVec 32 := Scalar.muli v855 c512_i32_434
  let c0_i32_442 : BitVec 32 := 0#32
  let c0_i32_443 : BitVec 32 := 0#32
  ![v873.toNat, v856.toNat, 0, 0]
def k0_off79 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_444 : BitVec 32 := 0#32
  let c0_i32_445 : BitVec 32 := 0#32
  ![v9.toNat, 0, 0]
def k0_off80 (i : grid0.Coords) : Fin 4 → Nat :=
  let arg0 : BitVec 32 := BitVec.ofNat 32 (i 0).val
  let c0_i32_454 : BitVec 32 := 0#32
  let v892 : BitVec 1 := Scalar.cmpi .sgt arg0 c0_i32_454
  let v893 : BitVec 32 := Scalar.extui v892
  let c0_i32_455 : BitVec 32 := 0#32
  let v894 : BitVec 1 := Scalar.cmpi .slt arg0 c0_i32_455
  let v895 : BitVec 32 := Scalar.extui v894
  let v896 : BitVec 32 := Scalar.subi v893 v895
  let c16_i32_453 : BitVec 32 := 16#32
  let c0_i32_456 : BitVec 32 := 0#32
  let v897 : BitVec 1 := Scalar.cmpi .sgt c16_i32_453 c0_i32_456
  let v898 : BitVec 32 := Scalar.extui v897
  let c0_i32_457 : BitVec 32 := 0#32
  let v899 : BitVec 1 := Scalar.cmpi .slt c16_i32_453 c0_i32_457
  let v900 : BitVec 32 := Scalar.extui v899
  let v901 : BitVec 32 := Scalar.subi v898 v900
  let v902 : BitVec 1 := Scalar.cmpi .ne v896 v901
  let v903 : BitVec 32 := Scalar.remsi arg0 c16_i32_453
  let c0_i32_458 : BitVec 32 := 0#32
  let v904 : BitVec 1 := Scalar.cmpi .ne v903 c0_i32_458
  let v905 : BitVec 1 := Scalar.andi v902 v904
  let v891 : BitVec 32 := Scalar.divsi arg0 c16_i32_453
  let c1_i32_459 : BitVec 32 := 1#32
  let v906 : BitVec 32 := Scalar.subi v891 c1_i32_459
  let v907 : BitVec 32 := Scalar.select v905 v906 v891
  let c16_i32_446 : BitVec 32 := 16#32
  let c0_i32_447 : BitVec 32 := 0#32
  let v880 : BitVec 1 := Scalar.cmpi .eq c16_i32_446 c0_i32_447
  let c1_i32_448 : BitVec 32 := 1#32
  let v881 : BitVec 32 := Scalar.select v880 c1_i32_448 c16_i32_446
  let v882 : BitVec 32 := Scalar.remsi arg0 v881
  let c0_i32_450 : BitVec 32 := 0#32
  let v884 : BitVec 1 := Scalar.cmpi .slt v882 c0_i32_450
  let c0_i32_451 : BitVec 32 := 0#32
  let v885 : BitVec 1 := Scalar.cmpi .slt v881 c0_i32_451
  let v886 : BitVec 1 := Scalar.xori v884 v885
  let c0_i32_449 : BitVec 32 := 0#32
  let v883 : BitVec 1 := Scalar.cmpi .ne v882 c0_i32_449
  let v887 : BitVec 1 := Scalar.andi v886 v883
  let v888 : BitVec 32 := Scalar.addi v882 v881
  let v889 : BitVec 32 := Scalar.select v887 v888 v882
  let c512_i32_452 : BitVec 32 := 512#32
  let v890 : BitVec 32 := Scalar.muli v889 c512_i32_452
  let c1_i32_460 : BitVec 32 := 1#32
  let c0_i32_461 : BitVec 32 := 0#32
  ![v907.toNat, v890.toNat, 1, 0]
def k0_off81 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_462 : BitVec 32 := 0#32
  let c128_i32_463 : BitVec 32 := 128#32
  ![v9.toNat, 0, 128]
def k0_off82 (i : grid0.Coords) : Fin 4 → Nat :=
  let arg0 : BitVec 32 := BitVec.ofNat 32 (i 0).val
  let c0_i32_472 : BitVec 32 := 0#32
  let v926 : BitVec 1 := Scalar.cmpi .sgt arg0 c0_i32_472
  let v927 : BitVec 32 := Scalar.extui v926
  let c0_i32_473 : BitVec 32 := 0#32
  let v928 : BitVec 1 := Scalar.cmpi .slt arg0 c0_i32_473
  let v929 : BitVec 32 := Scalar.extui v928
  let v930 : BitVec 32 := Scalar.subi v927 v929
  let c16_i32_471 : BitVec 32 := 16#32
  let c0_i32_474 : BitVec 32 := 0#32
  let v931 : BitVec 1 := Scalar.cmpi .sgt c16_i32_471 c0_i32_474
  let v932 : BitVec 32 := Scalar.extui v931
  let c0_i32_475 : BitVec 32 := 0#32
  let v933 : BitVec 1 := Scalar.cmpi .slt c16_i32_471 c0_i32_475
  let v934 : BitVec 32 := Scalar.extui v933
  let v935 : BitVec 32 := Scalar.subi v932 v934
  let v936 : BitVec 1 := Scalar.cmpi .ne v930 v935
  let v937 : BitVec 32 := Scalar.remsi arg0 c16_i32_471
  let c0_i32_476 : BitVec 32 := 0#32
  let v938 : BitVec 1 := Scalar.cmpi .ne v937 c0_i32_476
  let v939 : BitVec 1 := Scalar.andi v936 v938
  let v925 : BitVec 32 := Scalar.divsi arg0 c16_i32_471
  let c1_i32_477 : BitVec 32 := 1#32
  let v940 : BitVec 32 := Scalar.subi v925 c1_i32_477
  let v941 : BitVec 32 := Scalar.select v939 v940 v925
  let c16_i32_464 : BitVec 32 := 16#32
  let c0_i32_465 : BitVec 32 := 0#32
  let v914 : BitVec 1 := Scalar.cmpi .eq c16_i32_464 c0_i32_465
  let c1_i32_466 : BitVec 32 := 1#32
  let v915 : BitVec 32 := Scalar.select v914 c1_i32_466 c16_i32_464
  let v916 : BitVec 32 := Scalar.remsi arg0 v915
  let c0_i32_468 : BitVec 32 := 0#32
  let v918 : BitVec 1 := Scalar.cmpi .slt v916 c0_i32_468
  let c0_i32_469 : BitVec 32 := 0#32
  let v919 : BitVec 1 := Scalar.cmpi .slt v915 c0_i32_469
  let v920 : BitVec 1 := Scalar.xori v918 v919
  let c0_i32_467 : BitVec 32 := 0#32
  let v917 : BitVec 1 := Scalar.cmpi .ne v916 c0_i32_467
  let v921 : BitVec 1 := Scalar.andi v920 v917
  let v922 : BitVec 32 := Scalar.addi v916 v915
  let v923 : BitVec 32 := Scalar.select v921 v922 v916
  let c512_i32_470 : BitVec 32 := 512#32
  let v924 : BitVec 32 := Scalar.muli v923 c512_i32_470
  let c2_i32_478 : BitVec 32 := 2#32
  let c0_i32_479 : BitVec 32 := 0#32
  ![v941.toNat, v924.toNat, 2, 0]
def k0_off83 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_480 : BitVec 32 := 0#32
  let c256_i32_481 : BitVec 32 := 256#32
  ![v9.toNat, 0, 256]
def k0_off84 (i : grid0.Coords) : Fin 4 → Nat :=
  let arg0 : BitVec 32 := BitVec.ofNat 32 (i 0).val
  let c0_i32_490 : BitVec 32 := 0#32
  let v960 : BitVec 1 := Scalar.cmpi .sgt arg0 c0_i32_490
  let v961 : BitVec 32 := Scalar.extui v960
  let c0_i32_491 : BitVec 32 := 0#32
  let v962 : BitVec 1 := Scalar.cmpi .slt arg0 c0_i32_491
  let v963 : BitVec 32 := Scalar.extui v962
  let v964 : BitVec 32 := Scalar.subi v961 v963
  let c16_i32_489 : BitVec 32 := 16#32
  let c0_i32_492 : BitVec 32 := 0#32
  let v965 : BitVec 1 := Scalar.cmpi .sgt c16_i32_489 c0_i32_492
  let v966 : BitVec 32 := Scalar.extui v965
  let c0_i32_493 : BitVec 32 := 0#32
  let v967 : BitVec 1 := Scalar.cmpi .slt c16_i32_489 c0_i32_493
  let v968 : BitVec 32 := Scalar.extui v967
  let v969 : BitVec 32 := Scalar.subi v966 v968
  let v970 : BitVec 1 := Scalar.cmpi .ne v964 v969
  let v971 : BitVec 32 := Scalar.remsi arg0 c16_i32_489
  let c0_i32_494 : BitVec 32 := 0#32
  let v972 : BitVec 1 := Scalar.cmpi .ne v971 c0_i32_494
  let v973 : BitVec 1 := Scalar.andi v970 v972
  let v959 : BitVec 32 := Scalar.divsi arg0 c16_i32_489
  let c1_i32_495 : BitVec 32 := 1#32
  let v974 : BitVec 32 := Scalar.subi v959 c1_i32_495
  let v975 : BitVec 32 := Scalar.select v973 v974 v959
  let c16_i32_482 : BitVec 32 := 16#32
  let c0_i32_483 : BitVec 32 := 0#32
  let v948 : BitVec 1 := Scalar.cmpi .eq c16_i32_482 c0_i32_483
  let c1_i32_484 : BitVec 32 := 1#32
  let v949 : BitVec 32 := Scalar.select v948 c1_i32_484 c16_i32_482
  let v950 : BitVec 32 := Scalar.remsi arg0 v949
  let c0_i32_486 : BitVec 32 := 0#32
  let v952 : BitVec 1 := Scalar.cmpi .slt v950 c0_i32_486
  let c0_i32_487 : BitVec 32 := 0#32
  let v953 : BitVec 1 := Scalar.cmpi .slt v949 c0_i32_487
  let v954 : BitVec 1 := Scalar.xori v952 v953
  let c0_i32_485 : BitVec 32 := 0#32
  let v951 : BitVec 1 := Scalar.cmpi .ne v950 c0_i32_485
  let v955 : BitVec 1 := Scalar.andi v954 v951
  let v956 : BitVec 32 := Scalar.addi v950 v949
  let v957 : BitVec 32 := Scalar.select v955 v956 v950
  let c512_i32_488 : BitVec 32 := 512#32
  let v958 : BitVec 32 := Scalar.muli v957 c512_i32_488
  let c3_i32_496 : BitVec 32 := 3#32
  let c0_i32_497 : BitVec 32 := 0#32
  ![v975.toNat, v958.toNat, 3, 0]
def k0_off85 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_498 : BitVec 32 := 0#32
  let c384_i32_499 : BitVec 32 := 384#32
  ![v9.toNat, 0, 384]
def k0_off86 (i : grid0.Coords) : Fin 4 → Nat :=
  let arg0 : BitVec 32 := BitVec.ofNat 32 (i 0).val
  let c0_i32_508 : BitVec 32 := 0#32
  let v994 : BitVec 1 := Scalar.cmpi .sgt arg0 c0_i32_508
  let v995 : BitVec 32 := Scalar.extui v994
  let c0_i32_509 : BitVec 32 := 0#32
  let v996 : BitVec 1 := Scalar.cmpi .slt arg0 c0_i32_509
  let v997 : BitVec 32 := Scalar.extui v996
  let v998 : BitVec 32 := Scalar.subi v995 v997
  let c16_i32_507 : BitVec 32 := 16#32
  let c0_i32_510 : BitVec 32 := 0#32
  let v999 : BitVec 1 := Scalar.cmpi .sgt c16_i32_507 c0_i32_510
  let v1000 : BitVec 32 := Scalar.extui v999
  let c0_i32_511 : BitVec 32 := 0#32
  let v1001 : BitVec 1 := Scalar.cmpi .slt c16_i32_507 c0_i32_511
  let v1002 : BitVec 32 := Scalar.extui v1001
  let v1003 : BitVec 32 := Scalar.subi v1000 v1002
  let v1004 : BitVec 1 := Scalar.cmpi .ne v998 v1003
  let v1005 : BitVec 32 := Scalar.remsi arg0 c16_i32_507
  let c0_i32_512 : BitVec 32 := 0#32
  let v1006 : BitVec 1 := Scalar.cmpi .ne v1005 c0_i32_512
  let v1007 : BitVec 1 := Scalar.andi v1004 v1006
  let v993 : BitVec 32 := Scalar.divsi arg0 c16_i32_507
  let c1_i32_513 : BitVec 32 := 1#32
  let v1008 : BitVec 32 := Scalar.subi v993 c1_i32_513
  let v1009 : BitVec 32 := Scalar.select v1007 v1008 v993
  let c16_i32_500 : BitVec 32 := 16#32
  let c0_i32_501 : BitVec 32 := 0#32
  let v982 : BitVec 1 := Scalar.cmpi .eq c16_i32_500 c0_i32_501
  let c1_i32_502 : BitVec 32 := 1#32
  let v983 : BitVec 32 := Scalar.select v982 c1_i32_502 c16_i32_500
  let v984 : BitVec 32 := Scalar.remsi arg0 v983
  let c0_i32_504 : BitVec 32 := 0#32
  let v986 : BitVec 1 := Scalar.cmpi .slt v984 c0_i32_504
  let c0_i32_505 : BitVec 32 := 0#32
  let v987 : BitVec 1 := Scalar.cmpi .slt v983 c0_i32_505
  let v988 : BitVec 1 := Scalar.xori v986 v987
  let c0_i32_503 : BitVec 32 := 0#32
  let v985 : BitVec 1 := Scalar.cmpi .ne v984 c0_i32_503
  let v989 : BitVec 1 := Scalar.andi v988 v985
  let v990 : BitVec 32 := Scalar.addi v984 v983
  let v991 : BitVec 32 := Scalar.select v989 v990 v984
  let c512_i32_506 : BitVec 32 := 512#32
  let v992 : BitVec 32 := Scalar.muli v991 c512_i32_506
  let c4_i32_514 : BitVec 32 := 4#32
  let c0_i32_515 : BitVec 32 := 0#32
  ![v1009.toNat, v992.toNat, 4, 0]
def k0_off87 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_516 : BitVec 32 := 0#32
  let c512_i32_517 : BitVec 32 := 512#32
  ![v9.toNat, 0, 512]
def k0_off88 (i : grid0.Coords) : Fin 4 → Nat :=
  let arg0 : BitVec 32 := BitVec.ofNat 32 (i 0).val
  let c0_i32_526 : BitVec 32 := 0#32
  let v1028 : BitVec 1 := Scalar.cmpi .sgt arg0 c0_i32_526
  let v1029 : BitVec 32 := Scalar.extui v1028
  let c0_i32_527 : BitVec 32 := 0#32
  let v1030 : BitVec 1 := Scalar.cmpi .slt arg0 c0_i32_527
  let v1031 : BitVec 32 := Scalar.extui v1030
  let v1032 : BitVec 32 := Scalar.subi v1029 v1031
  let c16_i32_525 : BitVec 32 := 16#32
  let c0_i32_528 : BitVec 32 := 0#32
  let v1033 : BitVec 1 := Scalar.cmpi .sgt c16_i32_525 c0_i32_528
  let v1034 : BitVec 32 := Scalar.extui v1033
  let c0_i32_529 : BitVec 32 := 0#32
  let v1035 : BitVec 1 := Scalar.cmpi .slt c16_i32_525 c0_i32_529
  let v1036 : BitVec 32 := Scalar.extui v1035
  let v1037 : BitVec 32 := Scalar.subi v1034 v1036
  let v1038 : BitVec 1 := Scalar.cmpi .ne v1032 v1037
  let v1039 : BitVec 32 := Scalar.remsi arg0 c16_i32_525
  let c0_i32_530 : BitVec 32 := 0#32
  let v1040 : BitVec 1 := Scalar.cmpi .ne v1039 c0_i32_530
  let v1041 : BitVec 1 := Scalar.andi v1038 v1040
  let v1027 : BitVec 32 := Scalar.divsi arg0 c16_i32_525
  let c1_i32_531 : BitVec 32 := 1#32
  let v1042 : BitVec 32 := Scalar.subi v1027 c1_i32_531
  let v1043 : BitVec 32 := Scalar.select v1041 v1042 v1027
  let c16_i32_518 : BitVec 32 := 16#32
  let c0_i32_519 : BitVec 32 := 0#32
  let v1016 : BitVec 1 := Scalar.cmpi .eq c16_i32_518 c0_i32_519
  let c1_i32_520 : BitVec 32 := 1#32
  let v1017 : BitVec 32 := Scalar.select v1016 c1_i32_520 c16_i32_518
  let v1018 : BitVec 32 := Scalar.remsi arg0 v1017
  let c0_i32_522 : BitVec 32 := 0#32
  let v1020 : BitVec 1 := Scalar.cmpi .slt v1018 c0_i32_522
  let c0_i32_523 : BitVec 32 := 0#32
  let v1021 : BitVec 1 := Scalar.cmpi .slt v1017 c0_i32_523
  let v1022 : BitVec 1 := Scalar.xori v1020 v1021
  let c0_i32_521 : BitVec 32 := 0#32
  let v1019 : BitVec 1 := Scalar.cmpi .ne v1018 c0_i32_521
  let v1023 : BitVec 1 := Scalar.andi v1022 v1019
  let v1024 : BitVec 32 := Scalar.addi v1018 v1017
  let v1025 : BitVec 32 := Scalar.select v1023 v1024 v1018
  let c512_i32_524 : BitVec 32 := 512#32
  let v1026 : BitVec 32 := Scalar.muli v1025 c512_i32_524
  let c5_i32_532 : BitVec 32 := 5#32
  let c0_i32_533 : BitVec 32 := 0#32
  ![v1043.toNat, v1026.toNat, 5, 0]
def k0_off89 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_534 : BitVec 32 := 0#32
  let c640_i32_535 : BitVec 32 := 640#32
  ![v9.toNat, 0, 640]
def k0_off90 (i : grid0.Coords) : Fin 4 → Nat :=
  let arg0 : BitVec 32 := BitVec.ofNat 32 (i 0).val
  let c0_i32_544 : BitVec 32 := 0#32
  let v1062 : BitVec 1 := Scalar.cmpi .sgt arg0 c0_i32_544
  let v1063 : BitVec 32 := Scalar.extui v1062
  let c0_i32_545 : BitVec 32 := 0#32
  let v1064 : BitVec 1 := Scalar.cmpi .slt arg0 c0_i32_545
  let v1065 : BitVec 32 := Scalar.extui v1064
  let v1066 : BitVec 32 := Scalar.subi v1063 v1065
  let c16_i32_543 : BitVec 32 := 16#32
  let c0_i32_546 : BitVec 32 := 0#32
  let v1067 : BitVec 1 := Scalar.cmpi .sgt c16_i32_543 c0_i32_546
  let v1068 : BitVec 32 := Scalar.extui v1067
  let c0_i32_547 : BitVec 32 := 0#32
  let v1069 : BitVec 1 := Scalar.cmpi .slt c16_i32_543 c0_i32_547
  let v1070 : BitVec 32 := Scalar.extui v1069
  let v1071 : BitVec 32 := Scalar.subi v1068 v1070
  let v1072 : BitVec 1 := Scalar.cmpi .ne v1066 v1071
  let v1073 : BitVec 32 := Scalar.remsi arg0 c16_i32_543
  let c0_i32_548 : BitVec 32 := 0#32
  let v1074 : BitVec 1 := Scalar.cmpi .ne v1073 c0_i32_548
  let v1075 : BitVec 1 := Scalar.andi v1072 v1074
  let v1061 : BitVec 32 := Scalar.divsi arg0 c16_i32_543
  let c1_i32_549 : BitVec 32 := 1#32
  let v1076 : BitVec 32 := Scalar.subi v1061 c1_i32_549
  let v1077 : BitVec 32 := Scalar.select v1075 v1076 v1061
  let c16_i32_536 : BitVec 32 := 16#32
  let c0_i32_537 : BitVec 32 := 0#32
  let v1050 : BitVec 1 := Scalar.cmpi .eq c16_i32_536 c0_i32_537
  let c1_i32_538 : BitVec 32 := 1#32
  let v1051 : BitVec 32 := Scalar.select v1050 c1_i32_538 c16_i32_536
  let v1052 : BitVec 32 := Scalar.remsi arg0 v1051
  let c0_i32_540 : BitVec 32 := 0#32
  let v1054 : BitVec 1 := Scalar.cmpi .slt v1052 c0_i32_540
  let c0_i32_541 : BitVec 32 := 0#32
  let v1055 : BitVec 1 := Scalar.cmpi .slt v1051 c0_i32_541
  let v1056 : BitVec 1 := Scalar.xori v1054 v1055
  let c0_i32_539 : BitVec 32 := 0#32
  let v1053 : BitVec 1 := Scalar.cmpi .ne v1052 c0_i32_539
  let v1057 : BitVec 1 := Scalar.andi v1056 v1053
  let v1058 : BitVec 32 := Scalar.addi v1052 v1051
  let v1059 : BitVec 32 := Scalar.select v1057 v1058 v1052
  let c512_i32_542 : BitVec 32 := 512#32
  let v1060 : BitVec 32 := Scalar.muli v1059 c512_i32_542
  let c6_i32_550 : BitVec 32 := 6#32
  let c0_i32_551 : BitVec 32 := 0#32
  ![v1077.toNat, v1060.toNat, 6, 0]
def k0_off91 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_552 : BitVec 32 := 0#32
  let c768_i32_553 : BitVec 32 := 768#32
  ![v9.toNat, 0, 768]
def k0_off92 (i : grid0.Coords) : Fin 4 → Nat :=
  let arg0 : BitVec 32 := BitVec.ofNat 32 (i 0).val
  let c0_i32_562 : BitVec 32 := 0#32
  let v1096 : BitVec 1 := Scalar.cmpi .sgt arg0 c0_i32_562
  let v1097 : BitVec 32 := Scalar.extui v1096
  let c0_i32_563 : BitVec 32 := 0#32
  let v1098 : BitVec 1 := Scalar.cmpi .slt arg0 c0_i32_563
  let v1099 : BitVec 32 := Scalar.extui v1098
  let v1100 : BitVec 32 := Scalar.subi v1097 v1099
  let c16_i32_561 : BitVec 32 := 16#32
  let c0_i32_564 : BitVec 32 := 0#32
  let v1101 : BitVec 1 := Scalar.cmpi .sgt c16_i32_561 c0_i32_564
  let v1102 : BitVec 32 := Scalar.extui v1101
  let c0_i32_565 : BitVec 32 := 0#32
  let v1103 : BitVec 1 := Scalar.cmpi .slt c16_i32_561 c0_i32_565
  let v1104 : BitVec 32 := Scalar.extui v1103
  let v1105 : BitVec 32 := Scalar.subi v1102 v1104
  let v1106 : BitVec 1 := Scalar.cmpi .ne v1100 v1105
  let v1107 : BitVec 32 := Scalar.remsi arg0 c16_i32_561
  let c0_i32_566 : BitVec 32 := 0#32
  let v1108 : BitVec 1 := Scalar.cmpi .ne v1107 c0_i32_566
  let v1109 : BitVec 1 := Scalar.andi v1106 v1108
  let v1095 : BitVec 32 := Scalar.divsi arg0 c16_i32_561
  let c1_i32_567 : BitVec 32 := 1#32
  let v1110 : BitVec 32 := Scalar.subi v1095 c1_i32_567
  let v1111 : BitVec 32 := Scalar.select v1109 v1110 v1095
  let c16_i32_554 : BitVec 32 := 16#32
  let c0_i32_555 : BitVec 32 := 0#32
  let v1084 : BitVec 1 := Scalar.cmpi .eq c16_i32_554 c0_i32_555
  let c1_i32_556 : BitVec 32 := 1#32
  let v1085 : BitVec 32 := Scalar.select v1084 c1_i32_556 c16_i32_554
  let v1086 : BitVec 32 := Scalar.remsi arg0 v1085
  let c0_i32_558 : BitVec 32 := 0#32
  let v1088 : BitVec 1 := Scalar.cmpi .slt v1086 c0_i32_558
  let c0_i32_559 : BitVec 32 := 0#32
  let v1089 : BitVec 1 := Scalar.cmpi .slt v1085 c0_i32_559
  let v1090 : BitVec 1 := Scalar.xori v1088 v1089
  let c0_i32_557 : BitVec 32 := 0#32
  let v1087 : BitVec 1 := Scalar.cmpi .ne v1086 c0_i32_557
  let v1091 : BitVec 1 := Scalar.andi v1090 v1087
  let v1092 : BitVec 32 := Scalar.addi v1086 v1085
  let v1093 : BitVec 32 := Scalar.select v1091 v1092 v1086
  let c512_i32_560 : BitVec 32 := 512#32
  let v1094 : BitVec 32 := Scalar.muli v1093 c512_i32_560
  let c7_i32_568 : BitVec 32 := 7#32
  let c0_i32_569 : BitVec 32 := 0#32
  ![v1111.toNat, v1094.toNat, 7, 0]
def k0_off93 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_570 : BitVec 32 := 0#32
  let c896_i32_571 : BitVec 32 := 896#32
  ![v9.toNat, 0, 896]
def k0_off94 (i : grid0.Coords) : Fin 4 → Nat :=
  let arg0 : BitVec 32 := BitVec.ofNat 32 (i 0).val
  let c0_i32_580 : BitVec 32 := 0#32
  let v1130 : BitVec 1 := Scalar.cmpi .sgt arg0 c0_i32_580
  let v1131 : BitVec 32 := Scalar.extui v1130
  let c0_i32_581 : BitVec 32 := 0#32
  let v1132 : BitVec 1 := Scalar.cmpi .slt arg0 c0_i32_581
  let v1133 : BitVec 32 := Scalar.extui v1132
  let v1134 : BitVec 32 := Scalar.subi v1131 v1133
  let c16_i32_579 : BitVec 32 := 16#32
  let c0_i32_582 : BitVec 32 := 0#32
  let v1135 : BitVec 1 := Scalar.cmpi .sgt c16_i32_579 c0_i32_582
  let v1136 : BitVec 32 := Scalar.extui v1135
  let c0_i32_583 : BitVec 32 := 0#32
  let v1137 : BitVec 1 := Scalar.cmpi .slt c16_i32_579 c0_i32_583
  let v1138 : BitVec 32 := Scalar.extui v1137
  let v1139 : BitVec 32 := Scalar.subi v1136 v1138
  let v1140 : BitVec 1 := Scalar.cmpi .ne v1134 v1139
  let v1141 : BitVec 32 := Scalar.remsi arg0 c16_i32_579
  let c0_i32_584 : BitVec 32 := 0#32
  let v1142 : BitVec 1 := Scalar.cmpi .ne v1141 c0_i32_584
  let v1143 : BitVec 1 := Scalar.andi v1140 v1142
  let v1129 : BitVec 32 := Scalar.divsi arg0 c16_i32_579
  let c1_i32_585 : BitVec 32 := 1#32
  let v1144 : BitVec 32 := Scalar.subi v1129 c1_i32_585
  let v1145 : BitVec 32 := Scalar.select v1143 v1144 v1129
  let c16_i32_572 : BitVec 32 := 16#32
  let c0_i32_573 : BitVec 32 := 0#32
  let v1118 : BitVec 1 := Scalar.cmpi .eq c16_i32_572 c0_i32_573
  let c1_i32_574 : BitVec 32 := 1#32
  let v1119 : BitVec 32 := Scalar.select v1118 c1_i32_574 c16_i32_572
  let v1120 : BitVec 32 := Scalar.remsi arg0 v1119
  let c0_i32_576 : BitVec 32 := 0#32
  let v1122 : BitVec 1 := Scalar.cmpi .slt v1120 c0_i32_576
  let c0_i32_577 : BitVec 32 := 0#32
  let v1123 : BitVec 1 := Scalar.cmpi .slt v1119 c0_i32_577
  let v1124 : BitVec 1 := Scalar.xori v1122 v1123
  let c0_i32_575 : BitVec 32 := 0#32
  let v1121 : BitVec 1 := Scalar.cmpi .ne v1120 c0_i32_575
  let v1125 : BitVec 1 := Scalar.andi v1124 v1121
  let v1126 : BitVec 32 := Scalar.addi v1120 v1119
  let v1127 : BitVec 32 := Scalar.select v1125 v1126 v1120
  let c512_i32_578 : BitVec 32 := 512#32
  let v1128 : BitVec 32 := Scalar.muli v1127 c512_i32_578
  let c8_i32_586 : BitVec 32 := 8#32
  let c0_i32_587 : BitVec 32 := 0#32
  ![v1145.toNat, v1128.toNat, 8, 0]
def k0_off95 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_588 : BitVec 32 := 0#32
  let c1024_i32_589 : BitVec 32 := 1024#32
  ![v9.toNat, 0, 1024]
def k0_off96 (i : grid0.Coords) : Fin 4 → Nat :=
  let arg0 : BitVec 32 := BitVec.ofNat 32 (i 0).val
  let c0_i32_598 : BitVec 32 := 0#32
  let v1164 : BitVec 1 := Scalar.cmpi .sgt arg0 c0_i32_598
  let v1165 : BitVec 32 := Scalar.extui v1164
  let c0_i32_599 : BitVec 32 := 0#32
  let v1166 : BitVec 1 := Scalar.cmpi .slt arg0 c0_i32_599
  let v1167 : BitVec 32 := Scalar.extui v1166
  let v1168 : BitVec 32 := Scalar.subi v1165 v1167
  let c16_i32_597 : BitVec 32 := 16#32
  let c0_i32_600 : BitVec 32 := 0#32
  let v1169 : BitVec 1 := Scalar.cmpi .sgt c16_i32_597 c0_i32_600
  let v1170 : BitVec 32 := Scalar.extui v1169
  let c0_i32_601 : BitVec 32 := 0#32
  let v1171 : BitVec 1 := Scalar.cmpi .slt c16_i32_597 c0_i32_601
  let v1172 : BitVec 32 := Scalar.extui v1171
  let v1173 : BitVec 32 := Scalar.subi v1170 v1172
  let v1174 : BitVec 1 := Scalar.cmpi .ne v1168 v1173
  let v1175 : BitVec 32 := Scalar.remsi arg0 c16_i32_597
  let c0_i32_602 : BitVec 32 := 0#32
  let v1176 : BitVec 1 := Scalar.cmpi .ne v1175 c0_i32_602
  let v1177 : BitVec 1 := Scalar.andi v1174 v1176
  let v1163 : BitVec 32 := Scalar.divsi arg0 c16_i32_597
  let c1_i32_603 : BitVec 32 := 1#32
  let v1178 : BitVec 32 := Scalar.subi v1163 c1_i32_603
  let v1179 : BitVec 32 := Scalar.select v1177 v1178 v1163
  let c16_i32_590 : BitVec 32 := 16#32
  let c0_i32_591 : BitVec 32 := 0#32
  let v1152 : BitVec 1 := Scalar.cmpi .eq c16_i32_590 c0_i32_591
  let c1_i32_592 : BitVec 32 := 1#32
  let v1153 : BitVec 32 := Scalar.select v1152 c1_i32_592 c16_i32_590
  let v1154 : BitVec 32 := Scalar.remsi arg0 v1153
  let c0_i32_594 : BitVec 32 := 0#32
  let v1156 : BitVec 1 := Scalar.cmpi .slt v1154 c0_i32_594
  let c0_i32_595 : BitVec 32 := 0#32
  let v1157 : BitVec 1 := Scalar.cmpi .slt v1153 c0_i32_595
  let v1158 : BitVec 1 := Scalar.xori v1156 v1157
  let c0_i32_593 : BitVec 32 := 0#32
  let v1155 : BitVec 1 := Scalar.cmpi .ne v1154 c0_i32_593
  let v1159 : BitVec 1 := Scalar.andi v1158 v1155
  let v1160 : BitVec 32 := Scalar.addi v1154 v1153
  let v1161 : BitVec 32 := Scalar.select v1159 v1160 v1154
  let c512_i32_596 : BitVec 32 := 512#32
  let v1162 : BitVec 32 := Scalar.muli v1161 c512_i32_596
  let c9_i32_604 : BitVec 32 := 9#32
  let c0_i32_605 : BitVec 32 := 0#32
  ![v1179.toNat, v1162.toNat, 9, 0]
def k0_off97 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_606 : BitVec 32 := 0#32
  let c1152_i32_607 : BitVec 32 := 1152#32
  ![v9.toNat, 0, 1152]
def k0_off98 (i : grid0.Coords) : Fin 4 → Nat :=
  let arg0 : BitVec 32 := BitVec.ofNat 32 (i 0).val
  let c0_i32_616 : BitVec 32 := 0#32
  let v1198 : BitVec 1 := Scalar.cmpi .sgt arg0 c0_i32_616
  let v1199 : BitVec 32 := Scalar.extui v1198
  let c0_i32_617 : BitVec 32 := 0#32
  let v1200 : BitVec 1 := Scalar.cmpi .slt arg0 c0_i32_617
  let v1201 : BitVec 32 := Scalar.extui v1200
  let v1202 : BitVec 32 := Scalar.subi v1199 v1201
  let c16_i32_615 : BitVec 32 := 16#32
  let c0_i32_618 : BitVec 32 := 0#32
  let v1203 : BitVec 1 := Scalar.cmpi .sgt c16_i32_615 c0_i32_618
  let v1204 : BitVec 32 := Scalar.extui v1203
  let c0_i32_619 : BitVec 32 := 0#32
  let v1205 : BitVec 1 := Scalar.cmpi .slt c16_i32_615 c0_i32_619
  let v1206 : BitVec 32 := Scalar.extui v1205
  let v1207 : BitVec 32 := Scalar.subi v1204 v1206
  let v1208 : BitVec 1 := Scalar.cmpi .ne v1202 v1207
  let v1209 : BitVec 32 := Scalar.remsi arg0 c16_i32_615
  let c0_i32_620 : BitVec 32 := 0#32
  let v1210 : BitVec 1 := Scalar.cmpi .ne v1209 c0_i32_620
  let v1211 : BitVec 1 := Scalar.andi v1208 v1210
  let v1197 : BitVec 32 := Scalar.divsi arg0 c16_i32_615
  let c1_i32_621 : BitVec 32 := 1#32
  let v1212 : BitVec 32 := Scalar.subi v1197 c1_i32_621
  let v1213 : BitVec 32 := Scalar.select v1211 v1212 v1197
  let c16_i32_608 : BitVec 32 := 16#32
  let c0_i32_609 : BitVec 32 := 0#32
  let v1186 : BitVec 1 := Scalar.cmpi .eq c16_i32_608 c0_i32_609
  let c1_i32_610 : BitVec 32 := 1#32
  let v1187 : BitVec 32 := Scalar.select v1186 c1_i32_610 c16_i32_608
  let v1188 : BitVec 32 := Scalar.remsi arg0 v1187
  let c0_i32_612 : BitVec 32 := 0#32
  let v1190 : BitVec 1 := Scalar.cmpi .slt v1188 c0_i32_612
  let c0_i32_613 : BitVec 32 := 0#32
  let v1191 : BitVec 1 := Scalar.cmpi .slt v1187 c0_i32_613
  let v1192 : BitVec 1 := Scalar.xori v1190 v1191
  let c0_i32_611 : BitVec 32 := 0#32
  let v1189 : BitVec 1 := Scalar.cmpi .ne v1188 c0_i32_611
  let v1193 : BitVec 1 := Scalar.andi v1192 v1189
  let v1194 : BitVec 32 := Scalar.addi v1188 v1187
  let v1195 : BitVec 32 := Scalar.select v1193 v1194 v1188
  let c512_i32_614 : BitVec 32 := 512#32
  let v1196 : BitVec 32 := Scalar.muli v1195 c512_i32_614
  let c10_i32_622 : BitVec 32 := 10#32
  let c0_i32_623 : BitVec 32 := 0#32
  ![v1213.toNat, v1196.toNat, 10, 0]
def k0_off99 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_624 : BitVec 32 := 0#32
  let c1280_i32_625 : BitVec 32 := 1280#32
  ![v9.toNat, 0, 1280]
def k0_off100 (i : grid0.Coords) : Fin 4 → Nat :=
  let arg0 : BitVec 32 := BitVec.ofNat 32 (i 0).val
  let c0_i32_634 : BitVec 32 := 0#32
  let v1232 : BitVec 1 := Scalar.cmpi .sgt arg0 c0_i32_634
  let v1233 : BitVec 32 := Scalar.extui v1232
  let c0_i32_635 : BitVec 32 := 0#32
  let v1234 : BitVec 1 := Scalar.cmpi .slt arg0 c0_i32_635
  let v1235 : BitVec 32 := Scalar.extui v1234
  let v1236 : BitVec 32 := Scalar.subi v1233 v1235
  let c16_i32_633 : BitVec 32 := 16#32
  let c0_i32_636 : BitVec 32 := 0#32
  let v1237 : BitVec 1 := Scalar.cmpi .sgt c16_i32_633 c0_i32_636
  let v1238 : BitVec 32 := Scalar.extui v1237
  let c0_i32_637 : BitVec 32 := 0#32
  let v1239 : BitVec 1 := Scalar.cmpi .slt c16_i32_633 c0_i32_637
  let v1240 : BitVec 32 := Scalar.extui v1239
  let v1241 : BitVec 32 := Scalar.subi v1238 v1240
  let v1242 : BitVec 1 := Scalar.cmpi .ne v1236 v1241
  let v1243 : BitVec 32 := Scalar.remsi arg0 c16_i32_633
  let c0_i32_638 : BitVec 32 := 0#32
  let v1244 : BitVec 1 := Scalar.cmpi .ne v1243 c0_i32_638
  let v1245 : BitVec 1 := Scalar.andi v1242 v1244
  let v1231 : BitVec 32 := Scalar.divsi arg0 c16_i32_633
  let c1_i32_639 : BitVec 32 := 1#32
  let v1246 : BitVec 32 := Scalar.subi v1231 c1_i32_639
  let v1247 : BitVec 32 := Scalar.select v1245 v1246 v1231
  let c16_i32_626 : BitVec 32 := 16#32
  let c0_i32_627 : BitVec 32 := 0#32
  let v1220 : BitVec 1 := Scalar.cmpi .eq c16_i32_626 c0_i32_627
  let c1_i32_628 : BitVec 32 := 1#32
  let v1221 : BitVec 32 := Scalar.select v1220 c1_i32_628 c16_i32_626
  let v1222 : BitVec 32 := Scalar.remsi arg0 v1221
  let c0_i32_630 : BitVec 32 := 0#32
  let v1224 : BitVec 1 := Scalar.cmpi .slt v1222 c0_i32_630
  let c0_i32_631 : BitVec 32 := 0#32
  let v1225 : BitVec 1 := Scalar.cmpi .slt v1221 c0_i32_631
  let v1226 : BitVec 1 := Scalar.xori v1224 v1225
  let c0_i32_629 : BitVec 32 := 0#32
  let v1223 : BitVec 1 := Scalar.cmpi .ne v1222 c0_i32_629
  let v1227 : BitVec 1 := Scalar.andi v1226 v1223
  let v1228 : BitVec 32 := Scalar.addi v1222 v1221
  let v1229 : BitVec 32 := Scalar.select v1227 v1228 v1222
  let c512_i32_632 : BitVec 32 := 512#32
  let v1230 : BitVec 32 := Scalar.muli v1229 c512_i32_632
  let c11_i32_640 : BitVec 32 := 11#32
  let c0_i32_641 : BitVec 32 := 0#32
  ![v1247.toNat, v1230.toNat, 11, 0]
def k0_off101 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_642 : BitVec 32 := 0#32
  let c1408_i32_643 : BitVec 32 := 1408#32
  ![v9.toNat, 0, 1408]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S32768x2048 : Shape := ⟨2, ![32768, 2048]⟩
abbrev S2048x3072 : Shape := ⟨2, ![2048, 3072]⟩
abbrev S32768x3072 : Shape := ⟨2, ![32768, 3072]⟩
abbrev S4x8192x2x12x128 : Shape := ⟨5, ![4, 8192, 2, 12, 128]⟩
abbrev S4x8192x1x12x128 : Shape := ⟨5, ![4, 8192, 1, 12, 128]⟩
abbrev S4x8192x12x128 : Shape := ⟨4, ![4, 8192, 12, 128]⟩
abbrev S32768x1536 : Shape := ⟨2, ![32768, 1536]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x3072, .f32⟩
  | .hbm, ⟨2, _⟩ => ⟨S32768x3072, .f32⟩
  | .hbm, ⟨3, _⟩ => ⟨S4x8192x2x12x128, .f32⟩
  | .hbm, ⟨4, _⟩ => ⟨S4x8192x1x12x128, .f32⟩
  | .hbm, ⟨5, _⟩ => ⟨S4x8192x12x128, .f32⟩
  | .hbm, ⟨6, _⟩ => ⟨S32768x1536, .f32⟩
  | .hbm, ⟨7, _⟩ => ⟨S32768x1536, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S32768x2048 : Shape := ⟨2, ![32768, 2048]⟩
abbrev S2048x3072 : Shape := ⟨2, ![2048, 3072]⟩
abbrev S4x8192x12x128 : Shape := ⟨4, ![4, 8192, 12, 128]⟩
abbrev S32768x1536 : Shape := ⟨2, ![32768, 1536]⟩
abbrev S512x2048 : Shape := ⟨2, ![512, 2048]⟩
abbrev S2048x1536 : Shape := ⟨2, ![2048, 1536]⟩
abbrev S512x1536 : Shape := ⟨2, ![512, 1536]⟩
abbrev S2x512x1536 : Shape := ⟨3, ![2, 512, 1536]⟩
abbrev S2 : Shape := ⟨1, ![2]⟩
abbrev S1 : Shape := ⟨1, ![1]⟩
abbrev S_ : Shape := ⟨0, ![]⟩
abbrev S1x512x1x128 : Shape := ⟨4, ![1, 512, 1, 128]⟩
abbrev S512x128 : Shape := ⟨2, ![512, 128]⟩
abbrev S1x512x128 : Shape := ⟨3, ![1, 512, 128]⟩
abbrev S1x512x1536 : Shape := ⟨3, ![1, 512, 1536]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x3072, .f32⟩
  | .hbm, ⟨2, _⟩ => ⟨S32768x2048, .bf16⟩
  | .hbm, ⟨3, _⟩ => ⟨S4x8192x12x128, .f32⟩
  | .hbm, ⟨4, _⟩ => ⟨S32768x1536, .bf16⟩
  | .local _ .vmem, ⟨0, _⟩ => ⟨S512x2048, .bf16⟩
  | .local _ .vmem, ⟨1, _⟩ => ⟨S512x2048, .bf16⟩
  | .local _ .vmem, ⟨2, _⟩ => ⟨S2048x1536, .f32⟩
  | .local _ .vmem, ⟨3, _⟩ => ⟨S512x1536, .bf16⟩
  | .local _ .vmem, ⟨4, _⟩ => ⟨S512x1536, .bf16⟩
  | .local _ .vmem, ⟨5, _⟩ => ⟨S2x512x1536, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_219 : BitVec 32 := 0#32
  let v449 : BitVec 1 := Scalar.cmpi .sgt v436 c0_i32_219
  let v450 : BitVec 32 := Scalar.extui v449
  let c0_i32_220 : BitVec 32 := 0#32
  let v451 : BitVec 1 := Scalar.cmpi .slt v436 c0_i32_220
  let v452 : BitVec 32 := Scalar.extui v451
  let v453 : BitVec 32 := Scalar.subi v450 v452
  let c16_i32_218 : BitVec 32 := 16#32
  let c0_i32_221 : BitVec 32 := 0#32
  let v454 : BitVec 1 := Scalar.cmpi .sgt c16_i32_218 c0_i32_221
  let v455 : BitVec 32 := Scalar.extui v454
  let c0_i32_222 : BitVec 32 := 0#32
  let v456 : BitVec 1 := Scalar.cmpi .slt c16_i32_218 c0_i32_222
  let v457 : BitVec 32 := Scalar.extui v456
  let v458 : BitVec 32 := Scalar.subi v455 v457
  let v459 : BitVec 1 := Scalar.cmpi .ne v453 v458
  let v460 : BitVec 32 := Scalar.remsi v436 c16_i32_218
  let c0_i32_223 : BitVec 32 := 0#32
  let v461 : BitVec 1 := Scalar.cmpi .ne v460 c0_i32_223
  let v462 : BitVec 1 := Scalar.andi v459 v461
  let v448 : BitVec 32 := Scalar.divsi v436 c16_i32_218
  let c1_i32_224 : BitVec 32 := 1#32
  let v463 : BitVec 32 := Scalar.subi v448 c1_i32_224
  let v464 : BitVec 32 := Scalar.select v462 v463 v448
  let c16_i32_211 : BitVec 32 := 16#32
  let c0_i32_212 : BitVec 32 := 0#32
  let v437 : BitVec 1 := Scalar.cmpi .eq c16_i32_211 c0_i32_212
  let c1_i32_213 : BitVec 32 := 1#32
  let v438 : BitVec 32 := Scalar.select v437 c1_i32_213 c16_i32_211
  let v439 : BitVec 32 := Scalar.remsi v436 v438
  let c0_i32_215 : BitVec 32 := 0#32
  let v441 : BitVec 1 := Scalar.cmpi .slt v439 c0_i32_215
  let c0_i32_216 : BitVec 32 := 0#32
  let v442 : BitVec 1 := Scalar.cmpi .slt v438 c0_i32_216
  let v443 : BitVec 1 := Scalar.xori v441 v442
  let c0_i32_214 : BitVec 32 := 0#32
  let v440 : BitVec 1 := Scalar.cmpi .ne v439 c0_i32_214
  let v444 : BitVec 1 := Scalar.andi v443 v440
  let v445 : BitVec 32 := Scalar.addi v439 v438
  let v446 : BitVec 32 := Scalar.select v444 v445 v439
  let c512_i32_217 : BitVec 32 := 512#32
  let v447 : BitVec 32 := Scalar.muli v446 c512_i32_217
  let c0_i32_225 : BitVec 32 := 0#32
  let c0_i32_226 : BitVec 32 := 0#32
  ![v464.toNat, v447.toNat, 0, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_227 : BitVec 32 := 0#32
  let c0_i32_228 : BitVec 32 := 0#32
  ![v9.toNat, 0, 0]
def k0_off4 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_237 : BitVec 32 := 0#32
  let v483 : BitVec 1 := Scalar.cmpi .sgt v436 c0_i32_237
  let v484 : BitVec 32 := Scalar.extui v483
  let c0_i32_238 : BitVec 32 := 0#32
  let v485 : BitVec 1 := Scalar.cmpi .slt v436 c0_i32_238
  let v486 : BitVec 32 := Scalar.extui v485
  let v487 : BitVec 32 := Scalar.subi v484 v486
  let c16_i32_236 : BitVec 32 := 16#32
  let c0_i32_239 : BitVec 32 := 0#32
  let v488 : BitVec 1 := Scalar.cmpi .sgt c16_i32_236 c0_i32_239
  let v489 : BitVec 32 := Scalar.extui v488
  let c0_i32_240 : BitVec 32 := 0#32
  let v490 : BitVec 1 := Scalar.cmpi .slt c16_i32_236 c0_i32_240
  let v491 : BitVec 32 := Scalar.extui v490
  let v492 : BitVec 32 := Scalar.subi v489 v491
  let v493 : BitVec 1 := Scalar.cmpi .ne v487 v492
  let v494 : BitVec 32 := Scalar.remsi v436 c16_i32_236
  let c0_i32_241 : BitVec 32 := 0#32
  let v495 : BitVec 1 := Scalar.cmpi .ne v494 c0_i32_241
  let v496 : BitVec 1 := Scalar.andi v493 v495
  let v482 : BitVec 32 := Scalar.divsi v436 c16_i32_236
  let c1_i32_242 : BitVec 32 := 1#32
  let v497 : BitVec 32 := Scalar.subi v482 c1_i32_242
  let v498 : BitVec 32 := Scalar.select v496 v497 v482
  let c16_i32_229 : BitVec 32 := 16#32
  let c0_i32_230 : BitVec 32 := 0#32
  let v471 : BitVec 1 := Scalar.cmpi .eq c16_i32_229 c0_i32_230
  let c1_i32_231 : BitVec 32 := 1#32
  let v472 : BitVec 32 := Scalar.select v471 c1_i32_231 c16_i32_229
  let v473 : BitVec 32 := Scalar.remsi v436 v472
  let c0_i32_233 : BitVec 32 := 0#32
  let v475 : BitVec 1 := Scalar.cmpi .slt v473 c0_i32_233
  let c0_i32_234 : BitVec 32 := 0#32
  let v476 : BitVec 1 := Scalar.cmpi .slt v472 c0_i32_234
  let v477 : BitVec 1 := Scalar.xori v475 v476
  let c0_i32_232 : BitVec 32 := 0#32
  let v474 : BitVec 1 := Scalar.cmpi .ne v473 c0_i32_232
  let v478 : BitVec 1 := Scalar.andi v477 v474
  let v479 : BitVec 32 := Scalar.addi v473 v472
  let v480 : BitVec 32 := Scalar.select v478 v479 v473
  let c512_i32_235 : BitVec 32 := 512#32
  let v481 : BitVec 32 := Scalar.muli v480 c512_i32_235
  let c1_i32_243 : BitVec 32 := 1#32
  let c0_i32_244 : BitVec 32 := 0#32
  ![v498.toNat, v481.toNat, 1, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_245 : BitVec 32 := 0#32
  let c128_i32_246 : BitVec 32 := 128#32
  ![v9.toNat, 0, 128]
def k0_off6 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_255 : BitVec 32 := 0#32
  let v517 : BitVec 1 := Scalar.cmpi .sgt v436 c0_i32_255
  let v518 : BitVec 32 := Scalar.extui v517
  let c0_i32_256 : BitVec 32 := 0#32
  let v519 : BitVec 1 := Scalar.cmpi .slt v436 c0_i32_256
  let v520 : BitVec 32 := Scalar.extui v519
  let v521 : BitVec 32 := Scalar.subi v518 v520
  let c16_i32_254 : BitVec 32 := 16#32
  let c0_i32_257 : BitVec 32 := 0#32
  let v522 : BitVec 1 := Scalar.cmpi .sgt c16_i32_254 c0_i32_257
  let v523 : BitVec 32 := Scalar.extui v522
  let c0_i32_258 : BitVec 32 := 0#32
  let v524 : BitVec 1 := Scalar.cmpi .slt c16_i32_254 c0_i32_258
  let v525 : BitVec 32 := Scalar.extui v524
  let v526 : BitVec 32 := Scalar.subi v523 v525
  let v527 : BitVec 1 := Scalar.cmpi .ne v521 v526
  let v528 : BitVec 32 := Scalar.remsi v436 c16_i32_254
  let c0_i32_259 : BitVec 32 := 0#32
  let v529 : BitVec 1 := Scalar.cmpi .ne v528 c0_i32_259
  let v530 : BitVec 1 := Scalar.andi v527 v529
  let v516 : BitVec 32 := Scalar.divsi v436 c16_i32_254
  let c1_i32_260 : BitVec 32 := 1#32
  let v531 : BitVec 32 := Scalar.subi v516 c1_i32_260
  let v532 : BitVec 32 := Scalar.select v530 v531 v516
  let c16_i32_247 : BitVec 32 := 16#32
  let c0_i32_248 : BitVec 32 := 0#32
  let v505 : BitVec 1 := Scalar.cmpi .eq c16_i32_247 c0_i32_248
  let c1_i32_249 : BitVec 32 := 1#32
  let v506 : BitVec 32 := Scalar.select v505 c1_i32_249 c16_i32_247
  let v507 : BitVec 32 := Scalar.remsi v436 v506
  let c0_i32_251 : BitVec 32 := 0#32
  let v509 : BitVec 1 := Scalar.cmpi .slt v507 c0_i32_251
  let c0_i32_252 : BitVec 32 := 0#32
  let v510 : BitVec 1 := Scalar.cmpi .slt v506 c0_i32_252
  let v511 : BitVec 1 := Scalar.xori v509 v510
  let c0_i32_250 : BitVec 32 := 0#32
  let v508 : BitVec 1 := Scalar.cmpi .ne v507 c0_i32_250
  let v512 : BitVec 1 := Scalar.andi v511 v508
  let v513 : BitVec 32 := Scalar.addi v507 v506
  let v514 : BitVec 32 := Scalar.select v512 v513 v507
  let c512_i32_253 : BitVec 32 := 512#32
  let v515 : BitVec 32 := Scalar.muli v514 c512_i32_253
  let c2_i32_261 : BitVec 32 := 2#32
  let c0_i32_262 : BitVec 32 := 0#32
  ![v532.toNat, v515.toNat, 2, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_263 : BitVec 32 := 0#32
  let c256_i32_264 : BitVec 32 := 256#32
  ![v9.toNat, 0, 256]
def k0_off8 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_273 : BitVec 32 := 0#32
  let v551 : BitVec 1 := Scalar.cmpi .sgt v436 c0_i32_273
  let v552 : BitVec 32 := Scalar.extui v551
  let c0_i32_274 : BitVec 32 := 0#32
  let v553 : BitVec 1 := Scalar.cmpi .slt v436 c0_i32_274
  let v554 : BitVec 32 := Scalar.extui v553
  let v555 : BitVec 32 := Scalar.subi v552 v554
  let c16_i32_272 : BitVec 32 := 16#32
  let c0_i32_275 : BitVec 32 := 0#32
  let v556 : BitVec 1 := Scalar.cmpi .sgt c16_i32_272 c0_i32_275
  let v557 : BitVec 32 := Scalar.extui v556
  let c0_i32_276 : BitVec 32 := 0#32
  let v558 : BitVec 1 := Scalar.cmpi .slt c16_i32_272 c0_i32_276
  let v559 : BitVec 32 := Scalar.extui v558
  let v560 : BitVec 32 := Scalar.subi v557 v559
  let v561 : BitVec 1 := Scalar.cmpi .ne v555 v560
  let v562 : BitVec 32 := Scalar.remsi v436 c16_i32_272
  let c0_i32_277 : BitVec 32 := 0#32
  let v563 : BitVec 1 := Scalar.cmpi .ne v562 c0_i32_277
  let v564 : BitVec 1 := Scalar.andi v561 v563
  let v550 : BitVec 32 := Scalar.divsi v436 c16_i32_272
  let c1_i32_278 : BitVec 32 := 1#32
  let v565 : BitVec 32 := Scalar.subi v550 c1_i32_278
  let v566 : BitVec 32 := Scalar.select v564 v565 v550
  let c16_i32_265 : BitVec 32 := 16#32
  let c0_i32_266 : BitVec 32 := 0#32
  let v539 : BitVec 1 := Scalar.cmpi .eq c16_i32_265 c0_i32_266
  let c1_i32_267 : BitVec 32 := 1#32
  let v540 : BitVec 32 := Scalar.select v539 c1_i32_267 c16_i32_265
  let v541 : BitVec 32 := Scalar.remsi v436 v540
  let c0_i32_269 : BitVec 32 := 0#32
  let v543 : BitVec 1 := Scalar.cmpi .slt v541 c0_i32_269
  let c0_i32_270 : BitVec 32 := 0#32
  let v544 : BitVec 1 := Scalar.cmpi .slt v540 c0_i32_270
  let v545 : BitVec 1 := Scalar.xori v543 v544
  let c0_i32_268 : BitVec 32 := 0#32
  let v542 : BitVec 1 := Scalar.cmpi .ne v541 c0_i32_268
  let v546 : BitVec 1 := Scalar.andi v545 v542
  let v547 : BitVec 32 := Scalar.addi v541 v540
  let v548 : BitVec 32 := Scalar.select v546 v547 v541
  let c512_i32_271 : BitVec 32 := 512#32
  let v549 : BitVec 32 := Scalar.muli v548 c512_i32_271
  let c3_i32_279 : BitVec 32 := 3#32
  let c0_i32_280 : BitVec 32 := 0#32
  ![v566.toNat, v549.toNat, 3, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_281 : BitVec 32 := 0#32
  let c384_i32_282 : BitVec 32 := 384#32
  ![v9.toNat, 0, 384]
def k0_off10 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_291 : BitVec 32 := 0#32
  let v585 : BitVec 1 := Scalar.cmpi .sgt v436 c0_i32_291
  let v586 : BitVec 32 := Scalar.extui v585
  let c0_i32_292 : BitVec 32 := 0#32
  let v587 : BitVec 1 := Scalar.cmpi .slt v436 c0_i32_292
  let v588 : BitVec 32 := Scalar.extui v587
  let v589 : BitVec 32 := Scalar.subi v586 v588
  let c16_i32_290 : BitVec 32 := 16#32
  let c0_i32_293 : BitVec 32 := 0#32
  let v590 : BitVec 1 := Scalar.cmpi .sgt c16_i32_290 c0_i32_293
  let v591 : BitVec 32 := Scalar.extui v590
  let c0_i32_294 : BitVec 32 := 0#32
  let v592 : BitVec 1 := Scalar.cmpi .slt c16_i32_290 c0_i32_294
  let v593 : BitVec 32 := Scalar.extui v592
  let v594 : BitVec 32 := Scalar.subi v591 v593
  let v595 : BitVec 1 := Scalar.cmpi .ne v589 v594
  let v596 : BitVec 32 := Scalar.remsi v436 c16_i32_290
  let c0_i32_295 : BitVec 32 := 0#32
  let v597 : BitVec 1 := Scalar.cmpi .ne v596 c0_i32_295
  let v598 : BitVec 1 := Scalar.andi v595 v597
  let v584 : BitVec 32 := Scalar.divsi v436 c16_i32_290
  let c1_i32_296 : BitVec 32 := 1#32
  let v599 : BitVec 32 := Scalar.subi v584 c1_i32_296
  let v600 : BitVec 32 := Scalar.select v598 v599 v584
  let c16_i32_283 : BitVec 32 := 16#32
  let c0_i32_284 : BitVec 32 := 0#32
  let v573 : BitVec 1 := Scalar.cmpi .eq c16_i32_283 c0_i32_284
  let c1_i32_285 : BitVec 32 := 1#32
  let v574 : BitVec 32 := Scalar.select v573 c1_i32_285 c16_i32_283
  let v575 : BitVec 32 := Scalar.remsi v436 v574
  let c0_i32_287 : BitVec 32 := 0#32
  let v577 : BitVec 1 := Scalar.cmpi .slt v575 c0_i32_287
  let c0_i32_288 : BitVec 32 := 0#32
  let v578 : BitVec 1 := Scalar.cmpi .slt v574 c0_i32_288
  let v579 : BitVec 1 := Scalar.xori v577 v578
  let c0_i32_286 : BitVec 32 := 0#32
  let v576 : BitVec 1 := Scalar.cmpi .ne v575 c0_i32_286
  let v580 : BitVec 1 := Scalar.andi v579 v576
  let v581 : BitVec 32 := Scalar.addi v575 v574
  let v582 : BitVec 32 := Scalar.select v580 v581 v575
  let c512_i32_289 : BitVec 32 := 512#32
  let v583 : BitVec 32 := Scalar.muli v582 c512_i32_289
  let c4_i32_297 : BitVec 32 := 4#32
  let c0_i32_298 : BitVec 32 := 0#32
  ![v600.toNat, v583.toNat, 4, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_299 : BitVec 32 := 0#32
  let c512_i32_300 : BitVec 32 := 512#32
  ![v9.toNat, 0, 512]
def k0_off12 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_309 : BitVec 32 := 0#32
  let v619 : BitVec 1 := Scalar.cmpi .sgt v436 c0_i32_309
  let v620 : BitVec 32 := Scalar.extui v619
  let c0_i32_310 : BitVec 32 := 0#32
  let v621 : BitVec 1 := Scalar.cmpi .slt v436 c0_i32_310
  let v622 : BitVec 32 := Scalar.extui v621
  let v623 : BitVec 32 := Scalar.subi v620 v622
  let c16_i32_308 : BitVec 32 := 16#32
  let c0_i32_311 : BitVec 32 := 0#32
  let v624 : BitVec 1 := Scalar.cmpi .sgt c16_i32_308 c0_i32_311
  let v625 : BitVec 32 := Scalar.extui v624
  let c0_i32_312 : BitVec 32 := 0#32
  let v626 : BitVec 1 := Scalar.cmpi .slt c16_i32_308 c0_i32_312
  let v627 : BitVec 32 := Scalar.extui v626
  let v628 : BitVec 32 := Scalar.subi v625 v627
  let v629 : BitVec 1 := Scalar.cmpi .ne v623 v628
  let v630 : BitVec 32 := Scalar.remsi v436 c16_i32_308
  let c0_i32_313 : BitVec 32 := 0#32
  let v631 : BitVec 1 := Scalar.cmpi .ne v630 c0_i32_313
  let v632 : BitVec 1 := Scalar.andi v629 v631
  let v618 : BitVec 32 := Scalar.divsi v436 c16_i32_308
  let c1_i32_314 : BitVec 32 := 1#32
  let v633 : BitVec 32 := Scalar.subi v618 c1_i32_314
  let v634 : BitVec 32 := Scalar.select v632 v633 v618
  let c16_i32_301 : BitVec 32 := 16#32
  let c0_i32_302 : BitVec 32 := 0#32
  let v607 : BitVec 1 := Scalar.cmpi .eq c16_i32_301 c0_i32_302
  let c1_i32_303 : BitVec 32 := 1#32
  let v608 : BitVec 32 := Scalar.select v607 c1_i32_303 c16_i32_301
  let v609 : BitVec 32 := Scalar.remsi v436 v608
  let c0_i32_305 : BitVec 32 := 0#32
  let v611 : BitVec 1 := Scalar.cmpi .slt v609 c0_i32_305
  let c0_i32_306 : BitVec 32 := 0#32
  let v612 : BitVec 1 := Scalar.cmpi .slt v608 c0_i32_306
  let v613 : BitVec 1 := Scalar.xori v611 v612
  let c0_i32_304 : BitVec 32 := 0#32
  let v610 : BitVec 1 := Scalar.cmpi .ne v609 c0_i32_304
  let v614 : BitVec 1 := Scalar.andi v613 v610
  let v615 : BitVec 32 := Scalar.addi v609 v608
  let v616 : BitVec 32 := Scalar.select v614 v615 v609
  let c512_i32_307 : BitVec 32 := 512#32
  let v617 : BitVec 32 := Scalar.muli v616 c512_i32_307
  let c5_i32_315 : BitVec 32 := 5#32
  let c0_i32_316 : BitVec 32 := 0#32
  ![v634.toNat, v617.toNat, 5, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_317 : BitVec 32 := 0#32
  let c640_i32_318 : BitVec 32 := 640#32
  ![v9.toNat, 0, 640]
def k0_off14 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_327 : BitVec 32 := 0#32
  let v653 : BitVec 1 := Scalar.cmpi .sgt v436 c0_i32_327
  let v654 : BitVec 32 := Scalar.extui v653
  let c0_i32_328 : BitVec 32 := 0#32
  let v655 : BitVec 1 := Scalar.cmpi .slt v436 c0_i32_328
  let v656 : BitVec 32 := Scalar.extui v655
  let v657 : BitVec 32 := Scalar.subi v654 v656
  let c16_i32_326 : BitVec 32 := 16#32
  let c0_i32_329 : BitVec 32 := 0#32
  let v658 : BitVec 1 := Scalar.cmpi .sgt c16_i32_326 c0_i32_329
  let v659 : BitVec 32 := Scalar.extui v658
  let c0_i32_330 : BitVec 32 := 0#32
  let v660 : BitVec 1 := Scalar.cmpi .slt c16_i32_326 c0_i32_330
  let v661 : BitVec 32 := Scalar.extui v660
  let v662 : BitVec 32 := Scalar.subi v659 v661
  let v663 : BitVec 1 := Scalar.cmpi .ne v657 v662
  let v664 : BitVec 32 := Scalar.remsi v436 c16_i32_326
  let c0_i32_331 : BitVec 32 := 0#32
  let v665 : BitVec 1 := Scalar.cmpi .ne v664 c0_i32_331
  let v666 : BitVec 1 := Scalar.andi v663 v665
  let v652 : BitVec 32 := Scalar.divsi v436 c16_i32_326
  let c1_i32_332 : BitVec 32 := 1#32
  let v667 : BitVec 32 := Scalar.subi v652 c1_i32_332
  let v668 : BitVec 32 := Scalar.select v666 v667 v652
  let c16_i32_319 : BitVec 32 := 16#32
  let c0_i32_320 : BitVec 32 := 0#32
  let v641 : BitVec 1 := Scalar.cmpi .eq c16_i32_319 c0_i32_320
  let c1_i32_321 : BitVec 32 := 1#32
  let v642 : BitVec 32 := Scalar.select v641 c1_i32_321 c16_i32_319
  let v643 : BitVec 32 := Scalar.remsi v436 v642
  let c0_i32_323 : BitVec 32 := 0#32
  let v645 : BitVec 1 := Scalar.cmpi .slt v643 c0_i32_323
  let c0_i32_324 : BitVec 32 := 0#32
  let v646 : BitVec 1 := Scalar.cmpi .slt v642 c0_i32_324
  let v647 : BitVec 1 := Scalar.xori v645 v646
  let c0_i32_322 : BitVec 32 := 0#32
  let v644 : BitVec 1 := Scalar.cmpi .ne v643 c0_i32_322
  let v648 : BitVec 1 := Scalar.andi v647 v644
  let v649 : BitVec 32 := Scalar.addi v643 v642
  let v650 : BitVec 32 := Scalar.select v648 v649 v643
  let c512_i32_325 : BitVec 32 := 512#32
  let v651 : BitVec 32 := Scalar.muli v650 c512_i32_325
  let c6_i32_333 : BitVec 32 := 6#32
  let c0_i32_334 : BitVec 32 := 0#32
  ![v668.toNat, v651.toNat, 6, 0]
def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_335 : BitVec 32 := 0#32
  let c768_i32_336 : BitVec 32 := 768#32
  ![v9.toNat, 0, 768]
def k0_off16 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_345 : BitVec 32 := 0#32
  let v687 : BitVec 1 := Scalar.cmpi .sgt v436 c0_i32_345
  let v688 : BitVec 32 := Scalar.extui v687
  let c0_i32_346 : BitVec 32 := 0#32
  let v689 : BitVec 1 := Scalar.cmpi .slt v436 c0_i32_346
  let v690 : BitVec 32 := Scalar.extui v689
  let v691 : BitVec 32 := Scalar.subi v688 v690
  let c16_i32_344 : BitVec 32 := 16#32
  let c0_i32_347 : BitVec 32 := 0#32
  let v692 : BitVec 1 := Scalar.cmpi .sgt c16_i32_344 c0_i32_347
  let v693 : BitVec 32 := Scalar.extui v692
  let c0_i32_348 : BitVec 32 := 0#32
  let v694 : BitVec 1 := Scalar.cmpi .slt c16_i32_344 c0_i32_348
  let v695 : BitVec 32 := Scalar.extui v694
  let v696 : BitVec 32 := Scalar.subi v693 v695
  let v697 : BitVec 1 := Scalar.cmpi .ne v691 v696
  let v698 : BitVec 32 := Scalar.remsi v436 c16_i32_344
  let c0_i32_349 : BitVec 32 := 0#32
  let v699 : BitVec 1 := Scalar.cmpi .ne v698 c0_i32_349
  let v700 : BitVec 1 := Scalar.andi v697 v699
  let v686 : BitVec 32 := Scalar.divsi v436 c16_i32_344
  let c1_i32_350 : BitVec 32 := 1#32
  let v701 : BitVec 32 := Scalar.subi v686 c1_i32_350
  let v702 : BitVec 32 := Scalar.select v700 v701 v686
  let c16_i32_337 : BitVec 32 := 16#32
  let c0_i32_338 : BitVec 32 := 0#32
  let v675 : BitVec 1 := Scalar.cmpi .eq c16_i32_337 c0_i32_338
  let c1_i32_339 : BitVec 32 := 1#32
  let v676 : BitVec 32 := Scalar.select v675 c1_i32_339 c16_i32_337
  let v677 : BitVec 32 := Scalar.remsi v436 v676
  let c0_i32_341 : BitVec 32 := 0#32
  let v679 : BitVec 1 := Scalar.cmpi .slt v677 c0_i32_341
  let c0_i32_342 : BitVec 32 := 0#32
  let v680 : BitVec 1 := Scalar.cmpi .slt v676 c0_i32_342
  let v681 : BitVec 1 := Scalar.xori v679 v680
  let c0_i32_340 : BitVec 32 := 0#32
  let v678 : BitVec 1 := Scalar.cmpi .ne v677 c0_i32_340
  let v682 : BitVec 1 := Scalar.andi v681 v678
  let v683 : BitVec 32 := Scalar.addi v677 v676
  let v684 : BitVec 32 := Scalar.select v682 v683 v677
  let c512_i32_343 : BitVec 32 := 512#32
  let v685 : BitVec 32 := Scalar.muli v684 c512_i32_343
  let c7_i32_351 : BitVec 32 := 7#32
  let c0_i32_352 : BitVec 32 := 0#32
  ![v702.toNat, v685.toNat, 7, 0]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_353 : BitVec 32 := 0#32
  let c896_i32_354 : BitVec 32 := 896#32
  ![v9.toNat, 0, 896]
def k0_off18 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_363 : BitVec 32 := 0#32
  let v721 : BitVec 1 := Scalar.cmpi .sgt v436 c0_i32_363
  let v722 : BitVec 32 := Scalar.extui v721
  let c0_i32_364 : BitVec 32 := 0#32
  let v723 : BitVec 1 := Scalar.cmpi .slt v436 c0_i32_364
  let v724 : BitVec 32 := Scalar.extui v723
  let v725 : BitVec 32 := Scalar.subi v722 v724
  let c16_i32_362 : BitVec 32 := 16#32
  let c0_i32_365 : BitVec 32 := 0#32
  let v726 : BitVec 1 := Scalar.cmpi .sgt c16_i32_362 c0_i32_365
  let v727 : BitVec 32 := Scalar.extui v726
  let c0_i32_366 : BitVec 32 := 0#32
  let v728 : BitVec 1 := Scalar.cmpi .slt c16_i32_362 c0_i32_366
  let v729 : BitVec 32 := Scalar.extui v728
  let v730 : BitVec 32 := Scalar.subi v727 v729
  let v731 : BitVec 1 := Scalar.cmpi .ne v725 v730
  let v732 : BitVec 32 := Scalar.remsi v436 c16_i32_362
  let c0_i32_367 : BitVec 32 := 0#32
  let v733 : BitVec 1 := Scalar.cmpi .ne v732 c0_i32_367
  let v734 : BitVec 1 := Scalar.andi v731 v733
  let v720 : BitVec 32 := Scalar.divsi v436 c16_i32_362
  let c1_i32_368 : BitVec 32 := 1#32
  let v735 : BitVec 32 := Scalar.subi v720 c1_i32_368
  let v736 : BitVec 32 := Scalar.select v734 v735 v720
  let c16_i32_355 : BitVec 32 := 16#32
  let c0_i32_356 : BitVec 32 := 0#32
  let v709 : BitVec 1 := Scalar.cmpi .eq c16_i32_355 c0_i32_356
  let c1_i32_357 : BitVec 32 := 1#32
  let v710 : BitVec 32 := Scalar.select v709 c1_i32_357 c16_i32_355
  let v711 : BitVec 32 := Scalar.remsi v436 v710
  let c0_i32_359 : BitVec 32 := 0#32
  let v713 : BitVec 1 := Scalar.cmpi .slt v711 c0_i32_359
  let c0_i32_360 : BitVec 32 := 0#32
  let v714 : BitVec 1 := Scalar.cmpi .slt v710 c0_i32_360
  let v715 : BitVec 1 := Scalar.xori v713 v714
  let c0_i32_358 : BitVec 32 := 0#32
  let v712 : BitVec 1 := Scalar.cmpi .ne v711 c0_i32_358
  let v716 : BitVec 1 := Scalar.andi v715 v712
  let v717 : BitVec 32 := Scalar.addi v711 v710
  let v718 : BitVec 32 := Scalar.select v716 v717 v711
  let c512_i32_361 : BitVec 32 := 512#32
  let v719 : BitVec 32 := Scalar.muli v718 c512_i32_361
  let c8_i32_369 : BitVec 32 := 8#32
  let c0_i32_370 : BitVec 32 := 0#32
  ![v736.toNat, v719.toNat, 8, 0]
def k0_off19 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_371 : BitVec 32 := 0#32
  let c1024_i32_372 : BitVec 32 := 1024#32
  ![v9.toNat, 0, 1024]
def k0_off20 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_381 : BitVec 32 := 0#32
  let v755 : BitVec 1 := Scalar.cmpi .sgt v436 c0_i32_381
  let v756 : BitVec 32 := Scalar.extui v755
  let c0_i32_382 : BitVec 32 := 0#32
  let v757 : BitVec 1 := Scalar.cmpi .slt v436 c0_i32_382
  let v758 : BitVec 32 := Scalar.extui v757
  let v759 : BitVec 32 := Scalar.subi v756 v758
  let c16_i32_380 : BitVec 32 := 16#32
  let c0_i32_383 : BitVec 32 := 0#32
  let v760 : BitVec 1 := Scalar.cmpi .sgt c16_i32_380 c0_i32_383
  let v761 : BitVec 32 := Scalar.extui v760
  let c0_i32_384 : BitVec 32 := 0#32
  let v762 : BitVec 1 := Scalar.cmpi .slt c16_i32_380 c0_i32_384
  let v763 : BitVec 32 := Scalar.extui v762
  let v764 : BitVec 32 := Scalar.subi v761 v763
  let v765 : BitVec 1 := Scalar.cmpi .ne v759 v764
  let v766 : BitVec 32 := Scalar.remsi v436 c16_i32_380
  let c0_i32_385 : BitVec 32 := 0#32
  let v767 : BitVec 1 := Scalar.cmpi .ne v766 c0_i32_385
  let v768 : BitVec 1 := Scalar.andi v765 v767
  let v754 : BitVec 32 := Scalar.divsi v436 c16_i32_380
  let c1_i32_386 : BitVec 32 := 1#32
  let v769 : BitVec 32 := Scalar.subi v754 c1_i32_386
  let v770 : BitVec 32 := Scalar.select v768 v769 v754
  let c16_i32_373 : BitVec 32 := 16#32
  let c0_i32_374 : BitVec 32 := 0#32
  let v743 : BitVec 1 := Scalar.cmpi .eq c16_i32_373 c0_i32_374
  let c1_i32_375 : BitVec 32 := 1#32
  let v744 : BitVec 32 := Scalar.select v743 c1_i32_375 c16_i32_373
  let v745 : BitVec 32 := Scalar.remsi v436 v744
  let c0_i32_377 : BitVec 32 := 0#32
  let v747 : BitVec 1 := Scalar.cmpi .slt v745 c0_i32_377
  let c0_i32_378 : BitVec 32 := 0#32
  let v748 : BitVec 1 := Scalar.cmpi .slt v744 c0_i32_378
  let v749 : BitVec 1 := Scalar.xori v747 v748
  let c0_i32_376 : BitVec 32 := 0#32
  let v746 : BitVec 1 := Scalar.cmpi .ne v745 c0_i32_376
  let v750 : BitVec 1 := Scalar.andi v749 v746
  let v751 : BitVec 32 := Scalar.addi v745 v744
  let v752 : BitVec 32 := Scalar.select v750 v751 v745
  let c512_i32_379 : BitVec 32 := 512#32
  let v753 : BitVec 32 := Scalar.muli v752 c512_i32_379
  let c9_i32_387 : BitVec 32 := 9#32
  let c0_i32_388 : BitVec 32 := 0#32
  ![v770.toNat, v753.toNat, 9, 0]
def k0_off21 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_389 : BitVec 32 := 0#32
  let c1152_i32_390 : BitVec 32 := 1152#32
  ![v9.toNat, 0, 1152]
def k0_off22 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_399 : BitVec 32 := 0#32
  let v789 : BitVec 1 := Scalar.cmpi .sgt v436 c0_i32_399
  let v790 : BitVec 32 := Scalar.extui v789
  let c0_i32_400 : BitVec 32 := 0#32
  let v791 : BitVec 1 := Scalar.cmpi .slt v436 c0_i32_400
  let v792 : BitVec 32 := Scalar.extui v791
  let v793 : BitVec 32 := Scalar.subi v790 v792
  let c16_i32_398 : BitVec 32 := 16#32
  let c0_i32_401 : BitVec 32 := 0#32
  let v794 : BitVec 1 := Scalar.cmpi .sgt c16_i32_398 c0_i32_401
  let v795 : BitVec 32 := Scalar.extui v794
  let c0_i32_402 : BitVec 32 := 0#32
  let v796 : BitVec 1 := Scalar.cmpi .slt c16_i32_398 c0_i32_402
  let v797 : BitVec 32 := Scalar.extui v796
  let v798 : BitVec 32 := Scalar.subi v795 v797
  let v799 : BitVec 1 := Scalar.cmpi .ne v793 v798
  let v800 : BitVec 32 := Scalar.remsi v436 c16_i32_398
  let c0_i32_403 : BitVec 32 := 0#32
  let v801 : BitVec 1 := Scalar.cmpi .ne v800 c0_i32_403
  let v802 : BitVec 1 := Scalar.andi v799 v801
  let v788 : BitVec 32 := Scalar.divsi v436 c16_i32_398
  let c1_i32_404 : BitVec 32 := 1#32
  let v803 : BitVec 32 := Scalar.subi v788 c1_i32_404
  let v804 : BitVec 32 := Scalar.select v802 v803 v788
  let c16_i32_391 : BitVec 32 := 16#32
  let c0_i32_392 : BitVec 32 := 0#32
  let v777 : BitVec 1 := Scalar.cmpi .eq c16_i32_391 c0_i32_392
  let c1_i32_393 : BitVec 32 := 1#32
  let v778 : BitVec 32 := Scalar.select v777 c1_i32_393 c16_i32_391
  let v779 : BitVec 32 := Scalar.remsi v436 v778
  let c0_i32_395 : BitVec 32 := 0#32
  let v781 : BitVec 1 := Scalar.cmpi .slt v779 c0_i32_395
  let c0_i32_396 : BitVec 32 := 0#32
  let v782 : BitVec 1 := Scalar.cmpi .slt v778 c0_i32_396
  let v783 : BitVec 1 := Scalar.xori v781 v782
  let c0_i32_394 : BitVec 32 := 0#32
  let v780 : BitVec 1 := Scalar.cmpi .ne v779 c0_i32_394
  let v784 : BitVec 1 := Scalar.andi v783 v780
  let v785 : BitVec 32 := Scalar.addi v779 v778
  let v786 : BitVec 32 := Scalar.select v784 v785 v779
  let c512_i32_397 : BitVec 32 := 512#32
  let v787 : BitVec 32 := Scalar.muli v786 c512_i32_397
  let c10_i32_405 : BitVec 32 := 10#32
  let c0_i32_406 : BitVec 32 := 0#32
  ![v804.toNat, v787.toNat, 10, 0]
def k0_off23 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_407 : BitVec 32 := 0#32
  let c1280_i32_408 : BitVec 32 := 1280#32
  ![v9.toNat, 0, 1280]
def k0_off24 (i : grid0.Coords) : Fin 4 → Nat :=
  let arg0 : BitVec 32 := BitVec.ofNat 32 (i 0).val
  let c2_i32_210 : BitVec 32 := 2#32
  let v436 : BitVec 32 := Scalar.subi arg0 c2_i32_210
  let c0_i32_417 : BitVec 32 := 0#32
  let v823 : BitVec 1 := Scalar.cmpi .sgt v436 c0_i32_417
  let v824 : BitVec 32 := Scalar.extui v823
  let c0_i32_418 : BitVec 32 := 0#32
  let v825 : BitVec 1 := Scalar.cmpi .slt v436 c0_i32_418
  let v826 : BitVec 32 := Scalar.extui v825
  let v827 : BitVec 32 := Scalar.subi v824 v826
  let c16_i32_416 : BitVec 32 := 16#32
  let c0_i32_419 : BitVec 32 := 0#32
  let v828 : BitVec 1 := Scalar.cmpi .sgt c16_i32_416 c0_i32_419
  let v829 : BitVec 32 := Scalar.extui v828
  let c0_i32_420 : BitVec 32 := 0#32
  let v830 : BitVec 1 := Scalar.cmpi .slt c16_i32_416 c0_i32_420
  let v831 : BitVec 32 := Scalar.extui v830
  let v832 : BitVec 32 := Scalar.subi v829 v831
  let v833 : BitVec 1 := Scalar.cmpi .ne v827 v832
  let v834 : BitVec 32 := Scalar.remsi v436 c16_i32_416
  let c0_i32_421 : BitVec 32 := 0#32
  let v835 : BitVec 1 := Scalar.cmpi .ne v834 c0_i32_421
  let v836 : BitVec 1 := Scalar.andi v833 v835
  let v822 : BitVec 32 := Scalar.divsi v436 c16_i32_416
  let c1_i32_422 : BitVec 32 := 1#32
  let v837 : BitVec 32 := Scalar.subi v822 c1_i32_422
  let v838 : BitVec 32 := Scalar.select v836 v837 v822
  let c16_i32_409 : BitVec 32 := 16#32
  let c0_i32_410 : BitVec 32 := 0#32
  let v811 : BitVec 1 := Scalar.cmpi .eq c16_i32_409 c0_i32_410
  let c1_i32_411 : BitVec 32 := 1#32
  let v812 : BitVec 32 := Scalar.select v811 c1_i32_411 c16_i32_409
  let v813 : BitVec 32 := Scalar.remsi v436 v812
  let c0_i32_413 : BitVec 32 := 0#32
  let v815 : BitVec 1 := Scalar.cmpi .slt v813 c0_i32_413
  let c0_i32_414 : BitVec 32 := 0#32
  let v816 : BitVec 1 := Scalar.cmpi .slt v812 c0_i32_414
  let v817 : BitVec 1 := Scalar.xori v815 v816
  let c0_i32_412 : BitVec 32 := 0#32
  let v814 : BitVec 1 := Scalar.cmpi .ne v813 c0_i32_412
  let v818 : BitVec 1 := Scalar.andi v817 v814
  let v819 : BitVec 32 := Scalar.addi v813 v812
  let v820 : BitVec 32 := Scalar.select v818 v819 v813
  let c512_i32_415 : BitVec 32 := 512#32
  let v821 : BitVec 32 := Scalar.muli v820 c512_i32_415
  let c11_i32_423 : BitVec 32 := 11#32
  let c0_i32_424 : BitVec 32 := 0#32
  ![v838.toNat, v821.toNat, 11, 0]
def k0_off25 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_425 : BitVec 32 := 0#32
  let c1408_i32_426 : BitVec 32 := 1408#32
  ![v9.toNat, 0, 1408]
def k0_off26 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_10 : BitVec 32 := 0#32
  let c0_i32_11 : BitVec 32 := 0#32
  ![v9.toNat, 0, 0]
def k0_off27 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off28 (i : grid0.Coords) : Fin 4 → Nat :=
  let arg0 : BitVec 32 := BitVec.ofNat 32 (i 0).val
  let c0_i32_20 : BitVec 32 := 0#32
  let v37 : BitVec 1 := Scalar.cmpi .sgt arg0 c0_i32_20
  let v38 : BitVec 32 := Scalar.extui v37
  let c0_i32_21 : BitVec 32 := 0#32
  let v39 : BitVec 1 := Scalar.cmpi .slt arg0 c0_i32_21
  let v40 : BitVec 32 := Scalar.extui v39
  let v41 : BitVec 32 := Scalar.subi v38 v40
  let c16_i32_19 : BitVec 32 := 16#32
  let c0_i32_22 : BitVec 32 := 0#32
  let v42 : BitVec 1 := Scalar.cmpi .sgt c16_i32_19 c0_i32_22
  let v43 : BitVec 32 := Scalar.extui v42
  let c0_i32_23 : BitVec 32 := 0#32
  let v44 : BitVec 1 := Scalar.cmpi .slt c16_i32_19 c0_i32_23
  let v45 : BitVec 32 := Scalar.extui v44
  let v46 : BitVec 32 := Scalar.subi v43 v45
  let v47 : BitVec 1 := Scalar.cmpi .ne v41 v46
  let v48 : BitVec 32 := Scalar.remsi arg0 c16_i32_19
  let c0_i32_24 : BitVec 32 := 0#32
  let v49 : BitVec 1 := Scalar.cmpi .ne v48 c0_i32_24
  let v50 : BitVec 1 := Scalar.andi v47 v49
  let v36 : BitVec 32 := Scalar.divsi arg0 c16_i32_19
  let c1_i32_25 : BitVec 32 := 1#32
  let v51 : BitVec 32 := Scalar.subi v36 c1_i32_25
  let v52 : BitVec 32 := Scalar.select v50 v51 v36
  let c16_i32 : BitVec 32 := 16#32
  let c0_i32_14 : BitVec 32 := 0#32
  let v25 : BitVec 1 := Scalar.cmpi .eq c16_i32 c0_i32_14
  let c1_i32_15 : BitVec 32 := 1#32
  let v26 : BitVec 32 := Scalar.select v25 c1_i32_15 c16_i32
  let v27 : BitVec 32 := Scalar.remsi arg0 v26
  let c0_i32_17 : BitVec 32 := 0#32
  let v29 : BitVec 1 := Scalar.cmpi .slt v27 c0_i32_17
  let c0_i32_18 : BitVec 32 := 0#32
  let v30 : BitVec 1 := Scalar.cmpi .slt v26 c0_i32_18
  let v31 : BitVec 1 := Scalar.xori v29 v30
  let c0_i32_16 : BitVec 32 := 0#32
  let v28 : BitVec 1 := Scalar.cmpi .ne v27 c0_i32_16
  let v32 : BitVec 1 := Scalar.andi v31 v28
  let v33 : BitVec 32 := Scalar.addi v27 v26
  let v34 : BitVec 32 := Scalar.select v32 v33 v27
  let c512_i32 : BitVec 32 := 512#32
  let v35 : BitVec 32 := Scalar.muli v34 c512_i32
  let c0_i32_26 : BitVec 32 := 0#32
  let c0_i32_27 : BitVec 32 := 0#32
  ![v52.toNat, v35.toNat, 0, 0]
def k0_off29 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_28 : BitVec 32 := 0#32
  let c0_i32_29 : BitVec 32 := 0#32
  ![v9.toNat, 0, 0]
def k0_off30 (i : grid0.Coords) : Fin 4 → Nat :=
  let arg0 : BitVec 32 := BitVec.ofNat 32 (i 0).val
  let c0_i32_38 : BitVec 32 := 0#32
  let v71 : BitVec 1 := Scalar.cmpi .sgt arg0 c0_i32_38
  let v72 : BitVec 32 := Scalar.extui v71
  let c0_i32_39 : BitVec 32 := 0#32
  let v73 : BitVec 1 := Scalar.cmpi .slt arg0 c0_i32_39
  let v74 : BitVec 32 := Scalar.extui v73
  let v75 : BitVec 32 := Scalar.subi v72 v74
  let c16_i32_37 : BitVec 32 := 16#32
  let c0_i32_40 : BitVec 32 := 0#32
  let v76 : BitVec 1 := Scalar.cmpi .sgt c16_i32_37 c0_i32_40
  let v77 : BitVec 32 := Scalar.extui v76
  let c0_i32_41 : BitVec 32 := 0#32
  let v78 : BitVec 1 := Scalar.cmpi .slt c16_i32_37 c0_i32_41
  let v79 : BitVec 32 := Scalar.extui v78
  let v80 : BitVec 32 := Scalar.subi v77 v79
  let v81 : BitVec 1 := Scalar.cmpi .ne v75 v80
  let v82 : BitVec 32 := Scalar.remsi arg0 c16_i32_37
  let c0_i32_42 : BitVec 32 := 0#32
  let v83 : BitVec 1 := Scalar.cmpi .ne v82 c0_i32_42
  let v84 : BitVec 1 := Scalar.andi v81 v83
  let v70 : BitVec 32 := Scalar.divsi arg0 c16_i32_37
  let c1_i32_43 : BitVec 32 := 1#32
  let v85 : BitVec 32 := Scalar.subi v70 c1_i32_43
  let v86 : BitVec 32 := Scalar.select v84 v85 v70
  let c16_i32_30 : BitVec 32 := 16#32
  let c0_i32_31 : BitVec 32 := 0#32
  let v59 : BitVec 1 := Scalar.cmpi .eq c16_i32_30 c0_i32_31
  let c1_i32_32 : BitVec 32 := 1#32
  let v60 : BitVec 32 := Scalar.select v59 c1_i32_32 c16_i32_30
  let v61 : BitVec 32 := Scalar.remsi arg0 v60
  let c0_i32_34 : BitVec 32 := 0#32
  let v63 : BitVec 1 := Scalar.cmpi .slt v61 c0_i32_34
  let c0_i32_35 : BitVec 32 := 0#32
  let v64 : BitVec 1 := Scalar.cmpi .slt v60 c0_i32_35
  let v65 : BitVec 1 := Scalar.xori v63 v64
  let c0_i32_33 : BitVec 32 := 0#32
  let v62 : BitVec 1 := Scalar.cmpi .ne v61 c0_i32_33
  let v66 : BitVec 1 := Scalar.andi v65 v62
  let v67 : BitVec 32 := Scalar.addi v61 v60
  let v68 : BitVec 32 := Scalar.select v66 v67 v61
  let c512_i32_36 : BitVec 32 := 512#32
  let v69 : BitVec 32 := Scalar.muli v68 c512_i32_36
  let c1_i32_44 : BitVec 32 := 1#32
  let c0_i32_45 : BitVec 32 := 0#32
  ![v86.toNat, v69.toNat, 1, 0]
def k0_off31 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_46 : BitVec 32 := 0#32
  let c128_i32 : BitVec 32 := 128#32
  ![v9.toNat, 0, 128]
def k0_off32 (i : grid0.Coords) : Fin 4 → Nat :=
  let arg0 : BitVec 32 := BitVec.ofNat 32 (i 0).val
  let c0_i32_55 : BitVec 32 := 0#32
  let v105 : BitVec 1 := Scalar.cmpi .sgt arg0 c0_i32_55
  let v106 : BitVec 32 := Scalar.extui v105
  let c0_i32_56 : BitVec 32 := 0#32
  let v107 : BitVec 1 := Scalar.cmpi .slt arg0 c0_i32_56
  let v108 : BitVec 32 := Scalar.extui v107
  let v109 : BitVec 32 := Scalar.subi v106 v108
  let c16_i32_54 : BitVec 32 := 16#32
  let c0_i32_57 : BitVec 32 := 0#32
  let v110 : BitVec 1 := Scalar.cmpi .sgt c16_i32_54 c0_i32_57
  let v111 : BitVec 32 := Scalar.extui v110
  let c0_i32_58 : BitVec 32 := 0#32
  let v112 : BitVec 1 := Scalar.cmpi .slt c16_i32_54 c0_i32_58
  let v113 : BitVec 32 := Scalar.extui v112
  let v114 : BitVec 32 := Scalar.subi v111 v113
  let v115 : BitVec 1 := Scalar.cmpi .ne v109 v114
  let v116 : BitVec 32 := Scalar.remsi arg0 c16_i32_54
  let c0_i32_59 : BitVec 32 := 0#32
  let v117 : BitVec 1 := Scalar.cmpi .ne v116 c0_i32_59
  let v118 : BitVec 1 := Scalar.andi v115 v117
  let v104 : BitVec 32 := Scalar.divsi arg0 c16_i32_54
  let c1_i32_60 : BitVec 32 := 1#32
  let v119 : BitVec 32 := Scalar.subi v104 c1_i32_60
  let v120 : BitVec 32 := Scalar.select v118 v119 v104
  let c16_i32_47 : BitVec 32 := 16#32
  let c0_i32_48 : BitVec 32 := 0#32
  let v93 : BitVec 1 := Scalar.cmpi .eq c16_i32_47 c0_i32_48
  let c1_i32_49 : BitVec 32 := 1#32
  let v94 : BitVec 32 := Scalar.select v93 c1_i32_49 c16_i32_47
  let v95 : BitVec 32 := Scalar.remsi arg0 v94
  let c0_i32_51 : BitVec 32 := 0#32
  let v97 : BitVec 1 := Scalar.cmpi .slt v95 c0_i32_51
  let c0_i32_52 : BitVec 32 := 0#32
  let v98 : BitVec 1 := Scalar.cmpi .slt v94 c0_i32_52
  let v99 : BitVec 1 := Scalar.xori v97 v98
  let c0_i32_50 : BitVec 32 := 0#32
  let v96 : BitVec 1 := Scalar.cmpi .ne v95 c0_i32_50
  let v100 : BitVec 1 := Scalar.andi v99 v96
  let v101 : BitVec 32 := Scalar.addi v95 v94
  let v102 : BitVec 32 := Scalar.select v100 v101 v95
  let c512_i32_53 : BitVec 32 := 512#32
  let v103 : BitVec 32 := Scalar.muli v102 c512_i32_53
  let c2_i32_61 : BitVec 32 := 2#32
  let c0_i32_62 : BitVec 32 := 0#32
  ![v120.toNat, v103.toNat, 2, 0]
def k0_off33 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_63 : BitVec 32 := 0#32
  let c256_i32 : BitVec 32 := 256#32
  ![v9.toNat, 0, 256]
def k0_off34 (i : grid0.Coords) : Fin 4 → Nat :=
  let arg0 : BitVec 32 := BitVec.ofNat 32 (i 0).val
  let c0_i32_72 : BitVec 32 := 0#32
  let v139 : BitVec 1 := Scalar.cmpi .sgt arg0 c0_i32_72
  let v140 : BitVec 32 := Scalar.extui v139
  let c0_i32_73 : BitVec 32 := 0#32
  let v141 : BitVec 1 := Scalar.cmpi .slt arg0 c0_i32_73
  let v142 : BitVec 32 := Scalar.extui v141
  let v143 : BitVec 32 := Scalar.subi v140 v142
  let c16_i32_71 : BitVec 32 := 16#32
  let c0_i32_74 : BitVec 32 := 0#32
  let v144 : BitVec 1 := Scalar.cmpi .sgt c16_i32_71 c0_i32_74
  let v145 : BitVec 32 := Scalar.extui v144
  let c0_i32_75 : BitVec 32 := 0#32
  let v146 : BitVec 1 := Scalar.cmpi .slt c16_i32_71 c0_i32_75
  let v147 : BitVec 32 := Scalar.extui v146
  let v148 : BitVec 32 := Scalar.subi v145 v147
  let v149 : BitVec 1 := Scalar.cmpi .ne v143 v148
  let v150 : BitVec 32 := Scalar.remsi arg0 c16_i32_71
  let c0_i32_76 : BitVec 32 := 0#32
  let v151 : BitVec 1 := Scalar.cmpi .ne v150 c0_i32_76
  let v152 : BitVec 1 := Scalar.andi v149 v151
  let v138 : BitVec 32 := Scalar.divsi arg0 c16_i32_71
  let c1_i32_77 : BitVec 32 := 1#32
  let v153 : BitVec 32 := Scalar.subi v138 c1_i32_77
  let v154 : BitVec 32 := Scalar.select v152 v153 v138
  let c16_i32_64 : BitVec 32 := 16#32
  let c0_i32_65 : BitVec 32 := 0#32
  let v127 : BitVec 1 := Scalar.cmpi .eq c16_i32_64 c0_i32_65
  let c1_i32_66 : BitVec 32 := 1#32
  let v128 : BitVec 32 := Scalar.select v127 c1_i32_66 c16_i32_64
  let v129 : BitVec 32 := Scalar.remsi arg0 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c512_i32_70 : BitVec 32 := 512#32
  let v137 : BitVec 32 := Scalar.muli v136 c512_i32_70
  let c3_i32 : BitVec 32 := 3#32
  let c0_i32_78 : BitVec 32 := 0#32
  ![v154.toNat, v137.toNat, 3, 0]
def k0_off35 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_79 : BitVec 32 := 0#32
  let c384_i32 : BitVec 32 := 384#32
  ![v9.toNat, 0, 384]
def k0_off36 (i : grid0.Coords) : Fin 4 → Nat :=
  let arg0 : BitVec 32 := BitVec.ofNat 32 (i 0).val
  let c0_i32_88 : BitVec 32 := 0#32
  let v173 : BitVec 1 := Scalar.cmpi .sgt arg0 c0_i32_88
  let v174 : BitVec 32 := Scalar.extui v173
  let c0_i32_89 : BitVec 32 := 0#32
  let v175 : BitVec 1 := Scalar.cmpi .slt arg0 c0_i32_89
  let v176 : BitVec 32 := Scalar.extui v175
  let v177 : BitVec 32 := Scalar.subi v174 v176
  let c16_i32_87 : BitVec 32 := 16#32
  let c0_i32_90 : BitVec 32 := 0#32
  let v178 : BitVec 1 := Scalar.cmpi .sgt c16_i32_87 c0_i32_90
  let v179 : BitVec 32 := Scalar.extui v178
  let c0_i32_91 : BitVec 32 := 0#32
  let v180 : BitVec 1 := Scalar.cmpi .slt c16_i32_87 c0_i32_91
  let v181 : BitVec 32 := Scalar.extui v180
  let v182 : BitVec 32 := Scalar.subi v179 v181
  let v183 : BitVec 1 := Scalar.cmpi .ne v177 v182
  let v184 : BitVec 32 := Scalar.remsi arg0 c16_i32_87
  let c0_i32_92 : BitVec 32 := 0#32
  let v185 : BitVec 1 := Scalar.cmpi .ne v184 c0_i32_92
  let v186 : BitVec 1 := Scalar.andi v183 v185
  let v172 : BitVec 32 := Scalar.divsi arg0 c16_i32_87
  let c1_i32_93 : BitVec 32 := 1#32
  let v187 : BitVec 32 := Scalar.subi v172 c1_i32_93
  let v188 : BitVec 32 := Scalar.select v186 v187 v172
  let c16_i32_80 : BitVec 32 := 16#32
  let c0_i32_81 : BitVec 32 := 0#32
  let v161 : BitVec 1 := Scalar.cmpi .eq c16_i32_80 c0_i32_81
  let c1_i32_82 : BitVec 32 := 1#32
  let v162 : BitVec 32 := Scalar.select v161 c1_i32_82 c16_i32_80
  let v163 : BitVec 32 := Scalar.remsi arg0 v162
  let c0_i32_84 : BitVec 32 := 0#32
  let v165 : BitVec 1 := Scalar.cmpi .slt v163 c0_i32_84
  let c0_i32_85 : BitVec 32 := 0#32
  let v166 : BitVec 1 := Scalar.cmpi .slt v162 c0_i32_85
  let v167 : BitVec 1 := Scalar.xori v165 v166
  let c0_i32_83 : BitVec 32 := 0#32
  let v164 : BitVec 1 := Scalar.cmpi .ne v163 c0_i32_83
  let v168 : BitVec 1 := Scalar.andi v167 v164
  let v169 : BitVec 32 := Scalar.addi v163 v162
  let v170 : BitVec 32 := Scalar.select v168 v169 v163
  let c512_i32_86 : BitVec 32 := 512#32
  let v171 : BitVec 32 := Scalar.muli v170 c512_i32_86
  let c4_i32 : BitVec 32 := 4#32
  let c0_i32_94 : BitVec 32 := 0#32
  ![v188.toNat, v171.toNat, 4, 0]
def k0_off37 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_95 : BitVec 32 := 0#32
  let c512_i32_96 : BitVec 32 := 512#32
  ![v9.toNat, 0, 512]
def k0_off38 (i : grid0.Coords) : Fin 4 → Nat :=
  let arg0 : BitVec 32 := BitVec.ofNat 32 (i 0).val
  let c0_i32_105 : BitVec 32 := 0#32
  let v207 : BitVec 1 := Scalar.cmpi .sgt arg0 c0_i32_105
  let v208 : BitVec 32 := Scalar.extui v207
  let c0_i32_106 : BitVec 32 := 0#32
  let v209 : BitVec 1 := Scalar.cmpi .slt arg0 c0_i32_106
  let v210 : BitVec 32 := Scalar.extui v209
  let v211 : BitVec 32 := Scalar.subi v208 v210
  let c16_i32_104 : BitVec 32 := 16#32
  let c0_i32_107 : BitVec 32 := 0#32
  let v212 : BitVec 1 := Scalar.cmpi .sgt c16_i32_104 c0_i32_107
  let v213 : BitVec 32 := Scalar.extui v212
  let c0_i32_108 : BitVec 32 := 0#32
  let v214 : BitVec 1 := Scalar.cmpi .slt c16_i32_104 c0_i32_108
  let v215 : BitVec 32 := Scalar.extui v214
  let v216 : BitVec 32 := Scalar.subi v213 v215
  let v217 : BitVec 1 := Scalar.cmpi .ne v211 v216
  let v218 : BitVec 32 := Scalar.remsi arg0 c16_i32_104
  let c0_i32_109 : BitVec 32 := 0#32
  let v219 : BitVec 1 := Scalar.cmpi .ne v218 c0_i32_109
  let v220 : BitVec 1 := Scalar.andi v217 v219
  let v206 : BitVec 32 := Scalar.divsi arg0 c16_i32_104
  let c1_i32_110 : BitVec 32 := 1#32
  let v221 : BitVec 32 := Scalar.subi v206 c1_i32_110
  let v222 : BitVec 32 := Scalar.select v220 v221 v206
  let c16_i32_97 : BitVec 32 := 16#32
  let c0_i32_98 : BitVec 32 := 0#32
  let v195 : BitVec 1 := Scalar.cmpi .eq c16_i32_97 c0_i32_98
  let c1_i32_99 : BitVec 32 := 1#32
  let v196 : BitVec 32 := Scalar.select v195 c1_i32_99 c16_i32_97
  let v197 : BitVec 32 := Scalar.remsi arg0 v196
  let c0_i32_101 : BitVec 32 := 0#32
  let v199 : BitVec 1 := Scalar.cmpi .slt v197 c0_i32_101
  let c0_i32_102 : BitVec 32 := 0#32
  let v200 : BitVec 1 := Scalar.cmpi .slt v196 c0_i32_102
  let v201 : BitVec 1 := Scalar.xori v199 v200
  let c0_i32_100 : BitVec 32 := 0#32
  let v198 : BitVec 1 := Scalar.cmpi .ne v197 c0_i32_100
  let v202 : BitVec 1 := Scalar.andi v201 v198
  let v203 : BitVec 32 := Scalar.addi v197 v196
  let v204 : BitVec 32 := Scalar.select v202 v203 v197
  let c512_i32_103 : BitVec 32 := 512#32
  let v205 : BitVec 32 := Scalar.muli v204 c512_i32_103
  let c5_i32 : BitVec 32 := 5#32
  let c0_i32_111 : BitVec 32 := 0#32
  ![v222.toNat, v205.toNat, 5, 0]
def k0_off39 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_112 : BitVec 32 := 0#32
  let c640_i32 : BitVec 32 := 640#32
  ![v9.toNat, 0, 640]
def k0_off40 (i : grid0.Coords) : Fin 4 → Nat :=
  let arg0 : BitVec 32 := BitVec.ofNat 32 (i 0).val
  let c0_i32_121 : BitVec 32 := 0#32
  let v241 : BitVec 1 := Scalar.cmpi .sgt arg0 c0_i32_121
  let v242 : BitVec 32 := Scalar.extui v241
  let c0_i32_122 : BitVec 32 := 0#32
  let v243 : BitVec 1 := Scalar.cmpi .slt arg0 c0_i32_122
  let v244 : BitVec 32 := Scalar.extui v243
  let v245 : BitVec 32 := Scalar.subi v242 v244
  let c16_i32_120 : BitVec 32 := 16#32
  let c0_i32_123 : BitVec 32 := 0#32
  let v246 : BitVec 1 := Scalar.cmpi .sgt c16_i32_120 c0_i32_123
  let v247 : BitVec 32 := Scalar.extui v246
  let c0_i32_124 : BitVec 32 := 0#32
  let v248 : BitVec 1 := Scalar.cmpi .slt c16_i32_120 c0_i32_124
  let v249 : BitVec 32 := Scalar.extui v248
  let v250 : BitVec 32 := Scalar.subi v247 v249
  let v251 : BitVec 1 := Scalar.cmpi .ne v245 v250
  let v252 : BitVec 32 := Scalar.remsi arg0 c16_i32_120
  let c0_i32_125 : BitVec 32 := 0#32
  let v253 : BitVec 1 := Scalar.cmpi .ne v252 c0_i32_125
  let v254 : BitVec 1 := Scalar.andi v251 v253
  let v240 : BitVec 32 := Scalar.divsi arg0 c16_i32_120
  let c1_i32_126 : BitVec 32 := 1#32
  let v255 : BitVec 32 := Scalar.subi v240 c1_i32_126
  let v256 : BitVec 32 := Scalar.select v254 v255 v240
  let c16_i32_113 : BitVec 32 := 16#32
  let c0_i32_114 : BitVec 32 := 0#32
  let v229 : BitVec 1 := Scalar.cmpi .eq c16_i32_113 c0_i32_114
  let c1_i32_115 : BitVec 32 := 1#32
  let v230 : BitVec 32 := Scalar.select v229 c1_i32_115 c16_i32_113
  let v231 : BitVec 32 := Scalar.remsi arg0 v230
  let c0_i32_117 : BitVec 32 := 0#32
  let v233 : BitVec 1 := Scalar.cmpi .slt v231 c0_i32_117
  let c0_i32_118 : BitVec 32 := 0#32
  let v234 : BitVec 1 := Scalar.cmpi .slt v230 c0_i32_118
  let v235 : BitVec 1 := Scalar.xori v233 v234
  let c0_i32_116 : BitVec 32 := 0#32
  let v232 : BitVec 1 := Scalar.cmpi .ne v231 c0_i32_116
  let v236 : BitVec 1 := Scalar.andi v235 v232
  let v237 : BitVec 32 := Scalar.addi v231 v230
  let v238 : BitVec 32 := Scalar.select v236 v237 v231
  let c512_i32_119 : BitVec 32 := 512#32
  let v239 : BitVec 32 := Scalar.muli v238 c512_i32_119
  let c6_i32 : BitVec 32 := 6#32
  let c0_i32_127 : BitVec 32 := 0#32
  ![v256.toNat, v239.toNat, 6, 0]
def k0_off41 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_128 : BitVec 32 := 0#32
  let c768_i32 : BitVec 32 := 768#32
  ![v9.toNat, 0, 768]
def k0_off42 (i : grid0.Coords) : Fin 4 → Nat :=
  let arg0 : BitVec 32 := BitVec.ofNat 32 (i 0).val
  let c0_i32_137 : BitVec 32 := 0#32
  let v275 : BitVec 1 := Scalar.cmpi .sgt arg0 c0_i32_137
  let v276 : BitVec 32 := Scalar.extui v275
  let c0_i32_138 : BitVec 32 := 0#32
  let v277 : BitVec 1 := Scalar.cmpi .slt arg0 c0_i32_138
  let v278 : BitVec 32 := Scalar.extui v277
  let v279 : BitVec 32 := Scalar.subi v276 v278
  let c16_i32_136 : BitVec 32 := 16#32
  let c0_i32_139 : BitVec 32 := 0#32
  let v280 : BitVec 1 := Scalar.cmpi .sgt c16_i32_136 c0_i32_139
  let v281 : BitVec 32 := Scalar.extui v280
  let c0_i32_140 : BitVec 32 := 0#32
  let v282 : BitVec 1 := Scalar.cmpi .slt c16_i32_136 c0_i32_140
  let v283 : BitVec 32 := Scalar.extui v282
  let v284 : BitVec 32 := Scalar.subi v281 v283
  let v285 : BitVec 1 := Scalar.cmpi .ne v279 v284
  let v286 : BitVec 32 := Scalar.remsi arg0 c16_i32_136
  let c0_i32_141 : BitVec 32 := 0#32
  let v287 : BitVec 1 := Scalar.cmpi .ne v286 c0_i32_141
  let v288 : BitVec 1 := Scalar.andi v285 v287
  let v274 : BitVec 32 := Scalar.divsi arg0 c16_i32_136
  let c1_i32_142 : BitVec 32 := 1#32
  let v289 : BitVec 32 := Scalar.subi v274 c1_i32_142
  let v290 : BitVec 32 := Scalar.select v288 v289 v274
  let c16_i32_129 : BitVec 32 := 16#32
  let c0_i32_130 : BitVec 32 := 0#32
  let v263 : BitVec 1 := Scalar.cmpi .eq c16_i32_129 c0_i32_130
  let c1_i32_131 : BitVec 32 := 1#32
  let v264 : BitVec 32 := Scalar.select v263 c1_i32_131 c16_i32_129
  let v265 : BitVec 32 := Scalar.remsi arg0 v264
  let c0_i32_133 : BitVec 32 := 0#32
  let v267 : BitVec 1 := Scalar.cmpi .slt v265 c0_i32_133
  let c0_i32_134 : BitVec 32 := 0#32
  let v268 : BitVec 1 := Scalar.cmpi .slt v264 c0_i32_134
  let v269 : BitVec 1 := Scalar.xori v267 v268
  let c0_i32_132 : BitVec 32 := 0#32
  let v266 : BitVec 1 := Scalar.cmpi .ne v265 c0_i32_132
  let v270 : BitVec 1 := Scalar.andi v269 v266
  let v271 : BitVec 32 := Scalar.addi v265 v264
  let v272 : BitVec 32 := Scalar.select v270 v271 v265
  let c512_i32_135 : BitVec 32 := 512#32
  let v273 : BitVec 32 := Scalar.muli v272 c512_i32_135
  let c7_i32 : BitVec 32 := 7#32
  let c0_i32_143 : BitVec 32 := 0#32
  ![v290.toNat, v273.toNat, 7, 0]
def k0_off43 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_144 : BitVec 32 := 0#32
  let c896_i32 : BitVec 32 := 896#32
  ![v9.toNat, 0, 896]
def k0_off44 (i : grid0.Coords) : Fin 4 → Nat :=
  let arg0 : BitVec 32 := BitVec.ofNat 32 (i 0).val
  let c0_i32_153 : BitVec 32 := 0#32
  let v309 : BitVec 1 := Scalar.cmpi .sgt arg0 c0_i32_153
  let v310 : BitVec 32 := Scalar.extui v309
  let c0_i32_154 : BitVec 32 := 0#32
  let v311 : BitVec 1 := Scalar.cmpi .slt arg0 c0_i32_154
  let v312 : BitVec 32 := Scalar.extui v311
  let v313 : BitVec 32 := Scalar.subi v310 v312
  let c16_i32_152 : BitVec 32 := 16#32
  let c0_i32_155 : BitVec 32 := 0#32
  let v314 : BitVec 1 := Scalar.cmpi .sgt c16_i32_152 c0_i32_155
  let v315 : BitVec 32 := Scalar.extui v314
  let c0_i32_156 : BitVec 32 := 0#32
  let v316 : BitVec 1 := Scalar.cmpi .slt c16_i32_152 c0_i32_156
  let v317 : BitVec 32 := Scalar.extui v316
  let v318 : BitVec 32 := Scalar.subi v315 v317
  let v319 : BitVec 1 := Scalar.cmpi .ne v313 v318
  let v320 : BitVec 32 := Scalar.remsi arg0 c16_i32_152
  let c0_i32_157 : BitVec 32 := 0#32
  let v321 : BitVec 1 := Scalar.cmpi .ne v320 c0_i32_157
  let v322 : BitVec 1 := Scalar.andi v319 v321
  let v308 : BitVec 32 := Scalar.divsi arg0 c16_i32_152
  let c1_i32_158 : BitVec 32 := 1#32
  let v323 : BitVec 32 := Scalar.subi v308 c1_i32_158
  let v324 : BitVec 32 := Scalar.select v322 v323 v308
  let c16_i32_145 : BitVec 32 := 16#32
  let c0_i32_146 : BitVec 32 := 0#32
  let v297 : BitVec 1 := Scalar.cmpi .eq c16_i32_145 c0_i32_146
  let c1_i32_147 : BitVec 32 := 1#32
  let v298 : BitVec 32 := Scalar.select v297 c1_i32_147 c16_i32_145
  let v299 : BitVec 32 := Scalar.remsi arg0 v298
  let c0_i32_149 : BitVec 32 := 0#32
  let v301 : BitVec 1 := Scalar.cmpi .slt v299 c0_i32_149
  let c0_i32_150 : BitVec 32 := 0#32
  let v302 : BitVec 1 := Scalar.cmpi .slt v298 c0_i32_150
  let v303 : BitVec 1 := Scalar.xori v301 v302
  let c0_i32_148 : BitVec 32 := 0#32
  let v300 : BitVec 1 := Scalar.cmpi .ne v299 c0_i32_148
  let v304 : BitVec 1 := Scalar.andi v303 v300
  let v305 : BitVec 32 := Scalar.addi v299 v298
  let v306 : BitVec 32 := Scalar.select v304 v305 v299
  let c512_i32_151 : BitVec 32 := 512#32
  let v307 : BitVec 32 := Scalar.muli v306 c512_i32_151
  let c8_i32 : BitVec 32 := 8#32
  let c0_i32_159 : BitVec 32 := 0#32
  ![v324.toNat, v307.toNat, 8, 0]
def k0_off45 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_160 : BitVec 32 := 0#32
  let c1024_i32 : BitVec 32 := 1024#32
  ![v9.toNat, 0, 1024]
def k0_off46 (i : grid0.Coords) : Fin 4 → Nat :=
  let arg0 : BitVec 32 := BitVec.ofNat 32 (i 0).val
  let c0_i32_169 : BitVec 32 := 0#32
  let v343 : BitVec 1 := Scalar.cmpi .sgt arg0 c0_i32_169
  let v344 : BitVec 32 := Scalar.extui v343
  let c0_i32_170 : BitVec 32 := 0#32
  let v345 : BitVec 1 := Scalar.cmpi .slt arg0 c0_i32_170
  let v346 : BitVec 32 := Scalar.extui v345
  let v347 : BitVec 32 := Scalar.subi v344 v346
  let c16_i32_168 : BitVec 32 := 16#32
  let c0_i32_171 : BitVec 32 := 0#32
  let v348 : BitVec 1 := Scalar.cmpi .sgt c16_i32_168 c0_i32_171
  let v349 : BitVec 32 := Scalar.extui v348
  let c0_i32_172 : BitVec 32 := 0#32
  let v350 : BitVec 1 := Scalar.cmpi .slt c16_i32_168 c0_i32_172
  let v351 : BitVec 32 := Scalar.extui v350
  let v352 : BitVec 32 := Scalar.subi v349 v351
  let v353 : BitVec 1 := Scalar.cmpi .ne v347 v352
  let v354 : BitVec 32 := Scalar.remsi arg0 c16_i32_168
  let c0_i32_173 : BitVec 32 := 0#32
  let v355 : BitVec 1 := Scalar.cmpi .ne v354 c0_i32_173
  let v356 : BitVec 1 := Scalar.andi v353 v355
  let v342 : BitVec 32 := Scalar.divsi arg0 c16_i32_168
  let c1_i32_174 : BitVec 32 := 1#32
  let v357 : BitVec 32 := Scalar.subi v342 c1_i32_174
  let v358 : BitVec 32 := Scalar.select v356 v357 v342
  let c16_i32_161 : BitVec 32 := 16#32
  let c0_i32_162 : BitVec 32 := 0#32
  let v331 : BitVec 1 := Scalar.cmpi .eq c16_i32_161 c0_i32_162
  let c1_i32_163 : BitVec 32 := 1#32
  let v332 : BitVec 32 := Scalar.select v331 c1_i32_163 c16_i32_161
  let v333 : BitVec 32 := Scalar.remsi arg0 v332
  let c0_i32_165 : BitVec 32 := 0#32
  let v335 : BitVec 1 := Scalar.cmpi .slt v333 c0_i32_165
  let c0_i32_166 : BitVec 32 := 0#32
  let v336 : BitVec 1 := Scalar.cmpi .slt v332 c0_i32_166
  let v337 : BitVec 1 := Scalar.xori v335 v336
  let c0_i32_164 : BitVec 32 := 0#32
  let v334 : BitVec 1 := Scalar.cmpi .ne v333 c0_i32_164
  let v338 : BitVec 1 := Scalar.andi v337 v334
  let v339 : BitVec 32 := Scalar.addi v333 v332
  let v340 : BitVec 32 := Scalar.select v338 v339 v333
  let c512_i32_167 : BitVec 32 := 512#32
  let v341 : BitVec 32 := Scalar.muli v340 c512_i32_167
  let c9_i32 : BitVec 32 := 9#32
  let c0_i32_175 : BitVec 32 := 0#32
  ![v358.toNat, v341.toNat, 9, 0]
def k0_off47 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_176 : BitVec 32 := 0#32
  let c1152_i32 : BitVec 32 := 1152#32
  ![v9.toNat, 0, 1152]
def k0_off48 (i : grid0.Coords) : Fin 4 → Nat :=
  let arg0 : BitVec 32 := BitVec.ofNat 32 (i 0).val
  let c0_i32_185 : BitVec 32 := 0#32
  let v377 : BitVec 1 := Scalar.cmpi .sgt arg0 c0_i32_185
  let v378 : BitVec 32 := Scalar.extui v377
  let c0_i32_186 : BitVec 32 := 0#32
  let v379 : BitVec 1 := Scalar.cmpi .slt arg0 c0_i32_186
  let v380 : BitVec 32 := Scalar.extui v379
  let v381 : BitVec 32 := Scalar.subi v378 v380
  let c16_i32_184 : BitVec 32 := 16#32
  let c0_i32_187 : BitVec 32 := 0#32
  let v382 : BitVec 1 := Scalar.cmpi .sgt c16_i32_184 c0_i32_187
  let v383 : BitVec 32 := Scalar.extui v382
  let c0_i32_188 : BitVec 32 := 0#32
  let v384 : BitVec 1 := Scalar.cmpi .slt c16_i32_184 c0_i32_188
  let v385 : BitVec 32 := Scalar.extui v384
  let v386 : BitVec 32 := Scalar.subi v383 v385
  let v387 : BitVec 1 := Scalar.cmpi .ne v381 v386
  let v388 : BitVec 32 := Scalar.remsi arg0 c16_i32_184
  let c0_i32_189 : BitVec 32 := 0#32
  let v389 : BitVec 1 := Scalar.cmpi .ne v388 c0_i32_189
  let v390 : BitVec 1 := Scalar.andi v387 v389
  let v376 : BitVec 32 := Scalar.divsi arg0 c16_i32_184
  let c1_i32_190 : BitVec 32 := 1#32
  let v391 : BitVec 32 := Scalar.subi v376 c1_i32_190
  let v392 : BitVec 32 := Scalar.select v390 v391 v376
  let c16_i32_177 : BitVec 32 := 16#32
  let c0_i32_178 : BitVec 32 := 0#32
  let v365 : BitVec 1 := Scalar.cmpi .eq c16_i32_177 c0_i32_178
  let c1_i32_179 : BitVec 32 := 1#32
  let v366 : BitVec 32 := Scalar.select v365 c1_i32_179 c16_i32_177
  let v367 : BitVec 32 := Scalar.remsi arg0 v366
  let c0_i32_181 : BitVec 32 := 0#32
  let v369 : BitVec 1 := Scalar.cmpi .slt v367 c0_i32_181
  let c0_i32_182 : BitVec 32 := 0#32
  let v370 : BitVec 1 := Scalar.cmpi .slt v366 c0_i32_182
  let v371 : BitVec 1 := Scalar.xori v369 v370
  let c0_i32_180 : BitVec 32 := 0#32
  let v368 : BitVec 1 := Scalar.cmpi .ne v367 c0_i32_180
  let v372 : BitVec 1 := Scalar.andi v371 v368
  let v373 : BitVec 32 := Scalar.addi v367 v366
  let v374 : BitVec 32 := Scalar.select v372 v373 v367
  let c512_i32_183 : BitVec 32 := 512#32
  let v375 : BitVec 32 := Scalar.muli v374 c512_i32_183
  let c10_i32 : BitVec 32 := 10#32
  let c0_i32_191 : BitVec 32 := 0#32
  ![v392.toNat, v375.toNat, 10, 0]
def k0_off49 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_192 : BitVec 32 := 0#32
  let c1280_i32 : BitVec 32 := 1280#32
  ![v9.toNat, 0, 1280]
def k0_off50 (i : grid0.Coords) : Fin 4 → Nat :=
  let arg0 : BitVec 32 := BitVec.ofNat 32 (i 0).val
  let c0_i32_201 : BitVec 32 := 0#32
  let v411 : BitVec 1 := Scalar.cmpi .sgt arg0 c0_i32_201
  let v412 : BitVec 32 := Scalar.extui v411
  let c0_i32_202 : BitVec 32 := 0#32
  let v413 : BitVec 1 := Scalar.cmpi .slt arg0 c0_i32_202
  let v414 : BitVec 32 := Scalar.extui v413
  let v415 : BitVec 32 := Scalar.subi v412 v414
  let c16_i32_200 : BitVec 32 := 16#32
  let c0_i32_203 : BitVec 32 := 0#32
  let v416 : BitVec 1 := Scalar.cmpi .sgt c16_i32_200 c0_i32_203
  let v417 : BitVec 32 := Scalar.extui v416
  let c0_i32_204 : BitVec 32 := 0#32
  let v418 : BitVec 1 := Scalar.cmpi .slt c16_i32_200 c0_i32_204
  let v419 : BitVec 32 := Scalar.extui v418
  let v420 : BitVec 32 := Scalar.subi v417 v419
  let v421 : BitVec 1 := Scalar.cmpi .ne v415 v420
  let v422 : BitVec 32 := Scalar.remsi arg0 c16_i32_200
  let c0_i32_205 : BitVec 32 := 0#32
  let v423 : BitVec 1 := Scalar.cmpi .ne v422 c0_i32_205
  let v424 : BitVec 1 := Scalar.andi v421 v423
  let v410 : BitVec 32 := Scalar.divsi arg0 c16_i32_200
  let c1_i32_206 : BitVec 32 := 1#32
  let v425 : BitVec 32 := Scalar.subi v410 c1_i32_206
  let v426 : BitVec 32 := Scalar.select v424 v425 v410
  let c16_i32_193 : BitVec 32 := 16#32
  let c0_i32_194 : BitVec 32 := 0#32
  let v399 : BitVec 1 := Scalar.cmpi .eq c16_i32_193 c0_i32_194
  let c1_i32_195 : BitVec 32 := 1#32
  let v400 : BitVec 32 := Scalar.select v399 c1_i32_195 c16_i32_193
  let v401 : BitVec 32 := Scalar.remsi arg0 v400
  let c0_i32_197 : BitVec 32 := 0#32
  let v403 : BitVec 1 := Scalar.cmpi .slt v401 c0_i32_197
  let c0_i32_198 : BitVec 32 := 0#32
  let v404 : BitVec 1 := Scalar.cmpi .slt v400 c0_i32_198
  let v405 : BitVec 1 := Scalar.xori v403 v404
  let c0_i32_196 : BitVec 32 := 0#32
  let v402 : BitVec 1 := Scalar.cmpi .ne v401 c0_i32_196
  let v406 : BitVec 1 := Scalar.andi v405 v402
  let v407 : BitVec 32 := Scalar.addi v401 v400
  let v408 : BitVec 32 := Scalar.select v406 v407 v401
  let c512_i32_199 : BitVec 32 := 512#32
  let v409 : BitVec 32 := Scalar.muli v408 c512_i32_199
  let c11_i32 : BitVec 32 := 11#32
  let c0_i32_207 : BitVec 32 := 0#32
  ![v426.toNat, v409.toNat, 11, 0]
def k0_off51 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_208 : BitVec 32 := 0#32
  let c1408_i32 : BitVec 32 := 1408#32
  ![v9.toNat, 0, 1408]
def k0_cond2 (i : grid0.Coords) : BitVec 1 :=
  let arg0 : BitVec 32 := BitVec.ofNat 32 (i 0).val
  let c63_i32 : BitVec 32 := 63#32
  let v433 : BitVec 1 := Scalar.cmpi .eq arg0 c63_i32
  let v434 : BitVec 32 := Scalar.extui v433
  let c0_i32_209 : BitVec 32 := 0#32
  let v435 : BitVec 1 := Scalar.cmpi .ne v434 c0_i32_209
  v435

def k0_off52 (i : grid0.Coords) : Fin 1 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  ![v437.toNat]
def k0_off53 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_220 : BitVec 32 := 0#32
  let v450 : BitVec 1 := Scalar.cmpi .sgt v436 c0_i32_220
  let v451 : BitVec 32 := Scalar.extui v450
  let c0_i32_221 : BitVec 32 := 0#32
  let v452 : BitVec 1 := Scalar.cmpi .slt v436 c0_i32_221
  let v453 : BitVec 32 := Scalar.extui v452
  let v454 : BitVec 32 := Scalar.subi v451 v453
  let c16_i32_219 : BitVec 32 := 16#32
  let c0_i32_222 : BitVec 32 := 0#32
  let v455 : BitVec 1 := Scalar.cmpi .sgt c16_i32_219 c0_i32_222
  let v456 : BitVec 32 := Scalar.extui v455
  let c0_i32_223 : BitVec 32 := 0#32
  let v457 : BitVec 1 := Scalar.cmpi .slt c16_i32_219 c0_i32_223
  let v458 : BitVec 32 := Scalar.extui v457
  let v459 : BitVec 32 := Scalar.subi v456 v458
  let v460 : BitVec 1 := Scalar.cmpi .ne v454 v459
  let v461 : BitVec 32 := Scalar.remsi v436 c16_i32_219
  let c0_i32_224 : BitVec 32 := 0#32
  let v462 : BitVec 1 := Scalar.cmpi .ne v461 c0_i32_224
  let v463 : BitVec 1 := Scalar.andi v460 v462
  let v449 : BitVec 32 := Scalar.divsi v436 c16_i32_219
  let c1_i32_225 : BitVec 32 := 1#32
  let v464 : BitVec 32 := Scalar.subi v449 c1_i32_225
  let v465 : BitVec 32 := Scalar.select v463 v464 v449
  let c16_i32_212 : BitVec 32 := 16#32
  let c0_i32_213 : BitVec 32 := 0#32
  let v438 : BitVec 1 := Scalar.cmpi .eq c16_i32_212 c0_i32_213
  let c1_i32_214 : BitVec 32 := 1#32
  let v439 : BitVec 32 := Scalar.select v438 c1_i32_214 c16_i32_212
  let v440 : BitVec 32 := Scalar.remsi v436 v439
  let c0_i32_216 : BitVec 32 := 0#32
  let v442 : BitVec 1 := Scalar.cmpi .slt v440 c0_i32_216
  let c0_i32_217 : BitVec 32 := 0#32
  let v443 : BitVec 1 := Scalar.cmpi .slt v439 c0_i32_217
  let v444 : BitVec 1 := Scalar.xori v442 v443
  let c0_i32_215 : BitVec 32 := 0#32
  let v441 : BitVec 1 := Scalar.cmpi .ne v440 c0_i32_215
  let v445 : BitVec 1 := Scalar.andi v444 v441
  let v446 : BitVec 32 := Scalar.addi v440 v439
  let v447 : BitVec 32 := Scalar.select v445 v446 v440
  let c512_i32_218 : BitVec 32 := 512#32
  let v448 : BitVec 32 := Scalar.muli v447 c512_i32_218
  let c0_i32_226 : BitVec 32 := 0#32
  let c0_i32_227 : BitVec 32 := 0#32
  ![v465.toNat, v448.toNat, 0, 0]
def k0_off54 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_228 : BitVec 32 := 0#32
  let c0_i32_229 : BitVec 32 := 0#32
  ![v437.toNat, 0, 0]
def k0_off55 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_238 : BitVec 32 := 0#32
  let v484 : BitVec 1 := Scalar.cmpi .sgt v436 c0_i32_238
  let v485 : BitVec 32 := Scalar.extui v484
  let c0_i32_239 : BitVec 32 := 0#32
  let v486 : BitVec 1 := Scalar.cmpi .slt v436 c0_i32_239
  let v487 : BitVec 32 := Scalar.extui v486
  let v488 : BitVec 32 := Scalar.subi v485 v487
  let c16_i32_237 : BitVec 32 := 16#32
  let c0_i32_240 : BitVec 32 := 0#32
  let v489 : BitVec 1 := Scalar.cmpi .sgt c16_i32_237 c0_i32_240
  let v490 : BitVec 32 := Scalar.extui v489
  let c0_i32_241 : BitVec 32 := 0#32
  let v491 : BitVec 1 := Scalar.cmpi .slt c16_i32_237 c0_i32_241
  let v492 : BitVec 32 := Scalar.extui v491
  let v493 : BitVec 32 := Scalar.subi v490 v492
  let v494 : BitVec 1 := Scalar.cmpi .ne v488 v493
  let v495 : BitVec 32 := Scalar.remsi v436 c16_i32_237
  let c0_i32_242 : BitVec 32 := 0#32
  let v496 : BitVec 1 := Scalar.cmpi .ne v495 c0_i32_242
  let v497 : BitVec 1 := Scalar.andi v494 v496
  let v483 : BitVec 32 := Scalar.divsi v436 c16_i32_237
  let c1_i32_243 : BitVec 32 := 1#32
  let v498 : BitVec 32 := Scalar.subi v483 c1_i32_243
  let v499 : BitVec 32 := Scalar.select v497 v498 v483
  let c16_i32_230 : BitVec 32 := 16#32
  let c0_i32_231 : BitVec 32 := 0#32
  let v472 : BitVec 1 := Scalar.cmpi .eq c16_i32_230 c0_i32_231
  let c1_i32_232 : BitVec 32 := 1#32
  let v473 : BitVec 32 := Scalar.select v472 c1_i32_232 c16_i32_230
  let v474 : BitVec 32 := Scalar.remsi v436 v473
  let c0_i32_234 : BitVec 32 := 0#32
  let v476 : BitVec 1 := Scalar.cmpi .slt v474 c0_i32_234
  let c0_i32_235 : BitVec 32 := 0#32
  let v477 : BitVec 1 := Scalar.cmpi .slt v473 c0_i32_235
  let v478 : BitVec 1 := Scalar.xori v476 v477
  let c0_i32_233 : BitVec 32 := 0#32
  let v475 : BitVec 1 := Scalar.cmpi .ne v474 c0_i32_233
  let v479 : BitVec 1 := Scalar.andi v478 v475
  let v480 : BitVec 32 := Scalar.addi v474 v473
  let v481 : BitVec 32 := Scalar.select v479 v480 v474
  let c512_i32_236 : BitVec 32 := 512#32
  let v482 : BitVec 32 := Scalar.muli v481 c512_i32_236
  let c1_i32_244 : BitVec 32 := 1#32
  let c0_i32_245 : BitVec 32 := 0#32
  ![v499.toNat, v482.toNat, 1, 0]
def k0_off56 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_246 : BitVec 32 := 0#32
  let c128_i32_247 : BitVec 32 := 128#32
  ![v437.toNat, 0, 128]
def k0_off57 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_256 : BitVec 32 := 0#32
  let v518 : BitVec 1 := Scalar.cmpi .sgt v436 c0_i32_256
  let v519 : BitVec 32 := Scalar.extui v518
  let c0_i32_257 : BitVec 32 := 0#32
  let v520 : BitVec 1 := Scalar.cmpi .slt v436 c0_i32_257
  let v521 : BitVec 32 := Scalar.extui v520
  let v522 : BitVec 32 := Scalar.subi v519 v521
  let c16_i32_255 : BitVec 32 := 16#32
  let c0_i32_258 : BitVec 32 := 0#32
  let v523 : BitVec 1 := Scalar.cmpi .sgt c16_i32_255 c0_i32_258
  let v524 : BitVec 32 := Scalar.extui v523
  let c0_i32_259 : BitVec 32 := 0#32
  let v525 : BitVec 1 := Scalar.cmpi .slt c16_i32_255 c0_i32_259
  let v526 : BitVec 32 := Scalar.extui v525
  let v527 : BitVec 32 := Scalar.subi v524 v526
  let v528 : BitVec 1 := Scalar.cmpi .ne v522 v527
  let v529 : BitVec 32 := Scalar.remsi v436 c16_i32_255
  let c0_i32_260 : BitVec 32 := 0#32
  let v530 : BitVec 1 := Scalar.cmpi .ne v529 c0_i32_260
  let v531 : BitVec 1 := Scalar.andi v528 v530
  let v517 : BitVec 32 := Scalar.divsi v436 c16_i32_255
  let c1_i32_261 : BitVec 32 := 1#32
  let v532 : BitVec 32 := Scalar.subi v517 c1_i32_261
  let v533 : BitVec 32 := Scalar.select v531 v532 v517
  let c16_i32_248 : BitVec 32 := 16#32
  let c0_i32_249 : BitVec 32 := 0#32
  let v506 : BitVec 1 := Scalar.cmpi .eq c16_i32_248 c0_i32_249
  let c1_i32_250 : BitVec 32 := 1#32
  let v507 : BitVec 32 := Scalar.select v506 c1_i32_250 c16_i32_248
  let v508 : BitVec 32 := Scalar.remsi v436 v507
  let c0_i32_252 : BitVec 32 := 0#32
  let v510 : BitVec 1 := Scalar.cmpi .slt v508 c0_i32_252
  let c0_i32_253 : BitVec 32 := 0#32
  let v511 : BitVec 1 := Scalar.cmpi .slt v507 c0_i32_253
  let v512 : BitVec 1 := Scalar.xori v510 v511
  let c0_i32_251 : BitVec 32 := 0#32
  let v509 : BitVec 1 := Scalar.cmpi .ne v508 c0_i32_251
  let v513 : BitVec 1 := Scalar.andi v512 v509
  let v514 : BitVec 32 := Scalar.addi v508 v507
  let v515 : BitVec 32 := Scalar.select v513 v514 v508
  let c512_i32_254 : BitVec 32 := 512#32
  let v516 : BitVec 32 := Scalar.muli v515 c512_i32_254
  let c2_i32_262 : BitVec 32 := 2#32
  let c0_i32_263 : BitVec 32 := 0#32
  ![v533.toNat, v516.toNat, 2, 0]
def k0_off58 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_264 : BitVec 32 := 0#32
  let c256_i32_265 : BitVec 32 := 256#32
  ![v437.toNat, 0, 256]
def k0_off59 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_274 : BitVec 32 := 0#32
  let v552 : BitVec 1 := Scalar.cmpi .sgt v436 c0_i32_274
  let v553 : BitVec 32 := Scalar.extui v552
  let c0_i32_275 : BitVec 32 := 0#32
  let v554 : BitVec 1 := Scalar.cmpi .slt v436 c0_i32_275
  let v555 : BitVec 32 := Scalar.extui v554
  let v556 : BitVec 32 := Scalar.subi v553 v555
  let c16_i32_273 : BitVec 32 := 16#32
  let c0_i32_276 : BitVec 32 := 0#32
  let v557 : BitVec 1 := Scalar.cmpi .sgt c16_i32_273 c0_i32_276
  let v558 : BitVec 32 := Scalar.extui v557
  let c0_i32_277 : BitVec 32 := 0#32
  let v559 : BitVec 1 := Scalar.cmpi .slt c16_i32_273 c0_i32_277
  let v560 : BitVec 32 := Scalar.extui v559
  let v561 : BitVec 32 := Scalar.subi v558 v560
  let v562 : BitVec 1 := Scalar.cmpi .ne v556 v561
  let v563 : BitVec 32 := Scalar.remsi v436 c16_i32_273
  let c0_i32_278 : BitVec 32 := 0#32
  let v564 : BitVec 1 := Scalar.cmpi .ne v563 c0_i32_278
  let v565 : BitVec 1 := Scalar.andi v562 v564
  let v551 : BitVec 32 := Scalar.divsi v436 c16_i32_273
  let c1_i32_279 : BitVec 32 := 1#32
  let v566 : BitVec 32 := Scalar.subi v551 c1_i32_279
  let v567 : BitVec 32 := Scalar.select v565 v566 v551
  let c16_i32_266 : BitVec 32 := 16#32
  let c0_i32_267 : BitVec 32 := 0#32
  let v540 : BitVec 1 := Scalar.cmpi .eq c16_i32_266 c0_i32_267
  let c1_i32_268 : BitVec 32 := 1#32
  let v541 : BitVec 32 := Scalar.select v540 c1_i32_268 c16_i32_266
  let v542 : BitVec 32 := Scalar.remsi v436 v541
  let c0_i32_270 : BitVec 32 := 0#32
  let v544 : BitVec 1 := Scalar.cmpi .slt v542 c0_i32_270
  let c0_i32_271 : BitVec 32 := 0#32
  let v545 : BitVec 1 := Scalar.cmpi .slt v541 c0_i32_271
  let v546 : BitVec 1 := Scalar.xori v544 v545
  let c0_i32_269 : BitVec 32 := 0#32
  let v543 : BitVec 1 := Scalar.cmpi .ne v542 c0_i32_269
  let v547 : BitVec 1 := Scalar.andi v546 v543
  let v548 : BitVec 32 := Scalar.addi v542 v541
  let v549 : BitVec 32 := Scalar.select v547 v548 v542
  let c512_i32_272 : BitVec 32 := 512#32
  let v550 : BitVec 32 := Scalar.muli v549 c512_i32_272
  let c3_i32_280 : BitVec 32 := 3#32
  let c0_i32_281 : BitVec 32 := 0#32
  ![v567.toNat, v550.toNat, 3, 0]
def k0_off60 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_282 : BitVec 32 := 0#32
  let c384_i32_283 : BitVec 32 := 384#32
  ![v437.toNat, 0, 384]
def k0_off61 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_292 : BitVec 32 := 0#32
  let v586 : BitVec 1 := Scalar.cmpi .sgt v436 c0_i32_292
  let v587 : BitVec 32 := Scalar.extui v586
  let c0_i32_293 : BitVec 32 := 0#32
  let v588 : BitVec 1 := Scalar.cmpi .slt v436 c0_i32_293
  let v589 : BitVec 32 := Scalar.extui v588
  let v590 : BitVec 32 := Scalar.subi v587 v589
  let c16_i32_291 : BitVec 32 := 16#32
  let c0_i32_294 : BitVec 32 := 0#32
  let v591 : BitVec 1 := Scalar.cmpi .sgt c16_i32_291 c0_i32_294
  let v592 : BitVec 32 := Scalar.extui v591
  let c0_i32_295 : BitVec 32 := 0#32
  let v593 : BitVec 1 := Scalar.cmpi .slt c16_i32_291 c0_i32_295
  let v594 : BitVec 32 := Scalar.extui v593
  let v595 : BitVec 32 := Scalar.subi v592 v594
  let v596 : BitVec 1 := Scalar.cmpi .ne v590 v595
  let v597 : BitVec 32 := Scalar.remsi v436 c16_i32_291
  let c0_i32_296 : BitVec 32 := 0#32
  let v598 : BitVec 1 := Scalar.cmpi .ne v597 c0_i32_296
  let v599 : BitVec 1 := Scalar.andi v596 v598
  let v585 : BitVec 32 := Scalar.divsi v436 c16_i32_291
  let c1_i32_297 : BitVec 32 := 1#32
  let v600 : BitVec 32 := Scalar.subi v585 c1_i32_297
  let v601 : BitVec 32 := Scalar.select v599 v600 v585
  let c16_i32_284 : BitVec 32 := 16#32
  let c0_i32_285 : BitVec 32 := 0#32
  let v574 : BitVec 1 := Scalar.cmpi .eq c16_i32_284 c0_i32_285
  let c1_i32_286 : BitVec 32 := 1#32
  let v575 : BitVec 32 := Scalar.select v574 c1_i32_286 c16_i32_284
  let v576 : BitVec 32 := Scalar.remsi v436 v575
  let c0_i32_288 : BitVec 32 := 0#32
  let v578 : BitVec 1 := Scalar.cmpi .slt v576 c0_i32_288
  let c0_i32_289 : BitVec 32 := 0#32
  let v579 : BitVec 1 := Scalar.cmpi .slt v575 c0_i32_289
  let v580 : BitVec 1 := Scalar.xori v578 v579
  let c0_i32_287 : BitVec 32 := 0#32
  let v577 : BitVec 1 := Scalar.cmpi .ne v576 c0_i32_287
  let v581 : BitVec 1 := Scalar.andi v580 v577
  let v582 : BitVec 32 := Scalar.addi v576 v575
  let v583 : BitVec 32 := Scalar.select v581 v582 v576
  let c512_i32_290 : BitVec 32 := 512#32
  let v584 : BitVec 32 := Scalar.muli v583 c512_i32_290
  let c4_i32_298 : BitVec 32 := 4#32
  let c0_i32_299 : BitVec 32 := 0#32
  ![v601.toNat, v584.toNat, 4, 0]
def k0_off62 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_300 : BitVec 32 := 0#32
  let c512_i32_301 : BitVec 32 := 512#32
  ![v437.toNat, 0, 512]
def k0_off63 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_310 : BitVec 32 := 0#32
  let v620 : BitVec 1 := Scalar.cmpi .sgt v436 c0_i32_310
  let v621 : BitVec 32 := Scalar.extui v620
  let c0_i32_311 : BitVec 32 := 0#32
  let v622 : BitVec 1 := Scalar.cmpi .slt v436 c0_i32_311
  let v623 : BitVec 32 := Scalar.extui v622
  let v624 : BitVec 32 := Scalar.subi v621 v623
  let c16_i32_309 : BitVec 32 := 16#32
  let c0_i32_312 : BitVec 32 := 0#32
  let v625 : BitVec 1 := Scalar.cmpi .sgt c16_i32_309 c0_i32_312
  let v626 : BitVec 32 := Scalar.extui v625
  let c0_i32_313 : BitVec 32 := 0#32
  let v627 : BitVec 1 := Scalar.cmpi .slt c16_i32_309 c0_i32_313
  let v628 : BitVec 32 := Scalar.extui v627
  let v629 : BitVec 32 := Scalar.subi v626 v628
  let v630 : BitVec 1 := Scalar.cmpi .ne v624 v629
  let v631 : BitVec 32 := Scalar.remsi v436 c16_i32_309
  let c0_i32_314 : BitVec 32 := 0#32
  let v632 : BitVec 1 := Scalar.cmpi .ne v631 c0_i32_314
  let v633 : BitVec 1 := Scalar.andi v630 v632
  let v619 : BitVec 32 := Scalar.divsi v436 c16_i32_309
  let c1_i32_315 : BitVec 32 := 1#32
  let v634 : BitVec 32 := Scalar.subi v619 c1_i32_315
  let v635 : BitVec 32 := Scalar.select v633 v634 v619
  let c16_i32_302 : BitVec 32 := 16#32
  let c0_i32_303 : BitVec 32 := 0#32
  let v608 : BitVec 1 := Scalar.cmpi .eq c16_i32_302 c0_i32_303
  let c1_i32_304 : BitVec 32 := 1#32
  let v609 : BitVec 32 := Scalar.select v608 c1_i32_304 c16_i32_302
  let v610 : BitVec 32 := Scalar.remsi v436 v609
  let c0_i32_306 : BitVec 32 := 0#32
  let v612 : BitVec 1 := Scalar.cmpi .slt v610 c0_i32_306
  let c0_i32_307 : BitVec 32 := 0#32
  let v613 : BitVec 1 := Scalar.cmpi .slt v609 c0_i32_307
  let v614 : BitVec 1 := Scalar.xori v612 v613
  let c0_i32_305 : BitVec 32 := 0#32
  let v611 : BitVec 1 := Scalar.cmpi .ne v610 c0_i32_305
  let v615 : BitVec 1 := Scalar.andi v614 v611
  let v616 : BitVec 32 := Scalar.addi v610 v609
  let v617 : BitVec 32 := Scalar.select v615 v616 v610
  let c512_i32_308 : BitVec 32 := 512#32
  let v618 : BitVec 32 := Scalar.muli v617 c512_i32_308
  let c5_i32_316 : BitVec 32 := 5#32
  let c0_i32_317 : BitVec 32 := 0#32
  ![v635.toNat, v618.toNat, 5, 0]
def k0_off64 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_318 : BitVec 32 := 0#32
  let c640_i32_319 : BitVec 32 := 640#32
  ![v437.toNat, 0, 640]
def k0_off65 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_328 : BitVec 32 := 0#32
  let v654 : BitVec 1 := Scalar.cmpi .sgt v436 c0_i32_328
  let v655 : BitVec 32 := Scalar.extui v654
  let c0_i32_329 : BitVec 32 := 0#32
  let v656 : BitVec 1 := Scalar.cmpi .slt v436 c0_i32_329
  let v657 : BitVec 32 := Scalar.extui v656
  let v658 : BitVec 32 := Scalar.subi v655 v657
  let c16_i32_327 : BitVec 32 := 16#32
  let c0_i32_330 : BitVec 32 := 0#32
  let v659 : BitVec 1 := Scalar.cmpi .sgt c16_i32_327 c0_i32_330
  let v660 : BitVec 32 := Scalar.extui v659
  let c0_i32_331 : BitVec 32 := 0#32
  let v661 : BitVec 1 := Scalar.cmpi .slt c16_i32_327 c0_i32_331
  let v662 : BitVec 32 := Scalar.extui v661
  let v663 : BitVec 32 := Scalar.subi v660 v662
  let v664 : BitVec 1 := Scalar.cmpi .ne v658 v663
  let v665 : BitVec 32 := Scalar.remsi v436 c16_i32_327
  let c0_i32_332 : BitVec 32 := 0#32
  let v666 : BitVec 1 := Scalar.cmpi .ne v665 c0_i32_332
  let v667 : BitVec 1 := Scalar.andi v664 v666
  let v653 : BitVec 32 := Scalar.divsi v436 c16_i32_327
  let c1_i32_333 : BitVec 32 := 1#32
  let v668 : BitVec 32 := Scalar.subi v653 c1_i32_333
  let v669 : BitVec 32 := Scalar.select v667 v668 v653
  let c16_i32_320 : BitVec 32 := 16#32
  let c0_i32_321 : BitVec 32 := 0#32
  let v642 : BitVec 1 := Scalar.cmpi .eq c16_i32_320 c0_i32_321
  let c1_i32_322 : BitVec 32 := 1#32
  let v643 : BitVec 32 := Scalar.select v642 c1_i32_322 c16_i32_320
  let v644 : BitVec 32 := Scalar.remsi v436 v643
  let c0_i32_324 : BitVec 32 := 0#32
  let v646 : BitVec 1 := Scalar.cmpi .slt v644 c0_i32_324
  let c0_i32_325 : BitVec 32 := 0#32
  let v647 : BitVec 1 := Scalar.cmpi .slt v643 c0_i32_325
  let v648 : BitVec 1 := Scalar.xori v646 v647
  let c0_i32_323 : BitVec 32 := 0#32
  let v645 : BitVec 1 := Scalar.cmpi .ne v644 c0_i32_323
  let v649 : BitVec 1 := Scalar.andi v648 v645
  let v650 : BitVec 32 := Scalar.addi v644 v643
  let v651 : BitVec 32 := Scalar.select v649 v650 v644
  let c512_i32_326 : BitVec 32 := 512#32
  let v652 : BitVec 32 := Scalar.muli v651 c512_i32_326
  let c6_i32_334 : BitVec 32 := 6#32
  let c0_i32_335 : BitVec 32 := 0#32
  ![v669.toNat, v652.toNat, 6, 0]
def k0_off66 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_336 : BitVec 32 := 0#32
  let c768_i32_337 : BitVec 32 := 768#32
  ![v437.toNat, 0, 768]
def k0_off67 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_346 : BitVec 32 := 0#32
  let v688 : BitVec 1 := Scalar.cmpi .sgt v436 c0_i32_346
  let v689 : BitVec 32 := Scalar.extui v688
  let c0_i32_347 : BitVec 32 := 0#32
  let v690 : BitVec 1 := Scalar.cmpi .slt v436 c0_i32_347
  let v691 : BitVec 32 := Scalar.extui v690
  let v692 : BitVec 32 := Scalar.subi v689 v691
  let c16_i32_345 : BitVec 32 := 16#32
  let c0_i32_348 : BitVec 32 := 0#32
  let v693 : BitVec 1 := Scalar.cmpi .sgt c16_i32_345 c0_i32_348
  let v694 : BitVec 32 := Scalar.extui v693
  let c0_i32_349 : BitVec 32 := 0#32
  let v695 : BitVec 1 := Scalar.cmpi .slt c16_i32_345 c0_i32_349
  let v696 : BitVec 32 := Scalar.extui v695
  let v697 : BitVec 32 := Scalar.subi v694 v696
  let v698 : BitVec 1 := Scalar.cmpi .ne v692 v697
  let v699 : BitVec 32 := Scalar.remsi v436 c16_i32_345
  let c0_i32_350 : BitVec 32 := 0#32
  let v700 : BitVec 1 := Scalar.cmpi .ne v699 c0_i32_350
  let v701 : BitVec 1 := Scalar.andi v698 v700
  let v687 : BitVec 32 := Scalar.divsi v436 c16_i32_345
  let c1_i32_351 : BitVec 32 := 1#32
  let v702 : BitVec 32 := Scalar.subi v687 c1_i32_351
  let v703 : BitVec 32 := Scalar.select v701 v702 v687
  let c16_i32_338 : BitVec 32 := 16#32
  let c0_i32_339 : BitVec 32 := 0#32
  let v676 : BitVec 1 := Scalar.cmpi .eq c16_i32_338 c0_i32_339
  let c1_i32_340 : BitVec 32 := 1#32
  let v677 : BitVec 32 := Scalar.select v676 c1_i32_340 c16_i32_338
  let v678 : BitVec 32 := Scalar.remsi v436 v677
  let c0_i32_342 : BitVec 32 := 0#32
  let v680 : BitVec 1 := Scalar.cmpi .slt v678 c0_i32_342
  let c0_i32_343 : BitVec 32 := 0#32
  let v681 : BitVec 1 := Scalar.cmpi .slt v677 c0_i32_343
  let v682 : BitVec 1 := Scalar.xori v680 v681
  let c0_i32_341 : BitVec 32 := 0#32
  let v679 : BitVec 1 := Scalar.cmpi .ne v678 c0_i32_341
  let v683 : BitVec 1 := Scalar.andi v682 v679
  let v684 : BitVec 32 := Scalar.addi v678 v677
  let v685 : BitVec 32 := Scalar.select v683 v684 v678
  let c512_i32_344 : BitVec 32 := 512#32
  let v686 : BitVec 32 := Scalar.muli v685 c512_i32_344
  let c7_i32_352 : BitVec 32 := 7#32
  let c0_i32_353 : BitVec 32 := 0#32
  ![v703.toNat, v686.toNat, 7, 0]
def k0_off68 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_354 : BitVec 32 := 0#32
  let c896_i32_355 : BitVec 32 := 896#32
  ![v437.toNat, 0, 896]
def k0_off69 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_364 : BitVec 32 := 0#32
  let v722 : BitVec 1 := Scalar.cmpi .sgt v436 c0_i32_364
  let v723 : BitVec 32 := Scalar.extui v722
  let c0_i32_365 : BitVec 32 := 0#32
  let v724 : BitVec 1 := Scalar.cmpi .slt v436 c0_i32_365
  let v725 : BitVec 32 := Scalar.extui v724
  let v726 : BitVec 32 := Scalar.subi v723 v725
  let c16_i32_363 : BitVec 32 := 16#32
  let c0_i32_366 : BitVec 32 := 0#32
  let v727 : BitVec 1 := Scalar.cmpi .sgt c16_i32_363 c0_i32_366
  let v728 : BitVec 32 := Scalar.extui v727
  let c0_i32_367 : BitVec 32 := 0#32
  let v729 : BitVec 1 := Scalar.cmpi .slt c16_i32_363 c0_i32_367
  let v730 : BitVec 32 := Scalar.extui v729
  let v731 : BitVec 32 := Scalar.subi v728 v730
  let v732 : BitVec 1 := Scalar.cmpi .ne v726 v731
  let v733 : BitVec 32 := Scalar.remsi v436 c16_i32_363
  let c0_i32_368 : BitVec 32 := 0#32
  let v734 : BitVec 1 := Scalar.cmpi .ne v733 c0_i32_368
  let v735 : BitVec 1 := Scalar.andi v732 v734
  let v721 : BitVec 32 := Scalar.divsi v436 c16_i32_363
  let c1_i32_369 : BitVec 32 := 1#32
  let v736 : BitVec 32 := Scalar.subi v721 c1_i32_369
  let v737 : BitVec 32 := Scalar.select v735 v736 v721
  let c16_i32_356 : BitVec 32 := 16#32
  let c0_i32_357 : BitVec 32 := 0#32
  let v710 : BitVec 1 := Scalar.cmpi .eq c16_i32_356 c0_i32_357
  let c1_i32_358 : BitVec 32 := 1#32
  let v711 : BitVec 32 := Scalar.select v710 c1_i32_358 c16_i32_356
  let v712 : BitVec 32 := Scalar.remsi v436 v711
  let c0_i32_360 : BitVec 32 := 0#32
  let v714 : BitVec 1 := Scalar.cmpi .slt v712 c0_i32_360
  let c0_i32_361 : BitVec 32 := 0#32
  let v715 : BitVec 1 := Scalar.cmpi .slt v711 c0_i32_361
  let v716 : BitVec 1 := Scalar.xori v714 v715
  let c0_i32_359 : BitVec 32 := 0#32
  let v713 : BitVec 1 := Scalar.cmpi .ne v712 c0_i32_359
  let v717 : BitVec 1 := Scalar.andi v716 v713
  let v718 : BitVec 32 := Scalar.addi v712 v711
  let v719 : BitVec 32 := Scalar.select v717 v718 v712
  let c512_i32_362 : BitVec 32 := 512#32
  let v720 : BitVec 32 := Scalar.muli v719 c512_i32_362
  let c8_i32_370 : BitVec 32 := 8#32
  let c0_i32_371 : BitVec 32 := 0#32
  ![v737.toNat, v720.toNat, 8, 0]
def k0_off70 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_372 : BitVec 32 := 0#32
  let c1024_i32_373 : BitVec 32 := 1024#32
  ![v437.toNat, 0, 1024]
def k0_off71 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_382 : BitVec 32 := 0#32
  let v756 : BitVec 1 := Scalar.cmpi .sgt v436 c0_i32_382
  let v757 : BitVec 32 := Scalar.extui v756
  let c0_i32_383 : BitVec 32 := 0#32
  let v758 : BitVec 1 := Scalar.cmpi .slt v436 c0_i32_383
  let v759 : BitVec 32 := Scalar.extui v758
  let v760 : BitVec 32 := Scalar.subi v757 v759
  let c16_i32_381 : BitVec 32 := 16#32
  let c0_i32_384 : BitVec 32 := 0#32
  let v761 : BitVec 1 := Scalar.cmpi .sgt c16_i32_381 c0_i32_384
  let v762 : BitVec 32 := Scalar.extui v761
  let c0_i32_385 : BitVec 32 := 0#32
  let v763 : BitVec 1 := Scalar.cmpi .slt c16_i32_381 c0_i32_385
  let v764 : BitVec 32 := Scalar.extui v763
  let v765 : BitVec 32 := Scalar.subi v762 v764
  let v766 : BitVec 1 := Scalar.cmpi .ne v760 v765
  let v767 : BitVec 32 := Scalar.remsi v436 c16_i32_381
  let c0_i32_386 : BitVec 32 := 0#32
  let v768 : BitVec 1 := Scalar.cmpi .ne v767 c0_i32_386
  let v769 : BitVec 1 := Scalar.andi v766 v768
  let v755 : BitVec 32 := Scalar.divsi v436 c16_i32_381
  let c1_i32_387 : BitVec 32 := 1#32
  let v770 : BitVec 32 := Scalar.subi v755 c1_i32_387
  let v771 : BitVec 32 := Scalar.select v769 v770 v755
  let c16_i32_374 : BitVec 32 := 16#32
  let c0_i32_375 : BitVec 32 := 0#32
  let v744 : BitVec 1 := Scalar.cmpi .eq c16_i32_374 c0_i32_375
  let c1_i32_376 : BitVec 32 := 1#32
  let v745 : BitVec 32 := Scalar.select v744 c1_i32_376 c16_i32_374
  let v746 : BitVec 32 := Scalar.remsi v436 v745
  let c0_i32_378 : BitVec 32 := 0#32
  let v748 : BitVec 1 := Scalar.cmpi .slt v746 c0_i32_378
  let c0_i32_379 : BitVec 32 := 0#32
  let v749 : BitVec 1 := Scalar.cmpi .slt v745 c0_i32_379
  let v750 : BitVec 1 := Scalar.xori v748 v749
  let c0_i32_377 : BitVec 32 := 0#32
  let v747 : BitVec 1 := Scalar.cmpi .ne v746 c0_i32_377
  let v751 : BitVec 1 := Scalar.andi v750 v747
  let v752 : BitVec 32 := Scalar.addi v746 v745
  let v753 : BitVec 32 := Scalar.select v751 v752 v746
  let c512_i32_380 : BitVec 32 := 512#32
  let v754 : BitVec 32 := Scalar.muli v753 c512_i32_380
  let c9_i32_388 : BitVec 32 := 9#32
  let c0_i32_389 : BitVec 32 := 0#32
  ![v771.toNat, v754.toNat, 9, 0]
def k0_off72 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_390 : BitVec 32 := 0#32
  let c1152_i32_391 : BitVec 32 := 1152#32
  ![v437.toNat, 0, 1152]
def k0_off73 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_400 : BitVec 32 := 0#32
  let v790 : BitVec 1 := Scalar.cmpi .sgt v436 c0_i32_400
  let v791 : BitVec 32 := Scalar.extui v790
  let c0_i32_401 : BitVec 32 := 0#32
  let v792 : BitVec 1 := Scalar.cmpi .slt v436 c0_i32_401
  let v793 : BitVec 32 := Scalar.extui v792
  let v794 : BitVec 32 := Scalar.subi v791 v793
  let c16_i32_399 : BitVec 32 := 16#32
  let c0_i32_402 : BitVec 32 := 0#32
  let v795 : BitVec 1 := Scalar.cmpi .sgt c16_i32_399 c0_i32_402
  let v796 : BitVec 32 := Scalar.extui v795
  let c0_i32_403 : BitVec 32 := 0#32
  let v797 : BitVec 1 := Scalar.cmpi .slt c16_i32_399 c0_i32_403
  let v798 : BitVec 32 := Scalar.extui v797
  let v799 : BitVec 32 := Scalar.subi v796 v798
  let v800 : BitVec 1 := Scalar.cmpi .ne v794 v799
  let v801 : BitVec 32 := Scalar.remsi v436 c16_i32_399
  let c0_i32_404 : BitVec 32 := 0#32
  let v802 : BitVec 1 := Scalar.cmpi .ne v801 c0_i32_404
  let v803 : BitVec 1 := Scalar.andi v800 v802
  let v789 : BitVec 32 := Scalar.divsi v436 c16_i32_399
  let c1_i32_405 : BitVec 32 := 1#32
  let v804 : BitVec 32 := Scalar.subi v789 c1_i32_405
  let v805 : BitVec 32 := Scalar.select v803 v804 v789
  let c16_i32_392 : BitVec 32 := 16#32
  let c0_i32_393 : BitVec 32 := 0#32
  let v778 : BitVec 1 := Scalar.cmpi .eq c16_i32_392 c0_i32_393
  let c1_i32_394 : BitVec 32 := 1#32
  let v779 : BitVec 32 := Scalar.select v778 c1_i32_394 c16_i32_392
  let v780 : BitVec 32 := Scalar.remsi v436 v779
  let c0_i32_396 : BitVec 32 := 0#32
  let v782 : BitVec 1 := Scalar.cmpi .slt v780 c0_i32_396
  let c0_i32_397 : BitVec 32 := 0#32
  let v783 : BitVec 1 := Scalar.cmpi .slt v779 c0_i32_397
  let v784 : BitVec 1 := Scalar.xori v782 v783
  let c0_i32_395 : BitVec 32 := 0#32
  let v781 : BitVec 1 := Scalar.cmpi .ne v780 c0_i32_395
  let v785 : BitVec 1 := Scalar.andi v784 v781
  let v786 : BitVec 32 := Scalar.addi v780 v779
  let v787 : BitVec 32 := Scalar.select v785 v786 v780
  let c512_i32_398 : BitVec 32 := 512#32
  let v788 : BitVec 32 := Scalar.muli v787 c512_i32_398
  let c10_i32_406 : BitVec 32 := 10#32
  let c0_i32_407 : BitVec 32 := 0#32
  ![v805.toNat, v788.toNat, 10, 0]
def k0_off74 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_408 : BitVec 32 := 0#32
  let c1280_i32_409 : BitVec 32 := 1280#32
  ![v437.toNat, 0, 1280]
def k0_off75 (i : grid0.Coords) : Fin 4 → Nat :=
  let arg0 : BitVec 32 := BitVec.ofNat 32 (i 0).val
  let c1_i32_210 : BitVec 32 := 1#32
  let v436 : BitVec 32 := Scalar.subi arg0 c1_i32_210
  let c0_i32_418 : BitVec 32 := 0#32
  let v824 : BitVec 1 := Scalar.cmpi .sgt v436 c0_i32_418
  let v825 : BitVec 32 := Scalar.extui v824
  let c0_i32_419 : BitVec 32 := 0#32
  let v826 : BitVec 1 := Scalar.cmpi .slt v436 c0_i32_419
  let v827 : BitVec 32 := Scalar.extui v826
  let v828 : BitVec 32 := Scalar.subi v825 v827
  let c16_i32_417 : BitVec 32 := 16#32
  let c0_i32_420 : BitVec 32 := 0#32
  let v829 : BitVec 1 := Scalar.cmpi .sgt c16_i32_417 c0_i32_420
  let v830 : BitVec 32 := Scalar.extui v829
  let c0_i32_421 : BitVec 32 := 0#32
  let v831 : BitVec 1 := Scalar.cmpi .slt c16_i32_417 c0_i32_421
  let v832 : BitVec 32 := Scalar.extui v831
  let v833 : BitVec 32 := Scalar.subi v830 v832
  let v834 : BitVec 1 := Scalar.cmpi .ne v828 v833
  let v835 : BitVec 32 := Scalar.remsi v436 c16_i32_417
  let c0_i32_422 : BitVec 32 := 0#32
  let v836 : BitVec 1 := Scalar.cmpi .ne v835 c0_i32_422
  let v837 : BitVec 1 := Scalar.andi v834 v836
  let v823 : BitVec 32 := Scalar.divsi v436 c16_i32_417
  let c1_i32_423 : BitVec 32 := 1#32
  let v838 : BitVec 32 := Scalar.subi v823 c1_i32_423
  let v839 : BitVec 32 := Scalar.select v837 v838 v823
  let c16_i32_410 : BitVec 32 := 16#32
  let c0_i32_411 : BitVec 32 := 0#32
  let v812 : BitVec 1 := Scalar.cmpi .eq c16_i32_410 c0_i32_411
  let c1_i32_412 : BitVec 32 := 1#32
  let v813 : BitVec 32 := Scalar.select v812 c1_i32_412 c16_i32_410
  let v814 : BitVec 32 := Scalar.remsi v436 v813
  let c0_i32_414 : BitVec 32 := 0#32
  let v816 : BitVec 1 := Scalar.cmpi .slt v814 c0_i32_414
  let c0_i32_415 : BitVec 32 := 0#32
  let v817 : BitVec 1 := Scalar.cmpi .slt v813 c0_i32_415
  let v818 : BitVec 1 := Scalar.xori v816 v817
  let c0_i32_413 : BitVec 32 := 0#32
  let v815 : BitVec 1 := Scalar.cmpi .ne v814 c0_i32_413
  let v819 : BitVec 1 := Scalar.andi v818 v815
  let v820 : BitVec 32 := Scalar.addi v814 v813
  let v821 : BitVec 32 := Scalar.select v819 v820 v814
  let c512_i32_416 : BitVec 32 := 512#32
  let v822 : BitVec 32 := Scalar.muli v821 c512_i32_416
  let c11_i32_424 : BitVec 32 := 11#32
  let c0_i32_425 : BitVec 32 := 0#32
  ![v839.toNat, v822.toNat, 11, 0]
def k0_off76 (i : grid0.Coords) : Fin 3 → Nat :=
  let c1_i32_211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v437 : BitVec 32 := Scalar.subi c1_i32_211 v9
  let c0_i32_426 : BitVec 32 := 0#32
  let c1408_i32_427 : BitVec 32 := 1408#32
  ![v437.toNat, 0, 1408]
def k0_off77 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off78 (i : grid0.Coords) : Fin 4 → Nat :=
  let arg0 : BitVec 32 := BitVec.ofNat 32 (i 0).val
  let c0_i32_436 : BitVec 32 := 0#32
  let v858 : BitVec 1 := Scalar.cmpi .sgt arg0 c0_i32_436
  let v859 : BitVec 32 := Scalar.extui v858
  let c0_i32_437 : BitVec 32 := 0#32
  let v860 : BitVec 1 := Scalar.cmpi .slt arg0 c0_i32_437
  let v861 : BitVec 32 := Scalar.extui v860
  let v862 : BitVec 32 := Scalar.subi v859 v861
  let c16_i32_435 : BitVec 32 := 16#32
  let c0_i32_438 : BitVec 32 := 0#32
  let v863 : BitVec 1 := Scalar.cmpi .sgt c16_i32_435 c0_i32_438
  let v864 : BitVec 32 := Scalar.extui v863
  let c0_i32_439 : BitVec 32 := 0#32
  let v865 : BitVec 1 := Scalar.cmpi .slt c16_i32_435 c0_i32_439
  let v866 : BitVec 32 := Scalar.extui v865
  let v867 : BitVec 32 := Scalar.subi v864 v866
  let v868 : BitVec 1 := Scalar.cmpi .ne v862 v867
  let v869 : BitVec 32 := Scalar.remsi arg0 c16_i32_435
  let c0_i32_440 : BitVec 32 := 0#32
  let v870 : BitVec 1 := Scalar.cmpi .ne v869 c0_i32_440
  let v871 : BitVec 1 := Scalar.andi v868 v870
  let v857 : BitVec 32 := Scalar.divsi arg0 c16_i32_435
  let c1_i32_441 : BitVec 32 := 1#32
  let v872 : BitVec 32 := Scalar.subi v857 c1_i32_441
  let v873 : BitVec 32 := Scalar.select v871 v872 v857
  let c16_i32_428 : BitVec 32 := 16#32
  let c0_i32_429 : BitVec 32 := 0#32
  let v846 : BitVec 1 := Scalar.cmpi .eq c16_i32_428 c0_i32_429
  let c1_i32_430 : BitVec 32 := 1#32
  let v847 : BitVec 32 := Scalar.select v846 c1_i32_430 c16_i32_428
  let v848 : BitVec 32 := Scalar.remsi arg0 v847
  let c0_i32_432 : BitVec 32 := 0#32
  let v850 : BitVec 1 := Scalar.cmpi .slt v848 c0_i32_432
  let c0_i32_433 : BitVec 32 := 0#32
  let v851 : BitVec 1 := Scalar.cmpi .slt v847 c0_i32_433
  let v852 : BitVec 1 := Scalar.xori v850 v851
  let c0_i32_431 : BitVec 32 := 0#32
  let v849 : BitVec 1 := Scalar.cmpi .ne v848 c0_i32_431
  let v853 : BitVec 1 := Scalar.andi v852 v849
  let v854 : BitVec 32 := Scalar.addi v848 v847
  let v855 : BitVec 32 := Scalar.select v853 v854 v848
  let c512_i32_434 : BitVec 32 := 512#32
  let v856 : BitVec 32 := Scalar.muli v855 c512_i32_434
  let c0_i32_442 : BitVec 32 := 0#32
  let c0_i32_443 : BitVec 32 := 0#32
  ![v873.toNat, v856.toNat, 0, 0]
def k0_off79 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_444 : BitVec 32 := 0#32
  let c0_i32_445 : BitVec 32 := 0#32
  ![v9.toNat, 0, 0]
def k0_off80 (i : grid0.Coords) : Fin 4 → Nat :=
  let arg0 : BitVec 32 := BitVec.ofNat 32 (i 0).val
  let c0_i32_454 : BitVec 32 := 0#32
  let v892 : BitVec 1 := Scalar.cmpi .sgt arg0 c0_i32_454
  let v893 : BitVec 32 := Scalar.extui v892
  let c0_i32_455 : BitVec 32 := 0#32
  let v894 : BitVec 1 := Scalar.cmpi .slt arg0 c0_i32_455
  let v895 : BitVec 32 := Scalar.extui v894
  let v896 : BitVec 32 := Scalar.subi v893 v895
  let c16_i32_453 : BitVec 32 := 16#32
  let c0_i32_456 : BitVec 32 := 0#32
  let v897 : BitVec 1 := Scalar.cmpi .sgt c16_i32_453 c0_i32_456
  let v898 : BitVec 32 := Scalar.extui v897
  let c0_i32_457 : BitVec 32 := 0#32
  let v899 : BitVec 1 := Scalar.cmpi .slt c16_i32_453 c0_i32_457
  let v900 : BitVec 32 := Scalar.extui v899
  let v901 : BitVec 32 := Scalar.subi v898 v900
  let v902 : BitVec 1 := Scalar.cmpi .ne v896 v901
  let v903 : BitVec 32 := Scalar.remsi arg0 c16_i32_453
  let c0_i32_458 : BitVec 32 := 0#32
  let v904 : BitVec 1 := Scalar.cmpi .ne v903 c0_i32_458
  let v905 : BitVec 1 := Scalar.andi v902 v904
  let v891 : BitVec 32 := Scalar.divsi arg0 c16_i32_453
  let c1_i32_459 : BitVec 32 := 1#32
  let v906 : BitVec 32 := Scalar.subi v891 c1_i32_459
  let v907 : BitVec 32 := Scalar.select v905 v906 v891
  let c16_i32_446 : BitVec 32 := 16#32
  let c0_i32_447 : BitVec 32 := 0#32
  let v880 : BitVec 1 := Scalar.cmpi .eq c16_i32_446 c0_i32_447
  let c1_i32_448 : BitVec 32 := 1#32
  let v881 : BitVec 32 := Scalar.select v880 c1_i32_448 c16_i32_446
  let v882 : BitVec 32 := Scalar.remsi arg0 v881
  let c0_i32_450 : BitVec 32 := 0#32
  let v884 : BitVec 1 := Scalar.cmpi .slt v882 c0_i32_450
  let c0_i32_451 : BitVec 32 := 0#32
  let v885 : BitVec 1 := Scalar.cmpi .slt v881 c0_i32_451
  let v886 : BitVec 1 := Scalar.xori v884 v885
  let c0_i32_449 : BitVec 32 := 0#32
  let v883 : BitVec 1 := Scalar.cmpi .ne v882 c0_i32_449
  let v887 : BitVec 1 := Scalar.andi v886 v883
  let v888 : BitVec 32 := Scalar.addi v882 v881
  let v889 : BitVec 32 := Scalar.select v887 v888 v882
  let c512_i32_452 : BitVec 32 := 512#32
  let v890 : BitVec 32 := Scalar.muli v889 c512_i32_452
  let c1_i32_460 : BitVec 32 := 1#32
  let c0_i32_461 : BitVec 32 := 0#32
  ![v907.toNat, v890.toNat, 1, 0]
def k0_off81 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_462 : BitVec 32 := 0#32
  let c128_i32_463 : BitVec 32 := 128#32
  ![v9.toNat, 0, 128]
def k0_off82 (i : grid0.Coords) : Fin 4 → Nat :=
  let arg0 : BitVec 32 := BitVec.ofNat 32 (i 0).val
  let c0_i32_472 : BitVec 32 := 0#32
  let v926 : BitVec 1 := Scalar.cmpi .sgt arg0 c0_i32_472
  let v927 : BitVec 32 := Scalar.extui v926
  let c0_i32_473 : BitVec 32 := 0#32
  let v928 : BitVec 1 := Scalar.cmpi .slt arg0 c0_i32_473
  let v929 : BitVec 32 := Scalar.extui v928
  let v930 : BitVec 32 := Scalar.subi v927 v929
  let c16_i32_471 : BitVec 32 := 16#32
  let c0_i32_474 : BitVec 32 := 0#32
  let v931 : BitVec 1 := Scalar.cmpi .sgt c16_i32_471 c0_i32_474
  let v932 : BitVec 32 := Scalar.extui v931
  let c0_i32_475 : BitVec 32 := 0#32
  let v933 : BitVec 1 := Scalar.cmpi .slt c16_i32_471 c0_i32_475
  let v934 : BitVec 32 := Scalar.extui v933
  let v935 : BitVec 32 := Scalar.subi v932 v934
  let v936 : BitVec 1 := Scalar.cmpi .ne v930 v935
  let v937 : BitVec 32 := Scalar.remsi arg0 c16_i32_471
  let c0_i32_476 : BitVec 32 := 0#32
  let v938 : BitVec 1 := Scalar.cmpi .ne v937 c0_i32_476
  let v939 : BitVec 1 := Scalar.andi v936 v938
  let v925 : BitVec 32 := Scalar.divsi arg0 c16_i32_471
  let c1_i32_477 : BitVec 32 := 1#32
  let v940 : BitVec 32 := Scalar.subi v925 c1_i32_477
  let v941 : BitVec 32 := Scalar.select v939 v940 v925
  let c16_i32_464 : BitVec 32 := 16#32
  let c0_i32_465 : BitVec 32 := 0#32
  let v914 : BitVec 1 := Scalar.cmpi .eq c16_i32_464 c0_i32_465
  let c1_i32_466 : BitVec 32 := 1#32
  let v915 : BitVec 32 := Scalar.select v914 c1_i32_466 c16_i32_464
  let v916 : BitVec 32 := Scalar.remsi arg0 v915
  let c0_i32_468 : BitVec 32 := 0#32
  let v918 : BitVec 1 := Scalar.cmpi .slt v916 c0_i32_468
  let c0_i32_469 : BitVec 32 := 0#32
  let v919 : BitVec 1 := Scalar.cmpi .slt v915 c0_i32_469
  let v920 : BitVec 1 := Scalar.xori v918 v919
  let c0_i32_467 : BitVec 32 := 0#32
  let v917 : BitVec 1 := Scalar.cmpi .ne v916 c0_i32_467
  let v921 : BitVec 1 := Scalar.andi v920 v917
  let v922 : BitVec 32 := Scalar.addi v916 v915
  let v923 : BitVec 32 := Scalar.select v921 v922 v916
  let c512_i32_470 : BitVec 32 := 512#32
  let v924 : BitVec 32 := Scalar.muli v923 c512_i32_470
  let c2_i32_478 : BitVec 32 := 2#32
  let c0_i32_479 : BitVec 32 := 0#32
  ![v941.toNat, v924.toNat, 2, 0]
def k0_off83 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_480 : BitVec 32 := 0#32
  let c256_i32_481 : BitVec 32 := 256#32
  ![v9.toNat, 0, 256]
def k0_off84 (i : grid0.Coords) : Fin 4 → Nat :=
  let arg0 : BitVec 32 := BitVec.ofNat 32 (i 0).val
  let c0_i32_490 : BitVec 32 := 0#32
  let v960 : BitVec 1 := Scalar.cmpi .sgt arg0 c0_i32_490
  let v961 : BitVec 32 := Scalar.extui v960
  let c0_i32_491 : BitVec 32 := 0#32
  let v962 : BitVec 1 := Scalar.cmpi .slt arg0 c0_i32_491
  let v963 : BitVec 32 := Scalar.extui v962
  let v964 : BitVec 32 := Scalar.subi v961 v963
  let c16_i32_489 : BitVec 32 := 16#32
  let c0_i32_492 : BitVec 32 := 0#32
  let v965 : BitVec 1 := Scalar.cmpi .sgt c16_i32_489 c0_i32_492
  let v966 : BitVec 32 := Scalar.extui v965
  let c0_i32_493 : BitVec 32 := 0#32
  let v967 : BitVec 1 := Scalar.cmpi .slt c16_i32_489 c0_i32_493
  let v968 : BitVec 32 := Scalar.extui v967
  let v969 : BitVec 32 := Scalar.subi v966 v968
  let v970 : BitVec 1 := Scalar.cmpi .ne v964 v969
  let v971 : BitVec 32 := Scalar.remsi arg0 c16_i32_489
  let c0_i32_494 : BitVec 32 := 0#32
  let v972 : BitVec 1 := Scalar.cmpi .ne v971 c0_i32_494
  let v973 : BitVec 1 := Scalar.andi v970 v972
  let v959 : BitVec 32 := Scalar.divsi arg0 c16_i32_489
  let c1_i32_495 : BitVec 32 := 1#32
  let v974 : BitVec 32 := Scalar.subi v959 c1_i32_495
  let v975 : BitVec 32 := Scalar.select v973 v974 v959
  let c16_i32_482 : BitVec 32 := 16#32
  let c0_i32_483 : BitVec 32 := 0#32
  let v948 : BitVec 1 := Scalar.cmpi .eq c16_i32_482 c0_i32_483
  let c1_i32_484 : BitVec 32 := 1#32
  let v949 : BitVec 32 := Scalar.select v948 c1_i32_484 c16_i32_482
  let v950 : BitVec 32 := Scalar.remsi arg0 v949
  let c0_i32_486 : BitVec 32 := 0#32
  let v952 : BitVec 1 := Scalar.cmpi .slt v950 c0_i32_486
  let c0_i32_487 : BitVec 32 := 0#32
  let v953 : BitVec 1 := Scalar.cmpi .slt v949 c0_i32_487
  let v954 : BitVec 1 := Scalar.xori v952 v953
  let c0_i32_485 : BitVec 32 := 0#32
  let v951 : BitVec 1 := Scalar.cmpi .ne v950 c0_i32_485
  let v955 : BitVec 1 := Scalar.andi v954 v951
  let v956 : BitVec 32 := Scalar.addi v950 v949
  let v957 : BitVec 32 := Scalar.select v955 v956 v950
  let c512_i32_488 : BitVec 32 := 512#32
  let v958 : BitVec 32 := Scalar.muli v957 c512_i32_488
  let c3_i32_496 : BitVec 32 := 3#32
  let c0_i32_497 : BitVec 32 := 0#32
  ![v975.toNat, v958.toNat, 3, 0]
def k0_off85 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_498 : BitVec 32 := 0#32
  let c384_i32_499 : BitVec 32 := 384#32
  ![v9.toNat, 0, 384]
def k0_off86 (i : grid0.Coords) : Fin 4 → Nat :=
  let arg0 : BitVec 32 := BitVec.ofNat 32 (i 0).val
  let c0_i32_508 : BitVec 32 := 0#32
  let v994 : BitVec 1 := Scalar.cmpi .sgt arg0 c0_i32_508
  let v995 : BitVec 32 := Scalar.extui v994
  let c0_i32_509 : BitVec 32 := 0#32
  let v996 : BitVec 1 := Scalar.cmpi .slt arg0 c0_i32_509
  let v997 : BitVec 32 := Scalar.extui v996
  let v998 : BitVec 32 := Scalar.subi v995 v997
  let c16_i32_507 : BitVec 32 := 16#32
  let c0_i32_510 : BitVec 32 := 0#32
  let v999 : BitVec 1 := Scalar.cmpi .sgt c16_i32_507 c0_i32_510
  let v1000 : BitVec 32 := Scalar.extui v999
  let c0_i32_511 : BitVec 32 := 0#32
  let v1001 : BitVec 1 := Scalar.cmpi .slt c16_i32_507 c0_i32_511
  let v1002 : BitVec 32 := Scalar.extui v1001
  let v1003 : BitVec 32 := Scalar.subi v1000 v1002
  let v1004 : BitVec 1 := Scalar.cmpi .ne v998 v1003
  let v1005 : BitVec 32 := Scalar.remsi arg0 c16_i32_507
  let c0_i32_512 : BitVec 32 := 0#32
  let v1006 : BitVec 1 := Scalar.cmpi .ne v1005 c0_i32_512
  let v1007 : BitVec 1 := Scalar.andi v1004 v1006
  let v993 : BitVec 32 := Scalar.divsi arg0 c16_i32_507
  let c1_i32_513 : BitVec 32 := 1#32
  let v1008 : BitVec 32 := Scalar.subi v993 c1_i32_513
  let v1009 : BitVec 32 := Scalar.select v1007 v1008 v993
  let c16_i32_500 : BitVec 32 := 16#32
  let c0_i32_501 : BitVec 32 := 0#32
  let v982 : BitVec 1 := Scalar.cmpi .eq c16_i32_500 c0_i32_501
  let c1_i32_502 : BitVec 32 := 1#32
  let v983 : BitVec 32 := Scalar.select v982 c1_i32_502 c16_i32_500
  let v984 : BitVec 32 := Scalar.remsi arg0 v983
  let c0_i32_504 : BitVec 32 := 0#32
  let v986 : BitVec 1 := Scalar.cmpi .slt v984 c0_i32_504
  let c0_i32_505 : BitVec 32 := 0#32
  let v987 : BitVec 1 := Scalar.cmpi .slt v983 c0_i32_505
  let v988 : BitVec 1 := Scalar.xori v986 v987
  let c0_i32_503 : BitVec 32 := 0#32
  let v985 : BitVec 1 := Scalar.cmpi .ne v984 c0_i32_503
  let v989 : BitVec 1 := Scalar.andi v988 v985
  let v990 : BitVec 32 := Scalar.addi v984 v983
  let v991 : BitVec 32 := Scalar.select v989 v990 v984
  let c512_i32_506 : BitVec 32 := 512#32
  let v992 : BitVec 32 := Scalar.muli v991 c512_i32_506
  let c4_i32_514 : BitVec 32 := 4#32
  let c0_i32_515 : BitVec 32 := 0#32
  ![v1009.toNat, v992.toNat, 4, 0]
def k0_off87 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_516 : BitVec 32 := 0#32
  let c512_i32_517 : BitVec 32 := 512#32
  ![v9.toNat, 0, 512]
def k0_off88 (i : grid0.Coords) : Fin 4 → Nat :=
  let arg0 : BitVec 32 := BitVec.ofNat 32 (i 0).val
  let c0_i32_526 : BitVec 32 := 0#32
  let v1028 : BitVec 1 := Scalar.cmpi .sgt arg0 c0_i32_526
  let v1029 : BitVec 32 := Scalar.extui v1028
  let c0_i32_527 : BitVec 32 := 0#32
  let v1030 : BitVec 1 := Scalar.cmpi .slt arg0 c0_i32_527
  let v1031 : BitVec 32 := Scalar.extui v1030
  let v1032 : BitVec 32 := Scalar.subi v1029 v1031
  let c16_i32_525 : BitVec 32 := 16#32
  let c0_i32_528 : BitVec 32 := 0#32
  let v1033 : BitVec 1 := Scalar.cmpi .sgt c16_i32_525 c0_i32_528
  let v1034 : BitVec 32 := Scalar.extui v1033
  let c0_i32_529 : BitVec 32 := 0#32
  let v1035 : BitVec 1 := Scalar.cmpi .slt c16_i32_525 c0_i32_529
  let v1036 : BitVec 32 := Scalar.extui v1035
  let v1037 : BitVec 32 := Scalar.subi v1034 v1036
  let v1038 : BitVec 1 := Scalar.cmpi .ne v1032 v1037
  let v1039 : BitVec 32 := Scalar.remsi arg0 c16_i32_525
  let c0_i32_530 : BitVec 32 := 0#32
  let v1040 : BitVec 1 := Scalar.cmpi .ne v1039 c0_i32_530
  let v1041 : BitVec 1 := Scalar.andi v1038 v1040
  let v1027 : BitVec 32 := Scalar.divsi arg0 c16_i32_525
  let c1_i32_531 : BitVec 32 := 1#32
  let v1042 : BitVec 32 := Scalar.subi v1027 c1_i32_531
  let v1043 : BitVec 32 := Scalar.select v1041 v1042 v1027
  let c16_i32_518 : BitVec 32 := 16#32
  let c0_i32_519 : BitVec 32 := 0#32
  let v1016 : BitVec 1 := Scalar.cmpi .eq c16_i32_518 c0_i32_519
  let c1_i32_520 : BitVec 32 := 1#32
  let v1017 : BitVec 32 := Scalar.select v1016 c1_i32_520 c16_i32_518
  let v1018 : BitVec 32 := Scalar.remsi arg0 v1017
  let c0_i32_522 : BitVec 32 := 0#32
  let v1020 : BitVec 1 := Scalar.cmpi .slt v1018 c0_i32_522
  let c0_i32_523 : BitVec 32 := 0#32
  let v1021 : BitVec 1 := Scalar.cmpi .slt v1017 c0_i32_523
  let v1022 : BitVec 1 := Scalar.xori v1020 v1021
  let c0_i32_521 : BitVec 32 := 0#32
  let v1019 : BitVec 1 := Scalar.cmpi .ne v1018 c0_i32_521
  let v1023 : BitVec 1 := Scalar.andi v1022 v1019
  let v1024 : BitVec 32 := Scalar.addi v1018 v1017
  let v1025 : BitVec 32 := Scalar.select v1023 v1024 v1018
  let c512_i32_524 : BitVec 32 := 512#32
  let v1026 : BitVec 32 := Scalar.muli v1025 c512_i32_524
  let c5_i32_532 : BitVec 32 := 5#32
  let c0_i32_533 : BitVec 32 := 0#32
  ![v1043.toNat, v1026.toNat, 5, 0]
def k0_off89 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_534 : BitVec 32 := 0#32
  let c640_i32_535 : BitVec 32 := 640#32
  ![v9.toNat, 0, 640]
def k0_off90 (i : grid0.Coords) : Fin 4 → Nat :=
  let arg0 : BitVec 32 := BitVec.ofNat 32 (i 0).val
  let c0_i32_544 : BitVec 32 := 0#32
  let v1062 : BitVec 1 := Scalar.cmpi .sgt arg0 c0_i32_544
  let v1063 : BitVec 32 := Scalar.extui v1062
  let c0_i32_545 : BitVec 32 := 0#32
  let v1064 : BitVec 1 := Scalar.cmpi .slt arg0 c0_i32_545
  let v1065 : BitVec 32 := Scalar.extui v1064
  let v1066 : BitVec 32 := Scalar.subi v1063 v1065
  let c16_i32_543 : BitVec 32 := 16#32
  let c0_i32_546 : BitVec 32 := 0#32
  let v1067 : BitVec 1 := Scalar.cmpi .sgt c16_i32_543 c0_i32_546
  let v1068 : BitVec 32 := Scalar.extui v1067
  let c0_i32_547 : BitVec 32 := 0#32
  let v1069 : BitVec 1 := Scalar.cmpi .slt c16_i32_543 c0_i32_547
  let v1070 : BitVec 32 := Scalar.extui v1069
  let v1071 : BitVec 32 := Scalar.subi v1068 v1070
  let v1072 : BitVec 1 := Scalar.cmpi .ne v1066 v1071
  let v1073 : BitVec 32 := Scalar.remsi arg0 c16_i32_543
  let c0_i32_548 : BitVec 32 := 0#32
  let v1074 : BitVec 1 := Scalar.cmpi .ne v1073 c0_i32_548
  let v1075 : BitVec 1 := Scalar.andi v1072 v1074
  let v1061 : BitVec 32 := Scalar.divsi arg0 c16_i32_543
  let c1_i32_549 : BitVec 32 := 1#32
  let v1076 : BitVec 32 := Scalar.subi v1061 c1_i32_549
  let v1077 : BitVec 32 := Scalar.select v1075 v1076 v1061
  let c16_i32_536 : BitVec 32 := 16#32
  let c0_i32_537 : BitVec 32 := 0#32
  let v1050 : BitVec 1 := Scalar.cmpi .eq c16_i32_536 c0_i32_537
  let c1_i32_538 : BitVec 32 := 1#32
  let v1051 : BitVec 32 := Scalar.select v1050 c1_i32_538 c16_i32_536
  let v1052 : BitVec 32 := Scalar.remsi arg0 v1051
  let c0_i32_540 : BitVec 32 := 0#32
  let v1054 : BitVec 1 := Scalar.cmpi .slt v1052 c0_i32_540
  let c0_i32_541 : BitVec 32 := 0#32
  let v1055 : BitVec 1 := Scalar.cmpi .slt v1051 c0_i32_541
  let v1056 : BitVec 1 := Scalar.xori v1054 v1055
  let c0_i32_539 : BitVec 32 := 0#32
  let v1053 : BitVec 1 := Scalar.cmpi .ne v1052 c0_i32_539
  let v1057 : BitVec 1 := Scalar.andi v1056 v1053
  let v1058 : BitVec 32 := Scalar.addi v1052 v1051
  let v1059 : BitVec 32 := Scalar.select v1057 v1058 v1052
  let c512_i32_542 : BitVec 32 := 512#32
  let v1060 : BitVec 32 := Scalar.muli v1059 c512_i32_542
  let c6_i32_550 : BitVec 32 := 6#32
  let c0_i32_551 : BitVec 32 := 0#32
  ![v1077.toNat, v1060.toNat, 6, 0]
def k0_off91 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_552 : BitVec 32 := 0#32
  let c768_i32_553 : BitVec 32 := 768#32
  ![v9.toNat, 0, 768]
def k0_off92 (i : grid0.Coords) : Fin 4 → Nat :=
  let arg0 : BitVec 32 := BitVec.ofNat 32 (i 0).val
  let c0_i32_562 : BitVec 32 := 0#32
  let v1096 : BitVec 1 := Scalar.cmpi .sgt arg0 c0_i32_562
  let v1097 : BitVec 32 := Scalar.extui v1096
  let c0_i32_563 : BitVec 32 := 0#32
  let v1098 : BitVec 1 := Scalar.cmpi .slt arg0 c0_i32_563
  let v1099 : BitVec 32 := Scalar.extui v1098
  let v1100 : BitVec 32 := Scalar.subi v1097 v1099
  let c16_i32_561 : BitVec 32 := 16#32
  let c0_i32_564 : BitVec 32 := 0#32
  let v1101 : BitVec 1 := Scalar.cmpi .sgt c16_i32_561 c0_i32_564
  let v1102 : BitVec 32 := Scalar.extui v1101
  let c0_i32_565 : BitVec 32 := 0#32
  let v1103 : BitVec 1 := Scalar.cmpi .slt c16_i32_561 c0_i32_565
  let v1104 : BitVec 32 := Scalar.extui v1103
  let v1105 : BitVec 32 := Scalar.subi v1102 v1104
  let v1106 : BitVec 1 := Scalar.cmpi .ne v1100 v1105
  let v1107 : BitVec 32 := Scalar.remsi arg0 c16_i32_561
  let c0_i32_566 : BitVec 32 := 0#32
  let v1108 : BitVec 1 := Scalar.cmpi .ne v1107 c0_i32_566
  let v1109 : BitVec 1 := Scalar.andi v1106 v1108
  let v1095 : BitVec 32 := Scalar.divsi arg0 c16_i32_561
  let c1_i32_567 : BitVec 32 := 1#32
  let v1110 : BitVec 32 := Scalar.subi v1095 c1_i32_567
  let v1111 : BitVec 32 := Scalar.select v1109 v1110 v1095
  let c16_i32_554 : BitVec 32 := 16#32
  let c0_i32_555 : BitVec 32 := 0#32
  let v1084 : BitVec 1 := Scalar.cmpi .eq c16_i32_554 c0_i32_555
  let c1_i32_556 : BitVec 32 := 1#32
  let v1085 : BitVec 32 := Scalar.select v1084 c1_i32_556 c16_i32_554
  let v1086 : BitVec 32 := Scalar.remsi arg0 v1085
  let c0_i32_558 : BitVec 32 := 0#32
  let v1088 : BitVec 1 := Scalar.cmpi .slt v1086 c0_i32_558
  let c0_i32_559 : BitVec 32 := 0#32
  let v1089 : BitVec 1 := Scalar.cmpi .slt v1085 c0_i32_559
  let v1090 : BitVec 1 := Scalar.xori v1088 v1089
  let c0_i32_557 : BitVec 32 := 0#32
  let v1087 : BitVec 1 := Scalar.cmpi .ne v1086 c0_i32_557
  let v1091 : BitVec 1 := Scalar.andi v1090 v1087
  let v1092 : BitVec 32 := Scalar.addi v1086 v1085
  let v1093 : BitVec 32 := Scalar.select v1091 v1092 v1086
  let c512_i32_560 : BitVec 32 := 512#32
  let v1094 : BitVec 32 := Scalar.muli v1093 c512_i32_560
  let c7_i32_568 : BitVec 32 := 7#32
  let c0_i32_569 : BitVec 32 := 0#32
  ![v1111.toNat, v1094.toNat, 7, 0]
def k0_off93 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_570 : BitVec 32 := 0#32
  let c896_i32_571 : BitVec 32 := 896#32
  ![v9.toNat, 0, 896]
def k0_off94 (i : grid0.Coords) : Fin 4 → Nat :=
  let arg0 : BitVec 32 := BitVec.ofNat 32 (i 0).val
  let c0_i32_580 : BitVec 32 := 0#32
  let v1130 : BitVec 1 := Scalar.cmpi .sgt arg0 c0_i32_580
  let v1131 : BitVec 32 := Scalar.extui v1130
  let c0_i32_581 : BitVec 32 := 0#32
  let v1132 : BitVec 1 := Scalar.cmpi .slt arg0 c0_i32_581
  let v1133 : BitVec 32 := Scalar.extui v1132
  let v1134 : BitVec 32 := Scalar.subi v1131 v1133
  let c16_i32_579 : BitVec 32 := 16#32
  let c0_i32_582 : BitVec 32 := 0#32
  let v1135 : BitVec 1 := Scalar.cmpi .sgt c16_i32_579 c0_i32_582
  let v1136 : BitVec 32 := Scalar.extui v1135
  let c0_i32_583 : BitVec 32 := 0#32
  let v1137 : BitVec 1 := Scalar.cmpi .slt c16_i32_579 c0_i32_583
  let v1138 : BitVec 32 := Scalar.extui v1137
  let v1139 : BitVec 32 := Scalar.subi v1136 v1138
  let v1140 : BitVec 1 := Scalar.cmpi .ne v1134 v1139
  let v1141 : BitVec 32 := Scalar.remsi arg0 c16_i32_579
  let c0_i32_584 : BitVec 32 := 0#32
  let v1142 : BitVec 1 := Scalar.cmpi .ne v1141 c0_i32_584
  let v1143 : BitVec 1 := Scalar.andi v1140 v1142
  let v1129 : BitVec 32 := Scalar.divsi arg0 c16_i32_579
  let c1_i32_585 : BitVec 32 := 1#32
  let v1144 : BitVec 32 := Scalar.subi v1129 c1_i32_585
  let v1145 : BitVec 32 := Scalar.select v1143 v1144 v1129
  let c16_i32_572 : BitVec 32 := 16#32
  let c0_i32_573 : BitVec 32 := 0#32
  let v1118 : BitVec 1 := Scalar.cmpi .eq c16_i32_572 c0_i32_573
  let c1_i32_574 : BitVec 32 := 1#32
  let v1119 : BitVec 32 := Scalar.select v1118 c1_i32_574 c16_i32_572
  let v1120 : BitVec 32 := Scalar.remsi arg0 v1119
  let c0_i32_576 : BitVec 32 := 0#32
  let v1122 : BitVec 1 := Scalar.cmpi .slt v1120 c0_i32_576
  let c0_i32_577 : BitVec 32 := 0#32
  let v1123 : BitVec 1 := Scalar.cmpi .slt v1119 c0_i32_577
  let v1124 : BitVec 1 := Scalar.xori v1122 v1123
  let c0_i32_575 : BitVec 32 := 0#32
  let v1121 : BitVec 1 := Scalar.cmpi .ne v1120 c0_i32_575
  let v1125 : BitVec 1 := Scalar.andi v1124 v1121
  let v1126 : BitVec 32 := Scalar.addi v1120 v1119
  let v1127 : BitVec 32 := Scalar.select v1125 v1126 v1120
  let c512_i32_578 : BitVec 32 := 512#32
  let v1128 : BitVec 32 := Scalar.muli v1127 c512_i32_578
  let c8_i32_586 : BitVec 32 := 8#32
  let c0_i32_587 : BitVec 32 := 0#32
  ![v1145.toNat, v1128.toNat, 8, 0]
def k0_off95 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_588 : BitVec 32 := 0#32
  let c1024_i32_589 : BitVec 32 := 1024#32
  ![v9.toNat, 0, 1024]
def k0_off96 (i : grid0.Coords) : Fin 4 → Nat :=
  let arg0 : BitVec 32 := BitVec.ofNat 32 (i 0).val
  let c0_i32_598 : BitVec 32 := 0#32
  let v1164 : BitVec 1 := Scalar.cmpi .sgt arg0 c0_i32_598
  let v1165 : BitVec 32 := Scalar.extui v1164
  let c0_i32_599 : BitVec 32 := 0#32
  let v1166 : BitVec 1 := Scalar.cmpi .slt arg0 c0_i32_599
  let v1167 : BitVec 32 := Scalar.extui v1166
  let v1168 : BitVec 32 := Scalar.subi v1165 v1167
  let c16_i32_597 : BitVec 32 := 16#32
  let c0_i32_600 : BitVec 32 := 0#32
  let v1169 : BitVec 1 := Scalar.cmpi .sgt c16_i32_597 c0_i32_600
  let v1170 : BitVec 32 := Scalar.extui v1169
  let c0_i32_601 : BitVec 32 := 0#32
  let v1171 : BitVec 1 := Scalar.cmpi .slt c16_i32_597 c0_i32_601
  let v1172 : BitVec 32 := Scalar.extui v1171
  let v1173 : BitVec 32 := Scalar.subi v1170 v1172
  let v1174 : BitVec 1 := Scalar.cmpi .ne v1168 v1173
  let v1175 : BitVec 32 := Scalar.remsi arg0 c16_i32_597
  let c0_i32_602 : BitVec 32 := 0#32
  let v1176 : BitVec 1 := Scalar.cmpi .ne v1175 c0_i32_602
  let v1177 : BitVec 1 := Scalar.andi v1174 v1176
  let v1163 : BitVec 32 := Scalar.divsi arg0 c16_i32_597
  let c1_i32_603 : BitVec 32 := 1#32
  let v1178 : BitVec 32 := Scalar.subi v1163 c1_i32_603
  let v1179 : BitVec 32 := Scalar.select v1177 v1178 v1163
  let c16_i32_590 : BitVec 32 := 16#32
  let c0_i32_591 : BitVec 32 := 0#32
  let v1152 : BitVec 1 := Scalar.cmpi .eq c16_i32_590 c0_i32_591
  let c1_i32_592 : BitVec 32 := 1#32
  let v1153 : BitVec 32 := Scalar.select v1152 c1_i32_592 c16_i32_590
  let v1154 : BitVec 32 := Scalar.remsi arg0 v1153
  let c0_i32_594 : BitVec 32 := 0#32
  let v1156 : BitVec 1 := Scalar.cmpi .slt v1154 c0_i32_594
  let c0_i32_595 : BitVec 32 := 0#32
  let v1157 : BitVec 1 := Scalar.cmpi .slt v1153 c0_i32_595
  let v1158 : BitVec 1 := Scalar.xori v1156 v1157
  let c0_i32_593 : BitVec 32 := 0#32
  let v1155 : BitVec 1 := Scalar.cmpi .ne v1154 c0_i32_593
  let v1159 : BitVec 1 := Scalar.andi v1158 v1155
  let v1160 : BitVec 32 := Scalar.addi v1154 v1153
  let v1161 : BitVec 32 := Scalar.select v1159 v1160 v1154
  let c512_i32_596 : BitVec 32 := 512#32
  let v1162 : BitVec 32 := Scalar.muli v1161 c512_i32_596
  let c9_i32_604 : BitVec 32 := 9#32
  let c0_i32_605 : BitVec 32 := 0#32
  ![v1179.toNat, v1162.toNat, 9, 0]
def k0_off97 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_606 : BitVec 32 := 0#32
  let c1152_i32_607 : BitVec 32 := 1152#32
  ![v9.toNat, 0, 1152]
def k0_off98 (i : grid0.Coords) : Fin 4 → Nat :=
  let arg0 : BitVec 32 := BitVec.ofNat 32 (i 0).val
  let c0_i32_616 : BitVec 32 := 0#32
  let v1198 : BitVec 1 := Scalar.cmpi .sgt arg0 c0_i32_616
  let v1199 : BitVec 32 := Scalar.extui v1198
  let c0_i32_617 : BitVec 32 := 0#32
  let v1200 : BitVec 1 := Scalar.cmpi .slt arg0 c0_i32_617
  let v1201 : BitVec 32 := Scalar.extui v1200
  let v1202 : BitVec 32 := Scalar.subi v1199 v1201
  let c16_i32_615 : BitVec 32 := 16#32
  let c0_i32_618 : BitVec 32 := 0#32
  let v1203 : BitVec 1 := Scalar.cmpi .sgt c16_i32_615 c0_i32_618
  let v1204 : BitVec 32 := Scalar.extui v1203
  let c0_i32_619 : BitVec 32 := 0#32
  let v1205 : BitVec 1 := Scalar.cmpi .slt c16_i32_615 c0_i32_619
  let v1206 : BitVec 32 := Scalar.extui v1205
  let v1207 : BitVec 32 := Scalar.subi v1204 v1206
  let v1208 : BitVec 1 := Scalar.cmpi .ne v1202 v1207
  let v1209 : BitVec 32 := Scalar.remsi arg0 c16_i32_615
  let c0_i32_620 : BitVec 32 := 0#32
  let v1210 : BitVec 1 := Scalar.cmpi .ne v1209 c0_i32_620
  let v1211 : BitVec 1 := Scalar.andi v1208 v1210
  let v1197 : BitVec 32 := Scalar.divsi arg0 c16_i32_615
  let c1_i32_621 : BitVec 32 := 1#32
  let v1212 : BitVec 32 := Scalar.subi v1197 c1_i32_621
  let v1213 : BitVec 32 := Scalar.select v1211 v1212 v1197
  let c16_i32_608 : BitVec 32 := 16#32
  let c0_i32_609 : BitVec 32 := 0#32
  let v1186 : BitVec 1 := Scalar.cmpi .eq c16_i32_608 c0_i32_609
  let c1_i32_610 : BitVec 32 := 1#32
  let v1187 : BitVec 32 := Scalar.select v1186 c1_i32_610 c16_i32_608
  let v1188 : BitVec 32 := Scalar.remsi arg0 v1187
  let c0_i32_612 : BitVec 32 := 0#32
  let v1190 : BitVec 1 := Scalar.cmpi .slt v1188 c0_i32_612
  let c0_i32_613 : BitVec 32 := 0#32
  let v1191 : BitVec 1 := Scalar.cmpi .slt v1187 c0_i32_613
  let v1192 : BitVec 1 := Scalar.xori v1190 v1191
  let c0_i32_611 : BitVec 32 := 0#32
  let v1189 : BitVec 1 := Scalar.cmpi .ne v1188 c0_i32_611
  let v1193 : BitVec 1 := Scalar.andi v1192 v1189
  let v1194 : BitVec 32 := Scalar.addi v1188 v1187
  let v1195 : BitVec 32 := Scalar.select v1193 v1194 v1188
  let c512_i32_614 : BitVec 32 := 512#32
  let v1196 : BitVec 32 := Scalar.muli v1195 c512_i32_614
  let c10_i32_622 : BitVec 32 := 10#32
  let c0_i32_623 : BitVec 32 := 0#32
  ![v1213.toNat, v1196.toNat, 10, 0]
def k0_off99 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_624 : BitVec 32 := 0#32
  let c1280_i32_625 : BitVec 32 := 1280#32
  ![v9.toNat, 0, 1280]
def k0_off100 (i : grid0.Coords) : Fin 4 → Nat :=
  let arg0 : BitVec 32 := BitVec.ofNat 32 (i 0).val
  let c0_i32_634 : BitVec 32 := 0#32
  let v1232 : BitVec 1 := Scalar.cmpi .sgt arg0 c0_i32_634
  let v1233 : BitVec 32 := Scalar.extui v1232
  let c0_i32_635 : BitVec 32 := 0#32
  let v1234 : BitVec 1 := Scalar.cmpi .slt arg0 c0_i32_635
  let v1235 : BitVec 32 := Scalar.extui v1234
  let v1236 : BitVec 32 := Scalar.subi v1233 v1235
  let c16_i32_633 : BitVec 32 := 16#32
  let c0_i32_636 : BitVec 32 := 0#32
  let v1237 : BitVec 1 := Scalar.cmpi .sgt c16_i32_633 c0_i32_636
  let v1238 : BitVec 32 := Scalar.extui v1237
  let c0_i32_637 : BitVec 32 := 0#32
  let v1239 : BitVec 1 := Scalar.cmpi .slt c16_i32_633 c0_i32_637
  let v1240 : BitVec 32 := Scalar.extui v1239
  let v1241 : BitVec 32 := Scalar.subi v1238 v1240
  let v1242 : BitVec 1 := Scalar.cmpi .ne v1236 v1241
  let v1243 : BitVec 32 := Scalar.remsi arg0 c16_i32_633
  let c0_i32_638 : BitVec 32 := 0#32
  let v1244 : BitVec 1 := Scalar.cmpi .ne v1243 c0_i32_638
  let v1245 : BitVec 1 := Scalar.andi v1242 v1244
  let v1231 : BitVec 32 := Scalar.divsi arg0 c16_i32_633
  let c1_i32_639 : BitVec 32 := 1#32
  let v1246 : BitVec 32 := Scalar.subi v1231 c1_i32_639
  let v1247 : BitVec 32 := Scalar.select v1245 v1246 v1231
  let c16_i32_626 : BitVec 32 := 16#32
  let c0_i32_627 : BitVec 32 := 0#32
  let v1220 : BitVec 1 := Scalar.cmpi .eq c16_i32_626 c0_i32_627
  let c1_i32_628 : BitVec 32 := 1#32
  let v1221 : BitVec 32 := Scalar.select v1220 c1_i32_628 c16_i32_626
  let v1222 : BitVec 32 := Scalar.remsi arg0 v1221
  let c0_i32_630 : BitVec 32 := 0#32
  let v1224 : BitVec 1 := Scalar.cmpi .slt v1222 c0_i32_630
  let c0_i32_631 : BitVec 32 := 0#32
  let v1225 : BitVec 1 := Scalar.cmpi .slt v1221 c0_i32_631
  let v1226 : BitVec 1 := Scalar.xori v1224 v1225
  let c0_i32_629 : BitVec 32 := 0#32
  let v1223 : BitVec 1 := Scalar.cmpi .ne v1222 c0_i32_629
  let v1227 : BitVec 1 := Scalar.andi v1226 v1223
  let v1228 : BitVec 32 := Scalar.addi v1222 v1221
  let v1229 : BitVec 32 := Scalar.select v1227 v1228 v1222
  let c512_i32_632 : BitVec 32 := 512#32
  let v1230 : BitVec 32 := Scalar.muli v1229 c512_i32_632
  let c11_i32_640 : BitVec 32 := 11#32
  let c0_i32_641 : BitVec 32 := 0#32
  ![v1247.toNat, v1230.toNat, 11, 0]
def k0_off101 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_642 : BitVec 32 := 0#32
  let c1408_i32_643 : BitVec 32 := 1408#32
  ![v9.toNat, 0, 1408]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S32768x2048 : Shape := ⟨2, ![32768, 2048]⟩
abbrev S2048x3072 : Shape := ⟨2, ![2048, 3072]⟩
abbrev S32768x3072 : Shape := ⟨2, ![32768, 3072]⟩
abbrev S4x8192x2x12x128 : Shape := ⟨5, ![4, 8192, 2, 12, 128]⟩
abbrev S4x8192x1x12x128 : Shape := ⟨5, ![4, 8192, 1, 12, 128]⟩
abbrev S4x8192x12x128 : Shape := ⟨4, ![4, 8192, 12, 128]⟩
abbrev S32768x1536 : Shape := ⟨2, ![32768, 1536]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x3072, .f32⟩
  | .hbm, ⟨2, _⟩ => ⟨S32768x3072, .f32⟩
  | .hbm, ⟨3, _⟩ => ⟨S4x8192x2x12x128, .f32⟩
  | .hbm, ⟨4, _⟩ => ⟨S4x8192x1x12x128, .f32⟩
  | .hbm, ⟨5, _⟩ => ⟨S4x8192x12x128, .f32⟩
  | .hbm, ⟨6, _⟩ => ⟨S32768x1536, .f32⟩
  | .hbm, ⟨7, _⟩ => ⟨S32768x1536, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Gla.Host.lean ====
module

public import proofs.«01_k».proof.Proof.Gen.KernelIdeal.Frame
public import Idealize.ShloMosaic.Lib.Pipeline.Value

@[expose] public section

/-! The arrays the kernel stages, as the host lines compute them from the arguments. -/

set_option maxRecDepth 16384

noncomputable section

open Idealize.ShloMosaic Idealize.ShloMosaic.TcCoe Idealize.SL.Sem Idealize.ShloMosaic.StableHlo

namespace Cert.KernelIdeal.Blk

open Cert.KernelIdeal Cert.KernelIdeal.Gen

variable {F : FTy → Type} [FloatOps F]

/-- The projections, one row per token. -/
def rows (p : Vec F S8x16x5136 .f32) : FVec F S128x5136 .f32 := shapeCast S128x5136 p shapeCasts_S8x16x5136_S128x5136

/-- Zero, as the host pads with it. -/
def padZero : FVec F S_ .f32 := sitofp .f32 (constantI S_ 32 0#32)

/-- Head columns of 192 padded to 256 each. -/
def padHeads (x : FVec F S128x768 .f32) : FVec F S128x1024 .f32 :=
  shapeCast S128x1024
    (pad S128x4x256 ![0, 0, 0] ![0, 0, 64] ![0, 0, 0] (shapeCast S128x4x192 x shapeCasts_S128x768_S128x4x192) padZero
      pads_S128x4x192_S128x4x256_000_000_0640 h_S_) shapeCasts_S128x4x256_S128x1024

/-- The column blocks: values, gates, queries, keys, the memory's queries, the low-rank columns. -/
def pieces (p : Vec F S8x16x5136 .f32) : List ((s : Shape) × (s.Idx → F .f32)) :=
  [⟨S128x1536, extractStridedSlice S128x1536 ![0, 1536] (rows p) slices_S128x5136_S128x1536_0_1536⟩,
   ⟨S128x1536, extractStridedSlice S128x1536 ![0, 3072] (rows p) slices_S128x5136_S128x1536_0_3072⟩,
   ⟨S128x1024, padHeads (extractStridedSlice S128x768 ![0, 0] (rows p) slices_S128x5136_S128x768_0_0)⟩,
   ⟨S128x1024, padHeads (extractStridedSlice S128x768 ![0, 768] (rows p) slices_S128x5136_S128x768_0_768)⟩,
   ⟨S128x512, extractStridedSlice S128x512 ![0, 4624] (rows p) slices_S128x5136_S128x512_0_4624⟩,
   ⟨S128x128, pad S128x128 ![0, 0] ![0, 112] ![0, 0] (extractStridedSlice S128x16 ![0, 4608] (rows p) slices_S128x5136_S128x16_0_4608) padZero
      pads_S128x16_S128x128_000_01120 h_S_⟩]

/-- The column blocks side by side. -/
def columns (p : Vec F S8x16x5136 .f32) : FVec F S128x5760 .f32 :=
  concatenate S128x5760 1 (pieces p) concatenates_S128x1536_S128x1536_S128x1024_S128x1024_S128x512_S128x128_S128x5760_d1

/-- The staged projections: the columns, scaled. -/
def staged (p : Vec F S8x16x5136 .f32) : FVec F S128x5760 .bf16 :=
  truncf .bf16 (mulf (extf .f32 (truncf .bf16 (columns p) bitsLt_bf16_f32) bitsLt_bf16_f32)
    (broadcastInDim S128x5760 ![0, 1] bcast_S1x5760_S128x5760_0_1
      (fun i => FloatOps.ofBits .f32 (lit0 (S1x5760.rowMajor i)) : FVec F S1x5760 .f32))) bitsLt_bf16_f32

/-- The staged gate weights. -/
def gateWeights (w : Vec F S16x768 .f32) : FVec F S128x1024 .bf16 :=
  truncf .bf16 (pad S128x1024 ![0, 0] ![112, 0] ![0, 0]
    (shapeCast S16x1024 (pad S16x4x256 ![0, 0, 0] ![0, 0, 64] ![0, 0, 0] (shapeCast S16x4x192 w shapeCasts_S16x768_S16x4x192) padZero
      pads_S16x4x192_S16x4x256_000_000_0640 h_S_) shapeCasts_S16x4x256_S16x1024) padZero pads_S16x1024_S128x1024_01120_000 h_S_) bitsLt_bf16_f32

/-- The staged gate bias. -/
def gateBias (b : Vec F S768 .f32) : FVec F S1x1024 .f32 :=
  shapeCast S1x1024 (pad S1x4x256 ![0, 0, 0] ![0, 0, 64] ![0, 0, 0]
    (shapeCast S1x4x192 (broadcastInDim S1x768 ![1] bcast_S768_S1x768_1 b) shapeCasts_S1x768_S1x4x192) padZero
      pads_S1x4x192_S1x4x256_000_000_0640 h_S_) shapeCasts_S1x4x256_S1x1024

variable (m : (ℓ : Loc nD τ sig) → Buf (Elt F) ℓ)

theorem V_staged (c : Dev nD) : V m c main_v19 = staged (m ((c : Thread nD τ).loc main_arg0)) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results
  rfl

theorem V_weights (c : Dev nD) : V m c main_v24 = gateWeights (m ((c : Thread nD τ).loc main_arg1)) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results
  rfl

theorem V_bias (c : Dev nD) : V m c main_v28 = gateBias (m ((c : Thread nD τ).loc main_arg2)) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results
  rfl

theorem V_norm (c : Dev nD) :
    V m c main_v29 = (broadcastInDim S1x384 ![1] bcast_S384_S1x384_1 (m ((c : Thread nD τ).loc main_arg3)) : FVec F S1x384 .f32) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results
  first | done | rfl

theorem V_sums (c : Dev nD) : V m c main_cst_0 = (fun i => FloatOps.ofBits .bf16 (lit1 (S96x16.rowMajor i)) : FVec F S96x16 .bf16) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results
  first | done | rfl

theorem V_pairs (c : Dev nD) : V m c main_cst_1 = (fun i => FloatOps.ofBits .f32 (lit2 (S5x16x16.rowMajor i)) : FVec F S5x16x16 .f32) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results
  first | done | rfl

end Cert.KernelIdeal.Blk

end
-- ==== Proof.Gla.Head.lean ====
module

public import proofs.«01_k».proof.Proof.Gen.KernelIdeal.Frame
public import Idealize.ShloMosaic.Lib.Pipeline.Value
public import Idealize.ShloMosaic.Lib.Tactic
public import Idealize.ShloMosaic.Lib.Pipeline.ValueKit.Tiles
public import Idealize.ShloMosaic.Lib.ValueIdxCore

@[expose] public section

/-! One head of the kernel, in the operations of the printed program.

The body runs the same text for each of the four heads, at other columns. The definitions below write that text
once, over any floats. -/

set_option maxRecDepth 16384

noncomputable section

open Idealize.ShloMosaic Idealize.ShloMosaic.TcCoe Idealize.SL.Sem

namespace Cert.KernelIdeal.Blk

open Cert.KernelIdeal Cert.KernelIdeal.Gen

variable {F : FTy → Type} [FloatOps F]

/-- One level's scores: the table of the level times the product of the weighted queries and keys. -/
def level (p : Vec F S1x16x16 .f32) (q k w : FVec F S16x256 .f32) : FVec F S16x16 .f32 :=
  mulf (shapeCast S16x16 p shapeCasts_S1x16x16_S16x16)
    (matmul dot_S16x256_S16x256_S16x16_1_1_0_0_n_n none (truncf .bf16 (mulf q w) bitsLt_bf16_f32)
      (truncf .bf16 (mulf k w) bitsLt_bf16_f32) (constant S16x16 .f32 0x00000000#32))

/-- The scores of all pairs: the diagonal, then the four levels. -/
def scores (W : FVec F S96x256 .f32) (q k : FVec F S16x256 .bf16) (p4 p0 p1 p2 p3 : Vec F S1x16x16 .f32) : FVec F S16x16 .f32 :=
  addf (addf (addf (addf
    (mulf (shapeCast S16x16 p4 shapeCasts_S1x16x16_S16x16)
      (matmul dot_S16x256_S16x256_S16x16_1_1_0_0_n_n none q k (constant S16x16 .f32 0x00000000#32)))
    (level p0 (extf .f32 q bitsLt_bf16_f32) (extf .f32 k bitsLt_bf16_f32)
      (extractStridedSlice S16x256 ![0, 0] W slices_S96x256_o0_0_S16x256)))
    (level p1 (extf .f32 q bitsLt_bf16_f32) (extf .f32 k bitsLt_bf16_f32)
      (extractStridedSlice S16x256 ![16, 0] W slices_S96x256_o16_0_S16x256)))
    (level p2 (extf .f32 q bitsLt_bf16_f32) (extf .f32 k bitsLt_bf16_f32)
      (extractStridedSlice S16x256 ![32, 0] W slices_S96x256_o32_0_S16x256)))
    (level p3 (extf .f32 q bitsLt_bf16_f32) (extf .f32 k bitsLt_bf16_f32)
      (extractStridedSlice S16x256 ![48, 0] W slices_S96x256_o48_0_S16x256))

/-- A head's output before normalisation: the scores on the values, and the queries on the state. -/
def headOut (W : FVec F S96x256 .f32) (q k : FVec F S16x256 .bf16) (v : FVec F S16x384 .bf16)
    (p4 p0 p1 p2 p3 : Vec F S1x16x16 .f32) (st : FVec F S384x256 .f32) : FVec F S16x384 .f32 :=
  addf
    (matmul dot_S16x16_S16x384_S16x384_1_0_0_1_n_n none (truncf .bf16 (scores W q k p4 p0 p1 p2 p3) bitsLt_bf16_f32) v
      (constant S16x384 .f32 0x00000000#32))
    (matmul dot_S16x256_S384x256_S16x384_1_1_0_0_n_n none
      (truncf .bf16 (mulf (extf .f32 q bitsLt_bf16_f32)
        (extractStridedSlice S16x256 ![64, 0] W slices_S96x256_o64_0_S16x256)) bitsLt_bf16_f32)
      (truncf .bf16 st bitsLt_bf16_f32) (constant S16x384 .f32 0x00000000#32))

/-- A head's state after the block, transposed and padded as the kernel keeps it. -/
def headState (W : FVec F S96x256 .f32) (k : FVec F S16x256 .bf16) (v : FVec F S16x384 .bf16) (st : FVec F S384x256 .f32) :
    FVec F S384x256 .f32 :=
  addf
    (mulf st (broadcastTo S384x256
      (extractStridedSlice S1x256 ![15, 0] (extractStridedSlice S16x256 ![64, 0] W slices_S96x256_o64_0_S16x256)
        slices_S16x256_o15_0_S1x256) broadcasts_S1x256_S384x256))
    (matmul dot_S16x384_S16x256_S384x256_0_0_1_1_n_n none v
      (truncf .bf16 (mulf (extf .f32 k bitsLt_bf16_f32)
        (extractStridedSlice S16x256 ![80, 0] W slices_S96x256_o80_0_S16x256)) bitsLt_bf16_f32)
      (constant S384x256 .f32 0x00000000#32))

/-- The state a head starts with, transposed and padded. -/
def stateIn (s : Vec F S1x1x192x384 .f32) : FVec F S384x256 .f32 :=
  transpose S384x256 [1, 0]
    (concatenate S256x384 0 [⟨S192x384, shapeCast S192x384 s shapeCasts_S1x1x192x384_S192x384⟩,
      ⟨S64x384, broadcast S64x384 (Scalar.ofBits .f32 0x00000000#32)⟩] concatenates_S192x384_S64x384_S256x384_d0)
    transposes_S256x384_p1_0_S384x256

/-- The state a head ends with, transposed back and cut to its own rows. -/
def stateOut (s : FVec F S384x256 .f32) : FVec F S1x1x192x384 .f32 :=
  shapeCast S1x1x192x384
    (extractStridedSlice S192x384 ![0, 0] (transpose S256x384 [1, 0] s transposes_S384x256_p1_0_S256x384)
      slices_S256x384_o0_0_S192x384) shapeCasts_S192x384_S1x1x192x384

/-- A head's output after normalisation and gating. -/
def gated (o : FVec F S16x384 .f32) (gn : Vec F S1x384 .f32) (g : Vec F S16x384 .bf16) : FVec F S16x384 .bf16 :=
  truncf .bf16 (mulf
    (mulf (mulf o (broadcastTo S16x384
      (rsqrt (addf (divf (shapeCast S16x1 (multiReduction .add [1] S16 (mulf o o) 0x00000000#32 reduces_S16x384_S16 (.inl rfl) rfl)
          shapeCasts_S16_S16x1) (broadcast S16x1 (Scalar.ofBits .f32 0x43C00000#32)))
        (broadcast S16x1 (Scalar.ofBits .f32 0x358637BD#32)))) broadcasts_S16x1_S16x384))
      (broadcastTo S16x384 gn broadcasts_S1x384_S16x384))
    (mulf (extf .f32 g bitsLt_bf16_f32)
      (divf (broadcast S16x384 (Scalar.ofBits .f32 0x3F800000#32))
        (addf (broadcast S16x384 (Scalar.ofBits .f32 0x3F800000#32))
          (exp (subf (broadcast S16x384 (Scalar.ofBits .f32 0x00000000#32)) (extf .f32 g bitsLt_bf16_f32)))))))
    bitsLt_bf16_f32

/-! Reading back one tile of several stored side by side. -/

section Tiles
variable {Val : EltTy → Type} [∀ e, Nonempty (Val e)] {sig' : RefSig} {κ : Kind} {sp : Space} {s : Shape} {e : EltTy}

theorem readCov_same (v : View sig' κ sp s e) (off size : Fin s.rank → Nat) (inb inb') (w : (Rect.unit (s := s) off size inb).shape.Idx → Val e)
    (L : List (View.Piece Val s e)) :
    v.readCov (⟨Rect.unit off size inb, w⟩ :: L) (Rect.unit off size inb').toLoadRect = w := by
  rw [View.readCov_eq_canon']
  exact funext fun j => View.canon_cons_emb _ w L j

theorem readCov_skip (v : View sig' κ sp s e) (off off' size size' : Fin s.rank → Nat) (inb inb') (w : (Rect.unit (s := s) off size inb).shape.Idx → Val e)
    (L : List (View.Piece Val s e)) (a : Fin s.rank) (h : off a + size a ≤ off' a ∨ off' a + size' a ≤ off a) :
    v.readCov (⟨Rect.unit off size inb, w⟩ :: L) (Rect.unit off' size' inb').toLoadRect
      = v.readCov L (Rect.unit off' size' inb').toLoadRect := by
  rw [View.readCov_eq_canon', View.readCov_eq_canon']
  refine funext fun j => View.canon_cons_of_not_mem _ L fun hm => ?_
  have h1 := (Rect.mem_set_unit (inb := inb) (i := (Rect.unit off' size' inb').idx j)).mp hm a
  have h2 : ((Rect.unit off' size' inb').idx j a).val = off' a + (j a).val := Rect.idx_unit_val off' size' inb' j a
  have h3 : (j a).val < size' a := (j a).isLt
  omega

theorem canon_skip_one (off size : Fin s.rank → Nat) (inb) (w : (Rect.unit (s := s) off size inb).shape.Idx → Val e)
    (L : List (View.Piece Val s e)) (y : s.Idx) (a : Fin s.rank) (h : (y a).val < off a ∨ off a + size a ≤ (y a).val) :
    View.canon (⟨Rect.unit off size inb, w⟩ :: L) y = View.canon L y := by
  refine View.canon_cons_of_not_mem _ L fun hm => ?_
  have h1 := (Rect.mem_set_unit (inb := inb) (i := y)).mp hm a
  omega

theorem canon_here (off size : Fin s.rank → Nat) (inb) (w : (Rect.unit (s := s) off size inb).shape.Idx → Val e)
    (L : List (View.Piece Val s e)) (y : s.Idx) (x : (Rect.unit (s := s) off size inb).shape.Idx)
    (h : ∀ a, (y a).val = off a + (x a).val) :
    View.canon (⟨Rect.unit off size inb, w⟩ :: L) y = w x := by
  have : y = (Rect.unit (s := s) off size inb).emb x :=
    funext fun a => Fin.ext ((h a).trans (Rect.idx_unit_val off size inb x a).symm)
  rw [this]; exact View.canon_cons_emb _ w L x

end Tiles

theorem stateTile_skip {Val : EltTy → Type} [∀ e, Nonempty (Val e)] {sig' : RefSig} {κ : Kind} {sp : Space}
    (v : View sig' κ sp S4x384x256 .f32) (a b : Nat) (h : a ≠ b) (inb inb')
    (w : (Rect.unit (s := S4x384x256) ![a, 0, 0] ![1, 384, 256] inb).shape.Idx → Val .f32) (L : List (View.Piece Val S4x384x256 .f32)) :
    v.readCov (⟨Rect.unit ![a, 0, 0] ![1, 384, 256] inb, w⟩ :: L) (Rect.unit ![b, 0, 0] ![1, 384, 256] inb').toLoadRect
      = v.readCov L (Rect.unit ![b, 0, 0] ![1, 384, 256] inb').toLoadRect :=
  readCov_skip v _ _ _ _ inb inb' w L 0 (by show a + 1 ≤ b ∨ b + 1 ≤ a; omega)

section At
variable {Val : EltTy → Type} [∀ e, Nonempty (Val e)] {sig' : RefSig} {κ : Kind} {sp : Space}

theorem outTile_skip {z : Nat} (hz : z = 0) (a : Nat) (inb : ∀ i, (![z, a] : Fin 2 → Nat) i + (![16, 384] : Fin 2 → Nat) i ≤ S16x1536.size i)
    (v : View sig' κ sp S16x1536 .f32) (b : Nat) (h : a + 384 ≤ b ∨ b + 384 ≤ a) (inb')
    (w : (Rect.unit (s := S16x1536) ![z, a] ![16, 384] inb).shape.Idx → Val .f32) (L : List (View.Piece Val S16x1536 .f32)) :
    v.readCov (⟨Rect.unit ![z, a] ![16, 384] inb, w⟩ :: L) (Rect.unit ![0, b] ![16, 384] inb').toLoadRect
      = v.readCov L (Rect.unit ![0, b] ![16, 384] inb').toLoadRect :=
  readCov_skip v _ _ _ _ inb inb' w L 1 h

theorem outTile_same {z : Nat} (hz : z = 0) (a : Nat) (inb : ∀ i, (![z, a] : Fin 2 → Nat) i + (![16, 384] : Fin 2 → Nat) i ≤ S16x1536.size i)
    (v : View sig' κ sp S16x1536 .f32) (inb')
    (w : (Rect.unit (s := S16x1536) ![z, a] ![16, 384] inb).shape.Idx → Val .f32) (L : List (View.Piece Val S16x1536 .f32)) :
    v.readCov (⟨Rect.unit ![z, a] ![16, 384] inb, w⟩ :: L) (Rect.unit ![0, a] ![16, 384] inb').toLoadRect = w := by
  subst hz; exact readCov_same v _ _ inb inb' w L

theorem gateTile_same {z : Nat} (hz : z = 0) (inb' : ∀ i, (![z, 0] : Fin 2 → Nat) i + (![16, 1024] : Fin 2 → Nat) i ≤ S16x1024.size i)
    (v : View sig' κ sp S16x1024 .bf16) (inb)
    (w : (Rect.unit (s := S16x1024) ![0, 0] ![16, 1024] inb).shape.Idx → Val .bf16) (L : List (View.Piece Val S16x1024 .bf16)) :
    v.readCov (⟨Rect.unit ![0, 0] ![16, 1024] inb, w⟩ :: L) (Rect.unit ![z, 0] ![16, 1024] inb').toLoadRect = w := by
  subst hz; exact readCov_same v _ _ inb inb' w L

end At

/-! The four heads' texts are this one. -/

section Heads
variable (sm : Vec F S96x16 .bf16) (la : Vec F S16x1024 .bf16) (W1 : FVec F S96x1024 .f32) (q k : Vec F S16x256 .bf16) (v : Vec F S16x384 .bf16)
  (p4 p0 p1 p2 p3 : Vec F S1x16x16 .f32) (st : FVec F S384x256 .f32)

/-- A state as the kernel's scratch holds it, with a leading axis of one. -/
def boxed (st : FVec F S384x256 .f32) : Vec F S1x384x256 .f32 := shapeCast S1x384x256 st shapeCasts_S384x256_S1x384x256

theorem out_head0 :
    k0_pay23 (k0_pay13 sm la) (k0_pay16 v) (k0_pay17 q) (k0_pay18 k) (k0_pay19 sm la q k p4 p0 p1) (k0_pay20 sm la) p2 p3 (boxed st)
      = headOut (k0_pay13 sm la) q k v p4 p0 p1 p2 p3 st := by
  simp only [k0_pay23, k0_pay22, k0_pay16, k0_pay17, k0_pay18, k0_pay19, k0_pay20, k0_pay21, k0_pay14, k0_pay15, boxed, shapeCast_self, shapeCast_shapeCast]
  rfl

theorem state_head0 :
    k0_pay25 (k0_pay24 (k0_pay13 sm la) (k0_pay16 v) (k0_pay18 k) (boxed st)) = boxed (headState (k0_pay13 sm la) k v st) := by
  simp only [k0_pay25, k0_pay24, k0_pay22, k0_pay16, k0_pay18, k0_pay21, k0_pay15, boxed, shapeCast_self, shapeCast_shapeCast]
  rfl

theorem out_head1 :
    k0_pay38 (k0_pay26 W1) (k0_pay29 v) (k0_pay30 q) (k0_pay31 k) (k0_pay32 W1 q k p4 p0 p1) (k0_pay33 W1) (k0_pay34 p2) (k0_pay35 W1 q) p3 (boxed st)
      = headOut (k0_pay26 W1) q k v p4 p0 p1 p2 p3 st := by
  simp only [k0_pay38, k0_pay37, k0_pay36, k0_pay35, k0_pay34, k0_pay33, k0_pay32, k0_pay31, k0_pay30, k0_pay29, k0_pay28, k0_pay27, boxed, shapeCast_self, shapeCast_shapeCast]
  rfl

theorem state_head1 :
    k0_pay39 (k0_pay26 W1) (k0_pay29 v) (k0_pay31 k) (boxed st) = boxed (headState (k0_pay26 W1) k v st) := by
  simp only [k0_pay39, k0_pay37, k0_pay36, k0_pay31, k0_pay29, k0_pay28, boxed, shapeCast_self, shapeCast_shapeCast]
  rfl

theorem out_head2 :
    k0_pay53 (k0_pay40 W1) (k0_pay43 v) (k0_pay44 q) (k0_pay45 k) (k0_pay46 (k0_pay40 W1) q k p4 p0 p1) (k0_pay48 p2)
        (k0_pay49 (k0_pay40 W1) q) (k0_pay50 (k0_pay40 W1) k) (constant S16x16 .f32 0x00000000#32) p3 (boxed st)
      = headOut (k0_pay40 W1) q k v p4 p0 p1 p2 p3 st := by
  simp only [k0_pay53, k0_pay52, k0_pay51, k0_pay50, k0_pay49, k0_pay48, k0_pay47, k0_pay46, k0_pay45, k0_pay44, k0_pay43, k0_pay42, k0_pay41, boxed, shapeCast_self, shapeCast_shapeCast]
  rfl

theorem state_head2 :
    k0_pay54 (k0_pay40 W1) (k0_pay43 v) (k0_pay45 k) (boxed st) = boxed (headState (k0_pay40 W1) k v st) := by
  simp only [k0_pay54, k0_pay52, k0_pay51, k0_pay45, k0_pay43, k0_pay42, boxed, shapeCast_self, shapeCast_shapeCast]
  rfl

theorem out_head3 :
    k0_pay65 (k0_pay55 W1) (k0_pay58 v) (k0_pay59 (k0_pay56 q)) (k0_pay60 k) (k0_pay61 (k0_pay55 W1) (k0_pay56 q) k p4 p0 p1 p2) (k0_pay62 (k0_pay55 W1)) p3 (boxed st)
      = headOut (k0_pay55 W1) q k v p4 p0 p1 p2 p3 st := by
  simp only [k0_pay65, k0_pay64, k0_pay63, k0_pay62, k0_pay61, k0_pay60, k0_pay59, k0_pay58, k0_pay57, k0_pay56, boxed, shapeCast_self, shapeCast_shapeCast]
  rfl

theorem state_head3 :
    k0_pay66 (k0_pay55 W1) (k0_pay58 v) (k0_pay60 k) (boxed st) = boxed (headState (k0_pay55 W1) k v st) := by
  simp only [k0_pay66, k0_pay64, k0_pay63, k0_pay60, k0_pay58, k0_pay57, boxed, shapeCast_self, shapeCast_shapeCast]
  rfl

variable (s0 : Vec F S1x1x192x384 .f32) (o : FVec F S16x384 .f32) (gn : Vec F S1x384 .f32) (g : Vec F S16x384 .bf16)

theorem in_head0 : k0_pay2 s0 = boxed (stateIn s0) := rfl
theorem in_head1 : k0_pay3 s0 = boxed (stateIn s0) := rfl
theorem in_head2 : k0_pay4 s0 = boxed (stateIn s0) := rfl
theorem in_head3 : k0_pay10 (k0_pay5 s0) = boxed (stateIn s0) := rfl
theorem end_head0 : k0_pay6 (boxed st) = stateOut st := by
  simp only [k0_pay6, boxed, shapeCast_self, shapeCast_shapeCast]; rfl
theorem end_head1 : k0_pay7 (boxed st) = stateOut st := by
  simp only [k0_pay7, boxed, shapeCast_self, shapeCast_shapeCast]; rfl
theorem end_head2 : k0_pay8 (boxed st) = stateOut st := by
  simp only [k0_pay8, boxed, shapeCast_self, shapeCast_shapeCast]; rfl
theorem end_head3 : k0_pay9 (boxed st) = stateOut st := by
  simp only [k0_pay9, boxed, shapeCast_self, shapeCast_shapeCast]; rfl

theorem gated_head0 : k0_pay69 o (k0_pay67 o) k0_pay68 gn g = gated o gn g := by
  simp only [k0_pay69, k0_pay68, k0_pay67, shapeCast_self]; rfl
theorem gated_head1 : k0_pay71 (k0_pay70 o gn) g = gated o gn g := by
  simp only [k0_pay71, k0_pay70, shapeCast_self]; rfl
theorem gated_head2 : k0_pay72 o gn g = gated o gn g := by
  simp only [k0_pay72, shapeCast_self]; rfl
theorem gated_head3 : k0_pay73 o gn g = gated o gn g := by
  simp only [k0_pay73, shapeCast_self]; rfl

end Heads

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

end Cert.KernelIdeal.Blk

end
-- ==== Proof.Gla.Block.lean ====
module

public import proofs.«01_k».proof.Proof.Gen.KernelIdeal.Frame
public import proofs.«01_k».proof.Proof.Gla.Head

@[expose] public section

/-! What a block's run leaves in the two output blocks: for each head the one head function of `Head`. -/

set_option maxRecDepth 16384

noncomputable section

open Idealize.ShloMosaic Idealize.ShloMosaic.ValueIdx Idealize.ShloMosaic.TcCoe Idealize.SL.Sem

namespace Cert.KernelIdeal.Blk

open Cert.KernelIdeal Cert.KernelIdeal.Gen

variable {F : FTy → Type} [FloatOps F]

theorem ld_at {s : Shape} {α : EltTy → Type} {e : EltTy} (x : s.Idx → α e) (off size : Fin s.rank → Nat) (inb)
    (j : (Rect.unit (s := s) off size inb).shape.Idx) (k : s.Idx) (h : ∀ a, (k a).val = off a + (j a).val) :
    View.ld (Val := α) x (Rect.unit off size inb) j = x k :=
  congrArg x (funext fun a => Fin.ext ((Rect.idx_unit_val off size inb j a).trans (h a).symm))

/-- Head `h`'s columns of the queries or keys. -/
def qkOf (x : Vec F S16x1024 .bf16) (h : Fin 4) : Vec F S16x256 .bf16 :=
  fun j => x (ix2 (j 0) ⟨256 * h.val + (j 1).val, by have := idx2_lt1 j; omega⟩)
/-- Head `h`'s columns of the values or gates. -/
def vgOf (x : Vec F S16x1536 .bf16) (h : Fin 4) : Vec F S16x384 .bf16 :=
  fun j => x (ix2 (j 0) ⟨384 * h.val + (j 1).val, by have := idx2_lt1 j; omega⟩)
/-- Head `h`'s columns of the weights. -/
def weightsOf (x : FVec F S96x1024 .f32) (h : Fin 4) : FVec F S96x256 .f32 :=
  fun j => x (ix2 (j 0) ⟨256 * h.val + (j 1).val, by have := idx2_lt1 j; omega⟩)
/-- One of the five tables of pairs. -/
def pairsOf (x : Vec F S5x16x16 .f32) (l : Fin 5) : Vec F S1x16x16 .f32 := fun j => x (ix3 l (j 1) (j 2))
/-- Head `h`'s starting state. -/
def stOf (x : Vec F S1x4x192x384 .f32) (h : Fin 4) : Vec F S1x1x192x384 .f32 := fun j => x (ix4 0 h (j 2) (j 3))

theorem ld_qk {z : Nat} (hz : z = 0) (h : Fin 4) (o : Nat) (ho : o = 256 * h.val)
    (inb : ∀ i, (![z, o] : Fin 2 → Nat) i + (![16, 256] : Fin 2 → Nat) i ≤ S16x1024.size i) (x : Vec F S16x1024 .bf16) :
    View.ld (Val := Elt F) x (Rect.unit (s := S16x1024) ![z, o] ![16, 256] inb) = qkOf x h := by
  subst ho; subst hz
  exact funext fun j => ld_at (α := Elt F) x _ _ inb j _ fun a => by
    match a with | ⟨0, _⟩ => exact (Nat.zero_add _).symm | ⟨1, _⟩ => rfl
theorem ld_vg {z : Nat} (hz : z = 0) (h : Fin 4) (o : Nat) (ho : o = 384 * h.val)
    (inb : ∀ i, (![z, o] : Fin 2 → Nat) i + (![16, 384] : Fin 2 → Nat) i ≤ S16x1536.size i) (x : Vec F S16x1536 .bf16) :
    View.ld (Val := Elt F) x (Rect.unit (s := S16x1536) ![z, o] ![16, 384] inb) = vgOf x h := by
  subst ho; subst hz
  exact funext fun j => ld_at (α := Elt F) x _ _ inb j _ fun a => by
    match a with | ⟨0, _⟩ => exact (Nat.zero_add _).symm | ⟨1, _⟩ => rfl
theorem slice_weights (x : FVec F S96x1024 .f32) (h : Fin 4) (o : Nat) (ho : o = 256 * h.val) (hs : S96x1024.Slices ![0, o] S96x256) :
    extractStridedSlice S96x256 ![0, o] x hs = weightsOf x h := by
  subst ho
  exact funext fun j => extractStridedSlice_apply _ x hs j _ fun a => by
    match a with | ⟨0, _⟩ => exact (Nat.zero_add _).symm | ⟨1, _⟩ => rfl
theorem ld_pairs (x : Vec F S5x16x16 .f32) (l : Fin 5) (o : Nat) (ho : o = l.val) (inb) :
    View.ld (Val := Elt F) x (Rect.unit (s := S5x16x16) ![o, 0, 0] ![1, 16, 16] inb) = pairsOf x l := by
  subst ho
  exact funext fun j => ld_at (α := Elt F) x _ _ inb j _ fun a => by
    match a with
    | ⟨0, _⟩ => have : (j 0).val < 1 := (j 0).isLt; show l.val = l.val + (j 0).val; omega
    | ⟨1, _⟩ => exact (Nat.zero_add _).symm | ⟨2, _⟩ => exact (Nat.zero_add _).symm
theorem ld_st (x : Vec F S1x4x192x384 .f32) (h : Fin 4) (o : Nat) (ho : o = h.val) (inb) :
    View.ld (Val := Elt F) x (Rect.unit (s := S1x4x192x384) ![0, o, 0, 0] ![1, 1, 192, 384] inb) = stOf x h := by
  subst ho
  exact funext fun j => ld_at (α := Elt F) x _ _ inb j _ fun a => by
    match a with
    | ⟨0, _⟩ => have : (j 0).val < 1 := (j 0).isLt; show 0 = 0 + (j 0).val; omega
    | ⟨1, _⟩ => have : (j 1).val < 1 := (j 1).isLt; show h.val = h.val + (j 1).val; omega
    | ⟨2, _⟩ => exact (Nat.zero_add _).symm | ⟨3, _⟩ => exact (Nat.zero_add _).symm

theorem weights_head0 (sm : Vec F S96x16 .bf16) (la : Vec F S16x1024 .bf16) : k0_pay13 sm la = weightsOf (k0_pay12 sm la) 0 :=
  slice_weights _ 0 0 rfl slices_S96x1024_o0_0_S96x256
theorem weights_head1 (x : FVec F S96x1024 .f32) : k0_pay26 x = weightsOf x 1 := slice_weights _ 1 256 rfl slices_S96x1024_o0_256_S96x256
theorem weights_head2 (x : FVec F S96x1024 .f32) : k0_pay40 x = weightsOf x 2 := slice_weights _ 2 512 rfl slices_S96x1024_o0_512_S96x256
theorem weights_head3 (x : FVec F S96x1024 .f32) : k0_pay55 x = weightsOf x 3 := slice_weights _ 3 768 rfl slices_S96x1024_o0_768_S96x256

theorem start_zero : BitVec.toNat (Scalar.indexCast (Scalar.muli 0#32 16#32)) = 0 := rfl

/-- Head `h`'s output before normalisation, from the block's operands. -/
def outOf (x0 : Vec F S16x1536 .bf16) (x2 x3 : Vec F S16x1024 .bf16) (W : FVec F S96x1024 .f32) (x9 : Vec F S5x16x16 .f32)
    (x10 : Vec F S1x4x192x384 .f32) (h : Fin 4) : FVec F S16x384 .f32 :=
  headOut (weightsOf W h) (qkOf x2 h) (qkOf x3 h) (vgOf x0 h) (pairsOf x9 4) (pairsOf x9 0) (pairsOf x9 1) (pairsOf x9 2) (pairsOf x9 3)
    (stateIn (stOf x10 h))

/-- Head `h`'s state after the block, from the block's operands. -/
def stateOf (x0 : Vec F S16x1536 .bf16) (x3 : Vec F S16x1024 .bf16) (W : FVec F S96x1024 .f32) (x10 : Vec F S1x4x192x384 .f32)
    (h : Fin 4) : Vec F S1x1x192x384 .f32 :=
  stateOut (headState (weightsOf W h) (qkOf x3 h) (vgOf x0 h) (stateIn (stOf x10 h)))

theorem ld_full2 {n m : Nat} {e : EltTy} (x : Vec F ⟨2, ![n, m]⟩ e) (inb) :
    View.ld (Val := Elt F) x (Rect.unit (s := ⟨2, ![n, m]⟩) ![0, 0] ![n, m] inb) = x :=
  View.ld_unit_zero (S := ⟨2, ![n, m]⟩) hz2 inb x

variable (c : Dev nD) (i : grid0.Coords) (arg2 : Memref sig .tc .vmem S16x1536 .bf16) (harg2 : arg2.IsWhole) (arg3 : Memref sig .tc .vmem S16x1536 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x128 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x384 .f32) (harg9 : arg9.IsWhole) (arg10 : Memref sig .tc .vmem S96x16 .bf16) (harg10 : arg10.IsWhole) (arg11 : Memref sig .tc .vmem S5x16x16 .f32) (harg11 : arg11.IsWhole) (arg12 : Memref sig .tc .vmem S1x4x192x384 .f32) (harg12 : arg12.IsWhole) (arg13 : Memref sig .tc .vmem S16x1536 .bf16) (harg13 : arg13.IsWhole) (arg14 : Memref sig .tc .vmem S1x4x192x384 .f32) (harg14 : arg14.IsWhole) (arg15 : Memref sig .tc .vmem S4x384x256 .f32) (harg15 : arg15.IsWhole) (arg16 : Memref sig .tc .vmem S16x1024 .bf16) (harg16 : arg16.IsWhole) (arg17 : Memref sig .tc .vmem S16x1536 .f32) (harg17 : arg17.IsWhole) (hc0 : cond0_0 i) (hc1 : cond0_1 i) (x0 : Vec F S16x1536 .bf16) (x1 : Vec F S16x1536 .bf16) (x2 : Vec F S16x1024 .bf16) (x3 : Vec F S16x1024 .bf16) (x4 : Vec F S16x128 .bf16) (x5 : Vec F S128x1024 .bf16) (x6 : Vec F S1x1024 .f32) (x7 : Vec F S1x384 .f32) (x8 : Vec F S96x16 .bf16) (x9 : Vec F S5x16x16 .f32) (x10 : Vec F S1x4x192x384 .f32)

/-- The state block: head `h`'s part is head `h`'s state. -/
theorem state_block (y : S1x4x192x384.Idx) (h : Fin 4) (j : S1x1x192x384.Idx) (hy1 : (y 1).val = h.val) (hy2 : (y 2).val = (j 2).val)
    (hy3 : (y 3).val = (j 3).val) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 y = stateOf x0 x3 (k0_pay12 x8 (k0_pay11 x4 x5 x6)) x10 h j := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10)]
  unfold kernelRun0_A; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp (disch := omega) only [readCov_same, stateTile_skip, outTile_skip start_zero 0 k0_off3_inb, outTile_same start_zero 0 k0_off3_inb, outTile_skip start_zero 384 k0_off5_inb, outTile_same start_zero 384 k0_off5_inb, outTile_skip start_zero 768 k0_off7_inb, outTile_same start_zero 768 k0_off7_inb, outTile_skip start_zero 1152 k0_off9_inb, outTile_same start_zero 1152 k0_off9_inb, gateTile_same start_zero k0_off1_inb, in_head0, in_head1, in_head2, in_head3, out_head0, out_head1, out_head2, out_head3,
    state_head0, state_head1, state_head2, state_head3, end_head0, end_head1, end_head2, end_head3,
    gated_head0, gated_head1, gated_head2, gated_head3]
  simp only [ld_qk start_zero 0 0 rfl k0_off2_inb, ld_qk start_zero 1 256 rfl k0_off4_inb, ld_qk start_zero 2 512 rfl k0_off6_inb, ld_qk start_zero 3 768 rfl k0_off8_inb, ld_vg start_zero 0 0 rfl k0_off3_inb, ld_vg (z := 0) rfl 0 0 rfl inb_S16x1536_S16x384_0_0, ld_vg start_zero 1 384 rfl k0_off5_inb, ld_vg (z := 0) rfl 1 384 rfl inb_S16x1536_S16x384_0_384, ld_vg start_zero 2 768 rfl k0_off7_inb, ld_vg (z := 0) rfl 2 768 rfl inb_S16x1536_S16x384_0_768, ld_vg start_zero 3 1152 rfl k0_off9_inb, ld_vg (z := 0) rfl 3 1152 rfl inb_S16x1536_S16x384_0_1152, ld_pairs _ 0 0 rfl, ld_pairs _ 1 1 rfl, ld_pairs _ 2 2 rfl, ld_pairs _ 3 3 rfl, ld_pairs _ 4 4 rfl,
    ld_st _ 0 0 rfl, ld_st _ 1 1 rfl, ld_st _ 2 2 rfl, ld_st _ 3 3 rfl, weights_head0, weights_head1, weights_head2, weights_head3]
  rw [ld_full2 x4, ld_full2 x5, ld_full2 x6, ld_full2 x8]
  have hy0 : (y 0).val = 0 := by have : (y 0).val < 1 := (y 0).isLt; omega
  have hj0 : (j 0).val = 0 := by have : (j 0).val < 1 := (j 0).isLt; omega
  have hj1 : (j 1).val = 0 := by have : (j 1).val < 1 := (j 1).isLt; omega
  have hit : ∀ (o : Nat), o = h.val → ∀ a : Fin 4, (y a).val = (![0, o, 0, 0] : Fin 4 → Nat) a + (j a).val := fun o ho a => by
    match a with
    | ⟨0, _⟩ => show (y 0).val = 0 + (j 0).val; omega
    | ⟨1, _⟩ => show (y 1).val = o + (j 1).val; omega
    | ⟨2, _⟩ => show (y 2).val = 0 + (j 2).val; omega
    | ⟨3, _⟩ => show (y 3).val = 0 + (j 3).val; omega
  have miss : ∀ o : Nat, o ≠ h.val → (y 1).val < (![0, o, 0, 0] : Fin 4 → Nat) 1 ∨ (![0, o, 0, 0] : Fin 4 → Nat) 1 + (![1, 1, 192, 384] : Fin 4 → Nat) 1 ≤ (y 1).val :=
    fun o ho => by show (y 1).val < o ∨ o + 1 ≤ (y 1).val; omega
  obtain rfl | rfl | rfl | rfl : h = 0 ∨ h = 1 ∨ h = 2 ∨ h = 3 := by fin_cases h <;> simp
  · refine (canon_skip_one _ _ _ _ _ y 1 (miss 3 (by decide))).trans ?_
    refine (canon_skip_one _ _ _ _ _ y 1 (miss 2 (by decide))).trans ?_
    refine (canon_skip_one _ _ _ _ _ y 1 (miss 1 (by decide))).trans ?_
    exact canon_here _ _ _ _ _ y j (hit 0 rfl)
  · refine (canon_skip_one _ _ _ _ _ y 1 (miss 3 (by decide))).trans ?_
    refine (canon_skip_one _ _ _ _ _ y 1 (miss 2 (by decide))).trans ?_
    exact canon_here _ _ _ _ _ y j (hit 1 rfl)
  · refine (canon_skip_one _ _ _ _ _ y 1 (miss 3 (by decide))).trans ?_
    exact canon_here _ _ _ _ _ y j (hit 2 rfl)
  · exact canon_here _ _ _ _ _ y j (hit 3 rfl)

/-- The output block: head `h`'s columns are head `h`'s gated output. -/
theorem out_block (y : S16x1536.Idx) (h : Fin 4) (j : S16x384.Idx) (hy0 : (y 0).val = (j 0).val) (hy1 : (y 1).val = 384 * h.val + (j 1).val) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 y = gated (outOf x0 x2 x3 (k0_pay12 x8 (k0_pay11 x4 x5 x6)) x9 x10 h) x7 (vgOf x1 h) j := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10)]
  unfold kernelRun0_A; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  simp (disch := omega) only [readCov_same, stateTile_skip, outTile_skip start_zero 0 k0_off3_inb, outTile_same start_zero 0 k0_off3_inb, outTile_skip start_zero 384 k0_off5_inb, outTile_same start_zero 384 k0_off5_inb, outTile_skip start_zero 768 k0_off7_inb, outTile_same start_zero 768 k0_off7_inb, outTile_skip start_zero 1152 k0_off9_inb, outTile_same start_zero 1152 k0_off9_inb, gateTile_same start_zero k0_off1_inb, in_head0, in_head1, in_head2, in_head3, out_head0, out_head1, out_head2, out_head3,
    state_head0, state_head1, state_head2, state_head3, end_head0, end_head1, end_head2, end_head3,
    gated_head0, gated_head1, gated_head2, gated_head3]
  simp only [ld_qk start_zero 0 0 rfl k0_off2_inb, ld_qk start_zero 1 256 rfl k0_off4_inb, ld_qk start_zero 2 512 rfl k0_off6_inb, ld_qk start_zero 3 768 rfl k0_off8_inb, ld_vg start_zero 0 0 rfl k0_off3_inb, ld_vg (z := 0) rfl 0 0 rfl inb_S16x1536_S16x384_0_0, ld_vg start_zero 1 384 rfl k0_off5_inb, ld_vg (z := 0) rfl 1 384 rfl inb_S16x1536_S16x384_0_384, ld_vg start_zero 2 768 rfl k0_off7_inb, ld_vg (z := 0) rfl 2 768 rfl inb_S16x1536_S16x384_0_768, ld_vg start_zero 3 1152 rfl k0_off9_inb, ld_vg (z := 0) rfl 3 1152 rfl inb_S16x1536_S16x384_0_1152, ld_pairs _ 0 0 rfl, ld_pairs _ 1 1 rfl, ld_pairs _ 2 2 rfl, ld_pairs _ 3 3 rfl, ld_pairs _ 4 4 rfl,
    ld_st _ 0 0 rfl, ld_st _ 1 1 rfl, ld_st _ 2 2 rfl, ld_st _ 3 3 rfl, weights_head0, weights_head1, weights_head2, weights_head3]
  rw [ld_full2 x4, ld_full2 x5, ld_full2 x6, ld_full2 x7, ld_full2 x8]
  have hj1 : (j 1).val < 384 := (j 1).isLt
  have hit : ∀ (o : Nat), o = 384 * h.val → ∀ a : Fin 2, (y a).val = (![0, o] : Fin 2 → Nat) a + (j a).val := fun o ho a => by
    match a with
    | ⟨0, _⟩ => show (y 0).val = 0 + (j 0).val; omega
    | ⟨1, _⟩ => show (y 1).val = o + (j 1).val; omega
  have miss : ∀ o : Nat, o + 384 ≤ 384 * h.val ∨ 384 * h.val + 384 ≤ o →
      (y 1).val < (![0, o] : Fin 2 → Nat) 1 ∨ (![0, o] : Fin 2 → Nat) 1 + (![16, 384] : Fin 2 → Nat) 1 ≤ (y 1).val :=
    fun o ho => by show (y 1).val < o ∨ o + 384 ≤ (y 1).val; omega
  obtain rfl | rfl | rfl | rfl : h = 0 ∨ h = 1 ∨ h = 2 ∨ h = 3 := by fin_cases h <;> simp
  · refine (canon_skip_one _ _ _ _ _ y 1 (miss 1152 (by decide))).trans ?_
    refine (canon_skip_one _ _ _ _ _ y 1 (miss 768 (by decide))).trans ?_
    refine (canon_skip_one _ _ _ _ _ y 1 (miss 384 (by decide))).trans ?_
    exact canon_here _ _ _ _ _ y j (hit 0 rfl)
  · refine (canon_skip_one _ _ _ _ _ y 1 (miss 1152 (by decide))).trans ?_
    refine (canon_skip_one _ _ _ _ _ y 1 (miss 768 (by decide))).trans ?_
    exact canon_here _ _ _ _ _ y j (hit 384 rfl)
  · refine (canon_skip_one _ _ _ _ _ y 1 (miss 1152 (by decide))).trans ?_
    exact canon_here _ _ _ _ _ y j (hit 768 rfl)
  · exact canon_here _ _ _ _ _ y j (hit 1152 rfl)

end Cert.KernelIdeal.Blk

end
-- ==== Proof.Gla.Windows.lean ====
module

public import proofs.«01_k».proof.Proof.Gla.Block

@[expose] public section

/-! What each grid point's blocks hold, by index into the staged arrays. -/

set_option maxRecDepth 16384

noncomputable section

open Idealize.ShloMosaic Idealize.ShloMosaic.ValueIdx Idealize.ShloMosaic.TcCoe Idealize.SL.Sem

namespace Cert.KernelIdeal.Blk

open Cert.KernelIdeal Cert.KernelIdeal.Gen

variable {F : FTy → Type} [FloatOps F]
variable (m : (ℓ : Loc nD τ sig) → Buf (Elt F) ℓ)

theorem ix_0 : ∀ t : Fin grid0.N, cc0_transform_0 (grid0.coords t) = ![t.val, 0] := by decide +kernel
theorem ix_1 : ∀ t : Fin grid0.N, cc0_transform_1 (grid0.coords t) = ![t.val, 1] := by decide +kernel
theorem ix_2 : ∀ t : Fin grid0.N, cc0_transform_2 (grid0.coords t) = ![t.val, 3] := by decide +kernel
theorem ix_3 : ∀ t : Fin grid0.N, cc0_transform_3 (grid0.coords t) = ![t.val, 4] := by decide +kernel
theorem ix_4 : ∀ t : Fin grid0.N, cc0_transform_4 (grid0.coords t) = ![t.val, 44] := by decide +kernel
theorem ix_5 : ∀ t : Fin grid0.N, cc0_transform_5 (grid0.coords t) = ![0, 0] := by decide +kernel
theorem ix_6 : ∀ t : Fin grid0.N, cc0_transform_6 (grid0.coords t) = ![0, 0] := by decide +kernel
theorem ix_7 : ∀ t : Fin grid0.N, cc0_transform_7 (grid0.coords t) = ![0, 0] := by decide +kernel
theorem ix_8 : ∀ t : Fin grid0.N, cc0_transform_8 (grid0.coords t) = ![0, 0] := by decide +kernel
theorem ix_9 : ∀ t : Fin grid0.N, cc0_transform_9 (grid0.coords t) = ![0, 0, 0] := by decide +kernel
theorem ix_10 : ∀ t : Fin grid0.N, cc0_transform_10 (grid0.coords t) = ![t.val, 0, 0, 0] := by decide +kernel
theorem ix_11 : ∀ t : Fin grid0.N, cc0_transform_11 (grid0.coords t) = ![t.val, 0] := by decide +kernel
theorem ix_12 : ∀ t : Fin grid0.N, cc0_transform_12 (grid0.coords t) = ![t.val, 0, 0, 0] := by decide +kernel

/-- A place of a rectangle of a whole buffer, as a coordinate of the buffer. -/
theorem slice_emb_val (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem lt_eight (t : Fin grid0.N) : t.val < 8 := N_0 ▸ t.isLt

/-- Row `i` of batch `t`. -/
def rowAt (t : Fin grid0.N) (i : Fin 16) : Fin 128 := ⟨16 * t.val + i.val, by have := lt_eight t; have := i.isLt; omega⟩

/-! The blocks, typed at their shapes. -/

def vBlk (c : Dev nD) (t : Fin grid0.N) : Vec F S16x1536 .bf16 := X0_0 m c t
def gBlk (c : Dev nD) (t : Fin grid0.N) : Vec F S16x1536 .bf16 := X0_1 m c t
def qBlk (c : Dev nD) (t : Fin grid0.N) : Vec F S16x1024 .bf16 := X0_2 m c t
def kBlk (c : Dev nD) (t : Fin grid0.N) : Vec F S16x1024 .bf16 := X0_3 m c t
def lrBlk (c : Dev nD) (t : Fin grid0.N) : Vec F S16x128 .bf16 := iblk m c 4 t
def wBlk (c : Dev nD) (t : Fin grid0.N) : Vec F S128x1024 .bf16 := iblk m c 5 t
def bgBlk (c : Dev nD) (t : Fin grid0.N) : Vec F S1x1024 .f32 := iblk m c 6 t
def gnBlk (c : Dev nD) (t : Fin grid0.N) : Vec F S1x384 .f32 := iblk m c 7 t
def smBlk (c : Dev nD) (t : Fin grid0.N) : Vec F S96x16 .bf16 := iblk m c 8 t
def prBlk (c : Dev nD) (t : Fin grid0.N) : Vec F S5x16x16 .f32 := iblk m c 9 t
def stBlk (c : Dev nD) (t : Fin grid0.N) : Vec F S1x4x192x384 .f32 := iblk m c 10 t

theorem vBlk_at (c : Dev nD) (t : Fin grid0.N) (i : Fin 16) (j : Fin 1536) :
    vBlk m c t (ix2 i j) = V m c main_v19 (ix2 (rowAt t i) ⟨j.val, by omega⟩) := by
  unfold vBlk X0_0 Pipeline.Window.fill
  rw [dif_pos (moved0_0 t (ix2 i j))]
  refine congrArg (V m c main_v19) (funext fun a => Fin.ext ?_)
  refine (slice_emb_val main_v19 _ _ _ _ a).trans ?_
  match a with
  | ⟨0, _⟩ => show cc0_transform_0 (grid0.coords t) 0 * 16 + i.val = 16 * t.val + i.val; rw [ix_0]; show t.val * 16 + _ = _; omega
  | ⟨1, _⟩ => show cc0_transform_0 (grid0.coords t) 1 * 1536 + j.val = j.val; rw [ix_0]; show 0 * 1536 + _ = _; omega

theorem gBlk_at (c : Dev nD) (t : Fin grid0.N) (i : Fin 16) (j : Fin 1536) :
    gBlk m c t (ix2 i j) = V m c main_v19 (ix2 (rowAt t i) ⟨1536 + j.val, by omega⟩) := by
  unfold gBlk X0_1 Pipeline.Window.fill
  rw [dif_pos (moved0_1 t (ix2 i j))]
  refine congrArg (V m c main_v19) (funext fun a => Fin.ext ?_)
  refine (slice_emb_val main_v19 _ _ _ _ a).trans ?_
  match a with
  | ⟨0, _⟩ => show cc0_transform_1 (grid0.coords t) 0 * 16 + i.val = 16 * t.val + i.val; rw [ix_1]; show t.val * 16 + _ = _; omega
  | ⟨1, _⟩ => show cc0_transform_1 (grid0.coords t) 1 * 1536 + j.val = 1536 + j.val; rw [ix_1]; show 1 * 1536 + _ = _; omega

theorem qBlk_at (c : Dev nD) (t : Fin grid0.N) (i : Fin 16) (j : Fin 1024) :
    qBlk m c t (ix2 i j) = V m c main_v19 (ix2 (rowAt t i) ⟨3072 + j.val, by omega⟩) := by
  unfold qBlk X0_2 Pipeline.Window.fill
  rw [dif_pos (moved0_2 t (ix2 i j))]
  refine congrArg (V m c main_v19) (funext fun a => Fin.ext ?_)
  refine (slice_emb_val main_v19 _ _ _ _ a).trans ?_
  match a with
  | ⟨0, _⟩ => show cc0_transform_2 (grid0.coords t) 0 * 16 + i.val = 16 * t.val + i.val; rw [ix_2]; show t.val * 16 + _ = _; omega
  | ⟨1, _⟩ => show cc0_transform_2 (grid0.coords t) 1 * 1024 + j.val = 3072 + j.val; rw [ix_2]; show 3 * 1024 + _ = _; omega

theorem kBlk_at (c : Dev nD) (t : Fin grid0.N) (i : Fin 16) (j : Fin 1024) :
    kBlk m c t (ix2 i j) = V m c main_v19 (ix2 (rowAt t i) ⟨4096 + j.val, by omega⟩) := by
  unfold kBlk X0_3 Pipeline.Window.fill
  rw [dif_pos (moved0_3 t (ix2 i j))]
  refine congrArg (V m c main_v19) (funext fun a => Fin.ext ?_)
  refine (slice_emb_val main_v19 _ _ _ _ a).trans ?_
  match a with
  | ⟨0, _⟩ => show cc0_transform_3 (grid0.coords t) 0 * 16 + i.val = 16 * t.val + i.val; rw [ix_3]; show t.val * 16 + _ = _; omega
  | ⟨1, _⟩ => show cc0_transform_3 (grid0.coords t) 1 * 1024 + j.val = 4096 + j.val; rw [ix_3]; show 4 * 1024 + _ = _; omega

theorem lrBlk_at (c : Dev nD) (t : Fin grid0.N) (i : Fin 16) (j : Fin 128) :
    lrBlk m c t (ix2 i j) = V m c main_v19 (ix2 (rowAt t i) ⟨5632 + j.val, by omega⟩) := by
  refine congrArg (V m c main_v19) (funext fun a => Fin.ext ?_)
  refine (slice_emb_val main_v19 _ _ _ _ a).trans ?_
  match a with
  | ⟨0, _⟩ => show cc0_transform_4 (grid0.coords t) 0 * 16 + i.val = 16 * t.val + i.val; rw [ix_4]; show t.val * 16 + _ = _; omega
  | ⟨1, _⟩ => show cc0_transform_4 (grid0.coords t) 1 * 128 + j.val = 5632 + j.val; rw [ix_4]; show 44 * 128 + _ = _; omega

theorem wBlk_eq (c : Dev nD) (t : Fin grid0.N) : wBlk m c t = V m c main_v24 := by
  refine funext fun j => congrArg (V m c main_v24) (funext fun a => Fin.ext ?_)
  refine (slice_emb_val main_v24 _ _ _ _ a).trans ?_
  match a with
  | ⟨0, _⟩ => show cc0_transform_5 (grid0.coords t) 0 * 128 + (j 0).val = (j 0).val; rw [ix_5]; show 0 * 128 + _ = _; omega
  | ⟨1, _⟩ => show cc0_transform_5 (grid0.coords t) 1 * 1024 + (j 1).val = (j 1).val; rw [ix_5]; show 0 * 1024 + _ = _; omega

theorem bgBlk_eq (c : Dev nD) (t : Fin grid0.N) : bgBlk m c t = V m c main_v28 := by
  refine funext fun j => congrArg (V m c main_v28) (funext fun a => Fin.ext ?_)
  refine (slice_emb_val main_v28 _ _ _ _ a).trans ?_
  match a with
  | ⟨0, _⟩ => show cc0_transform_6 (grid0.coords t) 0 * 1 + (j 0).val = (j 0).val; rw [ix_6]; show 0 * 1 + _ = _; omega
  | ⟨1, _⟩ => show cc0_transform_6 (grid0.coords t) 1 * 1024 + (j 1).val = (j 1).val; rw [ix_6]; show 0 * 1024 + _ = _; omega

theorem gnBlk_eq (c : Dev nD) (t : Fin grid0.N) : gnBlk m c t = V m c main_v29 := by
  refine funext fun j => congrArg (V m c main_v29) (funext fun a => Fin.ext ?_)
  refine (slice_emb_val main_v29 _ _ _ _ a).trans ?_
  match a with
  | ⟨0, _⟩ => show cc0_transform_7 (grid0.coords t) 0 * 1 + (j 0).val = (j 0).val; rw [ix_7]; show 0 * 1 + _ = _; omega
  | ⟨1, _⟩ => show cc0_transform_7 (grid0.coords t) 1 * 384 + (j 1).val = (j 1).val; rw [ix_7]; show 0 * 384 + _ = _; omega

theorem smBlk_eq (c : Dev nD) (t : Fin grid0.N) : smBlk m c t = V m c main_cst_0 := by
  refine funext fun j => congrArg (V m c main_cst_0) (funext fun a => Fin.ext ?_)
  refine (slice_emb_val main_cst_0 _ _ _ _ a).trans ?_
  match a with
  | ⟨0, _⟩ => show cc0_transform_8 (grid0.coords t) 0 * 96 + (j 0).val = (j 0).val; rw [ix_8]; show 0 * 96 + _ = _; omega
  | ⟨1, _⟩ => show cc0_transform_8 (grid0.coords t) 1 * 16 + (j 1).val = (j 1).val; rw [ix_8]; show 0 * 16 + _ = _; omega

theorem prBlk_eq (c : Dev nD) (t : Fin grid0.N) : prBlk m c t = V m c main_cst_1 := by
  refine funext fun j => congrArg (V m c main_cst_1) (funext fun a => Fin.ext ?_)
  refine (slice_emb_val main_cst_1 _ _ _ _ a).trans ?_
  match a with
  | ⟨0, _⟩ => show cc0_transform_9 (grid0.coords t) 0 * 5 + (j 0).val = (j 0).val; rw [ix_9]; show 0 * 5 + _ = _; omega
  | ⟨1, _⟩ => show cc0_transform_9 (grid0.coords t) 1 * 16 + (j 1).val = (j 1).val; rw [ix_9]; show 0 * 16 + _ = _; omega
  | ⟨2, _⟩ => show cc0_transform_9 (grid0.coords t) 2 * 16 + (j 2).val = (j 2).val; rw [ix_9]; show 0 * 16 + _ = _; omega

theorem stBlk_at (c : Dev nD) (t : Fin grid0.N) (j : S1x4x192x384.Idx) :
    stBlk m c t j = V m c main_arg4 (ix4 ⟨t.val, lt_eight t⟩ (j 1) (j 2) (j 3)) := by
  refine congrArg (V m c main_arg4) (funext fun a => Fin.ext ?_)
  refine (slice_emb_val main_arg4 _ _ _ _ a).trans ?_
  have h0 : (j 0).val < 1 := (j 0).isLt
  match a with
  | ⟨0, _⟩ => show cc0_transform_10 (grid0.coords t) 0 * 1 + (j 0).val = t.val; rw [ix_10]; show t.val * 1 + _ = _; omega
  | ⟨1, _⟩ => show cc0_transform_10 (grid0.coords t) 1 * 4 + (j 1).val = (j 1).val; rw [ix_10]; show 0 * 4 + _ = _; omega
  | ⟨2, _⟩ => show cc0_transform_10 (grid0.coords t) 2 * 192 + (j 2).val = (j 2).val; rw [ix_10]; show 0 * 192 + _ = _; omega
  | ⟨3, _⟩ => show cc0_transform_10 (grid0.coords t) 3 * 384 + (j 3).val = (j 3).val; rw [ix_10]; show 0 * 384 + _ = _; omega

end Cert.KernelIdeal.Blk

end
-- ==== Proof.Gla.Gate.lean ====
module

public import Idealize.ShloMosaic.PureOps.Ideal
public import Idealize.ShloMosaic.PureOps.Ideal.Laws
public import Idealize.ShloMosaic.Lib.IdealHost

/-! The gate of gated linear attention over the extended reals.

The kernel writes the log decay of a gate input `z` with a softplus spelled out by a maximum, an
exponential and a logarithm, and multiplies by one sixteenth. The reference writes it as the logarithm of
the logistic function, whose softplus first subtracts zero and guards against a difference that is not a number,
and divides by sixteen. On a real `z` the two agree and the value is real, which `logDecay` records. -/

@[expose] public section

noncomputable section

namespace Cert.Gla

open Idealize.ShloMosaic

/-- The real number the gate input `z` is turned into: minus the softplus of minus `z`, over sixteen. -/
def logDecay (z : ℝ) : ℝ := -(max (-z) 0 + Real.log (1 + Real.exp (-|z|))) * (1 / 16)

theorem sixteen : Ideal.ofBits .f32 0x41800000#32 = ((16 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

theorem negInfinity : Ideal.ofBits .f32 0xFF800000#32 = ⊥ := by
  simp [Ideal.ofBits, Ideal.ieee]

theorem infinity : Ideal.ofBits .f32 0x7F800000#32 = ⊤ := by
  simp [Ideal.ofBits, Ideal.ieee]

theorem log_one_add_exp (y : ℝ) :
    Ideal.log ((1 : EReal) + ((Real.exp y : ℝ) : EReal)) = ((Real.log (1 + Real.exp y) : ℝ) : EReal) := by
  have hpos : (0 : ℝ) < 1 + Real.exp y := by positivity
  rw [← EReal.coe_one, ← EReal.coe_add, Ideal.log_coe, if_neg (not_le.mpr hpos)]

theorem coe_max_neg (z : ℝ) : max (z : EReal) (-(z : EReal)) = ((|z| : ℝ) : EReal) := by
  rw [← EReal.coe_neg]; exact (EReal.coe_strictMono.monotone.map_max).symm

theorem coe_max_zero (z : ℝ) : max (z : EReal) 0 = ((max z 0 : ℝ) : EReal) := by
  exact (EReal.coe_strictMono.monotone.map_max).symm

/-- The kernel's spelling. -/
theorem kernel_gate (z : ℝ) :
    ((0 : EReal) - (max (0 - (z : EReal)) 0
      + Ideal.log (1 + Ideal.exp (0 - max (0 - (z : EReal)) (-(0 - (z : EReal)))))))
      * ((1 / 16 : ℝ) : EReal) = ((logDecay z : ℝ) : EReal) := by
  have h0 : (0 : EReal) - (z : EReal) = ((-z : ℝ) : EReal) := by rw [zero_sub, ← EReal.coe_neg]
  rw [h0, coe_max_neg, coe_max_zero, abs_neg]
  have h1 : (0 : EReal) - ((|z| : ℝ) : EReal) = ((-|z| : ℝ) : EReal) := by rw [zero_sub, ← EReal.coe_neg]
  rw [h1, Ideal.exp_coe, log_one_add_exp, ← EReal.coe_add, zero_sub, ← EReal.coe_neg, ← EReal.coe_mul]
  rfl

/-- The reference's spelling, its guard already decided. -/
theorem reference_gate (z : ℝ) :
    Ideal.div (-(max (-(z : EReal)) 0
      + Ideal.log1p (Ideal.exp (-(max (-(z : EReal) - 0) (-(-(z : EReal) - 0)))))))
      ((16 : ℝ) : EReal) = ((logDecay z : ℝ) : EReal) := by
  rw [sub_zero, ← EReal.coe_neg, coe_max_neg, coe_max_zero, abs_neg, ← EReal.coe_neg, Ideal.exp_coe, Ideal.log1p,
    log_one_add_exp, ← EReal.coe_add, ← EReal.coe_neg, Ideal.div_coe (by norm_num), ← EReal.coe_mul]
  rfl

/-- A sum of products of reals is a real. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- An extended real below the infinity in absolute value is a real. -/
theorem exists_real_of_abs_lt {x : EReal} (h : max x (-x) < ⊤) : ∃ r : ℝ, x = (r : EReal) := by
  induction x with
  | bot => simp at h
  | coe r => exact ⟨r, rfl⟩
  | top => simp at h

end Cert.Gla

end
-- ==== Proof.Gla.Point.lean ====
module

public import proofs.«01_k».proof.Proof.Gla.Block
public import proofs.«01_k».proof.Proof.Gla.Gate
public import Idealize.ShloMosaic.PureOps.Ideal.Laws
public import Idealize.ShloMosaic.Lib.ValueIdx

@[expose] public section

/-! The head function at an index, at the ideal values. -/

set_option maxRecDepth 16384

noncomputable section

open scoped BigOperators
open Idealize.ShloMosaic Idealize.ShloMosaic.ValueIdx Idealize.ShloMosaic.TcCoe Idealize.SL.Sem

namespace Cert.KernelIdeal.Blk

open Cert.KernelIdeal Cert.KernelIdeal.Gen

/-! The products of two matrices, read at an index. -/

theorem mm_qk {φ₁ φ₂ : FTy} (l : FVec Ideal S16x256 φ₁) (r : FVec Ideal S16x256 φ₂) (i : S16x16.Idx) :
    FloatOps.matmul dot_S16x256_S16x256_S16x16_1_1_0_0_n_n none l r (constant S16x16 .f32 0x00000000#32) i = ∑ k : Fin 256, l (ix2 (i 0) k) * r (ix2 (i 1) k) := by
  have l0 : ∀ q, (dot_S16x256_S16x256_S16x16_1_1_0_0_n_n.lhsIdx i q 0).val = (i 0).val := fun q => by
    unfold DotDims.lhsIdx
    rw [dif_neg (show ¬(0 : Fin S16x256.rank) ∈ dot_S16x256_S16x256_S16x16_1_1_0_0_n_n.lhsBatch by decide),
      dif_pos (show (0 : Fin S16x256.rank) ∈ dot_S16x256_S16x256_S16x16_1_1_0_0_n_n.lhsNonContracting by decide)]
    rfl
  have l1 : ∀ q, (dot_S16x256_S16x256_S16x16_1_1_0_0_n_n.lhsIdx i q 1).val = (q ⟨0, by decide⟩).val := fun q => dot_S16x256_S16x256_S16x16_1_1_0_0_n_n.lhsIdx_val_of_single rfl i q
  have r0 : ∀ q, (dot_S16x256_S16x256_S16x16_1_1_0_0_n_n.rhsIdx i q 0).val = (i 1).val := fun q => by
    unfold DotDims.rhsIdx
    rw [dif_neg (show ¬(0 : Fin S16x256.rank) ∈ dot_S16x256_S16x256_S16x16_1_1_0_0_n_n.rhsBatch by decide),
      dif_pos (show (0 : Fin S16x256.rank) ∈ dot_S16x256_S16x256_S16x16_1_1_0_0_n_n.rhsNonContracting by decide)]
    rfl
  have r1 : ∀ q, (dot_S16x256_S16x256_S16x16_1_1_0_0_n_n.rhsIdx i q 1).val = (q ⟨0, by decide⟩).val := fun q => dot_S16x256_S16x256_S16x16_1_1_0_0_n_n.rhsIdx_val_of_single rfl i q
  rw [Ideal.matmul_constant_zero_apply, ← Equiv.sum_comp (contrEquiv1 dot_S16x256_S16x256_S16x16_1_1_0_0_n_n 256 rfl rfl).symm]
  refine Finset.sum_congr rfl fun k _ => ?_
  have hk := contrEquiv1_symm_val dot_S16x256_S16x256_S16x16_1_1_0_0_n_n 256 rfl rfl k
  have el : dot_S16x256_S16x256_S16x16_1_1_0_0_n_n.lhsIdx i ((contrEquiv1 dot_S16x256_S16x256_S16x16_1_1_0_0_n_n 256 rfl rfl).symm k) = ix2 (i 0) k :=
    funext fun a => Fin.ext (by match a with | ⟨0, _⟩ => exact l0 _ | ⟨1, _⟩ => exact (l1 _).trans hk)
  have er : dot_S16x256_S16x256_S16x16_1_1_0_0_n_n.rhsIdx i ((contrEquiv1 dot_S16x256_S16x256_S16x16_1_1_0_0_n_n 256 rfl rfl).symm k) = ix2 (i 1) k :=
    funext fun a => Fin.ext (by match a with | ⟨0, _⟩ => exact r0 _ | ⟨1, _⟩ => exact (r1 _).trans hk)
  exact congrArg₂ (· * ·) (congrArg l el) (congrArg r er)

theorem mm_av {φ₁ φ₂ : FTy} (l : FVec Ideal S16x16 φ₁) (r : FVec Ideal S16x384 φ₂) (i : S16x384.Idx) :
    FloatOps.matmul dot_S16x16_S16x384_S16x384_1_0_0_1_n_n none l r (constant S16x384 .f32 0x00000000#32) i = ∑ k : Fin 16, l (ix2 (i 0) k) * r (ix2 k (i 1)) := by
  have l0 : ∀ q, (dot_S16x16_S16x384_S16x384_1_0_0_1_n_n.lhsIdx i q 0).val = (i 0).val := fun q => by
    unfold DotDims.lhsIdx
    rw [dif_neg (show ¬(0 : Fin S16x16.rank) ∈ dot_S16x16_S16x384_S16x384_1_0_0_1_n_n.lhsBatch by decide),
      dif_pos (show (0 : Fin S16x16.rank) ∈ dot_S16x16_S16x384_S16x384_1_0_0_1_n_n.lhsNonContracting by decide)]
    rfl
  have l1 : ∀ q, (dot_S16x16_S16x384_S16x384_1_0_0_1_n_n.lhsIdx i q 1).val = (q ⟨0, by decide⟩).val := fun q => dot_S16x16_S16x384_S16x384_1_0_0_1_n_n.lhsIdx_val_of_single rfl i q
  have r0 : ∀ q, (dot_S16x16_S16x384_S16x384_1_0_0_1_n_n.rhsIdx i q 0).val = (q ⟨0, by decide⟩).val := fun q => dot_S16x16_S16x384_S16x384_1_0_0_1_n_n.rhsIdx_val_of_single rfl i q
  have r1 : ∀ q, (dot_S16x16_S16x384_S16x384_1_0_0_1_n_n.rhsIdx i q 1).val = (i 1).val := fun q => by
    unfold DotDims.rhsIdx
    rw [dif_neg (show ¬(1 : Fin S16x384.rank) ∈ dot_S16x16_S16x384_S16x384_1_0_0_1_n_n.rhsBatch by decide),
      dif_pos (show (1 : Fin S16x384.rank) ∈ dot_S16x16_S16x384_S16x384_1_0_0_1_n_n.rhsNonContracting by decide)]
    rfl
  rw [Ideal.matmul_constant_zero_apply, ← Equiv.sum_comp (contrEquiv1 dot_S16x16_S16x384_S16x384_1_0_0_1_n_n 16 rfl rfl).symm]
  refine Finset.sum_congr rfl fun k _ => ?_
  have hk := contrEquiv1_symm_val dot_S16x16_S16x384_S16x384_1_0_0_1_n_n 16 rfl rfl k
  have el : dot_S16x16_S16x384_S16x384_1_0_0_1_n_n.lhsIdx i ((contrEquiv1 dot_S16x16_S16x384_S16x384_1_0_0_1_n_n 16 rfl rfl).symm k) = ix2 (i 0) k :=
    funext fun a => Fin.ext (by match a with | ⟨0, _⟩ => exact l0 _ | ⟨1, _⟩ => exact (l1 _).trans hk)
  have er : dot_S16x16_S16x384_S16x384_1_0_0_1_n_n.rhsIdx i ((contrEquiv1 dot_S16x16_S16x384_S16x384_1_0_0_1_n_n 16 rfl rfl).symm k) = ix2 k (i 1) :=
    funext fun a => Fin.ext (by match a with | ⟨0, _⟩ => exact (r0 _).trans hk | ⟨1, _⟩ => exact r1 _)
  exact congrArg₂ (· * ·) (congrArg l el) (congrArg r er)

theorem mm_qs {φ₁ φ₂ : FTy} (l : FVec Ideal S16x256 φ₁) (r : FVec Ideal S384x256 φ₂) (i : S16x384.Idx) :
    FloatOps.matmul dot_S16x256_S384x256_S16x384_1_1_0_0_n_n none l r (constant S16x384 .f32 0x00000000#32) i = ∑ k : Fin 256, l (ix2 (i 0) k) * r (ix2 (i 1) k) := by
  have l0 : ∀ q, (dot_S16x256_S384x256_S16x384_1_1_0_0_n_n.lhsIdx i q 0).val = (i 0).val := fun q => by
    unfold DotDims.lhsIdx
    rw [dif_neg (show ¬(0 : Fin S16x256.rank) ∈ dot_S16x256_S384x256_S16x384_1_1_0_0_n_n.lhsBatch by decide),
      dif_pos (show (0 : Fin S16x256.rank) ∈ dot_S16x256_S384x256_S16x384_1_1_0_0_n_n.lhsNonContracting by decide)]
    rfl
  have l1 : ∀ q, (dot_S16x256_S384x256_S16x384_1_1_0_0_n_n.lhsIdx i q 1).val = (q ⟨0, by decide⟩).val := fun q => dot_S16x256_S384x256_S16x384_1_1_0_0_n_n.lhsIdx_val_of_single rfl i q
  have r0 : ∀ q, (dot_S16x256_S384x256_S16x384_1_1_0_0_n_n.rhsIdx i q 0).val = (i 1).val := fun q => by
    unfold DotDims.rhsIdx
    rw [dif_neg (show ¬(0 : Fin S384x256.rank) ∈ dot_S16x256_S384x256_S16x384_1_1_0_0_n_n.rhsBatch by decide),
      dif_pos (show (0 : Fin S384x256.rank) ∈ dot_S16x256_S384x256_S16x384_1_1_0_0_n_n.rhsNonContracting by decide)]
    rfl
  have r1 : ∀ q, (dot_S16x256_S384x256_S16x384_1_1_0_0_n_n.rhsIdx i q 1).val = (q ⟨0, by decide⟩).val := fun q => dot_S16x256_S384x256_S16x384_1_1_0_0_n_n.rhsIdx_val_of_single rfl i q
  rw [Ideal.matmul_constant_zero_apply, ← Equiv.sum_comp (contrEquiv1 dot_S16x256_S384x256_S16x384_1_1_0_0_n_n 256 rfl rfl).symm]
  refine Finset.sum_congr rfl fun k _ => ?_
  have hk := contrEquiv1_symm_val dot_S16x256_S384x256_S16x384_1_1_0_0_n_n 256 rfl rfl k
  have el : dot_S16x256_S384x256_S16x384_1_1_0_0_n_n.lhsIdx i ((contrEquiv1 dot_S16x256_S384x256_S16x384_1_1_0_0_n_n 256 rfl rfl).symm k) = ix2 (i 0) k :=
    funext fun a => Fin.ext (by match a with | ⟨0, _⟩ => exact l0 _ | ⟨1, _⟩ => exact (l1 _).trans hk)
  have er : dot_S16x256_S384x256_S16x384_1_1_0_0_n_n.rhsIdx i ((contrEquiv1 dot_S16x256_S384x256_S16x384_1_1_0_0_n_n 256 rfl rfl).symm k) = ix2 (i 1) k :=
    funext fun a => Fin.ext (by match a with | ⟨0, _⟩ => exact r0 _ | ⟨1, _⟩ => exact (r1 _).trans hk)
  exact congrArg₂ (· * ·) (congrArg l el) (congrArg r er)

theorem mm_vk {φ₁ φ₂ : FTy} (l : FVec Ideal S16x384 φ₁) (r : FVec Ideal S16x256 φ₂) (i : S384x256.Idx) :
    FloatOps.matmul dot_S16x384_S16x256_S384x256_0_0_1_1_n_n none l r (constant S384x256 .f32 0x00000000#32) i = ∑ k : Fin 16, l (ix2 k (i 0)) * r (ix2 k (i 1)) := by
  have l0 : ∀ q, (dot_S16x384_S16x256_S384x256_0_0_1_1_n_n.lhsIdx i q 0).val = (q ⟨0, by decide⟩).val := fun q => dot_S16x384_S16x256_S384x256_0_0_1_1_n_n.lhsIdx_val_of_single rfl i q
  have l1 : ∀ q, (dot_S16x384_S16x256_S384x256_0_0_1_1_n_n.lhsIdx i q 1).val = (i 0).val := fun q => by
    unfold DotDims.lhsIdx
    rw [dif_neg (show ¬(1 : Fin S16x384.rank) ∈ dot_S16x384_S16x256_S384x256_0_0_1_1_n_n.lhsBatch by decide),
      dif_pos (show (1 : Fin S16x384.rank) ∈ dot_S16x384_S16x256_S384x256_0_0_1_1_n_n.lhsNonContracting by decide)]
    rfl
  have r0 : ∀ q, (dot_S16x384_S16x256_S384x256_0_0_1_1_n_n.rhsIdx i q 0).val = (q ⟨0, by decide⟩).val := fun q => dot_S16x384_S16x256_S384x256_0_0_1_1_n_n.rhsIdx_val_of_single rfl i q
  have r1 : ∀ q, (dot_S16x384_S16x256_S384x256_0_0_1_1_n_n.rhsIdx i q 1).val = (i 1).val := fun q => by
    unfold DotDims.rhsIdx
    rw [dif_neg (show ¬(1 : Fin S16x256.rank) ∈ dot_S16x384_S16x256_S384x256_0_0_1_1_n_n.rhsBatch by decide),
      dif_pos (show (1 : Fin S16x256.rank) ∈ dot_S16x384_S16x256_S384x256_0_0_1_1_n_n.rhsNonContracting by decide)]
    rfl
  rw [Ideal.matmul_constant_zero_apply, ← Equiv.sum_comp (contrEquiv1 dot_S16x384_S16x256_S384x256_0_0_1_1_n_n 16 rfl rfl).symm]
  refine Finset.sum_congr rfl fun k _ => ?_
  have hk := contrEquiv1_symm_val dot_S16x384_S16x256_S384x256_0_0_1_1_n_n 16 rfl rfl k
  have el : dot_S16x384_S16x256_S384x256_0_0_1_1_n_n.lhsIdx i ((contrEquiv1 dot_S16x384_S16x256_S384x256_0_0_1_1_n_n 16 rfl rfl).symm k) = ix2 k (i 0) :=
    funext fun a => Fin.ext (by match a with | ⟨0, _⟩ => exact (l0 _).trans hk | ⟨1, _⟩ => exact l1 _)
  have er : dot_S16x384_S16x256_S384x256_0_0_1_1_n_n.rhsIdx i ((contrEquiv1 dot_S16x384_S16x256_S384x256_0_0_1_1_n_n 16 rfl rfl).symm k) = ix2 k (i 1) :=
    funext fun a => Fin.ext (by match a with | ⟨0, _⟩ => exact (r0 _).trans hk | ⟨1, _⟩ => exact r1 _)
  exact congrArg₂ (· * ·) (congrArg l el) (congrArg r er)

theorem mm_run {φ₁ φ₂ : FTy} (l : FVec Ideal S96x16 φ₁) (r : FVec Ideal S16x1024 φ₂) (i : S96x1024.Idx) :
    FloatOps.matmul dot_S96x16_S16x1024_S96x1024_1_0_0_1_n_n none l r (constant S96x1024 .f32 0x00000000#32) i = ∑ k : Fin 16, l (ix2 (i 0) k) * r (ix2 k (i 1)) := by
  have l0 : ∀ q, (dot_S96x16_S16x1024_S96x1024_1_0_0_1_n_n.lhsIdx i q 0).val = (i 0).val := fun q => by
    unfold DotDims.lhsIdx
    rw [dif_neg (show ¬(0 : Fin S96x16.rank) ∈ dot_S96x16_S16x1024_S96x1024_1_0_0_1_n_n.lhsBatch by decide),
      dif_pos (show (0 : Fin S96x16.rank) ∈ dot_S96x16_S16x1024_S96x1024_1_0_0_1_n_n.lhsNonContracting by decide)]
    rfl
  have l1 : ∀ q, (dot_S96x16_S16x1024_S96x1024_1_0_0_1_n_n.lhsIdx i q 1).val = (q ⟨0, by decide⟩).val := fun q => dot_S96x16_S16x1024_S96x1024_1_0_0_1_n_n.lhsIdx_val_of_single rfl i q
  have r0 : ∀ q, (dot_S96x16_S16x1024_S96x1024_1_0_0_1_n_n.rhsIdx i q 0).val = (q ⟨0, by decide⟩).val := fun q => dot_S96x16_S16x1024_S96x1024_1_0_0_1_n_n.rhsIdx_val_of_single rfl i q
  have r1 : ∀ q, (dot_S96x16_S16x1024_S96x1024_1_0_0_1_n_n.rhsIdx i q 1).val = (i 1).val := fun q => by
    unfold DotDims.rhsIdx
    rw [dif_neg (show ¬(1 : Fin S16x1024.rank) ∈ dot_S96x16_S16x1024_S96x1024_1_0_0_1_n_n.rhsBatch by decide),
      dif_pos (show (1 : Fin S16x1024.rank) ∈ dot_S96x16_S16x1024_S96x1024_1_0_0_1_n_n.rhsNonContracting by decide)]
    rfl
  rw [Ideal.matmul_constant_zero_apply, ← Equiv.sum_comp (contrEquiv1 dot_S96x16_S16x1024_S96x1024_1_0_0_1_n_n 16 rfl rfl).symm]
  refine Finset.sum_congr rfl fun k _ => ?_
  have hk := contrEquiv1_symm_val dot_S96x16_S16x1024_S96x1024_1_0_0_1_n_n 16 rfl rfl k
  have el : dot_S96x16_S16x1024_S96x1024_1_0_0_1_n_n.lhsIdx i ((contrEquiv1 dot_S96x16_S16x1024_S96x1024_1_0_0_1_n_n 16 rfl rfl).symm k) = ix2 (i 0) k :=
    funext fun a => Fin.ext (by match a with | ⟨0, _⟩ => exact l0 _ | ⟨1, _⟩ => exact (l1 _).trans hk)
  have er : dot_S96x16_S16x1024_S96x1024_1_0_0_1_n_n.rhsIdx i ((contrEquiv1 dot_S96x16_S16x1024_S96x1024_1_0_0_1_n_n 16 rfl rfl).symm k) = ix2 k (i 1) :=
    funext fun a => Fin.ext (by match a with | ⟨0, _⟩ => exact (r0 _).trans hk | ⟨1, _⟩ => exact r1 _)
  exact congrArg₂ (· * ·) (congrArg l el) (congrArg r er)

theorem mm_lr {φ₁ φ₂ : FTy} (l : FVec Ideal S16x128 φ₁) (r : FVec Ideal S128x1024 φ₂) (i : S16x1024.Idx) :
    FloatOps.matmul dot_S16x128_S128x1024_S16x1024_1_0_0_1_n_n none l r (constant S16x1024 .f32 0x00000000#32) i = ∑ k : Fin 128, l (ix2 (i 0) k) * r (ix2 k (i 1)) := by
  have l0 : ∀ q, (dot_S16x128_S128x1024_S16x1024_1_0_0_1_n_n.lhsIdx i q 0).val = (i 0).val := fun q => by
    unfold DotDims.lhsIdx
    rw [dif_neg (show ¬(0 : Fin S16x128.rank) ∈ dot_S16x128_S128x1024_S16x1024_1_0_0_1_n_n.lhsBatch by decide),
      dif_pos (show (0 : Fin S16x128.rank) ∈ dot_S16x128_S128x1024_S16x1024_1_0_0_1_n_n.lhsNonContracting by decide)]
    rfl
  have l1 : ∀ q, (dot_S16x128_S128x1024_S16x1024_1_0_0_1_n_n.lhsIdx i q 1).val = (q ⟨0, by decide⟩).val := fun q => dot_S16x128_S128x1024_S16x1024_1_0_0_1_n_n.lhsIdx_val_of_single rfl i q
  have r0 : ∀ q, (dot_S16x128_S128x1024_S16x1024_1_0_0_1_n_n.rhsIdx i q 0).val = (q ⟨0, by decide⟩).val := fun q => dot_S16x128_S128x1024_S16x1024_1_0_0_1_n_n.rhsIdx_val_of_single rfl i q
  have r1 : ∀ q, (dot_S16x128_S128x1024_S16x1024_1_0_0_1_n_n.rhsIdx i q 1).val = (i 1).val := fun q => by
    unfold DotDims.rhsIdx
    rw [dif_neg (show ¬(1 : Fin S128x1024.rank) ∈ dot_S16x128_S128x1024_S16x1024_1_0_0_1_n_n.rhsBatch by decide),
      dif_pos (show (1 : Fin S128x1024.rank) ∈ dot_S16x128_S128x1024_S16x1024_1_0_0_1_n_n.rhsNonContracting by decide)]
    rfl
  rw [Ideal.matmul_constant_zero_apply, ← Equiv.sum_comp (contrEquiv1 dot_S16x128_S128x1024_S16x1024_1_0_0_1_n_n 128 rfl rfl).symm]
  refine Finset.sum_congr rfl fun k _ => ?_
  have hk := contrEquiv1_symm_val dot_S16x128_S128x1024_S16x1024_1_0_0_1_n_n 128 rfl rfl k
  have el : dot_S16x128_S128x1024_S16x1024_1_0_0_1_n_n.lhsIdx i ((contrEquiv1 dot_S16x128_S128x1024_S16x1024_1_0_0_1_n_n 128 rfl rfl).symm k) = ix2 (i 0) k :=
    funext fun a => Fin.ext (by match a with | ⟨0, _⟩ => exact l0 _ | ⟨1, _⟩ => exact (l1 _).trans hk)
  have er : dot_S16x128_S128x1024_S16x1024_1_0_0_1_n_n.rhsIdx i ((contrEquiv1 dot_S16x128_S128x1024_S16x1024_1_0_0_1_n_n 128 rfl rfl).symm k) = ix2 k (i 1) :=
    funext fun a => Fin.ext (by match a with | ⟨0, _⟩ => exact (r0 _).trans hk | ⟨1, _⟩ => exact r1 _)
  exact congrArg₂ (· * ·) (congrArg l el) (congrArg r er)

/-- The weights at an index: the exponential of the sums of the log-decays. -/
theorem weights_at (sm : Vec Ideal S96x16 .bf16) (la : Vec Ideal S16x1024 .bf16) (h : Fin 4) (r : Fin 96) (d : Fin 256) :
    weightsOf (k0_pay12 sm la) h (ix2 r d) = Ideal.exp (∑ t : Fin 16, sm (ix2 r t) * la (ix2 t ⟨256 * h.val + d.val, by omega⟩)) :=
  congrArg Ideal.exp (mm_run (φ₁ := .bf16) (φ₂ := .bf16) sm la _)

theorem rowsAt (o : Nat) (W : FVec Ideal S96x256 .f32) (hs : S96x256.Slices ![o, 0] S16x256) (ho : o + 16 ≤ 96) (j : S16x256.Idx) :
    extractStridedSlice S16x256 ![o, 0] W hs j = W (ix2 ⟨o + (j 0).val, by have := idx2_lt0 j; omega⟩ (j 1)) :=
  extractStridedSlice_apply _ W hs j _ fun a => by match a with | ⟨0, _⟩ => rfl | ⟨1, _⟩ => exact (Nat.zero_add _).symm

theorem table_at (p : Vec Ideal S1x16x16 .f32) (i : S16x16.Idx) :
    shapeCast S16x16 p shapeCasts_S1x16x16_S16x16 i = p (ix3 0 (i 0) (i 1)) :=
  shapeCast_apply p _ i (ix3 0 (i 0) (i 1)) (by
    rewrite [Shape.rowMajor_val_three, Shape.rowMajor_val_two]
    show (0 * 16 + (i 0).val) * 16 + (i 1).val = (i 0).val * 16 + (i 1).val
    omega)

/-- One level's scores at an index. -/
theorem level_at (p : Vec Ideal S1x16x16 .f32) (q k w : FVec Ideal S16x256 .f32) (i : S16x16.Idx) :
    level p q k w i = p (ix3 0 (i 0) (i 1)) * ∑ d : Fin 256, (q (ix2 (i 0) d) * w (ix2 (i 0) d)) * (k (ix2 (i 1) d) * w (ix2 (i 1) d)) :=
  congrArg₂ (· * ·) (table_at p i) (mm_qk (φ₁ := .bf16) (φ₂ := .bf16) _ _ i)

/-- A level's scores, as a function of the first row of its weights. -/
def levelSum (W : FVec Ideal S96x256 .f32) (q k : FVec Ideal S16x256 .bf16) (o : Nat) (ho : o + 16 ≤ 96) (i j : Fin 16) : EReal :=
  ∑ d : Fin 256, (q (ix2 i d) * W (ix2 ⟨o + i.val, by omega⟩ d)) * (k (ix2 j d) * W (ix2 ⟨o + j.val, by omega⟩ d))

theorem scores_at (W : FVec Ideal S96x256 .f32) (q k : FVec Ideal S16x256 .bf16) (p4 p0 p1 p2 p3 : Vec Ideal S1x16x16 .f32) (i j : Fin 16) :
    scores W q k p4 p0 p1 p2 p3 (ix2 i j)
      = p4 (ix3 0 i j) * (∑ d : Fin 256, q (ix2 i d) * k (ix2 j d)) + p0 (ix3 0 i j) * levelSum W q k 0 (by decide) i j
        + p1 (ix3 0 i j) * levelSum W q k 16 (by decide) i j + p2 (ix3 0 i j) * levelSum W q k 32 (by decide) i j
        + p3 (ix3 0 i j) * levelSum W q k 48 (by decide) i j := by
  have e : ∀ (o : Nat) (ho : o + 16 ≤ 96) (hs : S96x256.Slices ![o, 0] S16x256) (p : Vec Ideal S1x16x16 .f32),
      level p (extf .f32 q bitsLt_bf16_f32) (extf .f32 k bitsLt_bf16_f32) (extractStridedSlice S16x256 ![o, 0] W hs) (ix2 i j)
        = p (ix3 0 i j) * levelSum W q k o ho i j := fun o ho hs p => by
    rw [level_at]
    refine congrArg (p (ix3 0 i j) * ·) (Finset.sum_congr rfl fun d _ => ?_)
    rw [rowsAt o W hs ho, rowsAt o W hs ho]
    rfl
  refine congrArg₂ (· + ·) (congrArg₂ (· + ·) (congrArg₂ (· + ·) (congrArg₂ (· + ·) ?_ (e 0 _ _ p0)) (e 16 _ _ p1)) (e 32 _ _ p2)) (e 48 _ _ p3)
  exact congrArg₂ (· * ·) (table_at p4 (ix2 i j)) (mm_qk (φ₁ := .bf16) (φ₂ := .bf16) _ _ _)

theorem headOut_at (W : FVec Ideal S96x256 .f32) (q k : FVec Ideal S16x256 .bf16) (v : FVec Ideal S16x384 .bf16)
    (p4 p0 p1 p2 p3 : Vec Ideal S1x16x16 .f32) (st : FVec Ideal S384x256 .f32) (i : Fin 16) (n : Fin 384) :
    headOut W q k v p4 p0 p1 p2 p3 st (ix2 i n)
      = (∑ j : Fin 16, scores W q k p4 p0 p1 p2 p3 (ix2 i j) * v (ix2 j n))
        + ∑ d : Fin 256, (q (ix2 i d) * W (ix2 ⟨64 + i.val, by omega⟩ d)) * st (ix2 n d) := by
  refine congrArg₂ (· + ·) (mm_av (φ₁ := .bf16) (φ₂ := .bf16) _ _ _) ((mm_qs (φ₁ := .bf16) (φ₂ := .bf16) _ _ _).trans (Finset.sum_congr rfl fun d _ => ?_))
  refine congrArg (· * st (ix2 n d)) (congrArg (q (ix2 i d) * ·) ?_)
  exact rowsAt 64 W _ (by decide) (ix2 i d)

theorem headState_at (W : FVec Ideal S96x256 .f32) (k : FVec Ideal S16x256 .bf16) (v : FVec Ideal S16x384 .bf16)
    (st : FVec Ideal S384x256 .f32) (n : Fin 384) (d : Fin 256) :
    headState W k v st (ix2 n d)
      = st (ix2 n d) * W (ix2 79 d) + ∑ j : Fin 16, v (ix2 j n) * (k (ix2 j d) * W (ix2 ⟨80 + j.val, by omega⟩ d)) := by
  refine congrArg₂ (· + ·) (congrArg (st (ix2 n d) * ·) ?_) ((mm_vk (φ₁ := .bf16) (φ₂ := .bf16) _ _ _).trans (Finset.sum_congr rfl fun j _ => ?_))
  · refine (broadcastTo_apply _ broadcasts_S1x256_S384x256 (ix2 n d) (ix2 (0 : Fin 1) d) fun a => by
      match a with | ⟨0, _⟩ => rfl | ⟨1, _⟩ => rfl).trans ?_
    refine (extractStridedSlice_apply _ _ slices_S16x256_o15_0_S1x256 (ix2 (0 : Fin 1) d) (ix2 (15 : Fin 16) d) fun a => by
      match a with | ⟨0, _⟩ => rfl | ⟨1, _⟩ => exact (Nat.zero_add _).symm).trans ?_
    exact rowsAt 64 W _ (by decide) (ix2 15 d)
  · refine congrArg (v (ix2 j n) * ·) (congrArg (k (ix2 j d) * ·) ?_)
    exact rowsAt 80 W _ (by decide) (ix2 j d)

theorem stateIn_at (s : Vec Ideal S1x1x192x384 .f32) (n : Fin 384) (d : Fin 256) :
    stateIn s (ix2 n d) = if h : d.val < 192 then s (ix4 0 0 ⟨d.val, h⟩ n) else 0 := by
  refine (transpose_apply [1, 0] _ transposes_S256x384_p1_0_S384x256 (ix2 n d) (ix2 d n) fun b => by
    match b with | ⟨0, _⟩ => rfl | ⟨1, _⟩ => rfl).trans ?_
  by_cases h : d.val < 192
  · rw [dif_pos h]
    refine (concatenate_pair_apply_left (s₁ := S192x384) (s₂ := S64x384) 0 _ _ concatenates_S192x384_S64x384_S256x384_d0 (ix2 d n) rfl
      (ix2 ⟨d.val, h⟩ n) fun b => by match b with | ⟨0, _⟩ => rfl | ⟨1, _⟩ => rfl).trans ?_
    exact shapeCast_apply s _ _ (ix4 0 0 ⟨d.val, h⟩ n) (by
      rewrite [Shape.rowMajor_val_four, Shape.rowMajor_val_two]
      show ((0 * 1 + 0) * 192 + d.val) * 384 + n.val = d.val * 384 + n.val
      omega)
  · rw [dif_neg h]
    refine (concatenate_pair_apply_right (s₁ := S192x384) (s₂ := S64x384) 0 _ _ concatenates_S192x384_S64x384_S256x384_d0 (ix2 d n) rfl rfl
      (ix2 ⟨d.val - 192, by omega⟩ n) (fun b hb => by
        match b with | ⟨0, _⟩ => exact absurd rfl hb | ⟨1, _⟩ => rfl)
      (by show d.val - 192 + 192 = d.val; omega)).trans ?_
    exact Ideal.ofBits_zero_f32

theorem stateOut_at (s : FVec Ideal S384x256 .f32) (d : Fin 192) (n : Fin 384) :
    stateOut s (ix4 0 0 d n) = s (ix2 n ⟨d.val, by omega⟩) := by
  refine (shapeCast_apply _ _ (ix4 0 0 d n) (ix2 d n) (by
    rewrite [Shape.rowMajor_val_four, Shape.rowMajor_val_two]
    show d.val * 384 + n.val = ((0 * 1 + 0) * 192 + d.val) * 384 + n.val
    omega)).trans ?_
  refine (extractStridedSlice_apply _ _ slices_S256x384_o0_0_S192x384 (ix2 d n) (ix2 (⟨d.val, by omega⟩ : Fin 256) n) fun a => by
    match a with | ⟨0, _⟩ => exact (Nat.zero_add _).symm | ⟨1, _⟩ => exact (Nat.zero_add _).symm).trans ?_
  exact transpose_apply [1, 0] s transposes_S384x256_p1_0_S256x384 _ (ix2 n ⟨d.val, by omega⟩) fun b => by
    match b with | ⟨0, _⟩ => rfl | ⟨1, _⟩ => rfl

theorem gated_at (o : FVec Ideal S16x384 .f32) (gn : Vec Ideal S1x384 .f32) (g : Vec Ideal S16x384 .bf16) (i : Fin 16) (n : Fin 384) :
    gated o gn g (ix2 i n)
      = (o (ix2 i n) * Ideal.rsqrt (Ideal.div (∑ e : Fin 384, o (ix2 i e) * o (ix2 i e)) (Ideal.ofBits .f32 0x43C00000#32) + Ideal.ofBits .f32 0x358637BD#32)
          * gn (ix2 0 n))
        * (g (ix2 i n) * Ideal.div 1 (1 + Ideal.exp (0 - g (ix2 i n)))) := by
  have hs : ∀ r : Fin 16, shapeCast S16x1 (multiReduction .add [1] S16 (mulf o o) 0x00000000#32 reduces_S16x384_S16 (.inl rfl) rfl)
      shapeCasts_S16_S16x1 (ix2 r 0) = ∑ e : Fin 384, o (ix2 r e) * o (ix2 r e) := fun r => by
    refine (shapeCast_apply _ _ (ix2 r 0) (ix1 r) (by
      rewrite [Shape.rowMajor_val_one, Shape.rowMajor_val_two]
      show r.val = r.val * 1 + 0
      omega)).trans ?_
    refine (Ideal.multiReduction_add_single _ _ _ _ _ (ix1 r)).trans (Finset.sum_congr rfl fun e _ => ?_)
    have el : reduces_S16x384_S16.lift (ix1 r) e = ix2 r e := funext fun a => by
      match a with | ⟨0, _⟩ => rfl | ⟨1, _⟩ => rfl
    exact congrArg (fun z => o z * o z) el
  refine congrArg₂ (· * ·) (congrArg₂ (· * ·) (congrArg (o (ix2 i n) * ·) ?_) ?_) (congrArg (g (ix2 i n) * ·) ?_)
  · refine (broadcastTo_apply _ broadcasts_S16x1_S16x384 (ix2 i n) (ix2 i (0 : Fin 1)) fun a => by
      match a with | ⟨0, _⟩ => rfl | ⟨1, _⟩ => rfl).trans ?_
    exact congrArg (fun z => Ideal.rsqrt (Ideal.div z (Ideal.ofBits .f32 0x43C00000#32) + Ideal.ofBits .f32 0x358637BD#32)) (hs i)
  · exact broadcastTo_apply gn broadcasts_S1x384_S16x384 (ix2 i n) (ix2 (0 : Fin 1) n) fun a => by
      match a with | ⟨0, _⟩ => rfl | ⟨1, _⟩ => rfl
  · show Ideal.div (Ideal.ofBits .f32 0x3F800000#32) (Ideal.ofBits .f32 0x3F800000#32 + Ideal.exp (Ideal.ofBits .f32 0x00000000#32 - g (ix2 i n))) = _
    rw [Ideal.ofBits_zero_f32, Ideal.ofBits_one_f32]

end Cert.KernelIdeal.Blk

end
-- ==== Proof.Gla.Levels.lean ====
module

public import proofs.«01_k».proof.Proof.Gla.Gate

/-! The halving of a block of sixteen tokens.

The kernel never forms the decay between two tokens. It cuts the block in halves, the halves in halves, and so on,
four times. At each level a token carries the product of the decays between itself and the middle of its part, and
a pair of tokens is scored at the one level at which the two lie in different halves of the same part. The tables
below say which steps each token's product runs over (`runs`) and which pairs a level scores (`scored`); the lemma
`runs_add` is what makes the product of the two tokens' products the decay between them. -/

@[expose] public section

noncomputable section

namespace Cert.Gla

open Idealize.ShloMosaic

/-- The half length at a level: eight, four, two, one. -/
def half (l : Nat) : Nat := 8 >>> l

/-- The last index of the first half of the part that token `i` lies in. -/
def mid (l i : Nat) : Nat := i / (2 * half l) * 2 * half l + half l - 1

/-- Is step `t` among those that token `i`'s product at level `l` runs over? Four and five are the two ends:
    every step up to the token, and every step after it. -/
def runs (l i t : Nat) : Bool :=
  if l < 4 then
    if half l ≤ i % (2 * half l) then decide (mid l i < t ∧ t ≤ i) else decide (i < t ∧ t ≤ mid l i)
  else if l = 4 then decide (t ≤ i) else decide (i < t)

/-- Does level `l` score the pair `(i, j)`? Four is the diagonal. -/
def scored (l i j : Nat) : Bool :=
  if l < 4 then
    decide (i / (2 * half l) = j / (2 * half l)) && decide (half l ≤ i % (2 * half l)) && decide (j % (2 * half l) < half l)
  else decide (i = j)

/-- The level that scores the pair: four on the diagonal, five for a token after `i`. -/
def levelOf (i j : Nat) : Nat :=
  if i < j then 5 else if i = j then 4
  else if i / 2 = j / 2 then 3 else if i / 4 = j / 4 then 2 else if i / 8 = j / 8 then 1 else 0

theorem scored_iff : ∀ (l : Fin 5) (i j : Fin 16), scored l.val i.val j.val = decide (levelOf i.val j.val = l.val) := by
  decide +kernel

theorem runs_add : ∀ (i j t : Fin 16), levelOf i.val j.val < 4 →
    (runs (levelOf i.val j.val) i.val t.val).toNat + (runs (levelOf i.val j.val) j.val t.val).toNat + (runs 4 j.val t.val).toNat
      = (runs 4 i.val t.val).toNat := by
  decide +kernel

theorem levelOf_lt : ∀ (i j : Fin 16), j < i → levelOf i.val j.val < 4 := by decide +kernel

theorem runs_last : ∀ (i t : Fin 16), (runs 5 i.val t.val).toNat + (runs 4 i.val t.val).toNat = (runs 4 15 t.val).toNat := by
  decide +kernel

/-- A truth value as an extended real. -/
def bit (b : Bool) : EReal := if b then 1 else 0

theorem bit_eq (b : Bool) : bit b = ((b.toNat : ℝ) : EReal) := by cases b <;> simp [bit]

/-- The sum of the log decays a token's product runs over. -/
def runSum (a : Fin 16 → ℝ) (l i : Nat) : ℝ := ∑ t : Fin 16, ((runs l i t.val).toNat : ℝ) * a t

theorem sum_bit_mul (a : Fin 16 → ℝ) (l i : Nat) :
    (∑ t : Fin 16, bit (runs l i t.val) * ((a t : ℝ) : EReal)) = ((runSum a l i : ℝ) : EReal) := by
  unfold runSum
  rw [← sum_coe]
  exact Finset.sum_congr rfl fun t _ => by rw [bit_eq, EReal.coe_mul]

theorem runSum_add (a : Fin 16 → ℝ) (i j : Fin 16) (h : j < i) :
    runSum a (levelOf i.val j.val) i.val + runSum a (levelOf i.val j.val) j.val = runSum a 4 i.val - runSum a 4 j.val := by
  have hl := levelOf_lt i j h
  rw [eq_sub_iff_add_eq]
  unfold runSum
  rw [← Finset.sum_add_distrib, ← Finset.sum_add_distrib]
  refine Finset.sum_congr rfl fun t _ => ?_
  rw [← add_mul, ← add_mul]
  congr 1
  exact_mod_cast runs_add i j t hl

theorem runSum_last (a : Fin 16 → ℝ) (i : Fin 16) : runSum a 5 i.val = runSum a 4 15 - runSum a 4 i.val := by
  rw [eq_sub_iff_add_eq]
  unfold runSum
  rw [← Finset.sum_add_distrib]
  refine Finset.sum_congr rfl fun t _ => ?_
  rw [← add_mul]
  congr 1
  exact_mod_cast runs_last i t

/-- The decay a token's product stands for. -/
def run (a : Fin 16 → ℝ) (l i : Nat) : EReal := ((Real.exp (runSum a l i) : ℝ) : EReal)

/-- The decay from token `j` to token `i`: the exponential of the difference of the two running sums up to the
    diagonal, and zero above it. -/
def decay (a : Fin 16 → ℝ) (i j : Fin 16) : EReal :=
  if j ≤ i then ((Real.exp (runSum a 4 i.val - runSum a 4 j.val) : ℝ) : EReal) else 0

variable {D : Type} [Fintype D]

/-- One level's score of a pair, before it is masked. -/
def levelScore (a : D → Fin 16 → ℝ) (q k : Fin 16 → D → EReal) (l : Nat) (i j : Fin 16) : EReal :=
  ∑ d, (q i d * run (a d) l i.val) * (k j d * run (a d) l j.val)

theorem levelScore_eq (a : D → Fin 16 → ℝ) (q k : Fin 16 → D → EReal) (i j : Fin 16) (h : j < i) :
    levelScore a q k (levelOf i.val j.val) i j = ∑ d, q i d * decay (a d) i j * k j d := by
  unfold levelScore decay run
  refine Finset.sum_congr rfl fun d _ => ?_
  rw [if_pos h.le, ← runSum_add (a d) i j h, Real.exp_add, EReal.coe_mul]
  ac_rfl

/-- THE SCORES. The diagonal and the four levels, each masked by its table, add up to the score with the decay
    between the two tokens. -/
theorem scores_eq (a : D → Fin 16 → ℝ) (q k : Fin 16 → D → EReal) (i j : Fin 16) :
    bit (scored 4 i.val j.val) * (∑ d, q i d * k j d)
      + bit (scored 0 i.val j.val) * levelScore a q k 0 i j
      + bit (scored 1 i.val j.val) * levelScore a q k 1 i j
      + bit (scored 2 i.val j.val) * levelScore a q k 2 i j
      + bit (scored 3 i.val j.val) * levelScore a q k 3 i j
      = ∑ d, q i d * decay (a d) i j * k j d := by
  have s (l : Fin 5) : scored l.val i.val j.val = decide (levelOf i.val j.val = l.val) := scored_iff l i j
  have s0 := s 0; have s1 := s 1; have s2 := s 2; have s3 := s 3; have s4 := s 4
  simp only [Fin.val_zero, Fin.val_one, Fin.val_two, show ((3 : Fin 5) : Nat) = 3 from rfl,
    show ((4 : Fin 5) : Nat) = 4 from rfl] at s0 s1 s2 s3 s4
  rw [s0, s1, s2, s3, s4]
  rcases lt_trichotomy i j with h | h | h
  · have hl : levelOf i.val j.val = 5 := by exact if_pos h
    have hz : (∑ d, q i d * decay (a d) i j * k j d) = 0 :=
      Finset.sum_eq_zero fun d _ => by rw [decay, if_neg (not_le.mpr h), mul_zero, zero_mul]
    rw [hl, hz]; simp [bit]
  · subst h
    have hl : levelOf i.val i.val = 4 := by simp [levelOf]
    rw [hl]
    simp only [bit, decay]
    simp
  · have key := levelScore_eq a q k i j h
    have hl := levelOf_lt i j h
    rw [← key]
    generalize levelOf i.val j.val = n at *
    interval_cases n <;> simp [bit]

/-- A bounded sum of the log decays, as the reference's running sum. -/
theorem runSum_four (a : Fin 16 → ℝ) (i : Fin 16) :
    runSum a 4 i.val = ∑ t ∈ Finset.univ.filter (fun t : Fin 16 => t ≤ i), a t := by
  unfold runSum
  rw [Finset.sum_filter]
  refine Finset.sum_congr rfl fun t _ => ?_
  by_cases h : t ≤ i
  · have : t.val ≤ i.val := h
    simp [runs, h, this]
  · have : ¬ t.val ≤ i.val := h
    simp [runs, h, this]

end Cert.Gla

end
-- ==== Proof.Gla.Tables.lean ====
module

public import proofs.«01_k».proof.Proof.Gen.KernelIdeal.Frame
public import proofs.«01_k».proof.Proof.Gla.Levels
public import Idealize.ShloMosaic.Lib.IdealHost

@[expose] public section

/-! The three tables of literals: the columns' scales, the sums of each row, and the pairs of each level. -/

set_option maxRecDepth 16384

noncomputable section

open Idealize.ShloMosaic

namespace Cert.KernelIdeal.Blk

open Cert.KernelIdeal Cert.KernelIdeal.Gen Cert.Gla

/-- The queries' columns carry the scale. -/
theorem scale_q (j : Fin 1024) : lit0 ⟨3072 + j.val, by omega⟩ = 0x3D93CD3A#32 := by
  revert j; decide +kernel
/-- The values' and gates' columns are unscaled. -/
theorem scale_vg (j : Fin 3072) : lit0 ⟨j.val, by omega⟩ = 0x3F800000#32 := by
  revert j; decide +kernel
/-- So are the keys' … -/
theorem scale_k (j : Fin 1024) : lit0 ⟨4096 + j.val, by omega⟩ = 0x3F800000#32 := by
  revert j; decide +kernel
/-- … and the low-rank columns. -/
theorem scale_lr (j : Fin 128) : lit0 ⟨5632 + j.val, by omega⟩ = 0x3F800000#32 := by
  revert j; decide +kernel

/-- Row `16 l + i` of the sums marks the positions that level `l` sums at `i`. -/
theorem sums_bits (l : Fin 6) (i t : Fin 16) :
    lit1 ⟨(16 * l.val + i.val) * 16 + t.val, by omega⟩ = if runs l.val i t then 0x3F80#16 else 0x0000#16 := by
  revert l i t; decide +kernel

/-- Table `l` of the pairs marks the pairs that level `l` scores. -/
theorem pairs_bits (l : Fin 5) (i j : Fin 16) :
    lit2 ⟨(l.val * 16 + i.val) * 16 + j.val, by omega⟩ = if scored l.val i j then 0x3F800000#32 else 0x00000000#32 := by
  revert l i j; decide +kernel

end Cert.KernelIdeal.Blk

end
-- ==== Proof.Gla.Staged.lean ====
module

public import proofs.«01_k».proof.Proof.Gla.Host
public import proofs.«01_k».proof.Proof.Gla.Windows
public import proofs.«01_k».proof.Proof.Gla.Point
public import proofs.«01_k».proof.Proof.Gla.Tables
public import Idealize.ShloMosaic.Lib.KernelVsHost
public import Idealize.ShloMosaic.Lib.IdealHost

@[expose] public section

/-! The staged arrays at an index: the arguments' entries, zero in the padding, the queries scaled. -/

set_option maxRecDepth 16384

noncomputable section

open Idealize.ShloMosaic Idealize.ShloMosaic.ValueIdx Idealize.ShloMosaic.TcCoe Idealize.SL.Sem

namespace Cert.KernelIdeal.Blk

open Cert.KernelIdeal Cert.KernelIdeal.Gen Cert.Gla

/-- An entry of the projections. -/
theorem rows_at (p : Vec Ideal S8x16x5136 .f32) (t : Fin grid0.N) (i : Fin 16) (j : Fin 5136) :
    rows p (ix2 (rowAt t i) j) = p (ix3 ⟨t.val, lt_eight t⟩ i j) :=
  shapeCast_apply p _ _ _ (by
    rewrite [Shape.rowMajor_val_three, Shape.rowMajor_val_two]
    show (t.val * 16 + i.val) * 5136 + j.val = (16 * t.val + i.val) * 5136 + j.val
    omega)

theorem padZero_at (i : S_.Idx) : padZero (F := Ideal) i = 0 := sitofp_zero

theorem padHeads_at (x : FVec Ideal S128x768 .f32) (r : Fin 128) (h : Fin 4) (d : Fin 256) :
    padHeads x (ix2 r ⟨256 * h.val + d.val, by omega⟩) = if hd : d.val < 192 then x (ix2 r ⟨192 * h.val + d.val, by omega⟩) else 0 := by
  refine (shapeCast_apply _ _ _ (ix3 r h d) (by
    rewrite [Shape.rowMajor_val_three, Shape.rowMajor_val_two]
    show (r.val * 4 + h.val) * 256 + d.val = r.val * 1024 + (256 * h.val + d.val)
    omega)).trans ?_
  by_cases hd : d.val < 192
  · rw [dif_pos hd]
    refine (pad_apply_of_inside _ _ _ _ _ _ _ (ix3 r h d) (ix3 r h ⟨d.val, hd⟩) fun a => by
      match a with
      | ⟨0, _⟩ => show r.val = 0 + r.val * 1; omega
      | ⟨1, _⟩ => show h.val = 0 + h.val * 1; omega
      | ⟨2, _⟩ => show d.val = 0 + d.val * 1; omega).trans ?_
    exact shapeCast_apply _ _ _ _ (by
      rewrite [Shape.rowMajor_val_three, Shape.rowMajor_val_two]
      show r.val * 768 + (192 * h.val + d.val) = (r.val * 4 + h.val) * 192 + d.val
      omega)
  · rw [dif_neg hd]
    refine (pad_apply_of_not_inside _ _ _ _ _ _ _ (ix3 r h d) 2 ?_).trans (padZero_at _)
    show ¬(0 ≤ d.val ∧ (d.val - 0) % 1 = 0 ∧ (d.val - 0) / 1 < 192)
    omega

/-- The staged projections at an index: the column times its scale. -/
theorem staged_at (p : Vec Ideal S8x16x5136 .f32) (r : Fin 128) (j : Fin 5760) (b : BitVec 32) (hb : lit0 j = b) :
    staged p (ix2 r j) = columns p (ix2 r j) * Ideal.ofBits .f32 b := by
  refine congrArg (columns p (ix2 r j) * ·) ?_
  refine (broadcastInDim_apply _ _ _ _ (ix2 0 j) fun a => by match a with | ⟨0, _⟩ => rfl | ⟨1, _⟩ => rfl).trans ?_
  refine congrArg (Ideal.ofBits .f32) ((congrArg lit0 (Fin.ext ?_)).trans hb)
  rewrite [Shape.rowMajor_val_two]
  show 0 * 5760 + j.val = j.val
  omega

theorem columns_v (p : Vec Ideal S8x16x5136 .f32) (r : Fin 128) (j : Fin 1536) :
    columns p (ix2 r ⟨j.val, by omega⟩) = rows p (ix2 r ⟨1536 + j.val, by omega⟩) := by
  refine (concatenate_apply_piece (t := S128x5760) 1 (pieces p) concatenates_S128x1536_S128x1536_S128x1024_S128x1024_S128x512_S128x128_S128x5760_d1
    (ix2 r ⟨j.val, by omega⟩) 0 (by show 0 < 6; decide) S128x1536 _ rfl rfl 0 rfl (ix2 r j) (fun b hb => by
    match b with | ⟨0, _⟩ => rfl | ⟨1, _⟩ => exact absurd rfl hb) (Nat.zero_add _)).trans ?_
  exact extractStridedSlice_apply _ _ _ _ _ fun a => by match a with | ⟨0, _⟩ => exact (Nat.zero_add _).symm | ⟨1, _⟩ => rfl

theorem columns_g (p : Vec Ideal S8x16x5136 .f32) (r : Fin 128) (j : Fin 1536) :
    columns p (ix2 r ⟨1536 + j.val, by omega⟩) = rows p (ix2 r ⟨3072 + j.val, by omega⟩) := by
  refine (concatenate_apply_piece (t := S128x5760) 1 (pieces p) concatenates_S128x1536_S128x1536_S128x1024_S128x1024_S128x512_S128x128_S128x5760_d1
    (ix2 r ⟨1536 + j.val, by omega⟩) 1 (by show 1 < 6; decide) S128x1536 _ rfl rfl 1536 rfl (ix2 r j) (fun b hb => by
    match b with | ⟨0, _⟩ => rfl | ⟨1, _⟩ => exact absurd rfl hb) rfl).trans ?_
  exact extractStridedSlice_apply _ _ _ _ _ fun a => by match a with | ⟨0, _⟩ => exact (Nat.zero_add _).symm | ⟨1, _⟩ => rfl

theorem columns_q (p : Vec Ideal S8x16x5136 .f32) (r : Fin 128) (h : Fin 4) (d : Fin 256) :
    columns p (ix2 r ⟨3072 + (256 * h.val + d.val), by omega⟩)
      = if hd : d.val < 192 then rows p (ix2 r ⟨192 * h.val + d.val, by omega⟩) else 0 := by
  refine (concatenate_apply_piece (t := S128x5760) 1 (pieces p) concatenates_S128x1536_S128x1536_S128x1024_S128x1024_S128x512_S128x128_S128x5760_d1
    (ix2 r ⟨3072 + (256 * h.val + d.val), by omega⟩) 2 (by show 2 < 6; decide) S128x1024 _ rfl rfl 3072 rfl (ix2 r ⟨256 * h.val + d.val, by omega⟩) (fun b hb => by
    match b with | ⟨0, _⟩ => rfl | ⟨1, _⟩ => exact absurd rfl hb) rfl).trans ?_
  rw [padHeads_at]
  by_cases hd : d.val < 192
  · rw [dif_pos hd, dif_pos hd]
    exact extractStridedSlice_apply _ _ _ _ _ fun a => by match a with | ⟨0, _⟩ => exact (Nat.zero_add _).symm | ⟨1, _⟩ => exact (Nat.zero_add _).symm
  · rw [dif_neg hd, dif_neg hd]

theorem columns_k (p : Vec Ideal S8x16x5136 .f32) (r : Fin 128) (h : Fin 4) (d : Fin 256) :
    columns p (ix2 r ⟨4096 + (256 * h.val + d.val), by omega⟩)
      = if hd : d.val < 192 then rows p (ix2 r ⟨768 + (192 * h.val + d.val), by omega⟩) else 0 := by
  refine (concatenate_apply_piece (t := S128x5760) 1 (pieces p) concatenates_S128x1536_S128x1536_S128x1024_S128x1024_S128x512_S128x128_S128x5760_d1
    (ix2 r ⟨4096 + (256 * h.val + d.val), by omega⟩) 3 (by show 3 < 6; decide) S128x1024 _ rfl rfl 4096 rfl (ix2 r ⟨256 * h.val + d.val, by omega⟩) (fun b hb => by
    match b with | ⟨0, _⟩ => rfl | ⟨1, _⟩ => exact absurd rfl hb) rfl).trans ?_
  rw [padHeads_at]
  by_cases hd : d.val < 192
  · rw [dif_pos hd, dif_pos hd]
    exact extractStridedSlice_apply _ _ _ _ _ fun a => by match a with | ⟨0, _⟩ => exact (Nat.zero_add _).symm | ⟨1, _⟩ => rfl
  · rw [dif_neg hd, dif_neg hd]

theorem columns_lr (p : Vec Ideal S8x16x5136 .f32) (r : Fin 128) (j : Fin 128) :
    columns p (ix2 r ⟨5632 + j.val, by omega⟩) = if hj : j.val < 16 then rows p (ix2 r ⟨4608 + j.val, by omega⟩) else 0 := by
  refine (concatenate_apply_piece (t := S128x5760) 1 (pieces p) concatenates_S128x1536_S128x1536_S128x1024_S128x1024_S128x512_S128x128_S128x5760_d1
    (ix2 r ⟨5632 + j.val, by omega⟩) 5 (by show 5 < 6; decide) S128x128 _ rfl rfl 5632 rfl (ix2 r j) (fun b hb => by
    match b with | ⟨0, _⟩ => rfl | ⟨1, _⟩ => exact absurd rfl hb) rfl).trans ?_
  by_cases hj : j.val < 16
  · rw [dif_pos hj]
    refine (pad_apply_of_inside _ _ _ _ _ _ _ (ix2 r j) (ix2 r ⟨j.val, hj⟩) fun a => by
      match a with
      | ⟨0, _⟩ => show r.val = 0 + r.val * 1; omega
      | ⟨1, _⟩ => show j.val = 0 + j.val * 1; omega).trans ?_
    exact extractStridedSlice_apply _ _ _ _ _ fun a => by match a with | ⟨0, _⟩ => exact (Nat.zero_add _).symm | ⟨1, _⟩ => rfl
  · rw [dif_neg hj]
    refine (pad_apply_of_not_inside _ _ _ _ _ _ _ (ix2 r j) 1 ?_).trans (padZero_at _)
    show ¬(0 ≤ j.val ∧ (j.val - 0) % 1 = 0 ∧ (j.val - 0) / 1 < 16)
    omega

theorem gateWeights_at (w : Vec Ideal S16x768 .f32) (e : Fin 128) (h : Fin 4) (d : Fin 256) :
    gateWeights w (ix2 e ⟨256 * h.val + d.val, by omega⟩)
      = if he : e.val < 16 ∧ d.val < 192 then w (ix2 ⟨e.val, he.1⟩ ⟨192 * h.val + d.val, by omega⟩) else 0 := by
  by_cases he : e.val < 16
  · refine (pad_apply_of_inside ![0, 0] ![112, 0] ![0, 0] _ _ pads_S16x1024_S128x1024_01120_000 h_S_ (ix2 e ⟨256 * h.val + d.val, by omega⟩) (ix2 ⟨e.val, he⟩ ⟨256 * h.val + d.val, by omega⟩) fun a => by
      match a with
      | ⟨0, _⟩ => show e.val = 0 + e.val * 1; omega
      | ⟨1, _⟩ => show 256 * h.val + d.val = 0 + (256 * h.val + d.val) * 1; omega).trans ?_
    refine (shapeCast_apply _ _ _ (ix3 ⟨e.val, he⟩ h d) (by
      rewrite [Shape.rowMajor_val_three, Shape.rowMajor_val_two]
      show (e.val * 4 + h.val) * 256 + d.val = e.val * 1024 + (256 * h.val + d.val)
      omega)).trans ?_
    by_cases hd : d.val < 192
    · rw [dif_pos ⟨he, hd⟩]
      refine (pad_apply_of_inside _ _ _ _ _ _ _ (ix3 ⟨e.val, he⟩ h d) (ix3 ⟨e.val, he⟩ h ⟨d.val, hd⟩) fun a => by
        match a with
        | ⟨0, _⟩ => show e.val = 0 + e.val * 1; omega
        | ⟨1, _⟩ => show h.val = 0 + h.val * 1; omega
        | ⟨2, _⟩ => show d.val = 0 + d.val * 1; omega).trans ?_
      exact shapeCast_apply _ _ _ _ (by
        rewrite [Shape.rowMajor_val_three, Shape.rowMajor_val_two]
        show e.val * 768 + (192 * h.val + d.val) = (e.val * 4 + h.val) * 192 + d.val
        omega)
    · rw [dif_neg fun hh => hd hh.2]
      refine (pad_apply_of_not_inside _ _ _ _ _ _ _ (ix3 ⟨e.val, he⟩ h d) 2 ?_).trans (padZero_at _)
      show ¬(0 ≤ d.val ∧ (d.val - 0) % 1 = 0 ∧ (d.val - 0) / 1 < 192)
      omega
  · rw [dif_neg fun hh => he hh.1]
    refine (pad_apply_of_not_inside (s := S16x1024) (t := S128x1024) ![0, 0] ![112, 0] ![0, 0] _ _ pads_S16x1024_S128x1024_01120_000 h_S_ (ix2 e (⟨256 * h.val + d.val, by omega⟩ : Fin 1024)) 0 ?_).trans (padZero_at _)
    show ¬(0 ≤ e.val ∧ (e.val - 0) % 1 = 0 ∧ (e.val - 0) / 1 < 16)
    omega

theorem gateBias_at (b : Vec Ideal S768 .f32) (h : Fin 4) (d : Fin 256) :
    gateBias b (ix2 0 ⟨256 * h.val + d.val, by omega⟩) = if hd : d.val < 192 then b (ix1 ⟨192 * h.val + d.val, by omega⟩) else 0 := by
  refine (shapeCast_apply _ _ _ (ix3 0 h d) (by
    rewrite [Shape.rowMajor_val_three, Shape.rowMajor_val_two]
    show (0 * 4 + h.val) * 256 + d.val = 0 * 1024 + (256 * h.val + d.val)
    omega)).trans ?_
  by_cases hd : d.val < 192
  · rw [dif_pos hd]
    refine (pad_apply_of_inside _ _ _ _ _ _ _ (ix3 0 h d) (ix3 0 h ⟨d.val, hd⟩) fun a => by
      match a with
      | ⟨0, _⟩ => rfl
      | ⟨1, _⟩ => show h.val = 0 + h.val * 1; omega
      | ⟨2, _⟩ => show d.val = 0 + d.val * 1; omega).trans ?_
    refine (shapeCast_apply _ _ _ (ix2 0 ⟨192 * h.val + d.val, by omega⟩) (by
      rewrite [Shape.rowMajor_val_three, Shape.rowMajor_val_two]
      show 0 * 768 + (192 * h.val + d.val) = (0 * 4 + h.val) * 192 + d.val
      omega)).trans ?_
    exact broadcastInDim_apply _ _ _ _ _ fun a => by match a with | ⟨0, _⟩ => rfl
  · rw [dif_neg hd]
    refine (pad_apply_of_not_inside _ _ _ _ _ _ _ (ix3 0 h d) 2 ?_).trans (padZero_at _)
    show ¬(0 ≤ d.val ∧ (d.val - 0) % 1 = 0 ∧ (d.val - 0) / 1 < 192)
    omega

end Cert.KernelIdeal.Blk

end
-- ==== Proof.Gla.Closed.lean ====
module

public import proofs.«01_k».proof.Proof.Gla.Levels
public import Idealize.ShloMosaic.Lib.ValueIdx
public import Idealize.ShloMosaic.PureOps.Ideal.Laws

@[expose] public section

/-! The layer's two results as plain functions of its arguments. -/

set_option maxRecDepth 16384

noncomputable section

open Idealize.ShloMosaic Idealize.ShloMosaic.ValueIdx

namespace Cert.Gla

/-- The projections of a batch of eight sequences of sixteen tokens. -/
abbrev Proj := (⟨3, ![8, 16, 5136]⟩ : Shape).Idx → EReal
/-- The gate's weights, its bias, the norm's weights, the starting states. -/
abbrev GateW := (⟨2, ![16, 768]⟩ : Shape).Idx → EReal
abbrev GateB := (⟨1, ![768]⟩ : Shape).Idx → EReal
abbrev NormW := (⟨1, ![384]⟩ : Shape).Idx → EReal
abbrev States := (⟨4, ![8, 4, 192, 384]⟩ : Shape).Idx → EReal

/-- The scaled query, the key, the value and the output gate of a token in a head. -/
def qv (p : Proj) (t : Fin 8) (h : Fin 4) (i : Fin 16) (d : Fin 192) : EReal :=
  p (ix3 t i ⟨192 * h.val + d.val, by omega⟩) * Ideal.ofBits .f32 0x3D93CD3A#32
def kv (p : Proj) (t : Fin 8) (h : Fin 4) (i : Fin 16) (d : Fin 192) : EReal :=
  p (ix3 t i ⟨768 + (192 * h.val + d.val), by omega⟩)
def vv (p : Proj) (t : Fin 8) (h : Fin 4) (i : Fin 16) (n : Fin 384) : EReal :=
  p (ix3 t i ⟨1536 + (384 * h.val + n.val), by omega⟩)
def gv (p : Proj) (t : Fin 8) (h : Fin 4) (i : Fin 16) (n : Fin 384) : EReal :=
  p (ix3 t i ⟨3072 + (384 * h.val + n.val), by omega⟩)

/-- What the gate's nonlinearity is applied to. -/
def gateIn (p : Proj) (w : GateW) (b : GateB) (t : Fin 8) (h : Fin 4) (i : Fin 16) (d : Fin 192) : EReal :=
  (∑ e : Fin 16, p (ix3 t i ⟨4608 + e.val, by omega⟩) * w (ix2 e ⟨192 * h.val + d.val, by omega⟩)) + b (ix1 ⟨192 * h.val + d.val, by omega⟩)

/-- A token's output in a head, before the norm: the earlier tokens' values by their decayed scores, and the starting
    state decayed up to the token. -/
def attn (a : Fin 192 → Fin 16 → ℝ) (q k : Fin 16 → Fin 192 → EReal) (v : Fin 16 → Fin 384 → EReal) (s : Fin 192 → Fin 384 → EReal)
    (i : Fin 16) (n : Fin 384) : EReal :=
  (∑ j : Fin 16, (∑ d : Fin 192, q i d * decay (a d) i j * k j d) * v j n) + ∑ d : Fin 192, (q i d * run (a d) 4 i.val) * s d n

/-- A head's state after the sixteen tokens. -/
def nextState (a : Fin 192 → Fin 16 → ℝ) (k : Fin 16 → Fin 192 → EReal) (v : Fin 16 → Fin 384 → EReal) (s : Fin 192 → Fin 384 → EReal)
    (d : Fin 192) (n : Fin 384) : EReal :=
  s d n * run (a d) 4 15 + ∑ j : Fin 16, (k j d * run (a d) 5 j.val) * v j n

/-- A row normalised by its root mean square, weighed, and gated. -/
def normed (o w g : Fin 384 → EReal) (n : Fin 384) : EReal :=
  (o n * Ideal.rsqrt (Ideal.div (∑ e : Fin 384, o e * o e) (Ideal.ofBits .f32 0x43C00000#32) + Ideal.ofBits .f32 0x358637BD#32) * w n)
    * (g n * Ideal.div 1 (1 + Ideal.exp (-g n)))

/-- The output and the state, at an index. -/
def outAt (z : Fin 8 → Fin 4 → Fin 16 → Fin 192 → ℝ) (p : Proj) (gn : NormW) (s : States) (t : Fin 8) (h : Fin 4) (i : Fin 16) (n : Fin 384) : EReal :=
  normed (fun e => attn (fun d j => logDecay (z t h j d)) (qv p t h) (kv p t h) (vv p t h) (fun d e => s (ix4 t h d e)) i e)
    (fun e => gn (ix1 e)) (gv p t h i) n
def stateAt (z : Fin 8 → Fin 4 → Fin 16 → Fin 192 → ℝ) (p : Proj) (s : States) (t : Fin 8) (h : Fin 4) (d : Fin 192) (n : Fin 384) : EReal :=
  nextState (fun d j => logDecay (z t h j d)) (kv p t h) (vv p t h) (fun d e => s (ix4 t h d e)) d n

/-- A sum whose terms beyond the first `n` vanish. -/
theorem sum_head {n k : Nat} (f : Fin (n + k) → EReal) (hf : ∀ i : Fin k, f (Fin.natAdd n i) = 0) :
    ∑ i, f i = ∑ i : Fin n, f (Fin.castAdd k i) := by
  rw [Fin.sum_univ_add, Finset.sum_eq_zero fun i _ => hf i, add_zero]

theorem sum_heads (f : Fin 256 → EReal) (hf : ∀ d : Fin 256, ¬ d.val < 192 → f d = 0) : ∑ d, f d = ∑ d : Fin 192, f ⟨d.val, by omega⟩ :=
  sum_head (n := 192) (k := 64) f fun i => hf _ (by show ¬ 192 + i.val < 192; omega)

theorem sum_low (f : Fin 128 → EReal) (hf : ∀ d : Fin 128, ¬ d.val < 16 → f d = 0) : ∑ d, f d = ∑ d : Fin 16, f ⟨d.val, by omega⟩ :=
  sum_head (n := 16) (k := 112) f fun i => hf _ (by show ¬ 16 + i.val < 16; omega)

end Cert.Gla

end
-- ==== Proof.Gla.Gates.lean ====
module

public import proofs.«01_k».proof.Proof.Gla.Staged
public import proofs.«01_k».proof.Proof.Gla.Closed

@[expose] public section

/-! The kernel's blocks in terms of the arguments: the columns, the decays' logarithms, the weights, the tables. -/

set_option maxRecDepth 16384

noncomputable section

open Idealize.ShloMosaic Idealize.ShloMosaic.ValueIdx Idealize.ShloMosaic.TcCoe Idealize.SL.Sem

namespace Cert.KernelIdeal.Blk

open Cert.KernelIdeal Cert.KernelIdeal.Gen Cert.Gla

/-- The decays' logarithms at an index, as the kernel computes them. -/
theorem la_at (x4 : Vec Ideal S16x128 .bf16) (x5 : Vec Ideal S128x1024 .bf16) (x6 : Vec Ideal S1x1024 .f32) (i : Fin 16) (j : Fin 1024)
    (z : EReal) (hz : (∑ k : Fin 128, x4 (ix2 i k) * x5 (ix2 k j)) + x6 (ix2 0 j) = z) :
    k0_pay11 x4 x5 x6 (ix2 i j) = (0 - (max (0 - z) 0 + Ideal.log (1 + Ideal.exp (0 - max (0 - z) (-(0 - z)))))) * Ideal.ofBits .f32 0x3D800000#32 := by
  have e : addf (F := Ideal) (matmul (φ₁ := .bf16) (φ₂ := .bf16) dot_S16x128_S128x1024_S16x1024_1_0_0_1_n_n none x4 x5 (constant S16x1024 .f32 0x00000000#32))
      (broadcastTo S16x1024 x6 broadcasts_S1x1024_S16x1024) (ix2 i j) = z := by
    rw [← hz]
    refine congrArg₂ (· + ·) (mm_lr (φ₁ := .bf16) (φ₂ := .bf16) _ _ _) ?_
    exact broadcastTo_apply _ broadcasts_S1x1024_S16x1024 (ix2 i j) (ix2 (0 : Fin 1) j) fun a => by
      match a with | ⟨0, _⟩ => rfl | ⟨1, _⟩ => rfl
  unfold k0_pay11
  simp only [shapeCast_self]
  show (Ideal.ofBits .f32 0x00000000#32 - (max (Ideal.ofBits .f32 0x00000000#32 - addf (F := Ideal) _ _ (ix2 i j)) (Ideal.ofBits .f32 0x00000000#32)
    + Ideal.log (Ideal.ofBits .f32 0x3F800000#32 + Ideal.exp (Ideal.ofBits .f32 0x00000000#32 - max (Ideal.ofBits .f32 0x00000000#32 - addf (F := Ideal) _ _ (ix2 i j))
      (-(Ideal.ofBits .f32 0x00000000#32 - addf (F := Ideal) _ _ (ix2 i j))))))) * Ideal.ofBits .f32 0x3D800000#32 = _
  rw [e, Ideal.ofBits_zero_f32, Ideal.ofBits_one_f32]

variable (m : (ℓ : Loc nD τ sig) → Buf (Elt Ideal) ℓ) (c : Dev nD)

abbrev argP : Proj := m ((c : Thread nD τ).loc main_arg0)
abbrev argW : GateW := m ((c : Thread nD τ).loc main_arg1)
abbrev argB : GateB := m ((c : Thread nD τ).loc main_arg2)
abbrev argN : NormW := m ((c : Thread nD τ).loc main_arg3)
abbrev argS : States := m ((c : Thread nD τ).loc main_arg4)

/-- The batch a grid point works on. -/
abbrev batch (t : Fin grid0.N) : Fin 8 := ⟨t.val, lt_eight t⟩

theorem v_at (t : Fin grid0.N) (h : Fin 4) (i : Fin 16) (n : Fin 384) :
    vgOf (vBlk m c t) h (ix2 i n) = vv (argP m c) (batch t) h i n := by
  refine (vBlk_at m c t i ⟨384 * h.val + n.val, by omega⟩).trans ?_
  rw [V_staged]
  refine (staged_at _ _ _ _ (scale_vg ⟨384 * h.val + n.val, by omega⟩)).trans ?_
  rw [Ideal.ofBits_one_f32, mul_one]
  exact (columns_v _ _ ⟨384 * h.val + n.val, by omega⟩).trans (rows_at _ _ _ _)

theorem g_at (t : Fin grid0.N) (h : Fin 4) (i : Fin 16) (n : Fin 384) :
    vgOf (gBlk m c t) h (ix2 i n) = gv (argP m c) (batch t) h i n := by
  refine (gBlk_at m c t i ⟨384 * h.val + n.val, by omega⟩).trans ?_
  rw [V_staged]
  refine (staged_at _ _ _ _ (scale_vg ⟨1536 + (384 * h.val + n.val), by omega⟩)).trans ?_
  rw [Ideal.ofBits_one_f32, mul_one]
  exact (columns_g _ _ ⟨384 * h.val + n.val, by omega⟩).trans (rows_at _ _ _ _)

theorem q_at (t : Fin grid0.N) (h : Fin 4) (i : Fin 16) (d : Fin 256) :
    qkOf (qBlk m c t) h (ix2 i d) = if hd : d.val < 192 then qv (argP m c) (batch t) h i ⟨d.val, hd⟩ else 0 := by
  refine (qBlk_at m c t i ⟨256 * h.val + d.val, by omega⟩).trans ?_
  rw [V_staged]
  refine (staged_at _ _ _ _ (scale_q ⟨256 * h.val + d.val, by omega⟩)).trans ?_
  refine (congrArg (· * _) (columns_q _ _ h d)).trans ?_
  by_cases hd : d.val < 192
  · rw [dif_pos hd, dif_pos hd]
    exact congrArg (· * _) (rows_at _ _ _ _)
  · rw [dif_neg hd, dif_neg hd, zero_mul]

theorem k_at (t : Fin grid0.N) (h : Fin 4) (i : Fin 16) (d : Fin 256) :
    qkOf (kBlk m c t) h (ix2 i d) = if hd : d.val < 192 then kv (argP m c) (batch t) h i ⟨d.val, hd⟩ else 0 := by
  refine (kBlk_at m c t i ⟨256 * h.val + d.val, by omega⟩).trans ?_
  rw [V_staged]
  refine (staged_at _ _ _ _ (scale_k ⟨256 * h.val + d.val, by omega⟩)).trans ?_
  rw [Ideal.ofBits_one_f32, mul_one]
  refine (columns_k _ _ h d).trans ?_
  by_cases hd : d.val < 192
  · rw [dif_pos hd, dif_pos hd]
    exact rows_at _ _ _ _
  · rw [dif_neg hd, dif_neg hd]

theorem lr_at (t : Fin grid0.N) (i : Fin 16) (e : Fin 128) :
    lrBlk m c t (ix2 i e) = if he : e.val < 16 then argP m c (ix3 (batch t) i ⟨4608 + e.val, by omega⟩) else 0 := by
  refine (lrBlk_at m c t i e).trans ?_
  rw [V_staged]
  refine (staged_at _ _ _ _ (scale_lr e)).trans ?_
  rw [Ideal.ofBits_one_f32, mul_one]
  refine (columns_lr _ _ e).trans ?_
  by_cases he : e.val < 16
  · rw [dif_pos he, dif_pos he]
    exact rows_at _ _ _ _
  · rw [dif_neg he, dif_neg he]

theorem gate_at (t : Fin grid0.N) (h : Fin 4) (i : Fin 16) (d : Fin 192) :
    (∑ k : Fin 128, lrBlk m c t (ix2 i k) * wBlk m c t (ix2 k ⟨256 * h.val + d.val, by omega⟩)) + bgBlk m c t (ix2 0 ⟨256 * h.val + d.val, by omega⟩)
      = gateIn (argP m c) (argW m c) (argB m c) (batch t) h i d := by
  rw [wBlk_eq, bgBlk_eq, V_weights, V_bias]
  refine congrArg₂ (· + ·) ((sum_low _ fun e he => ?_).trans (Finset.sum_congr rfl fun e _ => ?_)) ?_
  · rw [lr_at, dif_neg he, zero_mul]
  · rw [lr_at, dif_pos e.isLt]
    refine congrArg (_ * ·) ((gateWeights_at _ _ h ⟨d.val, by omega⟩).trans ?_)
    rw [dif_pos ⟨e.isLt, d.isLt⟩]
  · refine (gateBias_at _ h ⟨d.val, by omega⟩).trans ?_
    rw [dif_pos d.isLt]

variable (z : Fin 8 → Fin 4 → Fin 16 → Fin 192 → ℝ)
  (hz : ∀ t h i d, gateIn (argP m c) (argW m c) (argB m c) t h i d = ((z t h i d : ℝ) : EReal))

include hz

theorem decay_at (t : Fin grid0.N) (h : Fin 4) (i : Fin 16) (d : Fin 192) :
    k0_pay11 (lrBlk m c t) (wBlk m c t) (bgBlk m c t) (ix2 i ⟨256 * h.val + d.val, by omega⟩) = ((logDecay (z (batch t) h i d) : ℝ) : EReal) := by
  rw [la_at _ _ _ _ _ _ ((gate_at m c t h i d).trans (hz _ _ _ _)), sixteenth]
  exact kernel_gate _

omit hz in
theorem sums_at (t : Fin grid0.N) (l : Fin 6) (i j : Fin 16) :
    smBlk m c t (ix2 ⟨16 * l.val + i.val, by omega⟩ j) = bit (runs l.val i.val j.val) := by
  rw [smBlk_eq, V_sums]
  have e : S96x16.rowMajor (ix2 (⟨16 * l.val + i.val, by omega⟩ : Fin 96) j) = ⟨(16 * l.val + i.val) * 16 + j.val, by show _ < 1536; omega⟩ :=
    Fin.ext (by rewrite [Shape.rowMajor_val_two]; rfl)
  show Ideal.ofBits .bf16 (lit1 (S96x16.rowMajor (ix2 (⟨16 * l.val + i.val, by omega⟩ : Fin 96) j))) = _
  rw [e]
  refine (congrArg (Ideal.ofBits .bf16) (sums_bits l i j)).trans ?_
  cases runs l.val i.val j.val
  · exact Ideal.ofBits_zero_bf16
  · exact Ideal.ofBits_one_bf16

omit hz in
theorem pairs_at (t : Fin grid0.N) (l : Fin 5) (i j : Fin 16) :
    pairsOf (prBlk m c t) l (ix3 0 i j) = bit (scored l.val i.val j.val) := by
  rw [prBlk_eq, V_pairs]
  have e : S5x16x16.rowMajor (ix3 l i j) = ⟨(l.val * 16 + i.val) * 16 + j.val, by show _ < 1280; omega⟩ :=
    Fin.ext (by rewrite [Shape.rowMajor_val_three]; rfl)
  show Ideal.ofBits .f32 (lit2 (S5x16x16.rowMajor (ix3 l i j))) = _
  rw [e]
  refine (congrArg (Ideal.ofBits .f32) (pairs_bits l i j)).trans ?_
  cases scored l.val i.val j.val
  · exact Ideal.ofBits_zero_f32
  · exact Ideal.ofBits_one_f32

/-- The table of weights: exponentials of sums of logarithms of decays. -/
theorem weight_at (t : Fin grid0.N) (h : Fin 4) (l : Fin 6) (i : Fin 16) (d : Fin 192) :
    weightsOf (k0_pay12 (smBlk m c t) (k0_pay11 (lrBlk m c t) (wBlk m c t) (bgBlk m c t))) h (ix2 ⟨16 * l.val + i.val, by omega⟩ ⟨d.val, by omega⟩)
      = run (fun j => logDecay (z (batch t) h j d)) l.val i.val := by
  rw [weights_at]
  unfold run
  rw [← Ideal.exp_coe, ← sum_bit_mul]
  refine congrArg Ideal.exp (Finset.sum_congr rfl fun j _ => ?_)
  exact congrArg₂ (· * ·) (sums_at m c t l i j) (decay_at m c z hz t h j d)

end Cert.KernelIdeal.Blk

end
-- ==== Proof.Gla.HeadValue.lean ====
module

public import proofs.«01_k».proof.Proof.Gla.Gates

@[expose] public section

/-! A head of one grid point: its output and its state, in terms of the arguments. -/

set_option maxRecDepth 16384

noncomputable section

open Idealize.ShloMosaic Idealize.ShloMosaic.ValueIdx Idealize.ShloMosaic.TcCoe Idealize.SL.Sem

namespace Cert.KernelIdeal.Blk

open Cert.KernelIdeal Cert.KernelIdeal.Gen Cert.Gla

variable (m : (ℓ : Loc nD τ sig) → Buf (Elt Ideal) ℓ) (c : Dev nD)
variable (z : Fin 8 → Fin 4 → Fin 16 → Fin 192 → ℝ)
  (hz : ∀ t h i d, gateIn (argP m c) (argW m c) (argB m c) t h i d = ((z t h i d : ℝ) : EReal))

/-- The table of weights of a grid point. -/
abbrev table (t : Fin grid0.N) : FVec Ideal S96x1024 .f32 :=
  k0_pay12 (smBlk m c t) (k0_pay11 (lrBlk m c t) (wBlk m c t) (bgBlk m c t))

/-- The logarithms of the decays of a head of a batch. -/
abbrev logs (b : Fin 8) (h : Fin 4) : Fin 192 → Fin 16 → ℝ := fun d j => logDecay (z b h j d)

include hz

theorem levelSum_eq (t : Fin grid0.N) (h : Fin 4) (l : Fin 6) (o : Nat) (ho : o = 16 * l.val) (ho' : o + 16 ≤ 96) (i j : Fin 16) :
    levelSum (weightsOf (table m c t) h) (qkOf (qBlk m c t) h) (qkOf (kBlk m c t) h) o ho' i j
      = levelScore (logs z (batch t) h) (qv (argP m c) (batch t) h) (kv (argP m c) (batch t) h) l.val i j := by
  subst ho
  unfold levelSum levelScore
  refine (sum_heads _ fun d hd => ?_).trans (Finset.sum_congr rfl fun d _ => ?_)
  · rw [q_at, dif_neg hd, zero_mul, zero_mul]
  · rw [q_at, k_at, dif_pos d.isLt, dif_pos d.isLt, weight_at m c z hz, weight_at m c z hz]

theorem scores_eq_decayed (t : Fin grid0.N) (h : Fin 4) (i j : Fin 16) :
    scores (weightsOf (table m c t) h) (qkOf (qBlk m c t) h) (qkOf (kBlk m c t) h) (pairsOf (prBlk m c t) 4) (pairsOf (prBlk m c t) 0)
        (pairsOf (prBlk m c t) 1) (pairsOf (prBlk m c t) 2) (pairsOf (prBlk m c t) 3) (ix2 i j)
      = ∑ d : Fin 192, qv (argP m c) (batch t) h i d * decay (logs z (batch t) h d) i j * kv (argP m c) (batch t) h j d := by
  rw [scores_at, pairs_at, pairs_at, pairs_at, pairs_at, pairs_at, levelSum_eq m c z hz t h 0 0 rfl, levelSum_eq m c z hz t h 1 16 rfl,
    levelSum_eq m c z hz t h 2 32 rfl, levelSum_eq m c z hz t h 3 48 rfl]
  refine Eq.trans ?_ (scores_eq (logs z (batch t) h) (qv (argP m c) (batch t) h) (kv (argP m c) (batch t) h) i j)
  refine congrArg (fun s => _ * s + _ + _ + _ + _) ((sum_heads _ fun d hd => ?_).trans (Finset.sum_congr rfl fun d _ => ?_))
  · rw [q_at, dif_neg hd, zero_mul]
  · rw [q_at, k_at, dif_pos d.isLt, dif_pos d.isLt]

omit hz in
theorem state_at (t : Fin grid0.N) (h : Fin 4) (n : Fin 384) (d : Fin 192) :
    stateIn (stOf (stBlk m c t) h) (ix2 n ⟨d.val, by omega⟩) = argS m c (ix4 (batch t) h d n) := by
  rw [stateIn_at, dif_pos d.isLt]
  refine (stBlk_at m c t _).trans ?_
  rw [V_main_arg4]

theorem out_head (t : Fin grid0.N) (h : Fin 4) (i : Fin 16) (n : Fin 384) :
    outOf (vBlk m c t) (qBlk m c t) (kBlk m c t) (table m c t) (prBlk m c t) (stBlk m c t) h (ix2 i n)
      = attn (logs z (batch t) h) (qv (argP m c) (batch t) h) (kv (argP m c) (batch t) h) (vv (argP m c) (batch t) h)
          (fun d e => argS m c (ix4 (batch t) h d e)) i n := by
  unfold outOf attn
  rw [headOut_at]
  refine congrArg₂ (· + ·) (Finset.sum_congr rfl fun j _ => ?_) ((sum_heads _ fun d hd => ?_).trans (Finset.sum_congr rfl fun d _ => ?_))
  · exact congrArg₂ (· * ·) (scores_eq_decayed m c z hz t h i j) (v_at m c t h j n)
  · rw [q_at, dif_neg hd, zero_mul, zero_mul]
  · refine congrArg₂ (· * ·) (congrArg₂ (· * ·) ?_ (weight_at m c z hz t h 4 i d)) (state_at m c t h n d)
    rw [q_at, dif_pos d.isLt]

theorem state_head (t : Fin grid0.N) (h : Fin 4) (d : Fin 192) (n : Fin 384) :
    stateOf (vBlk m c t) (kBlk m c t) (table m c t) (stBlk m c t) h (ix4 0 0 d n) = stateAt z (argP m c) (argS m c) (batch t) h d n := by
  unfold stateOf stateAt nextState
  rw [stateOut_at, headState_at]
  refine congrArg₂ (· + ·) (congrArg₂ (· * ·) (state_at m c t h n d) (weight_at m c z hz t h 4 15 d)) (Finset.sum_congr rfl fun j _ => ?_)
  refine (mul_comm _ _).trans (congrArg₂ (· * ·) (congrArg₂ (· * ·) ?_ (weight_at m c z hz t h 5 j d)) (v_at m c t h j n))
  rw [k_at, dif_pos d.isLt]

theorem gated_head (t : Fin grid0.N) (h : Fin 4) (i : Fin 16) (n : Fin 384) :
    gated (outOf (vBlk m c t) (qBlk m c t) (kBlk m c t) (table m c t) (prBlk m c t) (stBlk m c t) h) (gnBlk m c t) (vgOf (gBlk m c t) h) (ix2 i n)
      = outAt z (argP m c) (argN m c) (argS m c) (batch t) h i n := by
  have en : ∀ e : Fin 384, gnBlk m c t (ix2 0 e) = argN m c (ix1 e) := fun e => by
    rw [gnBlk_eq, V_norm]
    exact broadcastInDim_apply ![1] _ _ (ix2 (0 : Fin 1) e) (ix1 e) fun a => by match a with | ⟨0, _⟩ => rfl
  unfold outAt normed
  rw [gated_at, g_at, en, zero_sub]
  simp only [out_head m c z hz t h]

end Cert.KernelIdeal.Blk

end
-- ==== Proof.Gla.Arrays.lean ====
module

public import proofs.«01_k».proof.Proof.Gla.HeadValue
public import proofs.«01_k».proof.Proof.Gen.KernelIdeal.Value

@[expose] public section

/-! The arrays the kernel leaves, at an index. -/

set_option maxRecDepth 16384

noncomputable section

open Idealize.ShloMosaic Idealize.ShloMosaic.ValueIdx Idealize.ShloMosaic.TcCoe Idealize.SL.Sem

namespace Cert.KernelIdeal.Blk

open Cert.KernelIdeal Cert.KernelIdeal.Gen Cert.KernelIdeal.Value Cert.Gla

variable (m : (ℓ : Loc nD τ sig) → Buf (Elt Ideal) ℓ) (c : Dev nD)
variable (z : Fin 8 → Fin 4 → Fin 16 → Fin 192 → ℝ)
  (hz : ∀ t h i d, gateIn (argP m c) (argW m c) (argB m c) t h i d = ((z t h i d : ℝ) : EReal))

include hz

theorem out_array (t : Fin grid0.N) (h : Fin 4) (i : Fin 16) (n : Fin 384) :
    (dats m 0 c).arrAt 11 cfg0.N (ix2 (rowAt t i) ⟨384 * h.val + n.val, by omega⟩) = outAt z (argP m c) (argN m c) (argS m c) (batch t) h i n := by
  have e := congrFun (blocks11 m c t (flush0_11 t)) (ix2 i (⟨384 * h.val + n.val, by omega⟩ : Fin 1536))
  rw [flushed11_A] at e
  refine Eq.trans (congrArg ((dats m 0 c).arrAt 11 cfg0.N) (funext fun a => Fin.ext ?_)) (e.trans ?_)
  · refine Eq.symm ((slice_emb_val main_v30_0 _ _ _ _ a).trans ?_)
    have hi := congrFun (ix_11 t) a
    match a with
    | ⟨0, _⟩ => show cc0_transform_11 (grid0.coords t) 0 * 16 + i.val = 16 * t.val + i.val; rw [ix_11]; show t.val * 16 + i.val = _; omega
    | ⟨1, _⟩ => show cc0_transform_11 (grid0.coords t) 1 * 1536 + (384 * h.val + n.val) = 384 * h.val + n.val; rw [ix_11]; show 0 * 1536 + _ = _; omega
  · refine Eq.trans ?_ (gated_head m c z hz t h i n)
    exact out_block c (grid0.coords t) _ _ _ _ _ _ _ _ _ _ _ _ _ _ _ _ _ _ _ _ _ _ _ _ _ _ _ _ _ _ _ _ _ _ _ _ _ _ _ _ _ _ _ _ _ _ h (ix2 i n) rfl rfl

theorem state_array (t : Fin grid0.N) (h : Fin 4) (d : Fin 192) (n : Fin 384) :
    (dats m 0 c).arrAt 12 cfg0.N (ix4 (batch t) h d n) = stateAt z (argP m c) (argS m c) (batch t) h d n := by
  have e := congrFun (blocks12 m c t (flush0_12 t)) (ix4 (0 : Fin 1) h d n)
  rw [flushed12_A] at e
  refine Eq.trans (congrArg ((dats m 0 c).arrAt 12 cfg0.N) (funext fun a => Fin.ext ?_)) (e.trans ?_)
  · refine Eq.symm ((slice_emb_val main_v30_1 _ _ _ _ a).trans ?_)
    match a with
    | ⟨0, _⟩ => show cc0_transform_12 (grid0.coords t) 0 * 1 + 0 = t.val; rw [ix_12]; show t.val * 1 + 0 = _; omega
    | ⟨1, _⟩ => show cc0_transform_12 (grid0.coords t) 1 * 4 + h.val = h.val; rw [ix_12]; show 0 * 4 + _ = _; omega
    | ⟨2, _⟩ => show cc0_transform_12 (grid0.coords t) 2 * 192 + d.val = d.val; rw [ix_12]; show 0 * 192 + _ = _; omega
    | ⟨3, _⟩ => show cc0_transform_12 (grid0.coords t) 3 * 384 + n.val = n.val; rw [ix_12]; show 0 * 384 + _ = _; omega
  · refine Eq.trans ?_ (state_head m c z hz t h d n)
    exact state_block c (grid0.coords t) _ _ _ _ _ _ _ _ _ _ _ _ _ _ _ _ _ _ _ _ _ _ _ _ _ _ _ _ _ _ _ _ _ _ _ _ _ _ _ _ _ _ _ _ _ _ h (ix4 0 0 d n) rfl rfl rfl

end Cert.KernelIdeal.Blk

end
-- ==== Proof.Gla.RunningSum.lean ====
module

public import Mathlib.Algebra.BigOperators.Fin
public import Idealize.ShloMosaic.Lib.ValueIdx
public import Idealize.ShloMosaic.PureOps.Ideal.Laws

@[expose] public section

/-! The running sum along the third axis of an array: a windowed sum over the sixteen positions that end at each. -/

set_option maxRecDepth 16384

noncomputable section

open Idealize.ShloMosaic Idealize.ShloMosaic.ValueIdx

namespace Cert.Gla

theorem foldl_add {ι : Type} (g : ι → EReal) (l : List ι) (s : EReal) : l.foldl (fun r n => r + g n) s = s + (l.map g).sum := by
  induction l generalizing s with
  | nil => simp
  | cons x l ih => rw [List.foldl_cons, ih, List.map_cons, List.sum_cons, add_assoc]

/-- The window: sixteen positions along the third axis. -/
abbrev Window : Shape := ⟨4, ![1, 1, 16, 1]⟩

theorem window_numel : Window.numel = 16 := by decide

theorem window_at (n : Fin Window.numel) : Window.rowMajor.symm n = ix4 (0 : Fin 1) (0 : Fin 1) (n.cast window_numel) (0 : Fin 1) :=
  Window.rowMajor.symm_apply_eq.mpr (Fin.ext (by rewrite [Shape.rowMajor_val_four]; show n.val = ((0 * 1 + 0) * 16 + n.val) * 1 + 0; omega))

/-- The positions of the window that ends at `i` and are not padding are those up to `i`. -/
theorem sum_shift (y : Nat → EReal) (i : Fin 16) :
    (∑ n : Fin 16, if 15 ≤ i.val + n.val then y (i.val + n.val - 15) else 0) = ∑ j ∈ Finset.univ.filter (fun j : Fin 16 => j ≤ i), y j.val := by
  rw [← Finset.sum_filter]
  refine Finset.sum_bij' (fun n _ => (⟨i.val + n.val - 15, by omega⟩ : Fin 16)) (fun j hj => (⟨j.val + 15 - i.val, by
      have := Fin.le_def.mp (Finset.mem_filter.mp hj).2; omega⟩ : Fin 16)) ?_ ?_ ?_ ?_ ?_
  · intro n hn
    exact Finset.mem_filter.mpr ⟨Finset.mem_univ _, by show i.val + n.val - 15 ≤ i.val; omega⟩
  · intro j hj
    have := Fin.le_def.mp (Finset.mem_filter.mp hj).2
    exact Finset.mem_filter.mpr ⟨Finset.mem_univ _, by show 15 ≤ i.val + (j.val + 15 - i.val); omega⟩
  · intro n hn
    have h := (Finset.mem_filter.mp hn).2
    exact Fin.ext (by show i.val + n.val - 15 + 15 - i.val = n.val; omega)
  · intro j hj
    have := Fin.le_def.mp (Finset.mem_filter.mp hj).2
    exact Fin.ext (by show i.val + (j.val + 15 - i.val) - 15 = j.val; omega)
  · intro n hn
    rfl

theorem running_sum (h : (⟨4, ![8, 4, 16, 192]⟩ : Shape).ReduceWindows ![1, 1, 16, 1] ![1, 1, 1, 1] ![0, 0, 15, 0] ![0, 0, 0, 0] ⟨4, ![8, 4, 16, 192]⟩)
    (x : (⟨4, ![8, 4, 16, 192]⟩ : Shape).Idx → EReal) (b : Fin 8) (k : Fin 4) (i : Fin 16) (d : Fin 192) :
    Ideal.hostReduceWindowAdd ![1, 1, 16, 1] ![1, 1, 1, 1] ![0, 0, 15, 0] ![0, 0, 0, 0] h x 0 (ix4 b k i d)
      = ∑ j ∈ Finset.univ.filter (fun j : Fin 16 => j ≤ i), x (ix4 b k j d) := by
  let y : Nat → EReal := fun n => if hn : n < 16 then x (ix4 b k ⟨n, hn⟩ d) else 0
  have hy : ∀ j : Fin 16, y j.val = x (ix4 b k j d) := fun j => dif_pos j.isLt
  refine Eq.trans ?_ ((sum_shift y i).trans (Finset.sum_congr rfl fun j _ => hy j))
  refine Eq.trans (b := (List.finRange Window.numel).foldl (fun r n => r + (if 15 ≤ i.val + n.val then y (i.val + n.val - 15) else 0)) 0) ?_ ?_
  · unfold Ideal.hostReduceWindowAdd Host.reduceWindow
    refine congrArg (fun f => List.foldl f (0 : EReal) (List.finRange Window.numel)) (funext fun r => funext fun n => congrArg (r + ·) ?_)
    have hn : n.val < 16 := (n.cast window_numel).isLt
    have w0 : (Window.rowMajor.symm n 0).val = 0 := by rw [window_at]; rfl
    have w1 : (Window.rowMajor.symm n 1).val = 0 := by rw [window_at]; rfl
    have w2 : (Window.rowMajor.symm n 2).val = n.val := by rw [window_at]; rfl
    have w3 : (Window.rowMajor.symm n 3).val = 0 := by rw [window_at]; rfl
    split
    · next hin =>
      have h2 := hin 2
      change 15 ≤ i.val * 1 + (Window.rowMajor.symm n 2).val ∧ i.val * 1 + (Window.rowMajor.symm n 2).val - 15 < 16 at h2
      rw [w2] at h2
      rw [if_pos (by omega)]
      refine Eq.trans (congrArg x (funext fun a => Fin.ext ?_)) (hy ⟨i.val + n.val - 15, by omega⟩).symm
      match a with
      | ⟨0, _⟩ => show b.val * 1 + (Window.rowMajor.symm n 0).val - 0 = b.val; rw [w0]; omega
      | ⟨1, _⟩ => show k.val * 1 + (Window.rowMajor.symm n 1).val - 0 = k.val; rw [w1]; omega
      | ⟨2, _⟩ => show i.val * 1 + (Window.rowMajor.symm n 2).val - 15 = i.val + n.val - 15; rw [w2]; omega
      | ⟨3, _⟩ => show d.val * 1 + (Window.rowMajor.symm n 3).val - 0 = d.val; rw [w3]; omega
    · next hin =>
      rw [if_neg fun hle => hin fun a => by
        match a with
        | ⟨0, _⟩ => show 0 ≤ b.val * 1 + (Window.rowMajor.symm n 0).val ∧ b.val * 1 + (Window.rowMajor.symm n 0).val - 0 < 8; rw [w0]; omega
        | ⟨1, _⟩ => show 0 ≤ k.val * 1 + (Window.rowMajor.symm n 1).val ∧ k.val * 1 + (Window.rowMajor.symm n 1).val - 0 < 4; rw [w1]; omega
        | ⟨2, _⟩ => show 15 ≤ i.val * 1 + (Window.rowMajor.symm n 2).val ∧ i.val * 1 + (Window.rowMajor.symm n 2).val - 15 < 16; rw [w2]; omega
        | ⟨3, _⟩ => show 0 ≤ d.val * 1 + (Window.rowMajor.symm n 3).val ∧ d.val * 1 + (Window.rowMajor.symm n 3).val - 0 < 192; rw [w3]; omega]
  · rw [foldl_add, zero_add, ← Fin.sum_univ_def]
    exact Fintype.sum_equiv (finCongr window_numel) _ _ fun n => rfl

end Cert.Gla

end
-- ==== Proof.Gla.Reference.lean ====
module

public import proofs.«01_k».proof.Proof.Gla.Gate
public import proofs.«01_k».proof.Proof.Gla.Closed
public import proofs.«01_k».proof.Proof.Gla.RunningSum
public import proofs.«01_k».proof.Proof.Gen.ReferenceIdeal.Read
public import Idealize.ShloMosaic.Lib.IdealHost

@[expose] public section

/-! The reference's two results at an index. -/

set_option maxRecDepth 16384

noncomputable section

open Idealize.ShloMosaic Idealize.ShloMosaic.ValueIdx Idealize.ShloMosaic.TcCoe Idealize.SL.Sem

namespace Cert.ReferenceIdeal.Closed

open Cert.ReferenceIdeal Cert.ReferenceIdeal.Gen Cert.ReferenceIdeal.Read Cert.Gla

variable (p : Proj) (w : GateW) (b : GateB) (gn : NormW) (s : States)

theorem q_at (t : Fin 8) (h : Fin 4) (i : Fin 16) (d : Fin 192) : val_main_v19 (F := Ideal) p (ix4 t h i d) = qv p t h i d := by
  rw [val_main_v19_apply, val_main_v8_apply, val_main_v6_apply, val_main_v0_apply, val_main_v7_apply, val_main_cst_apply]
  refine congrArg (fun e : EReal => e * Ideal.ofBits .f32 0x3D93CD3A#32) (congrArg p (funext fun a => Fin.ext ?_))
  match a with
  | ⟨0, _⟩ => show (((t.val * 16 + i.val) * 4 + h.val) * 192 + d.val) / 12288 = t.val; omega
  | ⟨1, _⟩ => show (((t.val * 16 + i.val) * 4 + h.val) * 192 + d.val) / 768 % 16 = i.val; omega
  | ⟨2, _⟩ => show (((t.val * 16 + i.val) * 4 + h.val) * 192 + d.val) % 768 = 192 * h.val + d.val; omega

theorem k_at (t : Fin 8) (h : Fin 4) (i : Fin 16) (d : Fin 192) : val_main_v20 (F := Ideal) p (ix4 t h i d) = kv p t h i d := by
  rw [val_main_v20_apply, val_main_v9_apply, val_main_v1_apply]
  refine congrArg p (funext fun a => Fin.ext ?_)
  match a with
  | ⟨0, _⟩ => show (((t.val * 16 + i.val) * 4 + h.val) * 192 + d.val) / 12288 = t.val; omega
  | ⟨1, _⟩ => show (((t.val * 16 + i.val) * 4 + h.val) * 192 + d.val) / 768 % 16 = i.val; omega
  | ⟨2, _⟩ => show 768 + (((t.val * 16 + i.val) * 4 + h.val) * 192 + d.val) % 768 = 768 + (192 * h.val + d.val); omega

theorem v_at (t : Fin 8) (h : Fin 4) (i : Fin 16) (n : Fin 384) : val_main_v21 (F := Ideal) p (ix4 t h i n) = vv p t h i n := by
  rw [val_main_v21_apply, val_main_v10_apply, val_main_v2_apply]
  refine congrArg p (funext fun a => Fin.ext ?_)
  match a with
  | ⟨0, _⟩ => show (((t.val * 16 + i.val) * 4 + h.val) * 384 + n.val) / 24576 = t.val; omega
  | ⟨1, _⟩ => show (((t.val * 16 + i.val) * 4 + h.val) * 384 + n.val) / 1536 % 16 = i.val; omega
  | ⟨2, _⟩ => show 1536 + (((t.val * 16 + i.val) * 4 + h.val) * 384 + n.val) % 1536 = 1536 + (384 * h.val + n.val); omega

theorem g_at (t : Fin 8) (h : Fin 4) (i : Fin 16) (n : Fin 384) : val_main_v72 (F := Ideal) p (ix4 t i h n) = gv p t h i n := by
  rw [val_main_v72_apply, val_main_v3_apply]
  refine congrArg p (funext fun a => Fin.ext ?_)
  match a with
  | ⟨0, _⟩ => show (((t.val * 16 + i.val) * 4 + h.val) * 384 + n.val) / 24576 = t.val; omega
  | ⟨1, _⟩ => show (((t.val * 16 + i.val) * 4 + h.val) * 384 + n.val) / 1536 % 16 = i.val; omega
  | ⟨2, _⟩ => show 3072 + (((t.val * 16 + i.val) * 4 + h.val) * 384 + n.val) % 1536 = 3072 + (384 * h.val + n.val); omega

theorem gate_at (t : Fin 8) (h : Fin 4) (i : Fin 16) (d : Fin 192) :
    val_main_v14 (F := Ideal) p w b (ix3 t i (⟨192 * h.val + d.val, by omega⟩ : Fin 768)) = gateIn p w b t h i d := by
  rw [val_main_v14_apply, val_main_v11_apply, val_main_v13_apply, val_main_v12_apply]
  refine congrArg₂ (fun e f : EReal => e + f) (Finset.sum_congr rfl fun e _ => ?_) (congrArg b (funext fun a => Fin.ext ?_))
  · rw [val_main_v4_apply]
    refine congrArg₂ (fun e f : EReal => e * f) (congrArg p (funext fun a => Fin.ext ?_)) (congrArg w (funext fun a => Fin.ext ?_))
    · match a with
      | ⟨0, _⟩ => rfl
      | ⟨1, _⟩ => rfl
      | ⟨2, _⟩ => rfl
    · match a with
      | ⟨0, _⟩ => rfl
      | ⟨1, _⟩ => rfl
  · match a with
    | ⟨0, _⟩ => rfl

/-- The nonlinearity of the gate, read off the operations. -/
theorem nonlinearity (j : S8x16x768.Idx) (y : EReal) (hy : val_main_v14 (F := Ideal) p w b j = y) :
    val_main_v17 (F := Ideal) p w b j
      = Ideal.div (-(max (-y) 0 + Ideal.log1p (Ideal.exp (-(max (-y - 0) (-(-y - 0))))))) (Ideal.ofBits .f32 0x41800000#32) := by
  rw [val_main_v17_apply, val_main_v15_apply, val_main_call0_v1_apply, val_main_call0_call0_v4_apply, val_main_call0_call0_v11_apply,
    val_main_call0_call0_v10_apply, val_main_call0_call0_v9_apply, val_main_call0_call0_v8_apply, val_main_call0_call0_v7_apply,
    val_main_call0_call0_v3_apply, val_main_call0_call0_v1_apply, val_main_call0_v0_apply, val_main_call0_call0_v0_apply,
    val_main_call0_call0_v2_apply, val_main_call0_call0_cst_apply, val_main_v16_apply, val_main_cst_0_apply, hy]
  have hg : ∀ e : EReal, Ideal.cmp .une e e = 0#1 := fun e => by
    show BitVec.ofBool (decide (e ≠ e)) = 0#1
    rw [decide_eq_false (fun h => h rfl)]; rfl
  show Ideal.div (-(Scalar.select (Ideal.cmp .une (-y - Ideal.ofBits .f32 0x00000000#32) (-y - Ideal.ofBits .f32 0x00000000#32)) _
    (max (-y) (Ideal.ofBits .f32 0x00000000#32) + Ideal.log1p (Ideal.exp (-(max (-y - Ideal.ofBits .f32 0x00000000#32) (-(-y - Ideal.ofBits .f32 0x00000000#32)))))))) _ = _
  rw [hg, Ideal.ofBits_zero_f32]
  rfl

variable (z : Fin 8 → Fin 4 → Fin 16 → Fin 192 → ℝ) (hz : ∀ t h i d, gateIn p w b t h i d = ((z t h i d : ℝ) : EReal))

/-- The logarithms of the decays of a head of a batch. -/
abbrev logs (t : Fin 8) (h : Fin 4) : Fin 192 → Fin 16 → ℝ := fun d j => logDecay (z t h j d)

include hz

theorem decay_at (t : Fin 8) (h : Fin 4) (i : Fin 16) (d : Fin 192) :
    val_main_v22 (F := Ideal) p w b (ix4 t h i d) = ((logs z t h d i : ℝ) : EReal) := by
  rw [val_main_v22_apply, val_main_v18_apply]
  have e : idx_main_v18 (idx_main_v22 (ix4 t h i d)) = ix3 t i (⟨192 * h.val + d.val, by omega⟩ : Fin 768) := funext fun a => Fin.ext (by
    match a with
    | ⟨0, _⟩ => show (((t.val * 16 + i.val) * 4 + h.val) * 192 + d.val) / 12288 = t.val; omega
    | ⟨1, _⟩ => show (((t.val * 16 + i.val) * 4 + h.val) * 192 + d.val) / 768 % 16 = i.val; omega
    | ⟨2, _⟩ => show (((t.val * 16 + i.val) * 4 + h.val) * 192 + d.val) % 768 = 192 * h.val + d.val; omega)
  rw [e, nonlinearity p w b _ _ ((gate_at p w b t h i d).trans (hz t h i d)), sixteen]
  exact reference_gate _

theorem sum_at (t : Fin 8) (h : Fin 4) (i : Fin 16) (d : Fin 192) :
    val_main_v26 (F := Ideal) p w b (ix4 t h i d) = ((runSum (logs z t h d) 4 i.val : ℝ) : EReal) := by
  have e0 : val_main_call2_call0_v0 (F := Ideal) (Shape.Idx.first h_S_) = (0 : EReal) := by
    rw [val_main_call2_call0_v0_apply, val_main_call2_call0_cst_apply]
    exact Ideal.ofBits_zero_f32
  refine Eq.trans (b := Ideal.hostReduceWindowAdd ![1, 1, 16, 1] ![1, 1, 1, 1] ![0, 0, 15, 0] ![0, 0, 0, 0]
    reduceWindows_S8x4x16x192_S8x4x16x192_w1s1p0_0_w1s1p0_0_w16s1p15_0_w1s1p0_0 (val_main_v22 (F := Ideal) p w b)
    (val_main_call2_call0_v0 (F := Ideal) (Shape.Idx.first h_S_)) (ix4 t h i d)) rfl ?_
  rw [e0]
  refine (running_sum _ _ t h i d).trans ?_
  rw [runSum_four, ← sum_coe]
  exact Finset.sum_congr rfl fun j _ => decay_at p w b z hz t h j d

omit hz in
theorem mask_at : ∀ i j : Fin 16, val_main_v24 (F := Ideal) (ix2 i j) = if j ≤ i then 1#1 else 0#1 := fun i j => by
  rw [val_main_v24_apply, val_main_call1_v4_apply, val_main_call1_v2_apply, val_main_call1_v0_apply, val_main_call1_v1_apply, val_main_call1_c_apply,
    val_main_call1_v3_apply, val_main_v23_apply, val_main_c_apply, val_main_call1_v5_apply, val_main_call1_c_0_apply]
  exact (by decide +kernel : ∀ i j : Fin 16, Scalar.select (IntOp.cmpi .sge (IntOp.addi (BitVec.ofNat 32 i.val) 0#32) (BitVec.ofNat 32 j.val)) 1#1 0#1
    = if j ≤ i then 1#1 else 0#1) i j

theorem pair_at (t : Fin 8) (h : Fin 4) (i j : Fin 16) (d : Fin 192) :
    val_main_v33 (F := Ideal) p w b (ix5 t h i j d) = decay (logs z t h d) i j := by
  have e25 : idx_main_v25 (idx_main_call3_v1 (ix5 t h i j d)) = ix2 i j := funext fun a => Fin.ext (by
    match a with | ⟨0, _⟩ => rfl | ⟨1, _⟩ => rfl)
  have e27 : idx_main_v27 (idx_main_v29 (ix5 t h i j d)) = ix4 t h i d := funext fun a => Fin.ext (by
    match a with | ⟨0, _⟩ => rfl | ⟨1, _⟩ => rfl | ⟨2, _⟩ => rfl | ⟨3, _⟩ => rfl)
  have e28 : idx_main_v28 (idx_main_v30 (ix5 t h i j d)) = ix4 t h j d := funext fun a => Fin.ext (by
    match a with | ⟨0, _⟩ => rfl | ⟨1, _⟩ => rfl | ⟨2, _⟩ => rfl | ⟨3, _⟩ => rfl)
  rw [val_main_v33_apply, val_main_v32_apply, val_main_call3_v1_apply, val_main_v25_apply, e25, mask_at, val_main_v31_apply, val_main_v29_apply,
    val_main_v27_apply, e27, val_main_v30_apply, val_main_v28_apply, e28, val_main_call3_v2_apply, val_main_call3_v0_apply, val_main_cst_1_apply,
    sum_at p w b z hz, sum_at p w b z hz]
  unfold decay
  by_cases hij : j ≤ i
  · rw [if_pos hij, if_pos hij]
    show Ideal.exp (((runSum (logs z t h d) 4 i.val : ℝ) : EReal) - ((runSum (logs z t h d) 4 j.val : ℝ) : EReal)) = _
    rw [← EReal.coe_sub, Ideal.exp_coe]
  · rw [if_neg hij, if_neg hij]
    show Ideal.exp (Ideal.ofBits .f32 0xFF800000#32) = 0
    rw [negInfinity, Ideal.exp_bot]

theorem run_at (t : Fin 8) (h : Fin 4) (i : Fin 16) (d : Fin 192) :
    val_main_v42 (F := Ideal) p w b (ix4 t h i d) = run (logs z t h d) 4 i.val := by
  rw [val_main_v42_apply, sum_at p w b z hz]
  rfl

theorem attn_at (t : Fin 8) (h : Fin 4) (i : Fin 16) (n : Fin 384) :
    val_main_v45 (F := Ideal) p w b s (ix4 t h i n)
      = attn (logs z t h) (qv p t h) (kv p t h) (vv p t h) (fun d e => s (ix4 t h d e)) i n := by
  rw [val_main_v45_apply, val_main_v41_apply, val_main_v44_apply]
  unfold attn
  refine congrArg₂ (fun e f : EReal => e + f) (Finset.sum_congr rfl fun j _ => congrArg₂ (fun e f : EReal => e * f) ?_ ?_) (Finset.sum_congr rfl fun d _ => congrArg₂ (fun e f : EReal => e * f) ?_ ?_)
  · have e : lidx_main_v41 (ix4 t h i n) j = ix4 t h i j := funext fun a => Fin.ext (by
      match a with | ⟨0, _⟩ => rfl | ⟨1, _⟩ => rfl | ⟨2, _⟩ => rfl | ⟨3, _⟩ => rfl)
    rw [e, val_main_v40_apply, val_main_cst_2_apply]
    refine Eq.trans (congrArg (fun f : EReal => f + _) Ideal.ofBits_zero_f32) ((zero_add _).trans (Finset.sum_congr rfl fun d _ => ?_))
    have e5 : idx_main_v40 (ix4 t h i j) d = ix5 t h i j d := funext fun a => Fin.ext (by
      match a with | ⟨0, _⟩ => rfl | ⟨1, _⟩ => rfl | ⟨2, _⟩ => rfl | ⟨3, _⟩ => rfl | ⟨4, _⟩ => rfl)
    have eq : idx_main_v34 (idx_main_v35 (ix5 t h i j d)) = ix4 t h i d := funext fun a => Fin.ext (by
      match a with | ⟨0, _⟩ => rfl | ⟨1, _⟩ => rfl | ⟨2, _⟩ => rfl | ⟨3, _⟩ => rfl)
    have ek : idx_main_v37 (idx_main_v38 (ix5 t h i j d)) = ix4 t h j d := funext fun a => Fin.ext (by
      match a with | ⟨0, _⟩ => rfl | ⟨1, _⟩ => rfl | ⟨2, _⟩ => rfl | ⟨3, _⟩ => rfl)
    rw [e5, val_main_v39_apply, val_main_v36_apply, val_main_v35_apply, val_main_v34_apply, eq, q_at, val_main_v38_apply, val_main_v37_apply, ek,
      k_at, pair_at p w b z hz]
    rfl
  · have e : ridx_main_v41 (ix4 t h i n) j = ix4 t h j n := funext fun a => Fin.ext (by
      match a with | ⟨0, _⟩ => rfl | ⟨1, _⟩ => rfl | ⟨2, _⟩ => rfl | ⟨3, _⟩ => rfl)
    rw [e, v_at]
  · have e : lidx_main_v44 (ix4 t h i n) d = ix4 t h i d := funext fun a => Fin.ext (by
      match a with | ⟨0, _⟩ => rfl | ⟨1, _⟩ => rfl | ⟨2, _⟩ => rfl | ⟨3, _⟩ => rfl)
    rw [e, val_main_v43_apply, q_at, run_at p w b z hz]
    rfl
  · refine congrArg s (funext fun a => Fin.ext ?_)
    match a with | ⟨0, _⟩ => rfl | ⟨1, _⟩ => rfl | ⟨2, _⟩ => rfl | ⟨3, _⟩ => rfl

theorem last_at (t : Fin 8) (h : Fin 4) (d : Fin 192) :
    val_main_v46 (F := Ideal) p w b (ix4 t h (0 : Fin 1) d) = ((runSum (logs z t h d) 4 15 : ℝ) : EReal) := by
  have e : idx_main_v46 (ix4 t h (0 : Fin 1) d) = ix4 t h (15 : Fin 16) d := funext fun a => Fin.ext (by
    match a with | ⟨0, _⟩ => rfl | ⟨1, _⟩ => rfl | ⟨2, _⟩ => rfl | ⟨3, _⟩ => rfl)
  rw [val_main_v46_apply, e, sum_at p w b z hz]
  rfl

theorem state_at (t : Fin 8) (h : Fin 4) (d : Fin 192) (n : Fin 384) :
    val_main_v57 (F := Ideal) p w b s (ix4 t h d n) = stateAt z p s t h d n := by
  rw [val_main_v57_apply, val_main_v51_apply, val_main_v56_apply]
  unfold stateAt nextState
  refine congrArg₂ (fun e f : EReal => e + f) (congrArg (fun e : EReal => _ * e) ?_) (Finset.sum_congr rfl fun j _ => congrArg₂ (fun e f : EReal => e * f) ?_ ?_)
  · have e : idx_main_v48 (idx_main_v49 (idx_main_v50 (ix4 t h d n))) = ix4 t h (0 : Fin 1) d := funext fun a => Fin.ext (by
      match a with
      | ⟨0, _⟩ => show ((t.val * 4 + h.val) * 192 + d.val) / 768 = t.val; omega
      | ⟨1, _⟩ => show ((t.val * 4 + h.val) * 192 + d.val) / 192 % 4 = h.val; omega
      | ⟨2, _⟩ => rfl
      | ⟨3, _⟩ => show ((t.val * 4 + h.val) * 192 + d.val) % 192 = d.val; omega)
    rw [val_main_v50_apply, val_main_v49_apply, val_main_v48_apply, e, val_main_v47_apply, last_at p w b z hz]
    rfl
  · have e : lidx_main_v56 (ix4 t h d n) j = ix4 t h j d := funext fun a => Fin.ext (by
      match a with | ⟨0, _⟩ => rfl | ⟨1, _⟩ => rfl | ⟨2, _⟩ => rfl | ⟨3, _⟩ => rfl)
    have e52 : idx_main_v52 (ix4 t h j d) = ix4 t h (0 : Fin 1) d := funext fun a => Fin.ext (by
      match a with | ⟨0, _⟩ => rfl | ⟨1, _⟩ => rfl | ⟨2, _⟩ => rfl | ⟨3, _⟩ => rfl)
    rw [e, val_main_v55_apply, k_at, val_main_v54_apply, val_main_v53_apply, val_main_v52_apply, e52, last_at p w b z hz, sum_at p w b z hz]
    show kv p t h j d * Ideal.exp (((runSum (logs z t h d) 4 15 : ℝ) : EReal) - ((runSum (logs z t h d) 4 j.val : ℝ) : EReal)) = _
    rw [← EReal.coe_sub, Ideal.exp_coe, ← runSum_last]
    rfl
  · have e : ridx_main_v56 (ix4 t h d n) j = ix4 t h j n := funext fun a => Fin.ext (by
      match a with | ⟨0, _⟩ => rfl | ⟨1, _⟩ => rfl | ⟨2, _⟩ => rfl | ⟨3, _⟩ => rfl)
    rw [e, v_at]

/-- The output before the norm, in the order the norm reads it. -/
theorem row_at (t : Fin 8) (h : Fin 4) (i : Fin 16) (n : Fin 384) :
    val_main_v58 (F := Ideal) p w b s (ix4 t i h n)
      = attn (logs z t h) (qv p t h) (kv p t h) (vv p t h) (fun d e => s (ix4 t h d e)) i n := by
  have e : idx_main_v58 (ix4 t i h n) = ix4 t h i n := funext fun a => Fin.ext (by
    match a with | ⟨0, _⟩ => rfl | ⟨1, _⟩ => rfl | ⟨2, _⟩ => rfl | ⟨3, _⟩ => rfl)
  rw [val_main_v58_apply, e, attn_at p w b s z hz]

theorem out_at (t : Fin 8) (h : Fin 4) (i : Fin 16) (n : Fin 384) :
    val_main_v76 (F := Ideal) p w b gn s (ix2 (⟨16 * t.val + i.val, by omega⟩ : Fin 128) (⟨384 * h.val + n.val, by omega⟩ : Fin 1536))
      = outAt z p gn s t h i n := by
  have e : idx_main_v75 (ix2 (⟨16 * t.val + i.val, by omega⟩ : Fin 128) (⟨384 * h.val + n.val, by omega⟩ : Fin 1536)) = ix4 t i h n :=
    funext fun a => Fin.ext (by
      match a with
      | ⟨0, _⟩ => show ((16 * t.val + i.val) * 1536 + (384 * h.val + n.val)) / 24576 = t.val; omega
      | ⟨1, _⟩ => show ((16 * t.val + i.val) * 1536 + (384 * h.val + n.val)) / 1536 % 16 = i.val; omega
      | ⟨2, _⟩ => show ((16 * t.val + i.val) * 1536 + (384 * h.val + n.val)) / 384 % 4 = h.val; omega
      | ⟨3, _⟩ => show ((16 * t.val + i.val) * 1536 + (384 * h.val + n.val)) % 384 = n.val; omega)
  have e60 : ∀ x : Fin 384, idx_main_v60 (idx_main_v61 (idx_main_v67 (ix4 t i h n))) x = ix4 t i h x := fun x => funext fun a => Fin.ext (by
    match a with | ⟨0, _⟩ => rfl | ⟨1, _⟩ => rfl | ⟨2, _⟩ => rfl | ⟨3, _⟩ => rfl)
  have e69 : idx_main_v69 (idx_main_v70 (ix4 t i h n)) = ix1 n := funext fun a => Fin.ext (by match a with | ⟨0, _⟩ => rfl)
  have es : val_main_v60 (F := Ideal) p w b s (idx_main_v61 (idx_main_v67 (ix4 t i h n)))
      = ∑ x : Fin 384, attn (logs z t h) (qv p t h) (kv p t h) (vv p t h) (fun d e => s (ix4 t h d e)) i x
          * attn (logs z t h) (qv p t h) (kv p t h) (vv p t h) (fun d e => s (ix4 t h d e)) i x := by
    rw [val_main_v60_apply, val_main_cst_3_apply]
    refine Eq.trans (congrArg (fun f : EReal => f + _) Ideal.ofBits_zero_f32) ((zero_add _).trans (Finset.sum_congr rfl fun x _ => ?_))
    rw [e60, val_main_v59_apply, row_at p w b s z hz]
    rfl
  rw [val_main_v76_apply, val_main_v75_apply, e, val_main_v74_apply, val_main_v71_apply, val_main_v68_apply, row_at p w b s z hz, val_main_v67_apply,
    val_main_v66_apply, val_main_v65_apply, val_main_v63_apply, val_main_v61_apply, es, val_main_v62_apply, val_main_cst_4_apply, val_main_v64_apply,
    val_main_cst_5_apply, val_main_v70_apply, val_main_v69_apply, e69, val_main_v73_apply, g_at, val_main_call4_v5_apply, val_main_call4_v4_apply,
    val_main_call4_cst_0_apply, val_main_call4_v3_apply, val_main_call4_v2_apply, val_main_call4_cst_apply, val_main_call4_v1_apply,
    val_main_call4_v0_apply, g_at]
  unfold outAt normed
  rw [← Ideal.ofBits_one_f32]
  rfl

end Cert.ReferenceIdeal.Closed

end
-- ==== Proof.Gla.Equal.lean ====
module

public import proofs.«01_k».proof.Proof.Gla.Arrays
public import proofs.«01_k».proof.Proof.Gla.Reference
public import proofs.«01_k».proof.Pre_gates_finite

@[expose] public section

/-! The kernel's two result arrays are the reference's, where what the gate reads is finite. -/

set_option maxRecDepth 16384

noncomputable section

open Idealize.ShloMosaic Idealize.ShloMosaic.ValueIdx Idealize.ShloMosaic.TcCoe Idealize.SL.Sem

namespace Cert.Gla

/-- The side conditions the precondition's operations take. -/
theorem preFacts : Cert.Pre_gates_finite.Facts := ⟨by decide, by decide, by decide, by decide⟩

/-- A comparison of a magnitude with infinity that came out true is of a real number. -/
theorem real_of_lt (x : EReal) (h : Ideal.cmp .olt (max x (-x)) (Ideal.ofBits .f32 0x7F800000#32) = 1#1) : ∃ r : ℝ, x = (r : EReal) := by
  rw [infinity] at h
  refine exists_real_of_abs_lt ?_
  by_contra hn
  have : Ideal.cmp .olt (max x (-x)) ⊤ = 0#1 := by
    show BitVec.ofBool (decide (max x (-x) < ⊤)) = 0#1
    rw [decide_eq_false hn]
    rfl
  rw [this] at h
  exact absurd h (by decide)

section
variable (p : Proj) (w : GateW) (b : GateB)

/-- What the gate's nonlinearity is applied to is real where the low-rank columns, the weights and the bias are. -/
theorem gateIn_real
    (hp : ∀ (t : Fin 8) (i e : Fin 16), ∃ r : ℝ, p (ix3 t i ⟨4608 + e.val, by omega⟩) = (r : EReal))
    (hw : ∀ (e : Fin 16) (n : Fin 768), ∃ r : ℝ, w (ix2 e n) = (r : EReal))
    (hb : ∀ n : Fin 768, ∃ r : ℝ, b (ix1 n) = (r : EReal)) :
    ∃ z : Fin 8 → Fin 4 → Fin 16 → Fin 192 → ℝ, ∀ t h i d, gateIn p w b t h i d = ((z t h i d : ℝ) : EReal) := by
  choose P hP using hp
  choose W hW using hw
  choose B hB using hb
  refine ⟨fun t h i d => (∑ e : Fin 16, P t i e * W e ⟨192 * h.val + d.val, by omega⟩) + B ⟨192 * h.val + d.val, by omega⟩, fun t h i d => ?_⟩
  rw [EReal.coe_add, ← hB, ← sum_coe]
  refine congrArg (fun s : EReal => s + _) (Finset.sum_congr rfl fun e _ => ?_)
  rw [EReal.coe_mul, ← hP, ← hW]

end

/-- The precondition gives the gate's real inputs. -/
theorem gates_real [Cert.Pre_gates_finite.Facts] (p : FVec Ideal ⟨3, ![8, 16, 5136]⟩ .f32) (w : FVec Ideal ⟨2, ![16, 768]⟩ .f32)
    (b : FVec Ideal ⟨1, ![768]⟩ .f32) (gn : FVec Ideal ⟨1, ![384]⟩ .f32) (s : FVec Ideal ⟨4, ![8, 4, 192, 384]⟩ .f32)
    (h : (Cert.Pre_gates_finite.fn (F := Ideal) p w b gn s).1 = (fun _ => 1#1)
      ∧ (Cert.Pre_gates_finite.fn (F := Ideal) p w b gn s).2.1 = (fun _ => 1#1)
      ∧ (Cert.Pre_gates_finite.fn (F := Ideal) p w b gn s).2.2 = (fun _ => 1#1)) :
    ∃ z : Fin 8 → Fin 4 → Fin 16 → Fin 192 → ℝ, ∀ t h i d, gateIn p w b t h i d = ((z t h i d : ℝ) : EReal) := by
  refine gateIn_real p w b (fun t i e => ?_) (fun e n => ?_) (fun n => ?_)
  · have := congrFun h.1 (ix3 t i e)
    refine (real_of_lt _ this).imp fun r hr => Eq.trans (congrArg p (funext fun a => Fin.ext ?_)) hr
    match a with
    | ⟨0, _⟩ => show t.val = 0 + t.val; omega
    | ⟨1, _⟩ => show i.val = 0 + i.val; omega
    | ⟨2, _⟩ => rfl
  · exact real_of_lt _ (congrFun h.2.1 (ix2 e n))
  · exact real_of_lt _ (congrFun h.2.2 (ix1 n))

end Cert.Gla

namespace Cert.KernelIdeal.Blk

open Cert.KernelIdeal Cert.KernelIdeal.Gen Cert.KernelIdeal.Value Cert.Gla

variable (m : (ℓ : Loc nD τ sig) → Buf (Elt Ideal) ℓ) (c : Dev nD)
variable (z : Fin 8 → Fin 4 → Fin 16 → Fin 192 → ℝ)
  (hz : ∀ t h i d, gateIn (argP m c) (argW m c) (argB m c) t h i d = ((z t h i d : ℝ) : EReal))

include hz

/-- The whole output array. -/
theorem out_equal : (dats m 0 c).arrAt 11 cfg0.N
    = Cert.ReferenceIdeal.Read.val_main_v76 (F := Ideal) (argP m c) (argW m c) (argB m c) (argN m c) (argS m c) := by
  refine funext fun j => ?_
  obtain ⟨r, q, rfl⟩ : ∃ (r : Fin 128) (q : Fin 1536), j = ix2 r q := ⟨j 0, j 1, eq_ix2 j⟩
  have ht : r.val / 16 < grid0.N := by rw [N_0]; omega
  have e0 := out_array m c z hz ⟨r.val / 16, ht⟩ ⟨q.val / 384, by omega⟩ ⟨r.val % 16, by omega⟩ ⟨q.val % 384, by omega⟩
  have e1 := Cert.ReferenceIdeal.Closed.out_at (argP m c) (argW m c) (argB m c) (argN m c) (argS m c) z hz
    ⟨r.val / 16, by omega⟩ ⟨q.val / 384, by omega⟩ ⟨r.val % 16, by omega⟩ ⟨q.val % 384, by omega⟩
  have er : r = (⟨16 * (r.val / 16) + r.val % 16, by omega⟩ : Fin 128) := Fin.ext (Nat.div_add_mod r.val 16).symm
  have eq : q = (⟨384 * (q.val / 384) + q.val % 384, by omega⟩ : Fin 1536) := Fin.ext (Nat.div_add_mod q.val 384).symm
  rw [er, eq]
  exact e0.trans e1.symm

/-- The whole array of states. -/
theorem state_equal : (dats m 0 c).arrAt 12 cfg0.N
    = Cert.ReferenceIdeal.Read.val_main_v57 (F := Ideal) (argP m c) (argW m c) (argB m c) (argS m c) := by
  refine funext fun j => ?_
  obtain ⟨t, h, d, n, rfl⟩ : ∃ (t : Fin 8) (h : Fin 4) (d : Fin 192) (n : Fin 384), j = ix4 t h d n := ⟨j 0, j 1, j 2, j 3, eq_ix4 j⟩
  have ht : t.val < grid0.N := by rw [N_0]; omega
  exact (state_array m c z hz ⟨t.val, ht⟩ h d n).trans (Cert.ReferenceIdeal.Closed.state_at (argP m c) (argW m c) (argB m c) (argS m c) z hz t h d n).symm

end Cert.KernelIdeal.Blk

end
-- ==== Proof.Dense.Core.lean ====
module

public import Idealize.ShloMosaic.Lib.Pipeline.Value
public import Idealize.ShloMosaic.Lib.ValueIdx
public import Idealize.ShloMosaic.Lib.Pipeline.ValueKit.Tiles
public import Idealize.ShloMosaic.PureOps.Ideal.Laws

@[expose] public section

/-! Plain products of matrices, and places of rectangles, by coordinates. -/

set_option maxRecDepth 16384

noncomputable section

open Idealize.ShloMosaic Idealize.ShloMosaic.ValueIdx Idealize.ShloMosaic.TcCoe Idealize.SL.Sem

namespace Cert.Dense

/-- A load of a rectangle, at an index. -/
theorem load_at {s : Shape} {α : EltTy → Type} {e : EltTy} (x : s.Idx → α e) (off size : Fin s.rank → Nat) (inb)
    (j : (Rect.unit (s := s) off size inb).shape.Idx) (k : s.Idx) (h : ∀ a, (k a).val = off a + (j a).val) :
    View.ld (Val := α) x (Rect.unit off size inb) j = x k :=
  congrArg x (funext fun a => Fin.ext ((Rect.idx_unit_val off size inb j a).trans (h a).symm))

/-- An index of a matrix from its two coordinates. -/
theorem ix2_of {M N : Nat} (j : (⟨2, ![M, N]⟩ : Shape).Idx) (p : Fin M) (q : Fin N) (h0 : (j 0).val = p.val) (h1 : (j 1).val = q.val) : j = ix2 p q :=
  funext fun a => Fin.ext (by match a with | ⟨0, _⟩ => exact h0 | ⟨1, _⟩ => exact h1)

/-- An index of a stack of matrices from its three coordinates. -/
theorem ix3_of {L M N : Nat} (j : (⟨3, ![L, M, N]⟩ : Shape).Idx) (l : Fin L) (p : Fin M) (q : Fin N) (h0 : (j 0).val = l.val) (h1 : (j 1).val = p.val)
    (h2 : (j 2).val = q.val) : j = ix3 l p q :=
  funext fun a => Fin.ext (by match a with | ⟨0, _⟩ => exact h0 | ⟨1, _⟩ => exact h1 | ⟨2, _⟩ => exact h2)

section Product

variable {M K N : Nat}

theorem plain_sum (wf : DotDims.WF ⟨2, ![M, K]⟩ ⟨2, ![K, N]⟩ ⟨2, ![M, N]⟩ [1] [0] [0] [1] [] [])
    {A : Type} [AddCommMonoid A] (f : (⟨2, ![M, K]⟩ : Shape).Idx → (⟨2, ![K, N]⟩ : Shape).Idx → A) (i : (⟨2, ![M, N]⟩ : Shape).Idx) :
    (∑ q : (DotDims.mk [1] [0] [0] [1] [] [] wf).contr.Idx, f ((DotDims.mk [1] [0] [0] [1] [] [] wf).lhsIdx i q) ((DotDims.mk [1] [0] [0] [1] [] [] wf).rhsIdx i q))
      = ∑ k : Fin K, f (ix2 (i 0) k) (ix2 k (i 1)) := by
  set d : DotDims ⟨2, ![M, K]⟩ ⟨2, ![K, N]⟩ ⟨2, ![M, N]⟩ := DotDims.mk [1] [0] [0] [1] [] [] wf with hd
  have l0 : ∀ q, (d.lhsIdx i q 0).val = (i 0).val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, (d.rhsIdx i q 1).val = (i 1).val := fun q => by
    unfold DotDims.rhsIdx
    rw [dif_neg (show ¬(1 : Fin 2) ∈ ([] : List (Fin 2)) by decide), dif_pos (show (1 : Fin 2) ∈ ([1] : List (Fin 2)) by decide)]
    rfl
  have l1 : ∀ q, (d.lhsIdx i q 1).val = (q ⟨0, Nat.one_pos⟩).val := fun q => d.lhsIdx_val_of_single rfl i q
  have r0 : ∀ q, (d.rhsIdx i q 0).val = (q ⟨0, Nat.one_pos⟩).val := fun q => d.rhsIdx_val_of_single rfl i q
  rw [← Equiv.sum_comp (contrEquiv1 d K rfl rfl).symm]
  refine Finset.sum_congr rfl fun k _ => ?_
  have hk := contrEquiv1_symm_val d K rfl rfl k
  rw [ix2_of (d.lhsIdx i ((contrEquiv1 d K rfl rfl).symm k)) (i 0) k (l0 _) ((l1 _).trans hk),
    ix2_of (d.rhsIdx i ((contrEquiv1 d K rfl rfl).symm k)) k (i 1) ((r0 _).trans hk) (r1 _)]

theorem sum_of_plain (d : DotDims ⟨2, ![M, K]⟩ ⟨2, ![K, N]⟩ ⟨2, ![M, N]⟩) (h1 : d.lhsContracting = [1]) (h2 : d.rhsContracting = [0])
    (h3 : d.lhsNonContracting = [0]) (h4 : d.rhsNonContracting = [1]) (h5 : d.lhsBatch = []) (h6 : d.rhsBatch = [])
    {A : Type} [AddCommMonoid A] (f : (⟨2, ![M, K]⟩ : Shape).Idx → (⟨2, ![K, N]⟩ : Shape).Idx → A) (i : (⟨2, ![M, N]⟩ : Shape).Idx) :
    (∑ q : d.contr.Idx, f (d.lhsIdx i q) (d.rhsIdx i q)) = ∑ k : Fin K, f (ix2 (i 0) k) (ix2 k (i 1)) := by
  obtain ⟨a1, a2, a3, a4, a5, a6, wf⟩ := d
  subst h1; subst h2; subst h3; subst h4; subst h5; subst h6
  exact plain_sum wf f i

/-- The product of rows by columns, accumulated from zero, at an index. -/
theorem product_at {φ₁ φ₂ : FTy} (d : DotDims ⟨2, ![M, K]⟩ ⟨2, ![K, N]⟩ ⟨2, ![M, N]⟩) (prec : Option ContractPrecision)
    (h1 : d.lhsContracting = [1]) (h2 : d.rhsContracting = [0])
    (h3 : d.lhsNonContracting = [0]) (h4 : d.rhsNonContracting = [1]) (h5 : d.lhsBatch = []) (h6 : d.rhsBatch = [])
    (l : FVec Ideal ⟨2, ![M, K]⟩ φ₁) (r : FVec Ideal ⟨2, ![K, N]⟩ φ₂) (i : (⟨2, ![M, N]⟩ : Shape).Idx) :
    FloatOps.matmul d prec l r (constant ⟨2, ![M, N]⟩ .f32 0x00000000#32) i = ∑ k : Fin K, l (ix2 (i 0) k) * r (ix2 k (i 1)) := by
  rw [Ideal.matmul_constant_zero_apply]
  exact sum_of_plain d h1 h2 h3 h4 h5 h6 (A := EReal) (fun a b => l a * r b) i

end Product

/-- A stack of one matrix, read as the matrix, at an index. -/
theorem unstack_at {α : Type} {M N : Nat} (x : (⟨3, ![1, M, N]⟩ : Shape).Idx → α) (h) (p : Fin M) (q : Fin N) :
    shapeCast (s := ⟨3, ![1, M, N]⟩) ⟨2, ![M, N]⟩ x h (ix2 p q) = x (ix3 0 p q) :=
  shapeCast_apply x h _ _ (by
    rewrite [Shape.rowMajor_val_three, Shape.rowMajor_val_two]
    show (0 * M + p.val) * N + q.val = p.val * N + q.val
    rw [Nat.zero_mul, Nat.zero_add])

end Cert.Dense

end
-- ==== Proof.Dense.SwiGlu.lean ====
module

public import proofs.«01_k».proof.Proof.Gen.Kernel2Ideal.Value
public import proofs.«01_k».proof.Proof.Gen.Reference2Ideal.Read
public import proofs.«01_k».proof.Proof.Dense.Core

@[expose] public section

/-! The hidden rows: the gate's columns through the smooth unit, times the other half of the columns. -/

set_option maxRecDepth 16384

noncomputable section

open Idealize.ShloMosaic Idealize.ShloMosaic.ValueIdx Idealize.ShloMosaic.TcCoe Idealize.SL.Sem Idealize.ShloMosaic.StableHlo

namespace Cert.Kernel2Ideal.Dense

open Cert.Kernel2Ideal Cert.Kernel2Ideal.Gen Cert.Kernel2Ideal.Value Cert.Dense

/-- The unit: `g` over one plus the exponential of its negation, times `u`. -/
def swish (g u : Ideal .f32) : Ideal .f32 :=
  FloatOps.mulf (φ := .f32) (FloatOps.mulf (φ := .f32) g (FloatOps.divf (φ := .f32) (FloatOps.ofBits .f32 0x3F800000#32)
    (FloatOps.addf (φ := .f32) (FloatOps.ofBits .f32 0x3F800000#32) (FloatOps.exp (φ := .f32) (FloatOps.subf (φ := .f32) (FloatOps.ofBits .f32 0x00000000#32) g))))) u

theorem negated (g : Ideal .f32) : FloatOps.subf (φ := .f32) (FloatOps.ofBits .f32 0x00000000#32) g = FloatOps.hostNegf (φ := .f32) g := by
  show (Ideal.ofBits .f32 0x00000000#32 : EReal) - g = - (g : EReal)
  rw [Ideal.ofBits_zero_f32, zero_sub]

theorem ix_0 : ∀ t : Fin grid0.N, cc0_transform_0 (grid0.coords t) = ![t.val % 16, 0] := by decide +kernel
theorem ix_1 : ∀ t : Fin grid0.N, cc0_transform_1 (grid0.coords t) = ![0, 0, t.val / 16] := by decide +kernel
theorem ix_2 : ∀ t : Fin grid0.N, cc0_transform_2 (grid0.coords t) = ![0, 0, t.val / 16 + 11] := by decide +kernel
theorem ix_3 : ∀ t : Fin grid0.N, cc0_transform_3 (grid0.coords t) = ![t.val % 16, t.val / 16] := by decide +kernel
theorem points : grid0.N = 176 := by decide

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero3 : (![0, 0, 0] : Fin 3 → Nat) = fun _ => 0 := funext fun a => by match a with | ⟨0, _⟩ => rfl | ⟨1, _⟩ => rfl | ⟨2, _⟩ => rfl

/-! ## A block -/

/-- The matrix product the kernel computes for one chunk of rows, at an index. -/
theorem chunk_product (x : Vec Ideal S512x2048 .bf16) (w : FVec Ideal S2048x512 .bf16) (j : S512x512.Idx) :
    FloatOps.matmul dot_S512x2048_S2048x512_S512x512_1_0_0_1_n_n none (shapeCast S512x2048 x shapeCasts_S512x2048_S512x2048 : FVec Ideal S512x2048 .bf16) w
      (constant S512x512 .f32 0x00000000#32) j = ∑ k : Fin 2048, x (ix2 (j 0) k) * w (ix2 k (j 1)) := by
  rw [shapeCast_self]
  exact product_at (φ₁ := .bf16) (φ₂ := .bf16) dot_S512x2048_S2048x512_S512x512_1_0_0_1_n_n none rfl rfl rfl rfl rfl rfl x w j

theorem pay_at (wg wu : FVec Ideal S2048x512 .bf16) (x : Vec Ideal S512x2048 .bf16) (j : S512x512.Idx) :
    k0_pay1 wg wu x j = swish (∑ k : Fin 2048, x (ix2 (j 0) k) * wg (ix2 k (j 1))) (∑ k : Fin 2048, x (ix2 (j 0) k) * wu (ix2 k (j 1))) := by
  rw [← chunk_product x wg j, ← chunk_product x wu j]
  rfl

theorem pay2_eq (wg wu : FVec Ideal S2048x512 .bf16) (x : Vec Ideal S512x2048 .bf16) : k0_pay2 wg wu x = k0_pay1 wg wu x := rfl
theorem pay5_eq (wg wu : Vec Ideal S1x2048x512 .f32) (x : Vec Ideal S512x2048 .bf16) : k0_pay5 wg wu x = k0_pay1 (k0_pay3 wg) (k0_pay4 wu) x := rfl
theorem pay6_eq (wg wu : Vec Ideal S1x2048x512 .f32) (x : Vec Ideal S512x2048 .bf16) : k0_pay6 wg wu x = k0_pay1 (k0_pay3 wg) (k0_pay4 wu) x := rfl

theorem pay3_at (w : Vec Ideal S1x2048x512 .f32) (k : Fin 2048) (q : Fin 512) : k0_pay3 w (ix2 k q) = w (ix3 0 k q) := unstack_at w _ k q
theorem pay4_at (w : Vec Ideal S1x2048x512 .f32) (k : Fin 2048) (q : Fin 512) : k0_pay4 w (ix2 k q) = w (ix3 0 k q) := unstack_at w _ k q

/-- What a block holds at row `p`, column `q`. -/
def blockAt (x : Vec Ideal S2048x2048 .bf16) (wg wu : Vec Ideal S1x2048x512 .f32) (p : Fin 2048) (q : Fin 512) : Ideal .f32 :=
  swish (∑ k : Fin 2048, x (ix2 p k) * wg (ix3 0 k q)) (∑ k : Fin 2048, x (ix2 p k) * wu (ix3 0 k q))

/-- One chunk of 512 rows starting at row `o`. -/
theorem chunk_at (o : Nat) (ho : o + 512 ≤ 2048) (inb) (x : Vec Ideal S2048x2048 .bf16) (wg wu : Vec Ideal S1x2048x512 .f32) (j : S512x512.Idx) :
    k0_pay1 (k0_pay3 wg) (k0_pay4 wu) (View.ld (Val := Elt Ideal) x (Rect.unit (s := S2048x2048) ![o, 0] S512x2048.size inb)) j
      = blockAt x wg wu ⟨o + (j 0).val, by have := idx2_lt0 j; omega⟩ (j 1) := by
  have hx : ∀ k : Fin 2048, View.ld (Val := Elt Ideal) x (Rect.unit (s := S2048x2048) ![o, 0] S512x2048.size inb) (ix2 (j 0) k)
      = x (ix2 ⟨o + (j 0).val, by have := idx2_lt0 j; omega⟩ k) := fun k =>
    load_at (α := Elt Ideal) x _ _ inb _ _ fun a => by match a with | ⟨0, _⟩ => rfl | ⟨1, _⟩ => exact (Nat.zero_add _).symm
  refine (pay_at _ _ _ j).trans (congrArg₂ swish ?_ ?_)
  · exact Finset.sum_congr rfl fun k _ => congrArg₂ (· * ·) (hx k) (pay3_at wg k (j 1))
  · exact Finset.sum_congr rfl fun k _ => congrArg₂ (· * ·) (hx k) (pay4_at wu k (j 1))

theorem chunk_piece (o : Nat) (ho : o + 512 ≤ 2048) (inb) (inb') (x : Vec Ideal S2048x2048 .bf16) (wg wu : Vec Ideal S1x2048x512 .f32)
    (j : (Rect.unit (s := S2048x512) ![o, 0] S512x512.size inb').shape.Idx) :
    k0_pay1 (k0_pay3 wg) (k0_pay4 wu) (View.ld (Val := Elt Ideal) x (Rect.unit (s := S2048x2048) ![o, 0] S512x2048.size inb)) j
      = (fun y : S2048x512.Idx => blockAt x wg wu (y 0) (y 1)) ((Rect.unit (s := S2048x512) ![o, 0] S512x512.size inb').emb j) := by
  refine (chunk_at o ho inb x wg wu j).trans (congrArg₂ (blockAt x wg wu) (Fin.ext ?_) (Fin.ext ?_))
  · exact (Rect.idx_unit_val (s := S2048x512) ![o, 0] S512x512.size inb' j 0).symm
  · exact ((Rect.idx_unit_val (s := S2048x512) ![o, 0] S512x512.size inb' j 1).trans (Nat.zero_add _)).symm

theorem out_at (x : Vec Ideal S2048x2048 .bf16) (wg wu : Vec Ideal S1x2048x512 .f32) (y : S2048x512.Idx) :
    out0_3 x wg wu y = blockAt x wg wu (y 0) (y 1) := by
  unfold out0_3 k0_pay7 k0_pay8
  rw [View.ld_unit_zero zero3, View.ld_unit_zero zero3]
  refine View.canon_apply_of_pieces (Val := Elt Ideal) (S := S2048x512) (e := .bf16) (fun y : S2048x512.Idx => blockAt x wg wu (y 0) (y 1)) _ ?_ y (cover0_3 _ _ _ _ y)
  refine List.forall_mem_cons.2 ⟨fun j => ?_, List.forall_mem_cons.2 ⟨fun j => ?_, List.forall_mem_cons.2 ⟨fun j => ?_, List.forall_mem_cons.2 ⟨fun j => ?_, fun p h => absurd h List.not_mem_nil⟩⟩⟩⟩
  · exact (congrFun (pay2_eq _ _ _) j).trans (chunk_piece 1536 (by decide) inb_S2048x2048_S512x2048_1536_0 inb_S2048x512_S512x512_1536_0 x wg wu j)
  · exact chunk_piece 1024 (by decide) inb_S2048x2048_S512x2048_1024_0 inb_S2048x512_S512x512_1024_0 x wg wu j
  · exact (congrFun (pay6_eq _ _ _) j).trans (chunk_piece 512 (by decide) inb_S2048x2048_S512x2048_512_0 inb_S2048x512_S512x512_512_0 x wg wu j)
  · exact (congrFun (pay5_eq _ _ _) j).trans (chunk_piece 0 (by decide) inb_S2048x2048_S512x2048_0_0 inb_S2048x512_S512x512_0_0 x wg wu j)

/-! ## The arrays -/

variable (m : (ℓ : Loc nD τ sig) → Buf (Elt Ideal) ℓ) (c : Dev nD)

/-- The arguments, and the array the kernel leaves, typed at their shapes. -/
def argX : FVec Ideal S32768x2048 .f32 := m ((c : Thread nD τ).loc main_arg0)
def argW : FVec Ideal S4x2048x11264 .f32 := m ((c : Thread nD τ).loc main_arg1)
def kOut : FVec Ideal S32768x5632 .bf16 := (dats m 0 c).arrAt 3 cfg0.N

/-- The rows the kernel stages. -/
theorem staged_rows : V m c main_v0 = argX m c := by
  unfold V
  simp only [hostOps0]
  after_results
  rfl

/-- The blocks, typed at their shapes. -/
def xBlk (t : Fin grid0.N) : Vec Ideal S2048x2048 .bf16 := iblk m c 0 t
def gBlk (t : Fin grid0.N) : Vec Ideal S1x2048x512 .f32 := iblk m c 1 t
def uBlk (t : Fin grid0.N) : Vec Ideal S1x2048x512 .f32 := iblk m c 2 t

theorem xBlk_at (t : Fin grid0.N) (p : Fin 2048) (k : Fin 2048) (r : Fin 32768) (hr : r.val = t.val % 16 * 2048 + p.val) :
    xBlk m c t (ix2 p k) = argX m c (ix2 r k) := by
  refine Eq.trans (congrArg (V m c main_v0) (funext fun a => Fin.ext ?_)) (congrFun (staged_rows m c) (ix2 r k))
  refine (place main_v0 _ _ _ _ a).trans ?_
  match a with
  | ⟨0, _⟩ => show cc0_transform_0 (grid0.coords t) 0 * 2048 + p.val = r.val; rw [ix_0]; exact hr.symm
  | ⟨1, _⟩ => show cc0_transform_0 (grid0.coords t) 1 * 2048 + k.val = k.val; rw [ix_0]; show 0 * 2048 + _ = _; omega

theorem gBlk_at (t : Fin grid0.N) (k : Fin 2048) (q : Fin 512) (s : Fin 11264) (hs : s.val = t.val / 16 * 512 + q.val) :
    gBlk m c t (ix3 0 k q) = argW m c (ix3 0 k s) := by
  refine Eq.trans (congrArg (V m c main_arg1) (funext fun a => Fin.ext ?_)) (congrFun (V_main_arg1 m c) (ix3 (0 : Fin 4) k s))
  refine (place main_arg1 _ _ _ _ a).trans ?_
  match a with
  | ⟨0, _⟩ => show cc0_transform_1 (grid0.coords t) 0 * 1 + 0 = 0; rw [ix_1]; rfl
  | ⟨1, _⟩ => show cc0_transform_1 (grid0.coords t) 1 * 2048 + k.val = k.val; rw [ix_1]; show 0 * 2048 + _ = _; omega
  | ⟨2, _⟩ => show cc0_transform_1 (grid0.coords t) 2 * 512 + q.val = s.val; rw [ix_1]; exact hs.symm

theorem uBlk_at (t : Fin grid0.N) (k : Fin 2048) (q : Fin 512) (s : Fin 11264) (hs : s.val = (t.val / 16 + 11) * 512 + q.val) :
    uBlk m c t (ix3 0 k q) = argW m c (ix3 0 k s) := by
  refine Eq.trans (congrArg (V m c main_arg1) (funext fun a => Fin.ext ?_)) (congrFun (V_main_arg1 m c) (ix3 (0 : Fin 4) k s))
  refine (place main_arg1 _ _ _ _ a).trans ?_
  match a with
  | ⟨0, _⟩ => show cc0_transform_2 (grid0.coords t) 0 * 1 + 0 = 0; rw [ix_2]; rfl
  | ⟨1, _⟩ => show cc0_transform_2 (grid0.coords t) 1 * 2048 + k.val = k.val; rw [ix_2]; show 0 * 2048 + _ = _; omega
  | ⟨2, _⟩ => show cc0_transform_2 (grid0.coords t) 2 * 512 + q.val = s.val; rw [ix_2]; exact hs.symm

/-- The layer's value at row `r`, column `s`. -/
def hiddenAt (x : FVec Ideal S32768x2048 .f32) (w : FVec Ideal S4x2048x11264 .f32) (r : Fin 32768) (s : Fin 5632) : Ideal .f32 :=
  swish (∑ k : Fin 2048, x (ix2 r k) * w (ix3 0 k ⟨s.val, by omega⟩)) (∑ k : Fin 2048, x (ix2 r k) * w (ix3 0 k ⟨5632 + s.val, by omega⟩))

theorem array_at (r : Fin 32768) (s : Fin 5632) : kOut m c (ix2 r s) = hiddenAt (argX m c) (argW m c) r s := by
  have hr := r.isLt
  have hs := s.isLt
  obtain ⟨t, ht⟩ : ∃ t : Fin grid0.N, t.val = s.val / 512 * 16 + r.val / 2048 := ⟨⟨s.val / 512 * 16 + r.val / 2048, by rw [points]; omega⟩, rfl⟩
  obtain ⟨p, hp⟩ : ∃ p : Fin 2048, p.val = r.val % 2048 := ⟨⟨r.val % 2048, by omega⟩, rfl⟩
  obtain ⟨q, hq⟩ : ∃ q : Fin 512, q.val = s.val % 512 := ⟨⟨s.val % 512, by omega⟩, rfl⟩
  have h1 : r.val = t.val % 16 * 2048 + p.val := by omega
  have h2 : s.val = t.val / 16 * 512 + q.val := by omega
  have e := congrFun (blocks3 m c t (flush0_3 t)) (ix2 p q)
  rw [flushed3] at e
  refine Eq.trans (congrArg ((dats m 0 c).arrAt 3 cfg0.N) (funext fun a => Fin.ext ?_)) (e.trans ?_)
  · refine Eq.symm ((place main_v1 _ _ _ _ a).trans ?_)
    match a with
    | ⟨0, _⟩ => show cc0_transform_3 (grid0.coords t) 0 * 2048 + p.val = r.val; rw [ix_3]; exact h1.symm
    | ⟨1, _⟩ => show cc0_transform_3 (grid0.coords t) 1 * 512 + q.val = s.val; rw [ix_3]; exact h2.symm
  · refine (out_at (xBlk m c t) (gBlk m c t) (uBlk m c t) (ix2 p q)).trans (congrArg₂ swish ?_ ?_)
    · exact Finset.sum_congr rfl fun k _ => congrArg₂ (· * ·) (xBlk_at m c t p k r h1) (gBlk_at m c t k q ⟨s.val, by omega⟩ h2)
    · exact Finset.sum_congr rfl fun k _ => congrArg₂ (· * ·) (xBlk_at m c t p k r h1) (uBlk_at m c t k q ⟨5632 + s.val, by omega⟩ (by show 5632 + s.val = _; omega))

/-! ## The reference -/

open Cert.Reference2Ideal.Read in
theorem columns_at (x : FVec Ideal S32768x2048 .f32) (w : FVec Ideal S4x2048x11264 .f32) (i : Cert.Reference2Ideal.S32768x11264.Idx) (r : Fin 32768) (s : Fin 11264)
    (h0 : (i 0).val = r.val) (h1 : (i 1).val = s.val) :
    val_main_v2 (F := Ideal) x w i = ∑ k : Fin 2048, x (ix2 r k) * w (ix3 0 k s) := by
  rw [val_main_v2_apply]
  refine Finset.sum_congr rfl fun k _ => congrArg₂ (· * ·) (congrArg x (ix2_of _ r k h0 rfl)) ?_
  rw [val_main_v1_apply, val_main_v0_apply]
  have := k.isLt
  have := s.isLt
  refine congrArg w (ix3_of _ 0 k s rfl ?_ ?_)
  · show (k.val * 11264 + (i 1).val) / 11264 % 2048 = k.val; omega
  · show (k.val * 11264 + (i 1).val) % 11264 = s.val; omega

open Cert.Reference2Ideal.Read in
theorem reference_at (x : FVec Ideal S32768x2048 .f32) (w : FVec Ideal S4x2048x11264 .f32) (r : Fin 32768) (s : Fin 5632) :
    val_main_v7 (F := Ideal) x w (ix2 r s) = hiddenAt x w r s := by
  rw [val_main_v7_apply, val_main_v6_apply, val_main_v5_apply, val_main_call0_v5_apply, val_main_call0_v3_apply, val_main_call0_v4_apply,
    val_main_call0_v2_apply, val_main_call0_v1_apply, val_main_call0_v0_apply, val_main_call0_cst_apply, val_main_call0_cst_0_apply,
    val_main_v3_apply, val_main_v4_apply, columns_at x w (idx_main_v3 (ix2 r s)) r ⟨s.val, by omega⟩ rfl rfl,
    columns_at x w (idx_main_v4 (ix2 r s)) r ⟨5632 + s.val, by omega⟩ rfl rfl, ← negated]
  rfl

/-- The array the kernel leaves is the reference's. -/
theorem array_eq : kOut m c = Cert.Reference2Ideal.Read.val_main_v7 (F := Ideal) (argX m c) (argW m c) := by
  refine funext fun j => ?_
  rw [ix2_of j (j 0) (j 1) rfl rfl]
  exact (array_at m c _ _).trans (reference_at _ _ _ _).symm

end Cert.Kernel2Ideal.Dense

end
-- ==== Proof.Dense.Norm.lean ====
module

public import proofs.«01_k».proof.Proof.Dense.Core

/-! # The normalization of a row

The layer's normalization of a row of 2048 entries — the mean taken off, the result divided by the root of its mean square, scaled and
shifted — as a function of the row, and the kernel's vector operations for it read at an index. -/

@[expose] public section

set_option maxRecDepth 16384

noncomputable section

open Idealize.ShloMosaic Idealize.ShloMosaic.ValueIdx Idealize.ShloMosaic.TcCoe Idealize.SL.Sem

namespace Cert.Dense

/-- The mean of a row. -/
def mean (y : Fin 2048 → Ideal .f32) : Ideal .f32 :=
  Ideal.div (∑ k : Fin 2048, y k) (Ideal.ofBits .f32 0x45000000#32)

/-- A row with its mean taken off. -/
def centered (y : Fin 2048 → Ideal .f32) (k : Fin 2048) : Ideal .f32 := y k - mean y

/-- A normalized row, at a column. -/
def norm (y g b : Fin 2048 → Ideal .f32) (q : Fin 2048) : Ideal .f32 :=
  centered y q * Ideal.rsqrt (mean (fun k => centered y k * centered y k) + Ideal.ofBits .f32 0x3727C5AC#32) * g q + b q

section Rows

variable {M : Nat} (h : (⟨2, ![M, 2048]⟩ : Shape).Reduces [1] ⟨1, ![M]⟩) (hc : (⟨1, ![M]⟩ : Shape).ShapeCasts ⟨2, ![M, 1]⟩)
  (hb : (⟨2, ![M, 1]⟩ : Shape).Broadcasts ⟨2, ![M, 2048]⟩) (hg : (⟨2, ![1, 2048]⟩ : Shape).Broadcasts ⟨2, ![M, 2048]⟩)

/-- The means of the rows of a block, as the kernel takes them. -/
def meanRows (y : FVec Ideal ⟨2, ![M, 2048]⟩ .f32) : FVec Ideal ⟨2, ![M, 1]⟩ .f32 :=
  divf (shapeCast ⟨2, ![M, 1]⟩ (multiReduction .add [1] ⟨1, ![M]⟩ y 0x00000000#32 h (.inl rfl) rfl) hc)
    (broadcast ⟨2, ![M, 1]⟩ (Scalar.ofBits .f32 0x45000000#32))

/-- A block with its rows' means taken off, as the kernel computes it. -/
def centeredRows (y : FVec Ideal ⟨2, ![M, 2048]⟩ .f32) : FVec Ideal ⟨2, ![M, 2048]⟩ .f32 :=
  subf y (broadcastTo ⟨2, ![M, 2048]⟩ (meanRows h hc y) hb)

/-- A block of normalized rows, as the kernel computes it. -/
def normRows (y : FVec Ideal ⟨2, ![M, 2048]⟩ .f32) (g b : FVec Ideal ⟨2, ![1, 2048]⟩ .f32) : FVec Ideal ⟨2, ![M, 2048]⟩ .f32 :=
  addf (mulf (mulf (centeredRows h hc hb y)
      (broadcastTo ⟨2, ![M, 2048]⟩
        (rsqrt (addf (meanRows h hc (mulf (centeredRows h hc hb y) (centeredRows h hc hb y)))
          (broadcast ⟨2, ![M, 1]⟩ (Scalar.ofBits .f32 0x3727C5AC#32)))) hb))
      (broadcastTo ⟨2, ![M, 2048]⟩ g hg)) (broadcastTo ⟨2, ![M, 2048]⟩ b hg)

theorem meanRows_at (y : FVec Ideal ⟨2, ![M, 2048]⟩ .f32) (p : Fin M) : meanRows h hc y (ix2 p 0) = mean fun k => y (ix2 p k) := by
  refine congrArg (Ideal.div · (Ideal.ofBits .f32 0x45000000#32)) ?_
  refine (shapeCast_apply _ hc (ix2 p 0) (ix1 p) (by
    rewrite [Shape.rowMajor_val_one, Shape.rowMajor_val_two]
    show p.val = p.val * 1 + 0
    omega)).trans ?_
  refine (Ideal.multiReduction_add_single _ _ _ _ _ (ix1 p)).trans (Finset.sum_congr rfl fun e _ => ?_)
  have el : h.lift (ix1 p) e = ix2 p e := funext fun a => by
    match a with | ⟨0, _⟩ => rfl | ⟨1, _⟩ => rfl
  exact congrArg y el

theorem spread_at (x : FVec Ideal ⟨2, ![M, 1]⟩ .f32) (p : Fin M) (q : Fin 2048) : broadcastTo ⟨2, ![M, 2048]⟩ x hb (ix2 p q) = x (ix2 p 0) := by
  refine broadcastTo_apply _ hb (ix2 p q) (ix2 p (0 : Fin 1)) fun a => ?_
  match a with
  | ⟨0, _⟩ =>
    show p.val = if M = 1 then 0 else p.val
    have := p.isLt
    split <;> omega
  | ⟨1, _⟩ => rfl

theorem row_at (x : FVec Ideal ⟨2, ![1, 2048]⟩ .f32) (p : Fin M) (q : Fin 2048) : broadcastTo ⟨2, ![M, 2048]⟩ x hg (ix2 p q) = x (ix2 0 q) := by
  refine broadcastTo_apply _ hg (ix2 p q) (ix2 (0 : Fin 1) q) fun a => ?_
  match a with
  | ⟨0, _⟩ => rfl
  | ⟨1, _⟩ => rfl

theorem centeredRows_at (y : FVec Ideal ⟨2, ![M, 2048]⟩ .f32) (p : Fin M) (q : Fin 2048) :
    centeredRows h hc hb y (ix2 p q) = centered (fun k => y (ix2 p k)) q := by
  refine congrArg (y (ix2 p q) - ·) ?_
  exact (spread_at hb _ p q).trans (meanRows_at h hc y p)

/-- The kernel's normalization of a block, at an index. -/
theorem normRows_at (y : FVec Ideal ⟨2, ![M, 2048]⟩ .f32) (g b : FVec Ideal ⟨2, ![1, 2048]⟩ .f32) (p : Fin M) (q : Fin 2048) :
    normRows h hc hb hg y g b (ix2 p q) = norm (fun k => y (ix2 p k)) (fun k => g (ix2 0 k)) (fun k => b (ix2 0 k)) q := by
  refine congrArg₂ (· + ·) (congrArg₂ (· * ·) (congrArg₂ (· * ·) (centeredRows_at h hc hb y p q) ?_) (row_at hg g p q)) (row_at hg b p q)
  refine (spread_at hb _ p q).trans (congrArg (fun z => Ideal.rsqrt (z + Ideal.ofBits .f32 0x3727C5AC#32)) ?_)
  refine (meanRows_at h hc _ p).trans (congrArg mean (funext fun k => ?_))
  exact congrArg₂ (· * ·) (centeredRows_at h hc hb y p k) (centeredRows_at h hc hb y p k)

end Rows

end Cert.Dense

end
-- ==== Proof.Dense.FfnOut.lean ====
module

public import proofs.«01_k».proof.Proof.Gen.Kernel3Ideal.Value
public import proofs.«01_k».proof.Proof.Gen.Reference3Ideal.Read
public import proofs.«01_k».proof.Proof.Dense.Norm

@[expose] public section

/-! The layer's output rows: the hidden rows by a matrix, added to the scaled residual and normalized. -/

set_option maxRecDepth 16384

noncomputable section

open Idealize.ShloMosaic Idealize.ShloMosaic.ValueIdx Idealize.ShloMosaic.TcCoe Idealize.SL.Sem Idealize.ShloMosaic.StableHlo

namespace Cert.Kernel3Ideal.Dense

open Cert.Kernel3Ideal Cert.Kernel3Ideal.Gen Cert.Kernel3Ideal.Value Cert.Dense

theorem ix_0 : ∀ t : Fin grid0.N, cc0_transform_0 (grid0.coords t) = ![t.val, 0] := by decide +kernel
theorem ix_1 : ∀ t : Fin grid0.N, cc0_transform_1 (grid0.coords t) = ![0, 0, 0] := by decide +kernel
theorem ix_2 : ∀ t : Fin grid0.N, cc0_transform_2 (grid0.coords t) = ![t.val, 0] := by decide +kernel
theorem ix_3 : ∀ t : Fin grid0.N, cc0_transform_3 (grid0.coords t) = ![0, 0] := by decide +kernel
theorem ix_4 : ∀ t : Fin grid0.N, cc0_transform_4 (grid0.coords t) = ![0, 0] := by decide +kernel
theorem ix_5 : ∀ t : Fin grid0.N, cc0_transform_5 (grid0.coords t) = ![t.val, 0] := by decide +kernel
theorem ix_6 : ∀ t : Fin grid0.N, cc0_transform_6 (grid0.coords t) = ![t.val, 0] := by decide +kernel
theorem points : grid0.N = 128 := by decide

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero2 : (![0, 0] : Fin 2 → Nat) = fun _ => 0 := funext fun a => by match a with | ⟨0, _⟩ => rfl | ⟨1, _⟩ => rfl
theorem zero3 : (![0, 0, 0] : Fin 3 → Nat) = fun _ => 0 := funext fun a => by match a with | ⟨0, _⟩ => rfl | ⟨1, _⟩ => rfl | ⟨2, _⟩ => rfl

/-! ## A block -/

/-- The rows of a block before they are normalized. -/
def blockRows (x : Vec Ideal S256x5632 .bf16) (w : Vec Ideal S1x5632x2048 .bf16) (r : Vec Ideal S256x2048 .f32) : FVec Ideal S256x2048 .f32 :=
  addf (mulf (broadcast S256x2048 (Scalar.ofBits .f32 0x3FD744FD#32)) r)
    (matmul dot_S256x5632_S5632x2048_S256x2048_1_0_0_1_n_n none (shapeCast S256x5632 x shapeCasts_S256x5632_S256x5632 : FVec Ideal S256x5632 .bf16)
      (shapeCast S5632x2048 w shapeCasts_S1x5632x2048_S5632x2048 : FVec Ideal S5632x2048 .bf16) (constant S256x2048 .f32 0x00000000#32))

/-- One entry of a row before it is normalized. -/
def entry (s : Ideal .f32) (x w : Fin 5632 → Ideal .f32) : Ideal .f32 := Ideal.ofBits .f32 0x3FD744FD#32 * s + ∑ k : Fin 5632, x k * w k

theorem blockRows_at (x : Vec Ideal S256x5632 .bf16) (w : Vec Ideal S1x5632x2048 .bf16) (r : Vec Ideal S256x2048 .f32) (p : Fin 256) (q : Fin 2048) :
    blockRows x w r (ix2 p q) = entry (r (ix2 p q)) (fun k => x (ix2 p k)) (fun k => w (ix3 0 k q)) := by
  refine congrArg (Ideal.ofBits .f32 0x3FD744FD#32 * r (ix2 p q) + ·) ?_
  refine (product_at (φ₁ := .bf16) (φ₂ := .bf16) dot_S256x5632_S5632x2048_S256x2048_1_0_0_1_n_n none rfl rfl rfl rfl rfl rfl
    (shapeCast S256x5632 x shapeCasts_S256x5632_S256x5632) (shapeCast S5632x2048 w shapeCasts_S1x5632x2048_S5632x2048) (ix2 p q)).trans ?_
  refine Finset.sum_congr rfl fun k _ => congrArg₂ (· * ·) ?_ ?_
  · rw [shapeCast_self]
  · exact unstack_at w _ k q

theorem pay1_eq (x : Vec Ideal S256x5632 .bf16) (r : Vec Ideal S256x2048 .f32) (w : Vec Ideal S1x5632x2048 .bf16) (g b : Vec Ideal S1x2048 .f32) :
    k0_pay1 x r w g b = normRows reduces_S256x2048_S256 shapeCasts_S256_S256x1 broadcasts_S256x1_S256x2048 broadcasts_S1x2048_S256x2048 (blockRows x w r)
      (shapeCast S1x2048 g shapeCasts_S1x2048_S1x2048) (shapeCast S1x2048 b shapeCasts_S1x2048_S1x2048) := rfl

/-- What a block holds at row `p`, column `q`. -/
def blockAt (x : Vec Ideal S256x5632 .bf16) (w : Vec Ideal S1x5632x2048 .bf16) (r : Vec Ideal S256x2048 .f32) (g b : Vec Ideal S1x2048 .f32)
    (p : Fin 256) (q : Fin 2048) : Ideal .f32 :=
  norm (fun n => entry (r (ix2 p n)) (fun k => x (ix2 p k)) (fun k => w (ix3 0 k n))) (fun n => g (ix2 0 n)) (fun n => b (ix2 0 n)) q

theorem pay1_at (x : Vec Ideal S256x5632 .bf16) (r : Vec Ideal S256x2048 .f32) (w : Vec Ideal S1x5632x2048 .bf16) (g b : Vec Ideal S1x2048 .f32)
    (p : Fin 256) (q : Fin 2048) : k0_pay1 x r w g b (ix2 p q) = blockAt x w r g b p q := by
  rw [pay1_eq, normRows_at, shapeCast_self, shapeCast_self]
  exact congrArg (fun y => norm y (fun n => g (ix2 0 n)) (fun n => b (ix2 0 n)) q) (funext fun n => blockRows_at x w r p n)

theorem pay2_eq (x : Vec Ideal S256x5632 .bf16) (r : Vec Ideal S256x2048 .f32) (w : Vec Ideal S1x5632x2048 .bf16) (g b : Vec Ideal S1x2048 .f32)
    (j : S256x2048.Idx) : k0_pay2 x r w g b j = k0_pay1 x r w g b j := rfl

theorem out5_at (x : Vec Ideal S256x5632 .bf16) (w : Vec Ideal S1x5632x2048 .bf16) (r : Vec Ideal S256x2048 .f32) (g b : Vec Ideal S1x2048 .f32)
    (p : Fin 256) (q : Fin 2048) : out0_5 x w r g b (ix2 p q) = blockAt x w r g b p q := by
  unfold out0_5
  rw [View.canon_unit_zero zero2, View.ld_unit_zero zero2, View.ld_unit_zero zero2, View.ld_unit_zero zero3, View.ld_unit_zero zero2, View.ld_unit_zero zero2]
  exact pay1_at x r w g b p q

theorem out6_at (x : Vec Ideal S256x5632 .bf16) (w : Vec Ideal S1x5632x2048 .bf16) (r : Vec Ideal S256x2048 .f32) (g b : Vec Ideal S1x2048 .f32)
    (p : Fin 256) (q : Fin 2048) : out0_6 x w r g b (ix2 p q) = blockAt x w r g b p q := by
  unfold out0_6
  rw [View.canon_unit_zero zero2, View.ld_unit_zero zero2, View.ld_unit_zero zero2, View.ld_unit_zero zero3, View.ld_unit_zero zero2, View.ld_unit_zero zero2]
  exact (pay2_eq x r w g b _).trans (pay1_at x r w g b p q)

/-! ## The arrays -/

variable (m : (ℓ : Loc nD τ sig) → Buf (Elt Ideal) ℓ) (c : Dev nD)

/-- The arguments, and the arrays the kernel leaves, typed at their shapes. -/
def argX : FVec Ideal S32768x5632 .f32 := m ((c : Thread nD τ).loc main_arg0)
def argW : FVec Ideal S4x5632x2048 .f32 := m ((c : Thread nD τ).loc main_arg1)
def argR : FVec Ideal S32768x2048 .f32 := m ((c : Thread nD τ).loc main_arg2)
def argG : FVec Ideal S2048 .f32 := m ((c : Thread nD τ).loc main_arg3)
def argB : FVec Ideal S2048 .f32 := m ((c : Thread nD τ).loc main_arg4)
def kOut : FVec Ideal S32768x2048 .f32 := (dats m 0 c).arrAt 5 cfg0.N
def kOutLow : FVec Ideal S32768x2048 .bf16 := (dats m 0 c).arrAt 6 cfg0.N

/-- The arrays the kernel stages. -/
theorem staged_rows : V m c main_v0 = argX m c := by
  unfold V
  simp only [hostOps0]
  after_results
  rfl

theorem staged_matrix : V m c main_v1 = argW m c := by
  unfold V
  simp only [hostOps0]
  after_results
  rfl

theorem staged_scale : V m c main_v2 = broadcastInDim S1x2048 ![1] bcast_S2048_S1x2048_1 (argG m c) := by
  unfold V
  simp only [hostOps0]
  after_results
  rfl

theorem staged_shift : V m c main_v3 = broadcastInDim S1x2048 ![1] bcast_S2048_S1x2048_1 (argB m c) := by
  unfold V
  simp only [hostOps0]
  after_results
  rfl

theorem row_of (x : FVec Ideal S2048 .f32) (q : Fin 2048) : broadcastInDim S1x2048 ![1] bcast_S2048_S1x2048_1 x (ix2 0 q) = x (ix1 q) :=
  broadcastInDim_apply _ bcast_S2048_S1x2048_1 x (ix2 0 q) (ix1 q) fun a => by match a with | ⟨0, _⟩ => rfl

/-- The blocks, typed at their shapes. -/
def xBlk (t : Fin grid0.N) : Vec Ideal S256x5632 .bf16 := iblk m c 0 t
def wBlk (t : Fin grid0.N) : Vec Ideal S1x5632x2048 .bf16 := iblk m c 1 t
def rBlk (t : Fin grid0.N) : Vec Ideal S256x2048 .f32 := iblk m c 2 t
def gBlk (t : Fin grid0.N) : Vec Ideal S1x2048 .f32 := iblk m c 3 t
def bBlk (t : Fin grid0.N) : Vec Ideal S1x2048 .f32 := iblk m c 4 t

theorem xBlk_at (t : Fin grid0.N) (p : Fin 256) (k : Fin 5632) (r : Fin 32768) (hr : r.val = t.val * 256 + p.val) :
    xBlk m c t (ix2 p k) = argX m c (ix2 r k) := by
  refine Eq.trans (congrArg (V m c main_v0) (funext fun a => Fin.ext ?_)) (congrFun (staged_rows m c) (ix2 r k))
  refine (place main_v0 _ _ _ _ a).trans ?_
  match a with
  | ⟨0, _⟩ => show cc0_transform_0 (grid0.coords t) 0 * 256 + p.val = r.val; rw [ix_0]; exact hr.symm
  | ⟨1, _⟩ => show cc0_transform_0 (grid0.coords t) 1 * 5632 + k.val = k.val; rw [ix_0]; show 0 * 5632 + _ = _; omega

theorem wBlk_at (t : Fin grid0.N) (k : Fin 5632) (q : Fin 2048) : wBlk m c t (ix3 0 k q) = argW m c (ix3 0 k q) := by
  refine Eq.trans (congrArg (V m c main_v1) (funext fun a => Fin.ext ?_)) (congrFun (staged_matrix m c) (ix3 (0 : Fin 4) k q))
  refine (place main_v1 _ _ _ _ a).trans ?_
  match a with
  | ⟨0, _⟩ => show cc0_transform_1 (grid0.coords t) 0 * 1 + 0 = 0; rw [ix_1]; rfl
  | ⟨1, _⟩ => show cc0_transform_1 (grid0.coords t) 1 * 5632 + k.val = k.val; rw [ix_1]; show 0 * 5632 + _ = _; omega
  | ⟨2, _⟩ => show cc0_transform_1 (grid0.coords t) 2 * 2048 + q.val = q.val; rw [ix_1]; show 0 * 2048 + _ = _; omega

theorem rBlk_at (t : Fin grid0.N) (p : Fin 256) (q : Fin 2048) (r : Fin 32768) (hr : r.val = t.val * 256 + p.val) :
    rBlk m c t (ix2 p q) = argR m c (ix2 r q) := by
  refine Eq.trans (congrArg (V m c main_arg2) (funext fun a => Fin.ext ?_)) (congrFun (V_main_arg2 m c) (ix2 r q))
  refine (place main_arg2 _ _ _ _ a).trans ?_
  match a with
  | ⟨0, _⟩ => show cc0_transform_2 (grid0.coords t) 0 * 256 + p.val = r.val; rw [ix_2]; exact hr.symm
  | ⟨1, _⟩ => show cc0_transform_2 (grid0.coords t) 1 * 2048 + q.val = q.val; rw [ix_2]; show 0 * 2048 + _ = _; omega

theorem gBlk_at (t : Fin grid0.N) (q : Fin 2048) : gBlk m c t (ix2 0 q) = argG m c (ix1 q) := by
  refine Eq.trans (congrArg (V m c main_v2) (funext fun a => Fin.ext ?_)) ((congrFun (staged_scale m c) (ix2 (0 : Fin 1) q)).trans (row_of _ q))
  refine (place main_v2 _ _ _ _ a).trans ?_
  match a with
  | ⟨0, _⟩ => show cc0_transform_3 (grid0.coords t) 0 * 1 + 0 = 0; rw [ix_3]; rfl
  | ⟨1, _⟩ => show cc0_transform_3 (grid0.coords t) 1 * 2048 + q.val = q.val; rw [ix_3]; show 0 * 2048 + _ = _; omega

theorem bBlk_at (t : Fin grid0.N) (q : Fin 2048) : bBlk m c t (ix2 0 q) = argB m c (ix1 q) := by
  refine Eq.trans (congrArg (V m c main_v3) (funext fun a => Fin.ext ?_)) ((congrFun (staged_shift m c) (ix2 (0 : Fin 1) q)).trans (row_of _ q))
  refine (place main_v3 _ _ _ _ a).trans ?_
  match a with
  | ⟨0, _⟩ => show cc0_transform_4 (grid0.coords t) 0 * 1 + 0 = 0; rw [ix_4]; rfl
  | ⟨1, _⟩ => show cc0_transform_4 (grid0.coords t) 1 * 2048 + q.val = q.val; rw [ix_4]; show 0 * 2048 + _ = _; omega

/-- A row of the layer before it is normalized, and the layer's value. -/
def rowAt (x : FVec Ideal S32768x5632 .f32) (w : FVec Ideal S4x5632x2048 .f32) (s : FVec Ideal S32768x2048 .f32) (r : Fin 32768) (n : Fin 2048) : Ideal .f32 :=
  entry (s (ix2 r n)) (fun k => x (ix2 r k)) (fun k => w (ix3 0 k n))
def layerAt (x : FVec Ideal S32768x5632 .f32) (w : FVec Ideal S4x5632x2048 .f32) (s : FVec Ideal S32768x2048 .f32) (g b : FVec Ideal S2048 .f32)
    (r : Fin 32768) (q : Fin 2048) : Ideal .f32 :=
  norm (rowAt x w s r) (fun n => g (ix1 n)) (fun n => b (ix1 n)) q

theorem block_layer (t : Fin grid0.N) (p : Fin 256) (q : Fin 2048) (r : Fin 32768) (hr : r.val = t.val * 256 + p.val) :
    blockAt (xBlk m c t) (wBlk m c t) (rBlk m c t) (gBlk m c t) (bBlk m c t) p q = layerAt (argX m c) (argW m c) (argR m c) (argG m c) (argB m c) r q := by
  have e1 : (fun n => entry (rBlk m c t (ix2 p n)) (fun k => xBlk m c t (ix2 p k)) (fun k => wBlk m c t (ix3 0 k n)))
      = rowAt (argX m c) (argW m c) (argR m c) r := funext fun n => by
    show entry _ _ _ = entry _ _ _
    rw [rBlk_at m c t p n r hr, funext fun k => xBlk_at m c t p k r hr, funext fun k => wBlk_at m c t k n]
  show norm _ _ _ q = norm _ _ _ q
  rw [e1, funext fun n => gBlk_at m c t n, funext fun n => bBlk_at m c t n]

theorem array_at (r : Fin 32768) (q : Fin 2048) :
    kOut m c (ix2 r q) = layerAt (argX m c) (argW m c) (argR m c) (argG m c) (argB m c) r q := by
  have hr := r.isLt
  obtain ⟨t, ht⟩ : ∃ t : Fin grid0.N, t.val = r.val / 256 := ⟨⟨r.val / 256, by rw [points]; omega⟩, rfl⟩
  obtain ⟨p, hp⟩ : ∃ p : Fin 256, p.val = r.val % 256 := ⟨⟨r.val % 256, by omega⟩, rfl⟩
  have h1 : r.val = t.val * 256 + p.val := by omega
  have e := congrFun (blocks5 m c t (flush0_5 t)) (ix2 p q)
  rw [flushed5] at e
  refine Eq.trans (congrArg ((dats m 0 c).arrAt 5 cfg0.N) (funext fun a => Fin.ext ?_)) (e.trans ?_)
  · refine Eq.symm ((place main_v4_0 _ _ _ _ a).trans ?_)
    match a with
    | ⟨0, _⟩ => show cc0_transform_5 (grid0.coords t) 0 * 256 + p.val = r.val; rw [ix_5]; exact h1.symm
    | ⟨1, _⟩ => show cc0_transform_5 (grid0.coords t) 1 * 2048 + q.val = q.val; rw [ix_5]; show 0 * 2048 + _ = _; omega
  · exact (out5_at (xBlk m c t) (wBlk m c t) (rBlk m c t) (gBlk m c t) (bBlk m c t) p q).trans (block_layer m c t p q r h1)

theorem arrayLow_at (r : Fin 32768) (q : Fin 2048) :
    kOutLow m c (ix2 r q) = layerAt (argX m c) (argW m c) (argR m c) (argG m c) (argB m c) r q := by
  have hr := r.isLt
  obtain ⟨t, ht⟩ : ∃ t : Fin grid0.N, t.val = r.val / 256 := ⟨⟨r.val / 256, by rw [points]; omega⟩, rfl⟩
  obtain ⟨p, hp⟩ : ∃ p : Fin 256, p.val = r.val % 256 := ⟨⟨r.val % 256, by omega⟩, rfl⟩
  have h1 : r.val = t.val * 256 + p.val := by omega
  have e := congrFun (blocks6 m c t (flush0_6 t)) (ix2 p q)
  rw [flushed6] at e
  refine Eq.trans (congrArg ((dats m 0 c).arrAt 6 cfg0.N) (funext fun a => Fin.ext ?_)) (e.trans ?_)
  · refine Eq.symm ((place main_v4_1 _ _ _ _ a).trans ?_)
    match a with
    | ⟨0, _⟩ => show cc0_transform_6 (grid0.coords t) 0 * 256 + p.val = r.val; rw [ix_6]; exact h1.symm
    | ⟨1, _⟩ => show cc0_transform_6 (grid0.coords t) 1 * 2048 + q.val = q.val; rw [ix_6]; show 0 * 2048 + _ = _; omega
  · exact (out6_at (xBlk m c t) (wBlk m c t) (rBlk m c t) (gBlk m c t) (bBlk m c t) p q).trans (block_layer m c t p q r h1)

/-! ## The reference -/

section Reference

open Cert.Reference3Ideal.Read

variable (x : FVec Ideal S32768x5632 .f32) (w : FVec Ideal S4x5632x2048 .f32) (s : FVec Ideal S32768x2048 .f32) (g b : FVec Ideal S2048 .f32)

theorem ref_row (i : S32768x2048.Idx) (r : Fin 32768) (q : Fin 2048) (h0 : (i 0).val = r.val) (h1 : (i 1).val = q.val) :
    val_main_v5 (F := Ideal) x w s i = rowAt x w s r q := by
  rw [val_main_v5_apply, val_main_v1_apply, val_main_v0_apply, val_main_cst_apply, val_main_v4_apply]
  refine congrArg₂ (· + ·) (congrArg (Ideal.ofBits .f32 0x3FD744FD#32 * s ·) (ix2_of i r q h0 h1)) ?_
  refine Finset.sum_congr rfl fun k _ => congrArg₂ (· * ·) (congrArg x (ix2_of _ r k h0 rfl)) ?_
  rw [val_main_v3_apply, val_main_v2_apply]
  have := k.isLt
  have := q.isLt
  refine congrArg w (ix3_of _ 0 k q rfl ?_ ?_)
  · show (k.val * 2048 + (i 1).val) / 2048 % 5632 = k.val; omega
  · show (k.val * 2048 + (i 1).val) % 2048 = q.val; omega

theorem ref_mean (i : Cert.Reference3Ideal.S32768x1.Idx) (r : Fin 32768) (h0 : (i 0).val = r.val) :
    val_main_v9 (F := Ideal) x w s i = mean (rowAt x w s r) := by
  rw [val_main_v9_apply, val_main_v7_apply, val_main_v6_apply, val_main_v8_apply, val_main_cst_1_apply, val_main_cst_0_apply]
  refine congrArg (Ideal.div · (Ideal.ofBits .f32 0x45000000#32)) ?_
  refine (congrArg (· + _) Ideal.ofBits_zero_f32).trans ((zero_add _).trans (Finset.sum_congr rfl fun k _ => ?_))
  exact ref_row x w s _ r k h0 rfl

theorem ref_centered (i : S32768x2048.Idx) (r : Fin 32768) (q : Fin 2048) (h0 : (i 0).val = r.val) (h1 : (i 1).val = q.val) :
    val_main_v11 (F := Ideal) x w s i = centered (rowAt x w s r) q := by
  rw [val_main_v11_apply, val_main_v10_apply]
  exact congrArg₂ (· - ·) (ref_row x w s i r q h0 h1) (ref_mean x w s _ r h0)

theorem ref_centered' (i : S32768x2048.Idx) (r : Fin 32768) (q : Fin 2048) (h0 : (i 0).val = r.val) (h1 : (i 1).val = q.val) :
    val_main_v18 (F := Ideal) x w s i = centered (rowAt x w s r) q := by
  rw [val_main_v18_apply, val_main_v17_apply]
  exact congrArg₂ (· - ·) (ref_row x w s i r q h0 h1) (ref_mean x w s _ r h0)

theorem ref_square (i : Cert.Reference3Ideal.S32768x1.Idx) (r : Fin 32768) (h0 : (i 0).val = r.val) :
    val_main_v16 (F := Ideal) x w s i = mean fun k => centered (rowAt x w s r) k * centered (rowAt x w s r) k := by
  rw [val_main_v16_apply, val_main_v14_apply, val_main_v13_apply, val_main_v15_apply, val_main_cst_3_apply, val_main_cst_2_apply]
  refine congrArg (Ideal.div · (Ideal.ofBits .f32 0x45000000#32)) ?_
  refine (congrArg (· + _) Ideal.ofBits_zero_f32).trans ((zero_add _).trans (Finset.sum_congr rfl fun k _ => ?_))
  rw [val_main_v12_apply]
  exact congrArg₂ (· * ·) (ref_centered x w s _ r k h0 rfl) (ref_centered x w s _ r k h0 rfl)

theorem reference_at (r : Fin 32768) (q : Fin 2048) : val_main_v29 (F := Ideal) x w s g b (ix2 r q) = layerAt x w s g b r q := by
  rw [val_main_v29_apply, val_main_v26_apply, val_main_v23_apply, val_main_v22_apply, val_main_v21_apply, val_main_v20_apply, val_main_v19_apply,
    val_main_cst_4_apply, val_main_v25_apply, val_main_v24_apply, val_main_v28_apply, val_main_v27_apply, ref_centered' x w s (ix2 r q) r q rfl rfl,
    ref_square x w s (idx_main_v22 (ix2 r q)) r rfl]
  refine congrArg₂ (· + ·) (congrArg₂ (· * ·) rfl (congrArg g (funext fun a => ?_))) (congrArg b (funext fun a => ?_))
  · match a with | ⟨0, _⟩ => rfl
  · match a with | ⟨0, _⟩ => rfl

end Reference

/-- The arrays the kernel leaves are the reference's. -/
theorem array_eq : kOut m c = Cert.Reference3Ideal.Read.val_main_v29 (F := Ideal) (argX m c) (argW m c) (argR m c) (argG m c) (argB m c) := by
  refine funext fun j => ?_
  rw [ix2_of j (j 0) (j 1) rfl rfl]
  exact (array_at m c _ _).trans (reference_at _ _ _ _ _ _ _).symm

theorem arrayLow_eq : kOutLow m c = Cert.Reference3Ideal.Read.val_main_v30 (F := Ideal) (argX m c) (argW m c) (argR m c) (argG m c) (argB m c) := by
  refine funext fun j => ?_
  rw [ix2_of j (j 0) (j 1) rfl rfl]
  exact (arrayLow_at m c _ _).trans (reference_at _ _ _ _ _ _ _).symm

end Cert.Kernel3Ideal.Dense

end
-- ==== Proof.Dense.Merge.lean ====
module

public import proofs.«01_k».proof.Proof.Gen.Kernel4Ideal.Value
public import proofs.«01_k».proof.Proof.Gen.Reference4Ideal.Read
public import proofs.«01_k».proof.Proof.Dense.Norm

@[expose] public section

/-! The merge: two groups of attention rows side by side, by a matrix, added to the scaled residual and normalized. -/

set_option maxRecDepth 16384

noncomputable section

open Idealize.ShloMosaic Idealize.ShloMosaic.ValueIdx Idealize.ShloMosaic.TcCoe Idealize.SL.Sem Idealize.ShloMosaic.StableHlo

namespace Cert.Kernel4Ideal.Dense

open Cert.Kernel4Ideal Cert.Kernel4Ideal.Gen Cert.Kernel4Ideal.Value Cert.Dense

theorem ix_0 : ∀ t : Fin grid0.N, cc0_transform_0 (grid0.coords t) = ![t.val, 0] := by decide +kernel
theorem ix_1 : ∀ t : Fin grid0.N, cc0_transform_1 (grid0.coords t) = ![t.val, 0] := by decide +kernel
theorem ix_2 : ∀ t : Fin grid0.N, cc0_transform_2 (grid0.coords t) = ![0, 0, 0] := by decide +kernel
theorem ix_3 : ∀ t : Fin grid0.N, cc0_transform_3 (grid0.coords t) = ![t.val, 0] := by decide +kernel
theorem ix_4 : ∀ t : Fin grid0.N, cc0_transform_4 (grid0.coords t) = ![0, 0] := by decide +kernel
theorem ix_5 : ∀ t : Fin grid0.N, cc0_transform_5 (grid0.coords t) = ![0, 0] := by decide +kernel
theorem ix_6 : ∀ t : Fin grid0.N, cc0_transform_6 (grid0.coords t) = ![t.val, 0] := by decide +kernel
theorem ix_7 : ∀ t : Fin grid0.N, cc0_transform_7 (grid0.coords t) = ![t.val, 0] := by decide +kernel
theorem points : grid0.N = 64 := by decide

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero2 : (![0, 0] : Fin 2 → Nat) = fun _ => 0 := funext fun a => by match a with | ⟨0, _⟩ => rfl | ⟨1, _⟩ => rfl
theorem zero3 : (![0, 0, 0] : Fin 3 → Nat) = fun _ => 0 := funext fun a => by match a with | ⟨0, _⟩ => rfl | ⟨1, _⟩ => rfl | ⟨2, _⟩ => rfl

/-! ## A block -/

/-- Two groups of columns side by side. -/
def join {α : Type} (f : Fin 1536 → α) (g : Fin 512 → α) (k : Fin 2048) : α := if h : k.val < 1536 then f ⟨k.val, h⟩ else g ⟨k.val - 1536, by omega⟩

theorem join_at {α : Type} {M : Nat} (a : (⟨2, ![M, 1536]⟩ : Shape).Idx → α) (b : (⟨2, ![M, 512]⟩ : Shape).Idx → α)
    (h : Shape.Concatenates [(⟨2, ![M, 1536]⟩ : Shape), ⟨2, ![M, 512]⟩] ⟨2, ![M, 2048]⟩ 1) (p : Fin M) (k : Fin 2048) :
    concatenate ⟨2, ![M, 2048]⟩ 1 [⟨⟨2, ![M, 1536]⟩, a⟩, ⟨⟨2, ![M, 512]⟩, b⟩] h (ix2 p k) = join (fun n => a (ix2 p n)) (fun n => b (ix2 p n)) k := by
  unfold join
  by_cases hk : k.val < 1536
  · rw [dif_pos hk]
    exact concatenate_pair_apply_left (s₁ := ⟨2, ![M, 1536]⟩) (s₂ := ⟨2, ![M, 512]⟩) 1 a b h (ix2 p k) rfl (ix2 p ⟨k.val, hk⟩) fun b => by
      match b with | ⟨0, _⟩ => rfl | ⟨1, _⟩ => rfl
  · rw [dif_neg hk]
    exact concatenate_pair_apply_right (s₁ := ⟨2, ![M, 1536]⟩) (s₂ := ⟨2, ![M, 512]⟩) 1 a b h (ix2 p k) rfl rfl (ix2 p ⟨k.val - 1536, by omega⟩)
      (fun b hb => by match b with | ⟨0, _⟩ => rfl | ⟨1, _⟩ => exact absurd rfl hb)
      (by show k.val - 1536 + 1536 = k.val; omega)

/-- The rows of a chunk before they are normalized. -/
def chunkRows (a : Vec Ideal S128x1536 .bf16) (b : Vec Ideal S128x512 .bf16) (r : Vec Ideal S128x2048 .f32) (w : Vec Ideal S1x2048x2048 .bf16) :
    FVec Ideal S128x2048 .f32 :=
  addf (mulf (broadcast S128x2048 (Scalar.ofBits .f32 0x3FD744FD#32)) r)
    (matmul dot_S128x2048_S2048x2048_S128x2048_1_0_0_1_n_n none
      (concatenate S128x2048 1 [⟨S128x1536, (shapeCast S128x1536 a shapeCasts_S128x1536_S128x1536 : FVec Ideal S128x1536 .bf16)⟩,
        ⟨S128x512, (shapeCast S128x512 b shapeCasts_S128x512_S128x512 : FVec Ideal S128x512 .bf16)⟩] concatenates_S128x1536_S128x512_S128x2048_d1 : FVec Ideal S128x2048 .bf16)
      (shapeCast S2048x2048 w shapeCasts_S1x2048x2048_S2048x2048 : FVec Ideal S2048x2048 .bf16) (constant S128x2048 .f32 0x00000000#32))

/-- One entry of a row before it is normalized. -/
def entry (s : Ideal .f32) (x w : Fin 2048 → Ideal .f32) : Ideal .f32 := Ideal.ofBits .f32 0x3FD744FD#32 * s + ∑ k : Fin 2048, x k * w k

theorem chunkRows_at (a : Vec Ideal S128x1536 .bf16) (b : Vec Ideal S128x512 .bf16) (r : Vec Ideal S128x2048 .f32) (w : Vec Ideal S1x2048x2048 .bf16)
    (p : Fin 128) (q : Fin 2048) :
    chunkRows a b r w (ix2 p q) = entry (r (ix2 p q)) (join (fun n => a (ix2 p n)) (fun n => b (ix2 p n))) (fun k => w (ix3 0 k q)) := by
  refine congrArg (Ideal.ofBits .f32 0x3FD744FD#32 * r (ix2 p q) + ·) ?_
  refine (product_at (φ₁ := .bf16) (φ₂ := .bf16) dot_S128x2048_S2048x2048_S128x2048_1_0_0_1_n_n none rfl rfl rfl rfl rfl rfl
    (concatenate S128x2048 1 [⟨S128x1536, (shapeCast S128x1536 a shapeCasts_S128x1536_S128x1536 : FVec Ideal S128x1536 .bf16)⟩,
      ⟨S128x512, (shapeCast S128x512 b shapeCasts_S128x512_S128x512 : FVec Ideal S128x512 .bf16)⟩] concatenates_S128x1536_S128x512_S128x2048_d1 : FVec Ideal S128x2048 .bf16)
    (shapeCast S2048x2048 w shapeCasts_S1x2048x2048_S2048x2048) (ix2 p q)).trans ?_
  refine Finset.sum_congr rfl fun k _ => congrArg₂ (· * ·) ?_ ?_
  · rw [shapeCast_self, shapeCast_self]
    exact join_at (α := Ideal .bf16) a b concatenates_S128x1536_S128x512_S128x2048_d1 p k
  · exact unstack_at w _ k q

theorem pay3_eq (a : Vec Ideal S128x1536 .bf16) (b : Vec Ideal S128x512 .bf16) (r : Vec Ideal S128x2048 .f32) (w : Vec Ideal S1x2048x2048 .bf16)
    (g s : Vec Ideal S1x2048 .f32) :
    k0_pay3 a b r w g s = normRows reduces_S128x2048_S128 shapeCasts_S128_S128x1 broadcasts_S128x1_S128x2048 broadcasts_S1x2048_S128x2048 (chunkRows a b r w)
      (shapeCast S1x2048 g shapeCasts_S1x2048_S1x2048) (shapeCast S1x2048 s shapeCasts_S1x2048_S1x2048) := rfl

section Same

variable (a : Vec Ideal S128x1536 .bf16) (b : Vec Ideal S128x512 .bf16) (r : Vec Ideal S128x2048 .f32) (w : Vec Ideal S1x2048x2048 .bf16)
  (g s : Vec Ideal S1x2048 .f32) (j : S128x2048.Idx)

theorem pay7_eq : k0_pay7 (k0_pay5 a b r w g) (k0_pay6 s) = k0_pay3 a b r w g s := rfl
theorem pay11_eq : k0_pay11 (k0_pay9 a b r w) (k0_pay10 g) s = k0_pay3 a b r w g s := rfl
theorem pay1_eq : k0_pay1 (k0_pay13 a b r w) g s = k0_pay3 a b r w g s := rfl
theorem pay4_eq : k0_pay4 (k0_pay3 a b r w g s) j = k0_pay3 a b r w g s j := rfl
theorem pay8_eq : k0_pay8 (k0_pay5 a b r w g) (k0_pay6 s) j = k0_pay7 (k0_pay5 a b r w g) (k0_pay6 s) j := rfl
theorem pay12_eq : k0_pay12 (k0_pay9 a b r w) (k0_pay10 g) s j = k0_pay11 (k0_pay9 a b r w) (k0_pay10 g) s j := rfl
theorem pay2_eq : k0_pay2 (k0_pay13 a b r w) g s j = k0_pay1 (k0_pay13 a b r w) g s j := rfl

end Same

/-- What a block holds at row `p`, column `q`. -/
def blockAt (a : Vec Ideal S512x1536 .bf16) (b : Vec Ideal S512x512 .bf16) (w : Vec Ideal S1x2048x2048 .bf16) (r : Vec Ideal S512x2048 .f32) (g s : Vec Ideal S1x2048 .f32)
    (p : Fin 512) (q : Fin 2048) : Ideal .f32 :=
  norm (fun n => entry (r (ix2 p n)) (join (fun e => a (ix2 p e)) (fun e => b (ix2 p e))) (fun k => w (ix3 0 k n))) (fun n => g (ix2 0 n)) (fun n => s (ix2 0 n)) q

/-- One chunk of 128 rows starting at row `o`. -/
theorem chunk_at (o : Nat) (ho : o + 128 ≤ 512) (i1) (i2) (i3) (a : Vec Ideal S512x1536 .bf16) (b : Vec Ideal S512x512 .bf16) (w : Vec Ideal S1x2048x2048 .bf16)
    (r : Vec Ideal S512x2048 .f32) (g s : Vec Ideal S1x2048 .f32) (p : Fin 128) (q : Fin 2048) :
    k0_pay3 (View.ld (Val := Elt Ideal) a (Rect.unit (s := S512x1536) ![o, 0] S128x1536.size i1))
        (View.ld (Val := Elt Ideal) b (Rect.unit (s := S512x512) ![o, 0] S128x512.size i2))
        (View.ld (Val := Elt Ideal) r (Rect.unit (s := S512x2048) ![o, 0] S128x2048.size i3)) w g s (ix2 p q)
      = blockAt a b w r g s ⟨o + p.val, by omega⟩ q := by
  have ha : ∀ k : Fin 1536, View.ld (Val := Elt Ideal) a (Rect.unit (s := S512x1536) ![o, 0] S128x1536.size i1) (ix2 p k) = a (ix2 ⟨o + p.val, by omega⟩ k) := fun k =>
    load_at (α := Elt Ideal) a _ _ i1 _ _ fun a => by match a with | ⟨0, _⟩ => rfl | ⟨1, _⟩ => exact (Nat.zero_add _).symm
  have hb : ∀ k : Fin 512, View.ld (Val := Elt Ideal) b (Rect.unit (s := S512x512) ![o, 0] S128x512.size i2) (ix2 p k) = b (ix2 ⟨o + p.val, by omega⟩ k) := fun k =>
    load_at (α := Elt Ideal) b _ _ i2 _ _ fun a => by match a with | ⟨0, _⟩ => rfl | ⟨1, _⟩ => exact (Nat.zero_add _).symm
  have hr : ∀ k : Fin 2048, View.ld (Val := Elt Ideal) r (Rect.unit (s := S512x2048) ![o, 0] S128x2048.size i3) (ix2 p k) = r (ix2 ⟨o + p.val, by omega⟩ k) := fun k =>
    load_at (α := Elt Ideal) r _ _ i3 _ _ fun a => by match a with | ⟨0, _⟩ => rfl | ⟨1, _⟩ => exact (Nat.zero_add _).symm
  rw [pay3_eq, normRows_at, shapeCast_self, shapeCast_self]
  refine congrArg (fun y => norm y (fun n => g (ix2 0 n)) (fun n => s (ix2 0 n)) q) (funext fun n => (chunkRows_at _ _ _ _ p n).trans ?_)
  exact congrArg₂ (fun (u : Ideal .f32) v => entry u v (fun k => w (ix3 0 k n))) (hr n) (congrArg₂ join (funext ha) (funext hb))

theorem chunk_piece (o : Nat) (ho : o + 128 ≤ 512) (i1) (i2) (i3) (a : Vec Ideal S512x1536 .bf16) (b : Vec Ideal S512x512 .bf16) (w : Vec Ideal S1x2048x2048 .bf16)
    (r : Vec Ideal S512x2048 .f32) (g s : Vec Ideal S1x2048 .f32) (j : (Rect.unit (s := S512x2048) ![o, 0] S128x2048.size i3).shape.Idx) :
    k0_pay3 (View.ld (Val := Elt Ideal) a (Rect.unit (s := S512x1536) ![o, 0] S128x1536.size i1))
        (View.ld (Val := Elt Ideal) b (Rect.unit (s := S512x512) ![o, 0] S128x512.size i2))
        (View.ld (Val := Elt Ideal) r (Rect.unit (s := S512x2048) ![o, 0] S128x2048.size i3)) w g s j
      = (fun y : S512x2048.Idx => blockAt a b w r g s (y 0) (y 1)) ((Rect.unit (s := S512x2048) ![o, 0] S128x2048.size i3).emb j) := by
  have ej : j = ix2 (n0 := 128) (n1 := 2048) (j 0) (j 1) := ix2_of (M := 128) (N := 2048) j (j 0) (j 1) rfl rfl
  refine (congrArg _ ej).trans ((chunk_at o ho i1 i2 i3 a b w r g s (j 0) (j 1)).trans (congrArg₂ (blockAt a b w r g s) (Fin.ext ?_) (Fin.ext ?_)))
  · exact (Rect.idx_unit_val (s := S512x2048) ![o, 0] S128x2048.size i3 j 0).symm
  · exact ((Rect.idx_unit_val (s := S512x2048) ![o, 0] S128x2048.size i3 j 1).trans (Nat.zero_add _)).symm

theorem out6_at (a : Vec Ideal S512x1536 .bf16) (b : Vec Ideal S512x512 .bf16) (w : Vec Ideal S1x2048x2048 .bf16) (r : Vec Ideal S512x2048 .f32) (g s : Vec Ideal S1x2048 .f32)
    (y : S512x2048.Idx) : out0_6 a b w r g s y = blockAt a b w r g s (y 0) (y 1) := by
  unfold out0_6 k0_pay14 k0_pay15 k0_pay16 k0_pay17 k0_pay18 k0_pay19
  rw [View.ld_unit_zero (X := w) zero3, View.ld_unit_zero (X := g) zero2, View.ld_unit_zero (X := s) zero2]
  refine View.canon_apply_of_pieces (Val := Elt Ideal) (S := S512x2048) (e := .f32) (fun y : S512x2048.Idx => blockAt a b w r g s (y 0) (y 1)) _ ?_ y (cover0_6 _ _ _ _ y)
  refine List.forall_mem_cons.2 ⟨fun j => ?_, List.forall_mem_cons.2 ⟨fun j => ?_, List.forall_mem_cons.2 ⟨fun j => ?_, List.forall_mem_cons.2 ⟨fun j => ?_, fun p h => absurd h List.not_mem_nil⟩⟩⟩⟩
  · exact (congrFun (pay1_eq _ _ _ _ _ _) j).trans (chunk_piece 384 (by decide) inb_S512x1536_S128x1536_384_0 inb_S512x512_S128x512_384_0 inb_S512x2048_S128x2048_384_0 a b w r g s j)
  · exact (congrFun (pay11_eq _ _ _ _ _ _) j).trans (chunk_piece 256 (by decide) inb_S512x1536_S128x1536_256_0 inb_S512x512_S128x512_256_0 inb_S512x2048_S128x2048_256_0 a b w r g s j)
  · exact (congrFun (pay7_eq _ _ _ _ _ _) j).trans (chunk_piece 128 (by decide) inb_S512x1536_S128x1536_128_0 inb_S512x512_S128x512_128_0 inb_S512x2048_S128x2048_128_0 a b w r g s j)
  · exact chunk_piece 0 (by decide) inb_S512x1536_S128x1536_0_0 inb_S512x512_S128x512_0_0 inb_S512x2048_S128x2048_0_0 a b w r g s j

theorem out7_at (a : Vec Ideal S512x1536 .bf16) (b : Vec Ideal S512x512 .bf16) (w : Vec Ideal S1x2048x2048 .bf16) (r : Vec Ideal S512x2048 .f32) (g s : Vec Ideal S1x2048 .f32)
    (y : S512x2048.Idx) : out0_7 a b w r g s y = blockAt a b w r g s (y 0) (y 1) := by
  unfold out0_7 k0_pay14 k0_pay15 k0_pay16 k0_pay17 k0_pay18 k0_pay19
  rw [View.ld_unit_zero (X := w) zero3, View.ld_unit_zero (X := g) zero2, View.ld_unit_zero (X := s) zero2]
  refine View.canon_apply_of_pieces (Val := Elt Ideal) (S := S512x2048) (e := .bf16) (fun y : S512x2048.Idx => blockAt a b w r g s (y 0) (y 1)) _ ?_ y (cover0_7 _ _ _ _ y)
  refine List.forall_mem_cons.2 ⟨fun j => ?_, List.forall_mem_cons.2 ⟨fun j => ?_, List.forall_mem_cons.2 ⟨fun j => ?_, List.forall_mem_cons.2 ⟨fun j => ?_, fun p h => absurd h List.not_mem_nil⟩⟩⟩⟩
  · exact (pay2_eq _ _ _ _ _ _ j).trans ((congrFun (pay1_eq _ _ _ _ _ _) j).trans (chunk_piece 384 (by decide) inb_S512x1536_S128x1536_384_0 inb_S512x512_S128x512_384_0 inb_S512x2048_S128x2048_384_0 a b w r g s j))
  · exact (pay12_eq _ _ _ _ _ _ j).trans ((congrFun (pay11_eq _ _ _ _ _ _) j).trans (chunk_piece 256 (by decide) inb_S512x1536_S128x1536_256_0 inb_S512x512_S128x512_256_0 inb_S512x2048_S128x2048_256_0 a b w r g s j))
  · exact (pay8_eq _ _ _ _ _ _ j).trans ((congrFun (pay7_eq _ _ _ _ _ _) j).trans (chunk_piece 128 (by decide) inb_S512x1536_S128x1536_128_0 inb_S512x512_S128x512_128_0 inb_S512x2048_S128x2048_128_0 a b w r g s j))
  · exact (pay4_eq _ _ _ _ _ _ j).trans (chunk_piece 0 (by decide) inb_S512x1536_S128x1536_0_0 inb_S512x512_S128x512_0_0 inb_S512x2048_S128x2048_0_0 a b w r g s j)

/-! ## The arrays -/

variable (m : (ℓ : Loc nD τ sig) → Buf (Elt Ideal) ℓ) (c : Dev nD)

/-- The arguments, and the arrays the kernel leaves, typed at their shapes. -/
def argA : FVec Ideal S32768x1536 .f32 := m ((c : Thread nD τ).loc main_arg0)
def argM : FVec Ideal S32768x512 .f32 := m ((c : Thread nD τ).loc main_arg1)
def argW : FVec Ideal S4x2048x2048 .f32 := m ((c : Thread nD τ).loc main_arg2)
def argR : FVec Ideal S32768x2048 .f32 := m ((c : Thread nD τ).loc main_arg3)
def argG : FVec Ideal S2048 .f32 := m ((c : Thread nD τ).loc main_arg4)
def argB : FVec Ideal S2048 .f32 := m ((c : Thread nD τ).loc main_arg5)
def kOut : FVec Ideal S32768x2048 .f32 := (dats m 0 c).arrAt 6 cfg0.N
def kOutLow : FVec Ideal S32768x2048 .bf16 := (dats m 0 c).arrAt 7 cfg0.N

/-- The arrays the kernel stages. -/
theorem staged_rows : V m c main_v0 = argA m c := by
  unfold V
  simp only [hostOps0]
  after_results
  rfl

theorem staged_memory : V m c main_v1 = argM m c := by
  unfold V
  simp only [hostOps0]
  after_results
  rfl

theorem staged_matrix : V m c main_v2 = argW m c := by
  unfold V
  simp only [hostOps0]
  after_results
  rfl

theorem staged_scale : V m c main_v3 = broadcastInDim S1x2048 ![1] bcast_S2048_S1x2048_1 (argG m c) := by
  unfold V
  simp only [hostOps0]
  after_results
  rfl

theorem staged_shift : V m c main_v4 = broadcastInDim S1x2048 ![1] bcast_S2048_S1x2048_1 (argB m c) := by
  unfold V
  simp only [hostOps0]
  after_results
  rfl

theorem row_of (x : FVec Ideal S2048 .f32) (q : Fin 2048) : broadcastInDim S1x2048 ![1] bcast_S2048_S1x2048_1 x (ix2 0 q) = x (ix1 q) :=
  broadcastInDim_apply _ bcast_S2048_S1x2048_1 x (ix2 0 q) (ix1 q) fun a => by match a with | ⟨0, _⟩ => rfl

/-- The blocks, typed at their shapes. -/
def aBlk (t : Fin grid0.N) : Vec Ideal S512x1536 .bf16 := iblk m c 0 t
def mBlk (t : Fin grid0.N) : Vec Ideal S512x512 .bf16 := iblk m c 1 t
def wBlk (t : Fin grid0.N) : Vec Ideal S1x2048x2048 .bf16 := iblk m c 2 t
def rBlk (t : Fin grid0.N) : Vec Ideal S512x2048 .f32 := iblk m c 3 t
def gBlk (t : Fin grid0.N) : Vec Ideal S1x2048 .f32 := iblk m c 4 t
def bBlk (t : Fin grid0.N) : Vec Ideal S1x2048 .f32 := iblk m c 5 t

theorem aBlk_at (t : Fin grid0.N) (p : Fin 512) (k : Fin 1536) (r : Fin 32768) (hr : r.val = t.val * 512 + p.val) :
    aBlk m c t (ix2 p k) = argA m c (ix2 r k) := by
  refine Eq.trans (congrArg (V m c main_v0) (funext fun a => Fin.ext ?_)) (congrFun (staged_rows m c) (ix2 r k))
  refine (place main_v0 _ _ _ _ a).trans ?_
  match a with
  | ⟨0, _⟩ => show cc0_transform_0 (grid0.coords t) 0 * 512 + p.val = r.val; rw [ix_0]; exact hr.symm
  | ⟨1, _⟩ => show cc0_transform_0 (grid0.coords t) 1 * 1536 + k.val = k.val; rw [ix_0]; show 0 * 1536 + _ = _; omega

theorem mBlk_at (t : Fin grid0.N) (p : Fin 512) (k : Fin 512) (r : Fin 32768) (hr : r.val = t.val * 512 + p.val) :
    mBlk m c t (ix2 p k) = argM m c (ix2 r k) := by
  refine Eq.trans (congrArg (V m c main_v1) (funext fun a => Fin.ext ?_)) (congrFun (staged_memory m c) (ix2 r k))
  refine (place main_v1 _ _ _ _ a).trans ?_
  match a with
  | ⟨0, _⟩ => show cc0_transform_1 (grid0.coords t) 0 * 512 + p.val = r.val; rw [ix_1]; exact hr.symm
  | ⟨1, _⟩ => show cc0_transform_1 (grid0.coords t) 1 * 512 + k.val = k.val; rw [ix_1]; show 0 * 512 + _ = _; omega

theorem rBlk_at (t : Fin grid0.N) (p : Fin 512) (k : Fin 2048) (r : Fin 32768) (hr : r.val = t.val * 512 + p.val) :
    rBlk m c t (ix2 p k) = argR m c (ix2 r k) := by
  refine Eq.trans (congrArg (V m c main_arg3) (funext fun a => Fin.ext ?_)) (congrFun (V_main_arg3 m c) (ix2 r k))
  refine (place main_arg3 _ _ _ _ a).trans ?_
  match a with
  | ⟨0, _⟩ => show cc0_transform_3 (grid0.coords t) 0 * 512 + p.val = r.val; rw [ix_3]; exact hr.symm
  | ⟨1, _⟩ => show cc0_transform_3 (grid0.coords t) 1 * 2048 + k.val = k.val; rw [ix_3]; show 0 * 2048 + _ = _; omega

theorem wBlk_at (t : Fin grid0.N) (k : Fin 2048) (q : Fin 2048) : wBlk m c t (ix3 0 k q) = argW m c (ix3 0 k q) := by
  refine Eq.trans (congrArg (V m c main_v2) (funext fun a => Fin.ext ?_)) (congrFun (staged_matrix m c) (ix3 (0 : Fin 4) k q))
  refine (place main_v2 _ _ _ _ a).trans ?_
  match a with
  | ⟨0, _⟩ => show cc0_transform_2 (grid0.coords t) 0 * 1 + 0 = 0; rw [ix_2]; rfl
  | ⟨1, _⟩ => show cc0_transform_2 (grid0.coords t) 1 * 2048 + k.val = k.val; rw [ix_2]; show 0 * 2048 + _ = _; omega
  | ⟨2, _⟩ => show cc0_transform_2 (grid0.coords t) 2 * 2048 + q.val = q.val; rw [ix_2]; show 0 * 2048 + _ = _; omega

theorem gBlk_at (t : Fin grid0.N) (q : Fin 2048) : gBlk m c t (ix2 0 q) = argG m c (ix1 q) := by
  refine Eq.trans (congrArg (V m c main_v3) (funext fun a => Fin.ext ?_)) ((congrFun (staged_scale m c) (ix2 (0 : Fin 1) q)).trans (row_of _ q))
  refine (place main_v3 _ _ _ _ a).trans ?_
  match a with
  | ⟨0, _⟩ => show cc0_transform_4 (grid0.coords t) 0 * 1 + 0 = 0; rw [ix_4]; rfl
  | ⟨1, _⟩ => show cc0_transform_4 (grid0.coords t) 1 * 2048 + q.val = q.val; rw [ix_4]; show 0 * 2048 + _ = _; omega

theorem bBlk_at (t : Fin grid0.N) (q : Fin 2048) : bBlk m c t (ix2 0 q) = argB m c (ix1 q) := by
  refine Eq.trans (congrArg (V m c main_v4) (funext fun a => Fin.ext ?_)) ((congrFun (staged_shift m c) (ix2 (0 : Fin 1) q)).trans (row_of _ q))
  refine (place main_v4 _ _ _ _ a).trans ?_
  match a with
  | ⟨0, _⟩ => show cc0_transform_5 (grid0.coords t) 0 * 1 + 0 = 0; rw [ix_5]; rfl
  | ⟨1, _⟩ => show cc0_transform_5 (grid0.coords t) 1 * 2048 + q.val = q.val; rw [ix_5]; show 0 * 2048 + _ = _; omega

/-- A row of the layer before it is normalized, and the layer's value. -/
def rowAt (a : FVec Ideal S32768x1536 .f32) (b : FVec Ideal S32768x512 .f32) (w : FVec Ideal S4x2048x2048 .f32) (s : FVec Ideal S32768x2048 .f32) (r : Fin 32768) (n : Fin 2048) : Ideal .f32 :=
  entry (s (ix2 r n)) (join (fun e => a (ix2 r e)) (fun e => b (ix2 r e))) (fun k => w (ix3 0 k n))
def layerAt (a : FVec Ideal S32768x1536 .f32) (b : FVec Ideal S32768x512 .f32) (w : FVec Ideal S4x2048x2048 .f32) (s : FVec Ideal S32768x2048 .f32) (g h : FVec Ideal S2048 .f32)
    (r : Fin 32768) (q : Fin 2048) : Ideal .f32 :=
  norm (rowAt a b w s r) (fun n => g (ix1 n)) (fun n => h (ix1 n)) q

theorem block_layer (t : Fin grid0.N) (p : Fin 512) (q : Fin 2048) (r : Fin 32768) (hr : r.val = t.val * 512 + p.val) :
    blockAt (aBlk m c t) (mBlk m c t) (wBlk m c t) (rBlk m c t) (gBlk m c t) (bBlk m c t) p q = layerAt (argA m c) (argM m c) (argW m c) (argR m c) (argG m c) (argB m c) r q := by
  have e1 : (fun n => entry (rBlk m c t (ix2 p n)) (join (fun e => aBlk m c t (ix2 p e)) (fun e => mBlk m c t (ix2 p e))) (fun k => wBlk m c t (ix3 0 k n)))
      = rowAt (argA m c) (argM m c) (argW m c) (argR m c) r := funext fun n => by
    show entry _ _ _ = entry _ _ _
    rw [rBlk_at m c t p n r hr, funext fun k => aBlk_at m c t p k r hr, funext fun k => mBlk_at m c t p k r hr, funext fun k => wBlk_at m c t k n]
  show norm _ _ _ q = norm _ _ _ q
  rw [e1, funext fun n => gBlk_at m c t n, funext fun n => bBlk_at m c t n]

theorem array_at (r : Fin 32768) (q : Fin 2048) :
    kOut m c (ix2 r q) = layerAt (argA m c) (argM m c) (argW m c) (argR m c) (argG m c) (argB m c) r q := by
  have hr := r.isLt
  obtain ⟨t, ht⟩ : ∃ t : Fin grid0.N, t.val = r.val / 512 := ⟨⟨r.val / 512, by rw [points]; omega⟩, rfl⟩
  obtain ⟨p, hp⟩ : ∃ p : Fin 512, p.val = r.val % 512 := ⟨⟨r.val % 512, by omega⟩, rfl⟩
  have h1 : r.val = t.val * 512 + p.val := by omega
  have e := congrFun (blocks6 m c t (flush0_6 t)) (ix2 p q)
  rw [flushed6] at e
  refine Eq.trans (congrArg ((dats m 0 c).arrAt 6 cfg0.N) (funext fun a => Fin.ext ?_)) (e.trans ?_)
  · refine Eq.symm ((place main_v5_0 _ _ _ _ a).trans ?_)
    match a with
    | ⟨0, _⟩ => show cc0_transform_6 (grid0.coords t) 0 * 512 + p.val = r.val; rw [ix_6]; exact h1.symm
    | ⟨1, _⟩ => show cc0_transform_6 (grid0.coords t) 1 * 2048 + q.val = q.val; rw [ix_6]; show 0 * 2048 + _ = _; omega
  · exact (out6_at (aBlk m c t) (mBlk m c t) (wBlk m c t) (rBlk m c t) (gBlk m c t) (bBlk m c t) (ix2 p q)).trans (block_layer m c t p q r h1)

theorem arrayLow_at (r : Fin 32768) (q : Fin 2048) :
    kOutLow m c (ix2 r q) = layerAt (argA m c) (argM m c) (argW m c) (argR m c) (argG m c) (argB m c) r q := by
  have hr := r.isLt
  obtain ⟨t, ht⟩ : ∃ t : Fin grid0.N, t.val = r.val / 512 := ⟨⟨r.val / 512, by rw [points]; omega⟩, rfl⟩
  obtain ⟨p, hp⟩ : ∃ p : Fin 512, p.val = r.val % 512 := ⟨⟨r.val % 512, by omega⟩, rfl⟩
  have h1 : r.val = t.val * 512 + p.val := by omega
  have e := congrFun (blocks7 m c t (flush0_7 t)) (ix2 p q)
  rw [flushed7] at e
  refine Eq.trans (congrArg ((dats m 0 c).arrAt 7 cfg0.N) (funext fun a => Fin.ext ?_)) (e.trans ?_)
  · refine Eq.symm ((place main_v5_1 _ _ _ _ a).trans ?_)
    match a with
    | ⟨0, _⟩ => show cc0_transform_7 (grid0.coords t) 0 * 512 + p.val = r.val; rw [ix_7]; exact h1.symm
    | ⟨1, _⟩ => show cc0_transform_7 (grid0.coords t) 1 * 2048 + q.val = q.val; rw [ix_7]; show 0 * 2048 + _ = _; omega
  · exact (out7_at (aBlk m c t) (mBlk m c t) (wBlk m c t) (rBlk m c t) (gBlk m c t) (bBlk m c t) (ix2 p q)).trans (block_layer m c t p q r h1)

/-! ## The reference -/

section Reference

open Cert.Reference4Ideal.Read

variable (a : FVec Ideal S32768x1536 .f32) (b : FVec Ideal S32768x512 .f32) (w : FVec Ideal S4x2048x2048 .f32) (s : FVec Ideal S32768x2048 .f32) (g h : FVec Ideal S2048 .f32)

theorem ref_row (i : S32768x2048.Idx) (r : Fin 32768) (q : Fin 2048) (h0 : (i 0).val = r.val) (h1 : (i 1).val = q.val) :
    val_main_v6 (F := Ideal) a b w s i = rowAt a b w s r q := by
  rw [val_main_v6_apply, val_main_v5_apply, val_main_v4_apply, val_main_cst_apply, val_main_v3_apply]
  refine congrArg₂ (· + ·) (congrArg (Ideal.ofBits .f32 0x3FD744FD#32 * s ·) (ix2_of i r q h0 h1)) ?_
  refine Finset.sum_congr rfl fun k _ => congrArg₂ (· * ·) ?_ ?_
  · rw [ix2_of (lidx_main_v3 i k) r k h0 rfl]
    exact join_at (α := Ideal .f32) a b Cert.Reference4Ideal.Facts₀.concatenates_S32768x1536_S32768x512_S32768x2048_d1 r k
  · rw [val_main_v2_apply, val_main_v1_apply]
    have := k.isLt
    have := q.isLt
    refine congrArg w (ix3_of _ 0 k q rfl ?_ ?_)
    · show (k.val * 2048 + (i 1).val) / 2048 % 2048 = k.val; omega
    · show (k.val * 2048 + (i 1).val) % 2048 = q.val; omega

theorem ref_mean (i : Cert.Reference4Ideal.S32768x1.Idx) (r : Fin 32768) (h0 : (i 0).val = r.val) :
    val_main_v10 (F := Ideal) a b w s i = mean (rowAt a b w s r) := by
  rw [val_main_v10_apply, val_main_v8_apply, val_main_v7_apply, val_main_v9_apply, val_main_cst_1_apply, val_main_cst_0_apply]
  refine congrArg (Ideal.div · (Ideal.ofBits .f32 0x45000000#32)) ?_
  refine (congrArg (· + _) Ideal.ofBits_zero_f32).trans ((zero_add _).trans (Finset.sum_congr rfl fun k _ => ?_))
  exact ref_row a b w s _ r k h0 rfl

theorem ref_centered (i : S32768x2048.Idx) (r : Fin 32768) (q : Fin 2048) (h0 : (i 0).val = r.val) (h1 : (i 1).val = q.val) :
    val_main_v12 (F := Ideal) a b w s i = centered (rowAt a b w s r) q := by
  rw [val_main_v12_apply, val_main_v11_apply]
  exact congrArg₂ (· - ·) (ref_row a b w s i r q h0 h1) (ref_mean a b w s _ r h0)

theorem ref_centered' (i : S32768x2048.Idx) (r : Fin 32768) (q : Fin 2048) (h0 : (i 0).val = r.val) (h1 : (i 1).val = q.val) :
    val_main_v19 (F := Ideal) a b w s i = centered (rowAt a b w s r) q := by
  rw [val_main_v19_apply, val_main_v18_apply]
  exact congrArg₂ (· - ·) (ref_row a b w s i r q h0 h1) (ref_mean a b w s _ r h0)

theorem ref_square (i : Cert.Reference4Ideal.S32768x1.Idx) (r : Fin 32768) (h0 : (i 0).val = r.val) :
    val_main_v17 (F := Ideal) a b w s i = mean fun k => centered (rowAt a b w s r) k * centered (rowAt a b w s r) k := by
  rw [val_main_v17_apply, val_main_v15_apply, val_main_v14_apply, val_main_v16_apply, val_main_cst_3_apply, val_main_cst_2_apply]
  refine congrArg (Ideal.div · (Ideal.ofBits .f32 0x45000000#32)) ?_
  refine (congrArg (· + _) Ideal.ofBits_zero_f32).trans ((zero_add _).trans (Finset.sum_congr rfl fun k _ => ?_))
  rw [val_main_v13_apply]
  exact congrArg₂ (· * ·) (ref_centered a b w s _ r k h0 rfl) (ref_centered a b w s _ r k h0 rfl)

theorem reference_at (r : Fin 32768) (q : Fin 2048) : val_main_v30 (F := Ideal) a b w s g h (ix2 r q) = layerAt a b w s g h r q := by
  rw [val_main_v30_apply, val_main_v27_apply, val_main_v24_apply, val_main_v23_apply, val_main_v22_apply, val_main_v21_apply, val_main_v20_apply,
    val_main_cst_4_apply, val_main_v26_apply, val_main_v25_apply, val_main_v29_apply, val_main_v28_apply, ref_centered' a b w s (ix2 r q) r q rfl rfl,
    ref_square a b w s (idx_main_v23 (ix2 r q)) r rfl]
  refine congrArg₂ (· + ·) (congrArg₂ (· * ·) rfl (congrArg g (funext fun a => ?_))) (congrArg h (funext fun a => ?_))
  · match a with | ⟨0, _⟩ => rfl
  · match a with | ⟨0, _⟩ => rfl

end Reference

/-- The arrays the kernel leaves are the reference's. -/
theorem array_eq : kOut m c = Cert.Reference4Ideal.Read.val_main_v30 (F := Ideal) (argA m c) (argM m c) (argW m c) (argR m c) (argG m c) (argB m c) := by
  refine funext fun j => ?_
  rw [ix2_of j (j 0) (j 1) rfl rfl]
  exact (array_at m c _ _).trans (reference_at _ _ _ _ _ _ _ _).symm

theorem arrayLow_eq : kOutLow m c = Cert.Reference4Ideal.Read.val_main_v31 (F := Ideal) (argA m c) (argM m c) (argW m c) (argR m c) (argG m c) (argB m c) := by
  refine funext fun j => ?_
  rw [ix2_of j (j 0) (j 1) rfl rfl]
  exact (arrayLow_at m c _ _).trans (reference_at _ _ _ _ _ _ _ _).symm

end Cert.Kernel4Ideal.Dense

end
-- ==== Proof.Dense.MemKv.lean ====
module

public import proofs.«01_k».proof.Proof.Gen.Kernel5Ideal.Value
public import proofs.«01_k».proof.Proof.Gen.Reference5Ideal.Read
public import proofs.«01_k».proof.Proof.Dense.Core

@[expose] public section

/-! The memory's keys and values: the memory rows by the layer's matrix. -/

set_option maxRecDepth 16384

noncomputable section

open Idealize.ShloMosaic Idealize.ShloMosaic.ValueIdx Idealize.ShloMosaic.TcCoe Idealize.SL.Sem Idealize.ShloMosaic.StableHlo

namespace Cert.Kernel5Ideal.Dense

open Cert.Kernel5Ideal Cert.Kernel5Ideal.Gen Cert.Kernel5Ideal.Value Cert.Dense

theorem ix_0 : ∀ t : Fin grid0.N, cc0_transform_0 (grid0.coords t) = ![0, 0] := by decide +kernel
theorem ix_1 : ∀ t : Fin grid0.N, cc0_transform_1 (grid0.coords t) = ![0, 0, 0] := by decide +kernel
theorem ix_2 : ∀ t : Fin grid0.N, cc0_transform_2 (grid0.coords t) = ![0, 0] := by decide +kernel

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero2 : (![0, 0] : Fin 2 → Nat) = fun _ => 0 := funext fun a => by match a with | ⟨0, _⟩ => rfl | ⟨1, _⟩ => rfl
theorem zero3 : (![0, 0, 0] : Fin 3 → Nat) = fun _ => 0 := funext fun a => by match a with | ⟨0, _⟩ => rfl | ⟨1, _⟩ => rfl | ⟨2, _⟩ => rfl

variable (m : (ℓ : Loc nD τ sig) → Buf (Elt Ideal) ℓ) (c : Dev nD)

/-- The arguments, and the array the kernel leaves, typed at their shapes. -/
def argX : FVec Ideal S1024x2048 .f32 := m ((c : Thread nD τ).loc main_arg0)
def argW : FVec Ideal S4x2048x1024 .f32 := m ((c : Thread nD τ).loc main_arg1)
def kOut : FVec Ideal S1024x1024 .f32 := (dats m 0 c).arrAt 2 cfg0.N

/-- The memory rows the kernel stages. -/
theorem staged_rows : V m c main_v0 = argX m c := by
  unfold V
  simp only [hostOps0]
  after_results
  rfl

/-- The rows' block and the matrix's block, typed at their shapes. -/
def xBlk (t : Fin grid0.N) : Vec Ideal S1024x2048 .bf16 := iblk m c 0 t
def wBlk (t : Fin grid0.N) : Vec Ideal S1x2048x1024 .f32 := iblk m c 1 t

theorem xBlk_at (t : Fin grid0.N) (p : Fin 1024) (k : Fin 2048) :
    xBlk m c t (ix2 p k) = argX m c (ix2 p k) := by
  refine Eq.trans (congrArg (V m c main_v0) (funext fun a => Fin.ext ?_)) (congrFun (staged_rows m c) (ix2 p k))
  refine (place main_v0 _ _ _ _ a).trans ?_
  match a with
  | ⟨0, _⟩ => show cc0_transform_0 (grid0.coords t) 0 * 1024 + p.val = p.val; rw [ix_0]; show 0 * 1024 + _ = _; omega
  | ⟨1, _⟩ => show cc0_transform_0 (grid0.coords t) 1 * 2048 + k.val = k.val; rw [ix_0]; show 0 * 2048 + _ = _; omega

theorem wBlk_at (t : Fin grid0.N) (k : Fin 2048) (q : Fin 1024) :
    wBlk m c t (ix3 0 k q) = argW m c (ix3 0 k q) := by
  refine Eq.trans (congrArg (V m c main_arg1) (funext fun a => Fin.ext ?_)) (congrFun (V_main_arg1 m c) (ix3 (0 : Fin 4) k q))
  refine (place main_arg1 _ _ _ _ a).trans ?_
  match a with
  | ⟨0, _⟩ => show cc0_transform_1 (grid0.coords t) 0 * 1 + 0 = 0; rw [ix_1]; rfl
  | ⟨1, _⟩ => show cc0_transform_1 (grid0.coords t) 1 * 2048 + k.val = k.val; rw [ix_1]; show 0 * 2048 + _ = _; omega
  | ⟨2, _⟩ => show cc0_transform_1 (grid0.coords t) 2 * 1024 + q.val = q.val; rw [ix_1]; show 0 * 1024 + _ = _; omega

theorem pay_at (x : Vec Ideal S1024x2048 .bf16) (w : Vec Ideal S1x2048x1024 .f32) (p : Fin 1024) (q : Fin 1024) :
    k0_pay1 x w (ix2 p q) = ∑ k : Fin 2048, x (ix2 p k) * w (ix3 0 k q) := by
  refine (product_at (φ₁ := .bf16) (φ₂ := .bf16) dot_S1024x2048_S2048x1024_S1024x1024_1_0_0_1_n_n none rfl rfl rfl rfl rfl rfl
    (shapeCast S1024x2048 x shapeCasts_S1024x2048_S1024x2048)
    (truncf .bf16 (shapeCast S2048x1024 w shapeCasts_S1x2048x1024_S2048x1024 : FVec Ideal S2048x1024 .f32) bitsLt_bf16_f32) (ix2 p q)).trans ?_
  refine Finset.sum_congr rfl fun k _ => congrArg₂ (· * ·) ?_ ?_
  · rw [shapeCast_self]
  · exact unstack_at w _ k q

theorem out_at (x : Vec Ideal S1024x2048 .bf16) (w : Vec Ideal S1x2048x1024 .f32) (p : Fin 1024) (q : Fin 1024) :
    out0_2 x w (ix2 p q) = ∑ k : Fin 2048, x (ix2 p k) * w (ix3 0 k q) := by
  unfold out0_2
  rw [View.canon_unit_zero zero2, View.ld_unit_zero zero2, View.ld_unit_zero zero3]
  exact pay_at x w p q

theorem array_at (p : Fin 1024) (q : Fin 1024) :
    kOut m c (ix2 p q) = ∑ k : Fin 2048, argX m c (ix2 p k) * argW m c (ix3 0 k q) := by
  have t : Fin grid0.N := ⟨0, by decide⟩
  have e := congrFun (blocks2 m c t (flush0_2 t)) (ix2 p q)
  rw [flushed2] at e
  refine Eq.trans (congrArg ((dats m 0 c).arrAt 2 cfg0.N) (funext fun a => Fin.ext ?_)) (e.trans ?_)
  · refine Eq.symm ((place main_v1 _ _ _ _ a).trans ?_)
    match a with
    | ⟨0, _⟩ => show cc0_transform_2 (grid0.coords t) 0 * 1024 + p.val = p.val; rw [ix_2]; show 0 * 1024 + _ = _; omega
    | ⟨1, _⟩ => show cc0_transform_2 (grid0.coords t) 1 * 1024 + q.val = q.val; rw [ix_2]; show 0 * 1024 + _ = _; omega
  · refine (out_at (xBlk m c t) (wBlk m c t) p q).trans ?_
    exact Finset.sum_congr rfl fun k _ => congrArg₂ (· * ·) (xBlk_at m c t p k) (wBlk_at m c t k q)

theorem reference_at (x : Vec Ideal S1024x2048 .f32) (w : Vec Ideal S4x2048x1024 .f32) (p : Fin 1024) (q : Fin 1024) :
    Cert.Reference5Ideal.Read.val_main_v2 x w (ix2 p q) = ∑ k : Fin 2048, x (ix2 p k) * w (ix3 0 k q) := by
  rw [Cert.Reference5Ideal.Read.val_main_v2_apply]
  refine Finset.sum_congr rfl fun k _ => congrArg₂ (· * ·) (congrArg x (ix2_of _ p k rfl rfl)) ?_
  rw [Cert.Reference5Ideal.Read.val_main_v1_apply, Cert.Reference5Ideal.Read.val_main_v0_apply]
  have := k.isLt
  have := q.isLt
  refine congrArg w (ix3_of _ 0 k q rfl ?_ ?_)
  · show (k.val * 1024 + q.val) / 1024 % 2048 = k.val; omega
  · show (k.val * 1024 + q.val) % 1024 = q.val; omega

/-- The array the kernel leaves is the reference's. -/
theorem array_eq : kOut m c = Cert.Reference5Ideal.Read.val_main_v2 (F := Ideal) (argX m c) (argW m c) := by
  refine funext fun j => ?_
  rw [ix2_of j (j 0) (j 1) rfl rfl]
  exact (array_at m c _ _).trans (reference_at _ _ _ _).symm

end Cert.Kernel5Ideal.Dense

end
-- ==== Proof.Dense.Keys.lean ====
module

public import proofs.«01_k».proof.Proof.Gen.Kernel6Ideal.Value
public import proofs.«01_k».proof.Proof.Gen.Reference6Ideal.Read
public import proofs.«01_k».proof.Proof.Dense.Core

@[expose] public section

/-! The keys of the sample: the rows by the left half of the columns, cut into heads and kept whole. -/

set_option maxRecDepth 16384

noncomputable section

open Idealize.ShloMosaic Idealize.ShloMosaic.ValueIdx Idealize.ShloMosaic.TcCoe Idealize.SL.Sem Idealize.ShloMosaic.StableHlo

namespace Cert.Kernel6Ideal.Dense

open Cert.Kernel6Ideal Cert.Kernel6Ideal.Gen Cert.Kernel6Ideal.Value Cert.Dense

theorem ix_0 : ∀ t : Fin grid0.N, cc0_transform_0 (grid0.coords t) = ![t.val, 0] := by decide +kernel
theorem ix_1 : ∀ t : Fin grid0.N, cc0_transform_1 (grid0.coords t) = ![0, 0] := by decide +kernel
theorem ix_2 : ∀ t : Fin grid0.N, cc0_transform_2 (grid0.coords t) = ![t.val, 0, 0, 0] := by decide +kernel
theorem ix_3 : ∀ t : Fin grid0.N, cc0_transform_3 (grid0.coords t) = ![t.val, 0] := by decide +kernel
theorem points : grid0.N = 8 := by decide

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero2 : (![0, 0] : Fin 2 → Nat) = fun _ => 0 := funext fun a => by match a with | ⟨0, _⟩ => rfl | ⟨1, _⟩ => rfl

/-- An index of a stack of stacks of matrices from its four coordinates. -/
theorem ix4_of {A B C D : Nat} (j : (⟨4, ![A, B, C, D]⟩ : Shape).Idx) (a : Fin A) (b : Fin B) (c : Fin C) (d : Fin D) (h0 : (j 0).val = a.val)
    (h1 : (j 1).val = b.val) (h2 : (j 2).val = c.val) (h3 : (j 3).val = d.val) : j = ix4 a b c d :=
  funext fun e => Fin.ext (by match e with | ⟨0, _⟩ => exact h0 | ⟨1, _⟩ => exact h1 | ⟨2, _⟩ => exact h2 | ⟨3, _⟩ => exact h3)

/-! ## A block -/

theorem pay2_at (x : Vec Ideal S16x2048 .bf16) (w : Vec Ideal S2048x1536 .f32) (p : Fin 16) (q : Fin 1536) :
    k0_pay2 x w (ix2 p q) = ∑ k : Fin 2048, x (ix2 p k) * w (ix2 k q) := by
  refine (product_at (φ₁ := .bf16) (φ₂ := .bf16) dot_S16x2048_S2048x1536_S16x1536_1_0_0_1_n_n none rfl rfl rfl rfl rfl rfl
    (shapeCast S16x2048 x shapeCasts_S16x2048_S16x2048) (truncf .bf16 (w : FVec Ideal S2048x1536 .f32) bitsLt_bf16_f32) (ix2 p q)).trans ?_
  refine Finset.sum_congr rfl fun k _ => congrArg₂ (· * ·) ?_ rfl
  rw [shapeCast_self]

/-- The rows cut into heads. -/
def heads (v : FVec Ideal S16x1536 .f32) (y : S1x16x12x128.Idx) : Ideal .f32 :=
  v (ix2 ⟨(y 1).val, (y 1).isLt⟩ ⟨(y 2).val * 128 + (y 3).val, by
    have h2 : (y 2).val < 12 := (y 2).isLt
    have h3 : (y 3).val < 128 := (y 3).isLt
    omega⟩)

/-- One head of the rows, starting at column `o`. -/
theorem head_at (o : Nat) (ho : o + 128 ≤ 1536) (hs : S16x1536.Slices ![0, o] S16x128) (v : FVec Ideal S16x1536 .f32) (j : S1x16x1x128.Idx) :
    shapeCast S1x16x1x128 (extractStridedSlice S16x128 ![0, o] v hs) shapeCasts_S16x128_S1x16x1x128 j
      = v (ix2 ⟨(j 1).val, (j 1).isLt⟩ ⟨o + (j 3).val, by have h3 : (j 3).val < 128 := (j 3).isLt; omega⟩) := by
  have h0 : (j 0).val < 1 := (j 0).isLt
  have h2 : (j 2).val < 1 := (j 2).isLt
  refine (shapeCast_apply _ _ j (ix2 (n0 := 16) (n1 := 128) ⟨(j 1).val, (j 1).isLt⟩ ⟨(j 3).val, (j 3).isLt⟩) (by
    rewrite [Shape.rowMajor_val_two, Shape.rowMajor_val_four]
    show (j 1).val * 128 + (j 3).val = (((j 0).val * 16 + (j 1).val) * 1 + (j 2).val) * 128 + (j 3).val
    omega)).trans ?_
  exact extractStridedSlice_apply _ _ hs _ _ fun a => by
    match a with | ⟨0, _⟩ => exact (Nat.zero_add _).symm | ⟨1, _⟩ => rfl

theorem head_piece (h o : Nat) (ho : o = h * 128) (hh : h < 12) (hs : S16x1536.Slices ![0, o] S16x128) (inb) (v : FVec Ideal S16x1536 .f32)
    (j : (Rect.unit (s := S1x16x12x128) ![0, 0, h, 0] S1x16x1x128.size inb).shape.Idx) :
    shapeCast S1x16x1x128 (extractStridedSlice S16x128 ![0, o] v hs) shapeCasts_S16x128_S1x16x1x128 j
      = heads v ((Rect.unit (s := S1x16x12x128) ![0, 0, h, 0] S1x16x1x128.size inb).emb j) := by
  have h2 : (j 2).val < 1 := (j 2).isLt
  refine (head_at o (by omega) hs v j).trans (congrArg v (congrArg₂ ix2 (Fin.ext ?_) (Fin.ext ?_)))
  · exact ((Rect.idx_unit_val (s := S1x16x12x128) ![0, 0, h, 0] S1x16x1x128.size inb j 1).trans (Nat.zero_add _)).symm
  · have e2 : _ = h + (j 2).val := Rect.idx_unit_val (s := S1x16x12x128) ![0, 0, h, 0] S1x16x1x128.size inb j 2
    have e3 : _ = 0 + (j 3).val := Rect.idx_unit_val (s := S1x16x12x128) ![0, 0, h, 0] S1x16x1x128.size inb j 3
    refine Eq.trans ?_ (congrArg₂ (fun a b => a * 128 + b) e2 e3).symm
    show o + (j 3).val = (h + (j 2).val) * 128 + (0 + (j 3).val)
    omega

theorem out2_at (x : Vec Ideal S16x2048 .bf16) (w : Vec Ideal S2048x1536 .f32) (y : S1x16x12x128.Idx) : out0_2 x w y = heads (k0_pay2 x w) y := by
  unfold out0_2 k0_pay16
  rw [View.ld_unit_zero (X := x) zero2, View.ld_unit_zero (X := w) zero2]
  refine View.canon_apply_of_pieces (Val := Elt Ideal) (S := S1x16x12x128) (e := .f32) (heads (k0_pay2 x w)) _ ?_ y (cover0_2 _ _ _ _ _ _ _ _ _ _ _ _ y)
  refine List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, fun p h => absurd h List.not_mem_nil⟩⟩⟩⟩⟩⟩⟩⟩⟩⟩⟩⟩
  · exact head_piece 11 1408 rfl (by decide) slices_S16x1536_o0_1408_S16x128 inb_S1x16x12x128_S1x16x1x128_0_0_11_0 (k0_pay2 x w) j
  · exact head_piece 10 1280 rfl (by decide) slices_S16x1536_o0_1280_S16x128 inb_S1x16x12x128_S1x16x1x128_0_0_10_0 (k0_pay2 x w) j
  · exact head_piece 9 1152 rfl (by decide) slices_S16x1536_o0_1152_S16x128 inb_S1x16x12x128_S1x16x1x128_0_0_9_0 (k0_pay2 x w) j
  · exact head_piece 8 1024 rfl (by decide) slices_S16x1536_o0_1024_S16x128 inb_S1x16x12x128_S1x16x1x128_0_0_8_0 (k0_pay2 x w) j
  · exact head_piece 7 896 rfl (by decide) slices_S16x1536_o0_896_S16x128 inb_S1x16x12x128_S1x16x1x128_0_0_7_0 (k0_pay2 x w) j
  · exact head_piece 6 768 rfl (by decide) slices_S16x1536_o0_768_S16x128 inb_S1x16x12x128_S1x16x1x128_0_0_6_0 (k0_pay2 x w) j
  · exact head_piece 5 640 rfl (by decide) slices_S16x1536_o0_640_S16x128 inb_S1x16x12x128_S1x16x1x128_0_0_5_0 (k0_pay2 x w) j
  · exact head_piece 4 512 rfl (by decide) slices_S16x1536_o0_512_S16x128 inb_S1x16x12x128_S1x16x1x128_0_0_4_0 (k0_pay2 x w) j
  · exact head_piece 3 384 rfl (by decide) slices_S16x1536_o0_384_S16x128 inb_S1x16x12x128_S1x16x1x128_0_0_3_0 (k0_pay2 x w) j
  · exact head_piece 2 256 rfl (by decide) slices_S16x1536_o0_256_S16x128 inb_S1x16x12x128_S1x16x1x128_0_0_2_0 (k0_pay2 x w) j
  · exact head_piece 1 128 rfl (by decide) slices_S16x1536_o0_128_S16x128 inb_S1x16x12x128_S1x16x1x128_0_0_1_0 (k0_pay2 x w) j
  · exact head_piece 0 0 rfl (by decide) slices_S16x1536_o0_0_S16x128 inb_S1x16x12x128_S1x16x1x128_0_0_0_0 (k0_pay2 x w) j

theorem out3_at (x : Vec Ideal S16x2048 .bf16) (w : Vec Ideal S2048x1536 .f32) (p : Fin 16) (q : Fin 1536) : out0_3 x w (ix2 p q) = k0_pay2 x w (ix2 p q) := by
  unfold out0_3
  rw [View.canon_unit_zero zero2, View.ld_unit_zero (X := x) zero2, View.ld_unit_zero (X := w) zero2]
  rfl

/-! ## The arrays -/

variable (m : (ℓ : Loc nD τ sig) → Buf (Elt Ideal) ℓ) (c : Dev nD)

/-- The arguments, and the arrays the kernel leaves, typed at their shapes. -/
def argX : FVec Ideal S128x2048 .f32 := m ((c : Thread nD τ).loc main_arg0)
def argW : FVec Ideal S2048x3072 .f32 := m ((c : Thread nD τ).loc main_arg1)
def kOut : FVec Ideal S8x16x12x128 .f32 := (dats m 0 c).arrAt 2 cfg0.N
def kOutLow : FVec Ideal S128x1536 .bf16 := (dats m 0 c).arrAt 3 cfg0.N

/-- The rows the kernel stages. -/
theorem staged_rows : V m c main_v0 = argX m c := by
  unfold V
  simp only [hostOps0]
  after_results
  rfl

/-- The blocks, typed at their shapes. -/
def xBlk (t : Fin grid0.N) : Vec Ideal S16x2048 .bf16 := iblk m c 0 t
def wBlk (t : Fin grid0.N) : Vec Ideal S2048x1536 .f32 := iblk m c 1 t

theorem xBlk_at (t : Fin grid0.N) (p : Fin 16) (k : Fin 2048) (r : Fin 128) (hr : r.val = t.val * 16 + p.val) :
    xBlk m c t (ix2 p k) = argX m c (ix2 r k) := by
  refine Eq.trans (congrArg (V m c main_v0) (funext fun a => Fin.ext ?_)) (congrFun (staged_rows m c) (ix2 r k))
  refine (place main_v0 _ _ _ _ a).trans ?_
  match a with
  | ⟨0, _⟩ => show cc0_transform_0 (grid0.coords t) 0 * 16 + p.val = r.val; rw [ix_0]; exact hr.symm
  | ⟨1, _⟩ => show cc0_transform_0 (grid0.coords t) 1 * 2048 + k.val = k.val; rw [ix_0]; show 0 * 2048 + _ = _; omega

theorem wBlk_at (t : Fin grid0.N) (k : Fin 2048) (q : Fin 1536) (s : Fin 3072) (hs : s.val = 0 * 1536 + q.val) :
    wBlk m c t (ix2 k q) = argW m c (ix2 k s) := by
  refine Eq.trans (congrArg (V m c main_arg1) (funext fun a => Fin.ext ?_)) (congrFun (V_main_arg1 m c) (ix2 k s))
  refine (place main_arg1 _ _ _ _ a).trans ?_
  match a with
  | ⟨0, _⟩ => show cc0_transform_1 (grid0.coords t) 0 * 2048 + k.val = k.val; rw [ix_1]; show 0 * 2048 + _ = _; omega
  | ⟨1, _⟩ => show cc0_transform_1 (grid0.coords t) 1 * 1536 + q.val = s.val; rw [ix_1]; exact hs.symm

/-- The product of the rows by the columns, at a row and a column. -/
def prodAt (x : FVec Ideal S128x2048 .f32) (w : FVec Ideal S2048x3072 .f32) (r : Fin 128) (s : Fin 3072) : Ideal .f32 :=
  ∑ k : Fin 2048, x (ix2 r k) * w (ix2 k s)

theorem block_product (t : Fin grid0.N) (p : Fin 16) (q : Fin 1536) (r : Fin 128) (s : Fin 3072) (hr : r.val = t.val * 16 + p.val)
    (hs : s.val = 0 * 1536 + q.val) : k0_pay2 (xBlk m c t) (wBlk m c t) (ix2 p q) = prodAt (argX m c) (argW m c) r s :=
  (pay2_at _ _ p q).trans (Finset.sum_congr rfl fun k _ => congrArg₂ (· * ·) (xBlk_at m c t p k r hr) (wBlk_at m c t k q s hs))

theorem array_at (b : Fin 8) (s : Fin 16) (h : Fin 12) (d : Fin 128) :
    kOut m c (ix4 b s h d) = prodAt (argX m c) (argW m c) ⟨b.val * 16 + s.val, by omega⟩ ⟨0 * 1536 + h.val * 128 + d.val, by omega⟩ := by
  obtain ⟨t, ht⟩ : ∃ t : Fin grid0.N, t.val = b.val := ⟨⟨b.val, by rw [points]; exact b.isLt⟩, rfl⟩
  have e := congrFun (blocks2 m c t (flush0_2 t)) (ix4 (0 : Fin 1) s h d)
  rw [flushed2] at e
  refine Eq.trans (congrArg ((dats m 0 c).arrAt 2 cfg0.N) (funext fun a => Fin.ext ?_)) (e.trans ?_)
  · refine Eq.symm ((place main_v1_0 _ _ _ _ a).trans ?_)
    match a with
    | ⟨0, _⟩ => show cc0_transform_2 (grid0.coords t) 0 * 1 + 0 = b.val; rw [ix_2]; show t.val * 1 + 0 = _; omega
    | ⟨1, _⟩ => show cc0_transform_2 (grid0.coords t) 1 * 16 + s.val = s.val; rw [ix_2]; show 0 * 16 + _ = _; omega
    | ⟨2, _⟩ => show cc0_transform_2 (grid0.coords t) 2 * 12 + h.val = h.val; rw [ix_2]; show 0 * 12 + _ = _; omega
    | ⟨3, _⟩ => show cc0_transform_2 (grid0.coords t) 3 * 128 + d.val = d.val; rw [ix_2]; show 0 * 128 + _ = _; omega
  · refine (out2_at (xBlk m c t) (wBlk m c t) (ix4 (0 : Fin 1) s h d)).trans ?_
    exact block_product m c t s ⟨h.val * 128 + d.val, by omega⟩ _ _ (by show b.val * 16 + s.val = _; omega) (by show 0 * 1536 + h.val * 128 + d.val = 0 * 1536 + (h.val * 128 + d.val); omega)

theorem arrayLow_at (r : Fin 128) (q : Fin 1536) : kOutLow m c (ix2 r q) = prodAt (argX m c) (argW m c) r ⟨0 * 1536 + q.val, by omega⟩ := by
  have hr := r.isLt
  obtain ⟨t, ht⟩ : ∃ t : Fin grid0.N, t.val = r.val / 16 := ⟨⟨r.val / 16, by rw [points]; omega⟩, rfl⟩
  obtain ⟨p, hp⟩ : ∃ p : Fin 16, p.val = r.val % 16 := ⟨⟨r.val % 16, by omega⟩, rfl⟩
  have h1 : r.val = t.val * 16 + p.val := by omega
  have e := congrFun (blocks3 m c t (flush0_3 t)) (ix2 p q)
  rw [flushed3] at e
  refine Eq.trans (congrArg ((dats m 0 c).arrAt 3 cfg0.N) (funext fun a => Fin.ext ?_)) (e.trans ?_)
  · refine Eq.symm ((place main_v1_1 _ _ _ _ a).trans ?_)
    match a with
    | ⟨0, _⟩ => show cc0_transform_3 (grid0.coords t) 0 * 16 + p.val = r.val; rw [ix_3]; exact h1.symm
    | ⟨1, _⟩ => show cc0_transform_3 (grid0.coords t) 1 * 1536 + q.val = q.val; rw [ix_3]; show 0 * 1536 + _ = _; omega
  · exact (out3_at (xBlk m c t) (wBlk m c t) p q).trans (block_product m c t p q r _ h1 rfl)

/-! ## The reference -/

section Reference

open Cert.Reference6Ideal.Read

variable (x : FVec Ideal S128x2048 .f32) (w : FVec Ideal S2048x3072 .f32)

theorem ref_split (i : Cert.Reference6Ideal.S8x16x2x12x128.Idx) (r : Fin 128) (s : Fin 3072) (hr : (i 0).val * 16 + (i 1).val = r.val)
    (hs : (i 2).val * 1536 + (i 3).val * 128 + (i 4).val = s.val) : val_main_v1 (F := Ideal) x w i = prodAt x w r s := by
  have h2 : (i 2).val < 2 := (i 2).isLt
  have h3 : (i 3).val < 12 := (i 3).isLt
  have h4 : (i 4).val < 128 := (i 4).isLt
  rw [val_main_v1_apply, val_main_v0_apply]
  refine Finset.sum_congr rfl fun k _ => congrArg₂ (· * ·) (congrArg x (ix2_of _ r k ?_ rfl)) (congrArg w (ix2_of _ k s rfl ?_))
  · show (((((i 0).val * 16 + (i 1).val) * 2 + (i 2).val) * 12 + (i 3).val) * 128 + (i 4).val) / 3072 = r.val; omega
  · show (((((i 0).val * 16 + (i 1).val) * 2 + (i 2).val) * 12 + (i 3).val) * 128 + (i 4).val) % 3072 = s.val; omega

theorem ref_heads3 (i : S8x16x12x128.Idx) (r : Fin 128) (s : Fin 3072) (hr : (i 0).val * 16 + (i 1).val = r.val)
    (hs : 0 * 1536 + (i 2).val * 128 + (i 3).val = s.val) : val_main_v3 (F := Ideal) x w i = prodAt x w r s := by
  have h1 : (i 1).val < 16 := (i 1).isLt
  have h2 : (i 2).val < 12 := (i 2).isLt
  have h3 : (i 3).val < 128 := (i 3).isLt
  rw [val_main_v3_apply, val_main_v2_apply]
  refine ref_split x w _ r s ?_ ?_
  · show ((((i 0).val * 16 + (i 1).val) * 12 + (i 2).val) * 128 + (i 3).val) / 24576 * 16
      + ((((i 0).val * 16 + (i 1).val) * 12 + (i 2).val) * 128 + (i 3).val) / 1536 % 16 = r.val
    omega
  · show 0 * 1536 + ((((i 0).val * 16 + (i 1).val) * 12 + (i 2).val) * 128 + (i 3).val) / 128 % 12 * 128
      + ((((i 0).val * 16 + (i 1).val) * 12 + (i 2).val) * 128 + (i 3).val) % 128 = s.val
    omega

theorem ref_heads5 (i : S8x16x12x128.Idx) (r : Fin 128) (s : Fin 3072) (hr : (i 0).val * 16 + (i 1).val = r.val)
    (hs : 0 * 1536 + (i 2).val * 128 + (i 3).val = s.val) : val_main_v5 (F := Ideal) x w i = prodAt x w r s := by
  have h1 : (i 1).val < 16 := (i 1).isLt
  have h2 : (i 2).val < 12 := (i 2).isLt
  have h3 : (i 3).val < 128 := (i 3).isLt
  rw [val_main_v5_apply, val_main_v4_apply]
  refine ref_split x w _ r s ?_ ?_
  · show ((((i 0).val * 16 + (i 1).val) * 12 + (i 2).val) * 128 + (i 3).val) / 24576 * 16
      + ((((i 0).val * 16 + (i 1).val) * 12 + (i 2).val) * 128 + (i 3).val) / 1536 % 16 = r.val
    omega
  · show 0 * 1536 + ((((i 0).val * 16 + (i 1).val) * 12 + (i 2).val) * 128 + (i 3).val) / 128 % 12 * 128
      + ((((i 0).val * 16 + (i 1).val) * 12 + (i 2).val) * 128 + (i 3).val) % 128 = s.val
    omega

theorem ref_rows (r : Fin 128) (q : Fin 1536) : val_main_v7 (F := Ideal) x w (ix2 r q) = prodAt x w r ⟨0 * 1536 + q.val, by omega⟩ := by
  have hq := q.isLt
  rw [val_main_v7_apply, val_main_v6_apply]
  refine ref_heads5 x w _ r ⟨0 * 1536 + q.val, by omega⟩ ?_ ?_
  · show (r.val * 1536 + q.val) / 24576 * 16 + (r.val * 1536 + q.val) / 1536 % 16 = r.val; omega
  · show 0 * 1536 + (r.val * 1536 + q.val) / 128 % 12 * 128 + (r.val * 1536 + q.val) % 128 = 0 * 1536 + q.val; omega

end Reference

/-- The arrays the kernel leaves are the reference's. -/
theorem array_eq : kOut m c = Cert.Reference6Ideal.Read.val_main_v3 (F := Ideal) (argX m c) (argW m c) := by
  refine funext fun j => ?_
  rw [ix4_of j (j 0) (j 1) (j 2) (j 3) rfl rfl rfl rfl]
  exact (array_at m c _ _ _ _).trans (ref_heads3 _ _ _ _ _ rfl rfl).symm

theorem arrayLow_eq : kOutLow m c = Cert.Reference6Ideal.Read.val_main_v7 (F := Ideal) (argX m c) (argW m c) := by
  refine funext fun j => ?_
  rw [ix2_of j (j 0) (j 1) rfl rfl]
  exact (arrayLow_at m c _ _).trans (ref_rows _ _ _ _).symm

end Cert.Kernel6Ideal.Dense

end
-- ==== Proof.Dense.Values.lean ====
module

public import proofs.«01_k».proof.Proof.Gen.Kernel7Ideal.Value
public import proofs.«01_k».proof.Proof.Gen.Reference7Ideal.Read
public import proofs.«01_k».proof.Proof.Dense.Core

@[expose] public section

/-! The values of the sample: the rows by the right half of the columns, cut into heads and kept whole. -/

set_option maxRecDepth 16384

noncomputable section

open Idealize.ShloMosaic Idealize.ShloMosaic.ValueIdx Idealize.ShloMosaic.TcCoe Idealize.SL.Sem Idealize.ShloMosaic.StableHlo

namespace Cert.Kernel7Ideal.Dense

open Cert.Kernel7Ideal Cert.Kernel7Ideal.Gen Cert.Kernel7Ideal.Value Cert.Dense

theorem ix_0 : ∀ t : Fin grid0.N, cc0_transform_0 (grid0.coords t) = ![t.val, 0] := by decide +kernel
theorem ix_1 : ∀ t : Fin grid0.N, cc0_transform_1 (grid0.coords t) = ![0, 1] := by decide +kernel
theorem ix_2 : ∀ t : Fin grid0.N, cc0_transform_2 (grid0.coords t) = ![t.val, 0, 0, 0] := by decide +kernel
theorem ix_3 : ∀ t : Fin grid0.N, cc0_transform_3 (grid0.coords t) = ![t.val, 0] := by decide +kernel
theorem points : grid0.N = 8 := by decide

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero2 : (![0, 0] : Fin 2 → Nat) = fun _ => 0 := funext fun a => by match a with | ⟨0, _⟩ => rfl | ⟨1, _⟩ => rfl

/-- An index of a stack of stacks of matrices from its four coordinates. -/
theorem ix4_of {A B C D : Nat} (j : (⟨4, ![A, B, C, D]⟩ : Shape).Idx) (a : Fin A) (b : Fin B) (c : Fin C) (d : Fin D) (h0 : (j 0).val = a.val)
    (h1 : (j 1).val = b.val) (h2 : (j 2).val = c.val) (h3 : (j 3).val = d.val) : j = ix4 a b c d :=
  funext fun e => Fin.ext (by match e with | ⟨0, _⟩ => exact h0 | ⟨1, _⟩ => exact h1 | ⟨2, _⟩ => exact h2 | ⟨3, _⟩ => exact h3)

/-! ## A block -/

theorem pay2_at (x : Vec Ideal S16x2048 .bf16) (w : Vec Ideal S2048x1536 .f32) (p : Fin 16) (q : Fin 1536) :
    k0_pay2 x w (ix2 p q) = ∑ k : Fin 2048, x (ix2 p k) * w (ix2 k q) := by
  refine (product_at (φ₁ := .bf16) (φ₂ := .bf16) dot_S16x2048_S2048x1536_S16x1536_1_0_0_1_n_n none rfl rfl rfl rfl rfl rfl
    (shapeCast S16x2048 x shapeCasts_S16x2048_S16x2048) (truncf .bf16 (w : FVec Ideal S2048x1536 .f32) bitsLt_bf16_f32) (ix2 p q)).trans ?_
  refine Finset.sum_congr rfl fun k _ => congrArg₂ (· * ·) ?_ rfl
  rw [shapeCast_self]

/-- The rows cut into heads. -/
def heads (v : FVec Ideal S16x1536 .f32) (y : S1x16x12x128.Idx) : Ideal .f32 :=
  v (ix2 ⟨(y 1).val, (y 1).isLt⟩ ⟨(y 2).val * 128 + (y 3).val, by
    have h2 : (y 2).val < 12 := (y 2).isLt
    have h3 : (y 3).val < 128 := (y 3).isLt
    omega⟩)

/-- One head of the rows, starting at column `o`. -/
theorem head_at (o : Nat) (ho : o + 128 ≤ 1536) (hs : S16x1536.Slices ![0, o] S16x128) (v : FVec Ideal S16x1536 .f32) (j : S1x16x1x128.Idx) :
    shapeCast S1x16x1x128 (extractStridedSlice S16x128 ![0, o] v hs) shapeCasts_S16x128_S1x16x1x128 j
      = v (ix2 ⟨(j 1).val, (j 1).isLt⟩ ⟨o + (j 3).val, by have h3 : (j 3).val < 128 := (j 3).isLt; omega⟩) := by
  have h0 : (j 0).val < 1 := (j 0).isLt
  have h2 : (j 2).val < 1 := (j 2).isLt
  refine (shapeCast_apply _ _ j (ix2 (n0 := 16) (n1 := 128) ⟨(j 1).val, (j 1).isLt⟩ ⟨(j 3).val, (j 3).isLt⟩) (by
    rewrite [Shape.rowMajor_val_two, Shape.rowMajor_val_four]
    show (j 1).val * 128 + (j 3).val = (((j 0).val * 16 + (j 1).val) * 1 + (j 2).val) * 128 + (j 3).val
    omega)).trans ?_
  exact extractStridedSlice_apply _ _ hs _ _ fun a => by
    match a with | ⟨0, _⟩ => exact (Nat.zero_add _).symm | ⟨1, _⟩ => rfl

theorem head_piece (h o : Nat) (ho : o = h * 128) (hh : h < 12) (hs : S16x1536.Slices ![0, o] S16x128) (inb) (v : FVec Ideal S16x1536 .f32)
    (j : (Rect.unit (s := S1x16x12x128) ![0, 0, h, 0] S1x16x1x128.size inb).shape.Idx) :
    shapeCast S1x16x1x128 (extractStridedSlice S16x128 ![0, o] v hs) shapeCasts_S16x128_S1x16x1x128 j
      = heads v ((Rect.unit (s := S1x16x12x128) ![0, 0, h, 0] S1x16x1x128.size inb).emb j) := by
  have h2 : (j 2).val < 1 := (j 2).isLt
  refine (head_at o (by omega) hs v j).trans (congrArg v (congrArg₂ ix2 (Fin.ext ?_) (Fin.ext ?_)))
  · exact ((Rect.idx_unit_val (s := S1x16x12x128) ![0, 0, h, 0] S1x16x1x128.size inb j 1).trans (Nat.zero_add _)).symm
  · have e2 : _ = h + (j 2).val := Rect.idx_unit_val (s := S1x16x12x128) ![0, 0, h, 0] S1x16x1x128.size inb j 2
    have e3 : _ = 0 + (j 3).val := Rect.idx_unit_val (s := S1x16x12x128) ![0, 0, h, 0] S1x16x1x128.size inb j 3
    refine Eq.trans ?_ (congrArg₂ (fun a b => a * 128 + b) e2 e3).symm
    show o + (j 3).val = (h + (j 2).val) * 128 + (0 + (j 3).val)
    omega

theorem out2_at (x : Vec Ideal S16x2048 .bf16) (w : Vec Ideal S2048x1536 .f32) (y : S1x16x12x128.Idx) : out0_2 x w y = heads (k0_pay2 x w) y := by
  unfold out0_2 k0_pay16
  rw [View.ld_unit_zero (X := x) zero2, View.ld_unit_zero (X := w) zero2]
  refine View.canon_apply_of_pieces (Val := Elt Ideal) (S := S1x16x12x128) (e := .f32) (heads (k0_pay2 x w)) _ ?_ y (cover0_2 _ _ _ _ _ _ _ _ _ _ _ _ y)
  refine List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, List.forall_mem_cons.2 ⟨fun j => ?_, fun p h => absurd h List.not_mem_nil⟩⟩⟩⟩⟩⟩⟩⟩⟩⟩⟩⟩
  · exact head_piece 11 1408 rfl (by decide) slices_S16x1536_o0_1408_S16x128 inb_S1x16x12x128_S1x16x1x128_0_0_11_0 (k0_pay2 x w) j
  · exact head_piece 10 1280 rfl (by decide) slices_S16x1536_o0_1280_S16x128 inb_S1x16x12x128_S1x16x1x128_0_0_10_0 (k0_pay2 x w) j
  · exact head_piece 9 1152 rfl (by decide) slices_S16x1536_o0_1152_S16x128 inb_S1x16x12x128_S1x16x1x128_0_0_9_0 (k0_pay2 x w) j
  · exact head_piece 8 1024 rfl (by decide) slices_S16x1536_o0_1024_S16x128 inb_S1x16x12x128_S1x16x1x128_0_0_8_0 (k0_pay2 x w) j
  · exact head_piece 7 896 rfl (by decide) slices_S16x1536_o0_896_S16x128 inb_S1x16x12x128_S1x16x1x128_0_0_7_0 (k0_pay2 x w) j
  · exact head_piece 6 768 rfl (by decide) slices_S16x1536_o0_768_S16x128 inb_S1x16x12x128_S1x16x1x128_0_0_6_0 (k0_pay2 x w) j
  · exact head_piece 5 640 rfl (by decide) slices_S16x1536_o0_640_S16x128 inb_S1x16x12x128_S1x16x1x128_0_0_5_0 (k0_pay2 x w) j
  · exact head_piece 4 512 rfl (by decide) slices_S16x1536_o0_512_S16x128 inb_S1x16x12x128_S1x16x1x128_0_0_4_0 (k0_pay2 x w) j
  · exact head_piece 3 384 rfl (by decide) slices_S16x1536_o0_384_S16x128 inb_S1x16x12x128_S1x16x1x128_0_0_3_0 (k0_pay2 x w) j
  · exact head_piece 2 256 rfl (by decide) slices_S16x1536_o0_256_S16x128 inb_S1x16x12x128_S1x16x1x128_0_0_2_0 (k0_pay2 x w) j
  · exact head_piece 1 128 rfl (by decide) slices_S16x1536_o0_128_S16x128 inb_S1x16x12x128_S1x16x1x128_0_0_1_0 (k0_pay2 x w) j
  · exact head_piece 0 0 rfl (by decide) slices_S16x1536_o0_0_S16x128 inb_S1x16x12x128_S1x16x1x128_0_0_0_0 (k0_pay2 x w) j

theorem out3_at (x : Vec Ideal S16x2048 .bf16) (w : Vec Ideal S2048x1536 .f32) (p : Fin 16) (q : Fin 1536) : out0_3 x w (ix2 p q) = k0_pay2 x w (ix2 p q) := by
  unfold out0_3
  rw [View.canon_unit_zero zero2, View.ld_unit_zero (X := x) zero2, View.ld_unit_zero (X := w) zero2]
  rfl

/-! ## The arrays -/

variable (m : (ℓ : Loc nD τ sig) → Buf (Elt Ideal) ℓ) (c : Dev nD)

/-- The arguments, and the arrays the kernel leaves, typed at their shapes. -/
def argX : FVec Ideal S128x2048 .f32 := m ((c : Thread nD τ).loc main_arg0)
def argW : FVec Ideal S2048x3072 .f32 := m ((c : Thread nD τ).loc main_arg1)
def kOut : FVec Ideal S8x16x12x128 .f32 := (dats m 0 c).arrAt 2 cfg0.N
def kOutLow : FVec Ideal S128x1536 .bf16 := (dats m 0 c).arrAt 3 cfg0.N

/-- The rows the kernel stages. -/
theorem staged_rows : V m c main_v0 = argX m c := by
  unfold V
  simp only [hostOps0]
  after_results
  rfl

/-- The blocks, typed at their shapes. -/
def xBlk (t : Fin grid0.N) : Vec Ideal S16x2048 .bf16 := iblk m c 0 t
def wBlk (t : Fin grid0.N) : Vec Ideal S2048x1536 .f32 := iblk m c 1 t

theorem xBlk_at (t : Fin grid0.N) (p : Fin 16) (k : Fin 2048) (r : Fin 128) (hr : r.val = t.val * 16 + p.val) :
    xBlk m c t (ix2 p k) = argX m c (ix2 r k) := by
  refine Eq.trans (congrArg (V m c main_v0) (funext fun a => Fin.ext ?_)) (congrFun (staged_rows m c) (ix2 r k))
  refine (place main_v0 _ _ _ _ a).trans ?_
  match a with
  | ⟨0, _⟩ => show cc0_transform_0 (grid0.coords t) 0 * 16 + p.val = r.val; rw [ix_0]; exact hr.symm
  | ⟨1, _⟩ => show cc0_transform_0 (grid0.coords t) 1 * 2048 + k.val = k.val; rw [ix_0]; show 0 * 2048 + _ = _; omega

theorem wBlk_at (t : Fin grid0.N) (k : Fin 2048) (q : Fin 1536) (s : Fin 3072) (hs : s.val = 1 * 1536 + q.val) :
    wBlk m c t (ix2 k q) = argW m c (ix2 k s) := by
  refine Eq.trans (congrArg (V m c main_arg1) (funext fun a => Fin.ext ?_)) (congrFun (V_main_arg1 m c) (ix2 k s))
  refine (place main_arg1 _ _ _ _ a).trans ?_
  match a with
  | ⟨0, _⟩ => show cc0_transform_1 (grid0.coords t) 0 * 2048 + k.val = k.val; rw [ix_1]; show 0 * 2048 + _ = _; omega
  | ⟨1, _⟩ => show cc0_transform_1 (grid0.coords t) 1 * 1536 + q.val = s.val; rw [ix_1]; exact hs.symm

/-- The product of the rows by the columns, at a row and a column. -/
def prodAt (x : FVec Ideal S128x2048 .f32) (w : FVec Ideal S2048x3072 .f32) (r : Fin 128) (s : Fin 3072) : Ideal .f32 :=
  ∑ k : Fin 2048, x (ix2 r k) * w (ix2 k s)

theorem block_product (t : Fin grid0.N) (p : Fin 16) (q : Fin 1536) (r : Fin 128) (s : Fin 3072) (hr : r.val = t.val * 16 + p.val)
    (hs : s.val = 1 * 1536 + q.val) : k0_pay2 (xBlk m c t) (wBlk m c t) (ix2 p q) = prodAt (argX m c) (argW m c) r s :=
  (pay2_at _ _ p q).trans (Finset.sum_congr rfl fun k _ => congrArg₂ (· * ·) (xBlk_at m c t p k r hr) (wBlk_at m c t k q s hs))

theorem array_at (b : Fin 8) (s : Fin 16) (h : Fin 12) (d : Fin 128) :
    kOut m c (ix4 b s h d) = prodAt (argX m c) (argW m c) ⟨b.val * 16 + s.val, by omega⟩ ⟨1 * 1536 + h.val * 128 + d.val, by omega⟩ := by
  obtain ⟨t, ht⟩ : ∃ t : Fin grid0.N, t.val = b.val := ⟨⟨b.val, by rw [points]; exact b.isLt⟩, rfl⟩
  have e := congrFun (blocks2 m c t (flush0_2 t)) (ix4 (0 : Fin 1) s h d)
  rw [flushed2] at e
  refine Eq.trans (congrArg ((dats m 0 c).arrAt 2 cfg0.N) (funext fun a => Fin.ext ?_)) (e.trans ?_)
  · refine Eq.symm ((place main_v1_0 _ _ _ _ a).trans ?_)
    match a with
    | ⟨0, _⟩ => show cc0_transform_2 (grid0.coords t) 0 * 1 + 0 = b.val; rw [ix_2]; show t.val * 1 + 0 = _; omega
    | ⟨1, _⟩ => show cc0_transform_2 (grid0.coords t) 1 * 16 + s.val = s.val; rw [ix_2]; show 0 * 16 + _ = _; omega
    | ⟨2, _⟩ => show cc0_transform_2 (grid0.coords t) 2 * 12 + h.val = h.val; rw [ix_2]; show 0 * 12 + _ = _; omega
    | ⟨3, _⟩ => show cc0_transform_2 (grid0.coords t) 3 * 128 + d.val = d.val; rw [ix_2]; show 0 * 128 + _ = _; omega
  · refine (out2_at (xBlk m c t) (wBlk m c t) (ix4 (0 : Fin 1) s h d)).trans ?_
    exact block_product m c t s ⟨h.val * 128 + d.val, by omega⟩ _ _ (by show b.val * 16 + s.val = _; omega) (by show 1 * 1536 + h.val * 128 + d.val = 1 * 1536 + (h.val * 128 + d.val); omega)

theorem arrayLow_at (r : Fin 128) (q : Fin 1536) : kOutLow m c (ix2 r q) = prodAt (argX m c) (argW m c) r ⟨1 * 1536 + q.val, by omega⟩ := by
  have hr := r.isLt
  obtain ⟨t, ht⟩ : ∃ t : Fin grid0.N, t.val = r.val / 16 := ⟨⟨r.val / 16, by rw [points]; omega⟩, rfl⟩
  obtain ⟨p, hp⟩ : ∃ p : Fin 16, p.val = r.val % 16 := ⟨⟨r.val % 16, by omega⟩, rfl⟩
  have h1 : r.val = t.val * 16 + p.val := by omega
  have e := congrFun (blocks3 m c t (flush0_3 t)) (ix2 p q)
  rw [flushed3] at e
  refine Eq.trans (congrArg ((dats m 0 c).arrAt 3 cfg0.N) (funext fun a => Fin.ext ?_)) (e.trans ?_)
  · refine Eq.symm ((place main_v1_1 _ _ _ _ a).trans ?_)
    match a with
    | ⟨0, _⟩ => show cc0_transform_3 (grid0.coords t) 0 * 16 + p.val = r.val; rw [ix_3]; exact h1.symm
    | ⟨1, _⟩ => show cc0_transform_3 (grid0.coords t) 1 * 1536 + q.val = q.val; rw [ix_3]; show 0 * 1536 + _ = _; omega
  · exact (out3_at (xBlk m c t) (wBlk m c t) p q).trans (block_product m c t p q r _ h1 rfl)

/-! ## The reference -/

section Reference

open Cert.Reference7Ideal.Read

variable (x : FVec Ideal S128x2048 .f32) (w : FVec Ideal S2048x3072 .f32)

theorem ref_split (i : Cert.Reference7Ideal.S8x16x2x12x128.Idx) (r : Fin 128) (s : Fin 3072) (hr : (i 0).val * 16 + (i 1).val = r.val)
    (hs : (i 2).val * 1536 + (i 3).val * 128 + (i 4).val = s.val) : val_main_v1 (F := Ideal) x w i = prodAt x w r s := by
  have h2 : (i 2).val < 2 := (i 2).isLt
  have h3 : (i 3).val < 12 := (i 3).isLt
  have h4 : (i 4).val < 128 := (i 4).isLt
  rw [val_main_v1_apply, val_main_v0_apply]
  refine Finset.sum_congr rfl fun k _ => congrArg₂ (· * ·) (congrArg x (ix2_of _ r k ?_ rfl)) (congrArg w (ix2_of _ k s rfl ?_))
  · show (((((i 0).val * 16 + (i 1).val) * 2 + (i 2).val) * 12 + (i 3).val) * 128 + (i 4).val) / 3072 = r.val; omega
  · show (((((i 0).val * 16 + (i 1).val) * 2 + (i 2).val) * 12 + (i 3).val) * 128 + (i 4).val) % 3072 = s.val; omega

theorem ref_heads3 (i : S8x16x12x128.Idx) (r : Fin 128) (s : Fin 3072) (hr : (i 0).val * 16 + (i 1).val = r.val)
    (hs : 1 * 1536 + (i 2).val * 128 + (i 3).val = s.val) : val_main_v3 (F := Ideal) x w i = prodAt x w r s := by
  have h1 : (i 1).val < 16 := (i 1).isLt
  have h2 : (i 2).val < 12 := (i 2).isLt
  have h3 : (i 3).val < 128 := (i 3).isLt
  rw [val_main_v3_apply, val_main_v2_apply]
  refine ref_split x w _ r s ?_ ?_
  · show ((((i 0).val * 16 + (i 1).val) * 12 + (i 2).val) * 128 + (i 3).val) / 24576 * 16
      + ((((i 0).val * 16 + (i 1).val) * 12 + (i 2).val) * 128 + (i 3).val) / 1536 % 16 = r.val
    omega
  · show (1 + 0) * 1536 + ((((i 0).val * 16 + (i 1).val) * 12 + (i 2).val) * 128 + (i 3).val) / 128 % 12 * 128
      + ((((i 0).val * 16 + (i 1).val) * 12 + (i 2).val) * 128 + (i 3).val) % 128 = s.val
    omega

theorem ref_heads5 (i : S8x16x12x128.Idx) (r : Fin 128) (s : Fin 3072) (hr : (i 0).val * 16 + (i 1).val = r.val)
    (hs : 1 * 1536 + (i 2).val * 128 + (i 3).val = s.val) : val_main_v5 (F := Ideal) x w i = prodAt x w r s := by
  have h1 : (i 1).val < 16 := (i 1).isLt
  have h2 : (i 2).val < 12 := (i 2).isLt
  have h3 : (i 3).val < 128 := (i 3).isLt
  rw [val_main_v5_apply, val_main_v4_apply]
  refine ref_split x w _ r s ?_ ?_
  · show ((((i 0).val * 16 + (i 1).val) * 12 + (i 2).val) * 128 + (i 3).val) / 24576 * 16
      + ((((i 0).val * 16 + (i 1).val) * 12 + (i 2).val) * 128 + (i 3).val) / 1536 % 16 = r.val
    omega
  · show (1 + 0) * 1536 + ((((i 0).val * 16 + (i 1).val) * 12 + (i 2).val) * 128 + (i 3).val) / 128 % 12 * 128
      + ((((i 0).val * 16 + (i 1).val) * 12 + (i 2).val) * 128 + (i 3).val) % 128 = s.val
    omega

theorem ref_rows (r : Fin 128) (q : Fin 1536) : val_main_v7 (F := Ideal) x w (ix2 r q) = prodAt x w r ⟨1 * 1536 + q.val, by omega⟩ := by
  have hq := q.isLt
  rw [val_main_v7_apply, val_main_v6_apply]
  refine ref_heads5 x w _ r ⟨1 * 1536 + q.val, by omega⟩ ?_ ?_
  · show (r.val * 1536 + q.val) / 24576 * 16 + (r.val * 1536 + q.val) / 1536 % 16 = r.val; omega
  · show 1 * 1536 + (r.val * 1536 + q.val) / 128 % 12 * 128 + (r.val * 1536 + q.val) % 128 = 1 * 1536 + q.val; omega

end Reference

/-- The arrays the kernel leaves are the reference's. -/
theorem array_eq : kOut m c = Cert.Reference7Ideal.Read.val_main_v3 (F := Ideal) (argX m c) (argW m c) := by
  refine funext fun j => ?_
  rw [ix4_of j (j 0) (j 1) (j 2) (j 3) rfl rfl rfl rfl]
  exact (array_at m c _ _ _ _).trans (ref_heads3 _ _ _ _ _ rfl rfl).symm

theorem arrayLow_eq : kOutLow m c = Cert.Reference7Ideal.Read.val_main_v7 (F := Ideal) (argX m c) (argW m c) := by
  refine funext fun j => ?_
  rw [ix2_of j (j 0) (j 1) rfl rfl]
  exact (arrayLow_at m c _ _).trans (ref_rows _ _ _ _).symm

end Cert.Kernel7Ideal.Dense

end
-- ==== Proof.Dense.FfnOutSample.lean ====
module

public import proofs.«01_k».proof.Proof.Gen.Kernel8Ideal.Value
public import proofs.«01_k».proof.Proof.Gen.Reference8Ideal.Read
public import proofs.«01_k».proof.Proof.Dense.Norm

@[expose] public section

/-! The output rows of the layer for the sample: the hidden rows by a matrix, added to the scaled residual and normalized. -/

set_option maxRecDepth 16384

noncomputable section

open Idealize.ShloMosaic Idealize.ShloMosaic.ValueIdx Idealize.ShloMosaic.TcCoe Idealize.SL.Sem Idealize.ShloMosaic.StableHlo

namespace Cert.Kernel8Ideal.Dense

open Cert.Kernel8Ideal Cert.Kernel8Ideal.Gen Cert.Kernel8Ideal.Value Cert.Dense

theorem ix_0 : ∀ t : Fin grid0.N, cc0_transform_0 (grid0.coords t) = ![t.val, 0] := by decide +kernel
theorem ix_1 : ∀ t : Fin grid0.N, cc0_transform_1 (grid0.coords t) = ![0, 0, 0] := by decide +kernel
theorem ix_2 : ∀ t : Fin grid0.N, cc0_transform_2 (grid0.coords t) = ![t.val, 0] := by decide +kernel
theorem ix_3 : ∀ t : Fin grid0.N, cc0_transform_3 (grid0.coords t) = ![0, 0] := by decide +kernel
theorem ix_4 : ∀ t : Fin grid0.N, cc0_transform_4 (grid0.coords t) = ![0, 0] := by decide +kernel
theorem ix_5 : ∀ t : Fin grid0.N, cc0_transform_5 (grid0.coords t) = ![t.val, 0] := by decide +kernel
theorem ix_6 : ∀ t : Fin grid0.N, cc0_transform_6 (grid0.coords t) = ![t.val, 0] := by decide +kernel
theorem points : grid0.N = 1 := by decide

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero2 : (![0, 0] : Fin 2 → Nat) = fun _ => 0 := funext fun a => by match a with | ⟨0, _⟩ => rfl | ⟨1, _⟩ => rfl
theorem zero3 : (![0, 0, 0] : Fin 3 → Nat) = fun _ => 0 := funext fun a => by match a with | ⟨0, _⟩ => rfl | ⟨1, _⟩ => rfl | ⟨2, _⟩ => rfl

/-! ## A block -/

/-- The rows of a block before they are normalized. -/
def blockRows (x : Vec Ideal S128x5632 .bf16) (w : Vec Ideal S1x5632x2048 .bf16) (r : Vec Ideal S128x2048 .f32) : FVec Ideal S128x2048 .f32 :=
  addf (mulf (broadcast S128x2048 (Scalar.ofBits .f32 0x3FD744FD#32)) r)
    (matmul dot_S128x5632_S5632x2048_S128x2048_1_0_0_1_n_n none (shapeCast S128x5632 x shapeCasts_S128x5632_S128x5632 : FVec Ideal S128x5632 .bf16)
      (shapeCast S5632x2048 w shapeCasts_S1x5632x2048_S5632x2048 : FVec Ideal S5632x2048 .bf16) (constant S128x2048 .f32 0x00000000#32))

/-- One entry of a row before it is normalized. -/
def entry (s : Ideal .f32) (x w : Fin 5632 → Ideal .f32) : Ideal .f32 := Ideal.ofBits .f32 0x3FD744FD#32 * s + ∑ k : Fin 5632, x k * w k

theorem blockRows_at (x : Vec Ideal S128x5632 .bf16) (w : Vec Ideal S1x5632x2048 .bf16) (r : Vec Ideal S128x2048 .f32) (p : Fin 128) (q : Fin 2048) :
    blockRows x w r (ix2 p q) = entry (r (ix2 p q)) (fun k => x (ix2 p k)) (fun k => w (ix3 0 k q)) := by
  refine congrArg (Ideal.ofBits .f32 0x3FD744FD#32 * r (ix2 p q) + ·) ?_
  refine (product_at (φ₁ := .bf16) (φ₂ := .bf16) dot_S128x5632_S5632x2048_S128x2048_1_0_0_1_n_n none rfl rfl rfl rfl rfl rfl
    (shapeCast S128x5632 x shapeCasts_S128x5632_S128x5632) (shapeCast S5632x2048 w shapeCasts_S1x5632x2048_S5632x2048) (ix2 p q)).trans ?_
  refine Finset.sum_congr rfl fun k _ => congrArg₂ (· * ·) ?_ ?_
  · rw [shapeCast_self]
  · exact unstack_at w _ k q

theorem pay1_eq (x : Vec Ideal S128x5632 .bf16) (r : Vec Ideal S128x2048 .f32) (w : Vec Ideal S1x5632x2048 .bf16) (g b : Vec Ideal S1x2048 .f32) :
    k0_pay1 x r w g b = normRows reduces_S128x2048_S128 shapeCasts_S128_S128x1 broadcasts_S128x1_S128x2048 broadcasts_S1x2048_S128x2048 (blockRows x w r)
      (shapeCast S1x2048 g shapeCasts_S1x2048_S1x2048) (shapeCast S1x2048 b shapeCasts_S1x2048_S1x2048) := rfl

/-- What a block holds at row `p`, column `q`. -/
def blockAt (x : Vec Ideal S128x5632 .bf16) (w : Vec Ideal S1x5632x2048 .bf16) (r : Vec Ideal S128x2048 .f32) (g b : Vec Ideal S1x2048 .f32)
    (p : Fin 128) (q : Fin 2048) : Ideal .f32 :=
  norm (fun n => entry (r (ix2 p n)) (fun k => x (ix2 p k)) (fun k => w (ix3 0 k n))) (fun n => g (ix2 0 n)) (fun n => b (ix2 0 n)) q

theorem pay1_at (x : Vec Ideal S128x5632 .bf16) (r : Vec Ideal S128x2048 .f32) (w : Vec Ideal S1x5632x2048 .bf16) (g b : Vec Ideal S1x2048 .f32)
    (p : Fin 128) (q : Fin 2048) : k0_pay1 x r w g b (ix2 p q) = blockAt x w r g b p q := by
  rw [pay1_eq, normRows_at, shapeCast_self, shapeCast_self]
  exact congrArg (fun y => norm y (fun n => g (ix2 0 n)) (fun n => b (ix2 0 n)) q) (funext fun n => blockRows_at x w r p n)

theorem pay2_eq (x : Vec Ideal S128x5632 .bf16) (r : Vec Ideal S128x2048 .f32) (w : Vec Ideal S1x5632x2048 .bf16) (g b : Vec Ideal S1x2048 .f32)
    (j : S128x2048.Idx) : k0_pay2 x r w g b j = k0_pay1 x r w g b j := rfl

theorem out5_at (x : Vec Ideal S128x5632 .bf16) (w : Vec Ideal S1x5632x2048 .bf16) (r : Vec Ideal S128x2048 .f32) (g b : Vec Ideal S1x2048 .f32)
    (p : Fin 128) (q : Fin 2048) : out0_5 x w r g b (ix2 p q) = blockAt x w r g b p q := by
  unfold out0_5
  rw [View.canon_unit_zero zero2, View.ld_unit_zero zero2, View.ld_unit_zero zero2, View.ld_unit_zero zero3, View.ld_unit_zero zero2, View.ld_unit_zero zero2]
  exact pay1_at x r w g b p q

theorem out6_at (x : Vec Ideal S128x5632 .bf16) (w : Vec Ideal S1x5632x2048 .bf16) (r : Vec Ideal S128x2048 .f32) (g b : Vec Ideal S1x2048 .f32)
    (p : Fin 128) (q : Fin 2048) : out0_6 x w r g b (ix2 p q) = blockAt x w r g b p q := by
  unfold out0_6
  rw [View.canon_unit_zero zero2, View.ld_unit_zero zero2, View.ld_unit_zero zero2, View.ld_unit_zero zero3, View.ld_unit_zero zero2, View.ld_unit_zero zero2]
  exact (pay2_eq x r w g b _).trans (pay1_at x r w g b p q)

/-! ## The arrays -/

variable (m : (ℓ : Loc nD τ sig) → Buf (Elt Ideal) ℓ) (c : Dev nD)

/-- The arguments, and the arrays the kernel leaves, typed at their shapes. -/
def argX : FVec Ideal S128x5632 .f32 := m ((c : Thread nD τ).loc main_arg0)
def argW : FVec Ideal S4x5632x2048 .f32 := m ((c : Thread nD τ).loc main_arg1)
def argR : FVec Ideal S128x2048 .f32 := m ((c : Thread nD τ).loc main_arg2)
def argG : FVec Ideal S2048 .f32 := m ((c : Thread nD τ).loc main_arg3)
def argB : FVec Ideal S2048 .f32 := m ((c : Thread nD τ).loc main_arg4)
def kOut : FVec Ideal S128x2048 .f32 := (dats m 0 c).arrAt 5 cfg0.N
def kOutLow : FVec Ideal S128x2048 .bf16 := (dats m 0 c).arrAt 6 cfg0.N

/-- The arrays the kernel stages. -/
theorem staged_rows : V m c main_v0 = argX m c := by
  unfold V
  simp only [hostOps0]
  after_results
  rfl

theorem staged_matrix : V m c main_v1 = argW m c := by
  unfold V
  simp only [hostOps0]
  after_results
  rfl

theorem staged_scale : V m c main_v2 = broadcastInDim S1x2048 ![1] bcast_S2048_S1x2048_1 (argG m c) := by
  unfold V
  simp only [hostOps0]
  after_results
  rfl

theorem staged_shift : V m c main_v3 = broadcastInDim S1x2048 ![1] bcast_S2048_S1x2048_1 (argB m c) := by
  unfold V
  simp only [hostOps0]
  after_results
  rfl

theorem row_of (x : FVec Ideal S2048 .f32) (q : Fin 2048) : broadcastInDim S1x2048 ![1] bcast_S2048_S1x2048_1 x (ix2 0 q) = x (ix1 q) :=
  broadcastInDim_apply _ bcast_S2048_S1x2048_1 x (ix2 0 q) (ix1 q) fun a => by match a with | ⟨0, _⟩ => rfl

/-- The blocks, typed at their shapes. -/
def xBlk (t : Fin grid0.N) : Vec Ideal S128x5632 .bf16 := iblk m c 0 t
def wBlk (t : Fin grid0.N) : Vec Ideal S1x5632x2048 .bf16 := iblk m c 1 t
def rBlk (t : Fin grid0.N) : Vec Ideal S128x2048 .f32 := iblk m c 2 t
def gBlk (t : Fin grid0.N) : Vec Ideal S1x2048 .f32 := iblk m c 3 t
def bBlk (t : Fin grid0.N) : Vec Ideal S1x2048 .f32 := iblk m c 4 t

theorem xBlk_at (t : Fin grid0.N) (p : Fin 128) (k : Fin 5632) (r : Fin 128) (hr : r.val = t.val * 128 + p.val) :
    xBlk m c t (ix2 p k) = argX m c (ix2 r k) := by
  refine Eq.trans (congrArg (V m c main_v0) (funext fun a => Fin.ext ?_)) (congrFun (staged_rows m c) (ix2 r k))
  refine (place main_v0 _ _ _ _ a).trans ?_
  match a with
  | ⟨0, _⟩ => show cc0_transform_0 (grid0.coords t) 0 * 128 + p.val = r.val; rw [ix_0]; exact hr.symm
  | ⟨1, _⟩ => show cc0_transform_0 (grid0.coords t) 1 * 5632 + k.val = k.val; rw [ix_0]; show 0 * 5632 + _ = _; omega

theorem wBlk_at (t : Fin grid0.N) (k : Fin 5632) (q : Fin 2048) : wBlk m c t (ix3 0 k q) = argW m c (ix3 0 k q) := by
  refine Eq.trans (congrArg (V m c main_v1) (funext fun a => Fin.ext ?_)) (congrFun (staged_matrix m c) (ix3 (0 : Fin 4) k q))
  refine (place main_v1 _ _ _ _ a).trans ?_
  match a with
  | ⟨0, _⟩ => show cc0_transform_1 (grid0.coords t) 0 * 1 + 0 = 0; rw [ix_1]; rfl
  | ⟨1, _⟩ => show cc0_transform_1 (grid0.coords t) 1 * 5632 + k.val = k.val; rw [ix_1]; show 0 * 5632 + _ = _; omega
  | ⟨2, _⟩ => show cc0_transform_1 (grid0.coords t) 2 * 2048 + q.val = q.val; rw [ix_1]; show 0 * 2048 + _ = _; omega

theorem rBlk_at (t : Fin grid0.N) (p : Fin 128) (q : Fin 2048) (r : Fin 128) (hr : r.val = t.val * 128 + p.val) :
    rBlk m c t (ix2 p q) = argR m c (ix2 r q) := by
  refine Eq.trans (congrArg (V m c main_arg2) (funext fun a => Fin.ext ?_)) (congrFun (V_main_arg2 m c) (ix2 r q))
  refine (place main_arg2 _ _ _ _ a).trans ?_
  match a with
  | ⟨0, _⟩ => show cc0_transform_2 (grid0.coords t) 0 * 128 + p.val = r.val; rw [ix_2]; exact hr.symm
  | ⟨1, _⟩ => show cc0_transform_2 (grid0.coords t) 1 * 2048 + q.val = q.val; rw [ix_2]; show 0 * 2048 + _ = _; omega

theorem gBlk_at (t : Fin grid0.N) (q : Fin 2048) : gBlk m c t (ix2 0 q) = argG m c (ix1 q) := by
  refine Eq.trans (congrArg (V m c main_v2) (funext fun a => Fin.ext ?_)) ((congrFun (staged_scale m c) (ix2 (0 : Fin 1) q)).trans (row_of _ q))
  refine (place main_v2 _ _ _ _ a).trans ?_
  match a with
  | ⟨0, _⟩ => show cc0_transform_3 (grid0.coords t) 0 * 1 + 0 = 0; rw [ix_3]; rfl
  | ⟨1, _⟩ => show cc0_transform_3 (grid0.coords t) 1 * 2048 + q.val = q.val; rw [ix_3]; show 0 * 2048 + _ = _; omega

theorem bBlk_at (t : Fin grid0.N) (q : Fin 2048) : bBlk m c t (ix2 0 q) = argB m c (ix1 q) := by
  refine Eq.trans (congrArg (V m c main_v3) (funext fun a => Fin.ext ?_)) ((congrFun (staged_shift m c) (ix2 (0 : Fin 1) q)).trans (row_of _ q))
  refine (place main_v3 _ _ _ _ a).trans ?_
  match a with
  | ⟨0, _⟩ => show cc0_transform_4 (grid0.coords t) 0 * 1 + 0 = 0; rw [ix_4]; rfl
  | ⟨1, _⟩ => show cc0_transform_4 (grid0.coords t) 1 * 2048 + q.val = q.val; rw [ix_4]; show 0 * 2048 + _ = _; omega

/-- A row of the layer before it is normalized, and the layer's value. -/
def rowAt (x : FVec Ideal S128x5632 .f32) (w : FVec Ideal S4x5632x2048 .f32) (s : FVec Ideal S128x2048 .f32) (r : Fin 128) (n : Fin 2048) : Ideal .f32 :=
  entry (s (ix2 r n)) (fun k => x (ix2 r k)) (fun k => w (ix3 0 k n))
def layerAt (x : FVec Ideal S128x5632 .f32) (w : FVec Ideal S4x5632x2048 .f32) (s : FVec Ideal S128x2048 .f32) (g b : FVec Ideal S2048 .f32)
    (r : Fin 128) (q : Fin 2048) : Ideal .f32 :=
  norm (rowAt x w s r) (fun n => g (ix1 n)) (fun n => b (ix1 n)) q

theorem block_layer (t : Fin grid0.N) (p : Fin 128) (q : Fin 2048) (r : Fin 128) (hr : r.val = t.val * 128 + p.val) :
    blockAt (xBlk m c t) (wBlk m c t) (rBlk m c t) (gBlk m c t) (bBlk m c t) p q = layerAt (argX m c) (argW m c) (argR m c) (argG m c) (argB m c) r q := by
  have e1 : (fun n => entry (rBlk m c t (ix2 p n)) (fun k => xBlk m c t (ix2 p k)) (fun k => wBlk m c t (ix3 0 k n)))
      = rowAt (argX m c) (argW m c) (argR m c) r := funext fun n => by
    show entry _ _ _ = entry _ _ _
    rw [rBlk_at m c t p n r hr, funext fun k => xBlk_at m c t p k r hr, funext fun k => wBlk_at m c t k n]
  show norm _ _ _ q = norm _ _ _ q
  rw [e1, funext fun n => gBlk_at m c t n, funext fun n => bBlk_at m c t n]

theorem array_at (r : Fin 128) (q : Fin 2048) :
    kOut m c (ix2 r q) = layerAt (argX m c) (argW m c) (argR m c) (argG m c) (argB m c) r q := by
  have hr := r.isLt
  obtain ⟨t, ht⟩ : ∃ t : Fin grid0.N, t.val = r.val / 128 := ⟨⟨r.val / 128, by rw [points]; omega⟩, rfl⟩
  obtain ⟨p, hp⟩ : ∃ p : Fin 128, p.val = r.val % 128 := ⟨⟨r.val % 128, by omega⟩, rfl⟩
  have h1 : r.val = t.val * 128 + p.val := by omega
  have e := congrFun (blocks5 m c t (flush0_5 t)) (ix2 p q)
  rw [flushed5] at e
  refine Eq.trans (congrArg ((dats m 0 c).arrAt 5 cfg0.N) (funext fun a => Fin.ext ?_)) (e.trans ?_)
  · refine Eq.symm ((place main_v4_0 _ _ _ _ a).trans ?_)
    match a with
    | ⟨0, _⟩ => show cc0_transform_5 (grid0.coords t) 0 * 128 + p.val = r.val; rw [ix_5]; exact h1.symm
    | ⟨1, _⟩ => show cc0_transform_5 (grid0.coords t) 1 * 2048 + q.val = q.val; rw [ix_5]; show 0 * 2048 + _ = _; omega
  · exact (out5_at (xBlk m c t) (wBlk m c t) (rBlk m c t) (gBlk m c t) (bBlk m c t) p q).trans (block_layer m c t p q r h1)

theorem arrayLow_at (r : Fin 128) (q : Fin 2048) :
    kOutLow m c (ix2 r q) = layerAt (argX m c) (argW m c) (argR m c) (argG m c) (argB m c) r q := by
  have hr := r.isLt
  obtain ⟨t, ht⟩ : ∃ t : Fin grid0.N, t.val = r.val / 128 := ⟨⟨r.val / 128, by rw [points]; omega⟩, rfl⟩
  obtain ⟨p, hp⟩ : ∃ p : Fin 128, p.val = r.val % 128 := ⟨⟨r.val % 128, by omega⟩, rfl⟩
  have h1 : r.val = t.val * 128 + p.val := by omega
  have e := congrFun (blocks6 m c t (flush0_6 t)) (ix2 p q)
  rw [flushed6] at e
  refine Eq.trans (congrArg ((dats m 0 c).arrAt 6 cfg0.N) (funext fun a => Fin.ext ?_)) (e.trans ?_)
  · refine Eq.symm ((place main_v4_1 _ _ _ _ a).trans ?_)
    match a with
    | ⟨0, _⟩ => show cc0_transform_6 (grid0.coords t) 0 * 128 + p.val = r.val; rw [ix_6]; exact h1.symm
    | ⟨1, _⟩ => show cc0_transform_6 (grid0.coords t) 1 * 2048 + q.val = q.val; rw [ix_6]; show 0 * 2048 + _ = _; omega
  · exact (out6_at (xBlk m c t) (wBlk m c t) (rBlk m c t) (gBlk m c t) (bBlk m c t) p q).trans (block_layer m c t p q r h1)

/-! ## The reference -/

section Reference

open Cert.Reference8Ideal.Read

variable (x : FVec Ideal S128x5632 .f32) (w : FVec Ideal S4x5632x2048 .f32) (s : FVec Ideal S128x2048 .f32) (g b : FVec Ideal S2048 .f32)

theorem ref_row (i : S128x2048.Idx) (r : Fin 128) (q : Fin 2048) (h0 : (i 0).val = r.val) (h1 : (i 1).val = q.val) :
    val_main_v5 (F := Ideal) x w s i = rowAt x w s r q := by
  rw [val_main_v5_apply, val_main_v1_apply, val_main_v0_apply, val_main_cst_apply, val_main_v4_apply]
  refine congrArg₂ (· + ·) (congrArg (Ideal.ofBits .f32 0x3FD744FD#32 * s ·) (ix2_of i r q h0 h1)) ?_
  refine Finset.sum_congr rfl fun k _ => congrArg₂ (· * ·) (congrArg x (ix2_of _ r k h0 rfl)) ?_
  rw [val_main_v3_apply, val_main_v2_apply]
  have := k.isLt
  have := q.isLt
  refine congrArg w (ix3_of _ 0 k q rfl ?_ ?_)
  · show (k.val * 2048 + (i 1).val) / 2048 % 5632 = k.val; omega
  · show (k.val * 2048 + (i 1).val) % 2048 = q.val; omega

theorem ref_mean (i : Cert.Reference8Ideal.S128x1.Idx) (r : Fin 128) (h0 : (i 0).val = r.val) :
    val_main_v9 (F := Ideal) x w s i = mean (rowAt x w s r) := by
  rw [val_main_v9_apply, val_main_v7_apply, val_main_v6_apply, val_main_v8_apply, val_main_cst_1_apply, val_main_cst_0_apply]
  refine congrArg (Ideal.div · (Ideal.ofBits .f32 0x45000000#32)) ?_
  refine (congrArg (· + _) Ideal.ofBits_zero_f32).trans ((zero_add _).trans (Finset.sum_congr rfl fun k _ => ?_))
  exact ref_row x w s _ r k h0 rfl

theorem ref_centered (i : S128x2048.Idx) (r : Fin 128) (q : Fin 2048) (h0 : (i 0).val = r.val) (h1 : (i 1).val = q.val) :
    val_main_v11 (F := Ideal) x w s i = centered (rowAt x w s r) q := by
  rw [val_main_v11_apply, val_main_v10_apply]
  exact congrArg₂ (· - ·) (ref_row x w s i r q h0 h1) (ref_mean x w s _ r h0)

theorem ref_centered' (i : S128x2048.Idx) (r : Fin 128) (q : Fin 2048) (h0 : (i 0).val = r.val) (h1 : (i 1).val = q.val) :
    val_main_v18 (F := Ideal) x w s i = centered (rowAt x w s r) q := by
  rw [val_main_v18_apply, val_main_v17_apply]
  exact congrArg₂ (· - ·) (ref_row x w s i r q h0 h1) (ref_mean x w s _ r h0)

theorem ref_square (i : Cert.Reference8Ideal.S128x1.Idx) (r : Fin 128) (h0 : (i 0).val = r.val) :
    val_main_v16 (F := Ideal) x w s i = mean fun k => centered (rowAt x w s r) k * centered (rowAt x w s r) k := by
  rw [val_main_v16_apply, val_main_v14_apply, val_main_v13_apply, val_main_v15_apply, val_main_cst_3_apply, val_main_cst_2_apply]
  refine congrArg (Ideal.div · (Ideal.ofBits .f32 0x45000000#32)) ?_
  refine (congrArg (· + _) Ideal.ofBits_zero_f32).trans ((zero_add _).trans (Finset.sum_congr rfl fun k _ => ?_))
  rw [val_main_v12_apply]
  exact congrArg₂ (· * ·) (ref_centered x w s _ r k h0 rfl) (ref_centered x w s _ r k h0 rfl)

theorem reference_at (r : Fin 128) (q : Fin 2048) : val_main_v29 (F := Ideal) x w s g b (ix2 r q) = layerAt x w s g b r q := by
  rw [val_main_v29_apply, val_main_v26_apply, val_main_v23_apply, val_main_v22_apply, val_main_v21_apply, val_main_v20_apply, val_main_v19_apply,
    val_main_cst_4_apply, val_main_v25_apply, val_main_v24_apply, val_main_v28_apply, val_main_v27_apply, ref_centered' x w s (ix2 r q) r q rfl rfl,
    ref_square x w s (idx_main_v22 (ix2 r q)) r rfl]
  refine congrArg₂ (· + ·) (congrArg₂ (· * ·) rfl (congrArg g (funext fun a => ?_))) (congrArg b (funext fun a => ?_))
  · match a with | ⟨0, _⟩ => rfl
  · match a with | ⟨0, _⟩ => rfl

end Reference

/-- The arrays the kernel leaves are the reference's. -/
theorem array_eq : kOut m c = Cert.Reference8Ideal.Read.val_main_v29 (F := Ideal) (argX m c) (argW m c) (argR m c) (argG m c) (argB m c) := by
  refine funext fun j => ?_
  rw [ix2_of j (j 0) (j 1) rfl rfl]
  exact (array_at m c _ _).trans (reference_at _ _ _ _ _ _ _).symm

theorem arrayLow_eq : kOutLow m c = Cert.Reference8Ideal.Read.val_main_v30 (F := Ideal) (argX m c) (argW m c) (argR m c) (argG m c) (argB m c) := by
  refine funext fun j => ?_
  rw [ix2_of j (j 0) (j 1) rfl rfl]
  exact (arrayLow_at m c _ _).trans (reference_at _ _ _ _ _ _ _).symm

end Cert.Kernel8Ideal.Dense

end
-- ==== Proof.Dense.InB.lean ====
module

public import proofs.«01_k».proof.Proof.Gen.Kernel9Ideal.Value
public import proofs.«01_k».proof.Proof.Gen.Reference9Ideal.Read
public import proofs.«01_k».proof.Proof.Dense.Core

@[expose] public section

/-! The second projection: rows by a matrix, each column scaled by its factor. -/

set_option maxRecDepth 16384

noncomputable section

open Idealize.ShloMosaic Idealize.ShloMosaic.ValueIdx Idealize.ShloMosaic.TcCoe Idealize.SL.Sem Idealize.ShloMosaic.StableHlo

namespace Cert.Kernel9Ideal.Dense

open Cert.Kernel9Ideal Cert.Kernel9Ideal.Gen Cert.Kernel9Ideal.Value Cert.Dense

theorem ix_0 : ∀ t : Fin grid0.N, cc0_transform_0 (grid0.coords t) = ![t.val % 32, 0] := by decide +kernel
theorem ix_1 : ∀ t : Fin grid0.N, cc0_transform_1 (grid0.coords t) = ![0, 0, t.val / 32] := by decide +kernel
theorem ix_2 : ∀ t : Fin grid0.N, cc0_transform_2 (grid0.coords t) = ![0, t.val / 32] := by decide +kernel
theorem ix_3 : ∀ t : Fin grid0.N, cc0_transform_3 (grid0.coords t) = ![t.val % 32, t.val / 32] := by decide +kernel
theorem points : grid0.N = 64 := by decide

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero2 : (![0, 0] : Fin 2 → Nat) = fun _ => 0 := funext fun a => by match a with | ⟨0, _⟩ => rfl | ⟨1, _⟩ => rfl
theorem zero3 : (![0, 0, 0] : Fin 3 → Nat) = fun _ => 0 := funext fun a => by match a with | ⟨0, _⟩ => rfl | ⟨1, _⟩ => rfl | ⟨2, _⟩ => rfl

/-! ## A block -/

/-- A product scaled by its column's factor. -/
def scaled (x w : Fin 2048 → Ideal .f32) (s : Ideal .f32) : Ideal .f32 := (∑ k : Fin 2048, x k * w k) * s

theorem pay_at (x : Vec Ideal S1024x2048 .bf16) (w : Vec Ideal S1x2048x1024 .f32) (s : Vec Ideal S1x1024 .f32) (p : Fin 1024) (q : Fin 1024) :
    k0_pay1 x w s (ix2 p q) = scaled (fun k => x (ix2 p k)) (fun k => w (ix3 0 k q)) (s (ix2 0 q)) := by
  refine congrArg₂ (fun a b : EReal => a * b) ?_ ?_
  · refine (product_at (φ₁ := .bf16) (φ₂ := .bf16) dot_S1024x2048_S2048x1024_S1024x1024_1_0_0_1_n_n none rfl rfl rfl rfl rfl rfl
      (shapeCast S1024x2048 x shapeCasts_S1024x2048_S1024x2048)
      (truncf .bf16 (shapeCast S2048x1024 w shapeCasts_S1x2048x1024_S2048x1024 : FVec Ideal S2048x1024 .f32) bitsLt_bf16_f32) (ix2 p q)).trans ?_
    refine Finset.sum_congr rfl fun k _ => congrArg₂ (· * ·) ?_ ?_
    · rw [shapeCast_self]
    · exact unstack_at w _ k q
  · rw [shapeCast_self]
    exact broadcastTo_apply _ _ _ (ix2 0 q) fun a => by match a with | ⟨0, _⟩ => rfl | ⟨1, _⟩ => rfl

theorem out_at (x : Vec Ideal S1024x2048 .bf16) (w : Vec Ideal S1x2048x1024 .f32) (s : Vec Ideal S1x1024 .f32) (p : Fin 1024) (q : Fin 1024) :
    out0_3 x w s (ix2 p q) = scaled (fun k => x (ix2 p k)) (fun k => w (ix3 0 k q)) (s (ix2 0 q)) := by
  unfold out0_3
  rw [View.canon_unit_zero zero2, View.ld_unit_zero (X := x) zero2, View.ld_unit_zero (X := w) zero3, View.ld_unit_zero (X := s) zero2]
  exact pay_at x w s p q

/-! ## The arrays -/

variable (m : (ℓ : Loc nD τ sig) → Buf (Elt Ideal) ℓ) (c : Dev nD)

/-- The arguments, and the array the kernel leaves, typed at their shapes. -/
def argX : FVec Ideal S32768x2048 .f32 := m ((c : Thread nD τ).loc main_arg0)
def argW : FVec Ideal S2x2048x2048 .f32 := m ((c : Thread nD τ).loc main_arg1)
def argS : FVec Ideal S2048 .f32 := m ((c : Thread nD τ).loc main_arg2)
def kOut : FVec Ideal S32768x2048 .bf16 := (dats m 0 c).arrAt 3 cfg0.N

/-- The arrays the kernel stages. -/
theorem staged_rows : V m c main_v0 = argX m c := by
  unfold V
  simp only [hostOps0]
  after_results
  rfl

theorem staged_scale : V m c main_v1 = broadcastInDim S1x2048 ![1] bcast_S2048_S1x2048_1 (argS m c) := by
  unfold V
  simp only [hostOps0]
  after_results
  rfl

theorem row_of (x : FVec Ideal S2048 .f32) (q : Fin 2048) : broadcastInDim S1x2048 ![1] bcast_S2048_S1x2048_1 x (ix2 0 q) = x (ix1 q) :=
  broadcastInDim_apply _ bcast_S2048_S1x2048_1 x (ix2 0 q) (ix1 q) fun a => by match a with | ⟨0, _⟩ => rfl

/-- The blocks, typed at their shapes. -/
def xBlk (t : Fin grid0.N) : Vec Ideal S1024x2048 .bf16 := iblk m c 0 t
def wBlk (t : Fin grid0.N) : Vec Ideal S1x2048x1024 .f32 := iblk m c 1 t
def sBlk (t : Fin grid0.N) : Vec Ideal S1x1024 .f32 := iblk m c 2 t

theorem xBlk_at (t : Fin grid0.N) (p : Fin 1024) (k : Fin 2048) (r : Fin 32768) (hr : r.val = t.val % 32 * 1024 + p.val) :
    xBlk m c t (ix2 p k) = argX m c (ix2 r k) := by
  refine Eq.trans (congrArg (V m c main_v0) (funext fun a => Fin.ext ?_)) (congrFun (staged_rows m c) (ix2 r k))
  refine (place main_v0 _ _ _ _ a).trans ?_
  match a with
  | ⟨0, _⟩ => show cc0_transform_0 (grid0.coords t) 0 * 1024 + p.val = r.val; rw [ix_0]; exact hr.symm
  | ⟨1, _⟩ => show cc0_transform_0 (grid0.coords t) 1 * 2048 + k.val = k.val; rw [ix_0]; show 0 * 2048 + _ = _; omega

theorem wBlk_at (t : Fin grid0.N) (k : Fin 2048) (q : Fin 1024) (s : Fin 2048) (hs : s.val = t.val / 32 * 1024 + q.val) :
    wBlk m c t (ix3 0 k q) = argW m c (ix3 0 k s) := by
  refine Eq.trans (congrArg (V m c main_arg1) (funext fun a => Fin.ext ?_)) (congrFun (V_main_arg1 m c) (ix3 (0 : Fin 2) k s))
  refine (place main_arg1 _ _ _ _ a).trans ?_
  match a with
  | ⟨0, _⟩ => show cc0_transform_1 (grid0.coords t) 0 * 1 + 0 = 0; rw [ix_1]; rfl
  | ⟨1, _⟩ => show cc0_transform_1 (grid0.coords t) 1 * 2048 + k.val = k.val; rw [ix_1]; show 0 * 2048 + _ = _; omega
  | ⟨2, _⟩ => show cc0_transform_1 (grid0.coords t) 2 * 1024 + q.val = s.val; rw [ix_1]; exact hs.symm

theorem sBlk_at (t : Fin grid0.N) (q : Fin 1024) (s : Fin 2048) (hs : s.val = t.val / 32 * 1024 + q.val) :
    sBlk m c t (ix2 0 q) = argS m c (ix1 s) := by
  refine Eq.trans (congrArg (V m c main_v1) (funext fun a => Fin.ext ?_)) ((congrFun (staged_scale m c) (ix2 (0 : Fin 1) s)).trans (row_of _ s))
  refine (place main_v1 _ _ _ _ a).trans ?_
  match a with
  | ⟨0, _⟩ => show cc0_transform_2 (grid0.coords t) 0 * 1 + 0 = 0; rw [ix_2]; rfl
  | ⟨1, _⟩ => show cc0_transform_2 (grid0.coords t) 1 * 1024 + q.val = s.val; rw [ix_2]; exact hs.symm

/-- The projection's value at row `r`, column `s`. -/
def columnAt (x : FVec Ideal S32768x2048 .f32) (w : FVec Ideal S2x2048x2048 .f32) (f : FVec Ideal S2048 .f32) (r : Fin 32768) (s : Fin 2048) : Ideal .f32 :=
  scaled (fun k => x (ix2 r k)) (fun k => w (ix3 0 k s)) (f (ix1 s))

theorem array_at (r : Fin 32768) (s : Fin 2048) : kOut m c (ix2 r s) = columnAt (argX m c) (argW m c) (argS m c) r s := by
  have hr := r.isLt
  have hs := s.isLt
  obtain ⟨t, ht⟩ : ∃ t : Fin grid0.N, t.val = s.val / 1024 * 32 + r.val / 1024 := ⟨⟨s.val / 1024 * 32 + r.val / 1024, by rw [points]; omega⟩, rfl⟩
  obtain ⟨p, hp⟩ : ∃ p : Fin 1024, p.val = r.val % 1024 := ⟨⟨r.val % 1024, by omega⟩, rfl⟩
  obtain ⟨q, hq⟩ : ∃ q : Fin 1024, q.val = s.val % 1024 := ⟨⟨s.val % 1024, by omega⟩, rfl⟩
  have h1 : r.val = t.val % 32 * 1024 + p.val := by omega
  have h2 : s.val = t.val / 32 * 1024 + q.val := by omega
  have e := congrFun (blocks3 m c t (flush0_3 t)) (ix2 p q)
  rw [flushed3] at e
  refine Eq.trans (congrArg ((dats m 0 c).arrAt 3 cfg0.N) (funext fun a => Fin.ext ?_)) (e.trans ?_)
  · refine Eq.symm ((place main_v2 _ _ _ _ a).trans ?_)
    match a with
    | ⟨0, _⟩ => show cc0_transform_3 (grid0.coords t) 0 * 1024 + p.val = r.val; rw [ix_3]; exact h1.symm
    | ⟨1, _⟩ => show cc0_transform_3 (grid0.coords t) 1 * 1024 + q.val = s.val; rw [ix_3]; exact h2.symm
  · refine (out_at (xBlk m c t) (wBlk m c t) (sBlk m c t) p q).trans (congrArg₂ (fun a b : EReal => a * b) ?_ (sBlk_at m c t q s h2))
    exact Finset.sum_congr rfl fun k _ => congrArg₂ (· * ·) (xBlk_at m c t p k r h1) (wBlk_at m c t k q s h2)

/-! ## The reference -/

open Cert.Reference9Ideal.Read in
theorem reference_at (x : FVec Ideal S32768x2048 .f32) (w : FVec Ideal S2x2048x2048 .f32) (f : FVec Ideal S2048 .f32) (r : Fin 32768) (s : Fin 2048) :
    val_main_v6 (F := Ideal) x w f (ix2 r s) = columnAt x w f r s := by
  rw [val_main_v6_apply, val_main_v5_apply, val_main_v2_apply, val_main_v4_apply, val_main_v3_apply]
  refine congrArg₂ (fun a b : EReal => a * b) (Finset.sum_congr rfl fun k _ => congrArg₂ (· * ·) (congrArg x (ix2_of _ r k rfl rfl)) ?_)
    (congrArg f (funext fun a => by match a with | ⟨0, _⟩ => rfl))
  rw [val_main_v1_apply, val_main_v0_apply]
  have := k.isLt
  have := s.isLt
  refine congrArg w (ix3_of _ 0 k s rfl ?_ ?_)
  · show (k.val * 2048 + s.val) / 2048 % 2048 = k.val; omega
  · show (k.val * 2048 + s.val) % 2048 = s.val; omega

/-- The array the kernel leaves is the reference's. -/
theorem array_eq : kOut m c = Cert.Reference9Ideal.Read.val_main_v6 (F := Ideal) (argX m c) (argW m c) (argS m c) := by
  refine funext fun j => ?_
  rw [ix2_of j (j 0) (j 1) rfl rfl]
  exact (array_at m c _ _).trans (reference_at _ _ _ _ _).symm

end Cert.Kernel9Ideal.Dense

end
-- ==== Proof.Dense.InA.lean ====
module

public import proofs.«01_k».proof.Proof.Gen.Kernel10Ideal.Value
public import proofs.«01_k».proof.Proof.Gen.Reference10Ideal.Read
public import proofs.«01_k».proof.Proof.Dense.Core

@[expose] public section

/-! The first projection: rows by a matrix, each column scaled by its factor. -/

set_option maxRecDepth 16384

noncomputable section

open Idealize.ShloMosaic Idealize.ShloMosaic.ValueIdx Idealize.ShloMosaic.TcCoe Idealize.SL.Sem Idealize.ShloMosaic.StableHlo

namespace Cert.Kernel10Ideal.Dense

open Cert.Kernel10Ideal Cert.Kernel10Ideal.Gen Cert.Kernel10Ideal.Value Cert.Dense

theorem ix_0 : ∀ t : Fin grid0.N, cc0_transform_0 (grid0.coords t) = ![t.val % 32, 0] := by decide +kernel
theorem ix_1 : ∀ t : Fin grid0.N, cc0_transform_1 (grid0.coords t) = ![0, t.val / 32] := by decide +kernel
theorem ix_2 : ∀ t : Fin grid0.N, cc0_transform_2 (grid0.coords t) = ![0, t.val / 32] := by decide +kernel
theorem ix_3 : ∀ t : Fin grid0.N, cc0_transform_3 (grid0.coords t) = ![t.val % 32, t.val / 32] := by decide +kernel
theorem points : grid0.N = 96 := by decide

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero2 : (![0, 0] : Fin 2 → Nat) = fun _ => 0 := funext fun a => by match a with | ⟨0, _⟩ => rfl | ⟨1, _⟩ => rfl

/-! ## A block -/

/-- A product scaled by its column's factor. -/
def scaled (x w : Fin 2048 → Ideal .f32) (s : Ideal .f32) : Ideal .f32 := (∑ k : Fin 2048, x k * w k) * s

theorem pay_at (x : Vec Ideal S1024x2048 .bf16) (w : Vec Ideal S2048x1920 .bf16) (s : Vec Ideal S1x1920 .f32) (p : Fin 1024) (q : Fin 1920) :
    k0_pay1 x w s (ix2 p q) = scaled (fun k => x (ix2 p k)) (fun k => w (ix2 k q)) (s (ix2 0 q)) := by
  refine congrArg₂ (fun a b : EReal => a * b) ?_ ?_
  · refine (product_at (φ₁ := .bf16) (φ₂ := .bf16) dot_S1024x2048_S2048x1920_S1024x1920_1_0_0_1_n_n none rfl rfl rfl rfl rfl rfl
      (shapeCast S1024x2048 x shapeCasts_S1024x2048_S1024x2048)
      (shapeCast S2048x1920 w shapeCasts_S2048x1920_S2048x1920) (ix2 p q)).trans ?_
    refine Finset.sum_congr rfl fun k _ => congrArg₂ (· * ·) ?_ ?_
    · rw [shapeCast_self]
    · rw [shapeCast_self]
  · rw [shapeCast_self]
    exact broadcastTo_apply _ _ _ (ix2 0 q) fun a => by match a with | ⟨0, _⟩ => rfl | ⟨1, _⟩ => rfl

theorem out_at (x : Vec Ideal S1024x2048 .bf16) (w : Vec Ideal S2048x1920 .bf16) (s : Vec Ideal S1x1920 .f32) (p : Fin 1024) (q : Fin 1920) :
    out0_3 x w s (ix2 p q) = scaled (fun k => x (ix2 p k)) (fun k => w (ix2 k q)) (s (ix2 0 q)) := by
  unfold out0_3
  rw [View.canon_unit_zero zero2, View.ld_unit_zero (X := x) zero2, View.ld_unit_zero (X := w) zero2, View.ld_unit_zero (X := s) zero2]
  exact pay_at x w s p q

/-! ## The arrays -/

variable (m : (ℓ : Loc nD τ sig) → Buf (Elt Ideal) ℓ) (c : Dev nD)

/-- The arguments, and the array the kernel leaves, typed at their shapes. -/
def argX : FVec Ideal S32768x2048 .f32 := m ((c : Thread nD τ).loc main_arg0)
def argW : FVec Ideal S2048x5760 .f32 := m ((c : Thread nD τ).loc main_arg1)
def argS : FVec Ideal S5760 .f32 := m ((c : Thread nD τ).loc main_arg2)
def kOut : FVec Ideal S32768x5760 .bf16 := (dats m 0 c).arrAt 3 cfg0.N

/-- The arrays the kernel stages. -/
theorem staged_rows : V m c main_v0 = argX m c := by
  unfold V
  simp only [hostOps0]
  after_results
  rfl

theorem staged_matrix : V m c main_v1 = argW m c := by
  unfold V
  simp only [hostOps0]
  after_results
  rfl

theorem staged_scale : V m c main_v2 = broadcastInDim S1x5760 ![1] bcast_S5760_S1x5760_1 (argS m c) := by
  unfold V
  simp only [hostOps0]
  after_results
  rfl

theorem row_of (x : FVec Ideal S5760 .f32) (q : Fin 5760) : broadcastInDim S1x5760 ![1] bcast_S5760_S1x5760_1 x (ix2 0 q) = x (ix1 q) :=
  broadcastInDim_apply _ bcast_S5760_S1x5760_1 x (ix2 0 q) (ix1 q) fun a => by match a with | ⟨0, _⟩ => rfl

/-- The blocks, typed at their shapes. -/
def xBlk (t : Fin grid0.N) : Vec Ideal S1024x2048 .bf16 := iblk m c 0 t
def wBlk (t : Fin grid0.N) : Vec Ideal S2048x1920 .bf16 := iblk m c 1 t
def sBlk (t : Fin grid0.N) : Vec Ideal S1x1920 .f32 := iblk m c 2 t

theorem xBlk_at (t : Fin grid0.N) (p : Fin 1024) (k : Fin 2048) (r : Fin 32768) (hr : r.val = t.val % 32 * 1024 + p.val) :
    xBlk m c t (ix2 p k) = argX m c (ix2 r k) := by
  refine Eq.trans (congrArg (V m c main_v0) (funext fun a => Fin.ext ?_)) (congrFun (staged_rows m c) (ix2 r k))
  refine (place main_v0 _ _ _ _ a).trans ?_
  match a with
  | ⟨0, _⟩ => show cc0_transform_0 (grid0.coords t) 0 * 1024 + p.val = r.val; rw [ix_0]; exact hr.symm
  | ⟨1, _⟩ => show cc0_transform_0 (grid0.coords t) 1 * 2048 + k.val = k.val; rw [ix_0]; show 0 * 2048 + _ = _; omega

theorem wBlk_at (t : Fin grid0.N) (k : Fin 2048) (q : Fin 1920) (s : Fin 5760) (hs : s.val = t.val / 32 * 1920 + q.val) :
    wBlk m c t (ix2 k q) = argW m c (ix2 k s) := by
  refine Eq.trans (congrArg (V m c main_v1) (funext fun a => Fin.ext ?_)) (congrFun (staged_matrix m c) (ix2 k s))
  refine (place main_v1 _ _ _ _ a).trans ?_
  match a with
  | ⟨0, _⟩ => show cc0_transform_1 (grid0.coords t) 0 * 2048 + k.val = k.val; rw [ix_1]; show 0 * 2048 + _ = _; omega
  | ⟨1, _⟩ => show cc0_transform_1 (grid0.coords t) 1 * 1920 + q.val = s.val; rw [ix_1]; exact hs.symm

theorem sBlk_at (t : Fin grid0.N) (q : Fin 1920) (s : Fin 5760) (hs : s.val = t.val / 32 * 1920 + q.val) :
    sBlk m c t (ix2 0 q) = argS m c (ix1 s) := by
  refine Eq.trans (congrArg (V m c main_v2) (funext fun a => Fin.ext ?_)) ((congrFun (staged_scale m c) (ix2 (0 : Fin 1) s)).trans (row_of _ s))
  refine (place main_v2 _ _ _ _ a).trans ?_
  match a with
  | ⟨0, _⟩ => show cc0_transform_2 (grid0.coords t) 0 * 1 + 0 = 0; rw [ix_2]; rfl
  | ⟨1, _⟩ => show cc0_transform_2 (grid0.coords t) 1 * 1920 + q.val = s.val; rw [ix_2]; exact hs.symm

/-- The projection's value at row `r`, column `s`. -/
def columnAt (x : FVec Ideal S32768x2048 .f32) (w : FVec Ideal S2048x5760 .f32) (f : FVec Ideal S5760 .f32) (r : Fin 32768) (s : Fin 5760) : Ideal .f32 :=
  scaled (fun k => x (ix2 r k)) (fun k => w (ix2 k s)) (f (ix1 s))

theorem array_at (r : Fin 32768) (s : Fin 5760) : kOut m c (ix2 r s) = columnAt (argX m c) (argW m c) (argS m c) r s := by
  have hr := r.isLt
  have hs := s.isLt
  obtain ⟨t, ht⟩ : ∃ t : Fin grid0.N, t.val = s.val / 1920 * 32 + r.val / 1024 := ⟨⟨s.val / 1920 * 32 + r.val / 1024, by rw [points]; omega⟩, rfl⟩
  obtain ⟨p, hp⟩ : ∃ p : Fin 1024, p.val = r.val % 1024 := ⟨⟨r.val % 1024, by omega⟩, rfl⟩
  obtain ⟨q, hq⟩ : ∃ q : Fin 1920, q.val = s.val % 1920 := ⟨⟨s.val % 1920, by omega⟩, rfl⟩
  have h1 : r.val = t.val % 32 * 1024 + p.val := by omega
  have h2 : s.val = t.val / 32 * 1920 + q.val := by omega
  have e := congrFun (blocks3 m c t (flush0_3 t)) (ix2 p q)
  rw [flushed3] at e
  refine Eq.trans (congrArg ((dats m 0 c).arrAt 3 cfg0.N) (funext fun a => Fin.ext ?_)) (e.trans ?_)
  · refine Eq.symm ((place main_v3 _ _ _ _ a).trans ?_)
    match a with
    | ⟨0, _⟩ => show cc0_transform_3 (grid0.coords t) 0 * 1024 + p.val = r.val; rw [ix_3]; exact h1.symm
    | ⟨1, _⟩ => show cc0_transform_3 (grid0.coords t) 1 * 1920 + q.val = s.val; rw [ix_3]; exact h2.symm
  · refine (out_at (xBlk m c t) (wBlk m c t) (sBlk m c t) p q).trans (congrArg₂ (fun a b : EReal => a * b) ?_ (sBlk_at m c t q s h2))
    exact Finset.sum_congr rfl fun k _ => congrArg₂ (· * ·) (xBlk_at m c t p k r h1) (wBlk_at m c t k q s h2)

/-! ## The reference -/

open Cert.Reference10Ideal.Read in
theorem reference_at (x : FVec Ideal S32768x2048 .f32) (w : FVec Ideal S2048x5760 .f32) (f : FVec Ideal S5760 .f32) (r : Fin 32768) (s : Fin 5760) :
    val_main_v4 (F := Ideal) x w f (ix2 r s) = columnAt x w f r s := by
  rw [val_main_v4_apply, val_main_v3_apply, val_main_v0_apply, val_main_v2_apply, val_main_v1_apply]
  exact congrArg₂ (fun a b : EReal => a * b)
    (Finset.sum_congr rfl fun k _ => congrArg₂ (· * ·) (congrArg x (ix2_of _ r k rfl rfl)) (congrArg w (ix2_of _ k s rfl rfl)))
    (congrArg f (funext fun a => by match a with | ⟨0, _⟩ => rfl))

/-- The array the kernel leaves is the reference's. -/
theorem array_eq : kOut m c = Cert.Reference10Ideal.Read.val_main_v4 (F := Ideal) (argX m c) (argW m c) (argS m c) := by
  refine funext fun j => ?_
  rw [ix2_of j (j 0) (j 1) rfl rfl]
  exact (array_at m c _ _).trans (reference_at _ _ _ _ _).symm

end Cert.Kernel10Ideal.Dense

end
-- ==== Proof.Dense.PromptKeys.lean ====
module

public import proofs.«01_k».proof.Proof.Gen.Kernel11Ideal.Value
public import proofs.«01_k».proof.Proof.Gen.Reference11Ideal.Read
public import proofs.«01_k».proof.Proof.Dense.Core

@[expose] public section

/-! The keys of the prompt as the attention reads them: the rows by the left half of the columns, in low precision. -/

set_option maxRecDepth 16384

noncomputable section

open Idealize.ShloMosaic Idealize.ShloMosaic.ValueIdx Idealize.ShloMosaic.TcCoe Idealize.SL.Sem Idealize.ShloMosaic.StableHlo

namespace Cert.Kernel11Ideal.Dense

open Cert.Kernel11Ideal Cert.Kernel11Ideal.Gen Cert.Kernel11Ideal.Value Cert.Dense

theorem ix_0 : ∀ t : Fin grid0.N, cc0_transform_0 (grid0.coords t) = ![t.val, 0] := by decide +kernel
theorem ix_1 : ∀ t : Fin grid0.N, cc0_transform_1 (grid0.coords t) = ![0, 0] := by decide +kernel
theorem ix_3 : ∀ t : Fin grid0.N, cc0_transform_3 (grid0.coords t) = ![t.val, 0] := by decide +kernel
theorem points : grid0.N = 64 := by decide

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero2 : (![0, 0] : Fin 2 → Nat) = fun _ => 0 := funext fun a => by match a with | ⟨0, _⟩ => rfl | ⟨1, _⟩ => rfl

/-! ## A block -/

theorem pay_at (x : Vec Ideal S512x2048 .bf16) (w : Vec Ideal S2048x1536 .f32) (p : Fin 512) (q : Fin 1536) :
    k0_pay2 x w (ix2 p q) = ∑ k : Fin 2048, x (ix2 p k) * w (ix2 k q) := by
  refine (product_at (φ₁ := .bf16) (φ₂ := .bf16) dot_S512x2048_S2048x1536_S512x1536_1_0_0_1_n_n none rfl rfl rfl rfl rfl rfl
    (shapeCast S512x2048 x shapeCasts_S512x2048_S512x2048) (truncf .bf16 (w : FVec Ideal S2048x1536 .f32) bitsLt_bf16_f32) (ix2 p q)).trans ?_
  refine Finset.sum_congr rfl fun k _ => congrArg₂ (· * ·) ?_ rfl
  rw [shapeCast_self]

/-! What a point leaves in the block of rows, in each of the three cases: the first points, those that wait for an
    earlier point's copies, and the last. -/

section Cases

variable (c : Dev nD) (t : Fin cfg0.N) (arg1 : Memref sig .tc .vmem S512x2048 .bf16) (harg1 : arg1.IsWhole)
  (arg2 : Memref sig .tc .vmem S2048x1536 .f32) (harg2 : arg2.IsWhole) (arg4 : Memref sig .tc .vmem S512x1536 .bf16) (harg4 : arg4.IsWhole)
  (x : Vec Ideal S512x2048 .bf16) (w : Vec Ideal S2048x1536 .f32)

theorem out_A (hc0 : ¬cond0_0 (grid0.coords t)) (hc1 : ¬cond0_1 (grid0.coords t)) :
    out0_A_2 c t arg1 harg1 arg2 harg2 arg4 harg4 hc0 hc1 x w = k0_pay2 x w := by
  unfold out0_A_2
  rw [View.read_writes_eq_canon _ _ _ (cover0_A_2 c t arg1 harg1 arg2 harg2 arg4 harg4 hc0 hc1 x w)]
  unfold kernelRun0_A; dsimp only; sl_unfold_words
  simp only [View.readAt_eq_ld, harg1.read_unread, harg2.read_unread]
  rw [View.canon_unit_zero zero2, View.ld_unit_zero (X := x) zero2, View.ld_unit_zero (X := w) zero2]

theorem out_B (hc0 : cond0_0 (grid0.coords t)) (hc1 : ¬cond0_1 (grid0.coords t)) :
    out0_B_2 c t arg1 harg1 arg2 harg2 arg4 harg4 hc0 hc1 x w = k0_pay2 x w := by
  unfold out0_B_2
  rw [View.read_writes_eq_canon _ _ _ (cover0_B_2 c t arg1 harg1 arg2 harg2 arg4 harg4 hc0 hc1 x w)]
  unfold kernelRun0_B; dsimp only; sl_unfold_words
  simp only [View.readAt_eq_ld, harg1.read_unread, harg2.read_unread]
  rw [View.canon_unit_zero zero2, View.ld_unit_zero (X := x) zero2, View.ld_unit_zero (X := w) zero2]

theorem out_C (hc0 : cond0_0 (grid0.coords t)) (hc1 : cond0_1 (grid0.coords t)) :
    out0_C_2 c t arg1 harg1 arg2 harg2 arg4 harg4 hc0 hc1 x w = k0_pay2 x w := by
  unfold out0_C_2
  rw [View.read_writes_eq_canon _ _ _ (cover0_C_2 c t arg1 harg1 arg2 harg2 arg4 harg4 hc0 hc1 x w)]
  unfold kernelRun0_C; dsimp only; sl_unfold_words
  simp only [View.readAt_eq_ld, harg1.read_unread, harg2.read_unread]
  rw [View.canon_unit_zero zero2, View.ld_unit_zero (X := x) zero2, View.ld_unit_zero (X := w) zero2]

end Cases

/-! ## The array -/

variable (m : (ℓ : Loc nD τ sig) → Buf (Elt Ideal) ℓ) (c : Dev nD)

/-- The arguments, and the array the kernel leaves, typed at their shapes. -/
def argX : FVec Ideal S32768x2048 .f32 := m ((c : Thread nD τ).loc main_arg0)
def argW : FVec Ideal S2048x3072 .f32 := m ((c : Thread nD τ).loc main_arg1)
def kOut : FVec Ideal S32768x1536 .bf16 := (dats m 0 c).arrAt 2 cfg0.N

/-- The rows the kernel stages. -/
theorem staged_rows : V m c main_v0 = argX m c := by
  unfold V
  simp only [hostOps0]
  after_results
  rfl

/-- The blocks, typed at their shapes. -/
def xBlk (t : Fin grid0.N) : Vec Ideal S512x2048 .bf16 := iblk m c 0 t
def wBlk (t : Fin grid0.N) : Vec Ideal S2048x1536 .f32 := iblk m c 1 t

theorem xBlk_at (t : Fin grid0.N) (p : Fin 512) (k : Fin 2048) (r : Fin 32768) (hr : r.val = t.val * 512 + p.val) :
    xBlk m c t (ix2 p k) = argX m c (ix2 r k) := by
  refine Eq.trans (congrArg (V m c main_v0) (funext fun a => Fin.ext ?_)) (congrFun (staged_rows m c) (ix2 r k))
  refine (place main_v0 _ _ _ _ a).trans ?_
  match a with
  | ⟨0, _⟩ => show cc0_transform_0 (grid0.coords t) 0 * 512 + p.val = r.val; rw [ix_0]; exact hr.symm
  | ⟨1, _⟩ => show cc0_transform_0 (grid0.coords t) 1 * 2048 + k.val = k.val; rw [ix_0]; show 0 * 2048 + _ = _; omega

theorem wBlk_at (t : Fin grid0.N) (k : Fin 2048) (q : Fin 1536) (s : Fin 3072) (hs : s.val = 0 * 1536 + q.val) :
    wBlk m c t (ix2 k q) = argW m c (ix2 k s) := by
  refine Eq.trans (congrArg (V m c main_arg1) (funext fun a => Fin.ext ?_)) (congrFun (V_main_arg1 m c) (ix2 k s))
  refine (place main_arg1 _ _ _ _ a).trans ?_
  match a with
  | ⟨0, _⟩ => show cc0_transform_1 (grid0.coords t) 0 * 2048 + k.val = k.val; rw [ix_1]; show 0 * 2048 + _ = _; omega
  | ⟨1, _⟩ => show cc0_transform_1 (grid0.coords t) 1 * 1536 + q.val = s.val; rw [ix_1]; exact hs.symm

/-- What point `t` writes back. -/
theorem block_at (t : Fin cfg0.N) : (dats m 0 c).flushed 2 t = (cfg0.win 2).cut (grid0.coords t) (k0_pay2 (xBlk m c t) (wBlk m c t)) := by
  have ht : t.val < 64 := lt_of_lt_of_eq t.isLt (show cfg0.N = 64 from N_0)
  by_cases h0 : 2 ≤ t.val
  · by_cases h1 : t.val % 64 = 63
    · exact (flushed2_C m c t h0 h1).trans (congrArg _ (out_C c t _ _ _ _ _ _ _ _ _ _))
    · exact (flushed2_B m c t h0 h1).trans (congrArg _ (out_B c t _ _ _ _ _ _ _ _ _ _))
  · exact (flushed2_A m c t h0 (by omega)).trans (congrArg _ (out_A c t _ _ _ _ _ _ _ _ _ _))

/-- The product of the rows by the columns, at a row and a column. -/
def prodAt (x : FVec Ideal S32768x2048 .f32) (w : FVec Ideal S2048x3072 .f32) (r : Fin 32768) (s : Fin 3072) : Ideal .f32 :=
  ∑ k : Fin 2048, x (ix2 r k) * w (ix2 k s)

theorem block_product (t : Fin grid0.N) (p : Fin 512) (q : Fin 1536) (r : Fin 32768) (s : Fin 3072) (hr : r.val = t.val * 512 + p.val)
    (hs : s.val = 0 * 1536 + q.val) : k0_pay2 (xBlk m c t) (wBlk m c t) (ix2 p q) = prodAt (argX m c) (argW m c) r s :=
  (pay_at _ _ p q).trans (Finset.sum_congr rfl fun k _ => congrArg₂ (· * ·) (xBlk_at m c t p k r hr) (wBlk_at m c t k q s hs))

theorem array_at (r : Fin 32768) (q : Fin 1536) : kOut m c (ix2 r q) = prodAt (argX m c) (argW m c) r ⟨0 * 1536 + q.val, by omega⟩ := by
  have hr := r.isLt
  obtain ⟨t, ht⟩ : ∃ t : Fin grid0.N, t.val = r.val / 512 := ⟨⟨r.val / 512, by rw [points]; omega⟩, rfl⟩
  obtain ⟨p, hp⟩ : ∃ p : Fin 512, p.val = r.val % 512 := ⟨⟨r.val % 512, by omega⟩, rfl⟩
  have h1 : r.val = t.val * 512 + p.val := by omega
  have e := congrFun (blocks2 m c t (flush0_2 t)) (ix2 p q)
  rw [block_at] at e
  refine Eq.trans (congrArg ((dats m 0 c).arrAt 2 cfg0.N) (funext fun a => Fin.ext ?_)) (e.trans ?_)
  · refine Eq.symm ((place main_v1_1 _ _ _ _ a).trans ?_)
    match a with
    | ⟨0, _⟩ => show cc0_transform_3 (grid0.coords t) 0 * 512 + p.val = r.val; rw [ix_3]; exact h1.symm
    | ⟨1, _⟩ => show cc0_transform_3 (grid0.coords t) 1 * 1536 + q.val = q.val; rw [ix_3]; show 0 * 1536 + _ = _; omega
  · exact block_product m c t p q r _ h1 rfl

/-! ## The reference -/

section Reference

open Cert.Reference11Ideal.Read

variable (x : FVec Ideal S32768x2048 .f32) (w : FVec Ideal S2048x3072 .f32)

theorem ref_split (i : Cert.Reference11Ideal.S4x8192x2x12x128.Idx) (r : Fin 32768) (s : Fin 3072) (hr : (i 0).val * 8192 + (i 1).val = r.val)
    (hs : (i 2).val * 1536 + (i 3).val * 128 + (i 4).val = s.val) : val_main_v1 (F := Ideal) x w i = prodAt x w r s := by
  have h2 : (i 2).val < 2 := (i 2).isLt
  have h3 : (i 3).val < 12 := (i 3).isLt
  have h4 : (i 4).val < 128 := (i 4).isLt
  rw [val_main_v1_apply, val_main_v0_apply]
  refine Finset.sum_congr rfl fun k _ => congrArg₂ (· * ·) (congrArg x (ix2_of _ r k ?_ rfl)) (congrArg w (ix2_of _ k s rfl ?_))
  · show (((((i 0).val * 8192 + (i 1).val) * 2 + (i 2).val) * 12 + (i 3).val) * 128 + (i 4).val) / 3072 = r.val; omega
  · show (((((i 0).val * 8192 + (i 1).val) * 2 + (i 2).val) * 12 + (i 3).val) * 128 + (i 4).val) % 3072 = s.val; omega

theorem nat_row (a b c d : Nat) (hb : b < 8192) (hc : c < 12) (hd : d < 128) :
    (((a * 8192 + b) * 12 + c) * 128 + d) / 12582912 * 8192 + (((a * 8192 + b) * 12 + c) * 128 + d) / 1536 % 8192 = a * 8192 + b := by
  omega

theorem nat_column (e r c d : Nat) (hc : c < 12) (hd : d < 128) :
    e + ((r * 12 + c) * 128 + d) / 128 % 12 * 128 + ((r * 12 + c) * 128 + d) % 128 = e + c * 128 + d := by omega

theorem ref_heads (i : Cert.Reference11Ideal.S4x8192x12x128.Idx) (r : Fin 32768) (s : Fin 3072) (hr : (i 0).val * 8192 + (i 1).val = r.val)
    (hs : 0 * 1536 + (i 2).val * 128 + (i 3).val = s.val) : val_main_v3 (F := Ideal) x w i = prodAt x w r s := by
  have h1 : (i 1).val < 8192 := (i 1).isLt
  have h2 : (i 2).val < 12 := (i 2).isLt
  have h3 : (i 3).val < 128 := (i 3).isLt
  rw [val_main_v3_apply, val_main_v2_apply]
  refine ref_split x w _ r s ?_ ?_
  · exact (nat_row _ _ _ _ h1 h2 h3).trans hr
  · exact (nat_column _ _ _ _ h2 h3).trans hs

theorem ref_rows (r : Fin 32768) (q : Fin 1536) : val_main_v5 (F := Ideal) x w (ix2 r q) = prodAt x w r ⟨0 * 1536 + q.val, by omega⟩ := by
  have hq := q.isLt
  rw [val_main_v5_apply, val_main_v4_apply]
  refine ref_heads x w _ r ⟨0 * 1536 + q.val, by omega⟩ ?_ ?_
  · show (r.val * 1536 + q.val) / 12582912 * 8192 + (r.val * 1536 + q.val) / 1536 % 8192 = r.val; omega
  · show 0 * 1536 + (r.val * 1536 + q.val) / 128 % 12 * 128 + (r.val * 1536 + q.val) % 128 = 0 * 1536 + q.val; omega

end Reference

/-- The array the kernel leaves is the reference's. -/
theorem array_eq : kOut m c = Cert.Reference11Ideal.Read.val_main_v5 (F := Ideal) (argX m c) (argW m c) := by
  refine funext fun j => ?_
  rw [ix2_of j (j 0) (j 1) rfl rfl]
  exact (array_at m c _ _).trans (ref_rows _ _ _ _).symm

end Cert.Kernel11Ideal.Dense

end
-- ==== Proof.Dense.PromptValues.lean ====
module

public import proofs.«01_k».proof.Proof.Gen.Kernel12Ideal.Value
public import proofs.«01_k».proof.Proof.Gen.Reference12Ideal.Read
public import proofs.«01_k».proof.Proof.Dense.Core

@[expose] public section

/-! The values of the prompt as the attention reads them: the rows by the right half of the columns, in low precision. -/

set_option maxRecDepth 16384

noncomputable section

open Idealize.ShloMosaic Idealize.ShloMosaic.ValueIdx Idealize.ShloMosaic.TcCoe Idealize.SL.Sem Idealize.ShloMosaic.StableHlo

namespace Cert.Kernel12Ideal.Dense

open Cert.Kernel12Ideal Cert.Kernel12Ideal.Gen Cert.Kernel12Ideal.Value Cert.Dense

theorem ix_0 : ∀ t : Fin grid0.N, cc0_transform_0 (grid0.coords t) = ![t.val, 0] := by decide +kernel
theorem ix_1 : ∀ t : Fin grid0.N, cc0_transform_1 (grid0.coords t) = ![0, 1] := by decide +kernel
theorem ix_3 : ∀ t : Fin grid0.N, cc0_transform_3 (grid0.coords t) = ![t.val, 0] := by decide +kernel
theorem points : grid0.N = 64 := by decide

/-- A place of a rectangle of a whole buffer, as a coordinate of the buffer. -/
theorem place (b : Ref sig .tc) (off size : Fin b.ty.shape.rank → Nat) (inb) (j : (Rect.unit off size inb).shape.Idx)
    (a : Fin b.ty.shape.rank) : ((((View.whole b).slice (Rect.unit off size inb)).emb j a : Fin _) : Nat) = off a + j a :=
  Rect.idx_unit_val off size inb j a

theorem zero2 : (![0, 0] : Fin 2 → Nat) = fun _ => 0 := funext fun a => by match a with | ⟨0, _⟩ => rfl | ⟨1, _⟩ => rfl

/-! ## A block -/

theorem pay_at (x : Vec Ideal S512x2048 .bf16) (w : Vec Ideal S2048x1536 .f32) (p : Fin 512) (q : Fin 1536) :
    k0_pay2 x w (ix2 p q) = ∑ k : Fin 2048, x (ix2 p k) * w (ix2 k q) := by
  refine (product_at (φ₁ := .bf16) (φ₂ := .bf16) dot_S512x2048_S2048x1536_S512x1536_1_0_0_1_n_n none rfl rfl rfl rfl rfl rfl
    (shapeCast S512x2048 x shapeCasts_S512x2048_S512x2048) (truncf .bf16 (w : FVec Ideal S2048x1536 .f32) bitsLt_bf16_f32) (ix2 p q)).trans ?_
  refine Finset.sum_congr rfl fun k _ => congrArg₂ (· * ·) ?_ rfl
  rw [shapeCast_self]

/-! What a point leaves in the block of rows, in each of the three cases: the first points, those that wait for an
    earlier point's copies, and the last. -/

section Cases

variable (c : Dev nD) (t : Fin cfg0.N) (arg1 : Memref sig .tc .vmem S512x2048 .bf16) (harg1 : arg1.IsWhole)
  (arg2 : Memref sig .tc .vmem S2048x1536 .f32) (harg2 : arg2.IsWhole) (arg4 : Memref sig .tc .vmem S512x1536 .bf16) (harg4 : arg4.IsWhole)
  (x : Vec Ideal S512x2048 .bf16) (w : Vec Ideal S2048x1536 .f32)

theorem out_A (hc0 : ¬cond0_0 (grid0.coords t)) (hc1 : ¬cond0_1 (grid0.coords t)) :
    out0_A_2 c t arg1 harg1 arg2 harg2 arg4 harg4 hc0 hc1 x w = k0_pay2 x w := by
  unfold out0_A_2
  rw [View.read_writes_eq_canon _ _ _ (cover0_A_2 c t arg1 harg1 arg2 harg2 arg4 harg4 hc0 hc1 x w)]
  unfold kernelRun0_A; dsimp only; sl_unfold_words
  simp only [View.readAt_eq_ld, harg1.read_unread, harg2.read_unread]
  rw [View.canon_unit_zero zero2, View.ld_unit_zero (X := x) zero2, View.ld_unit_zero (X := w) zero2]

theorem out_B (hc0 : cond0_0 (grid0.coords t)) (hc1 : ¬cond0_1 (grid0.coords t)) :
    out0_B_2 c t arg1 harg1 arg2 harg2 arg4 harg4 hc0 hc1 x w = k0_pay2 x w := by
  unfold out0_B_2
  rw [View.read_writes_eq_canon _ _ _ (cover0_B_2 c t arg1 harg1 arg2 harg2 arg4 harg4 hc0 hc1 x w)]
  unfold kernelRun0_B; dsimp only; sl_unfold_words
  simp only [View.readAt_eq_ld, harg1.read_unread, harg2.read_unread]
  rw [View.canon_unit_zero zero2, View.ld_unit_zero (X := x) zero2, View.ld_unit_zero (X := w) zero2]

theorem out_C (hc0 : cond0_0 (grid0.coords t)) (hc1 : cond0_1 (grid0.coords t)) :
    out0_C_2 c t arg1 harg1 arg2 harg2 arg4 harg4 hc0 hc1 x w = k0_pay2 x w := by
  unfold out0_C_2
  rw [View.read_writes_eq_canon _ _ _ (cover0_C_2 c t arg1 harg1 arg2 harg2 arg4 harg4 hc0 hc1 x w)]
  unfold kernelRun0_C; dsimp only; sl_unfold_words
  simp only [View.readAt_eq_ld, harg1.read_unread, harg2.read_unread]
  rw [View.canon_unit_zero zero2, View.ld_unit_zero (X := x) zero2, View.ld_unit_zero (X := w) zero2]

end Cases

/-! ## The array -/

variable (m : (ℓ : Loc nD τ sig) → Buf (Elt Ideal) ℓ) (c : Dev nD)

/-- The arguments, and the array the kernel leaves, typed at their shapes. -/
def argX : FVec Ideal S32768x2048 .f32 := m ((c : Thread nD τ).loc main_arg0)
def argW : FVec Ideal S2048x3072 .f32 := m ((c : Thread nD τ).loc main_arg1)
def kOut : FVec Ideal S32768x1536 .bf16 := (dats m 0 c).arrAt 2 cfg0.N

/-- The rows the kernel stages. -/
theorem staged_rows : V m c main_v0 = argX m c := by
  unfold V
  simp only [hostOps0]
  after_results
  rfl

/-- The blocks, typed at their shapes. -/
def xBlk (t : Fin grid0.N) : Vec Ideal S512x2048 .bf16 := iblk m c 0 t
def wBlk (t : Fin grid0.N) : Vec Ideal S2048x1536 .f32 := iblk m c 1 t

theorem xBlk_at (t : Fin grid0.N) (p : Fin 512) (k : Fin 2048) (r : Fin 32768) (hr : r.val = t.val * 512 + p.val) :
    xBlk m c t (ix2 p k) = argX m c (ix2 r k) := by
  refine Eq.trans (congrArg (V m c main_v0) (funext fun a => Fin.ext ?_)) (congrFun (staged_rows m c) (ix2 r k))
  refine (place main_v0 _ _ _ _ a).trans ?_
  match a with
  | ⟨0, _⟩ => show cc0_transform_0 (grid0.coords t) 0 * 512 + p.val = r.val; rw [ix_0]; exact hr.symm
  | ⟨1, _⟩ => show cc0_transform_0 (grid0.coords t) 1 * 2048 + k.val = k.val; rw [ix_0]; show 0 * 2048 + _ = _; omega

theorem wBlk_at (t : Fin grid0.N) (k : Fin 2048) (q : Fin 1536) (s : Fin 3072) (hs : s.val = 1 * 1536 + q.val) :
    wBlk m c t (ix2 k q) = argW m c (ix2 k s) := by
  refine Eq.trans (congrArg (V m c main_arg1) (funext fun a => Fin.ext ?_)) (congrFun (V_main_arg1 m c) (ix2 k s))
  refine (place main_arg1 _ _ _ _ a).trans ?_
  match a with
  | ⟨0, _⟩ => show cc0_transform_1 (grid0.coords t) 0 * 2048 + k.val = k.val; rw [ix_1]; show 0 * 2048 + _ = _; omega
  | ⟨1, _⟩ => show cc0_transform_1 (grid0.coords t) 1 * 1536 + q.val = s.val; rw [ix_1]; exact hs.symm

/-- What point `t` writes back. -/
theorem block_at (t : Fin cfg0.N) : (dats m 0 c).flushed 2 t = (cfg0.win 2).cut (grid0.coords t) (k0_pay2 (xBlk m c t) (wBlk m c t)) := by
  have ht : t.val < 64 := lt_of_lt_of_eq t.isLt (show cfg0.N = 64 from N_0)
  by_cases h0 : 2 ≤ t.val
  · by_cases h1 : t.val % 64 = 63
    · exact (flushed2_C m c t h0 h1).trans (congrArg _ (out_C c t _ _ _ _ _ _ _ _ _ _))
    · exact (flushed2_B m c t h0 h1).trans (congrArg _ (out_B c t _ _ _ _ _ _ _ _ _ _))
  · exact (flushed2_A m c t h0 (by omega)).trans (congrArg _ (out_A c t _ _ _ _ _ _ _ _ _ _))

/-- The product of the rows by the columns, at a row and a column. -/
def prodAt (x : FVec Ideal S32768x2048 .f32) (w : FVec Ideal S2048x3072 .f32) (r : Fin 32768) (s : Fin 3072) : Ideal .f32 :=
  ∑ k : Fin 2048, x (ix2 r k) * w (ix2 k s)

theorem block_product (t : Fin grid0.N) (p : Fin 512) (q : Fin 1536) (r : Fin 32768) (s : Fin 3072) (hr : r.val = t.val * 512 + p.val)
    (hs : s.val = 1 * 1536 + q.val) : k0_pay2 (xBlk m c t) (wBlk m c t) (ix2 p q) = prodAt (argX m c) (argW m c) r s :=
  (pay_at _ _ p q).trans (Finset.sum_congr rfl fun k _ => congrArg₂ (· * ·) (xBlk_at m c t p k r hr) (wBlk_at m c t k q s hs))

theorem array_at (r : Fin 32768) (q : Fin 1536) : kOut m c (ix2 r q) = prodAt (argX m c) (argW m c) r ⟨1 * 1536 + q.val, by omega⟩ := by
  have hr := r.isLt
  obtain ⟨t, ht⟩ : ∃ t : Fin grid0.N, t.val = r.val / 512 := ⟨⟨r.val / 512, by rw [points]; omega⟩, rfl⟩
  obtain ⟨p, hp⟩ : ∃ p : Fin 512, p.val = r.val % 512 := ⟨⟨r.val % 512, by omega⟩, rfl⟩
  have h1 : r.val = t.val * 512 + p.val := by omega
  have e := congrFun (blocks2 m c t (flush0_2 t)) (ix2 p q)
  rw [block_at] at e
  refine Eq.trans (congrArg ((dats m 0 c).arrAt 2 cfg0.N) (funext fun a => Fin.ext ?_)) (e.trans ?_)
  · refine Eq.symm ((place main_v1_1 _ _ _ _ a).trans ?_)
    match a with
    | ⟨0, _⟩ => show cc0_transform_3 (grid0.coords t) 0 * 512 + p.val = r.val; rw [ix_3]; exact h1.symm
    | ⟨1, _⟩ => show cc0_transform_3 (grid0.coords t) 1 * 1536 + q.val = q.val; rw [ix_3]; show 0 * 1536 + _ = _; omega
  · exact block_product m c t p q r _ h1 rfl

/-! ## The reference -/

section Reference

open Cert.Reference12Ideal.Read

variable (x : FVec Ideal S32768x2048 .f32) (w : FVec Ideal S2048x3072 .f32)

theorem ref_split (i : Cert.Reference12Ideal.S4x8192x2x12x128.Idx) (r : Fin 32768) (s : Fin 3072) (hr : (i 0).val * 8192 + (i 1).val = r.val)
    (hs : (i 2).val * 1536 + (i 3).val * 128 + (i 4).val = s.val) : val_main_v1 (F := Ideal) x w i = prodAt x w r s := by
  have h2 : (i 2).val < 2 := (i 2).isLt
  have h3 : (i 3).val < 12 := (i 3).isLt
  have h4 : (i 4).val < 128 := (i 4).isLt
  rw [val_main_v1_apply, val_main_v0_apply]
  refine Finset.sum_congr rfl fun k _ => congrArg₂ (· * ·) (congrArg x (ix2_of _ r k ?_ rfl)) (congrArg w (ix2_of _ k s rfl ?_))
  · show (((((i 0).val * 8192 + (i 1).val) * 2 + (i 2).val) * 12 + (i 3).val) * 128 + (i 4).val) / 3072 = r.val; omega
  · show (((((i 0).val * 8192 + (i 1).val) * 2 + (i 2).val) * 12 + (i 3).val) * 128 + (i 4).val) % 3072 = s.val; omega

theorem nat_row (a b c d : Nat) (hb : b < 8192) (hc : c < 12) (hd : d < 128) :
    (((a * 8192 + b) * 12 + c) * 128 + d) / 12582912 * 8192 + (((a * 8192 + b) * 12 + c) * 128 + d) / 1536 % 8192 = a * 8192 + b := by
  omega

theorem nat_column (e r c d : Nat) (hc : c < 12) (hd : d < 128) :
    e + ((r * 12 + c) * 128 + d) / 128 % 12 * 128 + ((r * 12 + c) * 128 + d) % 128 = e + c * 128 + d := by omega

theorem ref_heads (i : Cert.Reference12Ideal.S4x8192x12x128.Idx) (r : Fin 32768) (s : Fin 3072) (hr : (i 0).val * 8192 + (i 1).val = r.val)
    (hs : 1 * 1536 + (i 2).val * 128 + (i 3).val = s.val) : val_main_v3 (F := Ideal) x w i = prodAt x w r s := by
  have h1 : (i 1).val < 8192 := (i 1).isLt
  have h2 : (i 2).val < 12 := (i 2).isLt
  have h3 : (i 3).val < 128 := (i 3).isLt
  rw [val_main_v3_apply, val_main_v2_apply]
  refine ref_split x w _ r s ?_ ?_
  · exact (nat_row _ _ _ _ h1 h2 h3).trans hr
  · exact (nat_column _ _ _ _ h2 h3).trans hs

theorem ref_rows (r : Fin 32768) (q : Fin 1536) : val_main_v5 (F := Ideal) x w (ix2 r q) = prodAt x w r ⟨1 * 1536 + q.val, by omega⟩ := by
  have hq := q.isLt
  rw [val_main_v5_apply, val_main_v4_apply]
  refine ref_heads x w _ r ⟨1 * 1536 + q.val, by omega⟩ ?_ ?_
  · show (r.val * 1536 + q.val) / 12582912 * 8192 + (r.val * 1536 + q.val) / 1536 % 8192 = r.val; omega
  · show 1 * 1536 + (r.val * 1536 + q.val) / 128 % 12 * 128 + (r.val * 1536 + q.val) % 128 = 1 * 1536 + q.val; omega

end Reference

/-- The array the kernel leaves is the reference's. -/
theorem array_eq : kOut m c = Cert.Reference12Ideal.Read.val_main_v5 (F := Ideal) (argX m c) (argW m c) := by
  refine funext fun j => ?_
  rw [ix2_of j (j 0) (j 1) rfl rfl]
  exact (array_at m c _ _).trans (ref_rows _ _ _ _).symm

end Cert.Kernel12Ideal.Dense

end
-- ==== Proof.lean ====
/- The claims about twelve calls of the kernel: the frames, and each call's results against the layer's own lines. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gla.Equal
public import proofs.«01_k».proof.Proof.Gen.Kernel2.Frame
public import proofs.«01_k».proof.Proof.Dense.SwiGlu
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Dense.FfnOut
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Dense.Merge
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Dense.MemKv
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Dense.Keys
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Dense.Values
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Dense.FfnOutSample
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Dense.InB
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Dense.InA
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Dense.PromptKeys
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Dense.PromptValues
public import proofs.«01_k».proof.Proof.Gen.Kernel12Ideal.Value
public import proofs.«01_k».proof.Proof.Gen.Reference12Ideal.Run
public import proofs.«01_k».proof.Proof.Gen.Reference12Ideal.Read
public import Idealize.ShloMosaic.Adequacy
public import Idealize.ShloMosaic.Init

@[expose] public section

noncomputable section

namespace Cert.Proof

open Idealize.ShloMosaic Idealize.SL.Sem Cert.Kernel

/-- The reference leaves its arguments as they were and has no counters. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

/-- Both programs leave the same output and the same states. -/
theorem results_equal [Cert.Pre_gates_finite.Facts] : Cert.algebraic_KernelIdeal_ReferenceIdeal_pre_gates_finite := by
  intro m g m' g' pre agree
  refine ⟨fun c => (Cert.KernelIdeal.Gen.dats m 0 c).arrAt 11 Cert.KernelIdeal.cfg0.N, fun c => (Cert.KernelIdeal.Gen.dats m 0 c).arrAt 12 Cert.KernelIdeal.cfg0.N,
    Cert.KernelIdeal.Value.run_blocks (F := Ideal) m g, ?_⟩
  refine (θ_run Cert.ReferenceIdeal.defs _ _).mono (fun r h c => ?_) (Cert.ReferenceIdeal.Value.run (F := Ideal) m' g')
  obtain ⟨a0, a1, a2, a3, a4⟩ := agree c
  obtain ⟨z, hz⟩ := Cert.Gla.gates_real _ _ _ _ _ (pre c)
  obtain ⟨h0, h1, hk⟩ := h c
  refine ⟨h0.trans ?_, h1.trans ?_, hk⟩
  · rw [Cert.ReferenceIdeal.Read.val_main_v76_eq, a0, a1, a2, a3, a4]
    exact (Cert.KernelIdeal.Blk.out_equal m c z hz).symm
  · rw [Cert.ReferenceIdeal.Read.val_main_v57_eq, a0, a1, a2, a4]
    exact (Cert.KernelIdeal.Blk.state_equal m c z hz).symm

/-- The lines of the gated hidden rows leave their arguments as they were and have no counters. -/
theorem reference_frame2 : Cert.quiescent_Reference2Ideal := fun m g _ =>
  (θ_run Cert.Reference2Ideal.defs _ _).mono (fun _ h => ⟨fun c => (h c).2, sem_eq_zero_of_no_sems (by decide) _⟩) (Cert.Reference2Ideal.Value.run (F := Ideal) m g)

/-- The call and the lines of the gated hidden rows leave the same arrays. -/
theorem results_equal2 : Cert.algebraic_Kernel2Ideal_Reference2Ideal := by
  intro m g m' g' _ agree
  refine ⟨Cert.Kernel2Ideal.Dense.kOut m, Cert.Kernel2Ideal.Value.run_blocks (F := Ideal) m g, ?_⟩
  refine (θ_run Cert.Reference2Ideal.defs _ _).mono (fun r h c => ?_) (Cert.Reference2Ideal.Value.run (F := Ideal) m' g')
  obtain ⟨a0, a1⟩ := agree c
  obtain ⟨h0, hk⟩ := h c
  refine ⟨h0.trans ?_, hk⟩
  rw [Cert.Reference2Ideal.Read.val_main_v7_eq, a0, a1]
  exact (Cert.Kernel2Ideal.Dense.array_eq m c).symm

/-- The lines of the rows after the second norm leave their arguments as they were and have no counters. -/
theorem reference_frame3 : Cert.quiescent_Reference3Ideal := fun m g _ =>
  (θ_run Cert.Reference3Ideal.defs _ _).mono (fun _ h => ⟨fun c => (h c).2.2, sem_eq_zero_of_no_sems (by decide) _⟩) (Cert.Reference3Ideal.Value.run (F := Ideal) m g)

/-- The call and the lines of the rows after the second norm leave the same arrays. -/
theorem results_equal3 : Cert.algebraic_Kernel3Ideal_Reference3Ideal := by
  intro m g m' g' _ agree
  refine ⟨Cert.Kernel3Ideal.Dense.kOut m, Cert.Kernel3Ideal.Dense.kOutLow m, Cert.Kernel3Ideal.Value.run_blocks (F := Ideal) m g, ?_⟩
  refine (θ_run Cert.Reference3Ideal.defs _ _).mono (fun r h c => ?_) (Cert.Reference3Ideal.Value.run (F := Ideal) m' g')
  obtain ⟨a0, a1, a2, a3, a4⟩ := agree c
  obtain ⟨h0, h1, hk⟩ := h c
  refine ⟨h0.trans ?_, h1.trans ?_, hk⟩
  · rw [Cert.Reference3Ideal.Read.val_main_v29_eq, a0, a1, a2, a3, a4]
    exact (Cert.Kernel3Ideal.Dense.array_eq m c).symm
  · rw [Cert.Reference3Ideal.Read.val_main_v30_eq, a0, a1, a2, a3, a4]
    exact (Cert.Kernel3Ideal.Dense.arrayLow_eq m c).symm

/-- The lines of the rows after the first norm leave their arguments as they were and have no counters. -/
theorem reference_frame4 : Cert.quiescent_Reference4Ideal := fun m g _ =>
  (θ_run Cert.Reference4Ideal.defs _ _).mono (fun _ h => ⟨fun c => (h c).2.2, sem_eq_zero_of_no_sems (by decide) _⟩) (Cert.Reference4Ideal.Value.run (F := Ideal) m g)

/-- The call and the lines of the rows after the first norm leave the same arrays. -/
theorem results_equal4 : Cert.algebraic_Kernel4Ideal_Reference4Ideal := by
  intro m g m' g' _ agree
  refine ⟨Cert.Kernel4Ideal.Dense.kOut m, Cert.Kernel4Ideal.Dense.kOutLow m, Cert.Kernel4Ideal.Value.run_blocks (F := Ideal) m g, ?_⟩
  refine (θ_run Cert.Reference4Ideal.defs _ _).mono (fun r h c => ?_) (Cert.Reference4Ideal.Value.run (F := Ideal) m' g')
  obtain ⟨a0, a1, a2, a3, a4, a5⟩ := agree c
  obtain ⟨h0, h1, hk⟩ := h c
  refine ⟨h0.trans ?_, h1.trans ?_, hk⟩
  · rw [Cert.Reference4Ideal.Read.val_main_v30_eq, a0, a1, a2, a3, a4, a5]
    exact (Cert.Kernel4Ideal.Dense.array_eq m c).symm
  · rw [Cert.Reference4Ideal.Read.val_main_v31_eq, a0, a1, a2, a3, a4, a5]
    exact (Cert.Kernel4Ideal.Dense.arrayLow_eq m c).symm

/-- The lines of the memory keys and values leave their arguments as they were and have no counters. -/
theorem reference_frame5 : Cert.quiescent_Reference5Ideal := fun m g _ =>
  (θ_run Cert.Reference5Ideal.defs _ _).mono (fun _ h => ⟨fun c => (h c).2, sem_eq_zero_of_no_sems (by decide) _⟩) (Cert.Reference5Ideal.Value.run (F := Ideal) m g)

/-- The call and the lines of the memory keys and values leave the same arrays. -/
theorem results_equal5 : Cert.algebraic_Kernel5Ideal_Reference5Ideal := by
  intro m g m' g' _ agree
  refine ⟨Cert.Kernel5Ideal.Dense.kOut m, Cert.Kernel5Ideal.Value.run_blocks (F := Ideal) m g, ?_⟩
  refine (θ_run Cert.Reference5Ideal.defs _ _).mono (fun r h c => ?_) (Cert.Reference5Ideal.Value.run (F := Ideal) m' g')
  obtain ⟨a0, a1⟩ := agree c
  obtain ⟨h0, hk⟩ := h c
  refine ⟨h0.trans ?_, hk⟩
  rw [Cert.Reference5Ideal.Read.val_main_v2_eq, a0, a1]
  exact (Cert.Kernel5Ideal.Dense.array_eq m c).symm

/-- The lines of the shared keys leave their arguments as they were and have no counters. -/
theorem reference_frame6 : Cert.quiescent_Reference6Ideal := fun m g _ =>
  (θ_run Cert.Reference6Ideal.defs _ _).mono (fun _ h => ⟨fun c => (h c).2.2, sem_eq_zero_of_no_sems (by decide) _⟩) (Cert.Reference6Ideal.Value.run (F := Ideal) m g)

/-- The call and the lines of the shared keys leave the same arrays. -/
theorem results_equal6 : Cert.algebraic_Kernel6Ideal_Reference6Ideal := by
  intro m g m' g' _ agree
  refine ⟨Cert.Kernel6Ideal.Dense.kOut m, Cert.Kernel6Ideal.Dense.kOutLow m, Cert.Kernel6Ideal.Value.run_blocks (F := Ideal) m g, ?_⟩
  refine (θ_run Cert.Reference6Ideal.defs _ _).mono (fun r h c => ?_) (Cert.Reference6Ideal.Value.run (F := Ideal) m' g')
  obtain ⟨a0, a1⟩ := agree c
  obtain ⟨h0, h1, hk⟩ := h c
  refine ⟨h0.trans ?_, h1.trans ?_, hk⟩
  · rw [Cert.Reference6Ideal.Read.val_main_v3_eq, a0, a1]
    exact (Cert.Kernel6Ideal.Dense.array_eq m c).symm
  · rw [Cert.Reference6Ideal.Read.val_main_v7_eq, a0, a1]
    exact (Cert.Kernel6Ideal.Dense.arrayLow_eq m c).symm

/-- The lines of the shared values leave their arguments as they were and have no counters. -/
theorem reference_frame7 : Cert.quiescent_Reference7Ideal := fun m g _ =>
  (θ_run Cert.Reference7Ideal.defs _ _).mono (fun _ h => ⟨fun c => (h c).2.2, sem_eq_zero_of_no_sems (by decide) _⟩) (Cert.Reference7Ideal.Value.run (F := Ideal) m g)

/-- The call and the lines of the shared values leave the same arrays. -/
theorem results_equal7 : Cert.algebraic_Kernel7Ideal_Reference7Ideal := by
  intro m g m' g' _ agree
  refine ⟨Cert.Kernel7Ideal.Dense.kOut m, Cert.Kernel7Ideal.Dense.kOutLow m, Cert.Kernel7Ideal.Value.run_blocks (F := Ideal) m g, ?_⟩
  refine (θ_run Cert.Reference7Ideal.defs _ _).mono (fun r h c => ?_) (Cert.Reference7Ideal.Value.run (F := Ideal) m' g')
  obtain ⟨a0, a1⟩ := agree c
  obtain ⟨h0, h1, hk⟩ := h c
  refine ⟨h0.trans ?_, h1.trans ?_, hk⟩
  · rw [Cert.Reference7Ideal.Read.val_main_v3_eq, a0, a1]
    exact (Cert.Kernel7Ideal.Dense.array_eq m c).symm
  · rw [Cert.Reference7Ideal.Read.val_main_v7_eq, a0, a1]
    exact (Cert.Kernel7Ideal.Dense.arrayLow_eq m c).symm

/-- The lines of the sample's rows after the second norm leave their arguments as they were and have no counters. -/
theorem reference_frame8 : Cert.quiescent_Reference8Ideal := fun m g _ =>
  (θ_run Cert.Reference8Ideal.defs _ _).mono (fun _ h => ⟨fun c => (h c).2.2, sem_eq_zero_of_no_sems (by decide) _⟩) (Cert.Reference8Ideal.Value.run (F := Ideal) m g)

/-- The call and the lines of the sample's rows after the second norm leave the same arrays. -/
theorem results_equal8 : Cert.algebraic_Kernel8Ideal_Reference8Ideal := by
  intro m g m' g' _ agree
  refine ⟨Cert.Kernel8Ideal.Dense.kOut m, Cert.Kernel8Ideal.Dense.kOutLow m, Cert.Kernel8Ideal.Value.run_blocks (F := Ideal) m g, ?_⟩
  refine (θ_run Cert.Reference8Ideal.defs _ _).mono (fun r h c => ?_) (Cert.Reference8Ideal.Value.run (F := Ideal) m' g')
  obtain ⟨a0, a1, a2, a3, a4⟩ := agree c
  obtain ⟨h0, h1, hk⟩ := h c
  refine ⟨h0.trans ?_, h1.trans ?_, hk⟩
  · rw [Cert.Reference8Ideal.Read.val_main_v29_eq, a0, a1, a2, a3, a4]
    exact (Cert.Kernel8Ideal.Dense.array_eq m c).symm
  · rw [Cert.Reference8Ideal.Read.val_main_v30_eq, a0, a1, a2, a3, a4]
    exact (Cert.Kernel8Ideal.Dense.arrayLow_eq m c).symm

/-- The lines of the second projection leave their arguments as they were and have no counters. -/
theorem reference_frame9 : Cert.quiescent_Reference9Ideal := fun m g _ =>
  (θ_run Cert.Reference9Ideal.defs _ _).mono (fun _ h => ⟨fun c => (h c).2, sem_eq_zero_of_no_sems (by decide) _⟩) (Cert.Reference9Ideal.Value.run (F := Ideal) m g)

/-- The call and the lines of the second projection leave the same arrays. -/
theorem results_equal9 : Cert.algebraic_Kernel9Ideal_Reference9Ideal := by
  intro m g m' g' _ agree
  refine ⟨Cert.Kernel9Ideal.Dense.kOut m, Cert.Kernel9Ideal.Value.run_blocks (F := Ideal) m g, ?_⟩
  refine (θ_run Cert.Reference9Ideal.defs _ _).mono (fun r h c => ?_) (Cert.Reference9Ideal.Value.run (F := Ideal) m' g')
  obtain ⟨a0, a1, a2⟩ := agree c
  obtain ⟨h0, hk⟩ := h c
  refine ⟨h0.trans ?_, hk⟩
  rw [Cert.Reference9Ideal.Read.val_main_v6_eq, a0, a1, a2]
  exact (Cert.Kernel9Ideal.Dense.array_eq m c).symm

/-- The lines of the first projection leave their arguments as they were and have no counters. -/
theorem reference_frame10 : Cert.quiescent_Reference10Ideal := fun m g _ =>
  (θ_run Cert.Reference10Ideal.defs _ _).mono (fun _ h => ⟨fun c => (h c).2, sem_eq_zero_of_no_sems (by decide) _⟩) (Cert.Reference10Ideal.Value.run (F := Ideal) m g)

/-- The call and the lines of the first projection leave the same arrays. -/
theorem results_equal10 : Cert.algebraic_Kernel10Ideal_Reference10Ideal := by
  intro m g m' g' _ agree
  refine ⟨Cert.Kernel10Ideal.Dense.kOut m, Cert.Kernel10Ideal.Value.run_blocks (F := Ideal) m g, ?_⟩
  refine (θ_run Cert.Reference10Ideal.defs _ _).mono (fun r h c => ?_) (Cert.Reference10Ideal.Value.run (F := Ideal) m' g')
  obtain ⟨a0, a1, a2⟩ := agree c
  obtain ⟨h0, hk⟩ := h c
  refine ⟨h0.trans ?_, hk⟩
  rw [Cert.Reference10Ideal.Read.val_main_v4_eq, a0, a1, a2]
  exact (Cert.Kernel10Ideal.Dense.array_eq m c).symm

/-- The lines of the prompt's shared keys as rows leave their arguments as they were and have no counters. -/
theorem reference_frame11 : Cert.quiescent_Reference11Ideal := fun m g _ =>
  (θ_run Cert.Reference11Ideal.defs _ _).mono (fun _ h => ⟨fun c => (h c).2, sem_eq_zero_of_no_sems (by decide) _⟩) (Cert.Reference11Ideal.Value.run (F := Ideal) m g)

/-- The call and the lines of the prompt's shared keys as rows leave the same arrays. -/
theorem results_equal11 : Cert.algebraic_Kernel11Ideal_Reference11Ideal := by
  intro m g m' g' _ agree
  refine ⟨Cert.Kernel11Ideal.Dense.kOut m, Cert.Kernel11Ideal.Value.run_blocks (F := Ideal) m g, ?_⟩
  refine (θ_run Cert.Reference11Ideal.defs _ _).mono (fun r h c => ?_) (Cert.Reference11Ideal.Value.run (F := Ideal) m' g')
  obtain ⟨a0, a1⟩ := agree c
  obtain ⟨h0, hk⟩ := h c
  refine ⟨h0.trans ?_, hk⟩
  rw [Cert.Reference11Ideal.Read.val_main_v5_eq, a0, a1]
  exact (Cert.Kernel11Ideal.Dense.array_eq m c).symm

/-- The lines of the prompt's shared values as rows leave their arguments as they were and have no counters. -/
theorem reference_frame12 : Cert.quiescent_Reference12Ideal := fun m g _ =>
  (θ_run Cert.Reference12Ideal.defs _ _).mono (fun _ h => ⟨fun c => (h c).2, sem_eq_zero_of_no_sems (by decide) _⟩) (Cert.Reference12Ideal.Value.run (F := Ideal) m g)

/-- The call and the lines of the prompt's shared values as rows leave the same arrays. -/
theorem results_equal12 : Cert.algebraic_Kernel12Ideal_Reference12Ideal := by
  intro m g m' g' _ agree
  refine ⟨Cert.Kernel12Ideal.Dense.kOut m, Cert.Kernel12Ideal.Value.run_blocks (F := Ideal) m g, ?_⟩
  refine (θ_run Cert.Reference12Ideal.defs _ _).mono (fun r h c => ?_) (Cert.Reference12Ideal.Value.run (F := Ideal) m' g')
  obtain ⟨a0, a1⟩ := agree c
  obtain ⟨h0, hk⟩ := h c
  refine ⟨h0.trans ?_, hk⟩
  rw [Cert.Reference12Ideal.Read.val_main_v5_eq, a0, a1]
  exact (Cert.Kernel12Ideal.Dense.array_eq m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Gla.preFacts,
    fun m g _ => Cert.Kernel.Gen.frame m g, fun m g _ => Cert.KernelIdeal.Gen.frame m g, fun m g _ => Cert.KernelIdeal.Gen.frame m g,
    fun m g _ => reference_frame m g, fun m g _ => reference_frame m g,
    fun m g _ => Cert.Kernel2.Gen.frame m g, fun m g _ => Cert.Kernel2Ideal.Gen.frame m g, reference_frame2,
    fun m g _ => Cert.Kernel3.Gen.frame m g, fun m g _ => Cert.Kernel3Ideal.Gen.frame m g, reference_frame3,
    fun m g _ => Cert.Kernel4.Gen.frame m g, fun m g _ => Cert.Kernel4Ideal.Gen.frame m g, reference_frame4,
    fun m g _ => Cert.Kernel5.Gen.frame m g, fun m g _ => Cert.Kernel5Ideal.Gen.frame m g, reference_frame5,
    fun m g _ => Cert.Kernel6.Gen.frame m g, fun m g _ => Cert.Kernel6Ideal.Gen.frame m g, reference_frame6,
    fun m g _ => Cert.Kernel7.Gen.frame m g, fun m g _ => Cert.Kernel7Ideal.Gen.frame m g, reference_frame7,
    fun m g _ => Cert.Kernel8.Gen.frame m g, fun m g _ => Cert.Kernel8Ideal.Gen.frame m g, reference_frame8,
    fun m g _ => Cert.Kernel9.Gen.frame m g, fun m g _ => Cert.Kernel9Ideal.Gen.frame m g, reference_frame9,
    fun m g _ => Cert.Kernel10.Gen.frame m g, fun m g _ => Cert.Kernel10Ideal.Gen.frame m g, reference_frame10,
    fun m g _ => Cert.Kernel11.Gen.frame m g, fun m g _ => Cert.Kernel11Ideal.Gen.frame m g, reference_frame11,
    fun m g _ => Cert.Kernel12.Gen.frame m g, fun m g _ => Cert.Kernel12Ideal.Gen.frame m g, reference_frame12,
    trivial, @results_equal Cert.Gla.preFacts, trivial, results_equal2, trivial, results_equal3, trivial, results_equal4, trivial, results_equal5, trivial, results_equal6, trivial, results_equal7, trivial, results_equal8, trivial, results_equal9, trivial, results_equal10, trivial, results_equal11, trivial, results_equal12⟩

end Cert.Proof

end
